-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Dact (m : (ℓ : Loc Cert.Dact.nD Cert.Dact.τ Cert.Dact.sig) → Buf (Elt Bits) ℓ) : Prop :=
  True

def Pre_DactIdeal (m : (ℓ : Loc Cert.DactIdeal.nD Cert.DactIdeal.τ Cert.DactIdeal.sig) → Buf (Elt Ideal) ℓ) : Prop :=
  True

def Pre_DactRefIdeal (m : (ℓ : Loc Cert.DactRefIdeal.nD Cert.DactRefIdeal.τ Cert.DactRefIdeal.sig) → Buf (Elt Ideal) ℓ) : Prop :=
  True

def Pre_Dw2 (m : (ℓ : Loc Cert.Dw2.nD Cert.Dw2.τ Cert.Dw2.sig) → Buf (Elt Bits) ℓ) : Prop :=
  True

def Pre_Dw2Ideal (m : (ℓ : Loc Cert.Dw2Ideal.nD Cert.Dw2Ideal.τ Cert.Dw2Ideal.sig) → Buf (Elt Ideal) ℓ) : Prop :=
  True

def Pre_Dw2RefIdeal (m : (ℓ : Loc Cert.Dw2RefIdeal.nD Cert.Dw2RefIdeal.τ Cert.Dw2RefIdeal.sig) → Buf (Elt Ideal) ℓ) : Prop :=
  True

def Pre_Dw1 (m : (ℓ : Loc Cert.Dw1.nD Cert.Dw1.τ Cert.Dw1.sig) → Buf (Elt Bits) ℓ) : Prop :=
  True

def Pre_Dw1Ideal (m : (ℓ : Loc Cert.Dw1Ideal.nD Cert.Dw1Ideal.τ Cert.Dw1Ideal.sig) → Buf (Elt Ideal) ℓ) : Prop :=
  True

def Pre_Dw1RefIdeal (m : (ℓ : Loc Cert.Dw1RefIdeal.nD Cert.Dw1RefIdeal.τ Cert.Dw1RefIdeal.sig) → Buf (Elt Ideal) ℓ) : Prop :=
  True

def Pre_Dy (m : (ℓ : Loc Cert.Dy.nD Cert.Dy.τ Cert.Dy.sig) → Buf (Elt Bits) ℓ) : Prop :=
  True

def Pre_DyIdeal (m : (ℓ : Loc Cert.DyIdeal.nD Cert.DyIdeal.τ Cert.DyIdeal.sig) → Buf (Elt Ideal) ℓ) : Prop :=
  True

def Pre_DyRefIdeal (m : (ℓ : Loc Cert.DyRefIdeal.nD Cert.DyRefIdeal.τ Cert.DyRefIdeal.sig) → Buf (Elt Ideal) ℓ) : Prop :=
  True

def Pre_Dout (m : (ℓ : Loc Cert.Dout.nD Cert.Dout.τ Cert.Dout.sig) → Buf (Elt Bits) ℓ) : Prop :=
  True

def Pre_DoutIdeal (m : (ℓ : Loc Cert.DoutIdeal.nD Cert.DoutIdeal.τ Cert.DoutIdeal.sig) → Buf (Elt Ideal) ℓ) : Prop :=
  True

def Pre_DoutRefIdeal (m : (ℓ : Loc Cert.DoutRefIdeal.nD Cert.DoutRefIdeal.τ Cert.DoutRefIdeal.sig) → Buf (Elt Ideal) ℓ) : Prop :=
  True

def Pre_Dwout (m : (ℓ : Loc Cert.Dwout.nD Cert.Dwout.τ Cert.Dwout.sig) → Buf (Elt Bits) ℓ) : Prop :=
  True

def Pre_DwoutIdeal (m : (ℓ : Loc Cert.DwoutIdeal.nD Cert.DwoutIdeal.τ Cert.DwoutIdeal.sig) → Buf (Elt Ideal) ℓ) : Prop :=
  True

def Pre_DwoutRefIdeal (m : (ℓ : Loc Cert.DwoutRefIdeal.nD Cert.DwoutRefIdeal.τ Cert.DwoutRefIdeal.sig) → Buf (Elt Ideal) ℓ) : Prop :=
  True

def Pre_AbDwin (m : (ℓ : Loc Cert.AbDwin.nD Cert.AbDwin.τ Cert.AbDwin.sig) → Buf (Elt Bits) ℓ) : Prop :=
  True

def Pre_AbDwinIdeal (m : (ℓ : Loc Cert.AbDwinIdeal.nD Cert.AbDwinIdeal.τ Cert.AbDwinIdeal.sig) → Buf (Elt Ideal) ℓ) : Prop :=
  True

def Pre_AbDwinRefIdeal (m : (ℓ : Loc Cert.AbDwinRefIdeal.nD Cert.AbDwinRefIdeal.τ Cert.AbDwinRefIdeal.sig) → Buf (Elt Ideal) ℓ) : Prop :=
  True

def Pre_GlaDwin (m : (ℓ : Loc Cert.GlaDwin.nD Cert.GlaDwin.τ Cert.GlaDwin.sig) → Buf (Elt Bits) ℓ) : Prop :=
  True

def Pre_GlaDwinIdeal (m : (ℓ : Loc Cert.GlaDwinIdeal.nD Cert.GlaDwinIdeal.τ Cert.GlaDwinIdeal.sig) → Buf (Elt Ideal) ℓ) : Prop :=
  True

def Pre_GlaDwinRefIdeal (m : (ℓ : Loc Cert.GlaDwinRefIdeal.nD Cert.GlaDwinRefIdeal.τ Cert.GlaDwinRefIdeal.sig) → Buf (Elt Ideal) ℓ) : Prop :=
  True

def Pre_AbDy (m : (ℓ : Loc Cert.AbDy.nD Cert.AbDy.τ Cert.AbDy.sig) → Buf (Elt Bits) ℓ) : Prop :=
  True

def Pre_AbDyIdeal (m : (ℓ : Loc Cert.AbDyIdeal.nD Cert.AbDyIdeal.τ Cert.AbDyIdeal.sig) → Buf (Elt Ideal) ℓ) : Prop :=
  True

def Pre_AbDyRefIdeal (m : (ℓ : Loc Cert.AbDyRefIdeal.nD Cert.AbDyRefIdeal.τ Cert.AbDyRefIdeal.sig) → Buf (Elt Ideal) ℓ) : Prop :=
  True

def Pre_GlaDy (m : (ℓ : Loc Cert.GlaDy.nD Cert.GlaDy.τ Cert.GlaDy.sig) → Buf (Elt Bits) ℓ) : Prop :=
  True

def Pre_GlaDyIdeal (m : (ℓ : Loc Cert.GlaDyIdeal.nD Cert.GlaDyIdeal.τ Cert.GlaDyIdeal.sig) → Buf (Elt Ideal) ℓ) : Prop :=
  True

def Pre_GlaDyRefIdeal (m : (ℓ : Loc Cert.GlaDyRefIdeal.nD Cert.GlaDyRefIdeal.τ Cert.GlaDyRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Last (m : (ℓ : Loc Cert.Last.nD Cert.Last.τ Cert.Last.sig) → Buf (Elt Bits) ℓ) : Prop :=
  True

def Pre_LastIdeal (m : (ℓ : Loc Cert.LastIdeal.nD Cert.LastIdeal.τ Cert.LastIdeal.sig) → Buf (Elt Ideal) ℓ) : Prop :=
  True

def Pre_LastRefIdeal (m : (ℓ : Loc Cert.LastRefIdeal.nD Cert.LastRefIdeal.τ Cert.LastRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_AbIn (m : (ℓ : Loc Cert.AbIn.nD Cert.AbIn.τ Cert.AbIn.sig) → Buf (Elt Bits) ℓ) : Prop :=
  True

def Pre_AbInIdeal (m : (ℓ : Loc Cert.AbInIdeal.nD Cert.AbInIdeal.τ Cert.AbInIdeal.sig) → Buf (Elt Ideal) ℓ) : Prop :=
  True

def Pre_AbInRefIdeal (m : (ℓ : Loc Cert.AbInRefIdeal.nD Cert.AbInRefIdeal.τ Cert.AbInRefIdeal.sig) → Buf (Elt Ideal) ℓ) : Prop :=
  True

def Pre_GlaIn (m : (ℓ : Loc Cert.GlaIn.nD Cert.GlaIn.τ Cert.GlaIn.sig) → Buf (Elt Bits) ℓ) : Prop :=
  True

def Pre_GlaInIdeal (m : (ℓ : Loc Cert.GlaInIdeal.nD Cert.GlaInIdeal.τ Cert.GlaInIdeal.sig) → Buf (Elt Ideal) ℓ) : Prop :=
  True

def Pre_GlaInRefIdeal (m : (ℓ : Loc Cert.GlaInRefIdeal.nD Cert.GlaInRefIdeal.τ Cert.GlaInRefIdeal.sig) → Buf (Elt Ideal) ℓ) : Prop :=
  True

def Pre_GlaDpre (m : (ℓ : Loc Cert.GlaDpre.nD Cert.GlaDpre.τ Cert.GlaDpre.sig) → Buf (Elt Bits) ℓ) : Prop :=
  True

def Pre_GlaDpreIdeal (m : (ℓ : Loc Cert.GlaDpreIdeal.nD Cert.GlaDpreIdeal.τ Cert.GlaDpreIdeal.sig) → Buf (Elt Ideal) ℓ) : Prop :=
  True

def Pre_GlaDpreRefIdeal (m : (ℓ : Loc Cert.GlaDpreRefIdeal.nD Cert.GlaDpreRefIdeal.τ Cert.GlaDpreRefIdeal.sig) → Buf (Elt Ideal) ℓ) : Prop :=
  True

def Pre_GlaPre (m : (ℓ : Loc Cert.GlaPre.nD Cert.GlaPre.τ Cert.GlaPre.sig) → Buf (Elt Bits) ℓ) : Prop :=
  True

def Pre_GlaPreIdeal (m : (ℓ : Loc Cert.GlaPreIdeal.nD Cert.GlaPreIdeal.τ Cert.GlaPreIdeal.sig) → Buf (Elt Ideal) ℓ) : Prop :=
  True

def Pre_GlaPreRefIdeal (m : (ℓ : Loc Cert.GlaPreRefIdeal.nD Cert.GlaPreRefIdeal.τ Cert.GlaPreRefIdeal.sig) → Buf (Elt Ideal) ℓ) : Prop :=
  True

def Pre_Dconv (m : (ℓ : Loc Cert.Dconv.nD Cert.Dconv.τ Cert.Dconv.sig) → Buf (Elt Bits) ℓ) : Prop :=
  True

def Pre_DconvIdeal (m : (ℓ : Loc Cert.DconvIdeal.nD Cert.DconvIdeal.τ Cert.DconvIdeal.sig) → Buf (Elt Ideal) ℓ) : Prop :=
  True

def Pre_DconvRefIdeal (m : (ℓ : Loc Cert.DconvRefIdeal.nD Cert.DconvRefIdeal.τ Cert.DconvRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_GlaPost (m : (ℓ : Loc Cert.GlaPost.nD Cert.GlaPost.τ Cert.GlaPost.sig) → Buf (Elt Bits) ℓ) : Prop :=
  True

def Pre_GlaPostIdeal (m : (ℓ : Loc Cert.GlaPostIdeal.nD Cert.GlaPostIdeal.τ Cert.GlaPostIdeal.sig) → Buf (Elt Ideal) ℓ) : Prop :=
  True

def Pre_GlaPostRefIdeal (m : (ℓ : Loc Cert.GlaPostRefIdeal.nD Cert.GlaPostRefIdeal.τ Cert.GlaPostRefIdeal.sig) → Buf (Elt Ideal) ℓ) : Prop :=
  True

def Pre_GlaDpost (m : (ℓ : Loc Cert.GlaDpost.nD Cert.GlaDpost.τ Cert.GlaDpost.sig) → Buf (Elt Bits) ℓ) : Prop :=
  True

def Pre_GlaDpostIdeal (m : (ℓ : Loc Cert.GlaDpostIdeal.nD Cert.GlaDpostIdeal.τ Cert.GlaDpostIdeal.sig) → Buf (Elt Ideal) ℓ) : Prop :=
  True

def Pre_GlaDpostRefIdeal (m : (ℓ : Loc Cert.GlaDpostRefIdeal.nD Cert.GlaDpostRefIdeal.τ Cert.GlaDpostRefIdeal.sig) → Buf (Elt Ideal) ℓ) : Prop :=
  True

def Pre_Dgates (m : (ℓ : Loc Cert.Dgates.nD Cert.Dgates.τ Cert.Dgates.sig) → Buf (Elt Bits) ℓ) : Prop :=
  True

def Pre_DgatesIdeal (m : (ℓ : Loc Cert.DgatesIdeal.nD Cert.DgatesIdeal.τ Cert.DgatesIdeal.sig) → Buf (Elt Ideal) ℓ) : Prop :=
  True

def Pre_DgatesIdeal_finite_gates [hPre_finite_gates : Cert.Pre_finite_gates.Facts] (m : (ℓ : Loc Cert.DgatesIdeal.nD Cert.DgatesIdeal.τ Cert.DgatesIdeal.sig) → Buf (Elt Ideal) ℓ) : Prop :=
  ∀ c : Dev Cert.DgatesIdeal.nD,
    (Cert.Pre_finite_gates.fn (F := Ideal) (m ((c.tc : Thread Cert.DgatesIdeal.nD Cert.DgatesIdeal.τ).loc Cert.DgatesIdeal.main_arg0)) (m ((c.tc : Thread Cert.DgatesIdeal.nD Cert.DgatesIdeal.τ).loc Cert.DgatesIdeal.main_arg1)) (m ((c.tc : Thread Cert.DgatesIdeal.nD Cert.DgatesIdeal.τ).loc Cert.DgatesIdeal.main_arg2)) (m ((c.tc : Thread Cert.DgatesIdeal.nD Cert.DgatesIdeal.τ).loc Cert.DgatesIdeal.main_arg3)) (m ((c.tc : Thread Cert.DgatesIdeal.nD Cert.DgatesIdeal.τ).loc Cert.DgatesIdeal.main_arg4)) (m ((c.tc : Thread Cert.DgatesIdeal.nD Cert.DgatesIdeal.τ).loc Cert.DgatesIdeal.main_arg5)) (m ((c.tc : Thread Cert.DgatesIdeal.nD Cert.DgatesIdeal.τ).loc Cert.DgatesIdeal.main_arg6)) (m ((c.tc : Thread Cert.DgatesIdeal.nD Cert.DgatesIdeal.τ).loc Cert.DgatesIdeal.main_arg7)) (m ((c.tc : Thread Cert.DgatesIdeal.nD Cert.DgatesIdeal.τ).loc Cert.DgatesIdeal.main_arg8)) (m ((c.tc : Thread Cert.DgatesIdeal.nD Cert.DgatesIdeal.τ).loc Cert.DgatesIdeal.main_arg9))) = (fun _ => 1#1)

def Pre_DgatesRefIdeal (m : (ℓ : Loc Cert.DgatesRefIdeal.nD Cert.DgatesRefIdeal.τ Cert.DgatesRefIdeal.sig) → Buf (Elt Ideal) ℓ) : Prop :=
  True

def Pre_DgatesRefIdeal_finite_gates [hPre_finite_gates : Cert.Pre_finite_gates.Facts] (m : (ℓ : Loc Cert.DgatesRefIdeal.nD Cert.DgatesRefIdeal.τ Cert.DgatesRefIdeal.sig) → Buf (Elt Ideal) ℓ) : Prop :=
  ∀ c : Dev Cert.DgatesRefIdeal.nD,
    (Cert.Pre_finite_gates.fn (F := Ideal) (m ((c.tc : Thread Cert.DgatesRefIdeal.nD Cert.DgatesRefIdeal.τ).loc Cert.DgatesRefIdeal.main_arg0)) (m ((c.tc : Thread Cert.DgatesRefIdeal.nD Cert.DgatesRefIdeal.τ).loc Cert.DgatesRefIdeal.main_arg1)) (m ((c.tc : Thread Cert.DgatesRefIdeal.nD Cert.DgatesRefIdeal.τ).loc Cert.DgatesRefIdeal.main_arg2)) (m ((c.tc : Thread Cert.DgatesRefIdeal.nD Cert.DgatesRefIdeal.τ).loc Cert.DgatesRefIdeal.main_arg3)) (m ((c.tc : Thread Cert.DgatesRefIdeal.nD Cert.DgatesRefIdeal.τ).loc Cert.DgatesRefIdeal.main_arg4)) (m ((c.tc : Thread Cert.DgatesRefIdeal.nD Cert.DgatesRefIdeal.τ).loc Cert.DgatesRefIdeal.main_arg5)) (m ((c.tc : Thread Cert.DgatesRefIdeal.nD Cert.DgatesRefIdeal.τ).loc Cert.DgatesRefIdeal.main_arg6)) (m ((c.tc : Thread Cert.DgatesRefIdeal.nD Cert.DgatesRefIdeal.τ).loc Cert.DgatesRefIdeal.main_arg7)) (m ((c.tc : Thread Cert.DgatesRefIdeal.nD Cert.DgatesRefIdeal.τ).loc Cert.DgatesRefIdeal.main_arg8)) (m ((c.tc : Thread Cert.DgatesRefIdeal.nD Cert.DgatesRefIdeal.τ).loc Cert.DgatesRefIdeal.main_arg9))) = (fun _ => 1#1)

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesIdeal_finite_decay [hPre_finite_decay : Cert.Pre_finite_decay.Facts] (m : (ℓ : Loc Cert.GatesIdeal.nD Cert.GatesIdeal.τ Cert.GatesIdeal.sig) → Buf (Elt Ideal) ℓ) : Prop :=
  ∀ c : Dev Cert.GatesIdeal.nD,
    (Cert.Pre_finite_decay.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4)) (m ((c.tc : Thread Cert.GatesIdeal.nD Cert.GatesIdeal.τ).loc Cert.GatesIdeal.main_arg5))) = (fun _ => 1#1)

def Pre_GatesRefIdeal (m : (ℓ : Loc Cert.GatesRefIdeal.nD Cert.GatesRefIdeal.τ Cert.GatesRefIdeal.sig) → Buf (Elt Ideal) ℓ) : Prop :=
  True

def Pre_GatesRefIdeal_finite_decay [hPre_finite_decay : Cert.Pre_finite_decay.Facts] (m : (ℓ : Loc Cert.GatesRefIdeal.nD Cert.GatesRefIdeal.τ Cert.GatesRefIdeal.sig) → Buf (Elt Ideal) ℓ) : Prop :=
  ∀ c : Dev Cert.GatesRefIdeal.nD,
    (Cert.Pre_finite_decay.fn (F := Ideal) (m ((c.tc : Thread Cert.GatesRefIdeal.nD Cert.GatesRefIdeal.τ).loc Cert.GatesRefIdeal.main_arg0)) (m ((c.tc : Thread Cert.GatesRefIdeal.nD Cert.GatesRefIdeal.τ).loc Cert.GatesRefIdeal.main_arg1)) (m ((c.tc : Thread Cert.GatesRefIdeal.nD Cert.GatesRefIdeal.τ).loc Cert.GatesRefIdeal.main_arg2)) (m ((c.tc : Thread Cert.GatesRefIdeal.nD Cert.GatesRefIdeal.τ).loc Cert.GatesRefIdeal.main_arg3)) (m ((c.tc : Thread Cert.GatesRefIdeal.nD Cert.GatesRefIdeal.τ).loc Cert.GatesRefIdeal.main_arg4)) (m ((c.tc : Thread Cert.GatesRefIdeal.nD Cert.GatesRefIdeal.τ).loc Cert.GatesRefIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Dact [hDact : Cert.Dact.Facts] : Prop :=
  ∀ (m : (ℓ : Loc Cert.Dact.nD Cert.Dact.τ Cert.Dact.sig) → Buf (Elt Bits) ℓ) (g : Dev Cert.Dact.nD → PrngReg), Pre_Dact m →
    θ_run (Cert.Dact.defs (F := Bits)) (onTc (τ := Cert.Dact.τ) (Cert.Dact.main (F := Bits))) ⟨m, fun _ => 0, g⟩ (fun r => (∀ c : Dev Cert.Dact.nD,
      r.2.mem ((c.tc : Thread Cert.Dact.nD Cert.Dact.τ).loc Cert.Dact.main_arg0) = m ((c.tc : Thread Cert.Dact.nD Cert.Dact.τ).loc Cert.Dact.main_arg0)
      ∧ r.2.mem ((c.tc : Thread Cert.Dact.nD Cert.Dact.τ).loc Cert.Dact.main_arg1) = m ((c.tc : Thread Cert.Dact.nD Cert.Dact.τ).loc Cert.Dact.main_arg1)
      ∧ r.2.mem ((c.tc : Thread Cert.Dact.nD Cert.Dact.τ).loc Cert.Dact.main_arg2) = m ((c.tc : Thread Cert.Dact.nD Cert.Dact.τ).loc Cert.Dact.main_arg2))
      ∧ r.2.sem = fun _ => 0)

def quiescent_DactIdeal [hDactIdeal : Cert.DactIdeal.Facts] : Prop :=
  ∀ (m : (ℓ : Loc Cert.DactIdeal.nD Cert.DactIdeal.τ Cert.DactIdeal.sig) → Buf (Elt Ideal) ℓ) (g : Dev Cert.DactIdeal.nD → PrngReg), Pre_DactIdeal m →
    θ_run (Cert.DactIdeal.defs (F := Ideal)) (onTc (τ := Cert.DactIdeal.τ) (Cert.DactIdeal.main (F := Ideal))) ⟨m, fun _ => 0, g⟩ (fun r => (∀ c : Dev Cert.DactIdeal.nD,
      r.2.mem ((c.tc : Thread Cert.DactIdeal.nD Cert.DactIdeal.τ).loc Cert.DactIdeal.main_arg0) = m ((c.tc : Thread Cert.DactIdeal.nD Cert.DactIdeal.τ).loc Cert.DactIdeal.main_arg0)
      ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
      ∧ r.2.mem ((c.tc : Thread Cert.DactIdeal.nD Cert.DactIdeal.τ).loc Cert.DactIdeal.main_arg2) = m ((c.tc : Thread Cert.DactIdeal.nD Cert.DactIdeal.τ).loc Cert.DactIdeal.main_arg2))
      ∧ r.2.sem = fun _ => 0)

def quiescent_DactRefIdeal [hDactRefIdeal : Cert.DactRefIdeal.Facts] : Prop :=
  ∀ (m : (ℓ : Loc Cert.DactRefIdeal.nD Cert.DactRefIdeal.τ Cert.DactRefIdeal.sig) → Buf (Elt Ideal) ℓ) (g : Dev Cert.DactRefIdeal.nD → PrngReg), Pre_DactRefIdeal m →
    θ_run (Cert.DactRefIdeal.defs (F := Ideal)) (onTc (τ := Cert.DactRefIdeal.τ) (Cert.DactRefIdeal.main (F := Ideal))) ⟨m, fun _ => 0, g⟩ (fun r => (∀ c : Dev Cert.DactRefIdeal.nD,
      r.2.mem ((c.tc : Thread Cert.DactRefIdeal.nD Cert.DactRefIdeal.τ).loc Cert.DactRefIdeal.main_arg0) = m ((c.tc : Thread Cert.DactRefIdeal.nD Cert.DactRefIdeal.τ).loc Cert.DactRefIdeal.main_arg0)
      ∧ r.2.mem ((c.tc : Thread Cert.DactRefIdeal.nD Cert.DactRefIdeal.τ).loc Cert.DactRefIdeal.main_arg1) = m ((c.tc : Thread Cert.DactRefIdeal.nD Cert.DactRefIdeal.τ).loc Cert.DactRefIdeal.main_arg1)
      ∧ r.2.mem ((c.tc : Thread Cert.DactRefIdeal.nD Cert.DactRefIdeal.τ).loc Cert.DactRefIdeal.main_arg2) = m ((c.tc : Thread Cert.DactRefIdeal.nD Cert.DactRefIdeal.τ).loc Cert.DactRefIdeal.main_arg2))
      ∧ r.2.sem = fun _ => 0)

def quiescent_Dw2 [hDw2 : Cert.Dw2.Facts] : Prop :=
  ∀ (m : (ℓ : Loc Cert.Dw2.nD Cert.Dw2.τ Cert.Dw2.sig) → Buf (Elt Bits) ℓ) (g : Dev Cert.Dw2.nD → PrngReg), Pre_Dw2 m →
    θ_run (Cert.Dw2.defs (F := Bits)) (onTc (τ := Cert.Dw2.τ) (Cert.Dw2.main (F := Bits))) ⟨m, fun _ => 0, g⟩ (fun r => (∀ c : Dev Cert.Dw2.nD,
      r.2.mem ((c.tc : Thread Cert.Dw2.nD Cert.Dw2.τ).loc Cert.Dw2.main_arg0) = m ((c.tc : Thread Cert.Dw2.nD Cert.Dw2.τ).loc Cert.Dw2.main_arg0)
      ∧ r.2.mem ((c.tc : Thread Cert.Dw2.nD Cert.Dw2.τ).loc Cert.Dw2.main_arg1) = m ((c.tc : Thread Cert.Dw2.nD Cert.Dw2.τ).loc Cert.Dw2.main_arg1))
      ∧ r.2.sem = fun _ => 0)

def quiescent_Dw2Ideal [hDw2Ideal : Cert.Dw2Ideal.Facts] : Prop :=
  ∀ (m : (ℓ : Loc Cert.Dw2Ideal.nD Cert.Dw2Ideal.τ Cert.Dw2Ideal.sig) → Buf (Elt Ideal) ℓ) (g : Dev Cert.Dw2Ideal.nD → PrngReg), Pre_Dw2Ideal m →
    θ_run (Cert.Dw2Ideal.defs (F := Ideal)) (onTc (τ := Cert.Dw2Ideal.τ) (Cert.Dw2Ideal.main (F := Ideal))) ⟨m, fun _ => 0, g⟩ (fun r => (∀ c : Dev Cert.Dw2Ideal.nD,
      r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
      ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1))
      ∧ r.2.sem = fun _ => 0)

def quiescent_Dw2RefIdeal [hDw2RefIdeal : Cert.Dw2RefIdeal.Facts] : Prop :=
  ∀ (m : (ℓ : Loc Cert.Dw2RefIdeal.nD Cert.Dw2RefIdeal.τ Cert.Dw2RefIdeal.sig) → Buf (Elt Ideal) ℓ) (g : Dev Cert.Dw2RefIdeal.nD → PrngReg), Pre_Dw2RefIdeal m →
    θ_run (Cert.Dw2RefIdeal.defs (F := Ideal)) (onTc (τ := Cert.Dw2RefIdeal.τ) (Cert.Dw2RefIdeal.main (F := Ideal))) ⟨m, fun _ => 0, g⟩ (fun r => (∀ c : Dev Cert.Dw2RefIdeal.nD,
      r.2.mem ((c.tc : Thread Cert.Dw2RefIdeal.nD Cert.Dw2RefIdeal.τ).loc Cert.Dw2RefIdeal.main_arg0) = m ((c.tc : Thread Cert.Dw2RefIdeal.nD Cert.Dw2RefIdeal.τ).loc Cert.Dw2RefIdeal.main_arg0)
      ∧ r.2.mem ((c.tc : Thread Cert.Dw2RefIdeal.nD Cert.Dw2RefIdeal.τ).loc Cert.Dw2RefIdeal.main_arg1) = m ((c.tc : Thread Cert.Dw2RefIdeal.nD Cert.Dw2RefIdeal.τ).loc Cert.Dw2RefIdeal.main_arg1))
      ∧ r.2.sem = fun _ => 0)

def quiescent_Dw1 [hDw1 : Cert.Dw1.Facts] : Prop :=
  ∀ (m : (ℓ : Loc Cert.Dw1.nD Cert.Dw1.τ Cert.Dw1.sig) → Buf (Elt Bits) ℓ) (g : Dev Cert.Dw1.nD → PrngReg), Pre_Dw1 m →
    θ_run (Cert.Dw1.defs (F := Bits)) (onTc (τ := Cert.Dw1.τ) (Cert.Dw1.main (F := Bits))) ⟨m, fun _ => 0, g⟩ (fun r => (∀ c : Dev Cert.Dw1.nD,
      r.2.mem ((c.tc : Thread Cert.Dw1.nD Cert.Dw1.τ).loc Cert.Dw1.main_arg0) = m ((c.tc : Thread Cert.Dw1.nD Cert.Dw1.τ).loc Cert.Dw1.main_arg0)
      ∧ r.2.mem ((c.tc : Thread Cert.Dw1.nD Cert.Dw1.τ).loc Cert.Dw1.main_arg1) = m ((c.tc : Thread Cert.Dw1.nD Cert.Dw1.τ).loc Cert.Dw1.main_arg1))
      ∧ r.2.sem = fun _ => 0)

def quiescent_Dw1Ideal [hDw1Ideal : Cert.Dw1Ideal.Facts] : Prop :=
  ∀ (m : (ℓ : Loc Cert.Dw1Ideal.nD Cert.Dw1Ideal.τ Cert.Dw1Ideal.sig) → Buf (Elt Ideal) ℓ) (g : Dev Cert.Dw1Ideal.nD → PrngReg), Pre_Dw1Ideal m →
    θ_run (Cert.Dw1Ideal.defs (F := Ideal)) (onTc (τ := Cert.Dw1Ideal.τ) (Cert.Dw1Ideal.main (F := Ideal))) ⟨m, fun _ => 0, g⟩ (fun r => (∀ c : Dev Cert.Dw1Ideal.nD,
      r.2.mem ((c.tc : Thread Cert.Dw1Ideal.nD Cert.Dw1Ideal.τ).loc Cert.Dw1Ideal.main_arg0) = m ((c.tc : Thread Cert.Dw1Ideal.nD Cert.Dw1Ideal.τ).loc Cert.Dw1Ideal.main_arg0)
      ∧ r.2.mem ((c.tc : Thread Cert.Dw1Ideal.nD Cert.Dw1Ideal.τ).loc Cert.Dw1Ideal.main_arg1) = m ((c.tc : Thread Cert.Dw1Ideal.nD Cert.Dw1Ideal.τ).loc Cert.Dw1Ideal.main_arg1))
      ∧ r.2.sem = fun _ => 0)

def quiescent_Dw1RefIdeal [hDw1RefIdeal : Cert.Dw1RefIdeal.Facts] : Prop :=
  ∀ (m : (ℓ : Loc Cert.Dw1RefIdeal.nD Cert.Dw1RefIdeal.τ Cert.Dw1RefIdeal.sig) → Buf (Elt Ideal) ℓ) (g : Dev Cert.Dw1RefIdeal.nD → PrngReg), Pre_Dw1RefIdeal m →
    θ_run (Cert.Dw1RefIdeal.defs (F := Ideal)) (onTc (τ := Cert.Dw1RefIdeal.τ) (Cert.Dw1RefIdeal.main (F := Ideal))) ⟨m, fun _ => 0, g⟩ (fun r => (∀ c : Dev Cert.Dw1RefIdeal.nD,
      r.2.mem ((c.tc : Thread Cert.Dw1RefIdeal.nD Cert.Dw1RefIdeal.τ).loc Cert.Dw1RefIdeal.main_arg0) = m ((c.tc : Thread Cert.Dw1RefIdeal.nD Cert.Dw1RefIdeal.τ).loc Cert.Dw1RefIdeal.main_arg0)
      ∧ r.2.mem ((c.tc : Thread Cert.Dw1RefIdeal.nD Cert.Dw1RefIdeal.τ).loc Cert.Dw1RefIdeal.main_arg1) = m ((c.tc : Thread Cert.Dw1RefIdeal.nD Cert.Dw1RefIdeal.τ).loc Cert.Dw1RefIdeal.main_arg1))
      ∧ r.2.sem = fun _ => 0)

def quiescent_Dy [hDy : Cert.Dy.Facts] : Prop :=
  ∀ (m : (ℓ : Loc Cert.Dy.nD Cert.Dy.τ Cert.Dy.sig) → Buf (Elt Bits) ℓ) (g : Dev Cert.Dy.nD → PrngReg), Pre_Dy m →
    θ_run (Cert.Dy.defs (F := Bits)) (onTc (τ := Cert.Dy.τ) (Cert.Dy.main (F := Bits))) ⟨m, fun _ => 0, g⟩ (fun r => (∀ c : Dev Cert.Dy.nD,
      r.2.mem ((c.tc : Thread Cert.Dy.nD Cert.Dy.τ).loc Cert.Dy.main_arg0) = m ((c.tc : Thread Cert.Dy.nD Cert.Dy.τ).loc Cert.Dy.main_arg0)
      ∧ r.2.mem ((c.tc : Thread Cert.Dy.nD Cert.Dy.τ).loc Cert.Dy.main_arg1) = m ((c.tc : Thread Cert.Dy.nD Cert.Dy.τ).loc Cert.Dy.main_arg1)
      ∧ r.2.mem ((c.tc : Thread Cert.Dy.nD Cert.Dy.τ).loc Cert.Dy.main_arg2) = m ((c.tc : Thread Cert.Dy.nD Cert.Dy.τ).loc Cert.Dy.main_arg2)
      ∧ r.2.mem ((c.tc : Thread Cert.Dy.nD Cert.Dy.τ).loc Cert.Dy.main_arg3) = m ((c.tc : Thread Cert.Dy.nD Cert.Dy.τ).loc Cert.Dy.main_arg3)
      ∧ r.2.mem ((c.tc : Thread Cert.Dy.nD Cert.Dy.τ).loc Cert.Dy.main_arg4) = m ((c.tc : Thread Cert.Dy.nD Cert.Dy.τ).loc Cert.Dy.main_arg4))
      ∧ r.2.sem = fun _ => 0)

def quiescent_DyIdeal [hDyIdeal : Cert.DyIdeal.Facts] : Prop :=
  ∀ (m : (ℓ : Loc Cert.DyIdeal.nD Cert.DyIdeal.τ Cert.DyIdeal.sig) → Buf (Elt Ideal) ℓ) (g : Dev Cert.DyIdeal.nD → PrngReg), Pre_DyIdeal m →
    θ_run (Cert.DyIdeal.defs (F := Ideal)) (onTc (τ := Cert.DyIdeal.τ) (Cert.DyIdeal.main (F := Ideal))) ⟨m, fun _ => 0, g⟩ (fun r => (∀ c : Dev Cert.DyIdeal.nD,
      r.2.mem ((c.tc : Thread Cert.DyIdeal.nD Cert.DyIdeal.τ).loc Cert.DyIdeal.main_arg0) = m ((c.tc : Thread Cert.DyIdeal.nD Cert.DyIdeal.τ).loc Cert.DyIdeal.main_arg0)
      ∧ r.2.mem ((c.tc : Thread Cert.DyIdeal.nD Cert.DyIdeal.τ).loc Cert.DyIdeal.main_arg1) = m ((c.tc : Thread Cert.DyIdeal.nD Cert.DyIdeal.τ).loc Cert.DyIdeal.main_arg1)
      ∧ r.2.mem ((c.tc : Thread Cert.DyIdeal.nD Cert.DyIdeal.τ).loc Cert.DyIdeal.main_arg2) = m ((c.tc : Thread Cert.DyIdeal.nD Cert.DyIdeal.τ).loc Cert.DyIdeal.main_arg2)
      ∧ r.2.mem ((c.tc : Thread Cert.DyIdeal.nD Cert.DyIdeal.τ).loc Cert.DyIdeal.main_arg3) = m ((c.tc : Thread Cert.DyIdeal.nD Cert.DyIdeal.τ).loc Cert.DyIdeal.main_arg3)
      ∧ r.2.mem ((c.tc : Thread Cert.DyIdeal.nD Cert.DyIdeal.τ).loc Cert.DyIdeal.main_arg4) = m ((c.tc : Thread Cert.DyIdeal.nD Cert.DyIdeal.τ).loc Cert.DyIdeal.main_arg4))
      ∧ r.2.sem = fun _ => 0)

def quiescent_DyRefIdeal [hDyRefIdeal : Cert.DyRefIdeal.Facts] : Prop :=
  ∀ (m : (ℓ : Loc Cert.DyRefIdeal.nD Cert.DyRefIdeal.τ Cert.DyRefIdeal.sig) → Buf (Elt Ideal) ℓ) (g : Dev Cert.DyRefIdeal.nD → PrngReg), Pre_DyRefIdeal m →
    θ_run (Cert.DyRefIdeal.defs (F := Ideal)) (onTc (τ := Cert.DyRefIdeal.τ) (Cert.DyRefIdeal.main (F := Ideal))) ⟨m, fun _ => 0, g⟩ (fun r => (∀ c : Dev Cert.DyRefIdeal.nD,
      r.2.mem ((c.tc : Thread Cert.DyRefIdeal.nD Cert.DyRefIdeal.τ).loc Cert.DyRefIdeal.main_arg0) = m ((c.tc : Thread Cert.DyRefIdeal.nD Cert.DyRefIdeal.τ).loc Cert.DyRefIdeal.main_arg0)
      ∧ r.2.mem ((c.tc : Thread Cert.DyRefIdeal.nD Cert.DyRefIdeal.τ).loc Cert.DyRefIdeal.main_arg1) = m ((c.tc : Thread Cert.DyRefIdeal.nD Cert.DyRefIdeal.τ).loc Cert.DyRefIdeal.main_arg1)
      ∧ r.2.mem ((c.tc : Thread Cert.DyRefIdeal.nD Cert.DyRefIdeal.τ).loc Cert.DyRefIdeal.main_arg2) = m ((c.tc : Thread Cert.DyRefIdeal.nD Cert.DyRefIdeal.τ).loc Cert.DyRefIdeal.main_arg2)
      ∧ r.2.mem ((c.tc : Thread Cert.DyRefIdeal.nD Cert.DyRefIdeal.τ).loc Cert.DyRefIdeal.main_arg3) = m ((c.tc : Thread Cert.DyRefIdeal.nD Cert.DyRefIdeal.τ).loc Cert.DyRefIdeal.main_arg3)
      ∧ r.2.mem ((c.tc : Thread Cert.DyRefIdeal.nD Cert.DyRefIdeal.τ).loc Cert.DyRefIdeal.main_arg4) = m ((c.tc : Thread Cert.DyRefIdeal.nD Cert.DyRefIdeal.τ).loc Cert.DyRefIdeal.main_arg4))
      ∧ r.2.sem = fun _ => 0)

def quiescent_Dout [hDout : Cert.Dout.Facts] : Prop :=
  ∀ (m : (ℓ : Loc Cert.Dout.nD Cert.Dout.τ Cert.Dout.sig) → Buf (Elt Bits) ℓ) (g : Dev Cert.Dout.nD → PrngReg), Pre_Dout m →
    θ_run (Cert.Dout.defs (F := Bits)) (onTc (τ := Cert.Dout.τ) (Cert.Dout.main (F := Bits))) ⟨m, fun _ => 0, g⟩ (fun r => (∀ c : Dev Cert.Dout.nD,
      r.2.mem ((c.tc : Thread Cert.Dout.nD Cert.Dout.τ).loc Cert.Dout.main_arg0) = m ((c.tc : Thread Cert.Dout.nD Cert.Dout.τ).loc Cert.Dout.main_arg0)
      ∧ r.2.mem ((c.tc : Thread Cert.Dout.nD Cert.Dout.τ).loc Cert.Dout.main_arg1) = m ((c.tc : Thread Cert.Dout.nD Cert.Dout.τ).loc Cert.Dout.main_arg1))
      ∧ r.2.sem = fun _ => 0)

def quiescent_DoutIdeal [hDoutIdeal : Cert.DoutIdeal.Facts] : Prop :=
  ∀ (m : (ℓ : Loc Cert.DoutIdeal.nD Cert.DoutIdeal.τ Cert.DoutIdeal.sig) → Buf (Elt Ideal) ℓ) (g : Dev Cert.DoutIdeal.nD → PrngReg), Pre_DoutIdeal m →
    θ_run (Cert.DoutIdeal.defs (F := Ideal)) (onTc (τ := Cert.DoutIdeal.τ) (Cert.DoutIdeal.main (F := Ideal))) ⟨m, fun _ => 0, g⟩ (fun r => (∀ c : Dev Cert.DoutIdeal.nD,
      r.2.mem ((c.tc : Thread Cert.DoutIdeal.nD Cert.DoutIdeal.τ).loc Cert.DoutIdeal.main_arg0) = m ((c.tc : Thread Cert.DoutIdeal.nD Cert.DoutIdeal.τ).loc Cert.DoutIdeal.main_arg0)
      ∧ r.2.mem ((c.tc : Thread Cert.DoutIdeal.nD Cert.DoutIdeal.τ).loc Cert.DoutIdeal.main_arg1) = m ((c.tc : Thread Cert.DoutIdeal.nD Cert.DoutIdeal.τ).loc Cert.DoutIdeal.main_arg1))
      ∧ r.2.sem = fun _ => 0)

def quiescent_DoutRefIdeal [hDoutRefIdeal : Cert.DoutRefIdeal.Facts] : Prop :=
  ∀ (m : (ℓ : Loc Cert.DoutRefIdeal.nD Cert.DoutRefIdeal.τ Cert.DoutRefIdeal.sig) → Buf (Elt Ideal) ℓ) (g : Dev Cert.DoutRefIdeal.nD → PrngReg), Pre_DoutRefIdeal m →
    θ_run (Cert.DoutRefIdeal.defs (F := Ideal)) (onTc (τ := Cert.DoutRefIdeal.τ) (Cert.DoutRefIdeal.main (F := Ideal))) ⟨m, fun _ => 0, g⟩ (fun r => (∀ c : Dev Cert.DoutRefIdeal.nD,
      r.2.mem ((c.tc : Thread Cert.DoutRefIdeal.nD Cert.DoutRefIdeal.τ).loc Cert.DoutRefIdeal.main_arg0) = m ((c.tc : Thread Cert.DoutRefIdeal.nD Cert.DoutRefIdeal.τ).loc Cert.DoutRefIdeal.main_arg0)
      ∧ r.2.mem ((c.tc : Thread Cert.DoutRefIdeal.nD Cert.DoutRefIdeal.τ).loc Cert.DoutRefIdeal.main_arg1) = m ((c.tc : Thread Cert.DoutRefIdeal.nD Cert.DoutRefIdeal.τ).loc Cert.DoutRefIdeal.main_arg1))
      ∧ r.2.sem = fun _ => 0)

def quiescent_Dwout [hDwout : Cert.Dwout.Facts] : Prop :=
  ∀ (m : (ℓ : Loc Cert.Dwout.nD Cert.Dwout.τ Cert.Dwout.sig) → Buf (Elt Bits) ℓ) (g : Dev Cert.Dwout.nD → PrngReg), Pre_Dwout m →
    θ_run (Cert.Dwout.defs (F := Bits)) (onTc (τ := Cert.Dwout.τ) (Cert.Dwout.main (F := Bits))) ⟨m, fun _ => 0, g⟩ (fun r => (∀ c : Dev Cert.Dwout.nD,
      r.2.mem ((c.tc : Thread Cert.Dwout.nD Cert.Dwout.τ).loc Cert.Dwout.main_arg0) = m ((c.tc : Thread Cert.Dwout.nD Cert.Dwout.τ).loc Cert.Dwout.main_arg0)
      ∧ r.2.mem ((c.tc : Thread Cert.Dwout.nD Cert.Dwout.τ).loc Cert.Dwout.main_arg1) = m ((c.tc : Thread Cert.Dwout.nD Cert.Dwout.τ).loc Cert.Dwout.main_arg1))
      ∧ r.2.sem = fun _ => 0)

def quiescent_DwoutIdeal [hDwoutIdeal : Cert.DwoutIdeal.Facts] : Prop :=
  ∀ (m : (ℓ : Loc Cert.DwoutIdeal.nD Cert.DwoutIdeal.τ Cert.DwoutIdeal.sig) → Buf (Elt Ideal) ℓ) (g : Dev Cert.DwoutIdeal.nD → PrngReg), Pre_DwoutIdeal m →
    θ_run (Cert.DwoutIdeal.defs (F := Ideal)) (onTc (τ := Cert.DwoutIdeal.τ) (Cert.DwoutIdeal.main (F := Ideal))) ⟨m, fun _ => 0, g⟩ (fun r => (∀ c : Dev Cert.DwoutIdeal.nD,
      r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
      ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ r.2.sem = fun _ => 0)

def quiescent_DwoutRefIdeal [hDwoutRefIdeal : Cert.DwoutRefIdeal.Facts] : Prop :=
  ∀ (m : (ℓ : Loc Cert.DwoutRefIdeal.nD Cert.DwoutRefIdeal.τ Cert.DwoutRefIdeal.sig) → Buf (Elt Ideal) ℓ) (g : Dev Cert.DwoutRefIdeal.nD → PrngReg), Pre_DwoutRefIdeal m →
    θ_run (Cert.DwoutRefIdeal.defs (F := Ideal)) (onTc (τ := Cert.DwoutRefIdeal.τ) (Cert.DwoutRefIdeal.main (F := Ideal))) ⟨m, fun _ => 0, g⟩ (fun r => (∀ c : Dev Cert.DwoutRefIdeal.nD,
      r.2.mem ((c.tc : Thread Cert.DwoutRefIdeal.nD Cert.DwoutRefIdeal.τ).loc Cert.DwoutRefIdeal.main_arg0) = m ((c.tc : Thread Cert.DwoutRefIdeal.nD Cert.DwoutRefIdeal.τ).loc Cert.DwoutRefIdeal.main_arg0)
      ∧ r.2.mem ((c.tc : Thread Cert.DwoutRefIdeal.nD Cert.DwoutRefIdeal.τ).loc Cert.DwoutRefIdeal.main_arg1) = m ((c.tc : Thread Cert.DwoutRefIdeal.nD Cert.DwoutRefIdeal.τ).loc Cert.DwoutRefIdeal.main_arg1))
      ∧ r.2.sem = fun _ => 0)

def quiescent_AbDwin [hAbDwin : Cert.AbDwin.Facts] : Prop :=
  ∀ (m : (ℓ : Loc Cert.AbDwin.nD Cert.AbDwin.τ Cert.AbDwin.sig) → Buf (Elt Bits) ℓ) (g : Dev Cert.AbDwin.nD → PrngReg), Pre_AbDwin m →
    θ_run (Cert.AbDwin.defs (F := Bits)) (onTc (τ := Cert.AbDwin.τ) (Cert.AbDwin.main (F := Bits))) ⟨m, fun _ => 0, g⟩ (fun r => (∀ c : Dev Cert.AbDwin.nD,
      r.2.mem ((c.tc : Thread Cert.AbDwin.nD Cert.AbDwin.τ).loc Cert.AbDwin.main_arg0) = m ((c.tc : Thread Cert.AbDwin.nD Cert.AbDwin.τ).loc Cert.AbDwin.main_arg0)
      ∧ r.2.mem ((c.tc : Thread Cert.AbDwin.nD Cert.AbDwin.τ).loc Cert.AbDwin.main_arg1) = m ((c.tc : Thread Cert.AbDwin.nD Cert.AbDwin.τ).loc Cert.AbDwin.main_arg1))
      ∧ r.2.sem = fun _ => 0)

def quiescent_AbDwinIdeal [hAbDwinIdeal : Cert.AbDwinIdeal.Facts] : Prop :=
  ∀ (m : (ℓ : Loc Cert.AbDwinIdeal.nD Cert.AbDwinIdeal.τ Cert.AbDwinIdeal.sig) → Buf (Elt Ideal) ℓ) (g : Dev Cert.AbDwinIdeal.nD → PrngReg), Pre_AbDwinIdeal m →
    θ_run (Cert.AbDwinIdeal.defs (F := Ideal)) (onTc (τ := Cert.AbDwinIdeal.τ) (Cert.AbDwinIdeal.main (F := Ideal))) ⟨m, fun _ => 0, g⟩ (fun r => (∀ c : Dev Cert.AbDwinIdeal.nD,
      r.2.mem ((c.tc : Thread Cert.AbDwinIdeal.nD Cert.AbDwinIdeal.τ).loc Cert.AbDwinIdeal.main_arg0) = m ((c.tc : Thread Cert.AbDwinIdeal.nD Cert.AbDwinIdeal.τ).loc Cert.AbDwinIdeal.main_arg0)
      ∧ r.2.mem ((c.tc : Thread Cert.AbDwinIdeal.nD Cert.AbDwinIdeal.τ).loc Cert.AbDwinIdeal.main_arg1) = m ((c.tc : Thread Cert.AbDwinIdeal.nD Cert.AbDwinIdeal.τ).loc Cert.AbDwinIdeal.main_arg1))
      ∧ r.2.sem = fun _ => 0)

def quiescent_AbDwinRefIdeal [hAbDwinRefIdeal : Cert.AbDwinRefIdeal.Facts] : Prop :=
  ∀ (m : (ℓ : Loc Cert.AbDwinRefIdeal.nD Cert.AbDwinRefIdeal.τ Cert.AbDwinRefIdeal.sig) → Buf (Elt Ideal) ℓ) (g : Dev Cert.AbDwinRefIdeal.nD → PrngReg), Pre_AbDwinRefIdeal m →
    θ_run (Cert.AbDwinRefIdeal.defs (F := Ideal)) (onTc (τ := Cert.AbDwinRefIdeal.τ) (Cert.AbDwinRefIdeal.main (F := Ideal))) ⟨m, fun _ => 0, g⟩ (fun r => (∀ c : Dev Cert.AbDwinRefIdeal.nD,
      r.2.mem ((c.tc : Thread Cert.AbDwinRefIdeal.nD Cert.AbDwinRefIdeal.τ).loc Cert.AbDwinRefIdeal.main_arg0) = m ((c.tc : Thread Cert.AbDwinRefIdeal.nD Cert.AbDwinRefIdeal.τ).loc Cert.AbDwinRefIdeal.main_arg0)
      ∧ r.2.mem ((c.tc : Thread Cert.AbDwinRefIdeal.nD Cert.AbDwinRefIdeal.τ).loc Cert.AbDwinRefIdeal.main_arg1) = m ((c.tc : Thread Cert.AbDwinRefIdeal.nD Cert.AbDwinRefIdeal.τ).loc Cert.AbDwinRefIdeal.main_arg1))
      ∧ r.2.sem = fun _ => 0)

def quiescent_GlaDwin [hGlaDwin : Cert.GlaDwin.Facts] : Prop :=
  ∀ (m : (ℓ : Loc Cert.GlaDwin.nD Cert.GlaDwin.τ Cert.GlaDwin.sig) → Buf (Elt Bits) ℓ) (g : Dev Cert.GlaDwin.nD → PrngReg), Pre_GlaDwin m →
    θ_run (Cert.GlaDwin.defs (F := Bits)) (onTc (τ := Cert.GlaDwin.τ) (Cert.GlaDwin.main (F := Bits))) ⟨m, fun _ => 0, g⟩ (fun r => (∀ c : Dev Cert.GlaDwin.nD,
      r.2.mem ((c.tc : Thread Cert.GlaDwin.nD Cert.GlaDwin.τ).loc Cert.GlaDwin.main_arg0) = m ((c.tc : Thread Cert.GlaDwin.nD Cert.GlaDwin.τ).loc Cert.GlaDwin.main_arg0)
      ∧ r.2.mem ((c.tc : Thread Cert.GlaDwin.nD Cert.GlaDwin.τ).loc Cert.GlaDwin.main_arg1) = m ((c.tc : Thread Cert.GlaDwin.nD Cert.GlaDwin.τ).loc Cert.GlaDwin.main_arg1))
      ∧ r.2.sem = fun _ => 0)

def quiescent_GlaDwinIdeal [hGlaDwinIdeal : Cert.GlaDwinIdeal.Facts] : Prop :=
  ∀ (m : (ℓ : Loc Cert.GlaDwinIdeal.nD Cert.GlaDwinIdeal.τ Cert.GlaDwinIdeal.sig) → Buf (Elt Ideal) ℓ) (g : Dev Cert.GlaDwinIdeal.nD → PrngReg), Pre_GlaDwinIdeal m →
    θ_run (Cert.GlaDwinIdeal.defs (F := Ideal)) (onTc (τ := Cert.GlaDwinIdeal.τ) (Cert.GlaDwinIdeal.main (F := Ideal))) ⟨m, fun _ => 0, g⟩ (fun r => (∀ c : Dev Cert.GlaDwinIdeal.nD,
      r.2.mem ((c.tc : Thread Cert.GlaDwinIdeal.nD Cert.GlaDwinIdeal.τ).loc Cert.GlaDwinIdeal.main_arg0) = m ((c.tc : Thread Cert.GlaDwinIdeal.nD Cert.GlaDwinIdeal.τ).loc Cert.GlaDwinIdeal.main_arg0)
      ∧ r.2.mem ((c.tc : Thread Cert.GlaDwinIdeal.nD Cert.GlaDwinIdeal.τ).loc Cert.GlaDwinIdeal.main_arg1) = m ((c.tc : Thread Cert.GlaDwinIdeal.nD Cert.GlaDwinIdeal.τ).loc Cert.GlaDwinIdeal.main_arg1))
      ∧ r.2.sem = fun _ => 0)

def quiescent_GlaDwinRefIdeal [hGlaDwinRefIdeal : Cert.GlaDwinRefIdeal.Facts] : Prop :=
  ∀ (m : (ℓ : Loc Cert.GlaDwinRefIdeal.nD Cert.GlaDwinRefIdeal.τ Cert.GlaDwinRefIdeal.sig) → Buf (Elt Ideal) ℓ) (g : Dev Cert.GlaDwinRefIdeal.nD → PrngReg), Pre_GlaDwinRefIdeal m →
    θ_run (Cert.GlaDwinRefIdeal.defs (F := Ideal)) (onTc (τ := Cert.GlaDwinRefIdeal.τ) (Cert.GlaDwinRefIdeal.main (F := Ideal))) ⟨m, fun _ => 0, g⟩ (fun r => (∀ c : Dev Cert.GlaDwinRefIdeal.nD,
      r.2.mem ((c.tc : Thread Cert.GlaDwinRefIdeal.nD Cert.GlaDwinRefIdeal.τ).loc Cert.GlaDwinRefIdeal.main_arg0) = m ((c.tc : Thread Cert.GlaDwinRefIdeal.nD Cert.GlaDwinRefIdeal.τ).loc Cert.GlaDwinRefIdeal.main_arg0)
      ∧ r.2.mem ((c.tc : Thread Cert.GlaDwinRefIdeal.nD Cert.GlaDwinRefIdeal.τ).loc Cert.GlaDwinRefIdeal.main_arg1) = m ((c.tc : Thread Cert.GlaDwinRefIdeal.nD Cert.GlaDwinRefIdeal.τ).loc Cert.GlaDwinRefIdeal.main_arg1))
      ∧ r.2.sem = fun _ => 0)

def quiescent_AbDy [hAbDy : Cert.AbDy.Facts] : Prop :=
  ∀ (m : (ℓ : Loc Cert.AbDy.nD Cert.AbDy.τ Cert.AbDy.sig) → Buf (Elt Bits) ℓ) (g : Dev Cert.AbDy.nD → PrngReg), Pre_AbDy m →
    θ_run (Cert.AbDy.defs (F := Bits)) (onTc (τ := Cert.AbDy.τ) (Cert.AbDy.main (F := Bits))) ⟨m, fun _ => 0, g⟩ (fun r => (∀ c : Dev Cert.AbDy.nD,
      r.2.mem ((c.tc : Thread Cert.AbDy.nD Cert.AbDy.τ).loc Cert.AbDy.main_arg0) = m ((c.tc : Thread Cert.AbDy.nD Cert.AbDy.τ).loc Cert.AbDy.main_arg0)
      ∧ r.2.mem ((c.tc : Thread Cert.AbDy.nD Cert.AbDy.τ).loc Cert.AbDy.main_arg1) = m ((c.tc : Thread Cert.AbDy.nD Cert.AbDy.τ).loc Cert.AbDy.main_arg1)
      ∧ r.2.mem ((c.tc : Thread Cert.AbDy.nD Cert.AbDy.τ).loc Cert.AbDy.main_arg2) = m ((c.tc : Thread Cert.AbDy.nD Cert.AbDy.τ).loc Cert.AbDy.main_arg2)
      ∧ r.2.mem ((c.tc : Thread Cert.AbDy.nD Cert.AbDy.τ).loc Cert.AbDy.main_arg3) = m ((c.tc : Thread Cert.AbDy.nD Cert.AbDy.τ).loc Cert.AbDy.main_arg3)
      ∧ r.2.mem ((c.tc : Thread Cert.AbDy.nD Cert.AbDy.τ).loc Cert.AbDy.main_arg4) = m ((c.tc : Thread Cert.AbDy.nD Cert.AbDy.τ).loc Cert.AbDy.main_arg4))
      ∧ r.2.sem = fun _ => 0)

def quiescent_AbDyIdeal [hAbDyIdeal : Cert.AbDyIdeal.Facts] : Prop :=
  ∀ (m : (ℓ : Loc Cert.AbDyIdeal.nD Cert.AbDyIdeal.τ Cert.AbDyIdeal.sig) → Buf (Elt Ideal) ℓ) (g : Dev Cert.AbDyIdeal.nD → PrngReg), Pre_AbDyIdeal m →
    θ_run (Cert.AbDyIdeal.defs (F := Ideal)) (onTc (τ := Cert.AbDyIdeal.τ) (Cert.AbDyIdeal.main (F := Ideal))) ⟨m, fun _ => 0, g⟩ (fun r => (∀ c : Dev Cert.AbDyIdeal.nD,
      r.2.mem ((c.tc : Thread Cert.AbDyIdeal.nD Cert.AbDyIdeal.τ).loc Cert.AbDyIdeal.main_arg0) = m ((c.tc : Thread Cert.AbDyIdeal.nD Cert.AbDyIdeal.τ).loc Cert.AbDyIdeal.main_arg0)
      ∧ r.2.mem ((c.tc : Thread Cert.AbDyIdeal.nD Cert.AbDyIdeal.τ).loc Cert.AbDyIdeal.main_arg1) = m ((c.tc : Thread Cert.AbDyIdeal.nD Cert.AbDyIdeal.τ).loc Cert.AbDyIdeal.main_arg1)
      ∧ r.2.mem ((c.tc : Thread Cert.AbDyIdeal.nD Cert.AbDyIdeal.τ).loc Cert.AbDyIdeal.main_arg2) = m ((c.tc : Thread Cert.AbDyIdeal.nD Cert.AbDyIdeal.τ).loc Cert.AbDyIdeal.main_arg2)
      ∧ r.2.mem ((c.tc : Thread Cert.AbDyIdeal.nD Cert.AbDyIdeal.τ).loc Cert.AbDyIdeal.main_arg3) = m ((c.tc : Thread Cert.AbDyIdeal.nD Cert.AbDyIdeal.τ).loc Cert.AbDyIdeal.main_arg3)
      ∧ r.2.mem ((c.tc : Thread Cert.AbDyIdeal.nD Cert.AbDyIdeal.τ).loc Cert.AbDyIdeal.main_arg4) = m ((c.tc : Thread Cert.AbDyIdeal.nD Cert.AbDyIdeal.τ).loc Cert.AbDyIdeal.main_arg4))
      ∧ r.2.sem = fun _ => 0)

def quiescent_AbDyRefIdeal [hAbDyRefIdeal : Cert.AbDyRefIdeal.Facts] : Prop :=
  ∀ (m : (ℓ : Loc Cert.AbDyRefIdeal.nD Cert.AbDyRefIdeal.τ Cert.AbDyRefIdeal.sig) → Buf (Elt Ideal) ℓ) (g : Dev Cert.AbDyRefIdeal.nD → PrngReg), Pre_AbDyRefIdeal m →
    θ_run (Cert.AbDyRefIdeal.defs (F := Ideal)) (onTc (τ := Cert.AbDyRefIdeal.τ) (Cert.AbDyRefIdeal.main (F := Ideal))) ⟨m, fun _ => 0, g⟩ (fun r => (∀ c : Dev Cert.AbDyRefIdeal.nD,
      r.2.mem ((c.tc : Thread Cert.AbDyRefIdeal.nD Cert.AbDyRefIdeal.τ).loc Cert.AbDyRefIdeal.main_arg0) = m ((c.tc : Thread Cert.AbDyRefIdeal.nD Cert.AbDyRefIdeal.τ).loc Cert.AbDyRefIdeal.main_arg0)
      ∧ r.2.mem ((c.tc : Thread Cert.AbDyRefIdeal.nD Cert.AbDyRefIdeal.τ).loc Cert.AbDyRefIdeal.main_arg1) = m ((c.tc : Thread Cert.AbDyRefIdeal.nD Cert.AbDyRefIdeal.τ).loc Cert.AbDyRefIdeal.main_arg1)
      ∧ r.2.mem ((c.tc : Thread Cert.AbDyRefIdeal.nD Cert.AbDyRefIdeal.τ).loc Cert.AbDyRefIdeal.main_arg2) = m ((c.tc : Thread Cert.AbDyRefIdeal.nD Cert.AbDyRefIdeal.τ).loc Cert.AbDyRefIdeal.main_arg2)
      ∧ r.2.mem ((c.tc : Thread Cert.AbDyRefIdeal.nD Cert.AbDyRefIdeal.τ).loc Cert.AbDyRefIdeal.main_arg3) = m ((c.tc : Thread Cert.AbDyRefIdeal.nD Cert.AbDyRefIdeal.τ).loc Cert.AbDyRefIdeal.main_arg3)
      ∧ r.2.mem ((c.tc : Thread Cert.AbDyRefIdeal.nD Cert.AbDyRefIdeal.τ).loc Cert.AbDyRefIdeal.main_arg4) = m ((c.tc : Thread Cert.AbDyRefIdeal.nD Cert.AbDyRefIdeal.τ).loc Cert.AbDyRefIdeal.main_arg4))
      ∧ r.2.sem = fun _ => 0)

def quiescent_GlaDy [hGlaDy : Cert.GlaDy.Facts] : Prop :=
  ∀ (m : (ℓ : Loc Cert.GlaDy.nD Cert.GlaDy.τ Cert.GlaDy.sig) → Buf (Elt Bits) ℓ) (g : Dev Cert.GlaDy.nD → PrngReg), Pre_GlaDy m →
    θ_run (Cert.GlaDy.defs (F := Bits)) (onTc (τ := Cert.GlaDy.τ) (Cert.GlaDy.main (F := Bits))) ⟨m, fun _ => 0, g⟩ (fun r => (∀ c : Dev Cert.GlaDy.nD,
      r.2.mem ((c.tc : Thread Cert.GlaDy.nD Cert.GlaDy.τ).loc Cert.GlaDy.main_arg0) = m ((c.tc : Thread Cert.GlaDy.nD Cert.GlaDy.τ).loc Cert.GlaDy.main_arg0)
      ∧ r.2.mem ((c.tc : Thread Cert.GlaDy.nD Cert.GlaDy.τ).loc Cert.GlaDy.main_arg1) = m ((c.tc : Thread Cert.GlaDy.nD Cert.GlaDy.τ).loc Cert.GlaDy.main_arg1)
      ∧ r.2.mem ((c.tc : Thread Cert.GlaDy.nD Cert.GlaDy.τ).loc Cert.GlaDy.main_arg2) = m ((c.tc : Thread Cert.GlaDy.nD Cert.GlaDy.τ).loc Cert.GlaDy.main_arg2)
      ∧ r.2.mem ((c.tc : Thread Cert.GlaDy.nD Cert.GlaDy.τ).loc Cert.GlaDy.main_arg3) = m ((c.tc : Thread Cert.GlaDy.nD Cert.GlaDy.τ).loc Cert.GlaDy.main_arg3)
      ∧ r.2.mem ((c.tc : Thread Cert.GlaDy.nD Cert.GlaDy.τ).loc Cert.GlaDy.main_arg4) = m ((c.tc : Thread Cert.GlaDy.nD Cert.GlaDy.τ).loc Cert.GlaDy.main_arg4))
      ∧ r.2.sem = fun _ => 0)

def quiescent_GlaDyIdeal [hGlaDyIdeal : Cert.GlaDyIdeal.Facts] : Prop :=
  ∀ (m : (ℓ : Loc Cert.GlaDyIdeal.nD Cert.GlaDyIdeal.τ Cert.GlaDyIdeal.sig) → Buf (Elt Ideal) ℓ) (g : Dev Cert.GlaDyIdeal.nD → PrngReg), Pre_GlaDyIdeal m →
    θ_run (Cert.GlaDyIdeal.defs (F := Ideal)) (onTc (τ := Cert.GlaDyIdeal.τ) (Cert.GlaDyIdeal.main (F := Ideal))) ⟨m, fun _ => 0, g⟩ (fun r => (∀ c : Dev Cert.GlaDyIdeal.nD,
      r.2.mem ((c.tc : Thread Cert.GlaDyIdeal.nD Cert.GlaDyIdeal.τ).loc Cert.GlaDyIdeal.main_arg0) = m ((c.tc : Thread Cert.GlaDyIdeal.nD Cert.GlaDyIdeal.τ).loc Cert.GlaDyIdeal.main_arg0)
      ∧ r.2.mem ((c.tc : Thread Cert.GlaDyIdeal.nD Cert.GlaDyIdeal.τ).loc Cert.GlaDyIdeal.main_arg1) = m ((c.tc : Thread Cert.GlaDyIdeal.nD Cert.GlaDyIdeal.τ).loc Cert.GlaDyIdeal.main_arg1)
      ∧ r.2.mem ((c.tc : Thread Cert.GlaDyIdeal.nD Cert.GlaDyIdeal.τ).loc Cert.GlaDyIdeal.main_arg2) = m ((c.tc : Thread Cert.GlaDyIdeal.nD Cert.GlaDyIdeal.τ).loc Cert.GlaDyIdeal.main_arg2)
      ∧ r.2.mem ((c.tc : Thread Cert.GlaDyIdeal.nD Cert.GlaDyIdeal.τ).loc Cert.GlaDyIdeal.main_arg3) = m ((c.tc : Thread Cert.GlaDyIdeal.nD Cert.GlaDyIdeal.τ).loc Cert.GlaDyIdeal.main_arg3)
      ∧ r.2.mem ((c.tc : Thread Cert.GlaDyIdeal.nD Cert.GlaDyIdeal.τ).loc Cert.GlaDyIdeal.main_arg4) = m ((c.tc : Thread Cert.GlaDyIdeal.nD Cert.GlaDyIdeal.τ).loc Cert.GlaDyIdeal.main_arg4))
      ∧ r.2.sem = fun _ => 0)

def quiescent_GlaDyRefIdeal [hGlaDyRefIdeal : Cert.GlaDyRefIdeal.Facts] : Prop :=
  ∀ (m : (ℓ : Loc Cert.GlaDyRefIdeal.nD Cert.GlaDyRefIdeal.τ Cert.GlaDyRefIdeal.sig) → Buf (Elt Ideal) ℓ) (g : Dev Cert.GlaDyRefIdeal.nD → PrngReg), Pre_GlaDyRefIdeal m →
    θ_run (Cert.GlaDyRefIdeal.defs (F := Ideal)) (onTc (τ := Cert.GlaDyRefIdeal.τ) (Cert.GlaDyRefIdeal.main (F := Ideal))) ⟨m, fun _ => 0, g⟩ (fun r => (∀ c : Dev Cert.GlaDyRefIdeal.nD,
      r.2.mem ((c.tc : Thread Cert.GlaDyRefIdeal.nD Cert.GlaDyRefIdeal.τ).loc Cert.GlaDyRefIdeal.main_arg0) = m ((c.tc : Thread Cert.GlaDyRefIdeal.nD Cert.GlaDyRefIdeal.τ).loc Cert.GlaDyRefIdeal.main_arg0)
      ∧ r.2.mem ((c.tc : Thread Cert.GlaDyRefIdeal.nD Cert.GlaDyRefIdeal.τ).loc Cert.GlaDyRefIdeal.main_arg1) = m ((c.tc : Thread Cert.GlaDyRefIdeal.nD Cert.GlaDyRefIdeal.τ).loc Cert.GlaDyRefIdeal.main_arg1)
      ∧ r.2.mem ((c.tc : Thread Cert.GlaDyRefIdeal.nD Cert.GlaDyRefIdeal.τ).loc Cert.GlaDyRefIdeal.main_arg2) = m ((c.tc : Thread Cert.GlaDyRefIdeal.nD Cert.GlaDyRefIdeal.τ).loc Cert.GlaDyRefIdeal.main_arg2)
      ∧ r.2.mem ((c.tc : Thread Cert.GlaDyRefIdeal.nD Cert.GlaDyRefIdeal.τ).loc Cert.GlaDyRefIdeal.main_arg3) = m ((c.tc : Thread Cert.GlaDyRefIdeal.nD Cert.GlaDyRefIdeal.τ).loc Cert.GlaDyRefIdeal.main_arg3)
      ∧ r.2.mem ((c.tc : Thread Cert.GlaDyRefIdeal.nD Cert.GlaDyRefIdeal.τ).loc Cert.GlaDyRefIdeal.main_arg4) = m ((c.tc : Thread Cert.GlaDyRefIdeal.nD Cert.GlaDyRefIdeal.τ).loc Cert.GlaDyRefIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Last [hLast : Cert.Last.Facts] : Prop :=
  ∀ (m : (ℓ : Loc Cert.Last.nD Cert.Last.τ Cert.Last.sig) → Buf (Elt Bits) ℓ) (g : Dev Cert.Last.nD → PrngReg), Pre_Last m →
    θ_run (Cert.Last.defs (F := Bits)) (onTc (τ := Cert.Last.τ) (Cert.Last.main (F := Bits))) ⟨m, fun _ => 0, g⟩ (fun r => (∀ c : Dev Cert.Last.nD,
      r.2.mem ((c.tc : Thread Cert.Last.nD Cert.Last.τ).loc Cert.Last.main_arg0) = m ((c.tc : Thread Cert.Last.nD Cert.Last.τ).loc Cert.Last.main_arg0)
      ∧ r.2.mem ((c.tc : Thread Cert.Last.nD Cert.Last.τ).loc Cert.Last.main_arg1) = m ((c.tc : Thread Cert.Last.nD Cert.Last.τ).loc Cert.Last.main_arg1)
      ∧ r.2.mem ((c.tc : Thread Cert.Last.nD Cert.Last.τ).loc Cert.Last.main_arg2) = m ((c.tc : Thread Cert.Last.nD Cert.Last.τ).loc Cert.Last.main_arg2))
      ∧ r.2.sem = fun _ => 0)

def quiescent_LastIdeal [hLastIdeal : Cert.LastIdeal.Facts] : Prop :=
  ∀ (m : (ℓ : Loc Cert.LastIdeal.nD Cert.LastIdeal.τ Cert.LastIdeal.sig) → Buf (Elt Ideal) ℓ) (g : Dev Cert.LastIdeal.nD → PrngReg), Pre_LastIdeal m →
    θ_run (Cert.LastIdeal.defs (F := Ideal)) (onTc (τ := Cert.LastIdeal.τ) (Cert.LastIdeal.main (F := Ideal))) ⟨m, fun _ => 0, g⟩ (fun r => (∀ c : Dev Cert.LastIdeal.nD,
      r.2.mem ((c.tc : Thread Cert.LastIdeal.nD Cert.LastIdeal.τ).loc Cert.LastIdeal.main_arg0) = m ((c.tc : Thread Cert.LastIdeal.nD Cert.LastIdeal.τ).loc Cert.LastIdeal.main_arg0)
      ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
      ∧ r.2.mem ((c.tc : Thread Cert.LastIdeal.nD Cert.LastIdeal.τ).loc Cert.LastIdeal.main_arg2) = m ((c.tc : Thread Cert.LastIdeal.nD Cert.LastIdeal.τ).loc Cert.LastIdeal.main_arg2))
      ∧ r.2.sem = fun _ => 0)

def quiescent_LastRefIdeal [hLastRefIdeal : Cert.LastRefIdeal.Facts] : Prop :=
  ∀ (m : (ℓ : Loc Cert.LastRefIdeal.nD Cert.LastRefIdeal.τ Cert.LastRefIdeal.sig) → Buf (Elt Ideal) ℓ) (g : Dev Cert.LastRefIdeal.nD → PrngReg), Pre_LastRefIdeal m →
    θ_run (Cert.LastRefIdeal.defs (F := Ideal)) (onTc (τ := Cert.LastRefIdeal.τ) (Cert.LastRefIdeal.main (F := Ideal))) ⟨m, fun _ => 0, g⟩ (fun r => (∀ c : Dev Cert.LastRefIdeal.nD,
      r.2.mem ((c.tc : Thread Cert.LastRefIdeal.nD Cert.LastRefIdeal.τ).loc Cert.LastRefIdeal.main_arg0) = m ((c.tc : Thread Cert.LastRefIdeal.nD Cert.LastRefIdeal.τ).loc Cert.LastRefIdeal.main_arg0)
      ∧ r.2.mem ((c.tc : Thread Cert.LastRefIdeal.nD Cert.LastRefIdeal.τ).loc Cert.LastRefIdeal.main_arg1) = m ((c.tc : Thread Cert.LastRefIdeal.nD Cert.LastRefIdeal.τ).loc Cert.LastRefIdeal.main_arg1)
      ∧ r.2.mem ((c.tc : Thread Cert.LastRefIdeal.nD Cert.LastRefIdeal.τ).loc Cert.LastRefIdeal.main_arg2) = m ((c.tc : Thread Cert.LastRefIdeal.nD Cert.LastRefIdeal.τ).loc Cert.LastRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_AbIn [hAbIn : Cert.AbIn.Facts] : Prop :=
  ∀ (m : (ℓ : Loc Cert.AbIn.nD Cert.AbIn.τ Cert.AbIn.sig) → Buf (Elt Bits) ℓ) (g : Dev Cert.AbIn.nD → PrngReg), Pre_AbIn m →
    θ_run (Cert.AbIn.defs (F := Bits)) (onTc (τ := Cert.AbIn.τ) (Cert.AbIn.main (F := Bits))) ⟨m, fun _ => 0, g⟩ (fun r => (∀ c : Dev Cert.AbIn.nD,
      r.2.mem ((c.tc : Thread Cert.AbIn.nD Cert.AbIn.τ).loc Cert.AbIn.main_arg0) = m ((c.tc : Thread Cert.AbIn.nD Cert.AbIn.τ).loc Cert.AbIn.main_arg0)
      ∧ r.2.mem ((c.tc : Thread Cert.AbIn.nD Cert.AbIn.τ).loc Cert.AbIn.main_arg1) = m ((c.tc : Thread Cert.AbIn.nD Cert.AbIn.τ).loc Cert.AbIn.main_arg1))
      ∧ r.2.sem = fun _ => 0)

def quiescent_AbInIdeal [hAbInIdeal : Cert.AbInIdeal.Facts] : Prop :=
  ∀ (m : (ℓ : Loc Cert.AbInIdeal.nD Cert.AbInIdeal.τ Cert.AbInIdeal.sig) → Buf (Elt Ideal) ℓ) (g : Dev Cert.AbInIdeal.nD → PrngReg), Pre_AbInIdeal m →
    θ_run (Cert.AbInIdeal.defs (F := Ideal)) (onTc (τ := Cert.AbInIdeal.τ) (Cert.AbInIdeal.main (F := Ideal))) ⟨m, fun _ => 0, g⟩ (fun r => (∀ c : Dev Cert.AbInIdeal.nD,
      r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
      ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1))
      ∧ r.2.sem = fun _ => 0)

def quiescent_AbInRefIdeal [hAbInRefIdeal : Cert.AbInRefIdeal.Facts] : Prop :=
  ∀ (m : (ℓ : Loc Cert.AbInRefIdeal.nD Cert.AbInRefIdeal.τ Cert.AbInRefIdeal.sig) → Buf (Elt Ideal) ℓ) (g : Dev Cert.AbInRefIdeal.nD → PrngReg), Pre_AbInRefIdeal m →
    θ_run (Cert.AbInRefIdeal.defs (F := Ideal)) (onTc (τ := Cert.AbInRefIdeal.τ) (Cert.AbInRefIdeal.main (F := Ideal))) ⟨m, fun _ => 0, g⟩ (fun r => (∀ c : Dev Cert.AbInRefIdeal.nD,
      r.2.mem ((c.tc : Thread Cert.AbInRefIdeal.nD Cert.AbInRefIdeal.τ).loc Cert.AbInRefIdeal.main_arg0) = m ((c.tc : Thread Cert.AbInRefIdeal.nD Cert.AbInRefIdeal.τ).loc Cert.AbInRefIdeal.main_arg0)
      ∧ r.2.mem ((c.tc : Thread Cert.AbInRefIdeal.nD Cert.AbInRefIdeal.τ).loc Cert.AbInRefIdeal.main_arg1) = m ((c.tc : Thread Cert.AbInRefIdeal.nD Cert.AbInRefIdeal.τ).loc Cert.AbInRefIdeal.main_arg1))
      ∧ r.2.sem = fun _ => 0)

def quiescent_GlaIn [hGlaIn : Cert.GlaIn.Facts] : Prop :=
  ∀ (m : (ℓ : Loc Cert.GlaIn.nD Cert.GlaIn.τ Cert.GlaIn.sig) → Buf (Elt Bits) ℓ) (g : Dev Cert.GlaIn.nD → PrngReg), Pre_GlaIn m →
    θ_run (Cert.GlaIn.defs (F := Bits)) (onTc (τ := Cert.GlaIn.τ) (Cert.GlaIn.main (F := Bits))) ⟨m, fun _ => 0, g⟩ (fun r => (∀ c : Dev Cert.GlaIn.nD,
      r.2.mem ((c.tc : Thread Cert.GlaIn.nD Cert.GlaIn.τ).loc Cert.GlaIn.main_arg0) = m ((c.tc : Thread Cert.GlaIn.nD Cert.GlaIn.τ).loc Cert.GlaIn.main_arg0)
      ∧ r.2.mem ((c.tc : Thread Cert.GlaIn.nD Cert.GlaIn.τ).loc Cert.GlaIn.main_arg1) = m ((c.tc : Thread Cert.GlaIn.nD Cert.GlaIn.τ).loc Cert.GlaIn.main_arg1))
      ∧ r.2.sem = fun _ => 0)

def quiescent_GlaInIdeal [hGlaInIdeal : Cert.GlaInIdeal.Facts] : Prop :=
  ∀ (m : (ℓ : Loc Cert.GlaInIdeal.nD Cert.GlaInIdeal.τ Cert.GlaInIdeal.sig) → Buf (Elt Ideal) ℓ) (g : Dev Cert.GlaInIdeal.nD → PrngReg), Pre_GlaInIdeal m →
    θ_run (Cert.GlaInIdeal.defs (F := Ideal)) (onTc (τ := Cert.GlaInIdeal.τ) (Cert.GlaInIdeal.main (F := Ideal))) ⟨m, fun _ => 0, g⟩ (fun r => (∀ c : Dev Cert.GlaInIdeal.nD,
      r.2.mem ((c.tc : Thread Cert.GlaInIdeal.nD Cert.GlaInIdeal.τ).loc Cert.GlaInIdeal.main_arg0) = m ((c.tc : Thread Cert.GlaInIdeal.nD Cert.GlaInIdeal.τ).loc Cert.GlaInIdeal.main_arg0)
      ∧ r.2.mem ((c.tc : Thread Cert.GlaInIdeal.nD Cert.GlaInIdeal.τ).loc Cert.GlaInIdeal.main_arg1) = m ((c.tc : Thread Cert.GlaInIdeal.nD Cert.GlaInIdeal.τ).loc Cert.GlaInIdeal.main_arg1))
      ∧ r.2.sem = fun _ => 0)

def quiescent_GlaInRefIdeal [hGlaInRefIdeal : Cert.GlaInRefIdeal.Facts] : Prop :=
  ∀ (m : (ℓ : Loc Cert.GlaInRefIdeal.nD Cert.GlaInRefIdeal.τ Cert.GlaInRefIdeal.sig) → Buf (Elt Ideal) ℓ) (g : Dev Cert.GlaInRefIdeal.nD → PrngReg), Pre_GlaInRefIdeal m →
    θ_run (Cert.GlaInRefIdeal.defs (F := Ideal)) (onTc (τ := Cert.GlaInRefIdeal.τ) (Cert.GlaInRefIdeal.main (F := Ideal))) ⟨m, fun _ => 0, g⟩ (fun r => (∀ c : Dev Cert.GlaInRefIdeal.nD,
      r.2.mem ((c.tc : Thread Cert.GlaInRefIdeal.nD Cert.GlaInRefIdeal.τ).loc Cert.GlaInRefIdeal.main_arg0) = m ((c.tc : Thread Cert.GlaInRefIdeal.nD Cert.GlaInRefIdeal.τ).loc Cert.GlaInRefIdeal.main_arg0)
      ∧ r.2.mem ((c.tc : Thread Cert.GlaInRefIdeal.nD Cert.GlaInRefIdeal.τ).loc Cert.GlaInRefIdeal.main_arg1) = m ((c.tc : Thread Cert.GlaInRefIdeal.nD Cert.GlaInRefIdeal.τ).loc Cert.GlaInRefIdeal.main_arg1))
      ∧ r.2.sem = fun _ => 0)

def quiescent_GlaDpre [hGlaDpre : Cert.GlaDpre.Facts] : Prop :=
  ∀ (m : (ℓ : Loc Cert.GlaDpre.nD Cert.GlaDpre.τ Cert.GlaDpre.sig) → Buf (Elt Bits) ℓ) (g : Dev Cert.GlaDpre.nD → PrngReg), Pre_GlaDpre m →
    θ_run (Cert.GlaDpre.defs (F := Bits)) (onTc (τ := Cert.GlaDpre.τ) (Cert.GlaDpre.main (F := Bits))) ⟨m, fun _ => 0, g⟩ (fun r => (∀ c : Dev Cert.GlaDpre.nD,
      r.2.mem ((c.tc : Thread Cert.GlaDpre.nD Cert.GlaDpre.τ).loc Cert.GlaDpre.main_arg0) = m ((c.tc : Thread Cert.GlaDpre.nD Cert.GlaDpre.τ).loc Cert.GlaDpre.main_arg0)
      ∧ r.2.mem ((c.tc : Thread Cert.GlaDpre.nD Cert.GlaDpre.τ).loc Cert.GlaDpre.main_arg1) = m ((c.tc : Thread Cert.GlaDpre.nD Cert.GlaDpre.τ).loc Cert.GlaDpre.main_arg1)
      ∧ r.2.mem ((c.tc : Thread Cert.GlaDpre.nD Cert.GlaDpre.τ).loc Cert.GlaDpre.main_arg2) = m ((c.tc : Thread Cert.GlaDpre.nD Cert.GlaDpre.τ).loc Cert.GlaDpre.main_arg2)
      ∧ r.2.mem ((c.tc : Thread Cert.GlaDpre.nD Cert.GlaDpre.τ).loc Cert.GlaDpre.main_arg3) = m ((c.tc : Thread Cert.GlaDpre.nD Cert.GlaDpre.τ).loc Cert.GlaDpre.main_arg3)
      ∧ r.2.mem ((c.tc : Thread Cert.GlaDpre.nD Cert.GlaDpre.τ).loc Cert.GlaDpre.main_arg4) = m ((c.tc : Thread Cert.GlaDpre.nD Cert.GlaDpre.τ).loc Cert.GlaDpre.main_arg4)
      ∧ r.2.mem ((c.tc : Thread Cert.GlaDpre.nD Cert.GlaDpre.τ).loc Cert.GlaDpre.main_arg5) = m ((c.tc : Thread Cert.GlaDpre.nD Cert.GlaDpre.τ).loc Cert.GlaDpre.main_arg5)
      ∧ r.2.mem ((c.tc : Thread Cert.GlaDpre.nD Cert.GlaDpre.τ).loc Cert.GlaDpre.main_arg6) = m ((c.tc : Thread Cert.GlaDpre.nD Cert.GlaDpre.τ).loc Cert.GlaDpre.main_arg6)
      ∧ r.2.mem ((c.tc : Thread Cert.GlaDpre.nD Cert.GlaDpre.τ).loc Cert.GlaDpre.main_arg7) = m ((c.tc : Thread Cert.GlaDpre.nD Cert.GlaDpre.τ).loc Cert.GlaDpre.main_arg7)
      ∧ r.2.mem ((c.tc : Thread Cert.GlaDpre.nD Cert.GlaDpre.τ).loc Cert.GlaDpre.main_arg8) = m ((c.tc : Thread Cert.GlaDpre.nD Cert.GlaDpre.τ).loc Cert.GlaDpre.main_arg8)
      ∧ r.2.mem ((c.tc : Thread Cert.GlaDpre.nD Cert.GlaDpre.τ).loc Cert.GlaDpre.main_arg9) = m ((c.tc : Thread Cert.GlaDpre.nD Cert.GlaDpre.τ).loc Cert.GlaDpre.main_arg9)
      ∧ r.2.mem ((c.tc : Thread Cert.GlaDpre.nD Cert.GlaDpre.τ).loc Cert.GlaDpre.main_arg10) = m ((c.tc : Thread Cert.GlaDpre.nD Cert.GlaDpre.τ).loc Cert.GlaDpre.main_arg10))
      ∧ r.2.sem = fun _ => 0)

def quiescent_GlaDpreIdeal [hGlaDpreIdeal : Cert.GlaDpreIdeal.Facts] : Prop :=
  ∀ (m : (ℓ : Loc Cert.GlaDpreIdeal.nD Cert.GlaDpreIdeal.τ Cert.GlaDpreIdeal.sig) → Buf (Elt Ideal) ℓ) (g : Dev Cert.GlaDpreIdeal.nD → PrngReg), Pre_GlaDpreIdeal m →
    θ_run (Cert.GlaDpreIdeal.defs (F := Ideal)) (onTc (τ := Cert.GlaDpreIdeal.τ) (Cert.GlaDpreIdeal.main (F := Ideal))) ⟨m, fun _ => 0, g⟩ (fun r => (∀ c : Dev Cert.GlaDpreIdeal.nD,
      r.2.mem ((c.tc : Thread Cert.GlaDpreIdeal.nD Cert.GlaDpreIdeal.τ).loc Cert.GlaDpreIdeal.main_arg0) = m ((c.tc : Thread Cert.GlaDpreIdeal.nD Cert.GlaDpreIdeal.τ).loc Cert.GlaDpreIdeal.main_arg0)
      ∧ r.2.mem ((c.tc : Thread Cert.GlaDpreIdeal.nD Cert.GlaDpreIdeal.τ).loc Cert.GlaDpreIdeal.main_arg1) = m ((c.tc : Thread Cert.GlaDpreIdeal.nD Cert.GlaDpreIdeal.τ).loc Cert.GlaDpreIdeal.main_arg1)
      ∧ r.2.mem ((c.tc : Thread Cert.GlaDpreIdeal.nD Cert.GlaDpreIdeal.τ).loc Cert.GlaDpreIdeal.main_arg2) = m ((c.tc : Thread Cert.GlaDpreIdeal.nD Cert.GlaDpreIdeal.τ).loc Cert.GlaDpreIdeal.main_arg2)
      ∧ r.2.mem ((c.tc : Thread Cert.GlaDpreIdeal.nD Cert.GlaDpreIdeal.τ).loc Cert.GlaDpreIdeal.main_arg3) = m ((c.tc : Thread Cert.GlaDpreIdeal.nD Cert.GlaDpreIdeal.τ).loc Cert.GlaDpreIdeal.main_arg3)
      ∧ r.2.mem ((c.tc : Thread Cert.GlaDpreIdeal.nD Cert.GlaDpreIdeal.τ).loc Cert.GlaDpreIdeal.main_arg4) = m ((c.tc : Thread Cert.GlaDpreIdeal.nD Cert.GlaDpreIdeal.τ).loc Cert.GlaDpreIdeal.main_arg4)
      ∧ r.2.mem ((c.tc : Thread Cert.GlaDpreIdeal.nD Cert.GlaDpreIdeal.τ).loc Cert.GlaDpreIdeal.main_arg5) = m ((c.tc : Thread Cert.GlaDpreIdeal.nD Cert.GlaDpreIdeal.τ).loc Cert.GlaDpreIdeal.main_arg5)
      ∧ r.2.mem ((c.tc : Thread Cert.GlaDpreIdeal.nD Cert.GlaDpreIdeal.τ).loc Cert.GlaDpreIdeal.main_arg6) = m ((c.tc : Thread Cert.GlaDpreIdeal.nD Cert.GlaDpreIdeal.τ).loc Cert.GlaDpreIdeal.main_arg6)
      ∧ r.2.mem ((c.tc : Thread Cert.GlaDpreIdeal.nD Cert.GlaDpreIdeal.τ).loc Cert.GlaDpreIdeal.main_arg7) = m ((c.tc : Thread Cert.GlaDpreIdeal.nD Cert.GlaDpreIdeal.τ).loc Cert.GlaDpreIdeal.main_arg7)
      ∧ r.2.mem ((c.tc : Thread Cert.GlaDpreIdeal.nD Cert.GlaDpreIdeal.τ).loc Cert.GlaDpreIdeal.main_arg8) = m ((c.tc : Thread Cert.GlaDpreIdeal.nD Cert.GlaDpreIdeal.τ).loc Cert.GlaDpreIdeal.main_arg8)
      ∧ r.2.mem ((c.tc : Thread Cert.GlaDpreIdeal.nD Cert.GlaDpreIdeal.τ).loc Cert.GlaDpreIdeal.main_arg9) = m ((c.tc : Thread Cert.GlaDpreIdeal.nD Cert.GlaDpreIdeal.τ).loc Cert.GlaDpreIdeal.main_arg9)
      ∧ r.2.mem ((c.tc : Thread Cert.GlaDpreIdeal.nD Cert.GlaDpreIdeal.τ).loc Cert.GlaDpreIdeal.main_arg10) = m ((c.tc : Thread Cert.GlaDpreIdeal.nD Cert.GlaDpreIdeal.τ).loc Cert.GlaDpreIdeal.main_arg10))
      ∧ r.2.sem = fun _ => 0)

def quiescent_GlaDpreRefIdeal [hGlaDpreRefIdeal : Cert.GlaDpreRefIdeal.Facts] : Prop :=
  ∀ (m : (ℓ : Loc Cert.GlaDpreRefIdeal.nD Cert.GlaDpreRefIdeal.τ Cert.GlaDpreRefIdeal.sig) → Buf (Elt Ideal) ℓ) (g : Dev Cert.GlaDpreRefIdeal.nD → PrngReg), Pre_GlaDpreRefIdeal m →
    θ_run (Cert.GlaDpreRefIdeal.defs (F := Ideal)) (onTc (τ := Cert.GlaDpreRefIdeal.τ) (Cert.GlaDpreRefIdeal.main (F := Ideal))) ⟨m, fun _ => 0, g⟩ (fun r => (∀ c : Dev Cert.GlaDpreRefIdeal.nD,
      r.2.mem ((c.tc : Thread Cert.GlaDpreRefIdeal.nD Cert.GlaDpreRefIdeal.τ).loc Cert.GlaDpreRefIdeal.main_arg0) = m ((c.tc : Thread Cert.GlaDpreRefIdeal.nD Cert.GlaDpreRefIdeal.τ).loc Cert.GlaDpreRefIdeal.main_arg0)
      ∧ r.2.mem ((c.tc : Thread Cert.GlaDpreRefIdeal.nD Cert.GlaDpreRefIdeal.τ).loc Cert.GlaDpreRefIdeal.main_arg1) = m ((c.tc : Thread Cert.GlaDpreRefIdeal.nD Cert.GlaDpreRefIdeal.τ).loc Cert.GlaDpreRefIdeal.main_arg1)
      ∧ r.2.mem ((c.tc : Thread Cert.GlaDpreRefIdeal.nD Cert.GlaDpreRefIdeal.τ).loc Cert.GlaDpreRefIdeal.main_arg2) = m ((c.tc : Thread Cert.GlaDpreRefIdeal.nD Cert.GlaDpreRefIdeal.τ).loc Cert.GlaDpreRefIdeal.main_arg2)
      ∧ r.2.mem ((c.tc : Thread Cert.GlaDpreRefIdeal.nD Cert.GlaDpreRefIdeal.τ).loc Cert.GlaDpreRefIdeal.main_arg3) = m ((c.tc : Thread Cert.GlaDpreRefIdeal.nD Cert.GlaDpreRefIdeal.τ).loc Cert.GlaDpreRefIdeal.main_arg3)
      ∧ r.2.mem ((c.tc : Thread Cert.GlaDpreRefIdeal.nD Cert.GlaDpreRefIdeal.τ).loc Cert.GlaDpreRefIdeal.main_arg4) = m ((c.tc : Thread Cert.GlaDpreRefIdeal.nD Cert.GlaDpreRefIdeal.τ).loc Cert.GlaDpreRefIdeal.main_arg4)
      ∧ r.2.mem ((c.tc : Thread Cert.GlaDpreRefIdeal.nD Cert.GlaDpreRefIdeal.τ).loc Cert.GlaDpreRefIdeal.main_arg5) = m ((c.tc : Thread Cert.GlaDpreRefIdeal.nD Cert.GlaDpreRefIdeal.τ).loc Cert.GlaDpreRefIdeal.main_arg5)
      ∧ r.2.mem ((c.tc : Thread Cert.GlaDpreRefIdeal.nD Cert.GlaDpreRefIdeal.τ).loc Cert.GlaDpreRefIdeal.main_arg6) = m ((c.tc : Thread Cert.GlaDpreRefIdeal.nD Cert.GlaDpreRefIdeal.τ).loc Cert.GlaDpreRefIdeal.main_arg6)
      ∧ r.2.mem ((c.tc : Thread Cert.GlaDpreRefIdeal.nD Cert.GlaDpreRefIdeal.τ).loc Cert.GlaDpreRefIdeal.main_arg7) = m ((c.tc : Thread Cert.GlaDpreRefIdeal.nD Cert.GlaDpreRefIdeal.τ).loc Cert.GlaDpreRefIdeal.main_arg7)
      ∧ r.2.mem ((c.tc : Thread Cert.GlaDpreRefIdeal.nD Cert.GlaDpreRefIdeal.τ).loc Cert.GlaDpreRefIdeal.main_arg8) = m ((c.tc : Thread Cert.GlaDpreRefIdeal.nD Cert.GlaDpreRefIdeal.τ).loc Cert.GlaDpreRefIdeal.main_arg8)
      ∧ r.2.mem ((c.tc : Thread Cert.GlaDpreRefIdeal.nD Cert.GlaDpreRefIdeal.τ).loc Cert.GlaDpreRefIdeal.main_arg9) = m ((c.tc : Thread Cert.GlaDpreRefIdeal.nD Cert.GlaDpreRefIdeal.τ).loc Cert.GlaDpreRefIdeal.main_arg9)
      ∧ r.2.mem ((c.tc : Thread Cert.GlaDpreRefIdeal.nD Cert.GlaDpreRefIdeal.τ).loc Cert.GlaDpreRefIdeal.main_arg10) = m ((c.tc : Thread Cert.GlaDpreRefIdeal.nD Cert.GlaDpreRefIdeal.τ).loc Cert.GlaDpreRefIdeal.main_arg10))
      ∧ r.2.sem = fun _ => 0)

def quiescent_GlaPre [hGlaPre : Cert.GlaPre.Facts] : Prop :=
  ∀ (m : (ℓ : Loc Cert.GlaPre.nD Cert.GlaPre.τ Cert.GlaPre.sig) → Buf (Elt Bits) ℓ) (g : Dev Cert.GlaPre.nD → PrngReg), Pre_GlaPre m →
    θ_run (Cert.GlaPre.defs (F := Bits)) (onTc (τ := Cert.GlaPre.τ) (Cert.GlaPre.main (F := Bits))) ⟨m, fun _ => 0, g⟩ (fun r => (∀ c : Dev Cert.GlaPre.nD,
      r.2.mem ((c.tc : Thread Cert.GlaPre.nD Cert.GlaPre.τ).loc Cert.GlaPre.main_arg0) = m ((c.tc : Thread Cert.GlaPre.nD Cert.GlaPre.τ).loc Cert.GlaPre.main_arg0)
      ∧ r.2.mem ((c.tc : Thread Cert.GlaPre.nD Cert.GlaPre.τ).loc Cert.GlaPre.main_arg1) = m ((c.tc : Thread Cert.GlaPre.nD Cert.GlaPre.τ).loc Cert.GlaPre.main_arg1)
      ∧ r.2.mem ((c.tc : Thread Cert.GlaPre.nD Cert.GlaPre.τ).loc Cert.GlaPre.main_arg2) = m ((c.tc : Thread Cert.GlaPre.nD Cert.GlaPre.τ).loc Cert.GlaPre.main_arg2))
      ∧ r.2.sem = fun _ => 0)

def quiescent_GlaPreIdeal [hGlaPreIdeal : Cert.GlaPreIdeal.Facts] : Prop :=
  ∀ (m : (ℓ : Loc Cert.GlaPreIdeal.nD Cert.GlaPreIdeal.τ Cert.GlaPreIdeal.sig) → Buf (Elt Ideal) ℓ) (g : Dev Cert.GlaPreIdeal.nD → PrngReg), Pre_GlaPreIdeal m →
    θ_run (Cert.GlaPreIdeal.defs (F := Ideal)) (onTc (τ := Cert.GlaPreIdeal.τ) (Cert.GlaPreIdeal.main (F := Ideal))) ⟨m, fun _ => 0, g⟩ (fun r => (∀ c : Dev Cert.GlaPreIdeal.nD,
      r.2.mem ((c.tc : Thread Cert.GlaPreIdeal.nD Cert.GlaPreIdeal.τ).loc Cert.GlaPreIdeal.main_arg0) = m ((c.tc : Thread Cert.GlaPreIdeal.nD Cert.GlaPreIdeal.τ).loc Cert.GlaPreIdeal.main_arg0)
      ∧ r.2.mem ((c.tc : Thread Cert.GlaPreIdeal.nD Cert.GlaPreIdeal.τ).loc Cert.GlaPreIdeal.main_arg1) = m ((c.tc : Thread Cert.GlaPreIdeal.nD Cert.GlaPreIdeal.τ).loc Cert.GlaPreIdeal.main_arg1)
      ∧ r.2.mem ((c.tc : Thread Cert.GlaPreIdeal.nD Cert.GlaPreIdeal.τ).loc Cert.GlaPreIdeal.main_arg2) = m ((c.tc : Thread Cert.GlaPreIdeal.nD Cert.GlaPreIdeal.τ).loc Cert.GlaPreIdeal.main_arg2))
      ∧ r.2.sem = fun _ => 0)

def quiescent_GlaPreRefIdeal [hGlaPreRefIdeal : Cert.GlaPreRefIdeal.Facts] : Prop :=
  ∀ (m : (ℓ : Loc Cert.GlaPreRefIdeal.nD Cert.GlaPreRefIdeal.τ Cert.GlaPreRefIdeal.sig) → Buf (Elt Ideal) ℓ) (g : Dev Cert.GlaPreRefIdeal.nD → PrngReg), Pre_GlaPreRefIdeal m →
    θ_run (Cert.GlaPreRefIdeal.defs (F := Ideal)) (onTc (τ := Cert.GlaPreRefIdeal.τ) (Cert.GlaPreRefIdeal.main (F := Ideal))) ⟨m, fun _ => 0, g⟩ (fun r => (∀ c : Dev Cert.GlaPreRefIdeal.nD,
      r.2.mem ((c.tc : Thread Cert.GlaPreRefIdeal.nD Cert.GlaPreRefIdeal.τ).loc Cert.GlaPreRefIdeal.main_arg0) = m ((c.tc : Thread Cert.GlaPreRefIdeal.nD Cert.GlaPreRefIdeal.τ).loc Cert.GlaPreRefIdeal.main_arg0)
      ∧ r.2.mem ((c.tc : Thread Cert.GlaPreRefIdeal.nD Cert.GlaPreRefIdeal.τ).loc Cert.GlaPreRefIdeal.main_arg1) = m ((c.tc : Thread Cert.GlaPreRefIdeal.nD Cert.GlaPreRefIdeal.τ).loc Cert.GlaPreRefIdeal.main_arg1)
      ∧ r.2.mem ((c.tc : Thread Cert.GlaPreRefIdeal.nD Cert.GlaPreRefIdeal.τ).loc Cert.GlaPreRefIdeal.main_arg2) = m ((c.tc : Thread Cert.GlaPreRefIdeal.nD Cert.GlaPreRefIdeal.τ).loc Cert.GlaPreRefIdeal.main_arg2))
      ∧ r.2.sem = fun _ => 0)

def quiescent_Dconv [hDconv : Cert.Dconv.Facts] : Prop :=
  ∀ (m : (ℓ : Loc Cert.Dconv.nD Cert.Dconv.τ Cert.Dconv.sig) → Buf (Elt Bits) ℓ) (g : Dev Cert.Dconv.nD → PrngReg), Pre_Dconv m →
    θ_run (Cert.Dconv.defs (F := Bits)) (onTc (τ := Cert.Dconv.τ) (Cert.Dconv.main (F := Bits))) ⟨m, fun _ => 0, g⟩ (fun r => (∀ c : Dev Cert.Dconv.nD,
      r.2.mem ((c.tc : Thread Cert.Dconv.nD Cert.Dconv.τ).loc Cert.Dconv.main_arg0) = m ((c.tc : Thread Cert.Dconv.nD Cert.Dconv.τ).loc Cert.Dconv.main_arg0)
      ∧ r.2.mem ((c.tc : Thread Cert.Dconv.nD Cert.Dconv.τ).loc Cert.Dconv.main_arg1) = m ((c.tc : Thread Cert.Dconv.nD Cert.Dconv.τ).loc Cert.Dconv.main_arg1)
      ∧ r.2.mem ((c.tc : Thread Cert.Dconv.nD Cert.Dconv.τ).loc Cert.Dconv.main_arg2) = m ((c.tc : Thread Cert.Dconv.nD Cert.Dconv.τ).loc Cert.Dconv.main_arg2))
      ∧ r.2.sem = fun _ => 0)

def quiescent_DconvIdeal [hDconvIdeal : Cert.DconvIdeal.Facts] : Prop :=
  ∀ (m : (ℓ : Loc Cert.DconvIdeal.nD Cert.DconvIdeal.τ Cert.DconvIdeal.sig) → Buf (Elt Ideal) ℓ) (g : Dev Cert.DconvIdeal.nD → PrngReg), Pre_DconvIdeal m →
    θ_run (Cert.DconvIdeal.defs (F := Ideal)) (onTc (τ := Cert.DconvIdeal.τ) (Cert.DconvIdeal.main (F := Ideal))) ⟨m, fun _ => 0, g⟩ (fun r => (∀ c : Dev Cert.DconvIdeal.nD,
      r.2.mem ((c.tc : Thread Cert.DconvIdeal.nD Cert.DconvIdeal.τ).loc Cert.DconvIdeal.main_arg0) = m ((c.tc : Thread Cert.DconvIdeal.nD Cert.DconvIdeal.τ).loc Cert.DconvIdeal.main_arg0)
      ∧ r.2.mem ((c.tc : Thread Cert.DconvIdeal.nD Cert.DconvIdeal.τ).loc Cert.DconvIdeal.main_arg1) = m ((c.tc : Thread Cert.DconvIdeal.nD Cert.DconvIdeal.τ).loc Cert.DconvIdeal.main_arg1)
      ∧ r.2.mem ((c.tc : Thread Cert.DconvIdeal.nD Cert.DconvIdeal.τ).loc Cert.DconvIdeal.main_arg2) = m ((c.tc : Thread Cert.DconvIdeal.nD Cert.DconvIdeal.τ).loc Cert.DconvIdeal.main_arg2))
      ∧ r.2.sem = fun _ => 0)

def quiescent_DconvRefIdeal [hDconvRefIdeal : Cert.DconvRefIdeal.Facts] : Prop :=
  ∀ (m : (ℓ : Loc Cert.DconvRefIdeal.nD Cert.DconvRefIdeal.τ Cert.DconvRefIdeal.sig) → Buf (Elt Ideal) ℓ) (g : Dev Cert.DconvRefIdeal.nD → PrngReg), Pre_DconvRefIdeal m →
    θ_run (Cert.DconvRefIdeal.defs (F := Ideal)) (onTc (τ := Cert.DconvRefIdeal.τ) (Cert.DconvRefIdeal.main (F := Ideal))) ⟨m, fun _ => 0, g⟩ (fun r => (∀ c : Dev Cert.DconvRefIdeal.nD,
      r.2.mem ((c.tc : Thread Cert.DconvRefIdeal.nD Cert.DconvRefIdeal.τ).loc Cert.DconvRefIdeal.main_arg0) = m ((c.tc : Thread Cert.DconvRefIdeal.nD Cert.DconvRefIdeal.τ).loc Cert.DconvRefIdeal.main_arg0)
      ∧ r.2.mem ((c.tc : Thread Cert.DconvRefIdeal.nD Cert.DconvRefIdeal.τ).loc Cert.DconvRefIdeal.main_arg1) = m ((c.tc : Thread Cert.DconvRefIdeal.nD Cert.DconvRefIdeal.τ).loc Cert.DconvRefIdeal.main_arg1)
      ∧ r.2.mem ((c.tc : Thread Cert.DconvRefIdeal.nD Cert.DconvRefIdeal.τ).loc Cert.DconvRefIdeal.main_arg2) = m ((c.tc : Thread Cert.DconvRefIdeal.nD Cert.DconvRefIdeal.τ).loc Cert.DconvRefIdeal.main_arg2))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_GlaPost [hGlaPost : Cert.GlaPost.Facts] : Prop :=
  ∀ (m : (ℓ : Loc Cert.GlaPost.nD Cert.GlaPost.τ Cert.GlaPost.sig) → Buf (Elt Bits) ℓ) (g : Dev Cert.GlaPost.nD → PrngReg), Pre_GlaPost m →
    θ_run (Cert.GlaPost.defs (F := Bits)) (onTc (τ := Cert.GlaPost.τ) (Cert.GlaPost.main (F := Bits))) ⟨m, fun _ => 0, g⟩ (fun r => (∀ c : Dev Cert.GlaPost.nD,
      r.2.mem ((c.tc : Thread Cert.GlaPost.nD Cert.GlaPost.τ).loc Cert.GlaPost.main_arg0) = m ((c.tc : Thread Cert.GlaPost.nD Cert.GlaPost.τ).loc Cert.GlaPost.main_arg0)
      ∧ r.2.mem ((c.tc : Thread Cert.GlaPost.nD Cert.GlaPost.τ).loc Cert.GlaPost.main_arg1) = m ((c.tc : Thread Cert.GlaPost.nD Cert.GlaPost.τ).loc Cert.GlaPost.main_arg1)
      ∧ r.2.mem ((c.tc : Thread Cert.GlaPost.nD Cert.GlaPost.τ).loc Cert.GlaPost.main_arg2) = m ((c.tc : Thread Cert.GlaPost.nD Cert.GlaPost.τ).loc Cert.GlaPost.main_arg2)
      ∧ r.2.mem ((c.tc : Thread Cert.GlaPost.nD Cert.GlaPost.τ).loc Cert.GlaPost.main_arg3) = m ((c.tc : Thread Cert.GlaPost.nD Cert.GlaPost.τ).loc Cert.GlaPost.main_arg3))
      ∧ r.2.sem = fun _ => 0)

def quiescent_GlaPostIdeal [hGlaPostIdeal : Cert.GlaPostIdeal.Facts] : Prop :=
  ∀ (m : (ℓ : Loc Cert.GlaPostIdeal.nD Cert.GlaPostIdeal.τ Cert.GlaPostIdeal.sig) → Buf (Elt Ideal) ℓ) (g : Dev Cert.GlaPostIdeal.nD → PrngReg), Pre_GlaPostIdeal m →
    θ_run (Cert.GlaPostIdeal.defs (F := Ideal)) (onTc (τ := Cert.GlaPostIdeal.τ) (Cert.GlaPostIdeal.main (F := Ideal))) ⟨m, fun _ => 0, g⟩ (fun r => (∀ c : Dev Cert.GlaPostIdeal.nD,
      r.2.mem ((c.tc : Thread Cert.GlaPostIdeal.nD Cert.GlaPostIdeal.τ).loc Cert.GlaPostIdeal.main_arg0) = m ((c.tc : Thread Cert.GlaPostIdeal.nD Cert.GlaPostIdeal.τ).loc Cert.GlaPostIdeal.main_arg0)
      ∧ r.2.mem ((c.tc : Thread Cert.GlaPostIdeal.nD Cert.GlaPostIdeal.τ).loc Cert.GlaPostIdeal.main_arg1) = m ((c.tc : Thread Cert.GlaPostIdeal.nD Cert.GlaPostIdeal.τ).loc Cert.GlaPostIdeal.main_arg1)
      ∧ r.2.mem ((c.tc : Thread Cert.GlaPostIdeal.nD Cert.GlaPostIdeal.τ).loc Cert.GlaPostIdeal.main_arg2) = m ((c.tc : Thread Cert.GlaPostIdeal.nD Cert.GlaPostIdeal.τ).loc Cert.GlaPostIdeal.main_arg2)
      ∧ r.2.mem ((c.tc : Thread Cert.GlaPostIdeal.nD Cert.GlaPostIdeal.τ).loc Cert.GlaPostIdeal.main_arg3) = m ((c.tc : Thread Cert.GlaPostIdeal.nD Cert.GlaPostIdeal.τ).loc Cert.GlaPostIdeal.main_arg3))
      ∧ r.2.sem = fun _ => 0)

def quiescent_GlaPostRefIdeal [hGlaPostRefIdeal : Cert.GlaPostRefIdeal.Facts] : Prop :=
  ∀ (m : (ℓ : Loc Cert.GlaPostRefIdeal.nD Cert.GlaPostRefIdeal.τ Cert.GlaPostRefIdeal.sig) → Buf (Elt Ideal) ℓ) (g : Dev Cert.GlaPostRefIdeal.nD → PrngReg), Pre_GlaPostRefIdeal m →
    θ_run (Cert.GlaPostRefIdeal.defs (F := Ideal)) (onTc (τ := Cert.GlaPostRefIdeal.τ) (Cert.GlaPostRefIdeal.main (F := Ideal))) ⟨m, fun _ => 0, g⟩ (fun r => (∀ c : Dev Cert.GlaPostRefIdeal.nD,
      r.2.mem ((c.tc : Thread Cert.GlaPostRefIdeal.nD Cert.GlaPostRefIdeal.τ).loc Cert.GlaPostRefIdeal.main_arg0) = m ((c.tc : Thread Cert.GlaPostRefIdeal.nD Cert.GlaPostRefIdeal.τ).loc Cert.GlaPostRefIdeal.main_arg0)
      ∧ r.2.mem ((c.tc : Thread Cert.GlaPostRefIdeal.nD Cert.GlaPostRefIdeal.τ).loc Cert.GlaPostRefIdeal.main_arg1) = m ((c.tc : Thread Cert.GlaPostRefIdeal.nD Cert.GlaPostRefIdeal.τ).loc Cert.GlaPostRefIdeal.main_arg1)
      ∧ r.2.mem ((c.tc : Thread Cert.GlaPostRefIdeal.nD Cert.GlaPostRefIdeal.τ).loc Cert.GlaPostRefIdeal.main_arg2) = m ((c.tc : Thread Cert.GlaPostRefIdeal.nD Cert.GlaPostRefIdeal.τ).loc Cert.GlaPostRefIdeal.main_arg2)
      ∧ r.2.mem ((c.tc : Thread Cert.GlaPostRefIdeal.nD Cert.GlaPostRefIdeal.τ).loc Cert.GlaPostRefIdeal.main_arg3) = m ((c.tc : Thread Cert.GlaPostRefIdeal.nD Cert.GlaPostRefIdeal.τ).loc Cert.GlaPostRefIdeal.main_arg3))
      ∧ r.2.sem = fun _ => 0)

def quiescent_GlaDpost [hGlaDpost : Cert.GlaDpost.Facts] : Prop :=
  ∀ (m : (ℓ : Loc Cert.GlaDpost.nD Cert.GlaDpost.τ Cert.GlaDpost.sig) → Buf (Elt Bits) ℓ) (g : Dev Cert.GlaDpost.nD → PrngReg), Pre_GlaDpost m →
    θ_run (Cert.GlaDpost.defs (F := Bits)) (onTc (τ := Cert.GlaDpost.τ) (Cert.GlaDpost.main (F := Bits))) ⟨m, fun _ => 0, g⟩ (fun r => (∀ c : Dev Cert.GlaDpost.nD,
      r.2.mem ((c.tc : Thread Cert.GlaDpost.nD Cert.GlaDpost.τ).loc Cert.GlaDpost.main_arg0) = m ((c.tc : Thread Cert.GlaDpost.nD Cert.GlaDpost.τ).loc Cert.GlaDpost.main_arg0)
      ∧ r.2.mem ((c.tc : Thread Cert.GlaDpost.nD Cert.GlaDpost.τ).loc Cert.GlaDpost.main_arg1) = m ((c.tc : Thread Cert.GlaDpost.nD Cert.GlaDpost.τ).loc Cert.GlaDpost.main_arg1)
      ∧ r.2.mem ((c.tc : Thread Cert.GlaDpost.nD Cert.GlaDpost.τ).loc Cert.GlaDpost.main_arg2) = m ((c.tc : Thread Cert.GlaDpost.nD Cert.GlaDpost.τ).loc Cert.GlaDpost.main_arg2)
      ∧ r.2.mem ((c.tc : Thread Cert.GlaDpost.nD Cert.GlaDpost.τ).loc Cert.GlaDpost.main_arg3) = m ((c.tc : Thread Cert.GlaDpost.nD Cert.GlaDpost.τ).loc Cert.GlaDpost.main_arg3)
      ∧ r.2.mem ((c.tc : Thread Cert.GlaDpost.nD Cert.GlaDpost.τ).loc Cert.GlaDpost.main_arg4) = m ((c.tc : Thread Cert.GlaDpost.nD Cert.GlaDpost.τ).loc Cert.GlaDpost.main_arg4))
      ∧ r.2.sem = fun _ => 0)

def quiescent_GlaDpostIdeal [hGlaDpostIdeal : Cert.GlaDpostIdeal.Facts] : Prop :=
  ∀ (m : (ℓ : Loc Cert.GlaDpostIdeal.nD Cert.GlaDpostIdeal.τ Cert.GlaDpostIdeal.sig) → Buf (Elt Ideal) ℓ) (g : Dev Cert.GlaDpostIdeal.nD → PrngReg), Pre_GlaDpostIdeal m →
    θ_run (Cert.GlaDpostIdeal.defs (F := Ideal)) (onTc (τ := Cert.GlaDpostIdeal.τ) (Cert.GlaDpostIdeal.main (F := Ideal))) ⟨m, fun _ => 0, g⟩ (fun r => (∀ c : Dev Cert.GlaDpostIdeal.nD,
      r.2.mem ((c.tc : Thread Cert.GlaDpostIdeal.nD Cert.GlaDpostIdeal.τ).loc Cert.GlaDpostIdeal.main_arg0) = m ((c.tc : Thread Cert.GlaDpostIdeal.nD Cert.GlaDpostIdeal.τ).loc Cert.GlaDpostIdeal.main_arg0)
      ∧ r.2.mem ((c.tc : Thread Cert.GlaDpostIdeal.nD Cert.GlaDpostIdeal.τ).loc Cert.GlaDpostIdeal.main_arg1) = m ((c.tc : Thread Cert.GlaDpostIdeal.nD Cert.GlaDpostIdeal.τ).loc Cert.GlaDpostIdeal.main_arg1)
      ∧ r.2.mem ((c.tc : Thread Cert.GlaDpostIdeal.nD Cert.GlaDpostIdeal.τ).loc Cert.GlaDpostIdeal.main_arg2) = m ((c.tc : Thread Cert.GlaDpostIdeal.nD Cert.GlaDpostIdeal.τ).loc Cert.GlaDpostIdeal.main_arg2)
      ∧ r.2.mem ((c.tc : Thread Cert.GlaDpostIdeal.nD Cert.GlaDpostIdeal.τ).loc Cert.GlaDpostIdeal.main_arg3) = m ((c.tc : Thread Cert.GlaDpostIdeal.nD Cert.GlaDpostIdeal.τ).loc Cert.GlaDpostIdeal.main_arg3)
      ∧ r.2.mem ((c.tc : Thread Cert.GlaDpostIdeal.nD Cert.GlaDpostIdeal.τ).loc Cert.GlaDpostIdeal.main_arg4) = m ((c.tc : Thread Cert.GlaDpostIdeal.nD Cert.GlaDpostIdeal.τ).loc Cert.GlaDpostIdeal.main_arg4))
      ∧ r.2.sem = fun _ => 0)

def quiescent_GlaDpostRefIdeal [hGlaDpostRefIdeal : Cert.GlaDpostRefIdeal.Facts] : Prop :=
  ∀ (m : (ℓ : Loc Cert.GlaDpostRefIdeal.nD Cert.GlaDpostRefIdeal.τ Cert.GlaDpostRefIdeal.sig) → Buf (Elt Ideal) ℓ) (g : Dev Cert.GlaDpostRefIdeal.nD → PrngReg), Pre_GlaDpostRefIdeal m →
    θ_run (Cert.GlaDpostRefIdeal.defs (F := Ideal)) (onTc (τ := Cert.GlaDpostRefIdeal.τ) (Cert.GlaDpostRefIdeal.main (F := Ideal))) ⟨m, fun _ => 0, g⟩ (fun r => (∀ c : Dev Cert.GlaDpostRefIdeal.nD,
      r.2.mem ((c.tc : Thread Cert.GlaDpostRefIdeal.nD Cert.GlaDpostRefIdeal.τ).loc Cert.GlaDpostRefIdeal.main_arg0) = m ((c.tc : Thread Cert.GlaDpostRefIdeal.nD Cert.GlaDpostRefIdeal.τ).loc Cert.GlaDpostRefIdeal.main_arg0)
      ∧ r.2.mem ((c.tc : Thread Cert.GlaDpostRefIdeal.nD Cert.GlaDpostRefIdeal.τ).loc Cert.GlaDpostRefIdeal.main_arg1) = m ((c.tc : Thread Cert.GlaDpostRefIdeal.nD Cert.GlaDpostRefIdeal.τ).loc Cert.GlaDpostRefIdeal.main_arg1)
      ∧ r.2.mem ((c.tc : Thread Cert.GlaDpostRefIdeal.nD Cert.GlaDpostRefIdeal.τ).loc Cert.GlaDpostRefIdeal.main_arg2) = m ((c.tc : Thread Cert.GlaDpostRefIdeal.nD Cert.GlaDpostRefIdeal.τ).loc Cert.GlaDpostRefIdeal.main_arg2)
      ∧ r.2.mem ((c.tc : Thread Cert.GlaDpostRefIdeal.nD Cert.GlaDpostRefIdeal.τ).loc Cert.GlaDpostRefIdeal.main_arg3) = m ((c.tc : Thread Cert.GlaDpostRefIdeal.nD Cert.GlaDpostRefIdeal.τ).loc Cert.GlaDpostRefIdeal.main_arg3)
      ∧ r.2.mem ((c.tc : Thread Cert.GlaDpostRefIdeal.nD Cert.GlaDpostRefIdeal.τ).loc Cert.GlaDpostRefIdeal.main_arg4) = m ((c.tc : Thread Cert.GlaDpostRefIdeal.nD Cert.GlaDpostRefIdeal.τ).loc Cert.GlaDpostRefIdeal.main_arg4))
      ∧ r.2.sem = fun _ => 0)

def quiescent_Dgates [hDgates : Cert.Dgates.Facts] : Prop :=
  ∀ (m : (ℓ : Loc Cert.Dgates.nD Cert.Dgates.τ Cert.Dgates.sig) → Buf (Elt Bits) ℓ) (g : Dev Cert.Dgates.nD → PrngReg), Pre_Dgates m →
    θ_run (Cert.Dgates.defs (F := Bits)) (onTc (τ := Cert.Dgates.τ) (Cert.Dgates.main (F := Bits))) ⟨m, fun _ => 0, g⟩ (fun r => (∀ c : Dev Cert.Dgates.nD,
      r.2.mem ((c.tc : Thread Cert.Dgates.nD Cert.Dgates.τ).loc Cert.Dgates.main_arg0) = m ((c.tc : Thread Cert.Dgates.nD Cert.Dgates.τ).loc Cert.Dgates.main_arg0)
      ∧ r.2.mem ((c.tc : Thread Cert.Dgates.nD Cert.Dgates.τ).loc Cert.Dgates.main_arg1) = m ((c.tc : Thread Cert.Dgates.nD Cert.Dgates.τ).loc Cert.Dgates.main_arg1)
      ∧ r.2.mem ((c.tc : Thread Cert.Dgates.nD Cert.Dgates.τ).loc Cert.Dgates.main_arg2) = m ((c.tc : Thread Cert.Dgates.nD Cert.Dgates.τ).loc Cert.Dgates.main_arg2)
      ∧ r.2.mem ((c.tc : Thread Cert.Dgates.nD Cert.Dgates.τ).loc Cert.Dgates.main_arg3) = m ((c.tc : Thread Cert.Dgates.nD Cert.Dgates.τ).loc Cert.Dgates.main_arg3)
      ∧ r.2.mem ((c.tc : Thread Cert.Dgates.nD Cert.Dgates.τ).loc Cert.Dgates.main_arg4) = m ((c.tc : Thread Cert.Dgates.nD Cert.Dgates.τ).loc Cert.Dgates.main_arg4)
      ∧ r.2.mem ((c.tc : Thread Cert.Dgates.nD Cert.Dgates.τ).loc Cert.Dgates.main_arg5) = m ((c.tc : Thread Cert.Dgates.nD Cert.Dgates.τ).loc Cert.Dgates.main_arg5)
      ∧ r.2.mem ((c.tc : Thread Cert.Dgates.nD Cert.Dgates.τ).loc Cert.Dgates.main_arg6) = m ((c.tc : Thread Cert.Dgates.nD Cert.Dgates.τ).loc Cert.Dgates.main_arg6)
      ∧ r.2.mem ((c.tc : Thread Cert.Dgates.nD Cert.Dgates.τ).loc Cert.Dgates.main_arg7) = m ((c.tc : Thread Cert.Dgates.nD Cert.Dgates.τ).loc Cert.Dgates.main_arg7)
      ∧ r.2.mem ((c.tc : Thread Cert.Dgates.nD Cert.Dgates.τ).loc Cert.Dgates.main_arg8) = m ((c.tc : Thread Cert.Dgates.nD Cert.Dgates.τ).loc Cert.Dgates.main_arg8)
      ∧ r.2.mem ((c.tc : Thread Cert.Dgates.nD Cert.Dgates.τ).loc Cert.Dgates.main_arg9) = m ((c.tc : Thread Cert.Dgates.nD Cert.Dgates.τ).loc Cert.Dgates.main_arg9))
      ∧ r.2.sem = fun _ => 0)

def quiescent_DgatesIdeal [hDgatesIdeal : Cert.DgatesIdeal.Facts] : Prop :=
  ∀ (m : (ℓ : Loc Cert.DgatesIdeal.nD Cert.DgatesIdeal.τ Cert.DgatesIdeal.sig) → Buf (Elt Ideal) ℓ) (g : Dev Cert.DgatesIdeal.nD → PrngReg), Pre_DgatesIdeal m →
    θ_run (Cert.DgatesIdeal.defs (F := Ideal)) (onTc (τ := Cert.DgatesIdeal.τ) (Cert.DgatesIdeal.main (F := Ideal))) ⟨m, fun _ => 0, g⟩ (fun r => (∀ c : Dev Cert.DgatesIdeal.nD,
      r.2.mem ((c.tc : Thread Cert.DgatesIdeal.nD Cert.DgatesIdeal.τ).loc Cert.DgatesIdeal.main_arg0) = m ((c.tc : Thread Cert.DgatesIdeal.nD Cert.DgatesIdeal.τ).loc Cert.DgatesIdeal.main_arg0)
      ∧ r.2.mem ((c.tc : Thread Cert.DgatesIdeal.nD Cert.DgatesIdeal.τ).loc Cert.DgatesIdeal.main_arg1) = m ((c.tc : Thread Cert.DgatesIdeal.nD Cert.DgatesIdeal.τ).loc Cert.DgatesIdeal.main_arg1)
      ∧ r.2.mem ((c.tc : Thread Cert.DgatesIdeal.nD Cert.DgatesIdeal.τ).loc Cert.DgatesIdeal.main_arg2) = m ((c.tc : Thread Cert.DgatesIdeal.nD Cert.DgatesIdeal.τ).loc Cert.DgatesIdeal.main_arg2)
      ∧ r.2.mem ((c.tc : Thread Cert.DgatesIdeal.nD Cert.DgatesIdeal.τ).loc Cert.DgatesIdeal.main_arg3) = m ((c.tc : Thread Cert.DgatesIdeal.nD Cert.DgatesIdeal.τ).loc Cert.DgatesIdeal.main_arg3)
      ∧ r.2.mem ((c.tc : Thread Cert.DgatesIdeal.nD Cert.DgatesIdeal.τ).loc Cert.DgatesIdeal.main_arg4) = m ((c.tc : Thread Cert.DgatesIdeal.nD Cert.DgatesIdeal.τ).loc Cert.DgatesIdeal.main_arg4)
      ∧ r.2.mem ((c.tc : Thread Cert.DgatesIdeal.nD Cert.DgatesIdeal.τ).loc Cert.DgatesIdeal.main_arg5) = m ((c.tc : Thread Cert.DgatesIdeal.nD Cert.DgatesIdeal.τ).loc Cert.DgatesIdeal.main_arg5)
      ∧ r.2.mem ((c.tc : Thread Cert.DgatesIdeal.nD Cert.DgatesIdeal.τ).loc Cert.DgatesIdeal.main_arg6) = m ((c.tc : Thread Cert.DgatesIdeal.nD Cert.DgatesIdeal.τ).loc Cert.DgatesIdeal.main_arg6)
      ∧ r.2.mem ((c.tc : Thread Cert.DgatesIdeal.nD Cert.DgatesIdeal.τ).loc Cert.DgatesIdeal.main_arg7) = m ((c.tc : Thread Cert.DgatesIdeal.nD Cert.DgatesIdeal.τ).loc Cert.DgatesIdeal.main_arg7)
      ∧ r.2.mem ((c.tc : Thread Cert.DgatesIdeal.nD Cert.DgatesIdeal.τ).loc Cert.DgatesIdeal.main_arg8) = m ((c.tc : Thread Cert.DgatesIdeal.nD Cert.DgatesIdeal.τ).loc Cert.DgatesIdeal.main_arg8)
      ∧ r.2.mem ((c.tc : Thread Cert.DgatesIdeal.nD Cert.DgatesIdeal.τ).loc Cert.DgatesIdeal.main_arg9) = m ((c.tc : Thread Cert.DgatesIdeal.nD Cert.DgatesIdeal.τ).loc Cert.DgatesIdeal.main_arg9))
      ∧ r.2.sem = fun _ => 0)

def quiescent_DgatesIdeal_pre_finite_gates [hDgatesIdeal : Cert.DgatesIdeal.Facts] [hPre_finite_gates : Cert.Pre_finite_gates.Facts] : Prop :=
  ∀ (m : (ℓ : Loc Cert.DgatesIdeal.nD Cert.DgatesIdeal.τ Cert.DgatesIdeal.sig) → Buf (Elt Ideal) ℓ) (g : Dev Cert.DgatesIdeal.nD → PrngReg), Pre_DgatesIdeal_finite_gates m →
    θ_run (Cert.DgatesIdeal.defs (F := Ideal)) (onTc (τ := Cert.DgatesIdeal.τ) (Cert.DgatesIdeal.main (F := Ideal))) ⟨m, fun _ => 0, g⟩ (fun r => (∀ c : Dev Cert.DgatesIdeal.nD,
      r.2.mem ((c.tc : Thread Cert.DgatesIdeal.nD Cert.DgatesIdeal.τ).loc Cert.DgatesIdeal.main_arg0) = m ((c.tc : Thread Cert.DgatesIdeal.nD Cert.DgatesIdeal.τ).loc Cert.DgatesIdeal.main_arg0)
      ∧ r.2.mem ((c.tc : Thread Cert.DgatesIdeal.nD Cert.DgatesIdeal.τ).loc Cert.DgatesIdeal.main_arg1) = m ((c.tc : Thread Cert.DgatesIdeal.nD Cert.DgatesIdeal.τ).loc Cert.DgatesIdeal.main_arg1)
      ∧ r.2.mem ((c.tc : Thread Cert.DgatesIdeal.nD Cert.DgatesIdeal.τ).loc Cert.DgatesIdeal.main_arg2) = m ((c.tc : Thread Cert.DgatesIdeal.nD Cert.DgatesIdeal.τ).loc Cert.DgatesIdeal.main_arg2)
      ∧ r.2.mem ((c.tc : Thread Cert.DgatesIdeal.nD Cert.DgatesIdeal.τ).loc Cert.DgatesIdeal.main_arg3) = m ((c.tc : Thread Cert.DgatesIdeal.nD Cert.DgatesIdeal.τ).loc Cert.DgatesIdeal.main_arg3)
      ∧ r.2.mem ((c.tc : Thread Cert.DgatesIdeal.nD Cert.DgatesIdeal.τ).loc Cert.DgatesIdeal.main_arg4) = m ((c.tc : Thread Cert.DgatesIdeal.nD Cert.DgatesIdeal.τ).loc Cert.DgatesIdeal.main_arg4)
      ∧ r.2.mem ((c.tc : Thread Cert.DgatesIdeal.nD Cert.DgatesIdeal.τ).loc Cert.DgatesIdeal.main_arg5) = m ((c.tc : Thread Cert.DgatesIdeal.nD Cert.DgatesIdeal.τ).loc Cert.DgatesIdeal.main_arg5)
      ∧ r.2.mem ((c.tc : Thread Cert.DgatesIdeal.nD Cert.DgatesIdeal.τ).loc Cert.DgatesIdeal.main_arg6) = m ((c.tc : Thread Cert.DgatesIdeal.nD Cert.DgatesIdeal.τ).loc Cert.DgatesIdeal.main_arg6)
      ∧ r.2.mem ((c.tc : Thread Cert.DgatesIdeal.nD Cert.DgatesIdeal.τ).loc Cert.DgatesIdeal.main_arg7) = m ((c.tc : Thread Cert.DgatesIdeal.nD Cert.DgatesIdeal.τ).loc Cert.DgatesIdeal.main_arg7)
      ∧ r.2.mem ((c.tc : Thread Cert.DgatesIdeal.nD Cert.DgatesIdeal.τ).loc Cert.DgatesIdeal.main_arg8) = m ((c.tc : Thread Cert.DgatesIdeal.nD Cert.DgatesIdeal.τ).loc Cert.DgatesIdeal.main_arg8)
      ∧ r.2.mem ((c.tc : Thread Cert.DgatesIdeal.nD Cert.DgatesIdeal.τ).loc Cert.DgatesIdeal.main_arg9) = m ((c.tc : Thread Cert.DgatesIdeal.nD Cert.DgatesIdeal.τ).loc Cert.DgatesIdeal.main_arg9))
      ∧ r.2.sem = fun _ => 0)

def quiescent_DgatesRefIdeal [hDgatesRefIdeal : Cert.DgatesRefIdeal.Facts] : Prop :=
  ∀ (m : (ℓ : Loc Cert.DgatesRefIdeal.nD Cert.DgatesRefIdeal.τ Cert.DgatesRefIdeal.sig) → Buf (Elt Ideal) ℓ) (g : Dev Cert.DgatesRefIdeal.nD → PrngReg), Pre_DgatesRefIdeal m →
    θ_run (Cert.DgatesRefIdeal.defs (F := Ideal)) (onTc (τ := Cert.DgatesRefIdeal.τ) (Cert.DgatesRefIdeal.main (F := Ideal))) ⟨m, fun _ => 0, g⟩ (fun r => (∀ c : Dev Cert.DgatesRefIdeal.nD,
      r.2.mem ((c.tc : Thread Cert.DgatesRefIdeal.nD Cert.DgatesRefIdeal.τ).loc Cert.DgatesRefIdeal.main_arg0) = m ((c.tc : Thread Cert.DgatesRefIdeal.nD Cert.DgatesRefIdeal.τ).loc Cert.DgatesRefIdeal.main_arg0)
      ∧ r.2.mem ((c.tc : Thread Cert.DgatesRefIdeal.nD Cert.DgatesRefIdeal.τ).loc Cert.DgatesRefIdeal.main_arg1) = m ((c.tc : Thread Cert.DgatesRefIdeal.nD Cert.DgatesRefIdeal.τ).loc Cert.DgatesRefIdeal.main_arg1)
      ∧ r.2.mem ((c.tc : Thread Cert.DgatesRefIdeal.nD Cert.DgatesRefIdeal.τ).loc Cert.DgatesRefIdeal.main_arg2) = m ((c.tc : Thread Cert.DgatesRefIdeal.nD Cert.DgatesRefIdeal.τ).loc Cert.DgatesRefIdeal.main_arg2)
      ∧ r.2.mem ((c.tc : Thread Cert.DgatesRefIdeal.nD Cert.DgatesRefIdeal.τ).loc Cert.DgatesRefIdeal.main_arg3) = m ((c.tc : Thread Cert.DgatesRefIdeal.nD Cert.DgatesRefIdeal.τ).loc Cert.DgatesRefIdeal.main_arg3)
      ∧ r.2.mem ((c.tc : Thread Cert.DgatesRefIdeal.nD Cert.DgatesRefIdeal.τ).loc Cert.DgatesRefIdeal.main_arg4) = m ((c.tc : Thread Cert.DgatesRefIdeal.nD Cert.DgatesRefIdeal.τ).loc Cert.DgatesRefIdeal.main_arg4)
      ∧ r.2.mem ((c.tc : Thread Cert.DgatesRefIdeal.nD Cert.DgatesRefIdeal.τ).loc Cert.DgatesRefIdeal.main_arg5) = m ((c.tc : Thread Cert.DgatesRefIdeal.nD Cert.DgatesRefIdeal.τ).loc Cert.DgatesRefIdeal.main_arg5)
      ∧ r.2.mem ((c.tc : Thread Cert.DgatesRefIdeal.nD Cert.DgatesRefIdeal.τ).loc Cert.DgatesRefIdeal.main_arg6) = m ((c.tc : Thread Cert.DgatesRefIdeal.nD Cert.DgatesRefIdeal.τ).loc Cert.DgatesRefIdeal.main_arg6)
      ∧ r.2.mem ((c.tc : Thread Cert.DgatesRefIdeal.nD Cert.DgatesRefIdeal.τ).loc Cert.DgatesRefIdeal.main_arg7) = m ((c.tc : Thread Cert.DgatesRefIdeal.nD Cert.DgatesRefIdeal.τ).loc Cert.DgatesRefIdeal.main_arg7)
      ∧ r.2.mem ((c.tc : Thread Cert.DgatesRefIdeal.nD Cert.DgatesRefIdeal.τ).loc Cert.DgatesRefIdeal.main_arg8) = m ((c.tc : Thread Cert.DgatesRefIdeal.nD Cert.DgatesRefIdeal.τ).loc Cert.DgatesRefIdeal.main_arg8)
      ∧ r.2.mem ((c.tc : Thread Cert.DgatesRefIdeal.nD Cert.DgatesRefIdeal.τ).loc Cert.DgatesRefIdeal.main_arg9) = m ((c.tc : Thread Cert.DgatesRefIdeal.nD Cert.DgatesRefIdeal.τ).loc Cert.DgatesRefIdeal.main_arg9))
      ∧ r.2.sem = fun _ => 0)

def quiescent_DgatesRefIdeal_pre_finite_gates [hDgatesRefIdeal : Cert.DgatesRefIdeal.Facts] [hPre_finite_gates : Cert.Pre_finite_gates.Facts] : Prop :=
  ∀ (m : (ℓ : Loc Cert.DgatesRefIdeal.nD Cert.DgatesRefIdeal.τ Cert.DgatesRefIdeal.sig) → Buf (Elt Ideal) ℓ) (g : Dev Cert.DgatesRefIdeal.nD → PrngReg), Pre_DgatesRefIdeal_finite_gates m →
    θ_run (Cert.DgatesRefIdeal.defs (F := Ideal)) (onTc (τ := Cert.DgatesRefIdeal.τ) (Cert.DgatesRefIdeal.main (F := Ideal))) ⟨m, fun _ => 0, g⟩ (fun r => (∀ c : Dev Cert.DgatesRefIdeal.nD,
      r.2.mem ((c.tc : Thread Cert.DgatesRefIdeal.nD Cert.DgatesRefIdeal.τ).loc Cert.DgatesRefIdeal.main_arg0) = m ((c.tc : Thread Cert.DgatesRefIdeal.nD Cert.DgatesRefIdeal.τ).loc Cert.DgatesRefIdeal.main_arg0)
      ∧ r.2.mem ((c.tc : Thread Cert.DgatesRefIdeal.nD Cert.DgatesRefIdeal.τ).loc Cert.DgatesRefIdeal.main_arg1) = m ((c.tc : Thread Cert.DgatesRefIdeal.nD Cert.DgatesRefIdeal.τ).loc Cert.DgatesRefIdeal.main_arg1)
      ∧ r.2.mem ((c.tc : Thread Cert.DgatesRefIdeal.nD Cert.DgatesRefIdeal.τ).loc Cert.DgatesRefIdeal.main_arg2) = m ((c.tc : Thread Cert.DgatesRefIdeal.nD Cert.DgatesRefIdeal.τ).loc Cert.DgatesRefIdeal.main_arg2)
      ∧ r.2.mem ((c.tc : Thread Cert.DgatesRefIdeal.nD Cert.DgatesRefIdeal.τ).loc Cert.DgatesRefIdeal.main_arg3) = m ((c.tc : Thread Cert.DgatesRefIdeal.nD Cert.DgatesRefIdeal.τ).loc Cert.DgatesRefIdeal.main_arg3)
      ∧ r.2.mem ((c.tc : Thread Cert.DgatesRefIdeal.nD Cert.DgatesRefIdeal.τ).loc Cert.DgatesRefIdeal.main_arg4) = m ((c.tc : Thread Cert.DgatesRefIdeal.nD Cert.DgatesRefIdeal.τ).loc Cert.DgatesRefIdeal.main_arg4)
      ∧ r.2.mem ((c.tc : Thread Cert.DgatesRefIdeal.nD Cert.DgatesRefIdeal.τ).loc Cert.DgatesRefIdeal.main_arg5) = m ((c.tc : Thread Cert.DgatesRefIdeal.nD Cert.DgatesRefIdeal.τ).loc Cert.DgatesRefIdeal.main_arg5)
      ∧ r.2.mem ((c.tc : Thread Cert.DgatesRefIdeal.nD Cert.DgatesRefIdeal.τ).loc Cert.DgatesRefIdeal.main_arg6) = m ((c.tc : Thread Cert.DgatesRefIdeal.nD Cert.DgatesRefIdeal.τ).loc Cert.DgatesRefIdeal.main_arg6)
      ∧ r.2.mem ((c.tc : Thread Cert.DgatesRefIdeal.nD Cert.DgatesRefIdeal.τ).loc Cert.DgatesRefIdeal.main_arg7) = m ((c.tc : Thread Cert.DgatesRefIdeal.nD Cert.DgatesRefIdeal.τ).loc Cert.DgatesRefIdeal.main_arg7)
      ∧ r.2.mem ((c.tc : Thread Cert.DgatesRefIdeal.nD Cert.DgatesRefIdeal.τ).loc Cert.DgatesRefIdeal.main_arg8) = m ((c.tc : Thread Cert.DgatesRefIdeal.nD Cert.DgatesRefIdeal.τ).loc Cert.DgatesRefIdeal.main_arg8)
      ∧ r.2.mem ((c.tc : Thread Cert.DgatesRefIdeal.nD Cert.DgatesRefIdeal.τ).loc Cert.DgatesRefIdeal.main_arg9) = m ((c.tc : Thread Cert.DgatesRefIdeal.nD Cert.DgatesRefIdeal.τ).loc Cert.DgatesRefIdeal.main_arg9))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3)
      ∧ r.2.mem ((c.tc : Thread Cert.Gates.nD Cert.Gates.τ).loc Cert.Gates.main_arg4) = m ((c.tc : Thread Cert.Gates.nD Cert.Gates.τ).loc Cert.Gates.main_arg4)
      ∧ r.2.mem ((c.tc : Thread Cert.Gates.nD Cert.Gates.τ).loc Cert.Gates.main_arg5) = m ((c.tc : Thread Cert.Gates.nD Cert.Gates.τ).loc Cert.Gates.main_arg5))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
      ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5))
      ∧ r.2.sem = fun _ => 0)

def quiescent_GatesIdeal_pre_finite_decay [hGatesIdeal : Cert.GatesIdeal.Facts] [hPre_finite_decay : Cert.Pre_finite_decay.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal_finite_decay m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
      ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5))
      ∧ r.2.sem = fun _ => 0)

def quiescent_GatesRefIdeal [hGatesRefIdeal : Cert.GatesRefIdeal.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3)
      ∧ r.2.mem ((c.tc : Thread Cert.GatesRefIdeal.nD Cert.GatesRefIdeal.τ).loc Cert.GatesRefIdeal.main_arg4) = m ((c.tc : Thread Cert.GatesRefIdeal.nD Cert.GatesRefIdeal.τ).loc Cert.GatesRefIdeal.main_arg4)
      ∧ r.2.mem ((c.tc : Thread Cert.GatesRefIdeal.nD Cert.GatesRefIdeal.τ).loc Cert.GatesRefIdeal.main_arg5) = m ((c.tc : Thread Cert.GatesRefIdeal.nD Cert.GatesRefIdeal.τ).loc Cert.GatesRefIdeal.main_arg5))
      ∧ r.2.sem = fun _ => 0)

def quiescent_GatesRefIdeal_pre_finite_decay [hGatesRefIdeal : Cert.GatesRefIdeal.Facts] [hPre_finite_decay : Cert.Pre_finite_decay.Facts] : Prop :=
  ∀ (m : (ℓ : Loc Cert.GatesRefIdeal.nD Cert.GatesRefIdeal.τ Cert.GatesRefIdeal.sig) → Buf (Elt Ideal) ℓ) (g : Dev Cert.GatesRefIdeal.nD → PrngReg), Pre_GatesRefIdeal_finite_decay m →
    θ_run (Cert.GatesRefIdeal.defs (F := Ideal)) (onTc (τ := Cert.GatesRefIdeal.τ) (Cert.GatesRefIdeal.main (F := Ideal))) ⟨m, fun _ => 0, g⟩ (fun r => (∀ c : Dev Cert.GatesRefIdeal.nD,
      r.2.mem ((c.tc : Thread Cert.GatesRefIdeal.nD Cert.GatesRefIdeal.τ).loc Cert.GatesRefIdeal.main_arg0) = m ((c.tc : Thread Cert.GatesRefIdeal.nD Cert.GatesRefIdeal.τ).loc Cert.GatesRefIdeal.main_arg0)
      ∧ r.2.mem ((c.tc : Thread Cert.GatesRefIdeal.nD Cert.GatesRefIdeal.τ).loc Cert.GatesRefIdeal.main_arg1) = m ((c.tc : Thread Cert.GatesRefIdeal.nD Cert.GatesRefIdeal.τ).loc Cert.GatesRefIdeal.main_arg1)
      ∧ r.2.mem ((c.tc : Thread Cert.GatesRefIdeal.nD Cert.GatesRefIdeal.τ).loc Cert.GatesRefIdeal.main_arg2) = m ((c.tc : Thread Cert.GatesRefIdeal.nD Cert.GatesRefIdeal.τ).loc Cert.GatesRefIdeal.main_arg2)
      ∧ r.2.mem ((c.tc : Thread Cert.GatesRefIdeal.nD Cert.GatesRefIdeal.τ).loc Cert.GatesRefIdeal.main_arg3) = m ((c.tc : Thread Cert.GatesRefIdeal.nD Cert.GatesRefIdeal.τ).loc Cert.GatesRefIdeal.main_arg3)
      ∧ r.2.mem ((c.tc : Thread Cert.GatesRefIdeal.nD Cert.GatesRefIdeal.τ).loc Cert.GatesRefIdeal.main_arg4) = m ((c.tc : Thread Cert.GatesRefIdeal.nD Cert.GatesRefIdeal.τ).loc Cert.GatesRefIdeal.main_arg4)
      ∧ r.2.mem ((c.tc : Thread Cert.GatesRefIdeal.nD Cert.GatesRefIdeal.τ).loc Cert.GatesRefIdeal.main_arg5) = m ((c.tc : Thread Cert.GatesRefIdeal.nD Cert.GatesRefIdeal.τ).loc Cert.GatesRefIdeal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v1_1)) (v3 : (c : Dev Cert.KernelIdeal.nD) → Buf (Elt Ideal) ((c.tc : Thread Cert.KernelIdeal.nD Cert.KernelIdeal.τ).loc Cert.KernelIdeal.main_v1_0)) (v4 : (c : Dev Cert.KernelIdeal.nD) → Buf (Elt Ideal) ((c.tc : Thread Cert.KernelIdeal.nD Cert.KernelIdeal.τ).loc Cert.KernelIdeal.main_v1_3)) (v5 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_v1_0) = v3 c
          ∧ r.2.mem ((c.tc : Thread Cert.KernelIdeal.nD Cert.KernelIdeal.τ).loc Cert.KernelIdeal.main_v1_3) = v4 c
          ∧ r.2.mem ((c.tc : Thread Cert.KernelIdeal.nD Cert.KernelIdeal.τ).loc Cert.KernelIdeal.main_v1_2) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_4) = v0 c
          ∧ r.2.mem ((c.tc : Thread Cert.ReferenceIdeal.nD Cert.ReferenceIdeal.τ).loc Cert.ReferenceIdeal.main_v11_4) = v1 c
          ∧ r.2.mem ((c.tc : Thread Cert.ReferenceIdeal.nD Cert.ReferenceIdeal.τ).loc Cert.ReferenceIdeal.main_v21_5) = v2 c
          ∧ r.2.mem ((c.tc : Thread Cert.ReferenceIdeal.nD Cert.ReferenceIdeal.τ).loc Cert.ReferenceIdeal.main_v21_6) = v3 c
          ∧ r.2.mem ((c.tc : Thread Cert.ReferenceIdeal.nD Cert.ReferenceIdeal.τ).loc Cert.ReferenceIdeal.main_v17_5) = v4 c
          ∧ r.2.mem ((c.tc : Thread Cert.ReferenceIdeal.nD Cert.ReferenceIdeal.τ).loc Cert.ReferenceIdeal.main_v17_6) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Dact_DactIdeal : Prop :=
  True

def algebraic_DactIdeal_DactRefIdeal [hDactIdeal : Cert.DactIdeal.Facts] [hDactRefIdeal : Cert.DactRefIdeal.Facts] : Prop :=
  ∀ (m : (ℓ : Loc Cert.DactIdeal.nD Cert.DactIdeal.τ Cert.DactIdeal.sig) → Buf (Elt Ideal) ℓ) (g : Dev Cert.DactIdeal.nD → PrngReg)
    (m' : (ℓ : Loc Cert.DactRefIdeal.nD Cert.DactRefIdeal.τ Cert.DactRefIdeal.sig) → Buf (Elt Ideal) ℓ) (g' : Dev Cert.DactRefIdeal.nD → PrngReg), Pre_DactIdeal m →
    (∀ c : Dev Cert.DactIdeal.nD,
      m' ((c.tc : Thread Cert.DactRefIdeal.nD Cert.DactRefIdeal.τ).loc Cert.DactRefIdeal.main_arg0) = m ((c.tc : Thread Cert.DactIdeal.nD Cert.DactIdeal.τ).loc Cert.DactIdeal.main_arg0)
      ∧ m' ((c.tc : Thread Cert.DactRefIdeal.nD Cert.DactRefIdeal.τ).loc Cert.DactRefIdeal.main_arg1) = m ((c.tc : Thread Cert.DactIdeal.nD Cert.DactIdeal.τ).loc Cert.DactIdeal.main_arg1)
      ∧ m' ((c.tc : Thread Cert.DactRefIdeal.nD Cert.DactRefIdeal.τ).loc Cert.DactRefIdeal.main_arg2) = m ((c.tc : Thread Cert.DactIdeal.nD Cert.DactIdeal.τ).loc Cert.DactIdeal.main_arg2)) →
    ∃ (v0 : (c : Dev Cert.DactIdeal.nD) → Buf (Elt Ideal) ((c.tc : Thread Cert.DactIdeal.nD Cert.DactIdeal.τ).loc Cert.DactIdeal.main_v0)),
      θ_run (Cert.DactIdeal.defs (F := Ideal)) (onTc (τ := Cert.DactIdeal.τ) (Cert.DactIdeal.main (F := Ideal))) ⟨m, fun _ => 0, g⟩ (fun r => ∀ c : Dev Cert.DactIdeal.nD,
          r.2.mem ((c.tc : Thread Cert.DactIdeal.nD Cert.DactIdeal.τ).loc Cert.DactIdeal.main_v0) = v0 c
          ∧ r.2.mem ((c.tc : Thread Cert.DactIdeal.nD Cert.DactIdeal.τ).loc Cert.DactIdeal.main_arg0) = m ((c.tc : Thread Cert.DactIdeal.nD Cert.DactIdeal.τ).loc Cert.DactIdeal.main_arg0)
          ∧ r.2.mem ((c.tc : Thread Cert.DactIdeal.nD Cert.DactIdeal.τ).loc Cert.DactIdeal.main_arg1) = m ((c.tc : Thread Cert.DactIdeal.nD Cert.DactIdeal.τ).loc Cert.DactIdeal.main_arg1)
          ∧ r.2.mem ((c.tc : Thread Cert.DactIdeal.nD Cert.DactIdeal.τ).loc Cert.DactIdeal.main_arg2) = m ((c.tc : Thread Cert.DactIdeal.nD Cert.DactIdeal.τ).loc Cert.DactIdeal.main_arg2))
      ∧ θ_run (Cert.DactRefIdeal.defs (F := Ideal)) (onTc (τ := Cert.DactRefIdeal.τ) (Cert.DactRefIdeal.main (F := Ideal))) ⟨m', fun _ => 0, g'⟩ (fun r => ∀ c : Dev Cert.DactRefIdeal.nD,
          r.2.mem ((c.tc : Thread Cert.DactRefIdeal.nD Cert.DactRefIdeal.τ).loc Cert.DactRefIdeal.main_v15) = v0 c
          ∧ r.2.mem ((c.tc : Thread Cert.DactRefIdeal.nD Cert.DactRefIdeal.τ).loc Cert.DactRefIdeal.main_arg0) = m' ((c.tc : Thread Cert.DactRefIdeal.nD Cert.DactRefIdeal.τ).loc Cert.DactRefIdeal.main_arg0)
          ∧ r.2.mem ((c.tc : Thread Cert.DactRefIdeal.nD Cert.DactRefIdeal.τ).loc Cert.DactRefIdeal.main_arg1) = m' ((c.tc : Thread Cert.DactRefIdeal.nD Cert.DactRefIdeal.τ).loc Cert.DactRefIdeal.main_arg1)
          ∧ r.2.mem ((c.tc : Thread Cert.DactRefIdeal.nD Cert.DactRefIdeal.τ).loc Cert.DactRefIdeal.main_arg2) = m' ((c.tc : Thread Cert.DactRefIdeal.nD Cert.DactRefIdeal.τ).loc Cert.DactRefIdeal.main_arg2))

def preserves_Dw2_Dw2Ideal : Prop :=
  True

def algebraic_Dw2Ideal_Dw2RefIdeal [hDw2Ideal : Cert.Dw2Ideal.Facts] [hDw2RefIdeal : Cert.Dw2RefIdeal.Facts] : Prop :=
  ∀ (m : (ℓ : Loc Cert.Dw2Ideal.nD Cert.Dw2Ideal.τ Cert.Dw2Ideal.sig) → Buf (Elt Ideal) ℓ) (g : Dev Cert.Dw2Ideal.nD → PrngReg)
    (m' : (ℓ : Loc Cert.Dw2RefIdeal.nD Cert.Dw2RefIdeal.τ Cert.Dw2RefIdeal.sig) → Buf (Elt Ideal) ℓ) (g' : Dev Cert.Dw2RefIdeal.nD → PrngReg), Pre_Dw2Ideal m →
    (∀ c : Dev Cert.Dw2Ideal.nD,
      m' ((c.tc : Thread Cert.Dw2RefIdeal.nD Cert.Dw2RefIdeal.τ).loc Cert.Dw2RefIdeal.main_arg0) = m ((c.tc : Thread Cert.Dw2Ideal.nD Cert.Dw2Ideal.τ).loc Cert.Dw2Ideal.main_arg0)
      ∧ m' ((c.tc : Thread Cert.Dw2RefIdeal.nD Cert.Dw2RefIdeal.τ).loc Cert.Dw2RefIdeal.main_arg1) = m ((c.tc : Thread Cert.Dw2Ideal.nD Cert.Dw2Ideal.τ).loc Cert.Dw2Ideal.main_arg1)) →
    ∃ (v0 : (c : Dev Cert.Dw2Ideal.nD) → Buf (Elt Ideal) ((c.tc : Thread Cert.Dw2Ideal.nD Cert.Dw2Ideal.τ).loc Cert.Dw2Ideal.main_v0_0)) (v1 : (c : Dev Cert.Dw2Ideal.nD) → Buf (Elt Ideal) ((c.tc : Thread Cert.Dw2Ideal.nD Cert.Dw2Ideal.τ).loc Cert.Dw2Ideal.main_v0_1)),
      θ_run (Cert.Dw2Ideal.defs (F := Ideal)) (onTc (τ := Cert.Dw2Ideal.τ) (Cert.Dw2Ideal.main (F := Ideal))) ⟨m, fun _ => 0, g⟩ (fun r => ∀ c : Dev Cert.Dw2Ideal.nD,
          r.2.mem ((c.tc : Thread Cert.Dw2Ideal.nD Cert.Dw2Ideal.τ).loc Cert.Dw2Ideal.main_v0_0) = v0 c
          ∧ r.2.mem ((c.tc : Thread Cert.Dw2Ideal.nD Cert.Dw2Ideal.τ).loc Cert.Dw2Ideal.main_v0_1) = v1 c
          ∧ r.2.mem ((c.tc : Thread Cert.Dw2Ideal.nD Cert.Dw2Ideal.τ).loc Cert.Dw2Ideal.main_arg0) = m ((c.tc : Thread Cert.Dw2Ideal.nD Cert.Dw2Ideal.τ).loc Cert.Dw2Ideal.main_arg0)
          ∧ r.2.mem ((c.tc : Thread Cert.Dw2Ideal.nD Cert.Dw2Ideal.τ).loc Cert.Dw2Ideal.main_arg1) = m ((c.tc : Thread Cert.Dw2Ideal.nD Cert.Dw2Ideal.τ).loc Cert.Dw2Ideal.main_arg1))
      ∧ θ_run (Cert.Dw2RefIdeal.defs (F := Ideal)) (onTc (τ := Cert.Dw2RefIdeal.τ) (Cert.Dw2RefIdeal.main (F := Ideal))) ⟨m', fun _ => 0, g'⟩ (fun r => ∀ c : Dev Cert.Dw2RefIdeal.nD,
          r.2.mem ((c.tc : Thread Cert.Dw2RefIdeal.nD Cert.Dw2RefIdeal.τ).loc Cert.Dw2RefIdeal.main_v7) = v0 c
          ∧ r.2.mem ((c.tc : Thread Cert.Dw2RefIdeal.nD Cert.Dw2RefIdeal.τ).loc Cert.Dw2RefIdeal.main_v8) = v1 c
          ∧ r.2.mem ((c.tc : Thread Cert.Dw2RefIdeal.nD Cert.Dw2RefIdeal.τ).loc Cert.Dw2RefIdeal.main_arg0) = m' ((c.tc : Thread Cert.Dw2RefIdeal.nD Cert.Dw2RefIdeal.τ).loc Cert.Dw2RefIdeal.main_arg0)
          ∧ r.2.mem ((c.tc : Thread Cert.Dw2RefIdeal.nD Cert.Dw2RefIdeal.τ).loc Cert.Dw2RefIdeal.main_arg1) = m' ((c.tc : Thread Cert.Dw2RefIdeal.nD Cert.Dw2RefIdeal.τ).loc Cert.Dw2RefIdeal.main_arg1))

def preserves_Dw1_Dw1Ideal : Prop :=
  True

def algebraic_Dw1Ideal_Dw1RefIdeal [hDw1Ideal : Cert.Dw1Ideal.Facts] [hDw1RefIdeal : Cert.Dw1RefIdeal.Facts] : Prop :=
  ∀ (m : (ℓ : Loc Cert.Dw1Ideal.nD Cert.Dw1Ideal.τ Cert.Dw1Ideal.sig) → Buf (Elt Ideal) ℓ) (g : Dev Cert.Dw1Ideal.nD → PrngReg)
    (m' : (ℓ : Loc Cert.Dw1RefIdeal.nD Cert.Dw1RefIdeal.τ Cert.Dw1RefIdeal.sig) → Buf (Elt Ideal) ℓ) (g' : Dev Cert.Dw1RefIdeal.nD → PrngReg), Pre_Dw1Ideal m →
    (∀ c : Dev Cert.Dw1Ideal.nD,
      m' ((c.tc : Thread Cert.Dw1RefIdeal.nD Cert.Dw1RefIdeal.τ).loc Cert.Dw1RefIdeal.main_arg0) = m ((c.tc : Thread Cert.Dw1Ideal.nD Cert.Dw1Ideal.τ).loc Cert.Dw1Ideal.main_arg0)
      ∧ m' ((c.tc : Thread Cert.Dw1RefIdeal.nD Cert.Dw1RefIdeal.τ).loc Cert.Dw1RefIdeal.main_arg1) = m ((c.tc : Thread Cert.Dw1Ideal.nD Cert.Dw1Ideal.τ).loc Cert.Dw1Ideal.main_arg1)) →
    ∃ (v0 : (c : Dev Cert.Dw1Ideal.nD) → Buf (Elt Ideal) ((c.tc : Thread Cert.Dw1Ideal.nD Cert.Dw1Ideal.τ).loc Cert.Dw1Ideal.main_v0_0)) (v1 : (c : Dev Cert.Dw1Ideal.nD) → Buf (Elt Ideal) ((c.tc : Thread Cert.Dw1Ideal.nD Cert.Dw1Ideal.τ).loc Cert.Dw1Ideal.main_v0_1)),
      θ_run (Cert.Dw1Ideal.defs (F := Ideal)) (onTc (τ := Cert.Dw1Ideal.τ) (Cert.Dw1Ideal.main (F := Ideal))) ⟨m, fun _ => 0, g⟩ (fun r => ∀ c : Dev Cert.Dw1Ideal.nD,
          r.2.mem ((c.tc : Thread Cert.Dw1Ideal.nD Cert.Dw1Ideal.τ).loc Cert.Dw1Ideal.main_v0_0) = v0 c
          ∧ r.2.mem ((c.tc : Thread Cert.Dw1Ideal.nD Cert.Dw1Ideal.τ).loc Cert.Dw1Ideal.main_v0_1) = v1 c
          ∧ r.2.mem ((c.tc : Thread Cert.Dw1Ideal.nD Cert.Dw1Ideal.τ).loc Cert.Dw1Ideal.main_arg0) = m ((c.tc : Thread Cert.Dw1Ideal.nD Cert.Dw1Ideal.τ).loc Cert.Dw1Ideal.main_arg0)
          ∧ r.2.mem ((c.tc : Thread Cert.Dw1Ideal.nD Cert.Dw1Ideal.τ).loc Cert.Dw1Ideal.main_arg1) = m ((c.tc : Thread Cert.Dw1Ideal.nD Cert.Dw1Ideal.τ).loc Cert.Dw1Ideal.main_arg1))
      ∧ θ_run (Cert.Dw1RefIdeal.defs (F := Ideal)) (onTc (τ := Cert.Dw1RefIdeal.τ) (Cert.Dw1RefIdeal.main (F := Ideal))) ⟨m', fun _ => 0, g'⟩ (fun r => ∀ c : Dev Cert.Dw1RefIdeal.nD,
          r.2.mem ((c.tc : Thread Cert.Dw1RefIdeal.nD Cert.Dw1RefIdeal.τ).loc Cert.Dw1RefIdeal.main_v9) = v0 c
          ∧ r.2.mem ((c.tc : Thread Cert.Dw1RefIdeal.nD Cert.Dw1RefIdeal.τ).loc Cert.Dw1RefIdeal.main_v10) = v1 c
          ∧ r.2.mem ((c.tc : Thread Cert.Dw1RefIdeal.nD Cert.Dw1RefIdeal.τ).loc Cert.Dw1RefIdeal.main_arg0) = m' ((c.tc : Thread Cert.Dw1RefIdeal.nD Cert.Dw1RefIdeal.τ).loc Cert.Dw1RefIdeal.main_arg0)
          ∧ r.2.mem ((c.tc : Thread Cert.Dw1RefIdeal.nD Cert.Dw1RefIdeal.τ).loc Cert.Dw1RefIdeal.main_arg1) = m' ((c.tc : Thread Cert.Dw1RefIdeal.nD Cert.Dw1RefIdeal.τ).loc Cert.Dw1RefIdeal.main_arg1))

def preserves_Dy_DyIdeal : Prop :=
  True

def algebraic_DyIdeal_DyRefIdeal [hDyIdeal : Cert.DyIdeal.Facts] [hDyRefIdeal : Cert.DyRefIdeal.Facts] : Prop :=
  ∀ (m : (ℓ : Loc Cert.DyIdeal.nD Cert.DyIdeal.τ Cert.DyIdeal.sig) → Buf (Elt Ideal) ℓ) (g : Dev Cert.DyIdeal.nD → PrngReg)
    (m' : (ℓ : Loc Cert.DyRefIdeal.nD Cert.DyRefIdeal.τ Cert.DyRefIdeal.sig) → Buf (Elt Ideal) ℓ) (g' : Dev Cert.DyRefIdeal.nD → PrngReg), Pre_DyIdeal m →
    (∀ c : Dev Cert.DyIdeal.nD,
      m' ((c.tc : Thread Cert.DyRefIdeal.nD Cert.DyRefIdeal.τ).loc Cert.DyRefIdeal.main_arg0) = m ((c.tc : Thread Cert.DyIdeal.nD Cert.DyIdeal.τ).loc Cert.DyIdeal.main_arg0)
      ∧ m' ((c.tc : Thread Cert.DyRefIdeal.nD Cert.DyRefIdeal.τ).loc Cert.DyRefIdeal.main_arg1) = m ((c.tc : Thread Cert.DyIdeal.nD Cert.DyIdeal.τ).loc Cert.DyIdeal.main_arg1)
      ∧ m' ((c.tc : Thread Cert.DyRefIdeal.nD Cert.DyRefIdeal.τ).loc Cert.DyRefIdeal.main_arg2) = m ((c.tc : Thread Cert.DyIdeal.nD Cert.DyIdeal.τ).loc Cert.DyIdeal.main_arg2)
      ∧ m' ((c.tc : Thread Cert.DyRefIdeal.nD Cert.DyRefIdeal.τ).loc Cert.DyRefIdeal.main_arg3) = m ((c.tc : Thread Cert.DyIdeal.nD Cert.DyIdeal.τ).loc Cert.DyIdeal.main_arg3)
      ∧ m' ((c.tc : Thread Cert.DyRefIdeal.nD Cert.DyRefIdeal.τ).loc Cert.DyRefIdeal.main_arg4) = m ((c.tc : Thread Cert.DyIdeal.nD Cert.DyIdeal.τ).loc Cert.DyIdeal.main_arg4)) →
    ∃ (v0 : (c : Dev Cert.DyIdeal.nD) → Buf (Elt Ideal) ((c.tc : Thread Cert.DyIdeal.nD Cert.DyIdeal.τ).loc Cert.DyIdeal.main_v0_0)) (v1 : (c : Dev Cert.DyIdeal.nD) → Buf (Elt Ideal) ((c.tc : Thread Cert.DyIdeal.nD Cert.DyIdeal.τ).loc Cert.DyIdeal.main_v0_1)) (v2 : (c : Dev Cert.DyIdeal.nD) → Buf (Elt Ideal) ((c.tc : Thread Cert.DyIdeal.nD Cert.DyIdeal.τ).loc Cert.DyIdeal.main_v1)),
      θ_run (Cert.DyIdeal.defs (F := Ideal)) (onTc (τ := Cert.DyIdeal.τ) (Cert.DyIdeal.main (F := Ideal))) ⟨m, fun _ => 0, g⟩ (fun r => ∀ c : Dev Cert.DyIdeal.nD,
          r.2.mem ((c.tc : Thread Cert.DyIdeal.nD Cert.DyIdeal.τ).loc Cert.DyIdeal.main_v0_0) = v0 c
          ∧ r.2.mem ((c.tc : Thread Cert.DyIdeal.nD Cert.DyIdeal.τ).loc Cert.DyIdeal.main_v0_1) = v1 c
          ∧ r.2.mem ((c.tc : Thread Cert.DyIdeal.nD Cert.DyIdeal.τ).loc Cert.DyIdeal.main_v1) = v2 c
          ∧ r.2.mem ((c.tc : Thread Cert.DyIdeal.nD Cert.DyIdeal.τ).loc Cert.DyIdeal.main_arg0) = m ((c.tc : Thread Cert.DyIdeal.nD Cert.DyIdeal.τ).loc Cert.DyIdeal.main_arg0)
          ∧ r.2.mem ((c.tc : Thread Cert.DyIdeal.nD Cert.DyIdeal.τ).loc Cert.DyIdeal.main_arg1) = m ((c.tc : Thread Cert.DyIdeal.nD Cert.DyIdeal.τ).loc Cert.DyIdeal.main_arg1)
          ∧ r.2.mem ((c.tc : Thread Cert.DyIdeal.nD Cert.DyIdeal.τ).loc Cert.DyIdeal.main_arg2) = m ((c.tc : Thread Cert.DyIdeal.nD Cert.DyIdeal.τ).loc Cert.DyIdeal.main_arg2)
          ∧ r.2.mem ((c.tc : Thread Cert.DyIdeal.nD Cert.DyIdeal.τ).loc Cert.DyIdeal.main_arg3) = m ((c.tc : Thread Cert.DyIdeal.nD Cert.DyIdeal.τ).loc Cert.DyIdeal.main_arg3)
          ∧ r.2.mem ((c.tc : Thread Cert.DyIdeal.nD Cert.DyIdeal.τ).loc Cert.DyIdeal.main_arg4) = m ((c.tc : Thread Cert.DyIdeal.nD Cert.DyIdeal.τ).loc Cert.DyIdeal.main_arg4))
      ∧ θ_run (Cert.DyRefIdeal.defs (F := Ideal)) (onTc (τ := Cert.DyRefIdeal.τ) (Cert.DyRefIdeal.main (F := Ideal))) ⟨m', fun _ => 0, g'⟩ (fun r => ∀ c : Dev Cert.DyRefIdeal.nD,
          r.2.mem ((c.tc : Thread Cert.DyRefIdeal.nD Cert.DyRefIdeal.τ).loc Cert.DyRefIdeal.main_v40) = v0 c
          ∧ r.2.mem ((c.tc : Thread Cert.DyRefIdeal.nD Cert.DyRefIdeal.τ).loc Cert.DyRefIdeal.main_v42) = v1 c
          ∧ r.2.mem ((c.tc : Thread Cert.DyRefIdeal.nD Cert.DyRefIdeal.τ).loc Cert.DyRefIdeal.main_v23) = v2 c
          ∧ r.2.mem ((c.tc : Thread Cert.DyRefIdeal.nD Cert.DyRefIdeal.τ).loc Cert.DyRefIdeal.main_arg0) = m' ((c.tc : Thread Cert.DyRefIdeal.nD Cert.DyRefIdeal.τ).loc Cert.DyRefIdeal.main_arg0)
          ∧ r.2.mem ((c.tc : Thread Cert.DyRefIdeal.nD Cert.DyRefIdeal.τ).loc Cert.DyRefIdeal.main_arg1) = m' ((c.tc : Thread Cert.DyRefIdeal.nD Cert.DyRefIdeal.τ).loc Cert.DyRefIdeal.main_arg1)
          ∧ r.2.mem ((c.tc : Thread Cert.DyRefIdeal.nD Cert.DyRefIdeal.τ).loc Cert.DyRefIdeal.main_arg2) = m' ((c.tc : Thread Cert.DyRefIdeal.nD Cert.DyRefIdeal.τ).loc Cert.DyRefIdeal.main_arg2)
          ∧ r.2.mem ((c.tc : Thread Cert.DyRefIdeal.nD Cert.DyRefIdeal.τ).loc Cert.DyRefIdeal.main_arg3) = m' ((c.tc : Thread Cert.DyRefIdeal.nD Cert.DyRefIdeal.τ).loc Cert.DyRefIdeal.main_arg3)
          ∧ r.2.mem ((c.tc : Thread Cert.DyRefIdeal.nD Cert.DyRefIdeal.τ).loc Cert.DyRefIdeal.main_arg4) = m' ((c.tc : Thread Cert.DyRefIdeal.nD Cert.DyRefIdeal.τ).loc Cert.DyRefIdeal.main_arg4))

def preserves_Dout_DoutIdeal : Prop :=
  True

def algebraic_DoutIdeal_DoutRefIdeal [hDoutIdeal : Cert.DoutIdeal.Facts] [hDoutRefIdeal : Cert.DoutRefIdeal.Facts] : Prop :=
  ∀ (m : (ℓ : Loc Cert.DoutIdeal.nD Cert.DoutIdeal.τ Cert.DoutIdeal.sig) → Buf (Elt Ideal) ℓ) (g : Dev Cert.DoutIdeal.nD → PrngReg)
    (m' : (ℓ : Loc Cert.DoutRefIdeal.nD Cert.DoutRefIdeal.τ Cert.DoutRefIdeal.sig) → Buf (Elt Ideal) ℓ) (g' : Dev Cert.DoutRefIdeal.nD → PrngReg), Pre_DoutIdeal m →
    (∀ c : Dev Cert.DoutIdeal.nD,
      m' ((c.tc : Thread Cert.DoutRefIdeal.nD Cert.DoutRefIdeal.τ).loc Cert.DoutRefIdeal.main_arg0) = m ((c.tc : Thread Cert.DoutIdeal.nD Cert.DoutIdeal.τ).loc Cert.DoutIdeal.main_arg0)
      ∧ m' ((c.tc : Thread Cert.DoutRefIdeal.nD Cert.DoutRefIdeal.τ).loc Cert.DoutRefIdeal.main_arg1) = m ((c.tc : Thread Cert.DoutIdeal.nD Cert.DoutIdeal.τ).loc Cert.DoutIdeal.main_arg1)) →
    ∃ (v0 : (c : Dev Cert.DoutIdeal.nD) → Buf (Elt Ideal) ((c.tc : Thread Cert.DoutIdeal.nD Cert.DoutIdeal.τ).loc Cert.DoutIdeal.main_v0)),
      θ_run (Cert.DoutIdeal.defs (F := Ideal)) (onTc (τ := Cert.DoutIdeal.τ) (Cert.DoutIdeal.main (F := Ideal))) ⟨m, fun _ => 0, g⟩ (fun r => ∀ c : Dev Cert.DoutIdeal.nD,
          r.2.mem ((c.tc : Thread Cert.DoutIdeal.nD Cert.DoutIdeal.τ).loc Cert.DoutIdeal.main_v0) = v0 c
          ∧ r.2.mem ((c.tc : Thread Cert.DoutIdeal.nD Cert.DoutIdeal.τ).loc Cert.DoutIdeal.main_arg0) = m ((c.tc : Thread Cert.DoutIdeal.nD Cert.DoutIdeal.τ).loc Cert.DoutIdeal.main_arg0)
          ∧ r.2.mem ((c.tc : Thread Cert.DoutIdeal.nD Cert.DoutIdeal.τ).loc Cert.DoutIdeal.main_arg1) = m ((c.tc : Thread Cert.DoutIdeal.nD Cert.DoutIdeal.τ).loc Cert.DoutIdeal.main_arg1))
      ∧ θ_run (Cert.DoutRefIdeal.defs (F := Ideal)) (onTc (τ := Cert.DoutRefIdeal.τ) (Cert.DoutRefIdeal.main (F := Ideal))) ⟨m', fun _ => 0, g'⟩ (fun r => ∀ c : Dev Cert.DoutRefIdeal.nD,
          r.2.mem ((c.tc : Thread Cert.DoutRefIdeal.nD Cert.DoutRefIdeal.τ).loc Cert.DoutRefIdeal.main_v4) = v0 c
          ∧ r.2.mem ((c.tc : Thread Cert.DoutRefIdeal.nD Cert.DoutRefIdeal.τ).loc Cert.DoutRefIdeal.main_arg0) = m' ((c.tc : Thread Cert.DoutRefIdeal.nD Cert.DoutRefIdeal.τ).loc Cert.DoutRefIdeal.main_arg0)
          ∧ r.2.mem ((c.tc : Thread Cert.DoutRefIdeal.nD Cert.DoutRefIdeal.τ).loc Cert.DoutRefIdeal.main_arg1) = m' ((c.tc : Thread Cert.DoutRefIdeal.nD Cert.DoutRefIdeal.τ).loc Cert.DoutRefIdeal.main_arg1))

def preserves_Dwout_DwoutIdeal : Prop :=
  True

def algebraic_DwoutIdeal_DwoutRefIdeal [hDwoutIdeal : Cert.DwoutIdeal.Facts] [hDwoutRefIdeal : Cert.DwoutRefIdeal.Facts] : Prop :=
  ∀ (m : (ℓ : Loc Cert.DwoutIdeal.nD Cert.DwoutIdeal.τ Cert.DwoutIdeal.sig) → Buf (Elt Ideal) ℓ) (g : Dev Cert.DwoutIdeal.nD → PrngReg)
    (m' : (ℓ : Loc Cert.DwoutRefIdeal.nD Cert.DwoutRefIdeal.τ Cert.DwoutRefIdeal.sig) → Buf (Elt Ideal) ℓ) (g' : Dev Cert.DwoutRefIdeal.nD → PrngReg), Pre_DwoutIdeal m →
    (∀ c : Dev Cert.DwoutIdeal.nD,
      m' ((c.tc : Thread Cert.DwoutRefIdeal.nD Cert.DwoutRefIdeal.τ).loc Cert.DwoutRefIdeal.main_arg0) = m ((c.tc : Thread Cert.DwoutIdeal.nD Cert.DwoutIdeal.τ).loc Cert.DwoutIdeal.main_arg0)
      ∧ m' ((c.tc : Thread Cert.DwoutRefIdeal.nD Cert.DwoutRefIdeal.τ).loc Cert.DwoutRefIdeal.main_arg1) = m ((c.tc : Thread Cert.DwoutIdeal.nD Cert.DwoutIdeal.τ).loc Cert.DwoutIdeal.main_arg1)) →
    ∃ (v0 : (c : Dev Cert.DwoutIdeal.nD) → Buf (Elt Ideal) ((c.tc : Thread Cert.DwoutIdeal.nD Cert.DwoutIdeal.τ).loc Cert.DwoutIdeal.main_v0_0)) (v1 : (c : Dev Cert.DwoutIdeal.nD) → Buf (Elt Ideal) ((c.tc : Thread Cert.DwoutIdeal.nD Cert.DwoutIdeal.τ).loc Cert.DwoutIdeal.main_v0_1)),
      θ_run (Cert.DwoutIdeal.defs (F := Ideal)) (onTc (τ := Cert.DwoutIdeal.τ) (Cert.DwoutIdeal.main (F := Ideal))) ⟨m, fun _ => 0, g⟩ (fun r => ∀ c : Dev Cert.DwoutIdeal.nD,
          r.2.mem ((c.tc : Thread Cert.DwoutIdeal.nD Cert.DwoutIdeal.τ).loc Cert.DwoutIdeal.main_v0_0) = v0 c
          ∧ r.2.mem ((c.tc : Thread Cert.DwoutIdeal.nD Cert.DwoutIdeal.τ).loc Cert.DwoutIdeal.main_v0_1) = v1 c
          ∧ r.2.mem ((c.tc : Thread Cert.DwoutIdeal.nD Cert.DwoutIdeal.τ).loc Cert.DwoutIdeal.main_arg0) = m ((c.tc : Thread Cert.DwoutIdeal.nD Cert.DwoutIdeal.τ).loc Cert.DwoutIdeal.main_arg0)
          ∧ r.2.mem ((c.tc : Thread Cert.DwoutIdeal.nD Cert.DwoutIdeal.τ).loc Cert.DwoutIdeal.main_arg1) = m ((c.tc : Thread Cert.DwoutIdeal.nD Cert.DwoutIdeal.τ).loc Cert.DwoutIdeal.main_arg1))
      ∧ θ_run (Cert.DwoutRefIdeal.defs (F := Ideal)) (onTc (τ := Cert.DwoutRefIdeal.τ) (Cert.DwoutRefIdeal.main (F := Ideal))) ⟨m', fun _ => 0, g'⟩ (fun r => ∀ c : Dev Cert.DwoutRefIdeal.nD,
          r.2.mem ((c.tc : Thread Cert.DwoutRefIdeal.nD Cert.DwoutRefIdeal.τ).loc Cert.DwoutRefIdeal.main_v5) = v0 c
          ∧ r.2.mem ((c.tc : Thread Cert.DwoutRefIdeal.nD Cert.DwoutRefIdeal.τ).loc Cert.DwoutRefIdeal.main_v6) = v1 c
          ∧ r.2.mem ((c.tc : Thread Cert.DwoutRefIdeal.nD Cert.DwoutRefIdeal.τ).loc Cert.DwoutRefIdeal.main_arg0) = m' ((c.tc : Thread Cert.DwoutRefIdeal.nD Cert.DwoutRefIdeal.τ).loc Cert.DwoutRefIdeal.main_arg0)
          ∧ r.2.mem ((c.tc : Thread Cert.DwoutRefIdeal.nD Cert.DwoutRefIdeal.τ).loc Cert.DwoutRefIdeal.main_arg1) = m' ((c.tc : Thread Cert.DwoutRefIdeal.nD Cert.DwoutRefIdeal.τ).loc Cert.DwoutRefIdeal.main_arg1))

def preserves_AbDwin_AbDwinIdeal : Prop :=
  True

def algebraic_AbDwinIdeal_AbDwinRefIdeal [hAbDwinIdeal : Cert.AbDwinIdeal.Facts] [hAbDwinRefIdeal : Cert.AbDwinRefIdeal.Facts] : Prop :=
  ∀ (m : (ℓ : Loc Cert.AbDwinIdeal.nD Cert.AbDwinIdeal.τ Cert.AbDwinIdeal.sig) → Buf (Elt Ideal) ℓ) (g : Dev Cert.AbDwinIdeal.nD → PrngReg)
    (m' : (ℓ : Loc Cert.AbDwinRefIdeal.nD Cert.AbDwinRefIdeal.τ Cert.AbDwinRefIdeal.sig) → Buf (Elt Ideal) ℓ) (g' : Dev Cert.AbDwinRefIdeal.nD → PrngReg), Pre_AbDwinIdeal m →
    (∀ c : Dev Cert.AbDwinIdeal.nD,
      m' ((c.tc : Thread Cert.AbDwinRefIdeal.nD Cert.AbDwinRefIdeal.τ).loc Cert.AbDwinRefIdeal.main_arg0) = m ((c.tc : Thread Cert.AbDwinIdeal.nD Cert.AbDwinIdeal.τ).loc Cert.AbDwinIdeal.main_arg0)
      ∧ m' ((c.tc : Thread Cert.AbDwinRefIdeal.nD Cert.AbDwinRefIdeal.τ).loc Cert.AbDwinRefIdeal.main_arg1) = m ((c.tc : Thread Cert.AbDwinIdeal.nD Cert.AbDwinIdeal.τ).loc Cert.AbDwinIdeal.main_arg1)) →
    ∃ (v0 : (c : Dev Cert.AbDwinIdeal.nD) → Buf (Elt Ideal) ((c.tc : Thread Cert.AbDwinIdeal.nD Cert.AbDwinIdeal.τ).loc Cert.AbDwinIdeal.main_v0_0)) (v1 : (c : Dev Cert.AbDwinIdeal.nD) → Buf (Elt Ideal) ((c.tc : Thread Cert.AbDwinIdeal.nD Cert.AbDwinIdeal.τ).loc Cert.AbDwinIdeal.main_v0_1)),
      θ_run (Cert.AbDwinIdeal.defs (F := Ideal)) (onTc (τ := Cert.AbDwinIdeal.τ) (Cert.AbDwinIdeal.main (F := Ideal))) ⟨m, fun _ => 0, g⟩ (fun r => ∀ c : Dev Cert.AbDwinIdeal.nD,
          r.2.mem ((c.tc : Thread Cert.AbDwinIdeal.nD Cert.AbDwinIdeal.τ).loc Cert.AbDwinIdeal.main_v0_0) = v0 c
          ∧ r.2.mem ((c.tc : Thread Cert.AbDwinIdeal.nD Cert.AbDwinIdeal.τ).loc Cert.AbDwinIdeal.main_v0_1) = v1 c
          ∧ r.2.mem ((c.tc : Thread Cert.AbDwinIdeal.nD Cert.AbDwinIdeal.τ).loc Cert.AbDwinIdeal.main_arg0) = m ((c.tc : Thread Cert.AbDwinIdeal.nD Cert.AbDwinIdeal.τ).loc Cert.AbDwinIdeal.main_arg0)
          ∧ r.2.mem ((c.tc : Thread Cert.AbDwinIdeal.nD Cert.AbDwinIdeal.τ).loc Cert.AbDwinIdeal.main_arg1) = m ((c.tc : Thread Cert.AbDwinIdeal.nD Cert.AbDwinIdeal.τ).loc Cert.AbDwinIdeal.main_arg1))
      ∧ θ_run (Cert.AbDwinRefIdeal.defs (F := Ideal)) (onTc (τ := Cert.AbDwinRefIdeal.τ) (Cert.AbDwinRefIdeal.main (F := Ideal))) ⟨m', fun _ => 0, g'⟩ (fun r => ∀ c : Dev Cert.AbDwinRefIdeal.nD,
          r.2.mem ((c.tc : Thread Cert.AbDwinRefIdeal.nD Cert.AbDwinRefIdeal.τ).loc Cert.AbDwinRefIdeal.main_v9) = v0 c
          ∧ r.2.mem ((c.tc : Thread Cert.AbDwinRefIdeal.nD Cert.AbDwinRefIdeal.τ).loc Cert.AbDwinRefIdeal.main_v10) = v1 c
          ∧ r.2.mem ((c.tc : Thread Cert.AbDwinRefIdeal.nD Cert.AbDwinRefIdeal.τ).loc Cert.AbDwinRefIdeal.main_arg0) = m' ((c.tc : Thread Cert.AbDwinRefIdeal.nD Cert.AbDwinRefIdeal.τ).loc Cert.AbDwinRefIdeal.main_arg0)
          ∧ r.2.mem ((c.tc : Thread Cert.AbDwinRefIdeal.nD Cert.AbDwinRefIdeal.τ).loc Cert.AbDwinRefIdeal.main_arg1) = m' ((c.tc : Thread Cert.AbDwinRefIdeal.nD Cert.AbDwinRefIdeal.τ).loc Cert.AbDwinRefIdeal.main_arg1))

def preserves_GlaDwin_GlaDwinIdeal : Prop :=
  True

def algebraic_GlaDwinIdeal_GlaDwinRefIdeal [hGlaDwinIdeal : Cert.GlaDwinIdeal.Facts] [hGlaDwinRefIdeal : Cert.GlaDwinRefIdeal.Facts] : Prop :=
  ∀ (m : (ℓ : Loc Cert.GlaDwinIdeal.nD Cert.GlaDwinIdeal.τ Cert.GlaDwinIdeal.sig) → Buf (Elt Ideal) ℓ) (g : Dev Cert.GlaDwinIdeal.nD → PrngReg)
    (m' : (ℓ : Loc Cert.GlaDwinRefIdeal.nD Cert.GlaDwinRefIdeal.τ Cert.GlaDwinRefIdeal.sig) → Buf (Elt Ideal) ℓ) (g' : Dev Cert.GlaDwinRefIdeal.nD → PrngReg), Pre_GlaDwinIdeal m →
    (∀ c : Dev Cert.GlaDwinIdeal.nD,
      m' ((c.tc : Thread Cert.GlaDwinRefIdeal.nD Cert.GlaDwinRefIdeal.τ).loc Cert.GlaDwinRefIdeal.main_arg0) = m ((c.tc : Thread Cert.GlaDwinIdeal.nD Cert.GlaDwinIdeal.τ).loc Cert.GlaDwinIdeal.main_arg0)
      ∧ m' ((c.tc : Thread Cert.GlaDwinRefIdeal.nD Cert.GlaDwinRefIdeal.τ).loc Cert.GlaDwinRefIdeal.main_arg1) = m ((c.tc : Thread Cert.GlaDwinIdeal.nD Cert.GlaDwinIdeal.τ).loc Cert.GlaDwinIdeal.main_arg1)) →
    ∃ (v0 : (c : Dev Cert.GlaDwinIdeal.nD) → Buf (Elt Ideal) ((c.tc : Thread Cert.GlaDwinIdeal.nD Cert.GlaDwinIdeal.τ).loc Cert.GlaDwinIdeal.main_v0_0)) (v1 : (c : Dev Cert.GlaDwinIdeal.nD) → Buf (Elt Ideal) ((c.tc : Thread Cert.GlaDwinIdeal.nD Cert.GlaDwinIdeal.τ).loc Cert.GlaDwinIdeal.main_v0_1)),
      θ_run (Cert.GlaDwinIdeal.defs (F := Ideal)) (onTc (τ := Cert.GlaDwinIdeal.τ) (Cert.GlaDwinIdeal.main (F := Ideal))) ⟨m, fun _ => 0, g⟩ (fun r => ∀ c : Dev Cert.GlaDwinIdeal.nD,
          r.2.mem ((c.tc : Thread Cert.GlaDwinIdeal.nD Cert.GlaDwinIdeal.τ).loc Cert.GlaDwinIdeal.main_v0_0) = v0 c
          ∧ r.2.mem ((c.tc : Thread Cert.GlaDwinIdeal.nD Cert.GlaDwinIdeal.τ).loc Cert.GlaDwinIdeal.main_v0_1) = v1 c
          ∧ r.2.mem ((c.tc : Thread Cert.GlaDwinIdeal.nD Cert.GlaDwinIdeal.τ).loc Cert.GlaDwinIdeal.main_arg0) = m ((c.tc : Thread Cert.GlaDwinIdeal.nD Cert.GlaDwinIdeal.τ).loc Cert.GlaDwinIdeal.main_arg0)
          ∧ r.2.mem ((c.tc : Thread Cert.GlaDwinIdeal.nD Cert.GlaDwinIdeal.τ).loc Cert.GlaDwinIdeal.main_arg1) = m ((c.tc : Thread Cert.GlaDwinIdeal.nD Cert.GlaDwinIdeal.τ).loc Cert.GlaDwinIdeal.main_arg1))
      ∧ θ_run (Cert.GlaDwinRefIdeal.defs (F := Ideal)) (onTc (τ := Cert.GlaDwinRefIdeal.τ) (Cert.GlaDwinRefIdeal.main (F := Ideal))) ⟨m', fun _ => 0, g'⟩ (fun r => ∀ c : Dev Cert.GlaDwinRefIdeal.nD,
          r.2.mem ((c.tc : Thread Cert.GlaDwinRefIdeal.nD Cert.GlaDwinRefIdeal.τ).loc Cert.GlaDwinRefIdeal.main_v5) = v0 c
          ∧ r.2.mem ((c.tc : Thread Cert.GlaDwinRefIdeal.nD Cert.GlaDwinRefIdeal.τ).loc Cert.GlaDwinRefIdeal.main_v6) = v1 c
          ∧ r.2.mem ((c.tc : Thread Cert.GlaDwinRefIdeal.nD Cert.GlaDwinRefIdeal.τ).loc Cert.GlaDwinRefIdeal.main_arg0) = m' ((c.tc : Thread Cert.GlaDwinRefIdeal.nD Cert.GlaDwinRefIdeal.τ).loc Cert.GlaDwinRefIdeal.main_arg0)
          ∧ r.2.mem ((c.tc : Thread Cert.GlaDwinRefIdeal.nD Cert.GlaDwinRefIdeal.τ).loc Cert.GlaDwinRefIdeal.main_arg1) = m' ((c.tc : Thread Cert.GlaDwinRefIdeal.nD Cert.GlaDwinRefIdeal.τ).loc Cert.GlaDwinRefIdeal.main_arg1))

def preserves_AbDy_AbDyIdeal : Prop :=
  True

def algebraic_AbDyIdeal_AbDyRefIdeal [hAbDyIdeal : Cert.AbDyIdeal.Facts] [hAbDyRefIdeal : Cert.AbDyRefIdeal.Facts] : Prop :=
  ∀ (m : (ℓ : Loc Cert.AbDyIdeal.nD Cert.AbDyIdeal.τ Cert.AbDyIdeal.sig) → Buf (Elt Ideal) ℓ) (g : Dev Cert.AbDyIdeal.nD → PrngReg)
    (m' : (ℓ : Loc Cert.AbDyRefIdeal.nD Cert.AbDyRefIdeal.τ Cert.AbDyRefIdeal.sig) → Buf (Elt Ideal) ℓ) (g' : Dev Cert.AbDyRefIdeal.nD → PrngReg), Pre_AbDyIdeal m →
    (∀ c : Dev Cert.AbDyIdeal.nD,
      m' ((c.tc : Thread Cert.AbDyRefIdeal.nD Cert.AbDyRefIdeal.τ).loc Cert.AbDyRefIdeal.main_arg0) = m ((c.tc : Thread Cert.AbDyIdeal.nD Cert.AbDyIdeal.τ).loc Cert.AbDyIdeal.main_arg0)
      ∧ m' ((c.tc : Thread Cert.AbDyRefIdeal.nD Cert.AbDyRefIdeal.τ).loc Cert.AbDyRefIdeal.main_arg1) = m ((c.tc : Thread Cert.AbDyIdeal.nD Cert.AbDyIdeal.τ).loc Cert.AbDyIdeal.main_arg1)
      ∧ m' ((c.tc : Thread Cert.AbDyRefIdeal.nD Cert.AbDyRefIdeal.τ).loc Cert.AbDyRefIdeal.main_arg2) = m ((c.tc : Thread Cert.AbDyIdeal.nD Cert.AbDyIdeal.τ).loc Cert.AbDyIdeal.main_arg2)
      ∧ m' ((c.tc : Thread Cert.AbDyRefIdeal.nD Cert.AbDyRefIdeal.τ).loc Cert.AbDyRefIdeal.main_arg3) = m ((c.tc : Thread Cert.AbDyIdeal.nD Cert.AbDyIdeal.τ).loc Cert.AbDyIdeal.main_arg3)
      ∧ m' ((c.tc : Thread Cert.AbDyRefIdeal.nD Cert.AbDyRefIdeal.τ).loc Cert.AbDyRefIdeal.main_arg4) = m ((c.tc : Thread Cert.AbDyIdeal.nD Cert.AbDyIdeal.τ).loc Cert.AbDyIdeal.main_arg4)) →
    ∃ (v0 : (c : Dev Cert.AbDyIdeal.nD) → Buf (Elt Ideal) ((c.tc : Thread Cert.AbDyIdeal.nD Cert.AbDyIdeal.τ).loc Cert.AbDyIdeal.main_v0_0)) (v1 : (c : Dev Cert.AbDyIdeal.nD) → Buf (Elt Ideal) ((c.tc : Thread Cert.AbDyIdeal.nD Cert.AbDyIdeal.τ).loc Cert.AbDyIdeal.main_v1)),
      θ_run (Cert.AbDyIdeal.defs (F := Ideal)) (onTc (τ := Cert.AbDyIdeal.τ) (Cert.AbDyIdeal.main (F := Ideal))) ⟨m, fun _ => 0, g⟩ (fun r => ∀ c : Dev Cert.AbDyIdeal.nD,
          r.2.mem ((c.tc : Thread Cert.AbDyIdeal.nD Cert.AbDyIdeal.τ).loc Cert.AbDyIdeal.main_v0_0) = v0 c
          ∧ r.2.mem ((c.tc : Thread Cert.AbDyIdeal.nD Cert.AbDyIdeal.τ).loc Cert.AbDyIdeal.main_v1) = v1 c
          ∧ r.2.mem ((c.tc : Thread Cert.AbDyIdeal.nD Cert.AbDyIdeal.τ).loc Cert.AbDyIdeal.main_arg0) = m ((c.tc : Thread Cert.AbDyIdeal.nD Cert.AbDyIdeal.τ).loc Cert.AbDyIdeal.main_arg0)
          ∧ r.2.mem ((c.tc : Thread Cert.AbDyIdeal.nD Cert.AbDyIdeal.τ).loc Cert.AbDyIdeal.main_arg1) = m ((c.tc : Thread Cert.AbDyIdeal.nD Cert.AbDyIdeal.τ).loc Cert.AbDyIdeal.main_arg1)
          ∧ r.2.mem ((c.tc : Thread Cert.AbDyIdeal.nD Cert.AbDyIdeal.τ).loc Cert.AbDyIdeal.main_arg2) = m ((c.tc : Thread Cert.AbDyIdeal.nD Cert.AbDyIdeal.τ).loc Cert.AbDyIdeal.main_arg2)
          ∧ r.2.mem ((c.tc : Thread Cert.AbDyIdeal.nD Cert.AbDyIdeal.τ).loc Cert.AbDyIdeal.main_arg3) = m ((c.tc : Thread Cert.AbDyIdeal.nD Cert.AbDyIdeal.τ).loc Cert.AbDyIdeal.main_arg3)
          ∧ r.2.mem ((c.tc : Thread Cert.AbDyIdeal.nD Cert.AbDyIdeal.τ).loc Cert.AbDyIdeal.main_arg4) = m ((c.tc : Thread Cert.AbDyIdeal.nD Cert.AbDyIdeal.τ).loc Cert.AbDyIdeal.main_arg4))
      ∧ θ_run (Cert.AbDyRefIdeal.defs (F := Ideal)) (onTc (τ := Cert.AbDyRefIdeal.τ) (Cert.AbDyRefIdeal.main (F := Ideal))) ⟨m', fun _ => 0, g'⟩ (fun r => ∀ c : Dev Cert.AbDyRefIdeal.nD,
          r.2.mem ((c.tc : Thread Cert.AbDyRefIdeal.nD Cert.AbDyRefIdeal.τ).loc Cert.AbDyRefIdeal.main_v40) = v0 c
          ∧ r.2.mem ((c.tc : Thread Cert.AbDyRefIdeal.nD Cert.AbDyRefIdeal.τ).loc Cert.AbDyRefIdeal.main_v23) = v1 c
          ∧ r.2.mem ((c.tc : Thread Cert.AbDyRefIdeal.nD Cert.AbDyRefIdeal.τ).loc Cert.AbDyRefIdeal.main_arg0) = m' ((c.tc : Thread Cert.AbDyRefIdeal.nD Cert.AbDyRefIdeal.τ).loc Cert.AbDyRefIdeal.main_arg0)
          ∧ r.2.mem ((c.tc : Thread Cert.AbDyRefIdeal.nD Cert.AbDyRefIdeal.τ).loc Cert.AbDyRefIdeal.main_arg1) = m' ((c.tc : Thread Cert.AbDyRefIdeal.nD Cert.AbDyRefIdeal.τ).loc Cert.AbDyRefIdeal.main_arg1)
          ∧ r.2.mem ((c.tc : Thread Cert.AbDyRefIdeal.nD Cert.AbDyRefIdeal.τ).loc Cert.AbDyRefIdeal.main_arg2) = m' ((c.tc : Thread Cert.AbDyRefIdeal.nD Cert.AbDyRefIdeal.τ).loc Cert.AbDyRefIdeal.main_arg2)
          ∧ r.2.mem ((c.tc : Thread Cert.AbDyRefIdeal.nD Cert.AbDyRefIdeal.τ).loc Cert.AbDyRefIdeal.main_arg3) = m' ((c.tc : Thread Cert.AbDyRefIdeal.nD Cert.AbDyRefIdeal.τ).loc Cert.AbDyRefIdeal.main_arg3)
          ∧ r.2.mem ((c.tc : Thread Cert.AbDyRefIdeal.nD Cert.AbDyRefIdeal.τ).loc Cert.AbDyRefIdeal.main_arg4) = m' ((c.tc : Thread Cert.AbDyRefIdeal.nD Cert.AbDyRefIdeal.τ).loc Cert.AbDyRefIdeal.main_arg4))

def preserves_GlaDy_GlaDyIdeal : Prop :=
  True

def algebraic_GlaDyIdeal_GlaDyRefIdeal [hGlaDyIdeal : Cert.GlaDyIdeal.Facts] [hGlaDyRefIdeal : Cert.GlaDyRefIdeal.Facts] : Prop :=
  ∀ (m : (ℓ : Loc Cert.GlaDyIdeal.nD Cert.GlaDyIdeal.τ Cert.GlaDyIdeal.sig) → Buf (Elt Ideal) ℓ) (g : Dev Cert.GlaDyIdeal.nD → PrngReg)
    (m' : (ℓ : Loc Cert.GlaDyRefIdeal.nD Cert.GlaDyRefIdeal.τ Cert.GlaDyRefIdeal.sig) → Buf (Elt Ideal) ℓ) (g' : Dev Cert.GlaDyRefIdeal.nD → PrngReg), Pre_GlaDyIdeal m →
    (∀ c : Dev Cert.GlaDyIdeal.nD,
      m' ((c.tc : Thread Cert.GlaDyRefIdeal.nD Cert.GlaDyRefIdeal.τ).loc Cert.GlaDyRefIdeal.main_arg0) = m ((c.tc : Thread Cert.GlaDyIdeal.nD Cert.GlaDyIdeal.τ).loc Cert.GlaDyIdeal.main_arg0)
      ∧ m' ((c.tc : Thread Cert.GlaDyRefIdeal.nD Cert.GlaDyRefIdeal.τ).loc Cert.GlaDyRefIdeal.main_arg1) = m ((c.tc : Thread Cert.GlaDyIdeal.nD Cert.GlaDyIdeal.τ).loc Cert.GlaDyIdeal.main_arg1)
      ∧ m' ((c.tc : Thread Cert.GlaDyRefIdeal.nD Cert.GlaDyRefIdeal.τ).loc Cert.GlaDyRefIdeal.main_arg2) = m ((c.tc : Thread Cert.GlaDyIdeal.nD Cert.GlaDyIdeal.τ).loc Cert.GlaDyIdeal.main_arg2)
      ∧ m' ((c.tc : Thread Cert.GlaDyRefIdeal.nD Cert.GlaDyRefIdeal.τ).loc Cert.GlaDyRefIdeal.main_arg3) = m ((c.tc : Thread Cert.GlaDyIdeal.nD Cert.GlaDyIdeal.τ).loc Cert.GlaDyIdeal.main_arg3)
      ∧ m' ((c.tc : Thread Cert.GlaDyRefIdeal.nD Cert.GlaDyRefIdeal.τ).loc Cert.GlaDyRefIdeal.main_arg4) = m ((c.tc : Thread Cert.GlaDyIdeal.nD Cert.GlaDyIdeal.τ).loc Cert.GlaDyIdeal.main_arg4)) →
    ∃ (v0 : (c : Dev Cert.GlaDyIdeal.nD) → Buf (Elt Ideal) ((c.tc : Thread Cert.GlaDyIdeal.nD Cert.GlaDyIdeal.τ).loc Cert.GlaDyIdeal.main_v0_0)) (v1 : (c : Dev Cert.GlaDyIdeal.nD) → Buf (Elt Ideal) ((c.tc : Thread Cert.GlaDyIdeal.nD Cert.GlaDyIdeal.τ).loc Cert.GlaDyIdeal.main_v0_1)) (v2 : (c : Dev Cert.GlaDyIdeal.nD) → Buf (Elt Ideal) ((c.tc : Thread Cert.GlaDyIdeal.nD Cert.GlaDyIdeal.τ).loc Cert.GlaDyIdeal.main_v1)),
      θ_run (Cert.GlaDyIdeal.defs (F := Ideal)) (onTc (τ := Cert.GlaDyIdeal.τ) (Cert.GlaDyIdeal.main (F := Ideal))) ⟨m, fun _ => 0, g⟩ (fun r => ∀ c : Dev Cert.GlaDyIdeal.nD,
          r.2.mem ((c.tc : Thread Cert.GlaDyIdeal.nD Cert.GlaDyIdeal.τ).loc Cert.GlaDyIdeal.main_v0_0) = v0 c
          ∧ r.2.mem ((c.tc : Thread Cert.GlaDyIdeal.nD Cert.GlaDyIdeal.τ).loc Cert.GlaDyIdeal.main_v0_1) = v1 c
          ∧ r.2.mem ((c.tc : Thread Cert.GlaDyIdeal.nD Cert.GlaDyIdeal.τ).loc Cert.GlaDyIdeal.main_v1) = v2 c
          ∧ r.2.mem ((c.tc : Thread Cert.GlaDyIdeal.nD Cert.GlaDyIdeal.τ).loc Cert.GlaDyIdeal.main_arg0) = m ((c.tc : Thread Cert.GlaDyIdeal.nD Cert.GlaDyIdeal.τ).loc Cert.GlaDyIdeal.main_arg0)
          ∧ r.2.mem ((c.tc : Thread Cert.GlaDyIdeal.nD Cert.GlaDyIdeal.τ).loc Cert.GlaDyIdeal.main_arg1) = m ((c.tc : Thread Cert.GlaDyIdeal.nD Cert.GlaDyIdeal.τ).loc Cert.GlaDyIdeal.main_arg1)
          ∧ r.2.mem ((c.tc : Thread Cert.GlaDyIdeal.nD Cert.GlaDyIdeal.τ).loc Cert.GlaDyIdeal.main_arg2) = m ((c.tc : Thread Cert.GlaDyIdeal.nD Cert.GlaDyIdeal.τ).loc Cert.GlaDyIdeal.main_arg2)
          ∧ r.2.mem ((c.tc : Thread Cert.GlaDyIdeal.nD Cert.GlaDyIdeal.τ).loc Cert.GlaDyIdeal.main_arg3) = m ((c.tc : Thread Cert.GlaDyIdeal.nD Cert.GlaDyIdeal.τ).loc Cert.GlaDyIdeal.main_arg3)
          ∧ r.2.mem ((c.tc : Thread Cert.GlaDyIdeal.nD Cert.GlaDyIdeal.τ).loc Cert.GlaDyIdeal.main_arg4) = m ((c.tc : Thread Cert.GlaDyIdeal.nD Cert.GlaDyIdeal.τ).loc Cert.GlaDyIdeal.main_arg4))
      ∧ θ_run (Cert.GlaDyRefIdeal.defs (F := Ideal)) (onTc (τ := Cert.GlaDyRefIdeal.τ) (Cert.GlaDyRefIdeal.main (F := Ideal))) ⟨m', fun _ => 0, g'⟩ (fun r => ∀ c : Dev Cert.GlaDyRefIdeal.nD,
          r.2.mem ((c.tc : Thread Cert.GlaDyRefIdeal.nD Cert.GlaDyRefIdeal.τ).loc Cert.GlaDyRefIdeal.main_v38) = v0 c
          ∧ r.2.mem ((c.tc : Thread Cert.GlaDyRefIdeal.nD Cert.GlaDyRefIdeal.τ).loc Cert.GlaDyRefIdeal.main_v40) = v1 c
          ∧ r.2.mem ((c.tc : Thread Cert.GlaDyRefIdeal.nD Cert.GlaDyRefIdeal.τ).loc Cert.GlaDyRefIdeal.main_v21) = v2 c
          ∧ r.2.mem ((c.tc : Thread Cert.GlaDyRefIdeal.nD Cert.GlaDyRefIdeal.τ).loc Cert.GlaDyRefIdeal.main_arg0) = m' ((c.tc : Thread Cert.GlaDyRefIdeal.nD Cert.GlaDyRefIdeal.τ).loc Cert.GlaDyRefIdeal.main_arg0)
          ∧ r.2.mem ((c.tc : Thread Cert.GlaDyRefIdeal.nD Cert.GlaDyRefIdeal.τ).loc Cert.GlaDyRefIdeal.main_arg1) = m' ((c.tc : Thread Cert.GlaDyRefIdeal.nD Cert.GlaDyRefIdeal.τ).loc Cert.GlaDyRefIdeal.main_arg1)
          ∧ r.2.mem ((c.tc : Thread Cert.GlaDyRefIdeal.nD Cert.GlaDyRefIdeal.τ).loc Cert.GlaDyRefIdeal.main_arg2) = m' ((c.tc : Thread Cert.GlaDyRefIdeal.nD Cert.GlaDyRefIdeal.τ).loc Cert.GlaDyRefIdeal.main_arg2)
          ∧ r.2.mem ((c.tc : Thread Cert.GlaDyRefIdeal.nD Cert.GlaDyRefIdeal.τ).loc Cert.GlaDyRefIdeal.main_arg3) = m' ((c.tc : Thread Cert.GlaDyRefIdeal.nD Cert.GlaDyRefIdeal.τ).loc Cert.GlaDyRefIdeal.main_arg3)
          ∧ r.2.mem ((c.tc : Thread Cert.GlaDyRefIdeal.nD Cert.GlaDyRefIdeal.τ).loc Cert.GlaDyRefIdeal.main_arg4) = m' ((c.tc : Thread Cert.GlaDyRefIdeal.nD Cert.GlaDyRefIdeal.τ).loc Cert.GlaDyRefIdeal.main_arg4))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v5) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_v18) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Last_LastIdeal : Prop :=
  True

def algebraic_LastIdeal_LastRefIdeal [hLastIdeal : Cert.LastIdeal.Facts] [hLastRefIdeal : Cert.LastRefIdeal.Facts] : Prop :=
  ∀ (m : (ℓ : Loc Cert.LastIdeal.nD Cert.LastIdeal.τ Cert.LastIdeal.sig) → Buf (Elt Ideal) ℓ) (g : Dev Cert.LastIdeal.nD → PrngReg)
    (m' : (ℓ : Loc Cert.LastRefIdeal.nD Cert.LastRefIdeal.τ Cert.LastRefIdeal.sig) → Buf (Elt Ideal) ℓ) (g' : Dev Cert.LastRefIdeal.nD → PrngReg), Pre_LastIdeal m →
    (∀ c : Dev Cert.LastIdeal.nD,
      m' ((c.tc : Thread Cert.LastRefIdeal.nD Cert.LastRefIdeal.τ).loc Cert.LastRefIdeal.main_arg0) = m ((c.tc : Thread Cert.LastIdeal.nD Cert.LastIdeal.τ).loc Cert.LastIdeal.main_arg0)
      ∧ m' ((c.tc : Thread Cert.LastRefIdeal.nD Cert.LastRefIdeal.τ).loc Cert.LastRefIdeal.main_arg1) = m ((c.tc : Thread Cert.LastIdeal.nD Cert.LastIdeal.τ).loc Cert.LastIdeal.main_arg1)
      ∧ m' ((c.tc : Thread Cert.LastRefIdeal.nD Cert.LastRefIdeal.τ).loc Cert.LastRefIdeal.main_arg2) = m ((c.tc : Thread Cert.LastIdeal.nD Cert.LastIdeal.τ).loc Cert.LastIdeal.main_arg2)) →
    ∃ (v0 : (c : Dev Cert.LastIdeal.nD) → Buf (Elt Ideal) ((c.tc : Thread Cert.LastIdeal.nD Cert.LastIdeal.τ).loc Cert.LastIdeal.main_v0)),
      θ_run (Cert.LastIdeal.defs (F := Ideal)) (onTc (τ := Cert.LastIdeal.τ) (Cert.LastIdeal.main (F := Ideal))) ⟨m, fun _ => 0, g⟩ (fun r => ∀ c : Dev Cert.LastIdeal.nD,
          r.2.mem ((c.tc : Thread Cert.LastIdeal.nD Cert.LastIdeal.τ).loc Cert.LastIdeal.main_v0) = v0 c
          ∧ r.2.mem ((c.tc : Thread Cert.LastIdeal.nD Cert.LastIdeal.τ).loc Cert.LastIdeal.main_arg0) = m ((c.tc : Thread Cert.LastIdeal.nD Cert.LastIdeal.τ).loc Cert.LastIdeal.main_arg0)
          ∧ r.2.mem ((c.tc : Thread Cert.LastIdeal.nD Cert.LastIdeal.τ).loc Cert.LastIdeal.main_arg1) = m ((c.tc : Thread Cert.LastIdeal.nD Cert.LastIdeal.τ).loc Cert.LastIdeal.main_arg1)
          ∧ r.2.mem ((c.tc : Thread Cert.LastIdeal.nD Cert.LastIdeal.τ).loc Cert.LastIdeal.main_arg2) = m ((c.tc : Thread Cert.LastIdeal.nD Cert.LastIdeal.τ).loc Cert.LastIdeal.main_arg2))
      ∧ θ_run (Cert.LastRefIdeal.defs (F := Ideal)) (onTc (τ := Cert.LastRefIdeal.τ) (Cert.LastRefIdeal.main (F := Ideal))) ⟨m', fun _ => 0, g'⟩ (fun r => ∀ c : Dev Cert.LastRefIdeal.nD,
          r.2.mem ((c.tc : Thread Cert.LastRefIdeal.nD Cert.LastRefIdeal.τ).loc Cert.LastRefIdeal.main_v5) = v0 c
          ∧ r.2.mem ((c.tc : Thread Cert.LastRefIdeal.nD Cert.LastRefIdeal.τ).loc Cert.LastRefIdeal.main_arg0) = m' ((c.tc : Thread Cert.LastRefIdeal.nD Cert.LastRefIdeal.τ).loc Cert.LastRefIdeal.main_arg0)
          ∧ r.2.mem ((c.tc : Thread Cert.LastRefIdeal.nD Cert.LastRefIdeal.τ).loc Cert.LastRefIdeal.main_arg1) = m' ((c.tc : Thread Cert.LastRefIdeal.nD Cert.LastRefIdeal.τ).loc Cert.LastRefIdeal.main_arg1)
          ∧ r.2.mem ((c.tc : Thread Cert.LastRefIdeal.nD Cert.LastRefIdeal.τ).loc Cert.LastRefIdeal.main_arg2) = m' ((c.tc : Thread Cert.LastRefIdeal.nD Cert.LastRefIdeal.τ).loc Cert.LastRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v0_0)) (v1 : (c : Dev Cert.OutIdeal.nD) → Buf (Elt Ideal) ((c.tc : Thread Cert.OutIdeal.nD Cert.OutIdeal.τ).loc Cert.OutIdeal.main_v0_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0_0) = v0 c
          ∧ r.2.mem ((c.tc : Thread Cert.OutIdeal.nD Cert.OutIdeal.τ).loc Cert.OutIdeal.main_v0_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v3) = v0 c
          ∧ r.2.mem ((c.tc : Thread Cert.OutRefIdeal.nD Cert.OutRefIdeal.τ).loc Cert.OutRefIdeal.main_v16) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_AbIn_AbInIdeal : Prop :=
  True

def algebraic_AbInIdeal_AbInRefIdeal [hAbInIdeal : Cert.AbInIdeal.Facts] [hAbInRefIdeal : Cert.AbInRefIdeal.Facts] : Prop :=
  ∀ (m : (ℓ : Loc Cert.AbInIdeal.nD Cert.AbInIdeal.τ Cert.AbInIdeal.sig) → Buf (Elt Ideal) ℓ) (g : Dev Cert.AbInIdeal.nD → PrngReg)
    (m' : (ℓ : Loc Cert.AbInRefIdeal.nD Cert.AbInRefIdeal.τ Cert.AbInRefIdeal.sig) → Buf (Elt Ideal) ℓ) (g' : Dev Cert.AbInRefIdeal.nD → PrngReg), Pre_AbInIdeal m →
    (∀ c : Dev Cert.AbInIdeal.nD,
      m' ((c.tc : Thread Cert.AbInRefIdeal.nD Cert.AbInRefIdeal.τ).loc Cert.AbInRefIdeal.main_arg0) = m ((c.tc : Thread Cert.AbInIdeal.nD Cert.AbInIdeal.τ).loc Cert.AbInIdeal.main_arg0)
      ∧ m' ((c.tc : Thread Cert.AbInRefIdeal.nD Cert.AbInRefIdeal.τ).loc Cert.AbInRefIdeal.main_arg1) = m ((c.tc : Thread Cert.AbInIdeal.nD Cert.AbInIdeal.τ).loc Cert.AbInIdeal.main_arg1)) →
    ∃ (v0 : (c : Dev Cert.AbInIdeal.nD) → Buf (Elt Ideal) ((c.tc : Thread Cert.AbInIdeal.nD Cert.AbInIdeal.τ).loc Cert.AbInIdeal.main_v0)),
      θ_run (Cert.AbInIdeal.defs (F := Ideal)) (onTc (τ := Cert.AbInIdeal.τ) (Cert.AbInIdeal.main (F := Ideal))) ⟨m, fun _ => 0, g⟩ (fun r => ∀ c : Dev Cert.AbInIdeal.nD,
          r.2.mem ((c.tc : Thread Cert.AbInIdeal.nD Cert.AbInIdeal.τ).loc Cert.AbInIdeal.main_v0) = v0 c
          ∧ r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
          ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1))
      ∧ θ_run (Cert.AbInRefIdeal.defs (F := Ideal)) (onTc (τ := Cert.AbInRefIdeal.τ) (Cert.AbInRefIdeal.main (F := Ideal))) ⟨m', fun _ => 0, g'⟩ (fun r => ∀ c : Dev Cert.AbInRefIdeal.nD,
          r.2.mem ((c.tc : Thread Cert.AbInRefIdeal.nD Cert.AbInRefIdeal.τ).loc Cert.AbInRefIdeal.main_v4) = v0 c
          ∧ r.2.mem ((c.tc : Thread Cert.AbInRefIdeal.nD Cert.AbInRefIdeal.τ).loc Cert.AbInRefIdeal.main_arg0) = m' ((c.tc : Thread Cert.AbInRefIdeal.nD Cert.AbInRefIdeal.τ).loc Cert.AbInRefIdeal.main_arg0)
          ∧ r.2.mem ((c.tc : Thread Cert.AbInRefIdeal.nD Cert.AbInRefIdeal.τ).loc Cert.AbInRefIdeal.main_arg1) = m' ((c.tc : Thread Cert.AbInRefIdeal.nD Cert.AbInRefIdeal.τ).loc Cert.AbInRefIdeal.main_arg1))

def preserves_GlaIn_GlaInIdeal : Prop :=
  True

def algebraic_GlaInIdeal_GlaInRefIdeal [hGlaInIdeal : Cert.GlaInIdeal.Facts] [hGlaInRefIdeal : Cert.GlaInRefIdeal.Facts] : Prop :=
  ∀ (m : (ℓ : Loc Cert.GlaInIdeal.nD Cert.GlaInIdeal.τ Cert.GlaInIdeal.sig) → Buf (Elt Ideal) ℓ) (g : Dev Cert.GlaInIdeal.nD → PrngReg)
    (m' : (ℓ : Loc Cert.GlaInRefIdeal.nD Cert.GlaInRefIdeal.τ Cert.GlaInRefIdeal.sig) → Buf (Elt Ideal) ℓ) (g' : Dev Cert.GlaInRefIdeal.nD → PrngReg), Pre_GlaInIdeal m →
    (∀ c : Dev Cert.GlaInIdeal.nD,
      m' ((c.tc : Thread Cert.GlaInRefIdeal.nD Cert.GlaInRefIdeal.τ).loc Cert.GlaInRefIdeal.main_arg0) = m ((c.tc : Thread Cert.GlaInIdeal.nD Cert.GlaInIdeal.τ).loc Cert.GlaInIdeal.main_arg0)
      ∧ m' ((c.tc : Thread Cert.GlaInRefIdeal.nD Cert.GlaInRefIdeal.τ).loc Cert.GlaInRefIdeal.main_arg1) = m ((c.tc : Thread Cert.GlaInIdeal.nD Cert.GlaInIdeal.τ).loc Cert.GlaInIdeal.main_arg1)) →
    ∃ (v0 : (c : Dev Cert.GlaInIdeal.nD) → Buf (Elt Ideal) ((c.tc : Thread Cert.GlaInIdeal.nD Cert.GlaInIdeal.τ).loc Cert.GlaInIdeal.main_v0)),
      θ_run (Cert.GlaInIdeal.defs (F := Ideal)) (onTc (τ := Cert.GlaInIdeal.τ) (Cert.GlaInIdeal.main (F := Ideal))) ⟨m, fun _ => 0, g⟩ (fun r => ∀ c : Dev Cert.GlaInIdeal.nD,
          r.2.mem ((c.tc : Thread Cert.GlaInIdeal.nD Cert.GlaInIdeal.τ).loc Cert.GlaInIdeal.main_v0) = v0 c
          ∧ r.2.mem ((c.tc : Thread Cert.GlaInIdeal.nD Cert.GlaInIdeal.τ).loc Cert.GlaInIdeal.main_arg0) = m ((c.tc : Thread Cert.GlaInIdeal.nD Cert.GlaInIdeal.τ).loc Cert.GlaInIdeal.main_arg0)
          ∧ r.2.mem ((c.tc : Thread Cert.GlaInIdeal.nD Cert.GlaInIdeal.τ).loc Cert.GlaInIdeal.main_arg1) = m ((c.tc : Thread Cert.GlaInIdeal.nD Cert.GlaInIdeal.τ).loc Cert.GlaInIdeal.main_arg1))
      ∧ θ_run (Cert.GlaInRefIdeal.defs (F := Ideal)) (onTc (τ := Cert.GlaInRefIdeal.τ) (Cert.GlaInRefIdeal.main (F := Ideal))) ⟨m', fun _ => 0, g'⟩ (fun r => ∀ c : Dev Cert.GlaInRefIdeal.nD,
          r.2.mem ((c.tc : Thread Cert.GlaInRefIdeal.nD Cert.GlaInRefIdeal.τ).loc Cert.GlaInRefIdeal.main_v2) = v0 c
          ∧ r.2.mem ((c.tc : Thread Cert.GlaInRefIdeal.nD Cert.GlaInRefIdeal.τ).loc Cert.GlaInRefIdeal.main_arg0) = m' ((c.tc : Thread Cert.GlaInRefIdeal.nD Cert.GlaInRefIdeal.τ).loc Cert.GlaInRefIdeal.main_arg0)
          ∧ r.2.mem ((c.tc : Thread Cert.GlaInRefIdeal.nD Cert.GlaInRefIdeal.τ).loc Cert.GlaInRefIdeal.main_arg1) = m' ((c.tc : Thread Cert.GlaInRefIdeal.nD Cert.GlaInRefIdeal.τ).loc Cert.GlaInRefIdeal.main_arg1))

def preserves_GlaDpre_GlaDpreIdeal : Prop :=
  True

def algebraic_GlaDpreIdeal_GlaDpreRefIdeal [hGlaDpreIdeal : Cert.GlaDpreIdeal.Facts] [hGlaDpreRefIdeal : Cert.GlaDpreRefIdeal.Facts] : Prop :=
  ∀ (m : (ℓ : Loc Cert.GlaDpreIdeal.nD Cert.GlaDpreIdeal.τ Cert.GlaDpreIdeal.sig) → Buf (Elt Ideal) ℓ) (g : Dev Cert.GlaDpreIdeal.nD → PrngReg)
    (m' : (ℓ : Loc Cert.GlaDpreRefIdeal.nD Cert.GlaDpreRefIdeal.τ Cert.GlaDpreRefIdeal.sig) → Buf (Elt Ideal) ℓ) (g' : Dev Cert.GlaDpreRefIdeal.nD → PrngReg), Pre_GlaDpreIdeal m →
    (∀ c : Dev Cert.GlaDpreIdeal.nD,
      m' ((c.tc : Thread Cert.GlaDpreRefIdeal.nD Cert.GlaDpreRefIdeal.τ).loc Cert.GlaDpreRefIdeal.main_arg0) = m ((c.tc : Thread Cert.GlaDpreIdeal.nD Cert.GlaDpreIdeal.τ).loc Cert.GlaDpreIdeal.main_arg0)
      ∧ m' ((c.tc : Thread Cert.GlaDpreRefIdeal.nD Cert.GlaDpreRefIdeal.τ).loc Cert.GlaDpreRefIdeal.main_arg1) = m ((c.tc : Thread Cert.GlaDpreIdeal.nD Cert.GlaDpreIdeal.τ).loc Cert.GlaDpreIdeal.main_arg1)
      ∧ m' ((c.tc : Thread Cert.GlaDpreRefIdeal.nD Cert.GlaDpreRefIdeal.τ).loc Cert.GlaDpreRefIdeal.main_arg2) = m ((c.tc : Thread Cert.GlaDpreIdeal.nD Cert.GlaDpreIdeal.τ).loc Cert.GlaDpreIdeal.main_arg2)
      ∧ m' ((c.tc : Thread Cert.GlaDpreRefIdeal.nD Cert.GlaDpreRefIdeal.τ).loc Cert.GlaDpreRefIdeal.main_arg3) = m ((c.tc : Thread Cert.GlaDpreIdeal.nD Cert.GlaDpreIdeal.τ).loc Cert.GlaDpreIdeal.main_arg3)
      ∧ m' ((c.tc : Thread Cert.GlaDpreRefIdeal.nD Cert.GlaDpreRefIdeal.τ).loc Cert.GlaDpreRefIdeal.main_arg4) = m ((c.tc : Thread Cert.GlaDpreIdeal.nD Cert.GlaDpreIdeal.τ).loc Cert.GlaDpreIdeal.main_arg4)
      ∧ m' ((c.tc : Thread Cert.GlaDpreRefIdeal.nD Cert.GlaDpreRefIdeal.τ).loc Cert.GlaDpreRefIdeal.main_arg5) = m ((c.tc : Thread Cert.GlaDpreIdeal.nD Cert.GlaDpreIdeal.τ).loc Cert.GlaDpreIdeal.main_arg5)
      ∧ m' ((c.tc : Thread Cert.GlaDpreRefIdeal.nD Cert.GlaDpreRefIdeal.τ).loc Cert.GlaDpreRefIdeal.main_arg6) = m ((c.tc : Thread Cert.GlaDpreIdeal.nD Cert.GlaDpreIdeal.τ).loc Cert.GlaDpreIdeal.main_arg6)
      ∧ m' ((c.tc : Thread Cert.GlaDpreRefIdeal.nD Cert.GlaDpreRefIdeal.τ).loc Cert.GlaDpreRefIdeal.main_arg7) = m ((c.tc : Thread Cert.GlaDpreIdeal.nD Cert.GlaDpreIdeal.τ).loc Cert.GlaDpreIdeal.main_arg7)
      ∧ m' ((c.tc : Thread Cert.GlaDpreRefIdeal.nD Cert.GlaDpreRefIdeal.τ).loc Cert.GlaDpreRefIdeal.main_arg8) = m ((c.tc : Thread Cert.GlaDpreIdeal.nD Cert.GlaDpreIdeal.τ).loc Cert.GlaDpreIdeal.main_arg8)
      ∧ m' ((c.tc : Thread Cert.GlaDpreRefIdeal.nD Cert.GlaDpreRefIdeal.τ).loc Cert.GlaDpreRefIdeal.main_arg9) = m ((c.tc : Thread Cert.GlaDpreIdeal.nD Cert.GlaDpreIdeal.τ).loc Cert.GlaDpreIdeal.main_arg9)
      ∧ m' ((c.tc : Thread Cert.GlaDpreRefIdeal.nD Cert.GlaDpreRefIdeal.τ).loc Cert.GlaDpreRefIdeal.main_arg10) = m ((c.tc : Thread Cert.GlaDpreIdeal.nD Cert.GlaDpreIdeal.τ).loc Cert.GlaDpreIdeal.main_arg10)) →
    ∃ (v0 : (c : Dev Cert.GlaDpreIdeal.nD) → Buf (Elt Ideal) ((c.tc : Thread Cert.GlaDpreIdeal.nD Cert.GlaDpreIdeal.τ).loc Cert.GlaDpreIdeal.main_v13_0)) (v1 : (c : Dev Cert.GlaDpreIdeal.nD) → Buf (Elt Ideal) ((c.tc : Thread Cert.GlaDpreIdeal.nD Cert.GlaDpreIdeal.τ).loc Cert.GlaDpreIdeal.main_v13_1)) (v2 : (c : Dev Cert.GlaDpreIdeal.nD) → Buf (Elt Ideal) ((c.tc : Thread Cert.GlaDpreIdeal.nD Cert.GlaDpreIdeal.τ).loc Cert.GlaDpreIdeal.main_v13_2)) (v3 : (c : Dev Cert.GlaDpreIdeal.nD) → Buf (Elt Ideal) ((c.tc : Thread Cert.GlaDpreIdeal.nD Cert.GlaDpreIdeal.τ).loc Cert.GlaDpreIdeal.main_v13_3)) (v4 : (c : Dev Cert.GlaDpreIdeal.nD) → Buf (Elt Ideal) ((c.tc : Thread Cert.GlaDpreIdeal.nD Cert.GlaDpreIdeal.τ).loc Cert.GlaDpreIdeal.main_v25)) (v5 : (c : Dev Cert.GlaDpreIdeal.nD) → Buf (Elt Ideal) ((c.tc : Thread Cert.GlaDpreIdeal.nD Cert.GlaDpreIdeal.τ).loc Cert.GlaDpreIdeal.main_v26)),
      θ_run (Cert.GlaDpreIdeal.defs (F := Ideal)) (onTc (τ := Cert.GlaDpreIdeal.τ) (Cert.GlaDpreIdeal.main (F := Ideal))) ⟨m, fun _ => 0, g⟩ (fun r => ∀ c : Dev Cert.GlaDpreIdeal.nD,
          r.2.mem ((c.tc : Thread Cert.GlaDpreIdeal.nD Cert.GlaDpreIdeal.τ).loc Cert.GlaDpreIdeal.main_v13_0) = v0 c
          ∧ r.2.mem ((c.tc : Thread Cert.GlaDpreIdeal.nD Cert.GlaDpreIdeal.τ).loc Cert.GlaDpreIdeal.main_v13_1) = v1 c
          ∧ r.2.mem ((c.tc : Thread Cert.GlaDpreIdeal.nD Cert.GlaDpreIdeal.τ).loc Cert.GlaDpreIdeal.main_v13_2) = v2 c
          ∧ r.2.mem ((c.tc : Thread Cert.GlaDpreIdeal.nD Cert.GlaDpreIdeal.τ).loc Cert.GlaDpreIdeal.main_v13_3) = v3 c
          ∧ r.2.mem ((c.tc : Thread Cert.GlaDpreIdeal.nD Cert.GlaDpreIdeal.τ).loc Cert.GlaDpreIdeal.main_v25) = v4 c
          ∧ r.2.mem ((c.tc : Thread Cert.GlaDpreIdeal.nD Cert.GlaDpreIdeal.τ).loc Cert.GlaDpreIdeal.main_v26) = v5 c
          ∧ r.2.mem ((c.tc : Thread Cert.GlaDpreIdeal.nD Cert.GlaDpreIdeal.τ).loc Cert.GlaDpreIdeal.main_arg0) = m ((c.tc : Thread Cert.GlaDpreIdeal.nD Cert.GlaDpreIdeal.τ).loc Cert.GlaDpreIdeal.main_arg0)
          ∧ r.2.mem ((c.tc : Thread Cert.GlaDpreIdeal.nD Cert.GlaDpreIdeal.τ).loc Cert.GlaDpreIdeal.main_arg1) = m ((c.tc : Thread Cert.GlaDpreIdeal.nD Cert.GlaDpreIdeal.τ).loc Cert.GlaDpreIdeal.main_arg1)
          ∧ r.2.mem ((c.tc : Thread Cert.GlaDpreIdeal.nD Cert.GlaDpreIdeal.τ).loc Cert.GlaDpreIdeal.main_arg2) = m ((c.tc : Thread Cert.GlaDpreIdeal.nD Cert.GlaDpreIdeal.τ).loc Cert.GlaDpreIdeal.main_arg2)
          ∧ r.2.mem ((c.tc : Thread Cert.GlaDpreIdeal.nD Cert.GlaDpreIdeal.τ).loc Cert.GlaDpreIdeal.main_arg3) = m ((c.tc : Thread Cert.GlaDpreIdeal.nD Cert.GlaDpreIdeal.τ).loc Cert.GlaDpreIdeal.main_arg3)
          ∧ r.2.mem ((c.tc : Thread Cert.GlaDpreIdeal.nD Cert.GlaDpreIdeal.τ).loc Cert.GlaDpreIdeal.main_arg4) = m ((c.tc : Thread Cert.GlaDpreIdeal.nD Cert.GlaDpreIdeal.τ).loc Cert.GlaDpreIdeal.main_arg4)
          ∧ r.2.mem ((c.tc : Thread Cert.GlaDpreIdeal.nD Cert.GlaDpreIdeal.τ).loc Cert.GlaDpreIdeal.main_arg5) = m ((c.tc : Thread Cert.GlaDpreIdeal.nD Cert.GlaDpreIdeal.τ).loc Cert.GlaDpreIdeal.main_arg5)
          ∧ r.2.mem ((c.tc : Thread Cert.GlaDpreIdeal.nD Cert.GlaDpreIdeal.τ).loc Cert.GlaDpreIdeal.main_arg6) = m ((c.tc : Thread Cert.GlaDpreIdeal.nD Cert.GlaDpreIdeal.τ).loc Cert.GlaDpreIdeal.main_arg6)
          ∧ r.2.mem ((c.tc : Thread Cert.GlaDpreIdeal.nD Cert.GlaDpreIdeal.τ).loc Cert.GlaDpreIdeal.main_arg7) = m ((c.tc : Thread Cert.GlaDpreIdeal.nD Cert.GlaDpreIdeal.τ).loc Cert.GlaDpreIdeal.main_arg7)
          ∧ r.2.mem ((c.tc : Thread Cert.GlaDpreIdeal.nD Cert.GlaDpreIdeal.τ).loc Cert.GlaDpreIdeal.main_arg8) = m ((c.tc : Thread Cert.GlaDpreIdeal.nD Cert.GlaDpreIdeal.τ).loc Cert.GlaDpreIdeal.main_arg8)
          ∧ r.2.mem ((c.tc : Thread Cert.GlaDpreIdeal.nD Cert.GlaDpreIdeal.τ).loc Cert.GlaDpreIdeal.main_arg9) = m ((c.tc : Thread Cert.GlaDpreIdeal.nD Cert.GlaDpreIdeal.τ).loc Cert.GlaDpreIdeal.main_arg9)
          ∧ r.2.mem ((c.tc : Thread Cert.GlaDpreIdeal.nD Cert.GlaDpreIdeal.τ).loc Cert.GlaDpreIdeal.main_arg10) = m ((c.tc : Thread Cert.GlaDpreIdeal.nD Cert.GlaDpreIdeal.τ).loc Cert.GlaDpreIdeal.main_arg10))
      ∧ θ_run (Cert.GlaDpreRefIdeal.defs (F := Ideal)) (onTc (τ := Cert.GlaDpreRefIdeal.τ) (Cert.GlaDpreRefIdeal.main (F := Ideal))) ⟨m', fun _ => 0, g'⟩ (fun r => ∀ c : Dev Cert.GlaDpreRefIdeal.nD,
          r.2.mem ((c.tc : Thread Cert.GlaDpreRefIdeal.nD Cert.GlaDpreRefIdeal.τ).loc Cert.GlaDpreRefIdeal.main_v64) = v0 c
          ∧ r.2.mem ((c.tc : Thread Cert.GlaDpreRefIdeal.nD Cert.GlaDpreRefIdeal.τ).loc Cert.GlaDpreRefIdeal.main_v65) = v1 c
          ∧ r.2.mem ((c.tc : Thread Cert.GlaDpreRefIdeal.nD Cert.GlaDpreRefIdeal.τ).loc Cert.GlaDpreRefIdeal.main_v66) = v2 c
          ∧ r.2.mem ((c.tc : Thread Cert.GlaDpreRefIdeal.nD Cert.GlaDpreRefIdeal.τ).loc Cert.GlaDpreRefIdeal.main_v67) = v3 c
          ∧ r.2.mem ((c.tc : Thread Cert.GlaDpreRefIdeal.nD Cert.GlaDpreRefIdeal.τ).loc Cert.GlaDpreRefIdeal.main_v59) = v4 c
          ∧ r.2.mem ((c.tc : Thread Cert.GlaDpreRefIdeal.nD Cert.GlaDpreRefIdeal.τ).loc Cert.GlaDpreRefIdeal.main_v56) = v5 c
          ∧ r.2.mem ((c.tc : Thread Cert.GlaDpreRefIdeal.nD Cert.GlaDpreRefIdeal.τ).loc Cert.GlaDpreRefIdeal.main_arg0) = m' ((c.tc : Thread Cert.GlaDpreRefIdeal.nD Cert.GlaDpreRefIdeal.τ).loc Cert.GlaDpreRefIdeal.main_arg0)
          ∧ r.2.mem ((c.tc : Thread Cert.GlaDpreRefIdeal.nD Cert.GlaDpreRefIdeal.τ).loc Cert.GlaDpreRefIdeal.main_arg1) = m' ((c.tc : Thread Cert.GlaDpreRefIdeal.nD Cert.GlaDpreRefIdeal.τ).loc Cert.GlaDpreRefIdeal.main_arg1)
          ∧ r.2.mem ((c.tc : Thread Cert.GlaDpreRefIdeal.nD Cert.GlaDpreRefIdeal.τ).loc Cert.GlaDpreRefIdeal.main_arg2) = m' ((c.tc : Thread Cert.GlaDpreRefIdeal.nD Cert.GlaDpreRefIdeal.τ).loc Cert.GlaDpreRefIdeal.main_arg2)
          ∧ r.2.mem ((c.tc : Thread Cert.GlaDpreRefIdeal.nD Cert.GlaDpreRefIdeal.τ).loc Cert.GlaDpreRefIdeal.main_arg3) = m' ((c.tc : Thread Cert.GlaDpreRefIdeal.nD Cert.GlaDpreRefIdeal.τ).loc Cert.GlaDpreRefIdeal.main_arg3)
          ∧ r.2.mem ((c.tc : Thread Cert.GlaDpreRefIdeal.nD Cert.GlaDpreRefIdeal.τ).loc Cert.GlaDpreRefIdeal.main_arg4) = m' ((c.tc : Thread Cert.GlaDpreRefIdeal.nD Cert.GlaDpreRefIdeal.τ).loc Cert.GlaDpreRefIdeal.main_arg4)
          ∧ r.2.mem ((c.tc : Thread Cert.GlaDpreRefIdeal.nD Cert.GlaDpreRefIdeal.τ).loc Cert.GlaDpreRefIdeal.main_arg5) = m' ((c.tc : Thread Cert.GlaDpreRefIdeal.nD Cert.GlaDpreRefIdeal.τ).loc Cert.GlaDpreRefIdeal.main_arg5)
          ∧ r.2.mem ((c.tc : Thread Cert.GlaDpreRefIdeal.nD Cert.GlaDpreRefIdeal.τ).loc Cert.GlaDpreRefIdeal.main_arg6) = m' ((c.tc : Thread Cert.GlaDpreRefIdeal.nD Cert.GlaDpreRefIdeal.τ).loc Cert.GlaDpreRefIdeal.main_arg6)
          ∧ r.2.mem ((c.tc : Thread Cert.GlaDpreRefIdeal.nD Cert.GlaDpreRefIdeal.τ).loc Cert.GlaDpreRefIdeal.main_arg7) = m' ((c.tc : Thread Cert.GlaDpreRefIdeal.nD Cert.GlaDpreRefIdeal.τ).loc Cert.GlaDpreRefIdeal.main_arg7)
          ∧ r.2.mem ((c.tc : Thread Cert.GlaDpreRefIdeal.nD Cert.GlaDpreRefIdeal.τ).loc Cert.GlaDpreRefIdeal.main_arg8) = m' ((c.tc : Thread Cert.GlaDpreRefIdeal.nD Cert.GlaDpreRefIdeal.τ).loc Cert.GlaDpreRefIdeal.main_arg8)
          ∧ r.2.mem ((c.tc : Thread Cert.GlaDpreRefIdeal.nD Cert.GlaDpreRefIdeal.τ).loc Cert.GlaDpreRefIdeal.main_arg9) = m' ((c.tc : Thread Cert.GlaDpreRefIdeal.nD Cert.GlaDpreRefIdeal.τ).loc Cert.GlaDpreRefIdeal.main_arg9)
          ∧ r.2.mem ((c.tc : Thread Cert.GlaDpreRefIdeal.nD Cert.GlaDpreRefIdeal.τ).loc Cert.GlaDpreRefIdeal.main_arg10) = m' ((c.tc : Thread Cert.GlaDpreRefIdeal.nD Cert.GlaDpreRefIdeal.τ).loc Cert.GlaDpreRefIdeal.main_arg10))

def preserves_GlaPre_GlaPreIdeal : Prop :=
  True

def algebraic_GlaPreIdeal_GlaPreRefIdeal [hGlaPreIdeal : Cert.GlaPreIdeal.Facts] [hGlaPreRefIdeal : Cert.GlaPreRefIdeal.Facts] : Prop :=
  ∀ (m : (ℓ : Loc Cert.GlaPreIdeal.nD Cert.GlaPreIdeal.τ Cert.GlaPreIdeal.sig) → Buf (Elt Ideal) ℓ) (g : Dev Cert.GlaPreIdeal.nD → PrngReg)
    (m' : (ℓ : Loc Cert.GlaPreRefIdeal.nD Cert.GlaPreRefIdeal.τ Cert.GlaPreRefIdeal.sig) → Buf (Elt Ideal) ℓ) (g' : Dev Cert.GlaPreRefIdeal.nD → PrngReg), Pre_GlaPreIdeal m →
    (∀ c : Dev Cert.GlaPreIdeal.nD,
      m' ((c.tc : Thread Cert.GlaPreRefIdeal.nD Cert.GlaPreRefIdeal.τ).loc Cert.GlaPreRefIdeal.main_arg0) = m ((c.tc : Thread Cert.GlaPreIdeal.nD Cert.GlaPreIdeal.τ).loc Cert.GlaPreIdeal.main_arg0)
      ∧ m' ((c.tc : Thread Cert.GlaPreRefIdeal.nD Cert.GlaPreRefIdeal.τ).loc Cert.GlaPreRefIdeal.main_arg1) = m ((c.tc : Thread Cert.GlaPreIdeal.nD Cert.GlaPreIdeal.τ).loc Cert.GlaPreIdeal.main_arg1)
      ∧ m' ((c.tc : Thread Cert.GlaPreRefIdeal.nD Cert.GlaPreRefIdeal.τ).loc Cert.GlaPreRefIdeal.main_arg2) = m ((c.tc : Thread Cert.GlaPreIdeal.nD Cert.GlaPreIdeal.τ).loc Cert.GlaPreIdeal.main_arg2)) →
    ∃ (v0 : (c : Dev Cert.GlaPreIdeal.nD) → Buf (Elt Ideal) ((c.tc : Thread Cert.GlaPreIdeal.nD Cert.GlaPreIdeal.τ).loc Cert.GlaPreIdeal.main_v13_0)) (v1 : (c : Dev Cert.GlaPreIdeal.nD) → Buf (Elt Ideal) ((c.tc : Thread Cert.GlaPreIdeal.nD Cert.GlaPreIdeal.τ).loc Cert.GlaPreIdeal.main_v13_1)) (v2 : (c : Dev Cert.GlaPreIdeal.nD) → Buf (Elt Ideal) ((c.tc : Thread Cert.GlaPreIdeal.nD Cert.GlaPreIdeal.τ).loc Cert.GlaPreIdeal.main_v13_2)),
      θ_run (Cert.GlaPreIdeal.defs (F := Ideal)) (onTc (τ := Cert.GlaPreIdeal.τ) (Cert.GlaPreIdeal.main (F := Ideal))) ⟨m, fun _ => 0, g⟩ (fun r => ∀ c : Dev Cert.GlaPreIdeal.nD,
          r.2.mem ((c.tc : Thread Cert.GlaPreIdeal.nD Cert.GlaPreIdeal.τ).loc Cert.GlaPreIdeal.main_v13_0) = v0 c
          ∧ r.2.mem ((c.tc : Thread Cert.GlaPreIdeal.nD Cert.GlaPreIdeal.τ).loc Cert.GlaPreIdeal.main_v13_1) = v1 c
          ∧ r.2.mem ((c.tc : Thread Cert.GlaPreIdeal.nD Cert.GlaPreIdeal.τ).loc Cert.GlaPreIdeal.main_v13_2) = v2 c
          ∧ r.2.mem ((c.tc : Thread Cert.GlaPreIdeal.nD Cert.GlaPreIdeal.τ).loc Cert.GlaPreIdeal.main_arg0) = m ((c.tc : Thread Cert.GlaPreIdeal.nD Cert.GlaPreIdeal.τ).loc Cert.GlaPreIdeal.main_arg0)
          ∧ r.2.mem ((c.tc : Thread Cert.GlaPreIdeal.nD Cert.GlaPreIdeal.τ).loc Cert.GlaPreIdeal.main_arg1) = m ((c.tc : Thread Cert.GlaPreIdeal.nD Cert.GlaPreIdeal.τ).loc Cert.GlaPreIdeal.main_arg1)
          ∧ r.2.mem ((c.tc : Thread Cert.GlaPreIdeal.nD Cert.GlaPreIdeal.τ).loc Cert.GlaPreIdeal.main_arg2) = m ((c.tc : Thread Cert.GlaPreIdeal.nD Cert.GlaPreIdeal.τ).loc Cert.GlaPreIdeal.main_arg2))
      ∧ θ_run (Cert.GlaPreRefIdeal.defs (F := Ideal)) (onTc (τ := Cert.GlaPreRefIdeal.τ) (Cert.GlaPreRefIdeal.main (F := Ideal))) ⟨m', fun _ => 0, g'⟩ (fun r => ∀ c : Dev Cert.GlaPreRefIdeal.nD,
          r.2.mem ((c.tc : Thread Cert.GlaPreRefIdeal.nD Cert.GlaPreRefIdeal.τ).loc Cert.GlaPreRefIdeal.main_v4) = v0 c
          ∧ r.2.mem ((c.tc : Thread Cert.GlaPreRefIdeal.nD Cert.GlaPreRefIdeal.τ).loc Cert.GlaPreRefIdeal.main_v15) = v1 c
          ∧ r.2.mem ((c.tc : Thread Cert.GlaPreRefIdeal.nD Cert.GlaPreRefIdeal.τ).loc Cert.GlaPreRefIdeal.main_v26) = v2 c
          ∧ r.2.mem ((c.tc : Thread Cert.GlaPreRefIdeal.nD Cert.GlaPreRefIdeal.τ).loc Cert.GlaPreRefIdeal.main_arg0) = m' ((c.tc : Thread Cert.GlaPreRefIdeal.nD Cert.GlaPreRefIdeal.τ).loc Cert.GlaPreRefIdeal.main_arg0)
          ∧ r.2.mem ((c.tc : Thread Cert.GlaPreRefIdeal.nD Cert.GlaPreRefIdeal.τ).loc Cert.GlaPreRefIdeal.main_arg1) = m' ((c.tc : Thread Cert.GlaPreRefIdeal.nD Cert.GlaPreRefIdeal.τ).loc Cert.GlaPreRefIdeal.main_arg1)
          ∧ r.2.mem ((c.tc : Thread Cert.GlaPreRefIdeal.nD Cert.GlaPreRefIdeal.τ).loc Cert.GlaPreRefIdeal.main_arg2) = m' ((c.tc : Thread Cert.GlaPreRefIdeal.nD Cert.GlaPreRefIdeal.τ).loc Cert.GlaPreRefIdeal.main_arg2))

def preserves_Dconv_DconvIdeal : Prop :=
  True

def algebraic_DconvIdeal_DconvRefIdeal [hDconvIdeal : Cert.DconvIdeal.Facts] [hDconvRefIdeal : Cert.DconvRefIdeal.Facts] : Prop :=
  ∀ (m : (ℓ : Loc Cert.DconvIdeal.nD Cert.DconvIdeal.τ Cert.DconvIdeal.sig) → Buf (Elt Ideal) ℓ) (g : Dev Cert.DconvIdeal.nD → PrngReg)
    (m' : (ℓ : Loc Cert.DconvRefIdeal.nD Cert.DconvRefIdeal.τ Cert.DconvRefIdeal.sig) → Buf (Elt Ideal) ℓ) (g' : Dev Cert.DconvRefIdeal.nD → PrngReg), Pre_DconvIdeal m →
    (∀ c : Dev Cert.DconvIdeal.nD,
      m' ((c.tc : Thread Cert.DconvRefIdeal.nD Cert.DconvRefIdeal.τ).loc Cert.DconvRefIdeal.main_arg0) = m ((c.tc : Thread Cert.DconvIdeal.nD Cert.DconvIdeal.τ).loc Cert.DconvIdeal.main_arg0)
      ∧ m' ((c.tc : Thread Cert.DconvRefIdeal.nD Cert.DconvRefIdeal.τ).loc Cert.DconvRefIdeal.main_arg1) = m ((c.tc : Thread Cert.DconvIdeal.nD Cert.DconvIdeal.τ).loc Cert.DconvIdeal.main_arg1)
      ∧ m' ((c.tc : Thread Cert.DconvRefIdeal.nD Cert.DconvRefIdeal.τ).loc Cert.DconvRefIdeal.main_arg2) = m ((c.tc : Thread Cert.DconvIdeal.nD Cert.DconvIdeal.τ).loc Cert.DconvIdeal.main_arg2)) →
    ∃ (v0 : (c : Dev Cert.DconvIdeal.nD) → Buf (Elt Ideal) ((c.tc : Thread Cert.DconvIdeal.nD Cert.DconvIdeal.τ).loc Cert.DconvIdeal.main_v0_0)) (v1 : (c : Dev Cert.DconvIdeal.nD) → Buf (Elt Ideal) ((c.tc : Thread Cert.DconvIdeal.nD Cert.DconvIdeal.τ).loc Cert.DconvIdeal.main_v0_1)) (v2 : (c : Dev Cert.DconvIdeal.nD) → Buf (Elt Ideal) ((c.tc : Thread Cert.DconvIdeal.nD Cert.DconvIdeal.τ).loc Cert.DconvIdeal.main_v0_2)),
      θ_run (Cert.DconvIdeal.defs (F := Ideal)) (onTc (τ := Cert.DconvIdeal.τ) (Cert.DconvIdeal.main (F := Ideal))) ⟨m, fun _ => 0, g⟩ (fun r => ∀ c : Dev Cert.DconvIdeal.nD,
          r.2.mem ((c.tc : Thread Cert.DconvIdeal.nD Cert.DconvIdeal.τ).loc Cert.DconvIdeal.main_v0_0) = v0 c
          ∧ r.2.mem ((c.tc : Thread Cert.DconvIdeal.nD Cert.DconvIdeal.τ).loc Cert.DconvIdeal.main_v0_1) = v1 c
          ∧ r.2.mem ((c.tc : Thread Cert.DconvIdeal.nD Cert.DconvIdeal.τ).loc Cert.DconvIdeal.main_v0_2) = v2 c
          ∧ r.2.mem ((c.tc : Thread Cert.DconvIdeal.nD Cert.DconvIdeal.τ).loc Cert.DconvIdeal.main_arg0) = m ((c.tc : Thread Cert.DconvIdeal.nD Cert.DconvIdeal.τ).loc Cert.DconvIdeal.main_arg0)
          ∧ r.2.mem ((c.tc : Thread Cert.DconvIdeal.nD Cert.DconvIdeal.τ).loc Cert.DconvIdeal.main_arg1) = m ((c.tc : Thread Cert.DconvIdeal.nD Cert.DconvIdeal.τ).loc Cert.DconvIdeal.main_arg1)
          ∧ r.2.mem ((c.tc : Thread Cert.DconvIdeal.nD Cert.DconvIdeal.τ).loc Cert.DconvIdeal.main_arg2) = m ((c.tc : Thread Cert.DconvIdeal.nD Cert.DconvIdeal.τ).loc Cert.DconvIdeal.main_arg2))
      ∧ θ_run (Cert.DconvRefIdeal.defs (F := Ideal)) (onTc (τ := Cert.DconvRefIdeal.τ) (Cert.DconvRefIdeal.main (F := Ideal))) ⟨m', fun _ => 0, g'⟩ (fun r => ∀ c : Dev Cert.DconvRefIdeal.nD,
          r.2.mem ((c.tc : Thread Cert.DconvRefIdeal.nD Cert.DconvRefIdeal.τ).loc Cert.DconvRefIdeal.main_v86) = v0 c
          ∧ r.2.mem ((c.tc : Thread Cert.DconvRefIdeal.nD Cert.DconvRefIdeal.τ).loc Cert.DconvRefIdeal.main_v82) = v1 c
          ∧ r.2.mem ((c.tc : Thread Cert.DconvRefIdeal.nD Cert.DconvRefIdeal.τ).loc Cert.DconvRefIdeal.main_v40) = v2 c
          ∧ r.2.mem ((c.tc : Thread Cert.DconvRefIdeal.nD Cert.DconvRefIdeal.τ).loc Cert.DconvRefIdeal.main_arg0) = m' ((c.tc : Thread Cert.DconvRefIdeal.nD Cert.DconvRefIdeal.τ).loc Cert.DconvRefIdeal.main_arg0)
          ∧ r.2.mem ((c.tc : Thread Cert.DconvRefIdeal.nD Cert.DconvRefIdeal.τ).loc Cert.DconvRefIdeal.main_arg1) = m' ((c.tc : Thread Cert.DconvRefIdeal.nD Cert.DconvRefIdeal.τ).loc Cert.DconvRefIdeal.main_arg1)
          ∧ r.2.mem ((c.tc : Thread Cert.DconvRefIdeal.nD Cert.DconvRefIdeal.τ).loc Cert.DconvRefIdeal.main_arg2) = m' ((c.tc : Thread Cert.DconvRefIdeal.nD Cert.DconvRefIdeal.τ).loc Cert.DconvRefIdeal.main_arg2))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v34) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_GlaPost_GlaPostIdeal : Prop :=
  True

def algebraic_GlaPostIdeal_GlaPostRefIdeal [hGlaPostIdeal : Cert.GlaPostIdeal.Facts] [hGlaPostRefIdeal : Cert.GlaPostRefIdeal.Facts] : Prop :=
  ∀ (m : (ℓ : Loc Cert.GlaPostIdeal.nD Cert.GlaPostIdeal.τ Cert.GlaPostIdeal.sig) → Buf (Elt Ideal) ℓ) (g : Dev Cert.GlaPostIdeal.nD → PrngReg)
    (m' : (ℓ : Loc Cert.GlaPostRefIdeal.nD Cert.GlaPostRefIdeal.τ Cert.GlaPostRefIdeal.sig) → Buf (Elt Ideal) ℓ) (g' : Dev Cert.GlaPostRefIdeal.nD → PrngReg), Pre_GlaPostIdeal m →
    (∀ c : Dev Cert.GlaPostIdeal.nD,
      m' ((c.tc : Thread Cert.GlaPostRefIdeal.nD Cert.GlaPostRefIdeal.τ).loc Cert.GlaPostRefIdeal.main_arg0) = m ((c.tc : Thread Cert.GlaPostIdeal.nD Cert.GlaPostIdeal.τ).loc Cert.GlaPostIdeal.main_arg0)
      ∧ m' ((c.tc : Thread Cert.GlaPostRefIdeal.nD Cert.GlaPostRefIdeal.τ).loc Cert.GlaPostRefIdeal.main_arg1) = m ((c.tc : Thread Cert.GlaPostIdeal.nD Cert.GlaPostIdeal.τ).loc Cert.GlaPostIdeal.main_arg1)
      ∧ m' ((c.tc : Thread Cert.GlaPostRefIdeal.nD Cert.GlaPostRefIdeal.τ).loc Cert.GlaPostRefIdeal.main_arg2) = m ((c.tc : Thread Cert.GlaPostIdeal.nD Cert.GlaPostIdeal.τ).loc Cert.GlaPostIdeal.main_arg2)
      ∧ m' ((c.tc : Thread Cert.GlaPostRefIdeal.nD Cert.GlaPostRefIdeal.τ).loc Cert.GlaPostRefIdeal.main_arg3) = m ((c.tc : Thread Cert.GlaPostIdeal.nD Cert.GlaPostIdeal.τ).loc Cert.GlaPostIdeal.main_arg3)) →
    ∃ (v0 : (c : Dev Cert.GlaPostIdeal.nD) → Buf (Elt Ideal) ((c.tc : Thread Cert.GlaPostIdeal.nD Cert.GlaPostIdeal.τ).loc Cert.GlaPostIdeal.main_v0)),
      θ_run (Cert.GlaPostIdeal.defs (F := Ideal)) (onTc (τ := Cert.GlaPostIdeal.τ) (Cert.GlaPostIdeal.main (F := Ideal))) ⟨m, fun _ => 0, g⟩ (fun r => ∀ c : Dev Cert.GlaPostIdeal.nD,
          r.2.mem ((c.tc : Thread Cert.GlaPostIdeal.nD Cert.GlaPostIdeal.τ).loc Cert.GlaPostIdeal.main_v0) = v0 c
          ∧ r.2.mem ((c.tc : Thread Cert.GlaPostIdeal.nD Cert.GlaPostIdeal.τ).loc Cert.GlaPostIdeal.main_arg0) = m ((c.tc : Thread Cert.GlaPostIdeal.nD Cert.GlaPostIdeal.τ).loc Cert.GlaPostIdeal.main_arg0)
          ∧ r.2.mem ((c.tc : Thread Cert.GlaPostIdeal.nD Cert.GlaPostIdeal.τ).loc Cert.GlaPostIdeal.main_arg1) = m ((c.tc : Thread Cert.GlaPostIdeal.nD Cert.GlaPostIdeal.τ).loc Cert.GlaPostIdeal.main_arg1)
          ∧ r.2.mem ((c.tc : Thread Cert.GlaPostIdeal.nD Cert.GlaPostIdeal.τ).loc Cert.GlaPostIdeal.main_arg2) = m ((c.tc : Thread Cert.GlaPostIdeal.nD Cert.GlaPostIdeal.τ).loc Cert.GlaPostIdeal.main_arg2)
          ∧ r.2.mem ((c.tc : Thread Cert.GlaPostIdeal.nD Cert.GlaPostIdeal.τ).loc Cert.GlaPostIdeal.main_arg3) = m ((c.tc : Thread Cert.GlaPostIdeal.nD Cert.GlaPostIdeal.τ).loc Cert.GlaPostIdeal.main_arg3))
      ∧ θ_run (Cert.GlaPostRefIdeal.defs (F := Ideal)) (onTc (τ := Cert.GlaPostRefIdeal.τ) (Cert.GlaPostRefIdeal.main (F := Ideal))) ⟨m', fun _ => 0, g'⟩ (fun r => ∀ c : Dev Cert.GlaPostRefIdeal.nD,
          r.2.mem ((c.tc : Thread Cert.GlaPostRefIdeal.nD Cert.GlaPostRefIdeal.τ).loc Cert.GlaPostRefIdeal.main_v18) = v0 c
          ∧ r.2.mem ((c.tc : Thread Cert.GlaPostRefIdeal.nD Cert.GlaPostRefIdeal.τ).loc Cert.GlaPostRefIdeal.main_arg0) = m' ((c.tc : Thread Cert.GlaPostRefIdeal.nD Cert.GlaPostRefIdeal.τ).loc Cert.GlaPostRefIdeal.main_arg0)
          ∧ r.2.mem ((c.tc : Thread Cert.GlaPostRefIdeal.nD Cert.GlaPostRefIdeal.τ).loc Cert.GlaPostRefIdeal.main_arg1) = m' ((c.tc : Thread Cert.GlaPostRefIdeal.nD Cert.GlaPostRefIdeal.τ).loc Cert.GlaPostRefIdeal.main_arg1)
          ∧ r.2.mem ((c.tc : Thread Cert.GlaPostRefIdeal.nD Cert.GlaPostRefIdeal.τ).loc Cert.GlaPostRefIdeal.main_arg2) = m' ((c.tc : Thread Cert.GlaPostRefIdeal.nD Cert.GlaPostRefIdeal.τ).loc Cert.GlaPostRefIdeal.main_arg2)
          ∧ r.2.mem ((c.tc : Thread Cert.GlaPostRefIdeal.nD Cert.GlaPostRefIdeal.τ).loc Cert.GlaPostRefIdeal.main_arg3) = m' ((c.tc : Thread Cert.GlaPostRefIdeal.nD Cert.GlaPostRefIdeal.τ).loc Cert.GlaPostRefIdeal.main_arg3))

def preserves_GlaDpost_GlaDpostIdeal : Prop :=
  True

def algebraic_GlaDpostIdeal_GlaDpostRefIdeal [hGlaDpostIdeal : Cert.GlaDpostIdeal.Facts] [hGlaDpostRefIdeal : Cert.GlaDpostRefIdeal.Facts] : Prop :=
  ∀ (m : (ℓ : Loc Cert.GlaDpostIdeal.nD Cert.GlaDpostIdeal.τ Cert.GlaDpostIdeal.sig) → Buf (Elt Ideal) ℓ) (g : Dev Cert.GlaDpostIdeal.nD → PrngReg)
    (m' : (ℓ : Loc Cert.GlaDpostRefIdeal.nD Cert.GlaDpostRefIdeal.τ Cert.GlaDpostRefIdeal.sig) → Buf (Elt Ideal) ℓ) (g' : Dev Cert.GlaDpostRefIdeal.nD → PrngReg), Pre_GlaDpostIdeal m →
    (∀ c : Dev Cert.GlaDpostIdeal.nD,
      m' ((c.tc : Thread Cert.GlaDpostRefIdeal.nD Cert.GlaDpostRefIdeal.τ).loc Cert.GlaDpostRefIdeal.main_arg0) = m ((c.tc : Thread Cert.GlaDpostIdeal.nD Cert.GlaDpostIdeal.τ).loc Cert.GlaDpostIdeal.main_arg0)
      ∧ m' ((c.tc : Thread Cert.GlaDpostRefIdeal.nD Cert.GlaDpostRefIdeal.τ).loc Cert.GlaDpostRefIdeal.main_arg1) = m ((c.tc : Thread Cert.GlaDpostIdeal.nD Cert.GlaDpostIdeal.τ).loc Cert.GlaDpostIdeal.main_arg1)
      ∧ m' ((c.tc : Thread Cert.GlaDpostRefIdeal.nD Cert.GlaDpostRefIdeal.τ).loc Cert.GlaDpostRefIdeal.main_arg2) = m ((c.tc : Thread Cert.GlaDpostIdeal.nD Cert.GlaDpostIdeal.τ).loc Cert.GlaDpostIdeal.main_arg2)
      ∧ m' ((c.tc : Thread Cert.GlaDpostRefIdeal.nD Cert.GlaDpostRefIdeal.τ).loc Cert.GlaDpostRefIdeal.main_arg3) = m ((c.tc : Thread Cert.GlaDpostIdeal.nD Cert.GlaDpostIdeal.τ).loc Cert.GlaDpostIdeal.main_arg3)
      ∧ m' ((c.tc : Thread Cert.GlaDpostRefIdeal.nD Cert.GlaDpostRefIdeal.τ).loc Cert.GlaDpostRefIdeal.main_arg4) = m ((c.tc : Thread Cert.GlaDpostIdeal.nD Cert.GlaDpostIdeal.τ).loc Cert.GlaDpostIdeal.main_arg4)) →
    ∃ (v0 : (c : Dev Cert.GlaDpostIdeal.nD) → Buf (Elt Ideal) ((c.tc : Thread Cert.GlaDpostIdeal.nD Cert.GlaDpostIdeal.τ).loc Cert.GlaDpostIdeal.main_v0_0)) (v1 : (c : Dev Cert.GlaDpostIdeal.nD) → Buf (Elt Ideal) ((c.tc : Thread Cert.GlaDpostIdeal.nD Cert.GlaDpostIdeal.τ).loc Cert.GlaDpostIdeal.main_v0_1)) (v2 : (c : Dev Cert.GlaDpostIdeal.nD) → Buf (Elt Ideal) ((c.tc : Thread Cert.GlaDpostIdeal.nD Cert.GlaDpostIdeal.τ).loc Cert.GlaDpostIdeal.main_v0_2)),
      θ_run (Cert.GlaDpostIdeal.defs (F := Ideal)) (onTc (τ := Cert.GlaDpostIdeal.τ) (Cert.GlaDpostIdeal.main (F := Ideal))) ⟨m, fun _ => 0, g⟩ (fun r => ∀ c : Dev Cert.GlaDpostIdeal.nD,
          r.2.mem ((c.tc : Thread Cert.GlaDpostIdeal.nD Cert.GlaDpostIdeal.τ).loc Cert.GlaDpostIdeal.main_v0_0) = v0 c
          ∧ r.2.mem ((c.tc : Thread Cert.GlaDpostIdeal.nD Cert.GlaDpostIdeal.τ).loc Cert.GlaDpostIdeal.main_v0_1) = v1 c
          ∧ r.2.mem ((c.tc : Thread Cert.GlaDpostIdeal.nD Cert.GlaDpostIdeal.τ).loc Cert.GlaDpostIdeal.main_v0_2) = v2 c
          ∧ r.2.mem ((c.tc : Thread Cert.GlaDpostIdeal.nD Cert.GlaDpostIdeal.τ).loc Cert.GlaDpostIdeal.main_arg0) = m ((c.tc : Thread Cert.GlaDpostIdeal.nD Cert.GlaDpostIdeal.τ).loc Cert.GlaDpostIdeal.main_arg0)
          ∧ r.2.mem ((c.tc : Thread Cert.GlaDpostIdeal.nD Cert.GlaDpostIdeal.τ).loc Cert.GlaDpostIdeal.main_arg1) = m ((c.tc : Thread Cert.GlaDpostIdeal.nD Cert.GlaDpostIdeal.τ).loc Cert.GlaDpostIdeal.main_arg1)
          ∧ r.2.mem ((c.tc : Thread Cert.GlaDpostIdeal.nD Cert.GlaDpostIdeal.τ).loc Cert.GlaDpostIdeal.main_arg2) = m ((c.tc : Thread Cert.GlaDpostIdeal.nD Cert.GlaDpostIdeal.τ).loc Cert.GlaDpostIdeal.main_arg2)
          ∧ r.2.mem ((c.tc : Thread Cert.GlaDpostIdeal.nD Cert.GlaDpostIdeal.τ).loc Cert.GlaDpostIdeal.main_arg3) = m ((c.tc : Thread Cert.GlaDpostIdeal.nD Cert.GlaDpostIdeal.τ).loc Cert.GlaDpostIdeal.main_arg3)
          ∧ r.2.mem ((c.tc : Thread Cert.GlaDpostIdeal.nD Cert.GlaDpostIdeal.τ).loc Cert.GlaDpostIdeal.main_arg4) = m ((c.tc : Thread Cert.GlaDpostIdeal.nD Cert.GlaDpostIdeal.τ).loc Cert.GlaDpostIdeal.main_arg4))
      ∧ θ_run (Cert.GlaDpostRefIdeal.defs (F := Ideal)) (onTc (τ := Cert.GlaDpostRefIdeal.τ) (Cert.GlaDpostRefIdeal.main (F := Ideal))) ⟨m', fun _ => 0, g'⟩ (fun r => ∀ c : Dev Cert.GlaDpostRefIdeal.nD,
          r.2.mem ((c.tc : Thread Cert.GlaDpostRefIdeal.nD Cert.GlaDpostRefIdeal.τ).loc Cert.GlaDpostRefIdeal.main_v44) = v0 c
          ∧ r.2.mem ((c.tc : Thread Cert.GlaDpostRefIdeal.nD Cert.GlaDpostRefIdeal.τ).loc Cert.GlaDpostRefIdeal.main_v45) = v1 c
          ∧ r.2.mem ((c.tc : Thread Cert.GlaDpostRefIdeal.nD Cert.GlaDpostRefIdeal.τ).loc Cert.GlaDpostRefIdeal.main_v26) = v2 c
          ∧ r.2.mem ((c.tc : Thread Cert.GlaDpostRefIdeal.nD Cert.GlaDpostRefIdeal.τ).loc Cert.GlaDpostRefIdeal.main_arg0) = m' ((c.tc : Thread Cert.GlaDpostRefIdeal.nD Cert.GlaDpostRefIdeal.τ).loc Cert.GlaDpostRefIdeal.main_arg0)
          ∧ r.2.mem ((c.tc : Thread Cert.GlaDpostRefIdeal.nD Cert.GlaDpostRefIdeal.τ).loc Cert.GlaDpostRefIdeal.main_arg1) = m' ((c.tc : Thread Cert.GlaDpostRefIdeal.nD Cert.GlaDpostRefIdeal.τ).loc Cert.GlaDpostRefIdeal.main_arg1)
          ∧ r.2.mem ((c.tc : Thread Cert.GlaDpostRefIdeal.nD Cert.GlaDpostRefIdeal.τ).loc Cert.GlaDpostRefIdeal.main_arg2) = m' ((c.tc : Thread Cert.GlaDpostRefIdeal.nD Cert.GlaDpostRefIdeal.τ).loc Cert.GlaDpostRefIdeal.main_arg2)
          ∧ r.2.mem ((c.tc : Thread Cert.GlaDpostRefIdeal.nD Cert.GlaDpostRefIdeal.τ).loc Cert.GlaDpostRefIdeal.main_arg3) = m' ((c.tc : Thread Cert.GlaDpostRefIdeal.nD Cert.GlaDpostRefIdeal.τ).loc Cert.GlaDpostRefIdeal.main_arg3)
          ∧ r.2.mem ((c.tc : Thread Cert.GlaDpostRefIdeal.nD Cert.GlaDpostRefIdeal.τ).loc Cert.GlaDpostRefIdeal.main_arg4) = m' ((c.tc : Thread Cert.GlaDpostRefIdeal.nD Cert.GlaDpostRefIdeal.τ).loc Cert.GlaDpostRefIdeal.main_arg4))

def preserves_Dgates_DgatesIdeal : Prop :=
  True

def algebraic_DgatesIdeal_DgatesRefIdeal_pre_finite_gates [hDgatesIdeal : Cert.DgatesIdeal.Facts] [hDgatesRefIdeal : Cert.DgatesRefIdeal.Facts] [hPre_finite_gates : Cert.Pre_finite_gates.Facts] : Prop :=
  ∀ (m : (ℓ : Loc Cert.DgatesIdeal.nD Cert.DgatesIdeal.τ Cert.DgatesIdeal.sig) → Buf (Elt Ideal) ℓ) (g : Dev Cert.DgatesIdeal.nD → PrngReg)
    (m' : (ℓ : Loc Cert.DgatesRefIdeal.nD Cert.DgatesRefIdeal.τ Cert.DgatesRefIdeal.sig) → Buf (Elt Ideal) ℓ) (g' : Dev Cert.DgatesRefIdeal.nD → PrngReg), Pre_DgatesIdeal_finite_gates m →
    (∀ c : Dev Cert.DgatesIdeal.nD,
      m' ((c.tc : Thread Cert.DgatesRefIdeal.nD Cert.DgatesRefIdeal.τ).loc Cert.DgatesRefIdeal.main_arg0) = m ((c.tc : Thread Cert.DgatesIdeal.nD Cert.DgatesIdeal.τ).loc Cert.DgatesIdeal.main_arg0)
      ∧ m' ((c.tc : Thread Cert.DgatesRefIdeal.nD Cert.DgatesRefIdeal.τ).loc Cert.DgatesRefIdeal.main_arg1) = m ((c.tc : Thread Cert.DgatesIdeal.nD Cert.DgatesIdeal.τ).loc Cert.DgatesIdeal.main_arg1)
      ∧ m' ((c.tc : Thread Cert.DgatesRefIdeal.nD Cert.DgatesRefIdeal.τ).loc Cert.DgatesRefIdeal.main_arg2) = m ((c.tc : Thread Cert.DgatesIdeal.nD Cert.DgatesIdeal.τ).loc Cert.DgatesIdeal.main_arg2)
      ∧ m' ((c.tc : Thread Cert.DgatesRefIdeal.nD Cert.DgatesRefIdeal.τ).loc Cert.DgatesRefIdeal.main_arg3) = m ((c.tc : Thread Cert.DgatesIdeal.nD Cert.DgatesIdeal.τ).loc Cert.DgatesIdeal.main_arg3)
      ∧ m' ((c.tc : Thread Cert.DgatesRefIdeal.nD Cert.DgatesRefIdeal.τ).loc Cert.DgatesRefIdeal.main_arg4) = m ((c.tc : Thread Cert.DgatesIdeal.nD Cert.DgatesIdeal.τ).loc Cert.DgatesIdeal.main_arg4)
      ∧ m' ((c.tc : Thread Cert.DgatesRefIdeal.nD Cert.DgatesRefIdeal.τ).loc Cert.DgatesRefIdeal.main_arg5) = m ((c.tc : Thread Cert.DgatesIdeal.nD Cert.DgatesIdeal.τ).loc Cert.DgatesIdeal.main_arg5)
      ∧ m' ((c.tc : Thread Cert.DgatesRefIdeal.nD Cert.DgatesRefIdeal.τ).loc Cert.DgatesRefIdeal.main_arg6) = m ((c.tc : Thread Cert.DgatesIdeal.nD Cert.DgatesIdeal.τ).loc Cert.DgatesIdeal.main_arg6)
      ∧ m' ((c.tc : Thread Cert.DgatesRefIdeal.nD Cert.DgatesRefIdeal.τ).loc Cert.DgatesRefIdeal.main_arg7) = m ((c.tc : Thread Cert.DgatesIdeal.nD Cert.DgatesIdeal.τ).loc Cert.DgatesIdeal.main_arg7)
      ∧ m' ((c.tc : Thread Cert.DgatesRefIdeal.nD Cert.DgatesRefIdeal.τ).loc Cert.DgatesRefIdeal.main_arg8) = m ((c.tc : Thread Cert.DgatesIdeal.nD Cert.DgatesIdeal.τ).loc Cert.DgatesIdeal.main_arg8)
      ∧ m' ((c.tc : Thread Cert.DgatesRefIdeal.nD Cert.DgatesRefIdeal.τ).loc Cert.DgatesRefIdeal.main_arg9) = m ((c.tc : Thread Cert.DgatesIdeal.nD Cert.DgatesIdeal.τ).loc Cert.DgatesIdeal.main_arg9)) →
    ∃ (v0 : (c : Dev Cert.DgatesIdeal.nD) → Buf (Elt Ideal) ((c.tc : Thread Cert.DgatesIdeal.nD Cert.DgatesIdeal.τ).loc Cert.DgatesIdeal.main_v24_0)) (v1 : (c : Dev Cert.DgatesIdeal.nD) → Buf (Elt Ideal) ((c.tc : Thread Cert.DgatesIdeal.nD Cert.DgatesIdeal.τ).loc Cert.DgatesIdeal.main_v50)) (v2 : (c : Dev Cert.DgatesIdeal.nD) → Buf (Elt Ideal) ((c.tc : Thread Cert.DgatesIdeal.nD Cert.DgatesIdeal.τ).loc Cert.DgatesIdeal.main_v24_3)) (v3 : (c : Dev Cert.DgatesIdeal.nD) → Buf (Elt Ideal) ((c.tc : Thread Cert.DgatesIdeal.nD Cert.DgatesIdeal.τ).loc Cert.DgatesIdeal.main_v76)) (v4 : (c : Dev Cert.DgatesIdeal.nD) → Buf (Elt Ideal) ((c.tc : Thread Cert.DgatesIdeal.nD Cert.DgatesIdeal.τ).loc Cert.DgatesIdeal.main_v24_4)) (v5 : (c : Dev Cert.DgatesIdeal.nD) → Buf (Elt Ideal) ((c.tc : Thread Cert.DgatesIdeal.nD Cert.DgatesIdeal.τ).loc Cert.DgatesIdeal.main_v24_5)),
      θ_run (Cert.DgatesIdeal.defs (F := Ideal)) (onTc (τ := Cert.DgatesIdeal.τ) (Cert.DgatesIdeal.main (F := Ideal))) ⟨m, fun _ => 0, g⟩ (fun r => ∀ c : Dev Cert.DgatesIdeal.nD,
          r.2.mem ((c.tc : Thread Cert.DgatesIdeal.nD Cert.DgatesIdeal.τ).loc Cert.DgatesIdeal.main_v24_0) = v0 c
          ∧ r.2.mem ((c.tc : Thread Cert.DgatesIdeal.nD Cert.DgatesIdeal.τ).loc Cert.DgatesIdeal.main_v50) = v1 c
          ∧ r.2.mem ((c.tc : Thread Cert.DgatesIdeal.nD Cert.DgatesIdeal.τ).loc Cert.DgatesIdeal.main_v24_3) = v2 c
          ∧ r.2.mem ((c.tc : Thread Cert.DgatesIdeal.nD Cert.DgatesIdeal.τ).loc Cert.DgatesIdeal.main_v76) = v3 c
          ∧ r.2.mem ((c.tc : Thread Cert.DgatesIdeal.nD Cert.DgatesIdeal.τ).loc Cert.DgatesIdeal.main_v24_4) = v4 c
          ∧ r.2.mem ((c.tc : Thread Cert.DgatesIdeal.nD Cert.DgatesIdeal.τ).loc Cert.DgatesIdeal.main_v24_5) = v5 c
          ∧ r.2.mem ((c.tc : Thread Cert.DgatesIdeal.nD Cert.DgatesIdeal.τ).loc Cert.DgatesIdeal.main_arg0) = m ((c.tc : Thread Cert.DgatesIdeal.nD Cert.DgatesIdeal.τ).loc Cert.DgatesIdeal.main_arg0)
          ∧ r.2.mem ((c.tc : Thread Cert.DgatesIdeal.nD Cert.DgatesIdeal.τ).loc Cert.DgatesIdeal.main_arg1) = m ((c.tc : Thread Cert.DgatesIdeal.nD Cert.DgatesIdeal.τ).loc Cert.DgatesIdeal.main_arg1)
          ∧ r.2.mem ((c.tc : Thread Cert.DgatesIdeal.nD Cert.DgatesIdeal.τ).loc Cert.DgatesIdeal.main_arg2) = m ((c.tc : Thread Cert.DgatesIdeal.nD Cert.DgatesIdeal.τ).loc Cert.DgatesIdeal.main_arg2)
          ∧ r.2.mem ((c.tc : Thread Cert.DgatesIdeal.nD Cert.DgatesIdeal.τ).loc Cert.DgatesIdeal.main_arg3) = m ((c.tc : Thread Cert.DgatesIdeal.nD Cert.DgatesIdeal.τ).loc Cert.DgatesIdeal.main_arg3)
          ∧ r.2.mem ((c.tc : Thread Cert.DgatesIdeal.nD Cert.DgatesIdeal.τ).loc Cert.DgatesIdeal.main_arg4) = m ((c.tc : Thread Cert.DgatesIdeal.nD Cert.DgatesIdeal.τ).loc Cert.DgatesIdeal.main_arg4)
          ∧ r.2.mem ((c.tc : Thread Cert.DgatesIdeal.nD Cert.DgatesIdeal.τ).loc Cert.DgatesIdeal.main_arg5) = m ((c.tc : Thread Cert.DgatesIdeal.nD Cert.DgatesIdeal.τ).loc Cert.DgatesIdeal.main_arg5)
          ∧ r.2.mem ((c.tc : Thread Cert.DgatesIdeal.nD Cert.DgatesIdeal.τ).loc Cert.DgatesIdeal.main_arg6) = m ((c.tc : Thread Cert.DgatesIdeal.nD Cert.DgatesIdeal.τ).loc Cert.DgatesIdeal.main_arg6)
          ∧ r.2.mem ((c.tc : Thread Cert.DgatesIdeal.nD Cert.DgatesIdeal.τ).loc Cert.DgatesIdeal.main_arg7) = m ((c.tc : Thread Cert.DgatesIdeal.nD Cert.DgatesIdeal.τ).loc Cert.DgatesIdeal.main_arg7)
          ∧ r.2.mem ((c.tc : Thread Cert.DgatesIdeal.nD Cert.DgatesIdeal.τ).loc Cert.DgatesIdeal.main_arg8) = m ((c.tc : Thread Cert.DgatesIdeal.nD Cert.DgatesIdeal.τ).loc Cert.DgatesIdeal.main_arg8)
          ∧ r.2.mem ((c.tc : Thread Cert.DgatesIdeal.nD Cert.DgatesIdeal.τ).loc Cert.DgatesIdeal.main_arg9) = m ((c.tc : Thread Cert.DgatesIdeal.nD Cert.DgatesIdeal.τ).loc Cert.DgatesIdeal.main_arg9))
      ∧ θ_run (Cert.DgatesRefIdeal.defs (F := Ideal)) (onTc (τ := Cert.DgatesRefIdeal.τ) (Cert.DgatesRefIdeal.main (F := Ideal))) ⟨m', fun _ => 0, g'⟩ (fun r => ∀ c : Dev Cert.DgatesRefIdeal.nD,
          r.2.mem ((c.tc : Thread Cert.DgatesRefIdeal.nD Cert.DgatesRefIdeal.τ).loc Cert.DgatesRefIdeal.main_v116) = v0 c
          ∧ r.2.mem ((c.tc : Thread Cert.DgatesRefIdeal.nD Cert.DgatesRefIdeal.τ).loc Cert.DgatesRefIdeal.main_v114) = v1 c
          ∧ r.2.mem ((c.tc : Thread Cert.DgatesRefIdeal.nD Cert.DgatesRefIdeal.τ).loc Cert.DgatesRefIdeal.main_v107) = v2 c
          ∧ r.2.mem ((c.tc : Thread Cert.DgatesRefIdeal.nD Cert.DgatesRefIdeal.τ).loc Cert.DgatesRefIdeal.main_v103) = v3 c
          ∧ r.2.mem ((c.tc : Thread Cert.DgatesRefIdeal.nD Cert.DgatesRefIdeal.τ).loc Cert.DgatesRefIdeal.main_v97) = v4 c
          ∧ r.2.mem ((c.tc : Thread Cert.DgatesRefIdeal.nD Cert.DgatesRefIdeal.τ).loc Cert.DgatesRefIdeal.main_v91) = v5 c
          ∧ r.2.mem ((c.tc : Thread Cert.DgatesRefIdeal.nD Cert.DgatesRefIdeal.τ).loc Cert.DgatesRefIdeal.main_arg0) = m' ((c.tc : Thread Cert.DgatesRefIdeal.nD Cert.DgatesRefIdeal.τ).loc Cert.DgatesRefIdeal.main_arg0)
          ∧ r.2.mem ((c.tc : Thread Cert.DgatesRefIdeal.nD Cert.DgatesRefIdeal.τ).loc Cert.DgatesRefIdeal.main_arg1) = m' ((c.tc : Thread Cert.DgatesRefIdeal.nD Cert.DgatesRefIdeal.τ).loc Cert.DgatesRefIdeal.main_arg1)
          ∧ r.2.mem ((c.tc : Thread Cert.DgatesRefIdeal.nD Cert.DgatesRefIdeal.τ).loc Cert.DgatesRefIdeal.main_arg2) = m' ((c.tc : Thread Cert.DgatesRefIdeal.nD Cert.DgatesRefIdeal.τ).loc Cert.DgatesRefIdeal.main_arg2)
          ∧ r.2.mem ((c.tc : Thread Cert.DgatesRefIdeal.nD Cert.DgatesRefIdeal.τ).loc Cert.DgatesRefIdeal.main_arg3) = m' ((c.tc : Thread Cert.DgatesRefIdeal.nD Cert.DgatesRefIdeal.τ).loc Cert.DgatesRefIdeal.main_arg3)
          ∧ r.2.mem ((c.tc : Thread Cert.DgatesRefIdeal.nD Cert.DgatesRefIdeal.τ).loc Cert.DgatesRefIdeal.main_arg4) = m' ((c.tc : Thread Cert.DgatesRefIdeal.nD Cert.DgatesRefIdeal.τ).loc Cert.DgatesRefIdeal.main_arg4)
          ∧ r.2.mem ((c.tc : Thread Cert.DgatesRefIdeal.nD Cert.DgatesRefIdeal.τ).loc Cert.DgatesRefIdeal.main_arg5) = m' ((c.tc : Thread Cert.DgatesRefIdeal.nD Cert.DgatesRefIdeal.τ).loc Cert.DgatesRefIdeal.main_arg5)
          ∧ r.2.mem ((c.tc : Thread Cert.DgatesRefIdeal.nD Cert.DgatesRefIdeal.τ).loc Cert.DgatesRefIdeal.main_arg6) = m' ((c.tc : Thread Cert.DgatesRefIdeal.nD Cert.DgatesRefIdeal.τ).loc Cert.DgatesRefIdeal.main_arg6)
          ∧ r.2.mem ((c.tc : Thread Cert.DgatesRefIdeal.nD Cert.DgatesRefIdeal.τ).loc Cert.DgatesRefIdeal.main_arg7) = m' ((c.tc : Thread Cert.DgatesRefIdeal.nD Cert.DgatesRefIdeal.τ).loc Cert.DgatesRefIdeal.main_arg7)
          ∧ r.2.mem ((c.tc : Thread Cert.DgatesRefIdeal.nD Cert.DgatesRefIdeal.τ).loc Cert.DgatesRefIdeal.main_arg8) = m' ((c.tc : Thread Cert.DgatesRefIdeal.nD Cert.DgatesRefIdeal.τ).loc Cert.DgatesRefIdeal.main_arg8)
          ∧ r.2.mem ((c.tc : Thread Cert.DgatesRefIdeal.nD Cert.DgatesRefIdeal.τ).loc Cert.DgatesRefIdeal.main_arg9) = m' ((c.tc : Thread Cert.DgatesRefIdeal.nD Cert.DgatesRefIdeal.τ).loc Cert.DgatesRefIdeal.main_arg9))

def preserves_Gates_GatesIdeal : Prop :=
  True

def algebraic_GatesIdeal_GatesRefIdeal_pre_finite_decay [hGatesIdeal : Cert.GatesIdeal.Facts] [hGatesRefIdeal : Cert.GatesRefIdeal.Facts] [hPre_finite_decay : Cert.Pre_finite_decay.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesRefIdeal.nD Cert.GatesRefIdeal.τ Cert.GatesRefIdeal.sig) → Buf (Elt Ideal) ℓ) (g' : Dev Cert.GatesRefIdeal.nD → PrngReg), Pre_GatesIdeal_finite_decay m →
    (∀ c : Dev Cert.GatesIdeal.nD,
      m' ((c.tc : Thread Cert.GatesRefIdeal.nD Cert.GatesRefIdeal.τ).loc Cert.GatesRefIdeal.main_arg0) = m ((c.tc : Thread Cert.GatesIdeal.nD Cert.GatesIdeal.τ).loc Cert.GatesIdeal.main_arg0)
      ∧ m' ((c.tc : Thread Cert.GatesRefIdeal.nD Cert.GatesRefIdeal.τ).loc Cert.GatesRefIdeal.main_arg1) = m ((c.tc : Thread Cert.GatesIdeal.nD Cert.GatesIdeal.τ).loc Cert.GatesIdeal.main_arg1)
      ∧ m' ((c.tc : Thread Cert.GatesRefIdeal.nD Cert.GatesRefIdeal.τ).loc Cert.GatesRefIdeal.main_arg2) = m ((c.tc : Thread Cert.GatesIdeal.nD Cert.GatesIdeal.τ).loc Cert.GatesIdeal.main_arg2)
      ∧ m' ((c.tc : Thread Cert.GatesRefIdeal.nD Cert.GatesRefIdeal.τ).loc Cert.GatesRefIdeal.main_arg3) = m ((c.tc : Thread Cert.GatesIdeal.nD Cert.GatesIdeal.τ).loc Cert.GatesIdeal.main_arg3)
      ∧ m' ((c.tc : Thread Cert.GatesRefIdeal.nD Cert.GatesRefIdeal.τ).loc Cert.GatesRefIdeal.main_arg4) = m ((c.tc : Thread Cert.GatesIdeal.nD Cert.GatesIdeal.τ).loc Cert.GatesIdeal.main_arg4)
      ∧ m' ((c.tc : Thread Cert.GatesRefIdeal.nD Cert.GatesRefIdeal.τ).loc Cert.GatesRefIdeal.main_arg5) = m ((c.tc : Thread Cert.GatesIdeal.nD Cert.GatesIdeal.τ).loc Cert.GatesIdeal.main_arg5)) →
    ∃ (v0 : (c : Dev Cert.GatesIdeal.nD) → Buf (Elt Ideal) ((c.tc : Thread Cert.GatesIdeal.nD Cert.GatesIdeal.τ).loc Cert.GatesIdeal.main_v24_0)) (v1 : (c : Dev Cert.GatesIdeal.nD) → Buf (Elt Ideal) ((c.tc : Thread Cert.GatesIdeal.nD Cert.GatesIdeal.τ).loc Cert.GatesIdeal.main_v24_1)) (v2 : (c : Dev Cert.GatesIdeal.nD) → Buf (Elt Ideal) ((c.tc : Thread Cert.GatesIdeal.nD Cert.GatesIdeal.τ).loc Cert.GatesIdeal.main_v24_2)) (v3 : (c : Dev Cert.GatesIdeal.nD) → Buf (Elt Ideal) ((c.tc : Thread Cert.GatesIdeal.nD Cert.GatesIdeal.τ).loc Cert.GatesIdeal.main_v24_3)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v24_0) = v0 c
          ∧ r.2.mem ((c.tc : Thread Cert.GatesIdeal.nD Cert.GatesIdeal.τ).loc Cert.GatesIdeal.main_v24_1) = v1 c
          ∧ r.2.mem ((c.tc : Thread Cert.GatesIdeal.nD Cert.GatesIdeal.τ).loc Cert.GatesIdeal.main_v24_2) = v2 c
          ∧ r.2.mem ((c.tc : Thread Cert.GatesIdeal.nD Cert.GatesIdeal.τ).loc Cert.GatesIdeal.main_v24_3) = v3 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
          ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4)
          ∧ r.2.mem ((c.tc : Thread Cert.GatesIdeal.nD Cert.GatesIdeal.τ).loc Cert.GatesIdeal.main_arg5) = m ((c.tc : Thread Cert.GatesIdeal.nD Cert.GatesIdeal.τ).loc Cert.GatesIdeal.main_arg5))
      ∧ θ_run (Cert.GatesRefIdeal.defs (F := Ideal)) (onTc (τ := Cert.GatesRefIdeal.τ) (Cert.GatesRefIdeal.main (F := Ideal))) ⟨m', fun _ => 0, g'⟩ (fun r => ∀ c : Dev Cert.GatesRefIdeal.nD,
          r.2.mem ((c.tc : Thread Cert.GatesRefIdeal.nD Cert.GatesRefIdeal.τ).loc Cert.GatesRefIdeal.main_v43) = v0 c
          ∧ r.2.mem ((c.tc : Thread Cert.GatesRefIdeal.nD Cert.GatesRefIdeal.τ).loc Cert.GatesRefIdeal.main_v45) = v1 c
          ∧ r.2.mem ((c.tc : Thread Cert.GatesRefIdeal.nD Cert.GatesRefIdeal.τ).loc Cert.GatesRefIdeal.main_v47) = v2 c
          ∧ r.2.mem ((c.tc : Thread Cert.GatesRefIdeal.nD Cert.GatesRefIdeal.τ).loc Cert.GatesRefIdeal.main_v49) = v3 c
          ∧ r.2.mem ((c.tc : Thread Cert.GatesRefIdeal.nD Cert.GatesRefIdeal.τ).loc Cert.GatesRefIdeal.main_arg0) = m' ((c.tc : Thread Cert.GatesRefIdeal.nD Cert.GatesRefIdeal.τ).loc Cert.GatesRefIdeal.main_arg0)
          ∧ r.2.mem ((c.tc : Thread Cert.GatesRefIdeal.nD Cert.GatesRefIdeal.τ).loc Cert.GatesRefIdeal.main_arg1) = m' ((c.tc : Thread Cert.GatesRefIdeal.nD Cert.GatesRefIdeal.τ).loc Cert.GatesRefIdeal.main_arg1)
          ∧ r.2.mem ((c.tc : Thread Cert.GatesRefIdeal.nD Cert.GatesRefIdeal.τ).loc Cert.GatesRefIdeal.main_arg2) = m' ((c.tc : Thread Cert.GatesRefIdeal.nD Cert.GatesRefIdeal.τ).loc Cert.GatesRefIdeal.main_arg2)
          ∧ r.2.mem ((c.tc : Thread Cert.GatesRefIdeal.nD Cert.GatesRefIdeal.τ).loc Cert.GatesRefIdeal.main_arg3) = m' ((c.tc : Thread Cert.GatesRefIdeal.nD Cert.GatesRefIdeal.τ).loc Cert.GatesRefIdeal.main_arg3)
          ∧ r.2.mem ((c.tc : Thread Cert.GatesRefIdeal.nD Cert.GatesRefIdeal.τ).loc Cert.GatesRefIdeal.main_arg4) = m' ((c.tc : Thread Cert.GatesRefIdeal.nD Cert.GatesRefIdeal.τ).loc Cert.GatesRefIdeal.main_arg4)
          ∧ r.2.mem ((c.tc : Thread Cert.GatesRefIdeal.nD Cert.GatesRefIdeal.τ).loc Cert.GatesRefIdeal.main_arg5) = m' ((c.tc : Thread Cert.GatesRefIdeal.nD Cert.GatesRefIdeal.τ).loc Cert.GatesRefIdeal.main_arg5))

def Claim : Prop :=
  ∃ (hKernel : Cert.Kernel.Facts) (hKernelIdeal : Cert.KernelIdeal.Facts) (hReferenceIdeal : Cert.ReferenceIdeal.Facts) (hDact : Cert.Dact.Facts) (hDactIdeal : Cert.DactIdeal.Facts) (hDactRefIdeal : Cert.DactRefIdeal.Facts) (hDw2 : Cert.Dw2.Facts) (hDw2Ideal : Cert.Dw2Ideal.Facts) (hDw2RefIdeal : Cert.Dw2RefIdeal.Facts) (hDw1 : Cert.Dw1.Facts) (hDw1Ideal : Cert.Dw1Ideal.Facts) (hDw1RefIdeal : Cert.Dw1RefIdeal.Facts) (hDy : Cert.Dy.Facts) (hDyIdeal : Cert.DyIdeal.Facts) (hDyRefIdeal : Cert.DyRefIdeal.Facts) (hDout : Cert.Dout.Facts) (hDoutIdeal : Cert.DoutIdeal.Facts) (hDoutRefIdeal : Cert.DoutRefIdeal.Facts) (hDwout : Cert.Dwout.Facts) (hDwoutIdeal : Cert.DwoutIdeal.Facts) (hDwoutRefIdeal : Cert.DwoutRefIdeal.Facts) (hAbDwin : Cert.AbDwin.Facts) (hAbDwinIdeal : Cert.AbDwinIdeal.Facts) (hAbDwinRefIdeal : Cert.AbDwinRefIdeal.Facts) (hGlaDwin : Cert.GlaDwin.Facts) (hGlaDwinIdeal : Cert.GlaDwinIdeal.Facts) (hGlaDwinRefIdeal : Cert.GlaDwinRefIdeal.Facts) (hAbDy : Cert.AbDy.Facts) (hAbDyIdeal : Cert.AbDyIdeal.Facts) (hAbDyRefIdeal : Cert.AbDyRefIdeal.Facts) (hGlaDy : Cert.GlaDy.Facts) (hGlaDyIdeal : Cert.GlaDyIdeal.Facts) (hGlaDyRefIdeal : Cert.GlaDyRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hLast : Cert.Last.Facts) (hLastIdeal : Cert.LastIdeal.Facts) (hLastRefIdeal : Cert.LastRefIdeal.Facts) (hOut : Cert.Out.Facts) (hOutIdeal : Cert.OutIdeal.Facts) (hOutRefIdeal : Cert.OutRefIdeal.Facts) (hAbIn : Cert.AbIn.Facts) (hAbInIdeal : Cert.AbInIdeal.Facts) (hAbInRefIdeal : Cert.AbInRefIdeal.Facts) (hGlaIn : Cert.GlaIn.Facts) (hGlaInIdeal : Cert.GlaInIdeal.Facts) (hGlaInRefIdeal : Cert.GlaInRefIdeal.Facts) (hGlaDpre : Cert.GlaDpre.Facts) (hGlaDpreIdeal : Cert.GlaDpreIdeal.Facts) (hGlaDpreRefIdeal : Cert.GlaDpreRefIdeal.Facts) (hGlaPre : Cert.GlaPre.Facts) (hGlaPreIdeal : Cert.GlaPreIdeal.Facts) (hGlaPreRefIdeal : Cert.GlaPreRefIdeal.Facts) (hDconv : Cert.Dconv.Facts) (hDconvIdeal : Cert.DconvIdeal.Facts) (hDconvRefIdeal : Cert.DconvRefIdeal.Facts) (hConv : Cert.Conv.Facts) (hConvIdeal : Cert.ConvIdeal.Facts) (hConvRefIdeal : Cert.ConvRefIdeal.Facts) (hNorm : Cert.Norm.Facts) (hNormIdeal : Cert.NormIdeal.Facts) (hNormRefIdeal : Cert.NormRefIdeal.Facts) (hGlaPost : Cert.GlaPost.Facts) (hGlaPostIdeal : Cert.GlaPostIdeal.Facts) (hGlaPostRefIdeal : Cert.GlaPostRefIdeal.Facts) (hGlaDpost : Cert.GlaDpost.Facts) (hGlaDpostIdeal : Cert.GlaDpostIdeal.Facts) (hGlaDpostRefIdeal : Cert.GlaDpostRefIdeal.Facts) (hDgates : Cert.Dgates.Facts) (hDgatesIdeal : Cert.DgatesIdeal.Facts) (hDgatesRefIdeal : Cert.DgatesRefIdeal.Facts) (hGates : Cert.Gates.Facts) (hGatesIdeal : Cert.GatesIdeal.Facts) (hGatesRefIdeal : Cert.GatesRefIdeal.Facts) (hPre_finite : Cert.Pre_finite.Facts) (hPre_finite_gates : Cert.Pre_finite_gates.Facts) (hPre_finite_decay : Cert.Pre_finite_decay.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Dact (hDact := hDact)
    ∧ quiescent_DactIdeal (hDactIdeal := hDactIdeal)
    ∧ quiescent_DactRefIdeal (hDactRefIdeal := hDactRefIdeal)
    ∧ quiescent_Dw2 (hDw2 := hDw2)
    ∧ quiescent_Dw2Ideal (hDw2Ideal := hDw2Ideal)
    ∧ quiescent_Dw2RefIdeal (hDw2RefIdeal := hDw2RefIdeal)
    ∧ quiescent_Dw1 (hDw1 := hDw1)
    ∧ quiescent_Dw1Ideal (hDw1Ideal := hDw1Ideal)
    ∧ quiescent_Dw1RefIdeal (hDw1RefIdeal := hDw1RefIdeal)
    ∧ quiescent_Dy (hDy := hDy)
    ∧ quiescent_DyIdeal (hDyIdeal := hDyIdeal)
    ∧ quiescent_DyRefIdeal (hDyRefIdeal := hDyRefIdeal)
    ∧ quiescent_Dout (hDout := hDout)
    ∧ quiescent_DoutIdeal (hDoutIdeal := hDoutIdeal)
    ∧ quiescent_DoutRefIdeal (hDoutRefIdeal := hDoutRefIdeal)
    ∧ quiescent_Dwout (hDwout := hDwout)
    ∧ quiescent_DwoutIdeal (hDwoutIdeal := hDwoutIdeal)
    ∧ quiescent_DwoutRefIdeal (hDwoutRefIdeal := hDwoutRefIdeal)
    ∧ quiescent_AbDwin (hAbDwin := hAbDwin)
    ∧ quiescent_AbDwinIdeal (hAbDwinIdeal := hAbDwinIdeal)
    ∧ quiescent_AbDwinRefIdeal (hAbDwinRefIdeal := hAbDwinRefIdeal)
    ∧ quiescent_GlaDwin (hGlaDwin := hGlaDwin)
    ∧ quiescent_GlaDwinIdeal (hGlaDwinIdeal := hGlaDwinIdeal)
    ∧ quiescent_GlaDwinRefIdeal (hGlaDwinRefIdeal := hGlaDwinRefIdeal)
    ∧ quiescent_AbDy (hAbDy := hAbDy)
    ∧ quiescent_AbDyIdeal (hAbDyIdeal := hAbDyIdeal)
    ∧ quiescent_AbDyRefIdeal (hAbDyRefIdeal := hAbDyRefIdeal)
    ∧ quiescent_GlaDy (hGlaDy := hGlaDy)
    ∧ quiescent_GlaDyIdeal (hGlaDyIdeal := hGlaDyIdeal)
    ∧ quiescent_GlaDyRefIdeal (hGlaDyRefIdeal := hGlaDyRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Last (hLast := hLast)
    ∧ quiescent_LastIdeal (hLastIdeal := hLastIdeal)
    ∧ quiescent_LastRefIdeal (hLastRefIdeal := hLastRefIdeal)
    ∧ quiescent_Out (hOut := hOut)
    ∧ quiescent_OutIdeal (hOutIdeal := hOutIdeal)
    ∧ quiescent_OutRefIdeal (hOutRefIdeal := hOutRefIdeal)
    ∧ quiescent_AbIn (hAbIn := hAbIn)
    ∧ quiescent_AbInIdeal (hAbInIdeal := hAbInIdeal)
    ∧ quiescent_AbInRefIdeal (hAbInRefIdeal := hAbInRefIdeal)
    ∧ quiescent_GlaIn (hGlaIn := hGlaIn)
    ∧ quiescent_GlaInIdeal (hGlaInIdeal := hGlaInIdeal)
    ∧ quiescent_GlaInRefIdeal (hGlaInRefIdeal := hGlaInRefIdeal)
    ∧ quiescent_GlaDpre (hGlaDpre := hGlaDpre)
    ∧ quiescent_GlaDpreIdeal (hGlaDpreIdeal := hGlaDpreIdeal)
    ∧ quiescent_GlaDpreRefIdeal (hGlaDpreRefIdeal := hGlaDpreRefIdeal)
    ∧ quiescent_GlaPre (hGlaPre := hGlaPre)
    ∧ quiescent_GlaPreIdeal (hGlaPreIdeal := hGlaPreIdeal)
    ∧ quiescent_GlaPreRefIdeal (hGlaPreRefIdeal := hGlaPreRefIdeal)
    ∧ quiescent_Dconv (hDconv := hDconv)
    ∧ quiescent_DconvIdeal (hDconvIdeal := hDconvIdeal)
    ∧ quiescent_DconvRefIdeal (hDconvRefIdeal := hDconvRefIdeal)
    ∧ quiescent_Conv (hConv := hConv)
    ∧ quiescent_ConvIdeal (hConvIdeal := hConvIdeal)
    ∧ quiescent_ConvRefIdeal (hConvRefIdeal := hConvRefIdeal)
    ∧ quiescent_Norm (hNorm := hNorm)
    ∧ quiescent_NormIdeal (hNormIdeal := hNormIdeal)
    ∧ quiescent_NormRefIdeal (hNormRefIdeal := hNormRefIdeal)
    ∧ quiescent_GlaPost (hGlaPost := hGlaPost)
    ∧ quiescent_GlaPostIdeal (hGlaPostIdeal := hGlaPostIdeal)
    ∧ quiescent_GlaPostRefIdeal (hGlaPostRefIdeal := hGlaPostRefIdeal)
    ∧ quiescent_GlaDpost (hGlaDpost := hGlaDpost)
    ∧ quiescent_GlaDpostIdeal (hGlaDpostIdeal := hGlaDpostIdeal)
    ∧ quiescent_GlaDpostRefIdeal (hGlaDpostRefIdeal := hGlaDpostRefIdeal)
    ∧ quiescent_Dgates (hDgates := hDgates)
    ∧ quiescent_DgatesIdeal (hDgatesIdeal := hDgatesIdeal)
    ∧ quiescent_DgatesIdeal_pre_finite_gates (hDgatesIdeal := hDgatesIdeal) (hPre_finite_gates := hPre_finite_gates)
    ∧ quiescent_DgatesRefIdeal (hDgatesRefIdeal := hDgatesRefIdeal)
    ∧ quiescent_DgatesRefIdeal_pre_finite_gates (hDgatesRefIdeal := hDgatesRefIdeal) (hPre_finite_gates := hPre_finite_gates)
    ∧ quiescent_Gates (hGates := hGates)
    ∧ quiescent_GatesIdeal (hGatesIdeal := hGatesIdeal)
    ∧ quiescent_GatesIdeal_pre_finite_decay (hGatesIdeal := hGatesIdeal) (hPre_finite_decay := hPre_finite_decay)
    ∧ quiescent_GatesRefIdeal (hGatesRefIdeal := hGatesRefIdeal)
    ∧ quiescent_GatesRefIdeal_pre_finite_decay (hGatesRefIdeal := hGatesRefIdeal) (hPre_finite_decay := hPre_finite_decay)
    ∧ preserves_Kernel_KernelIdeal
    ∧ algebraic_KernelIdeal_ReferenceIdeal_pre_finite (hKernelIdeal := hKernelIdeal) (hReferenceIdeal := hReferenceIdeal) (hPre_finite := hPre_finite)
    ∧ preserves_Dact_DactIdeal
    ∧ algebraic_DactIdeal_DactRefIdeal (hDactIdeal := hDactIdeal) (hDactRefIdeal := hDactRefIdeal)
    ∧ preserves_Dw2_Dw2Ideal
    ∧ algebraic_Dw2Ideal_Dw2RefIdeal (hDw2Ideal := hDw2Ideal) (hDw2RefIdeal := hDw2RefIdeal)
    ∧ preserves_Dw1_Dw1Ideal
    ∧ algebraic_Dw1Ideal_Dw1RefIdeal (hDw1Ideal := hDw1Ideal) (hDw1RefIdeal := hDw1RefIdeal)
    ∧ preserves_Dy_DyIdeal
    ∧ algebraic_DyIdeal_DyRefIdeal (hDyIdeal := hDyIdeal) (hDyRefIdeal := hDyRefIdeal)
    ∧ preserves_Dout_DoutIdeal
    ∧ algebraic_DoutIdeal_DoutRefIdeal (hDoutIdeal := hDoutIdeal) (hDoutRefIdeal := hDoutRefIdeal)
    ∧ preserves_Dwout_DwoutIdeal
    ∧ algebraic_DwoutIdeal_DwoutRefIdeal (hDwoutIdeal := hDwoutIdeal) (hDwoutRefIdeal := hDwoutRefIdeal)
    ∧ preserves_AbDwin_AbDwinIdeal
    ∧ algebraic_AbDwinIdeal_AbDwinRefIdeal (hAbDwinIdeal := hAbDwinIdeal) (hAbDwinRefIdeal := hAbDwinRefIdeal)
    ∧ preserves_GlaDwin_GlaDwinIdeal
    ∧ algebraic_GlaDwinIdeal_GlaDwinRefIdeal (hGlaDwinIdeal := hGlaDwinIdeal) (hGlaDwinRefIdeal := hGlaDwinRefIdeal)
    ∧ preserves_AbDy_AbDyIdeal
    ∧ algebraic_AbDyIdeal_AbDyRefIdeal (hAbDyIdeal := hAbDyIdeal) (hAbDyRefIdeal := hAbDyRefIdeal)
    ∧ preserves_GlaDy_GlaDyIdeal
    ∧ algebraic_GlaDyIdeal_GlaDyRefIdeal (hGlaDyIdeal := hGlaDyIdeal) (hGlaDyRefIdeal := hGlaDyRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Last_LastIdeal
    ∧ algebraic_LastIdeal_LastRefIdeal (hLastIdeal := hLastIdeal) (hLastRefIdeal := hLastRefIdeal)
    ∧ preserves_Out_OutIdeal
    ∧ algebraic_OutIdeal_OutRefIdeal (hOutIdeal := hOutIdeal) (hOutRefIdeal := hOutRefIdeal)
    ∧ preserves_AbIn_AbInIdeal
    ∧ algebraic_AbInIdeal_AbInRefIdeal (hAbInIdeal := hAbInIdeal) (hAbInRefIdeal := hAbInRefIdeal)
    ∧ preserves_GlaIn_GlaInIdeal
    ∧ algebraic_GlaInIdeal_GlaInRefIdeal (hGlaInIdeal := hGlaInIdeal) (hGlaInRefIdeal := hGlaInRefIdeal)
    ∧ preserves_GlaDpre_GlaDpreIdeal
    ∧ algebraic_GlaDpreIdeal_GlaDpreRefIdeal (hGlaDpreIdeal := hGlaDpreIdeal) (hGlaDpreRefIdeal := hGlaDpreRefIdeal)
    ∧ preserves_GlaPre_GlaPreIdeal
    ∧ algebraic_GlaPreIdeal_GlaPreRefIdeal (hGlaPreIdeal := hGlaPreIdeal) (hGlaPreRefIdeal := hGlaPreRefIdeal)
    ∧ preserves_Dconv_DconvIdeal
    ∧ algebraic_DconvIdeal_DconvRefIdeal (hDconvIdeal := hDconvIdeal) (hDconvRefIdeal := hDconvRefIdeal)
    ∧ preserves_Conv_ConvIdeal
    ∧ algebraic_ConvIdeal_ConvRefIdeal (hConvIdeal := hConvIdeal) (hConvRefIdeal := hConvRefIdeal)
    ∧ preserves_Norm_NormIdeal
    ∧ algebraic_NormIdeal_NormRefIdeal (hNormIdeal := hNormIdeal) (hNormRefIdeal := hNormRefIdeal)
    ∧ preserves_GlaPost_GlaPostIdeal
    ∧ algebraic_GlaPostIdeal_GlaPostRefIdeal (hGlaPostIdeal := hGlaPostIdeal) (hGlaPostRefIdeal := hGlaPostRefIdeal)
    ∧ preserves_GlaDpost_GlaDpostIdeal
    ∧ algebraic_GlaDpostIdeal_GlaDpostRefIdeal (hGlaDpostIdeal := hGlaDpostIdeal) (hGlaDpostRefIdeal := hGlaDpostRefIdeal)
    ∧ preserves_Dgates_DgatesIdeal
    ∧ algebraic_DgatesIdeal_DgatesRefIdeal_pre_finite_gates (hDgatesIdeal := hDgatesIdeal) (hDgatesRefIdeal := hDgatesRefIdeal) (hPre_finite_gates := hPre_finite_gates)
    ∧ preserves_Gates_GatesIdeal
    ∧ algebraic_GatesIdeal_GatesRefIdeal_pre_finite_decay (hGatesIdeal := hGatesIdeal) (hGatesRefIdeal := hGatesRefIdeal) (hPre_finite_decay := hPre_finite_decay)
-- ==== Pre_finite.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)

variable [Facts]

def fn {F : FTy → Type} [FloatOps F] (main_arg0 : FVec F S4096x512 .f32) (main_arg1 : FVec F S4096x512 .f32) (main_arg2 : FVec F S4096x512 .f32) (main_arg3 : FVec F S4096x512 .f32) (main_arg4 : FVec F S4096x512 .f32) : IVec S4096x512 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S4096x512 .f32 := Host.absf main_arg2
  let main_cst_1 : FVec F S_ .f32 := constant S_ .f32 0x7F800000#32
  let main_v7 : FVec F S4096x512 .f32 := broadcastInDim S4096x512 ![] bcast_S_S4096x512 main_cst_1
  let main_v8 : IVec S4096x512 1 := cmpf .olt main_v6 main_v7
  let main_v9 : FVec F S4096x512 .f32 := Host.absf main_arg3
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_v12 : FVec F S4096x512 .f32 := Host.absf main_arg4
  let main_cst_3 : FVec F S_ .f32 := constant S_ .f32 0x7F800000#32
  let main_v13 : FVec F S4096x512 .f32 := broadcastInDim S4096x512 ![] bcast_S_S4096x512 main_cst_3
  let main_v14 : IVec S4096x512 1 := cmpf .olt main_v12 main_v13
  let main_v15 : IVec S4096x512 1 := andi main_v2 main_v5
  let main_v16 : IVec S4096x512 1 := andi main_v15 main_v8
  let main_v17 : IVec S4096x512 1 := andi main_v16 main_v11
  let main_v18 : IVec S4096x512 1 := andi main_v17 main_v14
  main_v18
-- ==== Pre_finite_decay.lean ====
abbrev S4096x512 : Shape := ⟨2, ![4096, 512]⟩
abbrev S2x8x64x64 : Shape := ⟨4, ![2, 8, 64, 64]⟩
abbrev S2x512 : Shape := ⟨2, ![2, 512]⟩
abbrev S_ : Shape := ⟨0, ![]⟩

class Facts : Prop where
  bcast_S_S2x512 : S_.BroadcastsInDim S2x512 (![] : Fin 0 → Fin S2x512.rank)

variable [Facts]

def fn {F : FTy → Type} [FloatOps F] (main_arg0 : FVec F S4096x512 .f32) (main_arg1 : FVec F S2x8x64x64 .f32) (main_arg2 : FVec F S2x512 .f32) (main_arg3 : FVec F S2x8x64x64 .f32) (main_arg4 : FVec F S2x512 .f32) (main_arg5 : FVec F S2x512 .f32) : IVec S2x512 1 :=
  let main_v0 : FVec F S2x512 .f32 := Host.absf main_arg5
  let main_cst : FVec F S_ .f32 := constant S_ .f32 0x7F800000#32
  let main_v1 : FVec F S2x512 .f32 := broadcastInDim S2x512 ![] bcast_S_S2x512 main_cst
  let main_v2 : IVec S2x512 1 := cmpf .olt main_v0 main_v1
  main_v2
-- ==== Pre_finite_gates.lean ====
abbrev S4096x512 : Shape := ⟨2, ![4096, 512]⟩
abbrev S2x8x64x64 : Shape := ⟨4, ![2, 8, 64, 64]⟩
abbrev S2x512 : Shape := ⟨2, ![2, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S2x8x64x64 : S_.BroadcastsInDim S2x8x64x64 (![] : Fin 0 → Fin S2x8x64x64.rank)
  reducesTo_S2x8x64x64_S_d0_1_2_3 : S2x8x64x64.ReducesTo [0, 1, 2, 3] S_
  bcast_S_S2x512 : S_.BroadcastsInDim S2x512 (![] : Fin 0 → Fin S2x512.rank)
  reducesTo_S2x512_S_d0_1 : S2x512.ReducesTo [0, 1] S_

variable [Facts]

def fn_part3 {F : FTy → Type} [FloatOps F] (main_v35 : IVec S_ 1) (main_v39 : IVec S_ 1) (main_v42 : IVec S_ 1) (main_v49 : IVec S_ 1) : IVec S_ 1 :=
  let main_v50 : IVec S_ 1 := andi main_v49 main_v35
  let main_v51 : IVec S_ 1 := andi main_v50 main_v39
  let main_v52 : IVec S_ 1 := andi main_v51 main_v42
  main_v52

def fn_part2 {F : FTy → Type} [FloatOps F] (main_arg8 : FVec F S2x512 .f32) (main_arg9 : FVec F S2x512 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S2x512 .f32 := Host.absf main_arg8
  let main_cst_14 : FVec F S_ .f32 := constant S_ .f32 0x7F800000#32
  let main_v33 : FVec F S2x512 .f32 := broadcastInDim S2x512 ![] bcast_S_S2x512 main_cst_14
  let main_v34 : IVec S2x512 1 := cmpf .olt main_v32 main_v33
  let main_c_15 : IVec S_ 1 := constantI S_ 1 1#1
  let main_v35 : IVec S_ 1 := (fun x v => Host.reduce IntOp.andi x v reducesTo_S2x512_S_d0_1 h_S_) main_v34 main_c_15
  let main_v36 : FVec F S2x512 .f32 := Host.absf main_arg9
  let main_cst_16 : FVec F S_ .f32 := constant S_ .f32 0x7F800000#32
  let main_v37 : FVec F S2x512 .f32 := broadcastInDim S2x512 ![] bcast_S_S2x512 main_cst_16
  let main_v38 : IVec S2x512 1 := cmpf .olt main_v36 main_v37
  let main_c_17 : IVec S_ 1 := constantI S_ 1 1#1
  let main_v39 : IVec S_ 1 := (fun x v => Host.reduce IntOp.andi x v reducesTo_S2x512_S_d0_1 h_S_) main_v38 main_c_17
  let main_cst_18 : FVec F S_ .f32 := constant S_ .f32 0x00000000#32
  let main_v40 : FVec F S2x512 .f32 := broadcastInDim S2x512 ![] bcast_S_S2x512 main_cst_18
  let main_v41 : IVec S2x512 1 := cmpf .une main_arg9 main_v40
  let main_c_19 : IVec S_ 1 := constantI S_ 1 1#1
  let main_v42 : IVec S_ 1 := (fun x v => Host.reduce IntOp.andi x v reducesTo_S2x512_S_d0_1 h_S_) main_v41 main_c_19
  let main_v43 : IVec S_ 1 := andi main_v3 main_v7
  let main_v44 : IVec S_ 1 := andi main_v43 main_v11
  let main_v45 : IVec S_ 1 := andi main_v44 main_v15
  let main_v46 : IVec S_ 1 := andi main_v45 main_v19
  let main_v47 : IVec S_ 1 := andi main_v46 main_v23
  let main_v48 : IVec S_ 1 := andi main_v47 main_v27
  let main_v49 : IVec S_ 1 := andi main_v48 main_v31
  fn_part3 (F := F) main_v35 main_v39 main_v42 main_v49

def fn_part1 {F : FTy → Type} [FloatOps F] (main_arg4 : FVec F S4096x512 .f32) (main_arg5 : FVec F S2x8x64x64 .f32) (main_arg6 : FVec F S2x512 .f32) (main_arg7 : FVec F S2x8x64x64 .f32) (main_arg8 : FVec F S2x512 .f32) (main_arg9 : FVec F S2x512 .f32) (main_v3 : IVec S_ 1) (main_v7 : IVec S_ 1) (main_v11 : IVec S_ 1) (main_v15 : IVec S_ 1) : IVec S_ 1 :=
  let main_v16 : FVec F S4096x512 .f32 := Host.absf main_arg4
  let main_cst_6 : FVec F S_ .f32 := constant S_ .f32 0x7F800000#32
  let main_v17 : FVec F S4096x512 .f32 := broadcastInDim S4096x512 ![] bcast_S_S4096x512 main_cst_6
  let main_v18 : IVec S4096x512 1 := cmpf .olt main_v16 main_v17
  let main_c_7 : IVec S_ 1 := constantI S_ 1 1#1
  let main_v19 : IVec S_ 1 := (fun x v => Host.reduce IntOp.andi x v reducesTo_S4096x512_S_d0_1 h_S_) main_v18 main_c_7
  let main_v20 : FVec F S2x8x64x64 .f32 := Host.absf main_arg5
  let main_cst_8 : FVec F S_ .f32 := constant S_ .f32 0x7F800000#32
  let main_v21 : FVec F S2x8x64x64 .f32 := broadcastInDim S2x8x64x64 ![] bcast_S_S2x8x64x64 main_cst_8
  let main_v22 : IVec S2x8x64x64 1 := cmpf .olt main_v20 main_v21
  let main_c_9 : IVec S_ 1 := constantI S_ 1 1#1
  let main_v23 : IVec S_ 1 := (fun x v => Host.reduce IntOp.andi x v reducesTo_S2x8x64x64_S_d0_1_2_3 h_S_) main_v22 main_c_9
  let main_v24 : FVec F S2x512 .f32 := Host.absf main_arg6
  let main_cst_10 : FVec F S_ .f32 := constant S_ .f32 0x7F800000#32
  let main_v25 : FVec F S2x512 .f32 := broadcastInDim S2x512 ![] bcast_S_S2x512 main_cst_10
  let main_v26 : IVec S2x512 1 := cmpf .olt main_v24 main_v25
  let main_c_11 : IVec S_ 1 := constantI S_ 1 1#1
  let main_v27 : IVec S_ 1 := (fun x v => Host.reduce IntOp.andi x v reducesTo_S2x512_S_d0_1 h_S_) main_v26 main_c_11
  let main_v28 : FVec F S2x8x64x64 .f32 := Host.absf main_arg7
  let main_cst_12 : FVec F S_ .f32 := constant S_ .f32 0x7F800000#32
  let main_v29 : FVec F S2x8x64x64 .f32 := broadcastInDim S2x8x64x64 ![] bcast_S_S2x8x64x64 main_cst_12
  let main_v30 : IVec S2x8x64x64 1 := cmpf .olt main_v28 main_v29
  let main_c_13 : IVec S_ 1 := constantI S_ 1 1#1
  let main_v31 : IVec S_ 1 := (fun x v => Host.reduce IntOp.andi x v reducesTo_S2x8x64x64_S_d0_1_2_3 h_S_) main_v30 main_c_13
  fn_part2 (F := F) main_arg8 main_arg9 main_v3 main_v7 main_v11 main_v15 main_v19 main_v23 main_v27 main_v31

def fn {F : FTy → Type} [FloatOps F] (main_arg0 : FVec F S4096x512 .f32) (main_arg1 : FVec F S4096x512 .f32) (main_arg2 : FVec F S4096x512 .f32) (main_arg3 : FVec F S4096x512 .f32) (main_arg4 : FVec F S4096x512 .f32) (main_arg5 : FVec F S2x8x64x64 .f32) (main_arg6 : FVec F S2x512 .f32) (main_arg7 : FVec F S2x8x64x64 .f32) (main_arg8 : FVec F S2x512 .f32) (main_arg9 : FVec F S2x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : FVec F S4096x512 .f32 := Host.absf main_arg2
  let main_cst_2 : FVec F S_ .f32 := constant S_ .f32 0x7F800000#32
  let main_v9 : FVec F S4096x512 .f32 := broadcastInDim S4096x512 ![] bcast_S_S4096x512 main_cst_2
  let main_v10 : IVec S4096x512 1 := cmpf .olt main_v8 main_v9
  let main_c_3 : IVec S_ 1 := constantI S_ 1 1#1
  let main_v11 : IVec S_ 1 := (fun x v => Host.reduce IntOp.andi x v reducesTo_S4096x512_S_d0_1 h_S_) main_v10 main_c_3
  let main_v12 : FVec F S4096x512 .f32 := Host.absf main_arg3
  let main_cst_4 : FVec F S_ .f32 := constant S_ .f32 0x7F800000#32
  let main_v13 : FVec F S4096x512 .f32 := broadcastInDim S4096x512 ![] bcast_S_S4096x512 main_cst_4
  let main_v14 : IVec S4096x512 1 := cmpf .olt main_v12 main_v13
  let main_c_5 : IVec S_ 1 := constantI S_ 1 1#1
  let main_v15 : IVec S_ 1 := (fun x v => Host.reduce IntOp.andi x v reducesTo_S4096x512_S_d0_1 h_S_) main_v14 main_c_5
  fn_part1 (F := F) main_arg4 main_arg5 main_arg6 main_arg7 main_arg8 main_arg9 main_v3 main_v7 main_v11 main_v15
-- ==== Kernel.lean ====
abbrev S4096x512 : Shape := ⟨2, ![4096, 512]⟩
abbrev S4096x128 : Shape := ⟨2, ![4096, 128]⟩
abbrev S1x128 : Shape := ⟨2, ![1, 128]⟩
abbrev S8x128 : Shape := ⟨2, ![8, 128]⟩

abbrev nBuf : Space → Nat
  | .hbm => 11
  | .vmem => 30
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S4096x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | .local _ .vmem, ⟨19, _⟩ => ⟨S4096x128, .f32⟩
  | .local _ .vmem, ⟨20, _⟩ => ⟨S4096x128, .f32⟩
  | .local _ .vmem, ⟨21, _⟩ => ⟨S4096x128, .f32⟩
  | .local _ .vmem, ⟨22, _⟩ => ⟨S4096x128, .f32⟩
  | .local _ .vmem, ⟨23, _⟩ => ⟨S4096x128, .f32⟩
  | .local _ .vmem, ⟨24, _⟩ => ⟨S4096x128, .f32⟩
  | .local _ .vmem, ⟨25, _⟩ => ⟨S4096x128, .f32⟩
  | .local _ .vmem, ⟨26, _⟩ => ⟨S4096x128, .f32⟩
  | .local _ .vmem, ⟨27, _⟩ => ⟨S4096x128, .f32⟩
  | .local _ .vmem, ⟨28, _⟩ => ⟨S4096x128, .f32⟩
  | .local _ .vmem, ⟨29, _⟩ => ⟨S4096x128, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg8_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c512_i32 : BitVec 32 := 512#32
  let v1 : BitVec 32 := Scalar.addi c0_i32 c512_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32 : BitVec 32 := 8#32
  let v3 : BitVec 32 := Scalar.muli arg7 c8_i32
  v3
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c8_i32 : BitVec 32 := 8#32
  let v3 : BitVec 32 := Scalar.muli arg7 c8_i32
  let v4 : BitVec 32 := v3
  let v5 : Index := Scalar.indexCast v4
  let c0 : Index := 0#32
  ![v5.toNat, 0]
def k0_mult2 (k0_t1 : Fin k0_t1_loop.trips) : BitVec 32 :=
  let c511_i32 : BitVec 32 := 511#32
  let c0_i32 : BitVec 32 := 0#32
  let c1_i32 : BitVec 32 := 1#32
  let arg7 : BitVec 32 := Scf.iv c0_i32 c1_i32 k0_t1
  let v60 : BitVec 32 := Scalar.subi c511_i32 arg7
  let c8_i32_19 : BitVec 32 := 8#32
  let v61 : BitVec 32 := Scalar.muli v60 c8_i32_19
  v61
def k0_off2 (k0_t1 : Fin k0_t1_loop.trips) : Fin 2 → Nat :=
  let c511_i32 : BitVec 32 := 511#32
  let c0_i32 : BitVec 32 := 0#32
  let c1_i32 : BitVec 32 := 1#32
  let arg7 : BitVec 32 := Scf.iv c0_i32 c1_i32 k0_t1
  let v60 : BitVec 32 := Scalar.subi c511_i32 arg7
  let c8_i32_19 : BitVec 32 := 8#32
  let v61 : BitVec 32 := Scalar.muli v60 c8_i32_19
  let v62 : BitVec 32 := v61
  let v63 : Index := Scalar.indexCast v62
  let c0_20 : Index := 0#32
  ![v63.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![4], ![false]⟩

@[reducible] def k1_t1_loop : Scf.Loop 32 :=
  let c0_i32 : BitVec 32 := 0#32
  let c512_i32 : BitVec 32 := 512#32
  let v1 : BitVec 32 := Scalar.addi c0_i32 c512_i32
  let c1_i32 : BitVec 32 := 1#32
  ⟨c0_i32, v1, c1_i32⟩
def k1_mult1 (k1_t1 : Fin k1_t1_loop.trips) : BitVec 32 :=
  let c511_i32 : BitVec 32 := 511#32
  let c0_i32 : BitVec 32 := 0#32
  let c1_i32 : BitVec 32 := 1#32
  let arg10 : BitVec 32 := Scf.iv c0_i32 c1_i32 k1_t1
  let v3 : BitVec 32 := Scalar.subi c511_i32 arg10
  let c8_i32 : BitVec 32 := 8#32
  let v4 : BitVec 32 := Scalar.muli v3 c8_i32
  v4
def k1_off1 (k1_t1 : Fin k1_t1_loop.trips) : Fin 2 → Nat :=
  let c511_i32 : BitVec 32 := 511#32
  let c0_i32 : BitVec 32 := 0#32
  let c1_i32 : BitVec 32 := 1#32
  let arg10 : BitVec 32 := Scf.iv c0_i32 c1_i32 k1_t1
  let v3 : BitVec 32 := Scalar.subi c511_i32 arg10
  let c8_i32 : BitVec 32 := 8#32
  let v4 : BitVec 32 := Scalar.muli v3 c8_i32
  let v5 : BitVec 32 := v4
  let v6 : Index := Scalar.indexCast v5
  let c0 : Index := 0#32
  ![v6.toNat, 0]
def k1_off2 (k1_t1 : Fin k1_t1_loop.trips) : Fin 2 → Nat :=
  let c4095_i32 : BitVec 32 := 4095#32
  let c0_i32_22 : BitVec 32 := 0#32
  let c511_i32 : BitVec 32 := 511#32
  let c0_i32 : BitVec 32 := 0#32
  let c1_i32 : BitVec 32 := 1#32
  let arg10 : BitVec 32 := Scf.iv c0_i32 c1_i32 k1_t1
  let v3 : BitVec 32 := Scalar.subi c511_i32 arg10
  let c8_i32 : BitVec 32 := 8#32
  let v4 : BitVec 32 := Scalar.muli v3 c8_i32
  let v5 : BitVec 32 := v4
  let c1_i32_20 : BitVec 32 := 1#32
  let v67 : BitVec 32 := Scalar.subi v5 c1_i32_20
  let v71 : BitVec 32 := Scalar.maxsi c0_i32_22 v67
  let v72 : BitVec 32 := Scalar.minsi c4095_i32 v71
  let v73 : Index := Scalar.indexCast v72
  let c0_23 : Index := 0#32
  ![v73.toNat, 0]
def k1_mult2 (k1_t1 : Fin k1_t1_loop.trips) : BitVec 32 :=
  let c0_i32 : BitVec 32 := 0#32
  let c1_i32 : BitVec 32 := 1#32
  let arg10 : BitVec 32 := Scf.iv c0_i32 c1_i32 k1_t1
  let c8_i32_29 : BitVec 32 := 8#32
  let v93 : BitVec 32 := Scalar.muli arg10 c8_i32_29
  v93
def k1_off3 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32_29 : BitVec 32 := 8#32
  let v93 : BitVec 32 := Scalar.muli arg10 c8_i32_29
  let v94 : BitVec 32 := v93
  let v95 : Index := Scalar.indexCast v94
  let c0_30 : Index := 0#32
  ![v95.toNat, 0]
def k1_off4 (k1_t1 : Fin k1_t1_loop.trips) : Fin 2 → Nat :=
  let c4095_i32_56 : BitVec 32 := 4095#32
  let c0_i32_55 : BitVec 32 := 0#32
  let c0_i32 : BitVec 32 := 0#32
  let c1_i32 : BitVec 32 := 1#32
  let arg10 : BitVec 32 := Scf.iv c0_i32 c1_i32 k1_t1
  let c8_i32_29 : BitVec 32 := 8#32
  let v93 : BitVec 32 := Scalar.muli arg10 c8_i32_29
  let v94 : BitVec 32 := v93
  let c8_i32_52 : BitVec 32 := 8#32
  let v156 : BitVec 32 := Scalar.addi v94 c8_i32_52
  let v160 : BitVec 32 := Scalar.maxsi c0_i32_55 v156
  let v161 : BitVec 32 := Scalar.minsi c4095_i32_56 v160
  let v162 : Index := Scalar.indexCast v161
  let c0_57 : Index := 0#32
  ![v162.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4096x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4096x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4096x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S4096x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S4096x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== ReferenceIdeal.lean ====
abbrev S4096x512 : Shape := ⟨2, ![4096, 512]⟩
abbrev S1x512 : Shape := ⟨2, ![1, 512]⟩
abbrev S512 : Shape := ⟨1, ![512]⟩
abbrev S_ : Shape := ⟨0, ![]⟩

abbrev nBuf : Space → Nat
  | .hbm => 155
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4096x512, .f32⟩
  | 4 => ⟨S4096x512, .f32⟩
  | 5 => ⟨S1x512, .f32⟩
  | 6 => ⟨S512, .f32⟩
  | 7 => ⟨S_, .f32⟩
  | 8 => ⟨S512, .f32⟩
  | 9 => ⟨S_, .f32⟩
  | 10 => ⟨S4096x512, .f32⟩
  | 11 => ⟨S_, .f32⟩
  | 12 => ⟨S4096x512, .f32⟩
  | 13 => ⟨S_, .i32⟩
  | 14 => ⟨S4096x512, .f32⟩
  | 15 => ⟨S4096x512, .f32⟩
  | 16 => ⟨S_, .i32⟩
  | 17 => ⟨S512, .f32⟩
  | 18 => ⟨S4096x512, .f32⟩
  | 19 => ⟨S4096x512, .f32⟩
  | 20 => ⟨S_, .i32⟩
  | 21 => ⟨S_, .i1⟩
  | 22 => ⟨S_, .i32⟩
  | 23 => ⟨S1x512, .f32⟩
  | 24 => ⟨S512, .f32⟩
  | 25 => ⟨S_, .i32⟩
  | 26 => ⟨S1x512, .f32⟩
  | 27 => ⟨S512, .f32⟩
  | 28 => ⟨S512, .f32⟩
  | 29 => ⟨S512, .f32⟩
  | 30 => ⟨S1x512, .f32⟩
  | 31 => ⟨S_, .i32⟩
  | 32 => ⟨S4096x512, .f32⟩
  | 33 => ⟨S1x512, .f32⟩
  | 34 => ⟨S_, .i32⟩
  | 35 => ⟨S4096x512, .f32⟩
  | 36 => ⟨S_, .i32⟩
  | 37 => ⟨S_, .i32⟩
  | 38 => ⟨S1x512, .f32⟩
  | 39 => ⟨S512, .f32⟩
  | 40 => ⟨S_, .f32⟩
  | 41 => ⟨S512, .f32⟩
  | 42 => ⟨S_, .f32⟩
  | 43 => ⟨S4096x512, .f32⟩
  | 44 => ⟨S_, .f32⟩
  | 45 => ⟨S4096x512, .f32⟩
  | 46 => ⟨S_, .i32⟩
  | 47 => ⟨S4096x512, .f32⟩
  | 48 => ⟨S4096x512, .f32⟩
  | 49 => ⟨S_, .i32⟩
  | 50 => ⟨S512, .f32⟩
  | 51 => ⟨S4096x512, .f32⟩
  | 52 => ⟨S4096x512, .f32⟩
  | 53 => ⟨S_, .i32⟩
  | 54 => ⟨S_, .i1⟩
  | 55 => ⟨S_, .i32⟩
  | 56 => ⟨S_, .i32⟩
  | 57 => ⟨S_, .i32⟩
  | 58 => ⟨S_, .i32⟩
  | 59 => ⟨S_, .i32⟩
  | 60 => ⟨S1x512, .f32⟩
  | 61 => ⟨S512, .f32⟩
  | 62 => ⟨S_, .i32⟩
  | 63 => ⟨S1x512, .f32⟩
  | 64 => ⟨S512, .f32⟩
  | 65 => ⟨S512, .f32⟩
  | 66 => ⟨S512, .f32⟩
  | 67 => ⟨S1x512, .f32⟩
  | 68 => ⟨S_, .i32⟩
  | 69 => ⟨S4096x512, .f32⟩
  | 70 => ⟨S1x512, .f32⟩
  | 71 => ⟨S_, .i32⟩
  | 72 => ⟨S4096x512, .f32⟩
  | 73 => ⟨S_, .i32⟩
  | 74 => ⟨S_, .i32⟩
  | 75 => ⟨S_, .f32⟩
  | 76 => ⟨S512, .f32⟩
  | 77 => ⟨S_, .f32⟩
  | 78 => ⟨S512, .f32⟩
  | 79 => ⟨S_, .f32⟩
  | 80 => ⟨S512, .f32⟩
  | 81 => ⟨S_, .f32⟩
  | 82 => ⟨S4096x512, .f32⟩
  | 83 => ⟨S_, .f32⟩
  | 84 => ⟨S4096x512, .f32⟩
  | 85 => ⟨S_, .i32⟩
  | 86 => ⟨S4096x512, .f32⟩
  | 87 => ⟨S4096x512, .f32⟩
  | 88 => ⟨S4096x512, .f32⟩
  | 89 => ⟨S_, .i32⟩
  | 90 => ⟨S512, .f32⟩
  | 91 => ⟨S4096x512, .f32⟩
  | 92 => ⟨S4096x512, .f32⟩
  | 93 => ⟨S_, .i32⟩
  | 94 => ⟨S_, .i1⟩
  | 95 => ⟨S_, .i32⟩
  | 96 => ⟨S1x512, .f32⟩
  | 97 => ⟨S512, .f32⟩
  | 98 => ⟨S_, .i32⟩
  | 99 => ⟨S1x512, .f32⟩
  | 100 => ⟨S512, .f32⟩
  | 101 => ⟨S_, .i32⟩
  | 102 => ⟨S1x512, .f32⟩
  | 103 => ⟨S512, .f32⟩
  | 104 => ⟨S512, .f32⟩
  | 105 => ⟨S512, .f32⟩
  | 106 => ⟨S512, .f32⟩
  | 107 => ⟨S1x512, .f32⟩
  | 108 => ⟨S_, .i32⟩
  | 109 => ⟨S4096x512, .f32⟩
  | 110 => ⟨S1x512, .f32⟩
  | 111 => ⟨S_, .i32⟩
  | 112 => ⟨S4096x512, .f32⟩
  | 113 => ⟨S_, .i32⟩
  | 114 => ⟨S_, .i32⟩
  | 115 => ⟨S_, .f32⟩
  | 116 => ⟨S512, .f32⟩
  | 117 => ⟨S_, .f32⟩
  | 118 => ⟨S4096x512, .f32⟩
  | 119 => ⟨S_, .f32⟩
  | 120 => ⟨S4096x512, .f32⟩
  | 121 => ⟨S_, .i32⟩
  | 122 => ⟨S4096x512, .f32⟩
  | 123 => ⟨S4096x512, .f32⟩
  | 124 => ⟨S4096x512, .f32⟩
  | 125 => ⟨S_, .i32⟩
  | 126 => ⟨S512, .f32⟩
  | 127 => ⟨S4096x512, .f32⟩
  | _ => ⟨S4096x512, .f32⟩

abbrev hbmTy0_1 (i : Nat) : BufTy := match i % 128 with
  | 0 => ⟨S4096x512, .f32⟩
  | 1 => ⟨S_, .i32⟩
  | 2 => ⟨S_, .i1⟩
  | 3 => ⟨S_, .i32⟩
  | 4 => ⟨S_, .i32⟩
  | 5 => ⟨S_, .i32⟩
  | 6 => ⟨S_, .i32⟩
  | 7 => ⟨S_, .i32⟩
  | 8 => ⟨S1x512, .f32⟩
  | 9 => ⟨S512, .f32⟩
  | 10 => ⟨S_, .i32⟩
  | 11 => ⟨S1x512, .f32⟩
  | 12 => ⟨S512, .f32⟩
  | 13 => ⟨S_, .i32⟩
  | 14 => ⟨S1x512, .f32⟩
  | 15 => ⟨S512, .f32⟩
  | 16 => ⟨S512, .f32⟩
  | 17 => ⟨S512, .f32⟩
  | 18 => ⟨S512, .f32⟩
  | 19 => ⟨S1x512, .f32⟩
  | 20 => ⟨S_, .i32⟩
  | 21 => ⟨S4096x512, .f32⟩
  | 22 => ⟨S1x512, .f32⟩
  | 23 => ⟨S_, .i32⟩
  | 24 => ⟨S4096x512, .f32⟩
  | 25 => ⟨S_, .i32⟩
  | 26 => ⟨S_, .i32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_c : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev main_v5_4 : Ref sig .tc := ⟨.hbm, 18, rfl⟩
abbrev main_v5_5 : Ref sig .tc := ⟨.hbm, 19, rfl⟩
abbrev main_while0c_c_21 : Ref sig .tc := ⟨.hbm, 20, rfl⟩
abbrev main_while0c_v22 : Ref sig .tc := ⟨.hbm, 21, rfl⟩
abbrev main_while0b_call0_c : Ref sig .tc := ⟨.hbm, 22, rfl⟩
abbrev main_while0b_call0_v0 : Ref sig .tc := ⟨.hbm, 23, rfl⟩
abbrev main_while0b_v22 : Ref sig .tc := ⟨.hbm, 24, rfl⟩
abbrev main_while0b_call1_c : Ref sig .tc := ⟨.hbm, 25, rfl⟩
abbrev main_while0b_call1_v0 : Ref sig .tc := ⟨.hbm, 26, rfl⟩
abbrev main_while0b_v23 : Ref sig .tc := ⟨.hbm, 27, rfl⟩
abbrev main_while0b_v24 : Ref sig .tc := ⟨.hbm, 28, rfl⟩
abbrev main_while0b_v25 : Ref sig .tc := ⟨.hbm, 29, rfl⟩
abbrev main_while0b_call2_v0 : Ref sig .tc := ⟨.hbm, 30, rfl⟩
abbrev main_while0b_call2_c : Ref sig .tc := ⟨.hbm, 31, rfl⟩
abbrev main_while0b_v26 : Ref sig .tc := ⟨.hbm, 32, rfl⟩
abbrev main_while0b_call3_v0 : Ref sig .tc := ⟨.hbm, 33, rfl⟩
abbrev main_while0b_call3_c : Ref sig .tc := ⟨.hbm, 34, rfl⟩
abbrev main_while0b_v27 : Ref sig .tc := ⟨.hbm, 35, rfl⟩
abbrev main_while0b_c_21 : Ref sig .tc := ⟨.hbm, 36, rfl⟩
abbrev main_while0b_v28 : Ref sig .tc := ⟨.hbm, 37, rfl⟩
abbrev main_v6 : Ref sig .tc := ⟨.hbm, 38, rfl⟩
abbrev main_v7 : Ref sig .tc := ⟨.hbm, 39, rfl⟩
abbrev main_cst_2 : Ref sig .tc := ⟨.hbm, 40, rfl⟩
abbrev main_v8 : Ref sig .tc := ⟨.hbm, 41, rfl⟩
abbrev main_cst_3 : Ref sig .tc := ⟨.hbm, 42, rfl⟩
abbrev main_v9 : Ref sig .tc := ⟨.hbm, 43, rfl⟩
abbrev main_cst_4 : Ref sig .tc := ⟨.hbm, 44, rfl⟩
abbrev main_v10 : Ref sig .tc := ⟨.hbm, 45, rfl⟩
abbrev main_c_5 : Ref sig .tc := ⟨.hbm, 46, rfl⟩
abbrev main_v11_0 : Ref sig .tc := ⟨.hbm, 47, rfl⟩
abbrev main_v11_1 : Ref sig .tc := ⟨.hbm, 48, rfl⟩
abbrev main_v11_2 : Ref sig .tc := ⟨.hbm, 49, rfl⟩
abbrev main_v11_3 : Ref sig .tc := ⟨.hbm, 50, rfl⟩
abbrev main_v11_4 : Ref sig .tc := ⟨.hbm, 51, rfl⟩
abbrev main_v11_5 : Ref sig .tc := ⟨.hbm, 52, rfl⟩
abbrev main_while1c_c_21 : Ref sig .tc := ⟨.hbm, 53, rfl⟩
abbrev main_while1c_v22 : Ref sig .tc := ⟨.hbm, 54, rfl⟩
abbrev main_while1b_c_21 : Ref sig .tc := ⟨.hbm, 55, rfl⟩
abbrev main_while1b_v22 : Ref sig .tc := ⟨.hbm, 56, rfl⟩
abbrev main_while1b_c_22 : Ref sig .tc := ⟨.hbm, 57, rfl⟩
abbrev main_while1b_v23 : Ref sig .tc := ⟨.hbm, 58, rfl⟩
abbrev main_while1b_call4_c : Ref sig .tc := ⟨.hbm, 59, rfl⟩
abbrev main_while1b_call4_v0 : Ref sig .tc := ⟨.hbm, 60, rfl⟩
abbrev main_while1b_v24 : Ref sig .tc := ⟨.hbm, 61, rfl⟩
abbrev main_while1b_call5_c : Ref sig .tc := ⟨.hbm, 62, rfl⟩
abbrev main_while1b_call5_v0 : Ref sig .tc := ⟨.hbm, 63, rfl⟩
abbrev main_while1b_v25 : Ref sig .tc := ⟨.hbm, 64, rfl⟩
abbrev main_while1b_v26 : Ref sig .tc := ⟨.hbm, 65, rfl⟩
abbrev main_while1b_v27 : Ref sig .tc := ⟨.hbm, 66, rfl⟩
abbrev main_while1b_call6_v0 : Ref sig .tc := ⟨.hbm, 67, rfl⟩
abbrev main_while1b_call6_c : Ref sig .tc := ⟨.hbm, 68, rfl⟩
abbrev main_while1b_v28 : Ref sig .tc := ⟨.hbm, 69, rfl⟩
abbrev main_while1b_call7_v0 : Ref sig .tc := ⟨.hbm, 70, rfl⟩
abbrev main_while1b_call7_c : Ref sig .tc := ⟨.hbm, 71, rfl⟩
abbrev main_while1b_v29 : Ref sig .tc := ⟨.hbm, 72, rfl⟩
abbrev main_while1b_c_23 : Ref sig .tc := ⟨.hbm, 73, rfl⟩
abbrev main_while1b_v30 : Ref sig .tc := ⟨.hbm, 74, rfl⟩
abbrev main_cst_6 : Ref sig .tc := ⟨.hbm, 75, rfl⟩
abbrev main_v12 : Ref sig .tc := ⟨.hbm, 76, rfl⟩
abbrev main_cst_7 : Ref sig .tc := ⟨.hbm, 77, rfl⟩
abbrev main_v13 : Ref sig .tc := ⟨.hbm, 78, rfl⟩
abbrev main_cst_8 : Ref sig .tc := ⟨.hbm, 79, rfl⟩
abbrev main_v14 : Ref sig .tc := ⟨.hbm, 80, rfl⟩
abbrev main_cst_9 : Ref sig .tc := ⟨.hbm, 81, rfl⟩
abbrev main_v15 : Ref sig .tc := ⟨.hbm, 82, rfl⟩
abbrev main_cst_10 : Ref sig .tc := ⟨.hbm, 83, rfl⟩
abbrev main_v16 : Ref sig .tc := ⟨.hbm, 84, rfl⟩
abbrev main_c_11 : Ref sig .tc := ⟨.hbm, 85, rfl⟩
abbrev main_v17_0 : Ref sig .tc := ⟨.hbm, 86, rfl⟩
abbrev main_v17_1 : Ref sig .tc := ⟨.hbm, 87, rfl⟩
abbrev main_v17_2 : Ref sig .tc := ⟨.hbm, 88, rfl⟩
abbrev main_v17_3 : Ref sig .tc := ⟨.hbm, 89, rfl⟩
abbrev main_v17_4 : Ref sig .tc := ⟨.hbm, 90, rfl⟩
abbrev main_v17_5 : Ref sig .tc := ⟨.hbm, 91, rfl⟩
abbrev main_v17_6 : Ref sig .tc := ⟨.hbm, 92, rfl⟩
abbrev main_while2c_c_22 : Ref sig .tc := ⟨.hbm, 93, rfl⟩
abbrev main_while2c_v22 : Ref sig .tc := ⟨.hbm, 94, rfl⟩
abbrev main_while2b_call8_c : Ref sig .tc := ⟨.hbm, 95, rfl⟩
abbrev main_while2b_call8_v0 : Ref sig .tc := ⟨.hbm, 96, rfl⟩
abbrev main_while2b_v22 : Ref sig .tc := ⟨.hbm, 97, rfl⟩
abbrev main_while2b_call9_c : Ref sig .tc := ⟨.hbm, 98, rfl⟩
abbrev main_while2b_call9_v0 : Ref sig .tc := ⟨.hbm, 99, rfl⟩
abbrev main_while2b_v23 : Ref sig .tc := ⟨.hbm, 100, rfl⟩
abbrev main_while2b_call10_c : Ref sig .tc := ⟨.hbm, 101, rfl⟩
abbrev main_while2b_call10_v0 : Ref sig .tc := ⟨.hbm, 102, rfl⟩
abbrev main_while2b_v24 : Ref sig .tc := ⟨.hbm, 103, rfl⟩
abbrev main_while2b_v25 : Ref sig .tc := ⟨.hbm, 104, rfl⟩
abbrev main_while2b_v26 : Ref sig .tc := ⟨.hbm, 105, rfl⟩
abbrev main_while2b_v27 : Ref sig .tc := ⟨.hbm, 106, rfl⟩
abbrev main_while2b_call11_v0 : Ref sig .tc := ⟨.hbm, 107, rfl⟩
abbrev main_while2b_call11_c : Ref sig .tc := ⟨.hbm, 108, rfl⟩
abbrev main_while2b_v28 : Ref sig .tc := ⟨.hbm, 109, rfl⟩
abbrev main_while2b_call12_v0 : Ref sig .tc := ⟨.hbm, 110, rfl⟩
abbrev main_while2b_call12_c : Ref sig .tc := ⟨.hbm, 111, rfl⟩
abbrev main_while2b_v29 : Ref sig .tc := ⟨.hbm, 112, rfl⟩
abbrev main_while2b_c_22 : Ref sig .tc := ⟨.hbm, 113, rfl⟩
abbrev main_while2b_v30 : Ref sig .tc := ⟨.hbm, 114, rfl⟩
abbrev main_cst_12 : Ref sig .tc := ⟨.hbm, 115, rfl⟩
abbrev main_v18 : Ref sig .tc := ⟨.hbm, 116, rfl⟩
abbrev main_cst_13 : Ref sig .tc := ⟨.hbm, 117, rfl⟩
abbrev main_v19 : Ref sig .tc := ⟨.hbm, 118, rfl⟩
abbrev main_cst_14 : Ref sig .tc := ⟨.hbm, 119, rfl⟩
abbrev main_v20 : Ref sig .tc := ⟨.hbm, 120, rfl⟩
abbrev main_c_15 : Ref sig .tc := ⟨.hbm, 121, rfl⟩
abbrev main_v21_0 : Ref sig .tc := ⟨.hbm, 122, rfl⟩
abbrev main_v21_1 : Ref sig .tc := ⟨.hbm, 123, rfl⟩
abbrev main_v21_2 : Ref sig .tc := ⟨.hbm, 124, rfl⟩
abbrev main_v21_3 : Ref sig .tc := ⟨.hbm, 125, rfl⟩
abbrev main_v21_4 : Ref sig .tc := ⟨.hbm, 126, rfl⟩
abbrev main_v21_5 : Ref sig .tc := ⟨.hbm, 127, rfl⟩
abbrev main_v21_6 : Ref sig .tc := ⟨.hbm, 128, rfl⟩
abbrev main_while3c_c_22 : Ref sig .tc := ⟨.hbm, 129, rfl⟩
abbrev main_while3c_v22 : Ref sig .tc := ⟨.hbm, 130, rfl⟩
abbrev main_while3b_c_22 : Ref sig .tc := ⟨.hbm, 131, rfl⟩
abbrev main_while3b_v22 : Ref sig .tc := ⟨.hbm, 132, rfl⟩
abbrev main_while3b_c_23 : Ref sig .tc := ⟨.hbm, 133, rfl⟩
abbrev main_while3b_v23 : Ref sig .tc := ⟨.hbm, 134, rfl⟩
abbrev main_while3b_call13_c : Ref sig .tc := ⟨.hbm, 135, rfl⟩
abbrev main_while3b_call13_v0 : Ref sig .tc := ⟨.hbm, 136, rfl⟩
abbrev main_while3b_v24 : Ref sig .tc := ⟨.hbm, 137, rfl⟩
abbrev main_while3b_call14_c : Ref sig .tc := ⟨.hbm, 138, rfl⟩
abbrev main_while3b_call14_v0 : Ref sig .tc := ⟨.hbm, 139, rfl⟩
abbrev main_while3b_v25 : Ref sig .tc := ⟨.hbm, 140, rfl⟩
abbrev main_while3b_call15_c : Ref sig .tc := ⟨.hbm, 141, rfl⟩
abbrev main_while3b_call15_v0 : Ref sig .tc := ⟨.hbm, 142, rfl⟩
abbrev main_while3b_v26 : Ref sig .tc := ⟨.hbm, 143, rfl⟩
abbrev main_while3b_v27 : Ref sig .tc := ⟨.hbm, 144, rfl⟩
abbrev main_while3b_v28 : Ref sig .tc := ⟨.hbm, 145, rfl⟩
abbrev main_while3b_v29 : Ref sig .tc := ⟨.hbm, 146, rfl⟩
abbrev main_while3b_call16_v0 : Ref sig .tc := ⟨.hbm, 147, rfl⟩
abbrev main_while3b_call16_c : Ref sig .tc := ⟨.hbm, 148, rfl⟩
abbrev main_while3b_v30 : Ref sig .tc := ⟨.hbm, 149, rfl⟩
abbrev main_while3b_call17_v0 : Ref sig .tc := ⟨.hbm, 150, rfl⟩
abbrev main_while3b_call17_c : Ref sig .tc := ⟨.hbm, 151, rfl⟩
abbrev main_while3b_v31 : Ref sig .tc := ⟨.hbm, 152, rfl⟩
abbrev main_while3b_c_24 : Ref sig .tc := ⟨.hbm, 153, rfl⟩
abbrev main_while3b_v32 : Ref sig .tc := ⟨.hbm, 154, rfl⟩

abbrev nD : Nat := 1
abbrev τ : Topo := Topo.v7x

variable {F : FTy → Type} [FloatOps F]

abbrev main_while0_count : Scf.Loop 32 := ⟨0#32, 4096#32, 1#32⟩

abbrev main_while1_count : Scf.Loop 32 := ⟨0#32, 4096#32, 1#32⟩

abbrev main_while2_count : Scf.Loop 32 := ⟨0#32, 4096#32, 1#32⟩

abbrev main_while3_count : Scf.Loop 32 := ⟨0#32, 4096#32, 1#32⟩
-- ==== Dact.lean ====
abbrev S4096x1024 : Shape := ⟨2, ![4096, 1024]⟩
abbrev S4096x4096 : Shape := ⟨2, ![4096, 4096]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .bf16⟩
  | .hbm, ⟨3, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DactRefIdeal.lean ====
abbrev S4096x1024 : Shape := ⟨2, ![4096, 1024]⟩
abbrev S4096x4096 : Shape := ⟨2, ![4096, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .bf16⟩
  | .hbm, ⟨3, _⟩ => ⟨S4096x4096, .f32⟩
  | .hbm, ⟨4, _⟩ => ⟨S4096x1024, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S4096x1024, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Dw2.lean ====
abbrev S4096x4096 : Shape := ⟨2, ![4096, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_7 : BitVec 32 := 1#32
  let v16 : BitVec 1 := Scalar.cmpi .eq arg2 c1_i32_7
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Dw2RefIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S4096x1024, .f32⟩
  | .hbm, ⟨11, _⟩ => ⟨S1024x4096, .f32⟩
  | .hbm, ⟨12, _⟩ => ⟨S4096x1024, .f32⟩
  | .hbm, ⟨13, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Dw1.lean ====
abbrev S4096x1024 : Shape := ⟨2, ![4096, 1024]⟩
abbrev S4096x4096 : Shape := ⟨2, ![4096, 4096]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x1024x1024, .f32⟩
  | .hbm, ⟨3, _⟩ => ⟨S4x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .bf16⟩
  | .local _ .vmem, ⟨6, _⟩ => ⟨S1x1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Dw1RefIdeal.lean ====
abbrev S4096x1024 : Shape := ⟨2, ![4096, 1024]⟩
abbrev S4096x4096 : Shape := ⟨2, ![4096, 4096]⟩
abbrev S_ : Shape := ⟨0, ![]⟩
abbrev S4x1024x1024 : Shape := ⟨3, ![4, 1024, 1024]⟩
abbrev S1024x4x1024 : Shape := ⟨3, ![1024, 4, 1024]⟩
abbrev S1024x4096 : Shape := ⟨2, ![1024, 4096]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S4x1024x1024, .f32⟩
  | .hbm, ⟨4, _⟩ => ⟨S4096x1024, .f32⟩
  | .hbm, ⟨5, _⟩ => ⟨S1024x4x1024, .f32⟩
  | .hbm, ⟨6, _⟩ => ⟨S1024x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S1024x4096, .f32⟩
  | .hbm, ⟨11, _⟩ => ⟨S1024x4x1024, .f32⟩
  | .hbm, ⟨12, _⟩ => ⟨S4x1024x1024, .f32⟩
  | .hbm, ⟨13, _⟩ => ⟨S4x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Dy.lean ====
abbrev S4096x4096 : Shape := ⟨2, ![4096, 4096]⟩
abbrev S4x1024x1024 : Shape := ⟨3, ![4, 1024, 1024]⟩
abbrev S4096x1024 : Shape := ⟨2, ![4096, 1024]⟩
abbrev S1x1024 : Shape := ⟨2, ![1, 1024]⟩
abbrev S8x1x1024 : Shape := ⟨3, ![8, 1, 1024]⟩
abbrev S512x4096 : Shape := ⟨2, ![512, 4096]⟩
abbrev S1x1024x1024 : Shape := ⟨3, ![1, 1024, 1024]⟩
abbrev S512x1024 : Shape := ⟨2, ![512, 1024]⟩
abbrev S1x1x1024 : Shape := ⟨3, ![1, 1, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩
abbrev S_ : Shape := ⟨0, ![]⟩

abbrev nBuf : Space → Nat
  | .hbm => 10
  | .vmem => 17
  | .smem => 0
  | _ => 0

abbrev bufTy : (tb : Table) → Fin (tcTables nBuf tb) → BufTy
  | .hbm, ⟨0, _⟩ => ⟨S4096x4096, .bf16⟩
  | .hbm, ⟨1, _⟩ => ⟨S4x1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S8x1x1024, .f32⟩
  | .hbm, ⟨8, _⟩ => ⟨S_, .f32⟩
  | .hbm, ⟨9, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1x1024, .f32⟩
  | .local _ .vmem, ⟨16, _⟩ => ⟨S1x1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_cst : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![c2_i32.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 1 → Memref sig .tc .vmem S1x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]
-- ==== DyRefIdeal.lean ====
abbrev S4096x4096 : Shape := ⟨2, ![4096, 4096]⟩
abbrev S4x1024x1024 : Shape := ⟨3, ![4, 1024, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x4x1024 : Shape := ⟨3, ![1024, 4, 1024]⟩
abbrev S1024x4096 : Shape := ⟨2, ![1024, 4096]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4x1024x1024, .f32⟩
  | .hbm, ⟨25, _⟩ => ⟨S1024x4x1024, .f32⟩
  | .hbm, ⟨26, _⟩ => ⟨S1024x4096, .f32⟩
  | .hbm, ⟨27, _⟩ => ⟨S4096x4096, .f32⟩
  | .hbm, ⟨28, _⟩ => ⟨S4096x4096, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Dout.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DoutRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Dwout.lean ====
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .f32⟩
  | .hbm, ⟨3, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== DwoutRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AbDwin.lean ====
abbrev S4096x1024 : Shape := ⟨2, ![4096, 1024]⟩
abbrev S4096x3584 : Shape := ⟨2, ![4096, 3584]⟩
abbrev S4x1024x896 : Shape := ⟨3, ![4, 1024, 896]⟩
abbrev S4096x896 : Shape := ⟨2, ![4096, 896]⟩
abbrev S1x1024x896 : Shape := ⟨3, ![1, 1024, 896]⟩
abbrev S1024x896 : Shape := ⟨2, ![1024, 896]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x3584, .bf16⟩
  | .hbm, ⟨2, _⟩ => ⟨S4x1024x896, .f32⟩
  | .hbm, ⟨3, _⟩ => ⟨S4x1024x896, .bf16⟩
  | .local _ .vmem, ⟨0, _⟩ => ⟨S4096x1024, .bf16⟩
  | .local _ .vmem, ⟨1, _⟩ => ⟨S4096x896, .bf16⟩
  | .local _ .vmem, ⟨2, _⟩ => ⟨S4096x896, .bf16⟩
  | .local _ .vmem, ⟨3, _⟩ => ⟨S1x1024x896, .f32⟩
  | .local _ .vmem, ⟨4, _⟩ => ⟨S1x1024x896, .f32⟩
  | .local _ .vmem, ⟨5, _⟩ => ⟨S1x1024x896, .bf16⟩
  | .local _ .vmem, ⟨6, _⟩ => ⟨S1x1024x896, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024x896 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AbDwinRefIdeal.lean ====
abbrev S4096x1024 : Shape := ⟨2, ![4096, 1024]⟩
abbrev S4096x3584 : Shape := ⟨2, ![4096, 3584]⟩
abbrev S_ : Shape := ⟨0, ![]⟩
abbrev S4x1024x896 : Shape := ⟨3, ![4, 1024, 896]⟩
abbrev S1024x4x896 : Shape := ⟨3, ![1024, 4, 896]⟩
abbrev S1024x3584 : Shape := ⟨2, ![1024, 3584]⟩
abbrev S3584x1024 : Shape := ⟨2, ![3584, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3584, .bf16⟩
  | .hbm, ⟨2, _⟩ => ⟨S_, .f32⟩
  | .hbm, ⟨3, _⟩ => ⟨S4x1024x896, .f32⟩
  | .hbm, ⟨4, _⟩ => ⟨S4096x1024, .f32⟩
  | .hbm, ⟨5, _⟩ => ⟨S1024x4x896, .f32⟩
  | .hbm, ⟨6, _⟩ => ⟨S1024x3584, .f32⟩
  | .hbm, ⟨7, _⟩ => ⟨S4096x3584, .f32⟩
  | .hbm, ⟨8, _⟩ => ⟨S4096x3584, .f32⟩
  | .hbm, ⟨9, _⟩ => ⟨S3584x1024, .f32⟩
  | .hbm, ⟨10, _⟩ => ⟨S1024x3584, .f32⟩
  | .hbm, ⟨11, _⟩ => ⟨S1024x4x896, .f32⟩
  | .hbm, ⟨12, _⟩ => ⟨S4x1024x896, .f32⟩
  | .hbm, ⟨13, _⟩ => ⟨S4x1024x896, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== GlaDwin.lean ====
abbrev S4096x1024 : Shape := ⟨2, ![4096, 1024]⟩
abbrev S4096x3200 : Shape := ⟨2, ![4096, 3200]⟩
abbrev S1024x3200 : Shape := ⟨2, ![1024, 3200]⟩
abbrev S4096x640 : Shape := ⟨2, ![4096, 640]⟩
abbrev S1024x640 : Shape := ⟨2, ![1024, 640]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x3200, .bf16⟩
  | .hbm, ⟨2, _⟩ => ⟨S1024x3200, .f32⟩
  | .hbm, ⟨3, _⟩ => ⟨S1024x3200, .bf16⟩
  | .local _ .vmem, ⟨0, _⟩ => ⟨S4096x1024, .bf16⟩
  | .local _ .vmem, ⟨1, _⟩ => ⟨S4096x640, .bf16⟩
  | .local _ .vmem, ⟨2, _⟩ => ⟨S4096x640, .bf16⟩
  | .local _ .vmem, ⟨3, _⟩ => ⟨S1024x640, .f32⟩
  | .local _ .vmem, ⟨4, _⟩ => ⟨S1024x640, .f32⟩
  | .local _ .vmem, ⟨5, _⟩ => ⟨S1024x640, .bf16⟩
  | .local _ .vmem, ⟨6, _⟩ => ⟨S1024x640, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GlaDwinRefIdeal.lean ====
abbrev S4096x1024 : Shape := ⟨2, ![4096, 1024]⟩
abbrev S4096x3200 : Shape := ⟨2, ![4096, 3200]⟩
abbrev S_ : Shape := ⟨0, ![]⟩
abbrev S1024x3200 : Shape := ⟨2, ![1024, 3200]⟩
abbrev S3200x1024 : Shape := ⟨2, ![3200, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3200, .bf16⟩
  | .hbm, ⟨2, _⟩ => ⟨S_, .f32⟩
  | .hbm, ⟨3, _⟩ => ⟨S1024x3200, .f32⟩
  | .hbm, ⟨4, _⟩ => ⟨S4096x1024, .f32⟩
  | .hbm, ⟨5, _⟩ => ⟨S4096x3200, .f32⟩
  | .hbm, ⟨6, _⟩ => ⟨S4096x3200, .f32⟩
  | .hbm, ⟨7, _⟩ => ⟨S3200x1024, .f32⟩
  | .hbm, ⟨8, _⟩ => ⟨S1024x3200, .f32⟩
  | .hbm, ⟨9, _⟩ => ⟨S1024x3200, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AbDy.lean ====
abbrev S4096x3584 : Shape := ⟨2, ![4096, 3584]⟩
abbrev S4x1024x896 : Shape := ⟨3, ![4, 1024, 896]⟩
abbrev S4096x1024 : Shape := ⟨2, ![4096, 1024]⟩
abbrev S1x1024 : Shape := ⟨2, ![1, 1024]⟩
abbrev S4x1x1024 : Shape := ⟨3, ![4, 1, 1024]⟩
abbrev S1024x3584 : Shape := ⟨2, ![1024, 3584]⟩
abbrev S1x1024x896 : Shape := ⟨3, ![1, 1024, 896]⟩
abbrev S1024x1024 : Shape := ⟨2, ![1024, 1024]⟩
abbrev S1x1x1024 : Shape := ⟨3, ![1, 1, 1024]⟩
abbrev S1024x896 : Shape := ⟨2, ![1024, 896]⟩
abbrev S1024 : Shape := ⟨1, ![1024]⟩
abbrev S1024x1 : Shape := ⟨2, ![1024, 1]⟩
abbrev S_ : Shape := ⟨0, ![]⟩

abbrev nBuf : Space → Nat
  | .hbm => 9
  | .vmem => 15
  | .smem => 0
  | _ => 0

abbrev bufTy : (tb : Table) → Fin (tcTables nBuf tb) → BufTy
  | .hbm, ⟨0, _⟩ => ⟨S4096x3584, .bf16⟩
  | .hbm, ⟨1, _⟩ => ⟨S4x1024x896, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4x1x1024, .f32⟩
  | .hbm, ⟨7, _⟩ => ⟨S_, .f32⟩
  | .hbm, ⟨8, _⟩ => ⟨S1x1024, .f32⟩
  | .local _ .vmem, ⟨0, _⟩ => ⟨S1024x3584, .bf16⟩
  | .local _ .vmem, ⟨1, _⟩ => ⟨S1024x3584, .bf16⟩
  | .local _ .vmem, ⟨2, _⟩ => ⟨S1x1024x896, .bf16⟩
  | .local _ .vmem, ⟨3, _⟩ => ⟨S1x1024x896, .bf16⟩
  | .local _ .vmem, ⟨4, _⟩ => ⟨S1x1024x896, .bf16⟩
  | .local _ .vmem, ⟨5, _⟩ => ⟨S1x1024x896, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1x1x1024, .f32⟩
  | .local _ .vmem, ⟨14, _⟩ => ⟨S1x1x1024, .f32⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_cst : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![c2_i32.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 1 → Memref sig .tc .vmem S1x1024x896 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, false]

abbrev stage0_3 : Fin 1 → Memref sig .tc .vmem S1x1024x896 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 1 → Memref sig .tc .vmem S1x1024x896 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== AbDyRefIdeal.lean ====
abbrev S4096x3584 : Shape := ⟨2, ![4096, 3584]⟩
abbrev S4x1024x896 : Shape := ⟨3, ![4, 1024, 896]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x4x896 : Shape := ⟨3, ![1024, 4, 896]⟩
abbrev S1024x3584 : Shape := ⟨2, ![1024, 3584]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x3584, .bf16⟩
  | .hbm, ⟨1, _⟩ => ⟨S4x1024x896, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4x1024x896, .f32⟩
  | .hbm, ⟨25, _⟩ => ⟨S1024x4x896, .f32⟩
  | .hbm, ⟨26, _⟩ => ⟨S1024x3584, .f32⟩
  | .hbm, ⟨27, _⟩ => ⟨S4096x3584, .f32⟩
  | .hbm, ⟨28, _⟩ => ⟨S4096x3584, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .bf16⟩
  | _, _ => ⟨S4096x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== GlaDy.lean ====
abbrev S4096x3200 : Shape := ⟨2, ![4096, 3200]⟩
abbrev S1024x3200 : Shape := ⟨2, ![1024, 3200]⟩
abbrev S4096x1024 : Shape := ⟨2, ![4096, 1024]⟩
abbrev S1x1024 : Shape := ⟨2, ![1, 1024]⟩
abbrev S4x1x1024 : Shape := ⟨3, ![4, 1, 1024]⟩
abbrev S1024x1024 : Shape := ⟨2, ![1024, 1024]⟩
abbrev S1x1x1024 : Shape := ⟨3, ![1, 1, 1024]⟩
abbrev S1024 : Shape := ⟨1, ![1024]⟩
abbrev S1024x1 : Shape := ⟨2, ![1024, 1]⟩
abbrev S_ : Shape := ⟨0, ![]⟩

abbrev nBuf : Space → Nat
  | .hbm => 10
  | .vmem => 14
  | .smem => 0
  | _ => 0

abbrev bufTy : (tb : Table) → Fin (tcTables nBuf tb) → BufTy
  | .hbm, ⟨0, _⟩ => ⟨S4096x3200, .bf16⟩
  | .hbm, ⟨1, _⟩ => ⟨S1024x3200, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S4x1x1024, .f32⟩
  | .hbm, ⟨8, _⟩ => ⟨S_, .f32⟩
  | .hbm, ⟨9, _⟩ => ⟨S1x1024, .f32⟩
  | .local _ .vmem, ⟨0, _⟩ => ⟨S1024x3200, .bf16⟩
  | .local _ .vmem, ⟨1, _⟩ => ⟨S1024x3200, .bf16⟩
  | .local _ .vmem, ⟨2, _⟩ => ⟨S1024x3200, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1x1x1024, .f32⟩
  | .local _ .vmem, ⟨13, _⟩ => ⟨S1x1x1024, .f32⟩
  | _, _ => ⟨S4096x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_cst : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== GlaDyRefIdeal.lean ====
abbrev S4096x3200 : Shape := ⟨2, ![4096, 3200]⟩
abbrev S1024x3200 : Shape := ⟨2, ![1024, 3200]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x3200, .bf16⟩
  | .hbm, ⟨1, _⟩ => ⟨S1024x3200, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x3200, .f32⟩
  | .hbm, ⟨25, _⟩ => ⟨S4096x3200, .f32⟩
  | .hbm, ⟨26, _⟩ => ⟨S4096x3200, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .bf16⟩
  | _, _ => ⟨S4096x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Up.lean ====
abbrev S4096x1024 : Shape := ⟨2, ![4096, 1024]⟩
abbrev S4x1024x1024 : Shape := ⟨3, ![4, 1024, 1024]⟩
abbrev S4096x4096 : Shape := ⟨2, ![4096, 4096]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .bf16⟩
  | .local _ .vmem, ⟨5, _⟩ => ⟨S2048x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S4096x1024 : Shape := ⟨2, ![4096, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .f32⟩
  | .hbm, ⟨3, _⟩ => ⟨S4x1024x1024, .f32⟩
  | .hbm, ⟨4, _⟩ => ⟨S1024x4x1024, .f32⟩
  | .hbm, ⟨5, _⟩ => ⟨S1024x4096, .f32⟩
  | .hbm, ⟨6, _⟩ => ⟨S4096x4096, .f32⟩
  | .hbm, ⟨7, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Down.lean ====
abbrev S4096x4096 : Shape := ⟨2, ![4096, 4096]⟩
abbrev S4096x1024 : Shape := ⟨2, ![4096, 1024]⟩
abbrev S1x1024 : Shape := ⟨2, ![1, 1024]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_7 : BitVec 32 := 1#32
  let v16 : BitVec 1 := Scalar.cmpi .eq arg2 c1_i32_7
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== DownRefIdeal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 28
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S4096x4096, .f32⟩
  | .hbm, ⟨5, _⟩ => ⟨S4096x1024, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]
-- ==== Last.lean ====
abbrev S4096x4096 : Shape := ⟨2, ![4096, 4096]⟩
abbrev S4096x1024 : Shape := ⟨2, ![4096, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_7 : BitVec 32 := 1#32
  let v16 : BitVec 1 := Scalar.cmpi .eq arg2 c1_i32_7
  let v17 : BitVec 32 := Scalar.extui v16
  let c0_i32_8 : BitVec 32 := 0#32
  let v18 : BitVec 1 := Scalar.cmpi .ne v17 c0_i32_8
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== LastRefIdeal.lean ====
abbrev S4096x4096 : Shape := ⟨2, ![4096, 4096]⟩
abbrev S4096x1024 : Shape := ⟨2, ![4096, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x4096, .f32⟩
  | .hbm, ⟨4, _⟩ => ⟨S4096x1024, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Out.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutRefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== AbIn.lean ====
abbrev S4096x1024 : Shape := ⟨2, ![4096, 1024]⟩
abbrev S4x1024x896 : Shape := ⟨3, ![4, 1024, 896]⟩
abbrev S4096x3584 : Shape := ⟨2, ![4096, 3584]⟩
abbrev S2048x1024 : Shape := ⟨2, ![2048, 1024]⟩
abbrev S1x1024x896 : Shape := ⟨3, ![1, 1024, 896]⟩
abbrev S2048x896 : Shape := ⟨2, ![2048, 896]⟩
abbrev S1024x896 : Shape := ⟨2, ![1024, 896]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4x1024x896, .bf16⟩
  | .hbm, ⟨2, _⟩ => ⟨S4096x3584, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x896, .bf16⟩
  | .local _ .vmem, ⟨3, _⟩ => ⟨S1x1024x896, .bf16⟩
  | .local _ .vmem, ⟨4, _⟩ => ⟨S2048x896, .f32⟩
  | .local _ .vmem, ⟨5, _⟩ => ⟨S2048x896, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbInRefIdeal.lean ====
abbrev S4096x1024 : Shape := ⟨2, ![4096, 1024]⟩
abbrev S4x1024x896 : Shape := ⟨3, ![4, 1024, 896]⟩
abbrev S1024x4x896 : Shape := ⟨3, ![1024, 4, 896]⟩
abbrev S1024x3584 : Shape := ⟨2, ![1024, 3584]⟩
abbrev S4096x3584 : Shape := ⟨2, ![4096, 3584]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x896, .bf16⟩
  | .hbm, ⟨2, _⟩ => ⟨S4096x1024, .f32⟩
  | .hbm, ⟨3, _⟩ => ⟨S4x1024x896, .f32⟩
  | .hbm, ⟨4, _⟩ => ⟨S1024x4x896, .f32⟩
  | .hbm, ⟨5, _⟩ => ⟨S1024x3584, .f32⟩
  | .hbm, ⟨6, _⟩ => ⟨S4096x3584, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GlaIn.lean ====
abbrev S4096x1024 : Shape := ⟨2, ![4096, 1024]⟩
abbrev S1024x3200 : Shape := ⟨2, ![1024, 3200]⟩
abbrev S4096x3200 : Shape := ⟨2, ![4096, 3200]⟩
abbrev S512x1024 : Shape := ⟨2, ![512, 1024]⟩
abbrev S512x3200 : Shape := ⟨2, ![512, 3200]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x3200, .bf16⟩
  | .hbm, ⟨2, _⟩ => ⟨S4096x3200, .f32⟩
  | .local _ .vmem, ⟨0, _⟩ => ⟨S512x1024, .bf16⟩
  | .local _ .vmem, ⟨1, _⟩ => ⟨S512x1024, .bf16⟩
  | .local _ .vmem, ⟨2, _⟩ => ⟨S1024x3200, .bf16⟩
  | .local _ .vmem, ⟨3, _⟩ => ⟨S512x3200, .f32⟩
  | .local _ .vmem, ⟨4, _⟩ => ⟨S512x3200, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x3200 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GlaInRefIdeal.lean ====
abbrev S4096x1024 : Shape := ⟨2, ![4096, 1024]⟩
abbrev S1024x3200 : Shape := ⟨2, ![1024, 3200]⟩
abbrev S4096x3200 : Shape := ⟨2, ![4096, 3200]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3200, .bf16⟩
  | .hbm, ⟨2, _⟩ => ⟨S4096x1024, .f32⟩
  | .hbm, ⟨3, _⟩ => ⟨S1024x3200, .f32⟩
  | .hbm, ⟨4, _⟩ => ⟨S4096x3200, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GlaDpre.lean ====
abbrev S4096x3200 : Shape := ⟨2, ![4096, 3200]⟩
abbrev S4096x512 : Shape := ⟨2, ![4096, 512]⟩
abbrev S4096x1024 : Shape := ⟨2, ![4096, 1024]⟩
abbrev S2x16x512 : Shape := ⟨3, ![2, 16, 512]⟩
abbrev S2x512 : Shape := ⟨2, ![2, 512]⟩
abbrev S_ : Shape := ⟨0, ![]⟩
abbrev S2x128x512 : Shape := ⟨3, ![2, 128, 512]⟩
abbrev S1x16x512 : Shape := ⟨3, ![1, 16, 512]⟩
abbrev S16x512 : Shape := ⟨2, ![16, 512]⟩
abbrev S1 : Shape := ⟨1, ![1]⟩
abbrev S2 : Shape := ⟨1, ![2]⟩
abbrev S4096x128 : Shape := ⟨2, ![4096, 128]⟩
abbrev S512x128 : Shape := ⟨2, ![512, 128]⟩
abbrev S1x512 : Shape := ⟨2, ![1, 512]⟩
abbrev S512x512 : Shape := ⟨2, ![512, 512]⟩
abbrev S512x1024 : Shape := ⟨2, ![512, 1024]⟩
abbrev S1x128x512 : Shape := ⟨3, ![1, 128, 512]⟩
abbrev S128x512 : Shape := ⟨2, ![128, 512]⟩
abbrev S512 : Shape := ⟨1, ![512]⟩

abbrev nBuf : Space → Nat
  | .hbm => 50
  | .vmem => 34
  | .smem => 0
  | _ => 0

abbrev bufTy : (tb : Table) → Fin (tcTables nBuf tb) → BufTy
  | .hbm, ⟨0, _⟩ => ⟨S4096x3200, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x1024, .f32⟩
  | .hbm, ⟨8, _⟩ => ⟨S4096x1024, .f32⟩
  | .hbm, ⟨9, _⟩ => ⟨S2x16x512, .f32⟩
  | .hbm, ⟨10, _⟩ => ⟨S2x512, .f32⟩
  | .hbm, ⟨11, _⟩ => ⟨S_, .f32⟩
  | .hbm, ⟨12, _⟩ => ⟨S2x128x512, .f32⟩
  | .hbm, ⟨13, _⟩ => ⟨S1x16x512, .f32⟩
  | .hbm, ⟨14, _⟩ => ⟨S16x512, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S2x128x512, .f32⟩
  | .hbm, ⟨21, _⟩ => ⟨S1x16x512, .f32⟩
  | .hbm, ⟨22, _⟩ => ⟨S16x512, .f32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S2, .i32⟩
  | .hbm, ⟨28, _⟩ => ⟨S2x128x512, .f32⟩
  | .hbm, ⟨29, _⟩ => ⟨S4096x512, .bf16⟩
  | .hbm, ⟨30, _⟩ => ⟨S4096x512, .bf16⟩
  | .hbm, ⟨31, _⟩ => ⟨S4096x1024, .bf16⟩
  | .hbm, ⟨32, _⟩ => ⟨S4096x128, .bf16⟩
  | .hbm, ⟨33, _⟩ => ⟨S512x128, .f32⟩
  | .hbm, ⟨34, _⟩ => ⟨S512x128, .f32⟩
  | .hbm, ⟨35, _⟩ => ⟨S1x512, .f32⟩
  | .hbm, ⟨36, _⟩ => ⟨S1x512, .f32⟩
  | .hbm, ⟨37, _⟩ => ⟨S128x512, .f32⟩
  | .hbm, ⟨38, _⟩ => ⟨S128x512, .f32⟩
  | .hbm, ⟨39, _⟩ => ⟨S1x128x512, .f32⟩
  | .hbm, ⟨40, _⟩ => ⟨S1x128x512, .f32⟩
  | .hbm, ⟨41, _⟩ => ⟨S2x128x512, .f32⟩
  | .hbm, ⟨42, _⟩ => ⟨S1x16x512, .f32⟩
  | .hbm, ⟨43, _⟩ => ⟨S16x512, .f32⟩
  | .hbm, ⟨44, _⟩ => ⟨S1x16x512, .f32⟩
  | .hbm, ⟨45, _⟩ => ⟨S16x512, .f32⟩
  | .hbm, ⟨46, _⟩ => ⟨S1x16x512, .f32⟩
  | .hbm, ⟨47, _⟩ => ⟨S1x16x512, .f32⟩
  | .hbm, ⟨48, _⟩ => ⟨S2x16x512, .f32⟩
  | .hbm, ⟨49, _⟩ => ⟨S2x512, .f32⟩
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S512x128, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S2x128x512, .f32⟩
  | .local _ .vmem, ⟨21, _⟩ => ⟨S2x512, .f32⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S512x1024, .bf16⟩
  | .local _ .vmem, ⟨27, _⟩ => ⟨S512x1024, .bf16⟩
  | .local _ .vmem, ⟨28, _⟩ => ⟨S512x128, .bf16⟩
  | .local _ .vmem, ⟨29, _⟩ => ⟨S512x128, .bf16⟩
  | .local _ .vmem, ⟨30, _⟩ => ⟨S512x128, .f32⟩
  | .local _ .vmem, ⟨31, _⟩ => ⟨S512x128, .f32⟩
  | .local _ .vmem, ⟨32, _⟩ => ⟨S1x512, .f32⟩
  | .local _ .vmem, ⟨33, _⟩ => ⟨S1x512, .f32⟩
  | _, _ => ⟨S4096x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_c : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_c_1 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13_0 : Ref sig .tc := ⟨.hbm, 29, rfl⟩
abbrev main_v13_1 : Ref sig .tc := ⟨.hbm, 30, rfl⟩
abbrev main_v13_2 : Ref sig .tc := ⟨.hbm, 31, rfl⟩
abbrev main_v13_3 : Ref sig .tc := ⟨.hbm, 32, rfl⟩
abbrev main_v13_4 : Ref sig .tc := ⟨.hbm, 33, rfl⟩
abbrev main_v13_5 : Ref sig .tc := ⟨.hbm, 34, rfl⟩
abbrev main_v13_6 : Ref sig .tc := ⟨.hbm, 35, rfl⟩
abbrev main_v13_7 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg17_0 : Ref sig .tc := ⟨.vmem, 31, rfl⟩
abbrev cc0_stg18_0 : Ref sig .tc := ⟨.vmem, 32, rfl⟩
abbrev cc0_stg19_0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem17_0 : DmaSem sig := 31
abbrev cc0_sem18_0 : DmaSem sig := 32
abbrev cc0_sem19_0 : DmaSem sig := 33

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v76 : BitVec 1 := Scalar.cmpi .eq arg0 c0_i32
  let v77 : BitVec 32 := Scalar.extui v76
  let c0_i32_43 : BitVec 32 := 0#32
  let v78 : BitVec 1 := Scalar.cmpi .ne v77 c0_i32_43
  v78

def k0_cond2 (i : grid0.Coords) : BitVec 1 :=
  let arg0 : BitVec 32 := BitVec.ofNat 32 (i 0).val
  let c0_i32 : BitVec 32 := 0#32
  let v76 : BitVec 1 := Scalar.cmpi .eq arg0 c0_i32
  let v_true : BitVec 1 := 1#1
  let v79 : BitVec 1 := Scalar.xori v76 v_true
  let v80 : BitVec 32 := Scalar.extui v79
  let c0_i32_44 : BitVec 32 := 0#32
  let v81 : BitVec 1 := Scalar.cmpi .ne v80 c0_i32_44
  v81

def k0_cond3 (i : grid0.Coords) : BitVec 1 :=
  let arg0 : BitVec 32 := BitVec.ofNat 32 (i 0).val
  let c0_i32 : BitVec 32 := 0#32
  let v76 : BitVec 1 := Scalar.cmpi .eq arg0 c0_i32
  let v82 : BitVec 32 := Scalar.extui v76
  let c0_i32_45 : BitVec 32 := 0#32
  let v83 : BitVec 1 := Scalar.cmpi .ne v82 c0_i32_45
  v83

def k0_cond4 (i : grid0.Coords) : BitVec 1 :=
  let arg0 : BitVec 32 := BitVec.ofNat 32 (i 0).val
  let c0_i32 : BitVec 32 := 0#32
  let v76 : BitVec 1 := Scalar.cmpi .eq arg0 c0_i32
  let true_46 : BitVec 1 := 1#1
  let v84 : BitVec 1 := Scalar.xori v76 true_46
  let v85 : BitVec 32 := Scalar.extui v84
  let c0_i32_47 : BitVec 32 := 0#32
  let v86 : BitVec 1 := Scalar.cmpi .ne v85 c0_i32_47
  v86

def k0_cond5 (i : grid0.Coords) : BitVec 1 :=
  let arg0 : BitVec 32 := BitVec.ofNat 32 (i 0).val
  let c0_i32 : BitVec 32 := 0#32
  let v76 : BitVec 1 := Scalar.cmpi .eq arg0 c0_i32
  let v87 : BitVec 32 := Scalar.extui v76
  let c0_i32_48 : BitVec 32 := 0#32
  let v88 : BitVec 1 := Scalar.cmpi .ne v87 c0_i32_48
  v88

def k0_cond6 (i : grid0.Coords) : BitVec 1 :=
  let arg0 : BitVec 32 := BitVec.ofNat 32 (i 0).val
  let c0_i32 : BitVec 32 := 0#32
  let v76 : BitVec 1 := Scalar.cmpi .eq arg0 c0_i32
  let true_49 : BitVec 1 := 1#1
  let v89 : BitVec 1 := Scalar.xori v76 true_49
  let v90 : BitVec 32 := Scalar.extui v89
  let c0_i32_50 : BitVec 32 := 0#32
  let v91 : BitVec 1 := Scalar.cmpi .ne v90 c0_i32_50
  v91

def k0_cond7 (i : grid0.Coords) : BitVec 1 :=
  let arg0 : BitVec 32 := BitVec.ofNat 32 (i 0).val
  let c0_i32 : BitVec 32 := 0#32
  let v76 : BitVec 1 := Scalar.cmpi .eq arg0 c0_i32
  let v92 : BitVec 32 := Scalar.extui v76
  let c0_i32_51 : BitVec 32 := 0#32
  let v93 : BitVec 1 := Scalar.cmpi .ne v92 c0_i32_51
  v93

def k0_cond8 (i : grid0.Coords) : BitVec 1 :=
  let arg0 : BitVec 32 := BitVec.ofNat 32 (i 0).val
  let c0_i32 : BitVec 32 := 0#32
  let v76 : BitVec 1 := Scalar.cmpi .eq arg0 c0_i32
  let true_52 : BitVec 1 := 1#1
  let v94 : BitVec 1 := Scalar.xori v76 true_52
  let v95 : BitVec 32 := Scalar.extui v94
  let c0_i32_53 : BitVec 32 := 0#32
  let v96 : BitVec 1 := Scalar.cmpi .ne v95 c0_i32_53
  v96

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S2x128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S512x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S512x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== GlaDpreRefIdeal.lean ====
abbrev S4096x3200 : Shape := ⟨2, ![4096, 3200]⟩
abbrev S4096x512 : Shape := ⟨2, ![4096, 512]⟩
abbrev S4096x1024 : Shape := ⟨2, ![4096, 1024]⟩
abbrev S2x16x512 : Shape := ⟨3, ![2, 16, 512]⟩
abbrev S2x512 : Shape := ⟨2, ![2, 512]⟩
abbrev S4096x16 : Shape := ⟨2, ![4096, 16]⟩
abbrev S_ : Shape := ⟨0, ![]⟩
abbrev S1x16x512 : Shape := ⟨3, ![1, 16, 512]⟩
abbrev S16x512 : Shape := ⟨2, ![16, 512]⟩
abbrev S1x512 : Shape := ⟨2, ![1, 512]⟩
abbrev S512 : Shape := ⟨1, ![512]⟩
abbrev S512x16 : Shape := ⟨2, ![512, 16]⟩
abbrev S4096x96 : Shape := ⟨2, ![4096, 96]⟩
abbrev S4096x128 : Shape := ⟨2, ![4096, 128]⟩

abbrev nBuf : Space → Nat
  | .hbm => 194
  | .vmem => 0
  | .smem => 0
  | _ => 0

abbrev hbmTy0_0 (i : Nat) : BufTy := match i % 128 with
  | 0 => ⟨S4096x3200, .f32⟩
  | 1 => ⟨S4096x512, .f32⟩
  | 2 => ⟨S4096x512, .f32⟩
  | 3 => ⟨S4096x512, .f32⟩
  | 4 => ⟨S4096x512, .f32⟩
  | 5 => ⟨S4096x512, .f32⟩
  | 6 => ⟨S4096x512, .f32⟩
  | 7 => ⟨S4096x1024, .f32⟩
  | 8 => ⟨S4096x1024, .f32⟩
  | 9 => ⟨S2x16x512, .f32⟩
  | 10 => ⟨S2x512, .f32⟩
  | 11 => ⟨S4096x512, .f32⟩
  | 12 => ⟨S4096x16, .f32⟩
  | 13 => ⟨S4096x16, .f32⟩
  | 14 => ⟨S_, .f32⟩
  | 15 => ⟨S4096x512, .f32⟩
  | 16 => ⟨S_, .f32⟩
  | 17 => ⟨S4096x1024, .f32⟩
  | 18 => ⟨S_, .f32⟩
  | 19 => ⟨S4096x512, .f32⟩
  | 20 => ⟨S4096x512, .f32⟩
  | 21 => ⟨S1x16x512, .f32⟩
  | 22 => ⟨S16x512, .f32⟩
  | 23 => ⟨S1x512, .f32⟩
  | 24 => ⟨S512, .f32⟩
  | 25 => ⟨S4096x512, .f32⟩
  | 26 => ⟨S1x512, .f32⟩
  | 27 => ⟨S4096x512, .f32⟩
  | 28 => ⟨S4096x512, .f32⟩
  | 29 => ⟨S4096x512, .f32⟩
  | 30 => ⟨S_, .f32⟩
  | 31 => ⟨S4096x512, .f32⟩
  | 32 => ⟨S4096x512, .f32⟩
  | 33 => ⟨S4096x512, .f32⟩
  | 34 => ⟨S4096x512, .f32⟩
  | 35 => ⟨S4096x512, .i1⟩
  | 36 => ⟨S4096x512, .f32⟩
  | 37 => ⟨S4096x512, .f32⟩
  | 38 => ⟨S4096x512, .f32⟩
  | 39 => ⟨S4096x512, .f32⟩
  | 40 => ⟨S4096x512, .f32⟩
  | 41 => ⟨S4096x512, .f32⟩
  | 42 => ⟨S4096x512, .f32⟩
  | 43 => ⟨S4096x512, .f32⟩
  | 44 => ⟨S_, .f32⟩
  | 45 => ⟨S4096x512, .f32⟩
  | 46 => ⟨S4096x512, .i1⟩
  | 47 => ⟨S_, .f32⟩
  | 48 => ⟨S4096x512, .f32⟩
  | 49 => ⟨S4096x512, .f32⟩
  | 50 => ⟨S_, .f32⟩
  | 51 => ⟨S4096x512, .f32⟩
  | 52 => ⟨S4096x512, .i1⟩
  | 53 => ⟨S_, .f32⟩
  | 54 => ⟨S4096x512, .f32⟩
  | 55 => ⟨S4096x512, .f32⟩
  | 56 => ⟨S4096x512, .f32⟩
  | 57 => ⟨S4096x512, .f32⟩
  | 58 => ⟨S_, .f32⟩
  | 59 => ⟨S_, .f32⟩
  | 60 => ⟨S_, .i1⟩
  | 61 => ⟨S_, .f32⟩
  | 62 => ⟨S_, .f32⟩
  | 63 => ⟨S_, .f32⟩
  | 64 => ⟨S_, .f32⟩
  | 65 => ⟨S4096x512, .f32⟩
  | 66 => ⟨S4096x512, .i1⟩
  | 67 => ⟨S_, .f32⟩
  | 68 => ⟨S4096x512, .f32⟩
  | 69 => ⟨S4096x512, .f32⟩
  | 70 => ⟨S4096x512, .f32⟩
  | 71 => ⟨S4096x512, .f32⟩
  | 72 => ⟨S4096x512, .f32⟩
  | 73 => ⟨S_, .f32⟩
  | 74 => ⟨S4096x512, .f32⟩
  | 75 => ⟨S4096x512, .f32⟩
  | 76 => ⟨S4096x512, .f32⟩
  | 77 => ⟨S_, .f32⟩
  | 78 => ⟨S4096x512, .f32⟩
  | 79 => ⟨S4096x512, .f32⟩
  | 80 => ⟨S1x16x512, .f32⟩
  | 81 => ⟨S16x512, .f32⟩
  | 82 => ⟨S1x512, .f32⟩
  | 83 => ⟨S512, .f32⟩
  | 84 => ⟨S4096x512, .f32⟩
  | 85 => ⟨S1x512, .f32⟩
  | 86 => ⟨S4096x512, .f32⟩
  | 87 => ⟨S4096x512, .f32⟩
  | 88 => ⟨S4096x512, .f32⟩
  | 89 => ⟨S_, .f32⟩
  | 90 => ⟨S4096x512, .f32⟩
  | 91 => ⟨S4096x512, .f32⟩
  | 92 => ⟨S4096x512, .f32⟩
  | 93 => ⟨S4096x512, .f32⟩
  | 94 => ⟨S4096x512, .i1⟩
  | 95 => ⟨S4096x512, .f32⟩
  | 96 => ⟨S4096x512, .f32⟩
  | 97 => ⟨S4096x512, .f32⟩
  | 98 => ⟨S4096x512, .f32⟩
  | 99 => ⟨S4096x512, .f32⟩
  | 100 => ⟨S4096x512, .f32⟩
  | 101 => ⟨S4096x512, .f32⟩
  | 102 => ⟨S4096x512, .f32⟩
  | 103 => ⟨S_, .f32⟩
  | 104 => ⟨S4096x512, .f32⟩
  | 105 => ⟨S4096x512, .i1⟩
  | 106 => ⟨S_, .f32⟩
  | 107 => ⟨S4096x512, .f32⟩
  | 108 => ⟨S4096x512, .f32⟩
  | 109 => ⟨S_, .f32⟩
  | 110 => ⟨S4096x512, .f32⟩
  | 111 => ⟨S4096x512, .i1⟩
  | 112 => ⟨S_, .f32⟩
  | 113 => ⟨S4096x512, .f32⟩
  | 114 => ⟨S4096x512, .f32⟩
  | 115 => ⟨S4096x512, .f32⟩
  | 116 => ⟨S4096x512, .f32⟩
  | 117 => ⟨S_, .f32⟩
  | 118 => ⟨S_, .f32⟩
  | 119 => ⟨S_, .i1⟩
  | 120 => ⟨S_, .f32⟩
  | 121 => ⟨S_, .f32⟩
  | 122 => ⟨S_, .f32⟩
  | 123 => ⟨S_, .f32⟩
  | 124 => ⟨S4096x512, .f32⟩
  | 125 => ⟨S4096x512, .i1⟩
  | 126 => ⟨S_, .f32⟩
  | 127 => ⟨S4096x512, .f32⟩
  | _ => ⟨S4096x3200, .f32⟩

abbrev hbmTy0_1 (i : Nat) : BufTy := match i % 128 with
  | 0 => ⟨S4096x512, .f32⟩
  | 1 => ⟨S4096x512, .f32⟩
  | 2 => ⟨S4096x512, .f32⟩
  | 3 => ⟨S4096x512, .f32⟩
  | 4 => ⟨S_, .f32⟩
  | 5 => ⟨S4096x512, .f32⟩
  | 6 => ⟨S4096x512, .f32⟩
  | 7 => ⟨S4096x512, .f32⟩
  | 8 => ⟨S_, .f32⟩
  | 9 => ⟨S4096x512, .f32⟩
  | 10 => ⟨S4096x512, .f32⟩
  | 11 => ⟨S4096x512, .f32⟩
  | 12 => ⟨S4096x512, .f32⟩
  | 13 => ⟨S4096x1024, .f32⟩
  | 14 => ⟨S_, .f32⟩
  | 15 => ⟨S4096x512, .f32⟩
  | 16 => ⟨S4096x512, .f32⟩
  | 17 => ⟨S4096x512, .f32⟩
  | 18 => ⟨S4096x512, .f32⟩
  | 19 => ⟨S4096x512, .f32⟩
  | 20 => ⟨S_, .f32⟩
  | 21 => ⟨S512, .f32⟩
  | 22 => ⟨S1x512, .f32⟩
  | 23 => ⟨S_, .f32⟩
  | 24 => ⟨S512, .f32⟩
  | 25 => ⟨S512x16, .f32⟩
  | 26 => ⟨S16x512, .f32⟩
  | 27 => ⟨S4096x16, .f32⟩
  | 28 => ⟨S1x512, .f32⟩
  | 29 => ⟨S_, .f32⟩
  | 30 => ⟨S2x512, .f32⟩
  | 31 => ⟨S1x16x512, .f32⟩
  | 32 => ⟨S_, .f32⟩
  | 33 => ⟨S2x16x512, .f32⟩
  | 34 => ⟨S_, .f32⟩
  | 35 => ⟨S4096x512, .f32⟩
  | 36 => ⟨S4096x512, .f32⟩
  | 37 => ⟨S4096x512, .f32⟩
  | 38 => ⟨S4096x512, .f32⟩
  | 39 => ⟨S4096x512, .f32⟩
  | 40 => ⟨S_, .f32⟩
  | 41 => ⟨S512, .f32⟩
  | 42 => ⟨S1x512, .f32⟩
  | 43 => ⟨S_, .f32⟩
  | 44 => ⟨S512, .f32⟩
  | 45 => ⟨S512x16, .f32⟩
  | 46 => ⟨S16x512, .f32⟩
  | 47 => ⟨S4096x16, .f32⟩
  | 48 => ⟨S1x512, .f32⟩
  | 49 => ⟨S_, .f32⟩
  | 50 => ⟨S2x512, .f32⟩
  | 51 => ⟨S2x512, .f32⟩
  | 52 => ⟨S1x16x512, .f32⟩
  | 53 => ⟨S_, .f32⟩
  | 54 => ⟨S2x16x512, .f32⟩
  | 55 => ⟨S2x16x512, .f32⟩
  | 56 => ⟨S_, .f32⟩
  | 57 => ⟨S4096x512, .f32⟩
  | 58 => ⟨S4096x512, .f32⟩
  | 59 => ⟨S_, .f32⟩
  | 60 => ⟨S4096x96, .f32⟩
  | 61 => ⟨S4096x128, .f32⟩
  | 62 => ⟨S4096x512, .bf16⟩
  | 63 => ⟨S4096x512, .bf16⟩
  | 64 => ⟨S4096x1024, .bf16⟩
  | 65 => ⟨S4096x128, .bf16⟩
  | _ => ⟨S4096x3200, .f32⟩

abbrev hbmTy (i : Nat) : BufTy := match i / 128 with
  | 0 => hbmTy0_0 i
  | 1 => hbmTy0_1 i
  | _ => ⟨S4096x3200, .f32⟩

abbrev bufTy : (tb : Table) → Fin (tcTables nBuf tb) → BufTy
  | .hbm, ⟨i, _⟩ => hbmTy i
  | _, _ => ⟨S4096x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_call0_v0 : Ref sig .tc := ⟨.hbm, 29, rfl⟩
abbrev main_call0_call0_cst : Ref sig .tc := ⟨.hbm, 30, rfl⟩
abbrev main_call0_call0_v0 : Ref sig .tc := ⟨.hbm, 31, rfl⟩
abbrev main_call0_call0_v1 : Ref sig .tc := ⟨.hbm, 32, rfl⟩
abbrev main_call0_call0_v2 : Ref sig .tc := ⟨.hbm, 33, rfl⟩
abbrev main_call0_call0_v3 : Ref sig .tc := ⟨.hbm, 34, rfl⟩
abbrev main_call0_call0_v4 : Ref sig .tc := ⟨.hbm, 35, rfl⟩
abbrev main_call0_call0_v5 : Ref sig .tc := ⟨.hbm, 36, rfl⟩
abbrev main_call0_call0_v6 : Ref sig .tc := ⟨.hbm, 37, rfl⟩
abbrev main_call0_call0_v7 : Ref sig .tc := ⟨.hbm, 38, rfl⟩
abbrev main_call0_call0_v8 : Ref sig .tc := ⟨.hbm, 39, rfl⟩
abbrev main_call0_call0_v9 : Ref sig .tc := ⟨.hbm, 40, rfl⟩
abbrev main_call0_call0_v10 : Ref sig .tc := ⟨.hbm, 41, rfl⟩
abbrev main_call0_call0_v11 : Ref sig .tc := ⟨.hbm, 42, rfl⟩
abbrev main_call0_v1_0 : Ref sig .tc := ⟨.hbm, 43, rfl⟩
abbrev main_call0_call0_cst_0 : Ref sig .tc := ⟨.hbm, 44, rfl⟩
abbrev main_call0_call0_v13 : Ref sig .tc := ⟨.hbm, 45, rfl⟩
abbrev main_call0_call0_v14 : Ref sig .tc := ⟨.hbm, 46, rfl⟩
abbrev main_call0_call0_cst_1 : Ref sig .tc := ⟨.hbm, 47, rfl⟩
abbrev main_call0_call0_v15 : Ref sig .tc := ⟨.hbm, 48, rfl⟩
abbrev main_call0_call0_v16 : Ref sig .tc := ⟨.hbm, 49, rfl⟩
abbrev main_call0_call0_cst_2 : Ref sig .tc := ⟨.hbm, 50, rfl⟩
abbrev main_call0_call0_v17 : Ref sig .tc := ⟨.hbm, 51, rfl⟩
abbrev main_call0_call0_v18 : Ref sig .tc := ⟨.hbm, 52, rfl⟩
abbrev main_call0_call0_cst_3 : Ref sig .tc := ⟨.hbm, 53, rfl⟩
abbrev main_call0_call0_v19 : Ref sig .tc := ⟨.hbm, 54, rfl⟩
abbrev main_call0_call0_v20 : Ref sig .tc := ⟨.hbm, 55, rfl⟩
abbrev main_call0_call0_v21 : Ref sig .tc := ⟨.hbm, 56, rfl⟩
abbrev main_v15_1 : Ref sig .tc := ⟨.hbm, 57, rfl⟩
abbrev main_call0_call0_cst_4 : Ref sig .tc := ⟨.hbm, 58, rfl⟩
abbrev main_call0_call0_cst_5 : Ref sig .tc := ⟨.hbm, 59, rfl⟩
abbrev main_call0_call0_v23 : Ref sig .tc := ⟨.hbm, 60, rfl⟩
abbrev main_call0_call0_cst_6 : Ref sig .tc := ⟨.hbm, 61, rfl⟩
abbrev main_call0_call0_cst_7 : Ref sig .tc := ⟨.hbm, 62, rfl⟩
abbrev main_call0_call0_v24 : Ref sig .tc := ⟨.hbm, 63, rfl⟩
abbrev main_call0_call0_cst_8 : Ref sig .tc := ⟨.hbm, 64, rfl⟩
abbrev main_call0_call0_v25 : Ref sig .tc := ⟨.hbm, 65, rfl⟩
abbrev main_call0_call0_v26 : Ref sig .tc := ⟨.hbm, 66, rfl⟩
abbrev main_call0_call0_cst_9 : Ref sig .tc := ⟨.hbm, 67, rfl⟩
abbrev main_call0_call0_v27 : Ref sig .tc := ⟨.hbm, 68, rfl⟩
abbrev main_call0_call0_v28 : Ref sig .tc := ⟨.hbm, 69, rfl⟩
abbrev main_call0_call0_v29 : Ref sig .tc := ⟨.hbm, 70, rfl⟩
abbrev main_call0_call0_v30 : Ref sig .tc := ⟨.hbm, 71, rfl⟩
abbrev main_call0_call0_v31 : Ref sig .tc := ⟨.hbm, 72, rfl⟩
abbrev main_call0_call0_cst_10 : Ref sig .tc := ⟨.hbm, 73, rfl⟩
abbrev main_call0_call0_v32 : Ref sig .tc := ⟨.hbm, 74, rfl⟩
abbrev main_v15_2 : Ref sig .tc := ⟨.hbm, 75, rfl⟩
abbrev main_v15_0 : Ref sig .tc := ⟨.hbm, 76, rfl⟩
abbrev main_cst_2 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_call1_v0 : Ref sig .tc := ⟨.hbm, 88, rfl⟩
abbrev main_call1_call0_cst : Ref sig .tc := ⟨.hbm, 89, rfl⟩
abbrev main_call1_call0_v0 : Ref sig .tc := ⟨.hbm, 90, rfl⟩
abbrev main_call1_call0_v1 : Ref sig .tc := ⟨.hbm, 91, rfl⟩
abbrev main_call1_call0_v2 : Ref sig .tc := ⟨.hbm, 92, rfl⟩
abbrev main_call1_call0_v3 : Ref sig .tc := ⟨.hbm, 93, rfl⟩
abbrev main_call1_call0_v4 : Ref sig .tc := ⟨.hbm, 94, rfl⟩
abbrev main_call1_call0_v5 : Ref sig .tc := ⟨.hbm, 95, rfl⟩
abbrev main_call1_call0_v6 : Ref sig .tc := ⟨.hbm, 96, rfl⟩
abbrev main_call1_call0_v7 : Ref sig .tc := ⟨.hbm, 97, rfl⟩
abbrev main_call1_call0_v8 : Ref sig .tc := ⟨.hbm, 98, rfl⟩
abbrev main_call1_call0_v9 : Ref sig .tc := ⟨.hbm, 99, rfl⟩
abbrev main_call1_call0_v10 : Ref sig .tc := ⟨.hbm, 100, rfl⟩
abbrev main_call1_call0_v11 : Ref sig .tc := ⟨.hbm, 101, rfl⟩
abbrev main_call1_v1_0 : Ref sig .tc := ⟨.hbm, 102, rfl⟩
abbrev main_call1_call0_cst_0 : Ref sig .tc := ⟨.hbm, 103, rfl⟩
abbrev main_call1_call0_v13 : Ref sig .tc := ⟨.hbm, 104, rfl⟩
abbrev main_call1_call0_v14 : Ref sig .tc := ⟨.hbm, 105, rfl⟩
abbrev main_call1_call0_cst_1 : Ref sig .tc := ⟨.hbm, 106, rfl⟩
abbrev main_call1_call0_v15 : Ref sig .tc := ⟨.hbm, 107, rfl⟩
abbrev main_call1_call0_v16 : Ref sig .tc := ⟨.hbm, 108, rfl⟩
abbrev main_call1_call0_cst_2 : Ref sig .tc := ⟨.hbm, 109, rfl⟩
abbrev main_call1_call0_v17 : Ref sig .tc := ⟨.hbm, 110, rfl⟩
abbrev main_call1_call0_v18 : Ref sig .tc := ⟨.hbm, 111, rfl⟩
abbrev main_call1_call0_cst_3 : Ref sig .tc := ⟨.hbm, 112, rfl⟩
abbrev main_call1_call0_v19 : Ref sig .tc := ⟨.hbm, 113, rfl⟩
abbrev main_call1_call0_v20 : Ref sig .tc := ⟨.hbm, 114, rfl⟩
abbrev main_call1_call0_v21 : Ref sig .tc := ⟨.hbm, 115, rfl⟩
abbrev main_v26_1 : Ref sig .tc := ⟨.hbm, 116, rfl⟩
abbrev main_call1_call0_cst_4 : Ref sig .tc := ⟨.hbm, 117, rfl⟩
abbrev main_call1_call0_cst_5 : Ref sig .tc := ⟨.hbm, 118, rfl⟩
abbrev main_call1_call0_v23 : Ref sig .tc := ⟨.hbm, 119, rfl⟩
abbrev main_call1_call0_cst_6 : Ref sig .tc := ⟨.hbm, 120, rfl⟩
abbrev main_call1_call0_cst_7 : Ref sig .tc := ⟨.hbm, 121, rfl⟩
abbrev main_call1_call0_v24 : Ref sig .tc := ⟨.hbm, 122, rfl⟩
abbrev main_call1_call0_cst_8 : Ref sig .tc := ⟨.hbm, 123, rfl⟩
abbrev main_call1_call0_v25 : Ref sig .tc := ⟨.hbm, 124, rfl⟩
abbrev main_call1_call0_v26 : Ref sig .tc := ⟨.hbm, 125, rfl⟩
abbrev main_call1_call0_cst_9 : Ref sig .tc := ⟨.hbm, 126, rfl⟩
abbrev main_call1_call0_v27 : Ref sig .tc := ⟨.hbm, 127, rfl⟩
abbrev main_call1_call0_v28 : Ref sig .tc := ⟨.hbm, 128, rfl⟩
abbrev main_call1_call0_v29 : Ref sig .tc := ⟨.hbm, 129, rfl⟩
abbrev main_call1_call0_v30 : Ref sig .tc := ⟨.hbm, 130, rfl⟩
abbrev main_call1_call0_v31 : Ref sig .tc := ⟨.hbm, 131, rfl⟩
abbrev main_call1_call0_cst_10 : Ref sig .tc := ⟨.hbm, 132, rfl⟩
abbrev main_call1_call0_v32 : Ref sig .tc := ⟨.hbm, 133, rfl⟩
abbrev main_v26_2 : Ref sig .tc := ⟨.hbm, 134, rfl⟩
abbrev main_v26_0 : Ref sig .tc := ⟨.hbm, 135, rfl⟩
abbrev main_cst_3 : Ref sig .tc := ⟨.hbm, 136, rfl⟩
abbrev main_v27 : Ref sig .tc := ⟨.hbm, 137, rfl⟩
abbrev main_v28 : Ref sig .tc := ⟨.hbm, 138, rfl⟩
abbrev main_v29 : Ref sig .tc := ⟨.hbm, 139, rfl⟩
abbrev main_v30 : Ref sig .tc := ⟨.hbm, 140, rfl⟩
abbrev main_v31 : Ref sig .tc := ⟨.hbm, 141, rfl⟩
abbrev main_cst_4 : Ref sig .tc := ⟨.hbm, 142, rfl⟩
abbrev main_v32 : Ref sig .tc := ⟨.hbm, 143, rfl⟩
abbrev main_v33 : Ref sig .tc := ⟨.hbm, 144, rfl⟩
abbrev main_call2_v0 : Ref sig .tc := ⟨.hbm, 145, rfl⟩
abbrev main_call2_v1 : Ref sig .tc := ⟨.hbm, 146, rfl⟩
abbrev main_v34 : Ref sig .tc := ⟨.hbm, 147, rfl⟩
abbrev main_cst_5 : Ref sig .tc := ⟨.hbm, 148, rfl⟩
abbrev main_v35 : Ref sig .tc := ⟨.hbm, 149, rfl⟩
abbrev main_v36 : Ref sig .tc := ⟨.hbm, 150, rfl⟩
abbrev main_cst_6 : Ref sig .tc := ⟨.hbm, 151, rfl⟩
abbrev main_v37 : Ref sig .tc := ⟨.hbm, 152, rfl⟩
abbrev main_v38 : Ref sig .tc := ⟨.hbm, 153, rfl⟩
abbrev main_v39 : Ref sig .tc := ⟨.hbm, 154, rfl⟩
abbrev main_v40 : Ref sig .tc := ⟨.hbm, 155, rfl⟩
abbrev main_v41 : Ref sig .tc := ⟨.hbm, 156, rfl⟩
abbrev main_cst_7 : Ref sig .tc := ⟨.hbm, 157, rfl⟩
abbrev main_v42 : Ref sig .tc := ⟨.hbm, 158, rfl⟩
abbrev main_v43 : Ref sig .tc := ⟨.hbm, 159, rfl⟩
abbrev main_cst_8 : Ref sig .tc := ⟨.hbm, 160, rfl⟩
abbrev main_v44 : Ref sig .tc := ⟨.hbm, 161, rfl⟩
abbrev main_cst_9 : Ref sig .tc := ⟨.hbm, 162, rfl⟩
abbrev main_v45 : Ref sig .tc := ⟨.hbm, 163, rfl⟩
abbrev main_v46 : Ref sig .tc := ⟨.hbm, 164, rfl⟩
abbrev main_call3_v0 : Ref sig .tc := ⟨.hbm, 165, rfl⟩
abbrev main_call3_v1 : Ref sig .tc := ⟨.hbm, 166, rfl⟩
abbrev main_v47 : Ref sig .tc := ⟨.hbm, 167, rfl⟩
abbrev main_cst_10 : Ref sig .tc := ⟨.hbm, 168, rfl⟩
abbrev main_v48 : Ref sig .tc := ⟨.hbm, 169, rfl⟩
abbrev main_v49 : Ref sig .tc := ⟨.hbm, 170, rfl⟩
abbrev main_cst_11 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_cst_12 : Ref sig .tc := ⟨.hbm, 177, rfl⟩
abbrev main_v55 : Ref sig .tc := ⟨.hbm, 178, rfl⟩
abbrev main_v56 : Ref sig .tc := ⟨.hbm, 179, rfl⟩
abbrev main_v57 : Ref sig .tc := ⟨.hbm, 180, rfl⟩
abbrev main_cst_13 : Ref sig .tc := ⟨.hbm, 181, rfl⟩
abbrev main_v58 : Ref sig .tc := ⟨.hbm, 182, rfl⟩
abbrev main_v59 : Ref sig .tc := ⟨.hbm, 183, rfl⟩
abbrev main_cst_14 : Ref sig .tc := ⟨.hbm, 184, rfl⟩
abbrev main_v60 : Ref sig .tc := ⟨.hbm, 185, rfl⟩
abbrev main_v61 : Ref sig .tc := ⟨.hbm, 186, rfl⟩
abbrev main_cst_15 : Ref sig .tc := ⟨.hbm, 187, rfl⟩
abbrev main_v62 : Ref sig .tc := ⟨.hbm, 188, rfl⟩
abbrev main_v63 : Ref sig .tc := ⟨.hbm, 189, rfl⟩
abbrev main_v64 : Ref sig .tc := ⟨.hbm, 190, rfl⟩
abbrev main_v65 : Ref sig .tc := ⟨.hbm, 191, rfl⟩
abbrev main_v66 : Ref sig .tc := ⟨.hbm, 192, rfl⟩
abbrev main_v67 : Ref sig .tc := ⟨.hbm, 193, rfl⟩

abbrev nD : Nat := 1
abbrev τ : Topo := Topo.v7x

variable {F : FTy → Type} [FloatOps F]
-- ==== GlaPre.lean ====
abbrev S4096x3200 : Shape := ⟨2, ![4096, 3200]⟩
abbrev S2x16x512 : Shape := ⟨3, ![2, 16, 512]⟩
abbrev S2x512 : Shape := ⟨2, ![2, 512]⟩
abbrev S_ : Shape := ⟨0, ![]⟩
abbrev S2x128x512 : Shape := ⟨3, ![2, 128, 512]⟩
abbrev S1x16x512 : Shape := ⟨3, ![1, 16, 512]⟩
abbrev S16x512 : Shape := ⟨2, ![16, 512]⟩
abbrev S1 : Shape := ⟨1, ![1]⟩
abbrev S2 : Shape := ⟨1, ![2]⟩
abbrev S4096x512 : Shape := ⟨2, ![4096, 512]⟩
abbrev S512x512 : Shape := ⟨2, ![512, 512]⟩
abbrev S512x128 : Shape := ⟨2, ![512, 128]⟩
abbrev S1x128x512 : Shape := ⟨3, ![1, 128, 512]⟩
abbrev S128x512 : Shape := ⟨2, ![128, 512]⟩
abbrev S1x512 : Shape := ⟨2, ![1, 512]⟩

abbrev nBuf : Space → Nat
  | .hbm => 24
  | .vmem => 12
  | .smem => 0
  | _ => 0

abbrev bufTy : (tb : Table) → Fin (tcTables nBuf tb) → BufTy
  | .hbm, ⟨0, _⟩ => ⟨S4096x3200, .f32⟩
  | .hbm, ⟨1, _⟩ => ⟨S2x16x512, .f32⟩
  | .hbm, ⟨2, _⟩ => ⟨S2x512, .f32⟩
  | .hbm, ⟨3, _⟩ => ⟨S_, .f32⟩
  | .hbm, ⟨4, _⟩ => ⟨S2x128x512, .f32⟩
  | .hbm, ⟨5, _⟩ => ⟨S1x16x512, .f32⟩
  | .hbm, ⟨6, _⟩ => ⟨S16x512, .f32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2, .i32⟩
  | .hbm, ⟨12, _⟩ => ⟨S2x128x512, .f32⟩
  | .hbm, ⟨13, _⟩ => ⟨S1x16x512, .f32⟩
  | .hbm, ⟨14, _⟩ => ⟨S16x512, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S2x128x512, .f32⟩
  | .hbm, ⟨21, _⟩ => ⟨S4096x512, .f32⟩
  | .hbm, ⟨22, _⟩ => ⟨S4096x512, .f32⟩
  | .hbm, ⟨23, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S512x128, .f32⟩
  | .local _ .vmem, ⟨4, _⟩ => ⟨S2x128x512, .f32⟩
  | .local _ .vmem, ⟨5, _⟩ => ⟨S2x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | _, _ => ⟨S4096x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GlaPreRefIdeal.lean ====
abbrev S4096x3200 : Shape := ⟨2, ![4096, 3200]⟩
abbrev S2x16x512 : Shape := ⟨3, ![2, 16, 512]⟩
abbrev S2x512 : Shape := ⟨2, ![2, 512]⟩
abbrev S4096x512 : Shape := ⟨2, ![4096, 512]⟩
abbrev S4096x16 : Shape := ⟨2, ![4096, 16]⟩
abbrev S_ : Shape := ⟨0, ![]⟩
abbrev S1x16x512 : Shape := ⟨3, ![1, 16, 512]⟩
abbrev S16x512 : Shape := ⟨2, ![16, 512]⟩
abbrev S1x512 : Shape := ⟨2, ![1, 512]⟩
abbrev S512 : Shape := ⟨1, ![512]⟩

abbrev nBuf : Space → Nat
  | .hbm => 63
  | .vmem => 0
  | .smem => 0
  | _ => 0

abbrev bufTy : (tb : Table) → Fin (tcTables nBuf tb) → BufTy
  | .hbm, ⟨0, _⟩ => ⟨S4096x3200, .f32⟩
  | .hbm, ⟨1, _⟩ => ⟨S2x16x512, .f32⟩
  | .hbm, ⟨2, _⟩ => ⟨S2x512, .f32⟩
  | .hbm, ⟨3, _⟩ => ⟨S4096x512, .f32⟩
  | .hbm, ⟨4, _⟩ => ⟨S4096x16, .f32⟩
  | .hbm, ⟨5, _⟩ => ⟨S4096x16, .f32⟩
  | .hbm, ⟨6, _⟩ => ⟨S_, .f32⟩
  | .hbm, ⟨7, _⟩ => ⟨S4096x512, .f32⟩
  | .hbm, ⟨8, _⟩ => ⟨S4096x512, .f32⟩
  | .hbm, ⟨9, _⟩ => ⟨S1x16x512, .f32⟩
  | .hbm, ⟨10, _⟩ => ⟨S16x512, .f32⟩
  | .hbm, ⟨11, _⟩ => ⟨S1x512, .f32⟩
  | .hbm, ⟨12, _⟩ => ⟨S512, .f32⟩
  | .hbm, ⟨13, _⟩ => ⟨S4096x512, .f32⟩
  | .hbm, ⟨14, _⟩ => ⟨S1x512, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S_, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S4096x512, .i1⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S_, .f32⟩
  | .hbm, ⟨34, _⟩ => ⟨S4096x512, .f32⟩
  | .hbm, ⟨35, _⟩ => ⟨S4096x512, .f32⟩
  | .hbm, ⟨36, _⟩ => ⟨S1x16x512, .f32⟩
  | .hbm, ⟨37, _⟩ => ⟨S16x512, .f32⟩
  | .hbm, ⟨38, _⟩ => ⟨S1x512, .f32⟩
  | .hbm, ⟨39, _⟩ => ⟨S512, .f32⟩
  | .hbm, ⟨40, _⟩ => ⟨S4096x512, .f32⟩
  | .hbm, ⟨41, _⟩ => ⟨S1x512, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S_, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S4096x512, .i1⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S4096x512, .f32⟩
  | .hbm, ⟨56, _⟩ => ⟨S4096x512, .f32⟩
  | .hbm, ⟨57, _⟩ => ⟨S4096x512, .f32⟩
  | .hbm, ⟨58, _⟩ => ⟨S4096x512, .f32⟩
  | .hbm, ⟨59, _⟩ => ⟨S4096x512, .f32⟩
  | .hbm, ⟨60, _⟩ => ⟨S_, .f32⟩
  | .hbm, ⟨61, _⟩ => ⟨S4096x512, .f32⟩
  | .hbm, ⟨62, _⟩ => ⟨S4096x512, .f32⟩
  | _, _ => ⟨S4096x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call0_v0 : Ref sig .tc := ⟨.hbm, 17, rfl⟩
abbrev main_call0_call0_cst : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_call0_v2 : Ref sig .tc := ⟨.hbm, 21, rfl⟩
abbrev main_call0_call0_v3 : Ref sig .tc := ⟨.hbm, 22, rfl⟩
abbrev main_call0_call0_v4 : Ref sig .tc := ⟨.hbm, 23, rfl⟩
abbrev main_call0_call0_v5 : Ref sig .tc := ⟨.hbm, 24, rfl⟩
abbrev main_call0_call0_v6 : Ref sig .tc := ⟨.hbm, 25, rfl⟩
abbrev main_call0_call0_v7 : Ref sig .tc := ⟨.hbm, 26, rfl⟩
abbrev main_call0_call0_v8 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_v11 : Ref sig .tc := ⟨.hbm, 30, rfl⟩
abbrev main_call0_v1 : Ref sig .tc := ⟨.hbm, 31, rfl⟩
abbrev main_v13 : Ref sig .tc := ⟨.hbm, 32, rfl⟩
abbrev main_cst_0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call1_v0 : Ref sig .tc := ⟨.hbm, 44, rfl⟩
abbrev main_call1_call0_cst : Ref sig .tc := ⟨.hbm, 45, rfl⟩
abbrev main_call1_call0_v0 : Ref sig .tc := ⟨.hbm, 46, rfl⟩
abbrev main_call1_call0_v1 : Ref sig .tc := ⟨.hbm, 47, rfl⟩
abbrev main_call1_call0_v2 : Ref sig .tc := ⟨.hbm, 48, rfl⟩
abbrev main_call1_call0_v3 : Ref sig .tc := ⟨.hbm, 49, rfl⟩
abbrev main_call1_call0_v4 : Ref sig .tc := ⟨.hbm, 50, rfl⟩
abbrev main_call1_call0_v5 : Ref sig .tc := ⟨.hbm, 51, rfl⟩
abbrev main_call1_call0_v6 : Ref sig .tc := ⟨.hbm, 52, rfl⟩
abbrev main_call1_call0_v7 : Ref sig .tc := ⟨.hbm, 53, rfl⟩
abbrev main_call1_call0_v8 : Ref sig .tc := ⟨.hbm, 54, rfl⟩
abbrev main_call1_call0_v9 : Ref sig .tc := ⟨.hbm, 55, rfl⟩
abbrev main_call1_call0_v10 : Ref sig .tc := ⟨.hbm, 56, rfl⟩
abbrev main_call1_call0_v11 : Ref sig .tc := ⟨.hbm, 57, rfl⟩
abbrev main_call1_v1 : Ref sig .tc := ⟨.hbm, 58, rfl⟩
abbrev main_v24 : Ref sig .tc := ⟨.hbm, 59, rfl⟩
abbrev main_cst_1 : Ref sig .tc := ⟨.hbm, 60, rfl⟩
abbrev main_v25 : Ref sig .tc := ⟨.hbm, 61, rfl⟩
abbrev main_v26 : Ref sig .tc := ⟨.hbm, 62, rfl⟩

abbrev nD : Nat := 1
abbrev τ : Topo := Topo.v7x

variable {F : FTy → Type} [FloatOps F]
-- ==== Dconv.lean ====
abbrev S4096x3584 : Shape := ⟨2, ![4096, 3584]⟩
abbrev S4x512 : Shape := ⟨2, ![4, 512]⟩
abbrev S4096x512 : Shape := ⟨2, ![4096, 512]⟩
abbrev S1x512 : Shape := ⟨2, ![1, 512]⟩
abbrev S4096x128 : Shape := ⟨2, ![4096, 128]⟩
abbrev S4x128 : Shape := ⟨2, ![4, 128]⟩
abbrev S1x128 : Shape := ⟨2, ![1, 128]⟩
abbrev S128 : Shape := ⟨1, ![128]⟩

abbrev nBuf : Space → Nat
  | .hbm => 6
  | .vmem => 12
  | .smem => 0
  | _ => 0

abbrev bufTy : (tb : Table) → Fin (tcTables nBuf tb) → BufTy
  | .hbm, ⟨0, _⟩ => ⟨S4096x3584, .f32⟩
  | .hbm, ⟨1, _⟩ => ⟨S4x512, .f32⟩
  | .hbm, ⟨2, _⟩ => ⟨S4096x512, .f32⟩
  | .hbm, ⟨3, _⟩ => ⟨S4096x512, .bf16⟩
  | .hbm, ⟨4, _⟩ => ⟨S4x512, .f32⟩
  | .hbm, ⟨5, _⟩ => ⟨S1x512, .f32⟩
  | .local _ .vmem, ⟨0, _⟩ => ⟨S4096x128, .f32⟩
  | .local _ .vmem, ⟨1, _⟩ => ⟨S4096x128, .f32⟩
  | .local _ .vmem, ⟨2, _⟩ => ⟨S4x128, .f32⟩
  | .local _ .vmem, ⟨3, _⟩ => ⟨S4x128, .f32⟩
  | .local _ .vmem, ⟨4, _⟩ => ⟨S4096x128, .f32⟩
  | .local _ .vmem, ⟨5, _⟩ => ⟨S4096x128, .f32⟩
  | .local _ .vmem, ⟨6, _⟩ => ⟨S4096x128, .bf16⟩
  | .local _ .vmem, ⟨7, _⟩ => ⟨S4096x128, .bf16⟩
  | .local _ .vmem, ⟨8, _⟩ => ⟨S4x128, .f32⟩
  | .local _ .vmem, ⟨9, _⟩ => ⟨S4x128, .f32⟩
  | .local _ .vmem, ⟨10, _⟩ => ⟨S1x128, .f32⟩
  | .local _ .vmem, ⟨11, _⟩ => ⟨S1x128, .f32⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DconvRefIdeal.lean ====
abbrev S4096x3584 : Shape := ⟨2, ![4096, 3584]⟩
abbrev S4x512 : Shape := ⟨2, ![4, 512]⟩
abbrev S4096x512 : Shape := ⟨2, ![4096, 512]⟩
abbrev S_ : Shape := ⟨0, ![]⟩
abbrev S1x512 : Shape := ⟨2, ![1, 512]⟩
abbrev S2x512 : Shape := ⟨2, ![2, 512]⟩
abbrev S4099x512 : Shape := ⟨2, ![4099, 512]⟩
abbrev S512 : Shape := ⟨1, ![512]⟩

abbrev nBuf : Space → Nat
  | .hbm => 113
  | .vmem => 0
  | .smem => 0
  | _ => 0

abbrev bufTy : (tb : Table) → Fin (tcTables nBuf tb) → BufTy
  | .hbm, ⟨0, _⟩ => ⟨S4096x3584, .f32⟩
  | .hbm, ⟨1, _⟩ => ⟨S4x512, .f32⟩
  | .hbm, ⟨2, _⟩ => ⟨S4096x512, .f32⟩
  | .hbm, ⟨3, _⟩ => ⟨S4096x512, .f32⟩
  | .hbm, ⟨4, _⟩ => ⟨S_, .f32⟩
  | .hbm, ⟨5, _⟩ => ⟨S1x512, .f32⟩
  | .hbm, ⟨6, _⟩ => ⟨S_, .f32⟩
  | .hbm, ⟨7, _⟩ => ⟨S2x512, .f32⟩
  | .hbm, ⟨8, _⟩ => ⟨S_, .f32⟩
  | .hbm, ⟨9, _⟩ => ⟨S1x512, .f32⟩
  | .hbm, ⟨10, _⟩ => ⟨S4099x512, .f32⟩
  | .hbm, ⟨11, _⟩ => ⟨S_, .f32⟩
  | .hbm, ⟨12, _⟩ => ⟨S2x512, .f32⟩
  | .hbm, ⟨13, _⟩ => ⟨S_, .f32⟩
  | .hbm, ⟨14, _⟩ => ⟨S1x512, .f32⟩
  | .hbm, ⟨15, _⟩ => ⟨S1x512, .f32⟩
  | .hbm, ⟨16, _⟩ => ⟨S512, .f32⟩
  | .hbm, ⟨17, _⟩ => ⟨S4096x512, .f32⟩
  | .hbm, ⟨18, _⟩ => ⟨S1x512, .f32⟩
  | .hbm, ⟨19, _⟩ => ⟨S4096x512, .f32⟩
  | .hbm, ⟨20, _⟩ => ⟨S4096x512, .f32⟩
  | .hbm, ⟨21, _⟩ => ⟨S_, .f32⟩
  | .hbm, ⟨22, _⟩ => ⟨S4096x512, .f32⟩
  | .hbm, ⟨23, _⟩ => ⟨S4096x512, .f32⟩
  | .hbm, ⟨24, _⟩ => ⟨S1x512, .f32⟩
  | .hbm, ⟨25, _⟩ => ⟨S512, .f32⟩
  | .hbm, ⟨26, _⟩ => ⟨S4096x512, .f32⟩
  | .hbm, ⟨27, _⟩ => ⟨S1x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S1x512, .f32⟩
  | .hbm, ⟨32, _⟩ => ⟨S512, .f32⟩
  | .hbm, ⟨33, _⟩ => ⟨S4096x512, .f32⟩
  | .hbm, ⟨34, _⟩ => ⟨S1x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S1x512, .f32⟩
  | .hbm, ⟨39, _⟩ => ⟨S512, .f32⟩
  | .hbm, ⟨40, _⟩ => ⟨S4096x512, .f32⟩
  | .hbm, ⟨41, _⟩ => ⟨S1x512, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S4096x512, .f32⟩
  | .hbm, ⟨46, _⟩ => ⟨S4096x512, .f32⟩
  | .hbm, ⟨47, _⟩ => ⟨S4096x512, .f32⟩
  | .hbm, ⟨48, _⟩ => ⟨S_, .f32⟩
  | .hbm, ⟨49, _⟩ => ⟨S512, .f32⟩
  | .hbm, ⟨50, _⟩ => ⟨S1x512, .f32⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S_, .f32⟩
  | .hbm, ⟨55, _⟩ => ⟨S512, .f32⟩
  | .hbm, ⟨56, _⟩ => ⟨S1x512, .f32⟩
  | .hbm, ⟨57, _⟩ => ⟨S_, .f32⟩
  | .hbm, ⟨58, _⟩ => ⟨S512, .f32⟩
  | .hbm, ⟨59, _⟩ => ⟨S_, .f32⟩
  | .hbm, ⟨60, _⟩ => ⟨S4099x512, .f32⟩
  | .hbm, ⟨61, _⟩ => ⟨S1x512, .f32⟩
  | .hbm, ⟨62, _⟩ => ⟨S_, .f32⟩
  | .hbm, ⟨63, _⟩ => ⟨S4x512, .f32⟩
  | .hbm, ⟨64, _⟩ => ⟨S4096x512, .f32⟩
  | .hbm, ⟨65, _⟩ => ⟨S4096x512, .f32⟩
  | .hbm, ⟨66, _⟩ => ⟨S4096x512, .f32⟩
  | .hbm, ⟨67, _⟩ => ⟨S_, .f32⟩
  | .hbm, ⟨68, _⟩ => ⟨S512, .f32⟩
  | .hbm, ⟨69, _⟩ => ⟨S1x512, .f32⟩
  | .hbm, ⟨70, _⟩ => ⟨S_, .f32⟩
  | .hbm, ⟨71, _⟩ => ⟨S512, .f32⟩
  | .hbm, ⟨72, _⟩ => ⟨S_, .f32⟩
  | .hbm, ⟨73, _⟩ => ⟨S4099x512, .f32⟩
  | .hbm, ⟨74, _⟩ => ⟨S4099x512, .f32⟩
  | .hbm, ⟨75, _⟩ => ⟨S1x512, .f32⟩
  | .hbm, ⟨76, _⟩ => ⟨S_, .f32⟩
  | .hbm, ⟨77, _⟩ => ⟨S4x512, .f32⟩
  | .hbm, ⟨78, _⟩ => ⟨S4x512, .f32⟩
  | .hbm, ⟨79, _⟩ => ⟨S4096x512, .f32⟩
  | .hbm, ⟨80, _⟩ => ⟨S4096x512, .f32⟩
  | .hbm, ⟨81, _⟩ => ⟨S4096x512, .f32⟩
  | .hbm, ⟨82, _⟩ => ⟨S_, .f32⟩
  | .hbm, ⟨83, _⟩ => ⟨S512, .f32⟩
  | .hbm, ⟨84, _⟩ => ⟨S1x512, .f32⟩
  | .hbm, ⟨85, _⟩ => ⟨S_, .f32⟩
  | .hbm, ⟨86, _⟩ => ⟨S512, .f32⟩
  | .hbm, ⟨87, _⟩ => ⟨S_, .f32⟩
  | .hbm, ⟨88, _⟩ => ⟨S4099x512, .f32⟩
  | .hbm, ⟨89, _⟩ => ⟨S4099x512, .f32⟩
  | .hbm, ⟨90, _⟩ => ⟨S1x512, .f32⟩
  | .hbm, ⟨91, _⟩ => ⟨S_, .f32⟩
  | .hbm, ⟨92, _⟩ => ⟨S4x512, .f32⟩
  | .hbm, ⟨93, _⟩ => ⟨S4x512, .f32⟩
  | .hbm, ⟨94, _⟩ => ⟨S4096x512, .f32⟩
  | .hbm, ⟨95, _⟩ => ⟨S4096x512, .f32⟩
  | .hbm, ⟨96, _⟩ => ⟨S4096x512, .f32⟩
  | .hbm, ⟨97, _⟩ => ⟨S_, .f32⟩
  | .hbm, ⟨98, _⟩ => ⟨S512, .f32⟩
  | .hbm, ⟨99, _⟩ => ⟨S1x512, .f32⟩
  | .hbm, ⟨100, _⟩ => ⟨S_, .f32⟩
  | .hbm, ⟨101, _⟩ => ⟨S512, .f32⟩
  | .hbm, ⟨102, _⟩ => ⟨S_, .f32⟩
  | .hbm, ⟨103, _⟩ => ⟨S4099x512, .f32⟩
  | .hbm, ⟨104, _⟩ => ⟨S4099x512, .f32⟩
  | .hbm, ⟨105, _⟩ => ⟨S1x512, .f32⟩
  | .hbm, ⟨106, _⟩ => ⟨S_, .f32⟩
  | .hbm, ⟨107, _⟩ => ⟨S4x512, .f32⟩
  | .hbm, ⟨108, _⟩ => ⟨S4x512, .f32⟩
  | .hbm, ⟨109, _⟩ => ⟨S2x512, .f32⟩
  | .hbm, ⟨110, _⟩ => ⟨S4096x512, .f32⟩
  | .hbm, ⟨111, _⟩ => ⟨S1x512, .f32⟩
  | .hbm, ⟨112, _⟩ => ⟨S4096x512, .bf16⟩
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_cst_3 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_5 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_v45 : Ref sig .tc := ⟨.hbm, 56, rfl⟩
abbrev main_cst_7 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_v48 : Ref sig .tc := ⟨.hbm, 61, rfl⟩
abbrev main_cst_9 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_10 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_cst_12 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_13 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_14 : Ref sig .tc := ⟨.hbm, 82, rfl⟩
abbrev main_v64 : Ref sig .tc := ⟨.hbm, 83, rfl⟩
abbrev main_v65 : Ref sig .tc := ⟨.hbm, 84, rfl⟩
abbrev main_cst_15 : Ref sig .tc := ⟨.hbm, 85, rfl⟩
abbrev main_v66 : Ref sig .tc := ⟨.hbm, 86, rfl⟩
abbrev main_cst_16 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_17 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_18 : Ref sig .tc := ⟨.hbm, 97, rfl⟩
abbrev main_v75 : Ref sig .tc := ⟨.hbm, 98, rfl⟩
abbrev main_v76 : Ref sig .tc := ⟨.hbm, 99, rfl⟩
abbrev main_cst_19 : Ref sig .tc := ⟨.hbm, 100, rfl⟩
abbrev main_v77 : Ref sig .tc := ⟨.hbm, 101, rfl⟩
abbrev main_cst_20 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_21 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩

abbrev nD : Nat := 1
abbrev τ : Topo := Topo.v7x

variable {F : FTy → Type} [FloatOps F]
-- ==== Conv.lean ====
abbrev S4096x3584 : Shape := ⟨2, ![4096, 3584]⟩
abbrev S4x512 : Shape := ⟨2, ![4, 512]⟩
abbrev S1x512 : Shape := ⟨2, ![1, 512]⟩
abbrev S4096x512 : Shape := ⟨2, ![4096, 512]⟩
abbrev S4096x128 : Shape := ⟨2, ![4096, 128]⟩
abbrev S4x128 : Shape := ⟨2, ![4, 128]⟩
abbrev S1x128 : Shape := ⟨2, ![1, 128]⟩

abbrev nBuf : Space → Nat
  | .hbm => 4
  | .vmem => 8
  | .smem => 0
  | _ => 0

abbrev bufTy : (tb : Table) → Fin (tcTables nBuf tb) → BufTy
  | .hbm, ⟨0, _⟩ => ⟨S4096x3584, .f32⟩
  | .hbm, ⟨1, _⟩ => ⟨S4x512, .f32⟩
  | .hbm, ⟨2, _⟩ => ⟨S1x512, .f32⟩
  | .hbm, ⟨3, _⟩ => ⟨S4096x512, .f32⟩
  | .local _ .vmem, ⟨0, _⟩ => ⟨S4096x128, .f32⟩
  | .local _ .vmem, ⟨1, _⟩ => ⟨S4096x128, .f32⟩
  | .local _ .vmem, ⟨2, _⟩ => ⟨S4x128, .f32⟩
  | .local _ .vmem, ⟨3, _⟩ => ⟨S4x128, .f32⟩
  | .local _ .vmem, ⟨4, _⟩ => ⟨S1x128, .f32⟩
  | .local _ .vmem, ⟨5, _⟩ => ⟨S1x128, .f32⟩
  | .local _ .vmem, ⟨6, _⟩ => ⟨S4096x128, .f32⟩
  | .local _ .vmem, ⟨7, _⟩ => ⟨S4096x128, .f32⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ConvRefIdeal.lean ====
abbrev S4096x3584 : Shape := ⟨2, ![4096, 3584]⟩
abbrev S4x512 : Shape := ⟨2, ![4, 512]⟩
abbrev S1x512 : Shape := ⟨2, ![1, 512]⟩
abbrev S4096x512 : Shape := ⟨2, ![4096, 512]⟩
abbrev S_ : Shape := ⟨0, ![]⟩
abbrev S2x512 : Shape := ⟨2, ![2, 512]⟩
abbrev S4099x512 : Shape := ⟨2, ![4099, 512]⟩
abbrev S512 : Shape := ⟨1, ![512]⟩

abbrev nBuf : Space → Nat
  | .hbm => 41
  | .vmem => 0
  | .smem => 0
  | _ => 0

abbrev bufTy : (tb : Table) → Fin (tcTables nBuf tb) → BufTy
  | .hbm, ⟨0, _⟩ => ⟨S4096x3584, .f32⟩
  | .hbm, ⟨1, _⟩ => ⟨S4x512, .f32⟩
  | .hbm, ⟨2, _⟩ => ⟨S1x512, .f32⟩
  | .hbm, ⟨3, _⟩ => ⟨S4096x512, .f32⟩
  | .hbm, ⟨4, _⟩ => ⟨S_, .f32⟩
  | .hbm, ⟨5, _⟩ => ⟨S2x512, .f32⟩
  | .hbm, ⟨6, _⟩ => ⟨S_, .f32⟩
  | .hbm, ⟨7, _⟩ => ⟨S1x512, .f32⟩
  | .hbm, ⟨8, _⟩ => ⟨S4099x512, .f32⟩
  | .hbm, ⟨9, _⟩ => ⟨S1x512, .f32⟩
  | .hbm, ⟨10, _⟩ => ⟨S512, .f32⟩
  | .hbm, ⟨11, _⟩ => ⟨S4096x512, .f32⟩
  | .hbm, ⟨12, _⟩ => ⟨S1x512, .f32⟩
  | .hbm, ⟨13, _⟩ => ⟨S4096x512, .f32⟩
  | .hbm, ⟨14, _⟩ => ⟨S4096x512, .f32⟩
  | .hbm, ⟨15, _⟩ => ⟨S_, .f32⟩
  | .hbm, ⟨16, _⟩ => ⟨S4096x512, .f32⟩
  | .hbm, ⟨17, _⟩ => ⟨S4096x512, .f32⟩
  | .hbm, ⟨18, _⟩ => ⟨S1x512, .f32⟩
  | .hbm, ⟨19, _⟩ => ⟨S512, .f32⟩
  | .hbm, ⟨20, _⟩ => ⟨S4096x512, .f32⟩
  | .hbm, ⟨21, _⟩ => ⟨S1x512, .f32⟩
  | .hbm, ⟨22, _⟩ => ⟨S4096x512, .f32⟩
  | .hbm, ⟨23, _⟩ => ⟨S4096x512, .f32⟩
  | .hbm, ⟨24, _⟩ => ⟨S4096x512, .f32⟩
  | .hbm, ⟨25, _⟩ => ⟨S1x512, .f32⟩
  | .hbm, ⟨26, _⟩ => ⟨S512, .f32⟩
  | .hbm, ⟨27, _⟩ => ⟨S4096x512, .f32⟩
  | .hbm, ⟨28, _⟩ => ⟨S1x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S1x512, .f32⟩
  | .hbm, ⟨33, _⟩ => ⟨S512, .f32⟩
  | .hbm, ⟨34, _⟩ => ⟨S4096x512, .f32⟩
  | .hbm, ⟨35, _⟩ => ⟨S1x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S4096x512, .f32⟩
  | .hbm, ⟨40, _⟩ => ⟨S4096x512, .f32⟩
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩

abbrev nD : Nat := 1
abbrev τ : Topo := Topo.v7x

variable {F : FTy → Type} [FloatOps F]
-- ==== Norm.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== GlaPost.lean ====
abbrev S4096x1024 : Shape := ⟨2, ![4096, 1024]⟩
abbrev S4096x3200 : Shape := ⟨2, ![4096, 3200]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x3200, .f32⟩
  | .hbm, ⟨3, _⟩ => ⟨S1x1024, .f32⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GlaPostRefIdeal.lean ====
abbrev S4096x1024 : Shape := ⟨2, ![4096, 1024]⟩
abbrev S4096x3200 : Shape := ⟨2, ![4096, 3200]⟩
abbrev S1x1024 : Shape := ⟨2, ![1, 1024]⟩
abbrev S4096x4x256 : Shape := ⟨3, ![4096, 4, 256]⟩
abbrev S_ : Shape := ⟨0, ![]⟩
abbrev S4096x4 : Shape := ⟨2, ![4096, 4]⟩
abbrev S4096x4x1 : Shape := ⟨3, ![4096, 4, 1]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x3200, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x4x256, .f32⟩
  | .hbm, ⟨7, _⟩ => ⟨S4096x4x256, .f32⟩
  | .hbm, ⟨8, _⟩ => ⟨S_, .f32⟩
  | .hbm, ⟨9, _⟩ => ⟨S4096x4, .f32⟩
  | .hbm, ⟨10, _⟩ => ⟨S4096x4x1, .f32⟩
  | .hbm, ⟨11, _⟩ => ⟨S_, .f32⟩
  | .hbm, ⟨12, _⟩ => ⟨S4096x4x1, .f32⟩
  | .hbm, ⟨13, _⟩ => ⟨S4096x4x1, .f32⟩
  | .hbm, ⟨14, _⟩ => ⟨S_, .f32⟩
  | .hbm, ⟨15, _⟩ => ⟨S4096x4x1, .f32⟩
  | .hbm, ⟨16, _⟩ => ⟨S4096x4x1, .f32⟩
  | .hbm, ⟨17, _⟩ => ⟨S4096x4x1, .f32⟩
  | .hbm, ⟨18, _⟩ => ⟨S4096x4x256, .f32⟩
  | .hbm, ⟨19, _⟩ => ⟨S4096x4x256, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩

abbrev nD : Nat := 1
abbrev τ : Topo := Topo.v7x

variable {F : FTy → Type} [FloatOps F]
-- ==== GlaDpost.lean ====
abbrev S4096x1024 : Shape := ⟨2, ![4096, 1024]⟩
abbrev S4096x3200 : Shape := ⟨2, ![4096, 3200]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1024 : Shape := ⟨1, ![1024]⟩
abbrev S512x768 : Shape := ⟨2, ![512, 768]⟩
abbrev S512x512 : Shape := ⟨2, ![512, 512]⟩

abbrev nBuf : Space → Nat
  | .hbm => 8
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x3200, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v163 : BitVec 1 := Scalar.cmpi .eq arg0 c0_i32
  let v164 : BitVec 32 := Scalar.extui v163
  let c0_i32_46 : BitVec 32 := 0#32
  let v165 : BitVec 1 := Scalar.cmpi .ne v164 c0_i32_46
  v165

def k0_cond2 (i : grid0.Coords) : BitVec 1 :=
  let arg0 : BitVec 32 := BitVec.ofNat 32 (i 0).val
  let c0_i32 : BitVec 32 := 0#32
  let v163 : BitVec 1 := Scalar.cmpi .eq arg0 c0_i32
  let v_true : BitVec 1 := 1#1
  let v166 : BitVec 1 := Scalar.xori v163 v_true
  let v167 : BitVec 32 := Scalar.extui v166
  let c0_i32_47 : BitVec 32 := 0#32
  let v168 : BitVec 1 := Scalar.cmpi .ne v167 c0_i32_47
  v168

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== GlaDpostRefIdeal.lean ====
abbrev S4096x1024 : Shape := ⟨2, ![4096, 1024]⟩
abbrev S4096x3200 : Shape := ⟨2, ![4096, 3200]⟩
abbrev S1x1024 : Shape := ⟨2, ![1, 1024]⟩
abbrev S4096x4x256 : Shape := ⟨3, ![4096, 4, 256]⟩
abbrev S_ : Shape := ⟨0, ![]⟩
abbrev S4096x4 : Shape := ⟨2, ![4096, 4]⟩
abbrev S4096x4x1 : Shape := ⟨3, ![4096, 4, 1]⟩
abbrev S1024 : Shape := ⟨1, ![1024]⟩

abbrev nBuf : Space → Nat
  | .hbm => 74
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x3200, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x4x256, .f32⟩
  | .hbm, ⟨8, _⟩ => ⟨S4096x4x256, .f32⟩
  | .hbm, ⟨9, _⟩ => ⟨S_, .f32⟩
  | .hbm, ⟨10, _⟩ => ⟨S4096x4, .f32⟩
  | .hbm, ⟨11, _⟩ => ⟨S4096x4x1, .f32⟩
  | .hbm, ⟨12, _⟩ => ⟨S_, .f32⟩
  | .hbm, ⟨13, _⟩ => ⟨S4096x4x1, .f32⟩
  | .hbm, ⟨14, _⟩ => ⟨S4096x4x1, .f32⟩
  | .hbm, ⟨15, _⟩ => ⟨S_, .f32⟩
  | .hbm, ⟨16, _⟩ => ⟨S4096x4x1, .f32⟩
  | .hbm, ⟨17, _⟩ => ⟨S4096x4x1, .f32⟩
  | .hbm, ⟨18, _⟩ => ⟨S4096x4x1, .f32⟩
  | .hbm, ⟨19, _⟩ => ⟨S4096x4x1, .f32⟩
  | .hbm, ⟨20, _⟩ => ⟨S_, .f32⟩
  | .hbm, ⟨21, _⟩ => ⟨S4096x4x1, .f32⟩
  | .hbm, ⟨22, _⟩ => ⟨S4096x4x1, .f32⟩
  | .hbm, ⟨23, _⟩ => ⟨S4096x4x256, .f32⟩
  | .hbm, ⟨24, _⟩ => ⟨S4096x4x256, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S4096x1024, .f32⟩
  | .hbm, ⟨54, _⟩ => ⟨S4096x4x256, .f32⟩
  | .hbm, ⟨55, _⟩ => ⟨S4096x4x256, .f32⟩
  | .hbm, ⟨56, _⟩ => ⟨S_, .f32⟩
  | .hbm, ⟨57, _⟩ => ⟨S4096x4, .f32⟩
  | .hbm, ⟨58, _⟩ => ⟨S4096x4x1, .f32⟩
  | .hbm, ⟨59, _⟩ => ⟨S4096x4x256, .f32⟩
  | .hbm, ⟨60, _⟩ => ⟨S4096x4x256, .f32⟩
  | .hbm, ⟨61, _⟩ => ⟨S4096x4x1, .f32⟩
  | .hbm, ⟨62, _⟩ => ⟨S_, .f32⟩
  | .hbm, ⟨63, _⟩ => ⟨S4096x4x1, .f32⟩
  | .hbm, ⟨64, _⟩ => ⟨S4096x4x1, .f32⟩
  | .hbm, ⟨65, _⟩ => ⟨S_, .f32⟩
  | .hbm, ⟨66, _⟩ => ⟨S4096x4, .f32⟩
  | .hbm, ⟨67, _⟩ => ⟨S4096x4x256, .f32⟩
  | .hbm, ⟨68, _⟩ => ⟨S4096x4x256, .f32⟩
  | .hbm, ⟨69, _⟩ => ⟨S4096x4x256, .f32⟩
  | .hbm, ⟨70, _⟩ => ⟨S4096x4x256, .f32⟩
  | .hbm, ⟨71, _⟩ => ⟨S4096x4x256, .f32⟩
  | .hbm, ⟨72, _⟩ => ⟨S4096x1024, .f32⟩
  | .hbm, ⟨73, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v19_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v19_1 : Ref sig .tc := ⟨.hbm, 39, rfl⟩
abbrev main_v19_0 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_v23 : Ref sig .tc := ⟨.hbm, 47, rfl⟩
abbrev main_v24 : Ref sig .tc := ⟨.hbm, 48, rfl⟩
abbrev main_cst_3 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_4 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_cst_5 : Ref sig .tc := ⟨.hbm, 62, rfl⟩
abbrev main_v36 : Ref sig .tc := ⟨.hbm, 63, rfl⟩
abbrev main_v37 : Ref sig .tc := ⟨.hbm, 64, rfl⟩
abbrev main_cst_6 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩

abbrev nD : Nat := 1
abbrev τ : Topo := Topo.v7x

variable {F : FTy → Type} [FloatOps F]
-- ==== Dgates.lean ====
abbrev S4096x512 : Shape := ⟨2, ![4096, 512]⟩
abbrev S2x8x64x64 : Shape := ⟨4, ![2, 8, 64, 64]⟩
abbrev S2x512 : Shape := ⟨2, ![2, 512]⟩
abbrev S8x8 : Shape := ⟨2, ![8, 8]⟩
abbrev S_ : Shape := ⟨0, ![]⟩
abbrev S2x8x64x1x64 : Shape := ⟨5, ![2, 8, 64, 1, 64]⟩
abbrev S1x8x1x8x1 : Shape := ⟨5, ![1, 8, 1, 8, 1]⟩
abbrev S2x8x64x8x64 : Shape := ⟨5, ![2, 8, 64, 8, 64]⟩
abbrev S2x512x512 : Shape := ⟨3, ![2, 512, 512]⟩
abbrev S512x512 : Shape := ⟨2, ![512, 512]⟩
abbrev S1x512x512 : Shape := ⟨3, ![1, 512, 512]⟩
abbrev S1x512 : Shape := ⟨2, ![1, 512]⟩
abbrev S512 : Shape := ⟨1, ![512]⟩
abbrev S2x1x64x1x64 : Shape := ⟨5, ![2, 1, 64, 1, 64]⟩
abbrev S2x64x64 : Shape := ⟨3, ![2, 64, 64]⟩
abbrev S2x1x64x64 : Shape := ⟨4, ![2, 1, 64, 64]⟩

abbrev nBuf : Space → Nat
  | .hbm => 94
  | .vmem => 22
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S2x8x64x64, .f32⟩
  | .hbm, ⟨6, _⟩ => ⟨S2x512, .f32⟩
  | .hbm, ⟨7, _⟩ => ⟨S2x8x64x64, .f32⟩
  | .hbm, ⟨8, _⟩ => ⟨S2x512, .f32⟩
  | .hbm, ⟨9, _⟩ => ⟨S2x512, .f32⟩
  | .hbm, ⟨10, _⟩ => ⟨S8x8, .i32⟩
  | .hbm, ⟨11, _⟩ => ⟨S8x8, .i32⟩
  | .hbm, ⟨12, _⟩ => ⟨S_, .i32⟩
  | .hbm, ⟨13, _⟩ => ⟨S8x8, .i32⟩
  | .hbm, ⟨14, _⟩ => ⟨S8x8, .i32⟩
  | .hbm, ⟨15, _⟩ => ⟨S8x8, .i1⟩
  | .hbm, ⟨16, _⟩ => ⟨S8x8, .f32⟩
  | .hbm, ⟨17, _⟩ => ⟨S2x8x64x1x64, .f32⟩
  | .hbm, ⟨18, _⟩ => ⟨S1x8x1x8x1, .f32⟩
  | .hbm, ⟨19, _⟩ => ⟨S2x8x64x8x64, .f32⟩
  | .hbm, ⟨20, _⟩ => ⟨S2x8x64x8x64, .f32⟩
  | .hbm, ⟨21, _⟩ => ⟨S2x8x64x8x64, .f32⟩
  | .hbm, ⟨22, _⟩ => ⟨S2x512x512, .f32⟩
  | .hbm, ⟨23, _⟩ => ⟨S8x8, .i32⟩
  | .hbm, ⟨24, _⟩ => ⟨S8x8, .i32⟩
  | .hbm, ⟨25, _⟩ => ⟨S_, .i32⟩
  | .hbm, ⟨26, _⟩ => ⟨S8x8, .i32⟩
  | .hbm, ⟨27, _⟩ => ⟨S8x8, .i32⟩
  | .hbm, ⟨28, _⟩ => ⟨S8x8, .i1⟩
  | .hbm, ⟨29, _⟩ => ⟨S8x8, .f32⟩
  | .hbm, ⟨30, _⟩ => ⟨S2x8x64x1x64, .f32⟩
  | .hbm, ⟨31, _⟩ => ⟨S1x8x1x8x1, .f32⟩
  | .hbm, ⟨32, _⟩ => ⟨S2x8x64x8x64, .f32⟩
  | .hbm, ⟨33, _⟩ => ⟨S2x8x64x8x64, .f32⟩
  | .hbm, ⟨34, _⟩ => ⟨S2x8x64x8x64, .f32⟩
  | .hbm, ⟨35, _⟩ => ⟨S2x512x512, .f32⟩
  | .hbm, ⟨36, _⟩ => ⟨S4096x512, .f32⟩
  | .hbm, ⟨37, _⟩ => ⟨S2x512x512, .f32⟩
  | .hbm, ⟨38, _⟩ => ⟨S2x512x512, .f32⟩
  | .hbm, ⟨39, _⟩ => ⟨S2x512, .f32⟩
  | .hbm, ⟨40, _⟩ => ⟨S2x512, .f32⟩
  | .hbm, ⟨41, _⟩ => ⟨S2x512, .f32⟩
  | .hbm, ⟨42, _⟩ => ⟨S2x8x64x8x64, .f32⟩
  | .hbm, ⟨43, _⟩ => ⟨S2x1x64x1x64, .f32⟩
  | .hbm, ⟨44, _⟩ => ⟨S2x64x64, .f32⟩
  | .hbm, ⟨45, _⟩ => ⟨S2x1x64x1x64, .f32⟩
  | .hbm, ⟨46, _⟩ => ⟨S2x64x64, .f32⟩
  | .hbm, ⟨47, _⟩ => ⟨S2x1x64x1x64, .f32⟩
  | .hbm, ⟨48, _⟩ => ⟨S2x64x64, .f32⟩
  | .hbm, ⟨49, _⟩ => ⟨S2x1x64x1x64, .f32⟩
  | .hbm, ⟨50, _⟩ => ⟨S2x64x64, .f32⟩
  | .hbm, ⟨51, _⟩ => ⟨S2x1x64x1x64, .f32⟩
  | .hbm, ⟨52, _⟩ => ⟨S2x64x64, .f32⟩
  | .hbm, ⟨53, _⟩ => ⟨S2x1x64x1x64, .f32⟩
  | .hbm, ⟨54, _⟩ => ⟨S2x64x64, .f32⟩
  | .hbm, ⟨55, _⟩ => ⟨S2x1x64x1x64, .f32⟩
  | .hbm, ⟨56, _⟩ => ⟨S2x64x64, .f32⟩
  | .hbm, ⟨57, _⟩ => ⟨S2x1x64x1x64, .f32⟩
  | .hbm, ⟨58, _⟩ => ⟨S2x64x64, .f32⟩
  | .hbm, ⟨59, _⟩ => ⟨S2x1x64x64, .f32⟩
  | .hbm, ⟨60, _⟩ => ⟨S2x1x64x64, .f32⟩
  | .hbm, ⟨61, _⟩ => ⟨S2x1x64x64, .f32⟩
  | .hbm, ⟨62, _⟩ => ⟨S2x1x64x64, .f32⟩
  | .hbm, ⟨63, _⟩ => ⟨S2x1x64x64, .f32⟩
  | .hbm, ⟨64, _⟩ => ⟨S2x1x64x64, .f32⟩
  | .hbm, ⟨65, _⟩ => ⟨S2x1x64x64, .f32⟩
  | .hbm, ⟨66, _⟩ => ⟨S2x1x64x64, .f32⟩
  | .hbm, ⟨67, _⟩ => ⟨S2x8x64x64, .f32⟩
  | .hbm, ⟨68, _⟩ => ⟨S2x8x64x8x64, .f32⟩
  | .hbm, ⟨69, _⟩ => ⟨S2x1x64x1x64, .f32⟩
  | .hbm, ⟨70, _⟩ => ⟨S2x64x64, .f32⟩
  | .hbm, ⟨71, _⟩ => ⟨S2x1x64x1x64, .f32⟩
  | .hbm, ⟨72, _⟩ => ⟨S2x64x64, .f32⟩
  | .hbm, ⟨73, _⟩ => ⟨S2x1x64x1x64, .f32⟩
  | .hbm, ⟨74, _⟩ => ⟨S2x64x64, .f32⟩
  | .hbm, ⟨75, _⟩ => ⟨S2x1x64x1x64, .f32⟩
  | .hbm, ⟨76, _⟩ => ⟨S2x64x64, .f32⟩
  | .hbm, ⟨77, _⟩ => ⟨S2x1x64x1x64, .f32⟩
  | .hbm, ⟨78, _⟩ => ⟨S2x64x64, .f32⟩
  | .hbm, ⟨79, _⟩ => ⟨S2x1x64x1x64, .f32⟩
  | .hbm, ⟨80, _⟩ => ⟨S2x64x64, .f32⟩
  | .hbm, ⟨81, _⟩ => ⟨S2x1x64x1x64, .f32⟩
  | .hbm, ⟨82, _⟩ => ⟨S2x64x64, .f32⟩
  | .hbm, ⟨83, _⟩ => ⟨S2x1x64x1x64, .f32⟩
  | .hbm, ⟨84, _⟩ => ⟨S2x64x64, .f32⟩
  | .hbm, ⟨85, _⟩ => ⟨S2x1x64x64, .f32⟩
  | .hbm, ⟨86, _⟩ => ⟨S2x1x64x64, .f32⟩
  | .hbm, ⟨87, _⟩ => ⟨S2x1x64x64, .f32⟩
  | .hbm, ⟨88, _⟩ => ⟨S2x1x64x64, .f32⟩
  | .hbm, ⟨89, _⟩ => ⟨S2x1x64x64, .f32⟩
  | .hbm, ⟨90, _⟩ => ⟨S2x1x64x64, .f32⟩
  | .hbm, ⟨91, _⟩ => ⟨S2x1x64x64, .f32⟩
  | .hbm, ⟨92, _⟩ => ⟨S2x1x64x64, .f32⟩
  | .hbm, ⟨93, _⟩ => ⟨S2x8x64x64, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S2x512x512, .f32⟩
  | .local _ .vmem, ⟨11, _⟩ => ⟨S2x512x512, .f32⟩
  | .local _ .vmem, ⟨12, _⟩ => ⟨S2x512, .f32⟩
  | .local _ .vmem, ⟨13, _⟩ => ⟨S2x512, .f32⟩
  | .local _ .vmem, ⟨14, _⟩ => ⟨S2x512, .f32⟩
  | .local _ .vmem, ⟨15, _⟩ => ⟨S512x512, .f32⟩
  | .local _ .vmem, ⟨16, _⟩ => ⟨S512x512, .f32⟩
  | .local _ .vmem, ⟨17, _⟩ => ⟨S2x512x512, .f32⟩
  | .local _ .vmem, ⟨18, _⟩ => ⟨S2x512x512, .f32⟩
  | .local _ .vmem, ⟨19, _⟩ => ⟨S2x512, .f32⟩
  | .local _ .vmem, ⟨20, _⟩ => ⟨S2x512, .f32⟩
  | .local _ .vmem, ⟨21, _⟩ => ⟨S2x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24_0 : Ref sig .tc := ⟨.hbm, 36, rfl⟩
abbrev main_v24_1 : Ref sig .tc := ⟨.hbm, 37, rfl⟩
abbrev main_v24_2 : Ref sig .tc := ⟨.hbm, 38, rfl⟩
abbrev main_v24_3 : Ref sig .tc := ⟨.hbm, 39, rfl⟩
abbrev main_v24_4 : Ref sig .tc := ⟨.hbm, 40, rfl⟩
abbrev main_v24_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v295 : BitVec 1 := Scalar.cmpi .eq arg0 c0_i32
  let v296 : BitVec 32 := Scalar.extui v295
  let c0_i32_102 : BitVec 32 := 0#32
  let v297 : BitVec 1 := Scalar.cmpi .ne v296 c0_i32_102
  v297

def k0_cond2 (i : grid0.Coords) : BitVec 1 :=
  let arg0 : BitVec 32 := BitVec.ofNat 32 (i 0).val
  let c0_i32 : BitVec 32 := 0#32
  let v295 : BitVec 1 := Scalar.cmpi .eq arg0 c0_i32
  let v_true : BitVec 1 := 1#1
  let v298 : BitVec 1 := Scalar.xori v295 v_true
  let v299 : BitVec 32 := Scalar.extui v298
  let c0_i32_103 : BitVec 32 := 0#32
  let v300 : BitVec 1 := Scalar.cmpi .ne v299 c0_i32_103
  v300

def k0_cond3 (i : grid0.Coords) : BitVec 1 :=
  let arg0 : BitVec 32 := BitVec.ofNat 32 (i 0).val
  let c0_i32 : BitVec 32 := 0#32
  let v295 : BitVec 1 := Scalar.cmpi .eq arg0 c0_i32
  let v301 : BitVec 32 := Scalar.extui v295
  let c0_i32_104 : BitVec 32 := 0#32
  let v302 : BitVec 1 := Scalar.cmpi .ne v301 c0_i32_104
  v302

def k0_cond4 (i : grid0.Coords) : BitVec 1 :=
  let arg0 : BitVec 32 := BitVec.ofNat 32 (i 0).val
  let c0_i32 : BitVec 32 := 0#32
  let v295 : BitVec 1 := Scalar.cmpi .eq arg0 c0_i32
  let true_105 : BitVec 1 := 1#1
  let v303 : BitVec 1 := Scalar.xori v295 true_105
  let v304 : BitVec 32 := Scalar.extui v303
  let c0_i32_106 : BitVec 32 := 0#32
  let v305 : BitVec 1 := Scalar.cmpi .ne v304 c0_i32_106
  v305

def k0_cond5 (i : grid0.Coords) : BitVec 1 :=
  let arg0 : BitVec 32 := BitVec.ofNat 32 (i 0).val
  let c0_i32 : BitVec 32 := 0#32
  let v295 : BitVec 1 := Scalar.cmpi .eq arg0 c0_i32
  let v306 : BitVec 32 := Scalar.extui v295
  let c0_i32_107 : BitVec 32 := 0#32
  let v307 : BitVec 1 := Scalar.cmpi .ne v306 c0_i32_107
  v307

def k0_cond6 (i : grid0.Coords) : BitVec 1 :=
  let arg0 : BitVec 32 := BitVec.ofNat 32 (i 0).val
  let c0_i32 : BitVec 32 := 0#32
  let v295 : BitVec 1 := Scalar.cmpi .eq arg0 c0_i32
  let true_108 : BitVec 1 := 1#1
  let v308 : BitVec 1 := Scalar.xori v295 true_108
  let v309 : BitVec 32 := Scalar.extui v308
  let c0_i32_109 : BitVec 32 := 0#32
  let v310 : BitVec 1 := Scalar.cmpi .ne v309 c0_i32_109
  v310

def k0_cond7 (i : grid0.Coords) : BitVec 1 :=
  let arg0 : BitVec 32 := BitVec.ofNat 32 (i 0).val
  let c0_i32 : BitVec 32 := 0#32
  let v295 : BitVec 1 := Scalar.cmpi .eq arg0 c0_i32
  let v311 : BitVec 32 := Scalar.extui v295
  let c0_i32_110 : BitVec 32 := 0#32
  let v312 : BitVec 1 := Scalar.cmpi .ne v311 c0_i32_110
  v312

def k0_cond8 (i : grid0.Coords) : BitVec 1 :=
  let arg0 : BitVec 32 := BitVec.ofNat 32 (i 0).val
  let c0_i32 : BitVec 32 := 0#32
  let v295 : BitVec 1 := Scalar.cmpi .eq arg0 c0_i32
  let true_111 : BitVec 1 := 1#1
  let v313 : BitVec 1 := Scalar.xori v295 true_111
  let v314 : BitVec 32 := Scalar.extui v313
  let c0_i32_112 : BitVec 32 := 0#32
  let v315 : BitVec 1 := Scalar.cmpi .ne v314 c0_i32_112
  v315

def k0_cond9 (i : grid0.Coords) : BitVec 1 :=
  let arg0 : BitVec 32 := BitVec.ofNat 32 (i 0).val
  let c0_i32 : BitVec 32 := 0#32
  let v295 : BitVec 1 := Scalar.cmpi .eq arg0 c0_i32
  let v316 : BitVec 32 := Scalar.extui v295
  let c0_i32_113 : BitVec 32 := 0#32
  let v317 : BitVec 1 := Scalar.cmpi .ne v316 c0_i32_113
  v317

def k0_cond10 (i : grid0.Coords) : BitVec 1 :=
  let arg0 : BitVec 32 := BitVec.ofNat 32 (i 0).val
  let c0_i32 : BitVec 32 := 0#32
  let v295 : BitVec 1 := Scalar.cmpi .eq arg0 c0_i32
  let true_114 : BitVec 1 := 1#1
  let v318 : BitVec 1 := Scalar.xori v295 true_114
  let v319 : BitVec 32 := Scalar.extui v318
  let c0_i32_115 : BitVec 32 := 0#32
  let v320 : BitVec 1 := Scalar.cmpi .ne v319 c0_i32_115
  v320

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S2x512x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2x512x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== DgatesRefIdeal.lean ====
abbrev S4096x512 : Shape := ⟨2, ![4096, 512]⟩
abbrev S2x8x64x64 : Shape := ⟨4, ![2, 8, 64, 64]⟩
abbrev S2x512 : Shape := ⟨2, ![2, 512]⟩
abbrev S4096x8x64 : Shape := ⟨3, ![4096, 8, 64]⟩
abbrev S8x2x64x4096 : Shape := ⟨4, ![8, 2, 64, 4096]⟩
abbrev S2x4096x8x64 : Shape := ⟨4, ![2, 4096, 8, 64]⟩
abbrev S2x4096x512 : Shape := ⟨3, ![2, 4096, 512]⟩
abbrev S2x1x512 : Shape := ⟨3, ![2, 1, 512]⟩
abbrev S_ : Shape := ⟨0, ![]⟩
abbrev S1x4096x512 : Shape := ⟨3, ![1, 4096, 512]⟩
abbrev S8x4096x64 : Shape := ⟨3, ![8, 4096, 64]⟩
abbrev S8x2x64x64 : Shape := ⟨4, ![8, 2, 64, 64]⟩

abbrev nBuf : Space → Nat
  | .hbm => 195
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4096x512, .f32⟩
  | 4 => ⟨S4096x512, .f32⟩
  | 5 => ⟨S2x8x64x64, .f32⟩
  | 6 => ⟨S2x512, .f32⟩
  | 7 => ⟨S2x8x64x64, .f32⟩
  | 8 => ⟨S2x512, .f32⟩
  | 9 => ⟨S2x512, .f32⟩
  | 10 => ⟨S4096x8x64, .f32⟩
  | 11 => ⟨S8x2x64x4096, .f32⟩
  | 12 => ⟨S2x4096x8x64, .f32⟩
  | 13 => ⟨S2x4096x512, .f32⟩
  | 14 => ⟨S2x1x512, .f32⟩
  | 15 => ⟨S2x4096x512, .f32⟩
  | 16 => ⟨S2x4096x512, .f32⟩
  | 17 => ⟨S2x4096x512, .f32⟩
  | 18 => ⟨S2x4096x512, .f32⟩
  | 19 => ⟨S_, .f32⟩
  | 20 => ⟨S2x4096x512, .f32⟩
  | 21 => ⟨S2x4096x512, .f32⟩
  | 22 => ⟨S_, .f32⟩
  | 23 => ⟨S2x4096x512, .f32⟩
  | 24 => ⟨S2x4096x512, .f32⟩
  | 25 => ⟨S_, .f32⟩
  | 26 => ⟨S2x4096x512, .f32⟩
  | 27 => ⟨S2x4096x512, .f32⟩
  | 28 => ⟨S2x4096x512, .f32⟩
  | 29 => ⟨S8x2x64x4096, .f32⟩
  | 30 => ⟨S2x4096x8x64, .f32⟩
  | 31 => ⟨S2x4096x512, .f32⟩
  | 32 => ⟨S2x1x512, .f32⟩
  | 33 => ⟨S2x4096x512, .f32⟩
  | 34 => ⟨S2x4096x512, .f32⟩
  | 35 => ⟨S2x4096x512, .f32⟩
  | 36 => ⟨S2x4096x512, .f32⟩
  | 37 => ⟨S_, .f32⟩
  | 38 => ⟨S2x4096x512, .f32⟩
  | 39 => ⟨S2x4096x512, .f32⟩
  | 40 => ⟨S_, .f32⟩
  | 41 => ⟨S2x4096x512, .f32⟩
  | 42 => ⟨S2x4096x512, .f32⟩
  | 43 => ⟨S_, .f32⟩
  | 44 => ⟨S2x4096x512, .f32⟩
  | 45 => ⟨S2x4096x512, .f32⟩
  | 46 => ⟨S2x4096x512, .f32⟩
  | 47 => ⟨S_, .f32⟩
  | 48 => ⟨S2x4096x512, .f32⟩
  | 49 => ⟨S2x4096x512, .f32⟩
  | 50 => ⟨S2x512, .f32⟩
  | 51 => ⟨S_, .f32⟩
  | 52 => ⟨S2x512, .f32⟩
  | 53 => ⟨S2x512, .f32⟩
  | 54 => ⟨S2x512, .f32⟩
  | 55 => ⟨S2x512, .f32⟩
  | 56 => ⟨S2x512, .i1⟩
  | 57 => ⟨S2x512, .f32⟩
  | 58 => ⟨S2x512, .f32⟩
  | 59 => ⟨S2x512, .f32⟩
  | 60 => ⟨S2x512, .f32⟩
  | 61 => ⟨S2x512, .f32⟩
  | 62 => ⟨S2x512, .f32⟩
  | 63 => ⟨S2x512, .f32⟩
  | 64 => ⟨S2x512, .f32⟩
  | 65 => ⟨S_, .f32⟩
  | 66 => ⟨S2x512, .f32⟩
  | 67 => ⟨S2x512, .i1⟩
  | 68 => ⟨S_, .f32⟩
  | 69 => ⟨S2x512, .f32⟩
  | 70 => ⟨S2x512, .f32⟩
  | 71 => ⟨S_, .f32⟩
  | 72 => ⟨S2x512, .f32⟩
  | 73 => ⟨S2x512, .i1⟩
  | 74 => ⟨S_, .f32⟩
  | 75 => ⟨S2x512, .f32⟩
  | 76 => ⟨S2x512, .f32⟩
  | 77 => ⟨S2x512, .f32⟩
  | 78 => ⟨S2x512, .f32⟩
  | 79 => ⟨S_, .f32⟩
  | 80 => ⟨S_, .f32⟩
  | 81 => ⟨S_, .i1⟩
  | 82 => ⟨S_, .f32⟩
  | 83 => ⟨S_, .f32⟩
  | 84 => ⟨S_, .f32⟩
  | 85 => ⟨S_, .f32⟩
  | 86 => ⟨S2x512, .f32⟩
  | 87 => ⟨S2x512, .i1⟩
  | 88 => ⟨S_, .f32⟩
  | 89 => ⟨S2x512, .f32⟩
  | 90 => ⟨S2x512, .f32⟩
  | 91 => ⟨S2x512, .f32⟩
  | 92 => ⟨S2x512, .f32⟩
  | 93 => ⟨S2x512, .f32⟩
  | 94 => ⟨S_, .f32⟩
  | 95 => ⟨S2x512, .f32⟩
  | 96 => ⟨S2x512, .f32⟩
  | 97 => ⟨S2x1x512, .f32⟩
  | 98 => ⟨S2x4096x512, .f32⟩
  | 99 => ⟨S2x4096x512, .f32⟩
  | 100 => ⟨S2x4096x512, .f32⟩
  | 101 => ⟨S_, .f32⟩
  | 102 => ⟨S2x4096x512, .f32⟩
  | 103 => ⟨S2x4096x512, .f32⟩
  | 104 => ⟨S2x4096x512, .f32⟩
  | 105 => ⟨S2x4096x512, .f32⟩
  | 106 => ⟨S2x4096x512, .f32⟩
  | 107 => ⟨S2x4096x512, .f32⟩
  | 108 => ⟨S_, .f32⟩
  | 109 => ⟨S2x4096x512, .f32⟩
  | 110 => ⟨S2x4096x512, .f32⟩
  | 111 => ⟨S1x4096x512, .f32⟩
  | 112 => ⟨S2x4096x512, .f32⟩
  | 113 => ⟨S2x4096x512, .f32⟩
  | 114 => ⟨S2x4096x512, .f32⟩
  | 115 => ⟨S1x4096x512, .f32⟩
  | 116 => ⟨S4096x512, .f32⟩
  | 117 => ⟨S1x4096x512, .f32⟩
  | 118 => ⟨S4096x512, .f32⟩
  | 119 => ⟨S1x4096x512, .f32⟩
  | 120 => ⟨S4096x512, .f32⟩
  | 121 => ⟨S1x4096x512, .f32⟩
  | 122 => ⟨S4096x512, .f32⟩
  | 123 => ⟨S1x4096x512, .f32⟩
  | 124 => ⟨S_, .f32⟩
  | 125 => ⟨S2x4096x512, .f32⟩
  | 126 => ⟨S1x4096x512, .f32⟩
  | 127 => ⟨S_, .f32⟩
  | _ => ⟨S4096x512, .f32⟩

abbrev hbmTy0_1 (i : Nat) : BufTy := match i % 128 with
  | 0 => ⟨S2x4096x512, .f32⟩
  | 1 => ⟨S1x4096x512, .f32⟩
  | 2 => ⟨S_, .f32⟩
  | 3 => ⟨S2x4096x512, .f32⟩
  | 4 => ⟨S2x4096x512, .f32⟩
  | 5 => ⟨S1x4096x512, .f32⟩
  | 6 => ⟨S_, .f32⟩
  | 7 => ⟨S2x4096x512, .f32⟩
  | 8 => ⟨S2x4096x512, .f32⟩
  | 9 => ⟨S2x4096x512, .f32⟩
  | 10 => ⟨S2x4096x512, .f32⟩
  | 11 => ⟨S2x4096x512, .f32⟩
  | 12 => ⟨S_, .f32⟩
  | 13 => ⟨S4096x512, .f32⟩
  | 14 => ⟨S1x4096x512, .f32⟩
  | 15 => ⟨S2x4096x512, .f32⟩
  | 16 => ⟨S2x4096x512, .f32⟩
  | 17 => ⟨S_, .f32⟩
  | 18 => ⟨S4096x512, .f32⟩
  | 19 => ⟨S2x4096x512, .f32⟩
  | 20 => ⟨S2x4096x512, .f32⟩
  | 21 => ⟨S2x4096x512, .f32⟩
  | 22 => ⟨S_, .f32⟩
  | 23 => ⟨S2x4096x512, .f32⟩
  | 24 => ⟨S2x4096x512, .f32⟩
  | 25 => ⟨S2x4096x512, .f32⟩
  | 26 => ⟨S2x4096x512, .f32⟩
  | 27 => ⟨S2x4096x512, .f32⟩
  | 28 => ⟨S_, .f32⟩
  | 29 => ⟨S2x512, .f32⟩
  | 30 => ⟨S2x1x512, .f32⟩
  | 31 => ⟨S2x4096x512, .f32⟩
  | 32 => ⟨S2x4096x512, .f32⟩
  | 33 => ⟨S_, .f32⟩
  | 34 => ⟨S2x512, .f32⟩
  | 35 => ⟨S2x512, .f32⟩
  | 36 => ⟨S2x512, .f32⟩
  | 37 => ⟨S_, .f32⟩
  | 38 => ⟨S2x4096x512, .f32⟩
  | 39 => ⟨S2x4096x512, .f32⟩
  | 40 => ⟨S2x4096x512, .f32⟩
  | 41 => ⟨S_, .f32⟩
  | 42 => ⟨S2x512, .f32⟩
  | 43 => ⟨S2x1x512, .f32⟩
  | 44 => ⟨S_, .f32⟩
  | 45 => ⟨S2x512, .f32⟩
  | 46 => ⟨S2x4096x8x64, .f32⟩
  | 47 => ⟨S8x2x64x4096, .f32⟩
  | 48 => ⟨S8x4096x64, .f32⟩
  | 49 => ⟨S4096x8x64, .f32⟩
  | 50 => ⟨S8x2x64x64, .f32⟩
  | 51 => ⟨S2x8x64x64, .f32⟩
  | 52 => ⟨S2x4096x512, .f32⟩
  | 53 => ⟨S_, .f32⟩
  | 54 => ⟨S2x512, .f32⟩
  | 55 => ⟨S2x1x512, .f32⟩
  | 56 => ⟨S_, .f32⟩
  | 57 => ⟨S2x512, .f32⟩
  | 58 => ⟨S2x4096x8x64, .f32⟩
  | 59 => ⟨S8x2x64x4096, .f32⟩
  | 60 => ⟨S8x4096x64, .f32⟩
  | 61 => ⟨S4096x8x64, .f32⟩
  | 62 => ⟨S4096x8x64, .f32⟩
  | 63 => ⟨S8x2x64x64, .f32⟩
  | 64 => ⟨S2x8x64x64, .f32⟩
  | 65 => ⟨S4096x512, .f32⟩
  | 66 => ⟨S4096x512, .f32⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_call0_cst : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_v6 : Ref sig .tc := ⟨.hbm, 58, rfl⟩
abbrev main_call0_v7 : Ref sig .tc := ⟨.hbm, 59, rfl⟩
abbrev main_call0_v8 : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_v34_0 : Ref sig .tc := ⟨.hbm, 64, rfl⟩
abbrev main_call0_cst_0 : Ref sig .tc := ⟨.hbm, 65, rfl⟩
abbrev main_call0_v13 : Ref sig .tc := ⟨.hbm, 66, rfl⟩
abbrev main_call0_v14 : Ref sig .tc := ⟨.hbm, 67, rfl⟩
abbrev main_call0_cst_1 : Ref sig .tc := ⟨.hbm, 68, rfl⟩
abbrev main_call0_v15 : Ref sig .tc := ⟨.hbm, 69, rfl⟩
abbrev main_call0_v16 : Ref sig .tc := ⟨.hbm, 70, rfl⟩
abbrev main_call0_cst_2 : Ref sig .tc := ⟨.hbm, 71, rfl⟩
abbrev main_call0_v17 : Ref sig .tc := ⟨.hbm, 72, rfl⟩
abbrev main_call0_v18 : Ref sig .tc := ⟨.hbm, 73, rfl⟩
abbrev main_call0_cst_3 : Ref sig .tc := ⟨.hbm, 74, rfl⟩
abbrev main_call0_v19 : Ref sig .tc := ⟨.hbm, 75, rfl⟩
abbrev main_call0_v20 : Ref sig .tc := ⟨.hbm, 76, rfl⟩
abbrev main_call0_v21 : Ref sig .tc := ⟨.hbm, 77, rfl⟩
abbrev main_v34_1 : Ref sig .tc := ⟨.hbm, 78, rfl⟩
abbrev main_call0_cst_4 : Ref sig .tc := ⟨.hbm, 79, rfl⟩
abbrev main_call0_cst_5 : Ref sig .tc := ⟨.hbm, 80, rfl⟩
abbrev main_call0_v23 : Ref sig .tc := ⟨.hbm, 81, rfl⟩
abbrev main_call0_cst_6 : Ref sig .tc := ⟨.hbm, 82, rfl⟩
abbrev main_call0_cst_7 : Ref sig .tc := ⟨.hbm, 83, rfl⟩
abbrev main_call0_v24 : Ref sig .tc := ⟨.hbm, 84, rfl⟩
abbrev main_call0_cst_8 : Ref sig .tc := ⟨.hbm, 85, rfl⟩
abbrev main_call0_v25 : Ref sig .tc := ⟨.hbm, 86, rfl⟩
abbrev main_call0_v26 : Ref sig .tc := ⟨.hbm, 87, rfl⟩
abbrev main_call0_cst_9 : Ref sig .tc := ⟨.hbm, 88, rfl⟩
abbrev main_call0_v27 : Ref sig .tc := ⟨.hbm, 89, rfl⟩
abbrev main_call0_v28 : Ref sig .tc := ⟨.hbm, 90, rfl⟩
abbrev main_call0_v29 : Ref sig .tc := ⟨.hbm, 91, rfl⟩
abbrev main_call0_v30 : Ref sig .tc := ⟨.hbm, 92, rfl⟩
abbrev main_call0_v31 : Ref sig .tc := ⟨.hbm, 93, rfl⟩
abbrev main_call0_cst_10 : Ref sig .tc := ⟨.hbm, 94, rfl⟩
abbrev main_call0_v32 : Ref sig .tc := ⟨.hbm, 95, rfl⟩
abbrev main_v34_2 : Ref sig .tc := ⟨.hbm, 96, rfl⟩
abbrev main_v35 : Ref sig .tc := ⟨.hbm, 97, rfl⟩
abbrev main_v36 : Ref sig .tc := ⟨.hbm, 98, rfl⟩
abbrev main_v37 : Ref sig .tc := ⟨.hbm, 99, rfl⟩
abbrev main_v38 : Ref sig .tc := ⟨.hbm, 100, rfl⟩
abbrev main_cst_6 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_v43 : Ref sig .tc := ⟨.hbm, 106, rfl⟩
abbrev main_v44 : Ref sig .tc := ⟨.hbm, 107, rfl⟩
abbrev main_cst_7 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_v59 : Ref sig .tc := ⟨.hbm, 123, rfl⟩
abbrev main_cst_8 : Ref sig .tc := ⟨.hbm, 124, rfl⟩
abbrev main_v60 : Ref sig .tc := ⟨.hbm, 125, rfl⟩
abbrev main_v61 : Ref sig .tc := ⟨.hbm, 126, rfl⟩
abbrev main_cst_9 : Ref sig .tc := ⟨.hbm, 127, rfl⟩
abbrev main_v62 : Ref sig .tc := ⟨.hbm, 128, rfl⟩
abbrev main_v63 : Ref sig .tc := ⟨.hbm, 129, rfl⟩
abbrev main_cst_10 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_cst_11 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_cst_12 : Ref sig .tc := ⟨.hbm, 140, rfl⟩
abbrev main_v72 : Ref sig .tc := ⟨.hbm, 141, rfl⟩
abbrev main_v73 : Ref sig .tc := ⟨.hbm, 142, rfl⟩
abbrev main_v74 : Ref sig .tc := ⟨.hbm, 143, rfl⟩
abbrev main_v75 : Ref sig .tc := ⟨.hbm, 144, rfl⟩
abbrev main_cst_13 : Ref sig .tc := ⟨.hbm, 145, rfl⟩
abbrev main_v76 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_cst_14 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_v83 : Ref sig .tc := ⟨.hbm, 154, rfl⟩
abbrev main_v84 : Ref sig .tc := ⟨.hbm, 155, rfl⟩
abbrev main_cst_15 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_cst_16 : Ref sig .tc := ⟨.hbm, 161, rfl⟩
abbrev main_v89 : Ref sig .tc := ⟨.hbm, 162, rfl⟩
abbrev main_v90 : Ref sig .tc := ⟨.hbm, 163, rfl⟩
abbrev main_v91 : Ref sig .tc := ⟨.hbm, 164, rfl⟩
abbrev main_cst_17 : Ref sig .tc := ⟨.hbm, 165, rfl⟩
abbrev main_v92 : Ref sig .tc := ⟨.hbm, 166, rfl⟩
abbrev main_v93 : Ref sig .tc := ⟨.hbm, 167, rfl⟩
abbrev main_v94 : Ref sig .tc := ⟨.hbm, 168, rfl⟩
abbrev main_cst_18 : Ref sig .tc := ⟨.hbm, 169, rfl⟩
abbrev main_v95 : Ref sig .tc := ⟨.hbm, 170, rfl⟩
abbrev main_v96 : Ref sig .tc := ⟨.hbm, 171, rfl⟩
abbrev main_cst_19 : Ref sig .tc := ⟨.hbm, 172, rfl⟩
abbrev main_v97 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_v104 : Ref sig .tc := ⟨.hbm, 180, rfl⟩
abbrev main_cst_20 : Ref sig .tc := ⟨.hbm, 181, rfl⟩
abbrev main_v105 : Ref sig .tc := ⟨.hbm, 182, rfl⟩
abbrev main_v106 : Ref sig .tc := ⟨.hbm, 183, rfl⟩
abbrev main_cst_21 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_v112 : Ref sig .tc := ⟨.hbm, 190, rfl⟩
abbrev main_v113 : Ref sig .tc := ⟨.hbm, 191, rfl⟩
abbrev main_v114 : Ref sig .tc := ⟨.hbm, 192, rfl⟩
abbrev main_v115 : Ref sig .tc := ⟨.hbm, 193, rfl⟩
abbrev main_v116 : Ref sig .tc := ⟨.hbm, 194, rfl⟩

abbrev nD : Nat := 1
abbrev τ : Topo := Topo.v7x

variable {F : FTy → Type} [FloatOps F]
-- ==== Gates.lean ====
abbrev S4096x512 : Shape := ⟨2, ![4096, 512]⟩
abbrev S2x8x64x64 : Shape := ⟨4, ![2, 8, 64, 64]⟩
abbrev S2x512 : Shape := ⟨2, ![2, 512]⟩
abbrev S8x8 : Shape := ⟨2, ![8, 8]⟩
abbrev S_ : Shape := ⟨0, ![]⟩
abbrev S2x8x64x1x64 : Shape := ⟨5, ![2, 8, 64, 1, 64]⟩
abbrev S1x8x1x8x1 : Shape := ⟨5, ![1, 8, 1, 8, 1]⟩
abbrev S2x8x64x8x64 : Shape := ⟨5, ![2, 8, 64, 8, 64]⟩
abbrev S2x512x512 : Shape := ⟨3, ![2, 512, 512]⟩
abbrev S512x512 : Shape := ⟨2, ![512, 512]⟩
abbrev S1x512x512 : Shape := ⟨3, ![1, 512, 512]⟩
abbrev S1x512 : Shape := ⟨2, ![1, 512]⟩

abbrev nBuf : Space → Nat
  | .hbm => 36
  | .vmem => 15
  | .smem => 0
  | _ => 0

abbrev bufTy : (tb : Table) → Fin (tcTables nBuf tb) → BufTy
  | .hbm, ⟨0, _⟩ => ⟨S4096x512, .f32⟩
  | .hbm, ⟨1, _⟩ => ⟨S2x8x64x64, .f32⟩
  | .hbm, ⟨2, _⟩ => ⟨S2x512, .f32⟩
  | .hbm, ⟨3, _⟩ => ⟨S2x8x64x64, .f32⟩
  | .hbm, ⟨4, _⟩ => ⟨S2x512, .f32⟩
  | .hbm, ⟨5, _⟩ => ⟨S2x512, .f32⟩
  | .hbm, ⟨6, _⟩ => ⟨S8x8, .i32⟩
  | .hbm, ⟨7, _⟩ => ⟨S8x8, .i32⟩
  | .hbm, ⟨8, _⟩ => ⟨S_, .i32⟩
  | .hbm, ⟨9, _⟩ => ⟨S8x8, .i32⟩
  | .hbm, ⟨10, _⟩ => ⟨S8x8, .i32⟩
  | .hbm, ⟨11, _⟩ => ⟨S8x8, .i1⟩
  | .hbm, ⟨12, _⟩ => ⟨S8x8, .f32⟩
  | .hbm, ⟨13, _⟩ => ⟨S2x8x64x1x64, .f32⟩
  | .hbm, ⟨14, _⟩ => ⟨S1x8x1x8x1, .f32⟩
  | .hbm, ⟨15, _⟩ => ⟨S2x8x64x8x64, .f32⟩
  | .hbm, ⟨16, _⟩ => ⟨S2x8x64x8x64, .f32⟩
  | .hbm, ⟨17, _⟩ => ⟨S2x8x64x8x64, .f32⟩
  | .hbm, ⟨18, _⟩ => ⟨S2x512x512, .f32⟩
  | .hbm, ⟨19, _⟩ => ⟨S8x8, .i32⟩
  | .hbm, ⟨20, _⟩ => ⟨S8x8, .i32⟩
  | .hbm, ⟨21, _⟩ => ⟨S_, .i32⟩
  | .hbm, ⟨22, _⟩ => ⟨S8x8, .i32⟩
  | .hbm, ⟨23, _⟩ => ⟨S8x8, .i32⟩
  | .hbm, ⟨24, _⟩ => ⟨S8x8, .i1⟩
  | .hbm, ⟨25, _⟩ => ⟨S8x8, .f32⟩
  | .hbm, ⟨26, _⟩ => ⟨S2x8x64x1x64, .f32⟩
  | .hbm, ⟨27, _⟩ => ⟨S1x8x1x8x1, .f32⟩
  | .hbm, ⟨28, _⟩ => ⟨S2x8x64x8x64, .f32⟩
  | .hbm, ⟨29, _⟩ => ⟨S2x8x64x8x64, .f32⟩
  | .hbm, ⟨30, _⟩ => ⟨S2x8x64x8x64, .f32⟩
  | .hbm, ⟨31, _⟩ => ⟨S2x512x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S2x512x512, .f32⟩
  | .local _ .vmem, ⟨3, _⟩ => ⟨S2x512x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24_0 : Ref sig .tc := ⟨.hbm, 32, rfl⟩
abbrev main_v24_1 : Ref sig .tc := ⟨.hbm, 33, rfl⟩
abbrev main_v24_2 : Ref sig .tc := ⟨.hbm, 34, rfl⟩
abbrev main_v24_3 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== GatesRefIdeal.lean ====
abbrev S4096x512 : Shape := ⟨2, ![4096, 512]⟩
abbrev S2x8x64x64 : Shape := ⟨4, ![2, 8, 64, 64]⟩
abbrev S2x512 : Shape := ⟨2, ![2, 512]⟩
abbrev S4096x8x64 : Shape := ⟨3, ![4096, 8, 64]⟩
abbrev S8x2x64x4096 : Shape := ⟨4, ![8, 2, 64, 4096]⟩
abbrev S2x4096x8x64 : Shape := ⟨4, ![2, 4096, 8, 64]⟩
abbrev S2x4096x512 : Shape := ⟨3, ![2, 4096, 512]⟩
abbrev S2x1x512 : Shape := ⟨3, ![2, 1, 512]⟩
abbrev S_ : Shape := ⟨0, ![]⟩
abbrev S1x4096x512 : Shape := ⟨3, ![1, 4096, 512]⟩

abbrev nBuf : Space → Nat
  | .hbm => 75
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S2x8x64x64, .f32⟩
  | .hbm, ⟨2, _⟩ => ⟨S2x512, .f32⟩
  | .hbm, ⟨3, _⟩ => ⟨S2x8x64x64, .f32⟩
  | .hbm, ⟨4, _⟩ => ⟨S2x512, .f32⟩
  | .hbm, ⟨5, _⟩ => ⟨S2x512, .f32⟩
  | .hbm, ⟨6, _⟩ => ⟨S4096x8x64, .f32⟩
  | .hbm, ⟨7, _⟩ => ⟨S8x2x64x4096, .f32⟩
  | .hbm, ⟨8, _⟩ => ⟨S2x4096x8x64, .f32⟩
  | .hbm, ⟨9, _⟩ => ⟨S2x4096x512, .f32⟩
  | .hbm, ⟨10, _⟩ => ⟨S2x1x512, .f32⟩
  | .hbm, ⟨11, _⟩ => ⟨S2x4096x512, .f32⟩
  | .hbm, ⟨12, _⟩ => ⟨S2x4096x512, .f32⟩
  | .hbm, ⟨13, _⟩ => ⟨S2x4096x512, .f32⟩
  | .hbm, ⟨14, _⟩ => ⟨S2x4096x512, .f32⟩
  | .hbm, ⟨15, _⟩ => ⟨S_, .f32⟩
  | .hbm, ⟨16, _⟩ => ⟨S2x4096x512, .f32⟩
  | .hbm, ⟨17, _⟩ => ⟨S2x4096x512, .f32⟩
  | .hbm, ⟨18, _⟩ => ⟨S_, .f32⟩
  | .hbm, ⟨19, _⟩ => ⟨S2x4096x512, .f32⟩
  | .hbm, ⟨20, _⟩ => ⟨S2x4096x512, .f32⟩
  | .hbm, ⟨21, _⟩ => ⟨S8x2x64x4096, .f32⟩
  | .hbm, ⟨22, _⟩ => ⟨S2x4096x8x64, .f32⟩
  | .hbm, ⟨23, _⟩ => ⟨S2x4096x512, .f32⟩
  | .hbm, ⟨24, _⟩ => ⟨S2x1x512, .f32⟩
  | .hbm, ⟨25, _⟩ => ⟨S2x4096x512, .f32⟩
  | .hbm, ⟨26, _⟩ => ⟨S2x4096x512, .f32⟩
  | .hbm, ⟨27, _⟩ => ⟨S2x4096x512, .f32⟩
  | .hbm, ⟨28, _⟩ => ⟨S2x4096x512, .f32⟩
  | .hbm, ⟨29, _⟩ => ⟨S_, .f32⟩
  | .hbm, ⟨30, _⟩ => ⟨S2x4096x512, .f32⟩
  | .hbm, ⟨31, _⟩ => ⟨S2x4096x512, .f32⟩
  | .hbm, ⟨32, _⟩ => ⟨S_, .f32⟩
  | .hbm, ⟨33, _⟩ => ⟨S2x4096x512, .f32⟩
  | .hbm, ⟨34, _⟩ => ⟨S2x4096x512, .f32⟩
  | .hbm, ⟨35, _⟩ => ⟨S_, .f32⟩
  | .hbm, ⟨36, _⟩ => ⟨S2x4096x512, .f32⟩
  | .hbm, ⟨37, _⟩ => ⟨S2x4096x512, .f32⟩
  | .hbm, ⟨38, _⟩ => ⟨S2x512, .f32⟩
  | .hbm, ⟨39, _⟩ => ⟨S_, .f32⟩
  | .hbm, ⟨40, _⟩ => ⟨S2x512, .f32⟩
  | .hbm, ⟨41, _⟩ => ⟨S2x512, .f32⟩
  | .hbm, ⟨42, _⟩ => ⟨S2x512, .f32⟩
  | .hbm, ⟨43, _⟩ => ⟨S2x512, .f32⟩
  | .hbm, ⟨44, _⟩ => ⟨S2x512, .i1⟩
  | .hbm, ⟨45, _⟩ => ⟨S2x512, .f32⟩
  | .hbm, ⟨46, _⟩ => ⟨S2x512, .f32⟩
  | .hbm, ⟨47, _⟩ => ⟨S2x512, .f32⟩
  | .hbm, ⟨48, _⟩ => ⟨S2x512, .f32⟩
  | .hbm, ⟨49, _⟩ => ⟨S2x512, .f32⟩
  | .hbm, ⟨50, _⟩ => ⟨S2x512, .f32⟩
  | .hbm, ⟨51, _⟩ => ⟨S2x512, .f32⟩
  | .hbm, ⟨52, _⟩ => ⟨S2x512, .f32⟩
  | .hbm, ⟨53, _⟩ => ⟨S2x1x512, .f32⟩
  | .hbm, ⟨54, _⟩ => ⟨S2x4096x512, .f32⟩
  | .hbm, ⟨55, _⟩ => ⟨S2x4096x512, .f32⟩
  | .hbm, ⟨56, _⟩ => ⟨S2x4096x512, .f32⟩
  | .hbm, ⟨57, _⟩ => ⟨S_, .f32⟩
  | .hbm, ⟨58, _⟩ => ⟨S2x4096x512, .f32⟩
  | .hbm, ⟨59, _⟩ => ⟨S2x4096x512, .f32⟩
  | .hbm, ⟨60, _⟩ => ⟨S2x4096x512, .f32⟩
  | .hbm, ⟨61, _⟩ => ⟨S2x4096x512, .f32⟩
  | .hbm, ⟨62, _⟩ => ⟨S2x4096x512, .f32⟩
  | .hbm, ⟨63, _⟩ => ⟨S1x4096x512, .f32⟩
  | .hbm, ⟨64, _⟩ => ⟨S2x4096x512, .f32⟩
  | .hbm, ⟨65, _⟩ => ⟨S2x4096x512, .f32⟩
  | .hbm, ⟨66, _⟩ => ⟨S2x4096x512, .f32⟩
  | .hbm, ⟨67, _⟩ => ⟨S1x4096x512, .f32⟩
  | .hbm, ⟨68, _⟩ => ⟨S4096x512, .f32⟩
  | .hbm, ⟨69, _⟩ => ⟨S1x4096x512, .f32⟩
  | .hbm, ⟨70, _⟩ => ⟨S4096x512, .f32⟩
  | .hbm, ⟨71, _⟩ => ⟨S1x4096x512, .f32⟩
  | .hbm, ⟨72, _⟩ => ⟨S4096x512, .f32⟩
  | .hbm, ⟨73, _⟩ => ⟨S1x4096x512, .f32⟩
  | .hbm, ⟨74, _⟩ => ⟨S4096x512, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_cst : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_v9 : Ref sig .tc := ⟨.hbm, 49, rfl⟩
abbrev main_call0_v10 : Ref sig .tc := ⟨.hbm, 50, rfl⟩
abbrev main_call0_v11 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_4 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩

abbrev nD : Nat := 1
abbrev τ : Topo := Topo.v7x

variable {F : FTy → Type} [FloatOps F]
-- ==== Proof.ScanTile.lean ====
/- One eight-row tile of the two scans and of their gradients, read over the real numbers. -/
module

public import proofs.«01_k».proof.Proof.Gen.KernelIdeal.Frame
public import Idealize.ShloMosaic.Lib.Pipeline.ValueKit
public import Idealize.ShloMosaic.Lib.Pointwise

@[expose] public section
set_option maxRecDepth 16384
noncomputable section
open Idealize.ShloMosaic Idealize.ShloMosaic.TcCoe Idealize.SL.Sem
namespace Cert.KernelIdeal.Scan
open Cert.KernelIdeal Cert.KernelIdeal.Gen

/-- The first-order linear recurrence started at `h`: entry `t + 1` is `C t` times entry `t`, plus `D t`. -/
def lin (h : ℝ) (C D : ℕ → ℝ) : ℕ → ℝ
  | 0 => h
  | t + 1 => C t * lin h C D t + D t

/-- Entry `m + t` of a recurrence is entry `t` of the recurrence started at entry `m`. -/
theorem lin_add (h : ℝ) (C D : ℕ → ℝ) (m : ℕ) :
    ∀ t, lin h C D (m + t) = lin (lin h C D m) (fun s => C (m + s)) (fun s => D (m + s)) t
  | 0 => rfl
  | t + 1 => by
    show C (m + t) * lin h C D (m + t) + D (m + t) = _
    rw [lin_add h C D m t]
    rfl

/-- Eight steps of a recurrence depend on the first eight coefficients and inputs only. -/
theorem lin_congr (h : ℝ) {C C' D D' : ℕ → ℝ} :
    ∀ t, (∀ s < t, C s = C' s) → (∀ s < t, D s = D' s) → lin h C D t = lin h C' D' t
  | 0, _, _ => rfl
  | t + 1, hC, hD => by
    show C t * lin h C D t + D t = C' t * lin h C' D' t + D' t
    rw [hC t (Nat.lt_succ_self t), hD t (Nat.lt_succ_self t),
      lin_congr h t (fun s hs => hC s (Nat.lt_succ_of_lt hs)) (fun s hs => hD s (Nat.lt_succ_of_lt hs))]

variable (A U : FVec Ideal S8x128 .f32) (H E : FVec Ideal S1x128 .f32) (C D : ℕ → ℝ) (h : ℝ) (l : Fin 128)

/-- One eight-row tile of the forward scan: the three doubling steps and the carried row give the recurrence's next eight entries. -/
theorem k0_up
    (hA : ∀ r : Fin 8, A (ix2 r l) = ((C r : ℝ) : EReal)) (hU : ∀ r : Fin 8, U (ix2 r l) = ((D r : ℝ) : EReal))
    (hH : H (ix2 0 l) = ((h : ℝ) : EReal)) (r : Fin 8) :
    k0_pay10 H (k0_pay5 A U) (k0_pay6 A) k0_pay7 (k0_pay8 A) k0_pay9 (ix2 r l) = ((lin h C D (r + 1) : ℝ) : EReal) := by
  pointwise [k0_pay10, k0_pay5, k0_pay6, k0_pay7, k0_pay8, k0_pay9, k0_pay4]
  fin_cases r <;>
    simp [Scalar.select, IntOp.cmpi, hA, hU, hH, lin, ← EReal.coe_mul, ← EReal.coe_add] <;>
    ring

/-- One eight-row tile of the reverse scan, last row first: the same eight entries, read from the bottom row up. -/
theorem k0_down
    (hA : ∀ r : Fin 8, A (ix2 r l) = ((C (7 - r) : ℝ) : EReal)) (hU : ∀ r : Fin 8, U (ix2 r l) = ((D (7 - r) : ℝ) : EReal))
    (hH : H (ix2 0 l) = ((h : ℝ) : EReal)) (r : Fin 8) :
    k0_pay2 H (k0_pay12 A U) (k0_pay13 A) k0_pay14 (k0_pay15 A) (FloatOps.ofBits .f32 0x3F800000#32) (ix2 r l) = ((lin h C D (8 - r) : ℝ) : EReal) := by
  pointwise [k0_pay2, k0_pay12, k0_pay13, k0_pay14, k0_pay15, k0_pay4]
  fin_cases r <;>
    simp [Scalar.select, IntOp.cmpi, hA, hU, hH, lin, ← EReal.coe_mul, ← EReal.coe_add] <;>
    ring
/-- One tile of the forward recurrence's gradient: a reverse scan whose coefficient in a row is the decay of the row below (the carried decay in the last row). -/
theorem k1_down
    (hA : ∀ r : Fin 8, A (ix2 r l) = ((C (8 - r) : ℝ) : EReal)) (hU : ∀ r : Fin 8, U (ix2 r l) = ((D (7 - r) : ℝ) : EReal))
    (hE : E (ix2 0 l) = ((C 0 : ℝ) : EReal))
    (hH : H (ix2 0 l) = ((h : ℝ) : EReal)) (r : Fin 8) :
    k1_pay10 H (k1_pay6 E A U) (k1_pay7 E A) (k1_pay8 E A) (k1_pay9 E A U) (ix2 r l) = ((lin h C D (8 - r) : ℝ) : EReal) := by
  pointwise [k1_pay10, k1_pay6, k1_pay7, k1_pay8, k1_pay9, k1_pay5]
  fin_cases r <;>
    simp [Scalar.select, IntOp.cmpi, hA, hU, hH, hE, lin, ← EReal.coe_mul, ← EReal.coe_add] <;>
    ring
/-- One tile of the reverse recurrence's gradient: a forward scan whose coefficient in a row is the decay of the row above (the carried decay in the first row). -/
theorem k1_up
    (hA : ∀ r : Fin 8, A (ix2 r l) = ((C (r + 1) : ℝ) : EReal)) (hU : ∀ r : Fin 8, U (ix2 r l) = ((D r : ℝ) : EReal))
    (hE : E (ix2 0 l) = ((C 0 : ℝ) : EReal))
    (hH : H (ix2 0 l) = ((h : ℝ) : EReal)) (r : Fin 8) :
    k1_pay22 H (k1_pay18 E A U) (k1_pay19 E A) (k1_pay20 E A) (iota Kind.tc S8x128 32 [0] iota_S8x128_d0_w32) k1_pay21 (ix2 r l) = ((lin h C D (r + 1) : ℝ) : EReal) := by
  pointwise [k1_pay22, k1_pay18, k1_pay19, k1_pay20, k1_pay21, k1_pay17]
  fin_cases r <;>
    simp [Scalar.select, IntOp.cmpi, hA, hU, hH, hE, lin, ← EReal.coe_mul, ← EReal.coe_add] <;>
    ring
/-- The decay gradient of the forward recurrence in one tile: the adjoint state times the state of the row above, the
first row taking `P` from the edge row. -/
theorem k1_da_down (G : FVec Ideal S8x128 .f32) (v : BitVec 32) (g : Fin 8 → ℝ) (P : ℕ → ℝ)
    (hG : ∀ r : Fin 8, G (ix2 r l) = ((g r : ℝ) : EReal)) (hA : ∀ r : Fin 8, A (ix2 r l) = ((P (r + 1) : ℝ) : EReal))
    (hH : Scalar.select (Scalar.andi (Scalar.cmpi CmpIPredicate.sge (Scalar.subi v 1#32) 0#32)
            (Scalar.cmpi CmpIPredicate.slt (Scalar.subi v 1#32) 4096#32)) (H (ix2 0 l)) 0 = ((P 0 : ℝ) : EReal)) (r : Fin 8) :
    k1_pay14 G k1_pay11 (k1_pay12 A) (k1_pay13 v H) (ix2 r l) = ((g r * P r : ℝ) : EReal) := by
  pointwise [k1_pay14, k1_pay11, k1_pay12, k1_pay13]
  rw [hH]
  fin_cases r <;> simp [Scalar.select, IntOp.cmpi, hA, hG]

/-- The decay gradient of the reverse recurrence in one tile: the adjoint state times the state of the row below, the
last row taking `P 8` from the edge row. -/
theorem k1_da_up (G : FVec Ideal S8x128 .f32) (v : BitVec 32) (g : Fin 8 → ℝ) (P : ℕ → ℝ)
    (hG : ∀ r : Fin 8, G (ix2 r l) = ((g r : ℝ) : EReal)) (hA : ∀ r : Fin 8, A (ix2 r l) = ((P r : ℝ) : EReal))
    (hH : Scalar.select (Scalar.andi (Scalar.cmpi CmpIPredicate.sge (Scalar.addi v 8#32) 0#32)
            (Scalar.cmpi CmpIPredicate.slt (Scalar.addi v 8#32) 4096#32)) (H (ix2 0 l)) 0 = ((P 8 : ℝ) : EReal)) (r : Fin 8) :
    k1_pay2 G (k1_pay23 v H) (k1_pay24 A) (iota Kind.tc S8x128 32 [0] iota_S8x128_d0_w32) (ix2 r l)
      = ((g r * P (r + 1) : ℝ) : EReal) := by
  pointwise [k1_pay2, k1_pay23, k1_pay24]
  rw [hH]
  fin_cases r <;> simp [Scalar.select, IntOp.cmpi, hA, hG]

end Cert.KernelIdeal.Scan
-- ==== Proof.ScanFwd.lean ====
/- The forward kernel's counted loop: what its two output blocks hold. -/
module

public import proofs.«01_k».proof.Proof.ScanTile
public import Idealize.ShloMosaic.Lib.Pipeline.ValueKit
public import Idealize.ShloMosaic.Lib.Pointwise

@[expose] public section
set_option maxRecDepth 16384
noncomputable section
open Idealize.ShloMosaic Idealize.ShloMosaic.TcCoe Idealize.SL.Sem
namespace Cert.KernelIdeal.Scan
open Cert.KernelIdeal Cert.KernelIdeal.Gen
/-- The forward scan's states: `h t = a t * h (t - 1) + u t`, from zero. -/
def fwd (a u : ℕ → ℝ) (t : ℕ) : ℝ := lin 0 a u (t + 1)

/-- A sequence of 4096 entries read from its end. -/
def rev (f : ℕ → ℝ) (s : ℕ) : ℝ := f (4095 - s)

/-- The reverse scan's states: `h t = a t * h (t + 1) + u t`, from zero after the last row. -/
def bwd (a u : ℕ → ℝ) (t : ℕ) : ℝ := lin 0 (rev a) (rev u) (4096 - t)

/-- The real array of per-lane sequences as a block of 4096 rows. -/
def blockOf (f : Fin 128 → ℕ → ℝ) : FVec Ideal S4096x128 .f32 := fun y => ((f (y 1) (y 0).val : ℝ) : EReal)

/-- A load of rows `o …` of a block, at an index. -/
theorem readTile (v : View sig .tc .vmem S4096x128 .f32) (X : v.ty.Contents (Elt Ideal)) {off : Fin 2 → ℕ} (o n : ℕ)
    (hoff : off = ![o, 0]) (inb : ∀ a, off a + ![n, 128] a ≤ S4096x128.size a) (r : Fin n) (l : Fin 128)
    (h : o + r.val < 4096) :
    v.readAt (Elt Ideal) (Rect.unit (s := S4096x128) off ![n, 128] inb).toLoadRect X (ix2 r l)
      = v.read (Elt Ideal) X (ix2 ⟨o + r.val, h⟩ l) := by
  subst hoff
  show v.read (Elt Ideal) X _ = _
  congr 1
  funext a
  fin_cases a
  · exact Fin.ext (show o + 1 * r.val = o + r.val by omega)
  · exact Fin.ext (show 0 + 1 * l.val = l.val by omega)

/-- The same load of a block that holds real numbers. -/
theorem readTile_real (v : View sig .tc .vmem S4096x128 .f32) (X : v.ty.Contents (Elt Ideal)) (f : Fin 128 → ℕ → ℝ)
    (hX : v.read (Elt Ideal) X = blockOf f) {off : Fin 2 → ℕ} (o n : ℕ) (hoff : off = ![o, 0])
    (inb : ∀ a, off a + ![n, 128] a ≤ S4096x128.size a) (hn : o + n ≤ 4096) (r : Fin n) (l : Fin 128) :
    v.readAt (Elt Ideal) (Rect.unit (s := S4096x128) off ![n, 128] inb).toLoadRect X (ix2 r l)
      = ((f l (o + r.val) : ℝ) : EReal) := by
  rw [readTile v X o n hoff inb r l (by omega), hX]
  rfl

/-- A stored tile agrees with a block of real numbers when each of its rows does. -/
theorem piece_agrees {off : Fin 2 → ℕ} (o n : ℕ) (hoff : off = ![o, 0]) (inb : ∀ a, off a + ![n, 128] a ≤ S4096x128.size a)
    (w : (Rect.unit (s := S4096x128) off ![n, 128] inb).shape.Idx → Elt Ideal .f32) (f : Fin 128 → ℕ → ℝ)
    (hw : ∀ (r : Fin n) (l : Fin 128), w (ix2 r l) = ((f l (o + r.val) : ℝ) : EReal)) (x) :
    w x = blockOf f ((Rect.unit (s := S4096x128) off ![n, 128] inb).emb x) := by
  subst hoff
  have hx : x = ix2 (x 0) (x 1) := (ix2_eta x).symm
  rw [hx]
  refine (hw (x 0) (x 1)).trans ?_
  show _ = ((f _ _ : ℝ) : EReal)
  congr 2
  · exact Fin.ext (show (x 1).val = 0 + 1 * (x 1).val by omega)
  · show o + (x 0).val = o + 1 * (x 0).val
    omega

variable (𝒱 : Variants) (c : Dev nD) (bd : Option 𝒱.V) (i : grid0.Coords)
  (arg1 : Memref sig .tc .vmem S4096x128 .f32) (harg1 : arg1.IsWhole) (arg2 : Memref sig .tc .vmem S4096x128 .f32) (harg2 : arg2.IsWhole)
  (arg3 : Memref sig .tc .vmem S4096x128 .f32) (harg3 : arg3.IsWhole) (arg4 : Memref sig .tc .vmem S4096x128 .f32) (harg4 : arg4.IsWhole)
  (arg5 : Memref sig .tc .vmem S4096x128 .f32) (harg5 : arg5.IsWhole) (arg6 : Memref sig .tc .vmem S4096x128 .f32) (harg6 : arg6.IsWhole)
  (X1 : BufTy.Contents (Elt Ideal) arg1.view.ty) (X2 : BufTy.Contents (Elt Ideal) arg2.view.ty)
  (X3 : BufTy.Contents (Elt Ideal) arg3.view.ty) (X4 : BufTy.Contents (Elt Ideal) arg4.view.ty)

/-- The loop's state before a trip, from zero rows. -/
abbrev stF := st_k0_t1 (F := Ideal) 𝒱 c bd i arg1 harg1 arg2 harg2 arg3 harg3 arg4 harg4 arg5 harg5 arg6 harg6 X1 X2 X3 X4 (k0_pay1, k0_pay1)

/-- Before trip `k` of the forward kernel: the carried rows are entry `8 k` of the two recurrences, and every tile stored
so far holds the recurrences' states. -/
theorem stF_holds (a u b w : Fin 128 → ℕ → ℝ) (h1 : arg1.view.read (Elt Ideal) X1 = blockOf a)
    (h2 : arg2.view.read (Elt Ideal) X2 = blockOf u) (h3 : arg3.view.read (Elt Ideal) X3 = blockOf b)
    (h4 : arg4.view.read (Elt Ideal) X4 = blockOf w) : ∀ k ≤ 512,
    let S := stF 𝒱 c bd i arg1 harg1 arg2 harg2 arg3 harg3 arg4 harg4 arg5 harg5 arg6 harg6 X1 X2 X3 X4 k
    (∀ l, S.1.1 (ix2 0 l) = ((lin 0 (a l) (u l) (8 * k) : ℝ) : EReal))
    ∧ (∀ l, S.1.2 (ix2 0 l) = ((lin 0 (rev (b l)) (rev (w l)) (8 * k) : ℝ) : EReal))
    ∧ (∀ p ∈ S.2.1, ∀ x, p.2 x = blockOf (fun l => fwd (a l) (u l)) (p.1.emb x))
    ∧ (∀ p ∈ S.2.2, ∀ x, p.2 x = blockOf (fun l => bwd (b l) (w l)) (p.1.emb x)) := by
  intro k
  induction k with
  | zero =>
    intro _
    refine ⟨fun l => ?_, fun l => ?_, fun p hp => absurd hp List.not_mem_nil, fun p hp => absurd hp List.not_mem_nil⟩ <;>
    · show k0_pay1 (F := Ideal) (ix2 0 l) = _
      pointwise [k0_pay1]
      rfl
  | succ k ih =>
    intro hk
    obtain ⟨hf, hb, hpf, hpb⟩ := ih (by omega)
    have hk' : k < k0_t1_loop.trips := by
      have : k0_t1_loop.trips = 512 := by decide
      omega
    have hu := fun l r => k0_up _ _ _ (fun t => a l (8 * k + t)) (fun t => u l (8 * k + t)) _ l
      (fun r => readTile_real arg1.view X1 a h1 (8 * k) 8 (k0_off1_eq ⟨k, hk'⟩) (k0_off1_inb ⟨k, hk'⟩) (by omega) r l)
      (fun r => readTile_real arg2.view X2 u h2 (8 * k) 8 (k0_off1_eq ⟨k, hk'⟩) (k0_off1_inb ⟨k, hk'⟩) (by omega) r l)
      (hf l) r
    have hd := fun l r => k0_down _ _ _ (fun t => rev (b l) (8 * k + t)) (fun t => rev (w l) (8 * k + t)) _ l
      (fun r => (readTile_real arg3.view X3 b h3 (4088 - 8 * k) 8 (k0_off2_eq ⟨k, hk'⟩) (k0_off2_inb ⟨k, hk'⟩) (by omega) r l).trans
        (by simp only [rev]; congr 3; omega))
      (fun r => (readTile_real arg4.view X4 w h4 (4088 - 8 * k) 8 (k0_off2_eq ⟨k, hk'⟩) (k0_off2_inb ⟨k, hk'⟩) (by omega) r l).trans
        (by simp only [rev]; congr 3; omega))
      (hb l) r
    simp only [← lin_add] at hu hd
    dsimp only [stF] at hu hd hpf hpb ⊢
    rw [st_k0_t1_succ (F := Ideal) 𝒱 c bd i arg1 harg1 arg2 harg2 arg3 harg3 arg4 harg4 arg5 harg5 arg6 harg6 X1 X2 X3 X4 _ ⟨k, hk'⟩]
    unfold tripR_k0_t1 tripL_k0_t1 trip_k0_t1
    dsimp only
    sl_unfold_run_names
    refine ⟨fun l => ?_, fun l => ?_, fun p hp => ?_, fun p hp => ?_⟩
    · refine Eq.trans ?_ (hu l 7)
      pointwise [k0_pay11]
    · refine Eq.trans ?_ (hd l 0)
      pointwise [k0_pay3]
    · rcases List.mem_append.mp hp with hp | hp
      · obtain rfl := List.mem_singleton.mp hp
        exact piece_agrees (8 * k) 8 (k0_off1_eq ⟨k, hk'⟩) (k0_off1_inb ⟨k, hk'⟩) _ _ fun r l => (hu l r).trans (by simp only [fwd]; rfl)
      · exact hpf p hp
    · rcases List.mem_append.mp hp with hp | hp
      · obtain rfl := List.mem_singleton.mp hp
        exact piece_agrees (4088 - 8 * k) 8 (k0_off2_eq ⟨k, hk'⟩) (k0_off2_inb ⟨k, hk'⟩) _ _ fun r l => (hd l r).trans (by simp only [bwd]; congr 2; omega)
      · exact hpb p hp

omit X1 X2 X3 X4 in
/-- What the forward kernel leaves in its first output block: the forward recurrence's states. -/
theorem out0_fwd (a u b w : Fin 128 → ℕ → ℝ) :
    out0_A_4 (F := Ideal) c i arg1 harg1 arg2 harg2 arg3 harg3 arg4 harg4 arg5 harg5 arg6 harg6 (blockOf a) (blockOf u) (blockOf b) (blockOf w)
      = blockOf fun l => fwd (a l) (u l) := by
  funext y
  unfold out0_A_4
  refine View.read_writes_apply_of_pieces _ _ _ _ ?_ y (cover0_A_4 ..)
  unfold kernelRun0_A
  dsimp only
  sl_unfold_run_names
  exact (stF_holds _ c _ i arg1 harg1 arg2 harg2 arg3 harg3 arg4 harg4 arg5 harg5 arg6 harg6 _ _ _ _ a u b w (harg1.read_unread _)
     (harg2.read_unread _) (harg3.read_unread _) (harg4.read_unread _) 512 (le_refl _)).2.2.1

omit X1 X2 X3 X4 in
/-- What the forward kernel leaves in its second output block: the reverse recurrence's states. -/
theorem out0_bwd (a u b w : Fin 128 → ℕ → ℝ) :
    out0_A_5 (F := Ideal) c i arg1 harg1 arg2 harg2 arg3 harg3 arg4 harg4 arg5 harg5 arg6 harg6 (blockOf a) (blockOf u) (blockOf b) (blockOf w)
      = blockOf fun l => bwd (b l) (w l) := by
  funext y
  unfold out0_A_5
  refine View.read_writes_apply_of_pieces _ _ _ _ ?_ y (cover0_A_5 ..)
  unfold kernelRun0_A
  dsimp only
  sl_unfold_run_names
  exact (stF_holds _ c _ i arg1 harg1 arg2 harg2 arg3 harg3 arg4 harg4 arg5 harg5 arg6 harg6 _ _ _ _ a u b w (harg1.read_unread _)
     (harg2.read_unread _) (harg3.read_unread _) (harg4.read_unread _) 512 (le_refl _)).2.2.2

end Cert.KernelIdeal.Scan
-- ==== Proof.ScanBwd.lean ====
/- The backward kernel's counted loop: what its four output blocks hold. -/
module

public import proofs.«01_k».proof.Proof.ScanFwd
public import Idealize.ShloMosaic.Lib.Pipeline.ValueKit
public import Idealize.ShloMosaic.Lib.Pointwise

@[expose] public section
set_option maxRecDepth 16384
noncomputable section
open Idealize.ShloMosaic Idealize.ShloMosaic.TcCoe Idealize.SL.Sem
namespace Cert.KernelIdeal.Scan
open Cert.KernelIdeal Cert.KernelIdeal.Gen

/-- The forward recurrence's gradient, from the last row up: the decay met at step `s` is the one of the row below. -/
def decayDown (a : ℕ → ℝ) (s : ℕ) : ℝ := if s = 0 then 0 else a (4096 - s)

/-- The reverse recurrence's gradient, from the first row down: the decay met at step `s` is the one of the row above. -/
def decayUp (a : ℕ → ℝ) (s : ℕ) : ℝ := if s = 0 then 0 else a (s - 1)

/-- The state of the row above, zero above the first row. -/
def above (h : ℕ → ℝ) (t : ℕ) : ℝ := if t = 0 then 0 else h (t - 1)

/-- The state of the row below, zero below the last row. -/
def below (h : ℕ → ℝ) (t : ℕ) : ℝ := if t = 4095 then 0 else h (t + 1)

/-- The adjoint of the forward recurrence's state in row `t`. -/
def adjF (a d : ℕ → ℝ) (t : ℕ) : ℝ := lin 0 (decayDown a) (rev d) (4096 - t)

/-- The adjoint of the reverse recurrence's state in row `t`. -/
def adjB (a d : ℕ → ℝ) (t : ℕ) : ℝ := lin 0 (decayUp a) d (t + 1)

/-- The row the edge load above a tile reads, clipped at the first row. -/
theorem off2_eq : ∀ k : Fin k1_t1_loop.trips, k1_off2 k = ![4087 - 8 * k.val, 0] := by decide +kernel

/-- Whether the row above the tile exists: in every trip but the last. -/
theorem inside_above : ∀ k : Fin k1_t1_loop.trips,
    (Scalar.andi (Scalar.cmpi CmpIPredicate.sge (Scalar.subi (Scalar.muli (Scalar.subi 511#32 (Scf.iv 0#32 1#32 k.val)) 8#32) 1#32) 0#32)
      (Scalar.cmpi CmpIPredicate.slt (Scalar.subi (Scalar.muli (Scalar.subi 511#32 (Scf.iv 0#32 1#32 k.val)) 8#32) 1#32) 4096#32))
      = if k.val = 511 then 0#1 else 1#1 := by decide +kernel

/-- Whether the row below the tile exists: in every trip but the last. -/
theorem inside_below : ∀ k : Fin k1_t1_loop.trips,
    (Scalar.andi (Scalar.cmpi CmpIPredicate.sge (Scalar.addi (Scalar.muli (Scf.iv 0#32 1#32 k.val) 8#32) 8#32) 0#32)
      (Scalar.cmpi CmpIPredicate.slt (Scalar.addi (Scalar.muli (Scf.iv 0#32 1#32 k.val) 8#32) 8#32) 4096#32))
      = if k.val = 511 then 0#1 else 1#1 := by decide +kernel

variable (𝒱 : Variants) (c : Dev nD) (bd : Option 𝒱.V) (i : grid1.Coords)
  (arg1 : Memref sig .tc .vmem S4096x128 .f32) (harg1 : arg1.IsWhole) (arg2 : Memref sig .tc .vmem S4096x128 .f32) (harg2 : arg2.IsWhole)
  (arg3 : Memref sig .tc .vmem S4096x128 .f32) (harg3 : arg3.IsWhole) (arg4 : Memref sig .tc .vmem S4096x128 .f32) (harg4 : arg4.IsWhole)
  (arg5 : Memref sig .tc .vmem S4096x128 .f32) (harg5 : arg5.IsWhole) (arg6 : Memref sig .tc .vmem S4096x128 .f32) (harg6 : arg6.IsWhole)
  (arg7 : Memref sig .tc .vmem S4096x128 .f32) (harg7 : arg7.IsWhole) (arg8 : Memref sig .tc .vmem S4096x128 .f32) (harg8 : arg8.IsWhole)
  (arg9 : Memref sig .tc .vmem S4096x128 .f32) (harg9 : arg9.IsWhole)
  (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty)

/-- The loop's state before a trip, from zero rows. -/
abbrev stB := st_k1_t1 (F := Ideal) 𝒱 c bd i arg1 harg1 arg2 harg2 arg3 harg3 arg4 harg4 arg5 harg5 arg6 harg6 arg7 harg7 arg8 harg8 arg9 harg9 X1 X2 X3 X4 X5 (k1_pay1, k1_pay1, k1_pay1, k1_pay1)

/-- Before trip `k` of the backward kernel: the carried rows are entry `8 k` of the two adjoint recurrences and the decays
of the rows last visited, and every tile stored so far holds the gradients. -/
theorem stB_holds (a h b w d : Fin 128 → ℕ → ℝ) (h1 : arg1.view.read (Elt Ideal) X1 = blockOf a)
    (h2 : arg2.view.read (Elt Ideal) X2 = blockOf h) (h3 : arg3.view.read (Elt Ideal) X3 = blockOf b)
    (h4 : arg4.view.read (Elt Ideal) X4 = blockOf w) (h5 : arg5.view.read (Elt Ideal) X5 = blockOf d) : ∀ k ≤ 512,
    let S := stB 𝒱 c bd i arg1 harg1 arg2 harg2 arg3 harg3 arg4 harg4 arg5 harg5 arg6 harg6 arg7 harg7 arg8 harg8 arg9 harg9 X1 X2 X3 X4 X5 k
    ((∀ l, S.1.1 (ix2 0 l) = ((lin 0 (decayDown (a l)) (rev (d l)) (8 * k) : ℝ) : EReal))
      ∧ (∀ l, S.1.2.1 (ix2 0 l) = ((decayDown (a l) (8 * k) : ℝ) : EReal))
      ∧ (∀ l, S.1.2.2.1 (ix2 0 l) = ((lin 0 (decayUp (b l)) (d l) (8 * k) : ℝ) : EReal))
      ∧ (∀ l, S.1.2.2.2 (ix2 0 l) = ((decayUp (b l) (8 * k) : ℝ) : EReal)))
    ∧ (∀ p ∈ S.2.1, ∀ x, p.2 x = blockOf (fun l => adjF (a l) (d l)) (p.1.emb x))
    ∧ (∀ p ∈ S.2.2.1, ∀ x, p.2 x = blockOf (fun l t => adjF (a l) (d l) t * above (h l) t) (p.1.emb x))
    ∧ (∀ p ∈ S.2.2.2.1, ∀ x, p.2 x = blockOf (fun l => adjB (b l) (d l)) (p.1.emb x))
    ∧ (∀ p ∈ S.2.2.2.2, ∀ x, p.2 x = blockOf (fun l t => adjB (b l) (d l) t * below (w l) t) (p.1.emb x)) := by
  intro k
  induction k with
  | zero =>
    intro _
    refine ⟨⟨fun l => ?_, fun l => ?_, fun l => ?_, fun l => ?_⟩, fun p hp => absurd hp List.not_mem_nil,
      fun p hp => absurd hp List.not_mem_nil, fun p hp => absurd hp List.not_mem_nil, fun p hp => absurd hp List.not_mem_nil⟩ <;>
    · show k1_pay1 (F := Ideal) (ix2 0 l) = _
      pointwise [k1_pay1]
      rfl
  | succ k ih =>
    intro hk
    obtain ⟨⟨hf, hfa, hb, hba⟩, hp6, hp7, hp8, hp9⟩ := ih (by omega)
    have hk' : k < k1_t1_loop.trips := by
      have : k1_t1_loop.trips = 512 := by decide
      omega
    have o1 := k1_off1_eq ⟨k, hk'⟩
    have o3 := k1_off3_eq ⟨k, hk'⟩
    have i1 := k1_off1_inb ⟨k, hk'⟩
    have i3 := k1_off3_inb ⟨k, hk'⟩
    have hd := fun l r => k1_down _ _ _ _ (fun t => decayDown (a l) (8 * k + t)) (fun t => rev (d l) (8 * k + t)) _ l
      (fun r => (readTile_real arg1.view X1 a h1 (4088 - 8 * k) 8 o1 i1 (by omega) r l).trans
        (by simp only [decayDown]; rw [if_neg (by omega)]; congr 3; omega))
      (fun r => (readTile_real arg5.view X5 d h5 (4088 - 8 * k) 8 o1 i1 (by omega) r l).trans
        (by simp only [rev]; congr 3; omega))
      (hfa l) (hf l) r
    have hu := fun l r => k1_up _ _ _ _ (fun t => decayUp (b l) (8 * k + t)) (fun t => d l (8 * k + t)) _ l
      (fun r => (readTile_real arg3.view X3 b h3 (8 * k) 8 o3 i3 (by omega) r l).trans
        (by simp only [decayUp]; rw [if_neg (by omega)]; congr 3))
      (fun r => readTile_real arg5.view X5 d h5 (8 * k) 8 o3 i3 (by omega) r l)
      (hba l) (hb l) r
    simp only [← lin_add] at hd hu
    have hda := fun l r => k1_da_down _ _ l _ (Scalar.muli (Scalar.subi 511#32 (Scf.iv 0#32 1#32 k)) 8#32) _
      (fun t => above (h l) (4088 - 8 * k + t)) (hd l)
      (fun r => (readTile_real arg2.view X2 h h2 (4088 - 8 * k) 8 o1 i1 (by omega) r l).trans
        (by simp only [above]; rw [if_neg (by omega)]; congr 3))
      ((congrArg (Scalar.select _ · _) (readTile_real arg2.view X2 h h2 (4087 - 8 * k) 1 (off2_eq ⟨k, hk'⟩) (k1_off2_inb ⟨k, hk'⟩)
        (by omega) 0 l)).trans (by
          rw [inside_above ⟨k, hk'⟩]
          simp only [above]
          by_cases h511 : k = 511
          · subst h511; simp [Scalar.select]
          · rw [if_neg h511, if_neg (by omega)]
            exact congrArg (fun z : ℝ => (z : EReal)) (congrArg (h l) (show 4087 - 8 * k + 0 = 4088 - 8 * k + 0 - 1 by omega)))) r
    have hdb := fun l r => k1_da_up _ _ l _ (Scalar.muli (Scf.iv 0#32 1#32 k) 8#32) _
      (fun t => if 8 * k + t = 4096 then 0 else w l (8 * k + t)) (hu l)
      (fun r => (readTile_real arg4.view X4 w h4 (8 * k) 8 o3 i3 (by omega) r l).trans
        (by rw [if_neg (by omega)]))
      ((congrArg (Scalar.select _ · _) (readTile_real arg4.view X4 w h4 (min 4095 (8 * k + 8)) 1 (k1_off4_eq ⟨k, hk'⟩) (k1_off4_inb ⟨k, hk'⟩)
        (by omega) 0 l)).trans (by
          rw [inside_below ⟨k, hk'⟩]
          by_cases h511 : k = 511
          · subst h511; simp [Scalar.select]
          · rw [if_neg h511, if_neg (by omega)]
            exact congrArg (fun z : ℝ => (z : EReal)) (congrArg (w l) (show min 4095 (8 * k + 8) + 0 = 8 * k + 8 by omega)))) r
    dsimp only [stB] at hd hu hda hdb hp6 hp7 hp8 hp9 ⊢
    rw [st_k1_t1_succ (F := Ideal) 𝒱 c bd i arg1 harg1 arg2 harg2 arg3 harg3 arg4 harg4 arg5 harg5 arg6 harg6 arg7 harg7 arg8 harg8 arg9 harg9 X1 X2 X3 X4 X5 _ ⟨k, hk'⟩]
    unfold tripR_k1_t1 tripL_k1_t1 trip_k1_t1
    dsimp only
    sl_unfold_run_names
    refine ⟨⟨fun l => ?_, fun l => ?_, fun l => ?_, fun l => ?_⟩, fun p hp => ?_, fun p hp => ?_, fun p hp => ?_, fun p hp => ?_⟩
    · refine Eq.trans ?_ (hd l 0)
      pointwise [k1_pay15]
    · pointwise [k1_pay16]
      refine (readTile_real arg1.view X1 a h1 (4088 - 8 * k) 8 o1 i1 (by omega) 0 l).trans ?_
      simp only [decayDown]; rw [if_neg (by omega)]; congr 3; simp; omega
    · refine Eq.trans ?_ (hu l 7)
      pointwise [k1_pay3]
    · pointwise [k1_pay4]
      exact (readTile_real arg3.view X3 b h3 (8 * k) 8 o3 i3 (by omega) 7 l).trans (by simp only [decayUp]; rw [if_neg (by omega)]; congr 3)
    · rcases List.mem_append.mp hp with hp | hp
      · obtain rfl := List.mem_singleton.mp hp
        exact piece_agrees (4088 - 8 * k) 8 o1 i1 _ _ fun r l => (hd l r).trans (by simp only [adjF]; congr 2; omega)
      · exact hp6 p hp
    · rcases List.mem_append.mp hp with hp | hp
      · obtain rfl := List.mem_singleton.mp hp
        exact piece_agrees (4088 - 8 * k) 8 o1 i1 _ _ fun r l => (hda l r).trans (by simp only [adjF]; congr 3; omega)
      · exact hp7 p hp
    · rcases List.mem_append.mp hp with hp | hp
      · obtain rfl := List.mem_singleton.mp hp
        exact piece_agrees (8 * k) 8 o3 i3 _ _ fun r l => (hu l r).trans (by simp only [adjB]; rfl)
      · exact hp8 p hp
    · rcases List.mem_append.mp hp with hp | hp
      · obtain rfl := List.mem_singleton.mp hp
        exact piece_agrees (8 * k) 8 o3 i3 _ _ fun r l => (hdb l r).trans (by
          have e : 8 * k + (r.val + 1) = 4096 ↔ 8 * k + r.val = 4095 := by omega
          simp only [adjB, below, e]
          rfl)
      · exact hp9 p hp

omit X1 X2 X3 X4 X5 in
/-- What the backward kernel leaves: the input's gradient of the forward recurrence. -/
theorem out1_du_f (a h b w d : Fin 128 → ℕ → ℝ) :
    out1_A_5 (F := Ideal) c i arg1 harg1 arg2 harg2 arg3 harg3 arg4 harg4 arg5 harg5 arg6 harg6 arg7 harg7 arg8 harg8 arg9 harg9 (blockOf a) (blockOf h) (blockOf b) (blockOf w) (blockOf d) = blockOf (fun l => adjF (a l) (d l)) := by
  funext y
  unfold out1_A_5
  refine View.read_writes_apply_of_pieces _ _ _ _ ?_ y (cover1_A_5 ..)
  unfold kernelRun1_A
  dsimp only
  sl_unfold_run_names
  exact (stB_holds _ c _ i arg1 harg1 arg2 harg2 arg3 harg3 arg4 harg4 arg5 harg5 arg6 harg6 arg7 harg7 arg8 harg8 arg9 harg9 _ _ _ _ _ a h b w d (harg1.read_unread _)
     (harg2.read_unread _) (harg3.read_unread _) (harg4.read_unread _) (harg5.read_unread _) 512 (le_refl _)).2.1

omit X1 X2 X3 X4 X5 in
/-- What the backward kernel leaves: the decay's gradient of the forward recurrence. -/
theorem out1_da_f (a h b w d : Fin 128 → ℕ → ℝ) :
    out1_A_6 (F := Ideal) c i arg1 harg1 arg2 harg2 arg3 harg3 arg4 harg4 arg5 harg5 arg6 harg6 arg7 harg7 arg8 harg8 arg9 harg9 (blockOf a) (blockOf h) (blockOf b) (blockOf w) (blockOf d) = blockOf (fun l t => adjF (a l) (d l) t * above (h l) t) := by
  funext y
  unfold out1_A_6
  refine View.read_writes_apply_of_pieces _ _ _ _ ?_ y (cover1_A_6 ..)
  unfold kernelRun1_A
  dsimp only
  sl_unfold_run_names
  exact (stB_holds _ c _ i arg1 harg1 arg2 harg2 arg3 harg3 arg4 harg4 arg5 harg5 arg6 harg6 arg7 harg7 arg8 harg8 arg9 harg9 _ _ _ _ _ a h b w d (harg1.read_unread _)
     (harg2.read_unread _) (harg3.read_unread _) (harg4.read_unread _) (harg5.read_unread _) 512 (le_refl _)).2.2.1

omit X1 X2 X3 X4 X5 in
/-- What the backward kernel leaves: the input's gradient of the reverse recurrence. -/
theorem out1_du_b (a h b w d : Fin 128 → ℕ → ℝ) :
    out1_A_7 (F := Ideal) c i arg1 harg1 arg2 harg2 arg3 harg3 arg4 harg4 arg5 harg5 arg6 harg6 arg7 harg7 arg8 harg8 arg9 harg9 (blockOf a) (blockOf h) (blockOf b) (blockOf w) (blockOf d) = blockOf (fun l => adjB (b l) (d l)) := by
  funext y
  unfold out1_A_7
  refine View.read_writes_apply_of_pieces _ _ _ _ ?_ y (cover1_A_7 ..)
  unfold kernelRun1_A
  dsimp only
  sl_unfold_run_names
  exact (stB_holds _ c _ i arg1 harg1 arg2 harg2 arg3 harg3 arg4 harg4 arg5 harg5 arg6 harg6 arg7 harg7 arg8 harg8 arg9 harg9 _ _ _ _ _ a h b w d (harg1.read_unread _)
     (harg2.read_unread _) (harg3.read_unread _) (harg4.read_unread _) (harg5.read_unread _) 512 (le_refl _)).2.2.2.1

omit X1 X2 X3 X4 X5 in
/-- What the backward kernel leaves: the decay's gradient of the reverse recurrence. -/
theorem out1_da_b (a h b w d : Fin 128 → ℕ → ℝ) :
    out1_A_8 (F := Ideal) c i arg1 harg1 arg2 harg2 arg3 harg3 arg4 harg4 arg5 harg5 arg6 harg6 arg7 harg7 arg8 harg8 arg9 harg9 (blockOf a) (blockOf h) (blockOf b) (blockOf w) (blockOf d) = blockOf (fun l t => adjB (b l) (d l) t * below (w l) t) := by
  funext y
  unfold out1_A_8
  refine View.read_writes_apply_of_pieces _ _ _ _ ?_ y (cover1_A_8 ..)
  unfold kernelRun1_A
  dsimp only
  sl_unfold_run_names
  exact (stB_holds _ c _ i arg1 harg1 arg2 harg2 arg3 harg3 arg4 harg4 arg5 harg5 arg6 harg6 arg7 harg7 arg8 harg8 arg9 harg9 _ _ _ _ _ a h b w d (harg1.read_unread _)
     (harg2.read_unread _) (harg3.read_unread _) (harg4.read_unread _) (harg5.read_unread _) 512 (le_refl _)).2.2.2.2

end Cert.KernelIdeal.Scan
-- ==== Proof.ScanArrays.lean ====
/- The arrays the two kernels leave, column by column, over any contents they are entered with. -/
module

public import proofs.«01_k».proof.Proof.ScanBwd
public import Idealize.ShloMosaic.Lib.Pipeline.ValueKit
public import Idealize.ShloMosaic.Lib.Pointwise

@[expose] public section
set_option maxRecDepth 16384
noncomputable section
open Idealize.ShloMosaic Idealize.ShloMosaic.TcCoe Idealize.SL.Sem
namespace Cert.KernelIdeal.Scan
open Cert.KernelIdeal Cert.KernelIdeal.Gen

/-- The real array of per-column sequences. -/
def arrOf (f : Fin 512 → ℕ → ℝ) : FVec Ideal S4096x512 .f32 := fun y => ((f (y 1) (y 0).val : ℝ) : EReal)

/-- The 128 columns of grid point `t`. -/
def cols (f : Fin 512 → ℕ → ℝ) (t : ℕ) (ht : t < 4) (l : Fin 128) : ℕ → ℝ := f ⟨t * 128 + l.val, by omega⟩

/-- The windows of the forward kernel: block `t` of every array. -/
theorem idx0 : ∀ t : Fin cfg0.N, t.val < 4 ∧ win0_0.index t = ![0, t.val] ∧ win0_1.index t = ![0, t.val] ∧ win0_2.index t = ![0, t.val]
    ∧ win0_3.index t = ![0, t.val] ∧ win0_4.index t = ![0, t.val] ∧ win0_5.index t = ![0, t.val] :=
  (by decide +kernel : ∀ t : Fin grid0.N, _)

/-- The windows of the backward kernel: block `t` of every array. -/
theorem idx1 : ∀ t : Fin cfg1.N, t.val < 4 ∧ win1_0.index t = ![0, t.val] ∧ win1_1.index t = ![0, t.val] ∧ win1_2.index t = ![0, t.val]
    ∧ win1_3.index t = ![0, t.val] ∧ win1_4.index t = ![0, t.val] ∧ win1_5.index t = ![0, t.val] ∧ win1_6.index t = ![0, t.val]
    ∧ win1_7.index t = ![0, t.val] ∧ win1_8.index t = ![0, t.val] :=
  (by decide +kernel : ∀ t : Fin grid1.N, _)

/-- An array of real columns read where a block's element sits. -/
theorem arr_block (f : Fin 512 → ℕ → ℝ) (t : ℕ) (ht : t < 4) (y : S4096x128.Idx) (e : S4096x512.Idx)
    (h0 : (e 0).val = (y 0).val) (h1 : (e 1).val = t * 128 + (y 1).val) : arrOf f e = blockOf (cols f t ht) y := by
  show ((f (e 1) (e 0).val : ℝ) : EReal) = ((f _ (y 0).val : ℝ) : EReal)
  rw [h0]
  congr 2
  exact Fin.ext h1

variable (V : (c : Dev nD) → (b : Ref sig .tc) → Buf (Elt Ideal) ((c : Thread nD τ).loc b)) (c : Dev nD)

/-- The block that argument 0 of the forward kernel shows grid point `t`, of real columns. -/
theorem in0_0 (f : Fin 512 → ℕ → ℝ) (hf : V c main_arg0 = arrOf f) (t : Fin cfg0.N) :
    iblk0 V c 0 t = blockOf (cols f t.val (idx0 t).1) := by
  funext y
  blk_simp [iblk0, idx0 t]
  rw [hf]
  exact arr_block f t.val _ y _ (by blk_simp [idx0 t]) (by blk_simp [idx0 t])

/-- The block that argument 1 of the forward kernel shows grid point `t`, of real columns. -/
theorem in0_1 (f : Fin 512 → ℕ → ℝ) (hf : V c main_arg1 = arrOf f) (t : Fin cfg0.N) :
    iblk0 V c 1 t = blockOf (cols f t.val (idx0 t).1) := by
  funext y
  blk_simp [iblk0, idx0 t]
  rw [hf]
  exact arr_block f t.val _ y _ (by blk_simp [idx0 t]) (by blk_simp [idx0 t])

/-- The block that argument 2 of the forward kernel shows grid point `t`, of real columns. -/
theorem in0_2 (f : Fin 512 → ℕ → ℝ) (hf : V c main_arg2 = arrOf f) (t : Fin cfg0.N) :
    iblk0 V c 2 t = blockOf (cols f t.val (idx0 t).1) := by
  funext y
  blk_simp [iblk0, idx0 t]
  rw [hf]
  exact arr_block f t.val _ y _ (by blk_simp [idx0 t]) (by blk_simp [idx0 t])

/-- The block that argument 3 of the forward kernel shows grid point `t`, of real columns. -/
theorem in0_3 (f : Fin 512 → ℕ → ℝ) (hf : V c main_arg3 = arrOf f) (t : Fin cfg0.N) :
    iblk0 V c 3 t = blockOf (cols f t.val (idx0 t).1) := by
  funext y
  blk_simp [iblk0, idx0 t]
  rw [hf]
  exact arr_block f t.val _ y _ (by blk_simp [idx0 t]) (by blk_simp [idx0 t])

/-- The block that argument 0 of the backward kernel shows grid point `t`, of real columns. -/
theorem in1_0 (f : Fin 512 → ℕ → ℝ) (hf : V c main_arg0 = arrOf f) (t : Fin cfg1.N) :
    iblk1 V c 0 t = blockOf (cols f t.val (idx1 t).1) := by
  funext y
  blk_simp [iblk1, idx1 t]
  rw [hf]
  exact arr_block f t.val _ y _ (by blk_simp [idx1 t]) (by blk_simp [idx1 t])

/-- The block that argument 1 of the backward kernel shows grid point `t`, of real columns. -/
theorem in1_1 (f : Fin 512 → ℕ → ℝ) (hf : V c main_v0_0 = arrOf f) (t : Fin cfg1.N) :
    iblk1 V c 1 t = blockOf (cols f t.val (idx1 t).1) := by
  funext y
  blk_simp [iblk1, idx1 t]
  rw [hf]
  exact arr_block f t.val _ y _ (by blk_simp [idx1 t]) (by blk_simp [idx1 t])

/-- The block that argument 2 of the backward kernel shows grid point `t`, of real columns. -/
theorem in1_2 (f : Fin 512 → ℕ → ℝ) (hf : V c main_arg2 = arrOf f) (t : Fin cfg1.N) :
    iblk1 V c 2 t = blockOf (cols f t.val (idx1 t).1) := by
  funext y
  blk_simp [iblk1, idx1 t]
  rw [hf]
  exact arr_block f t.val _ y _ (by blk_simp [idx1 t]) (by blk_simp [idx1 t])

/-- The block that argument 3 of the backward kernel shows grid point `t`, of real columns. -/
theorem in1_3 (f : Fin 512 → ℕ → ℝ) (hf : V c main_v0_1 = arrOf f) (t : Fin cfg1.N) :
    iblk1 V c 3 t = blockOf (cols f t.val (idx1 t).1) := by
  funext y
  blk_simp [iblk1, idx1 t]
  rw [hf]
  exact arr_block f t.val _ y _ (by blk_simp [idx1 t]) (by blk_simp [idx1 t])

/-- The block that argument 4 of the backward kernel shows grid point `t`, of real columns. -/
theorem in1_4 (f : Fin 512 → ℕ → ℝ) (hf : V c main_arg4 = arrOf f) (t : Fin cfg1.N) :
    iblk1 V c 4 t = blockOf (cols f t.val (idx1 t).1) := by
  funext y
  blk_simp [iblk1, idx1 t]
  rw [hf]
  exact arr_block f t.val _ y _ (by blk_simp [idx1 t]) (by blk_simp [idx1 t])

/-- The forward kernel's first result: the forward recurrence. -/
theorem arr0_fwd (a u b w : Fin 512 → ℕ → ℝ) (ha : V c main_arg0 = arrOf a) (hu : V c main_arg1 = arrOf u) (hb : V c main_arg2 = arrOf b)
    (hw : V c main_arg3 = arrOf w) :
    (dat0 V c).arrAt 4 cfg0.N = arrOf (fun l => fwd (a l) (u l)) := by
  refine (dat0 V c).arrAt_eq_of_covers 4 _ (by decide +kernel) fun t _ y => ?_
  blk_simp
  rw [after0_4]
  unfold outsAt0
  dsimp only
  rw [in0_0 V c _ ha t, in0_1 V c _ hu t, in0_2 V c _ hb t, in0_3 V c _ hw t]
  refine (congrFun (out0_fwd c (grid0.coords t) (ms0_0 t) (hs0_0 t) (ms0_1 t) (hs0_1 t) (ms0_2 t) (hs0_2 t) (ms0_3 t) (hs0_3 t) (ms0_4 t) (hs0_4 t) (ms0_5 t) (hs0_5 t) _ _ _ _) y).trans ?_
  refine (arr_block (fun l => fwd (a l) (u l)) t.val (idx0 t).1 y _ ?_ ?_).symm <;> blk_simp [idx0 t]

/-- The forward kernel's second result: the reverse recurrence. -/
theorem arr0_bwd (a u b w : Fin 512 → ℕ → ℝ) (ha : V c main_arg0 = arrOf a) (hu : V c main_arg1 = arrOf u) (hb : V c main_arg2 = arrOf b)
    (hw : V c main_arg3 = arrOf w) :
    (dat0 V c).arrAt 5 cfg0.N = arrOf (fun l => bwd (b l) (w l)) := by
  refine (dat0 V c).arrAt_eq_of_covers 5 _ (by decide +kernel) fun t _ y => ?_
  blk_simp
  rw [after0_5]
  unfold outsAt0
  dsimp only
  rw [in0_0 V c _ ha t, in0_1 V c _ hu t, in0_2 V c _ hb t, in0_3 V c _ hw t]
  refine (congrFun (out0_bwd c (grid0.coords t) (ms0_0 t) (hs0_0 t) (ms0_1 t) (hs0_1 t) (ms0_2 t) (hs0_2 t) (ms0_3 t) (hs0_3 t) (ms0_4 t) (hs0_4 t) (ms0_5 t) (hs0_5 t) _ _ _ _) y).trans ?_
  refine (arr_block (fun l => bwd (b l) (w l)) t.val (idx0 t).1 y _ ?_ ?_).symm <;> blk_simp [idx0 t]

/-- The backward kernel's adjoint of the forward recurrence. -/
theorem arr1_du_f (a h b w d : Fin 512 → ℕ → ℝ) (ha : V c main_arg0 = arrOf a) (hh : V c main_v0_0 = arrOf h) (hb : V c main_arg2 = arrOf b)
    (hw : V c main_v0_1 = arrOf w) (hd : V c main_arg4 = arrOf d) :
    (dat1 V c).arrAt 5 cfg1.N = arrOf (fun l => adjF (a l) (d l)) := by
  refine (dat1 V c).arrAt_eq_of_covers 5 _ (by decide +kernel) fun t _ y => ?_
  blk_simp
  rw [after1_5]
  unfold outsAt1
  dsimp only
  rw [in1_0 V c _ ha t, in1_1 V c _ hh t, in1_2 V c _ hb t, in1_3 V c _ hw t, in1_4 V c _ hd t]
  refine (congrFun (out1_du_f c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) _ _ _ _ _) y).trans ?_
  refine (arr_block (fun l => adjF (a l) (d l)) t.val (idx1 t).1 y _ ?_ ?_).symm <;> blk_simp [idx1 t]

/-- Its product with the state above. -/
theorem arr1_da_f (a h b w d : Fin 512 → ℕ → ℝ) (ha : V c main_arg0 = arrOf a) (hh : V c main_v0_0 = arrOf h) (hb : V c main_arg2 = arrOf b)
    (hw : V c main_v0_1 = arrOf w) (hd : V c main_arg4 = arrOf d) :
    (dat1 V c).arrAt 6 cfg1.N = arrOf (fun l t => adjF (a l) (d l) t * above (h l) t) := by
  refine (dat1 V c).arrAt_eq_of_covers 6 _ (by decide +kernel) fun t _ y => ?_
  blk_simp
  rw [after1_6]
  unfold outsAt1
  dsimp only
  rw [in1_0 V c _ ha t, in1_1 V c _ hh t, in1_2 V c _ hb t, in1_3 V c _ hw t, in1_4 V c _ hd t]
  refine (congrFun (out1_da_f c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) _ _ _ _ _) y).trans ?_
  refine (arr_block (fun l t => adjF (a l) (d l) t * above (h l) t) t.val (idx1 t).1 y _ ?_ ?_).symm <;> blk_simp [idx1 t]

/-- The backward kernel's adjoint of the reverse recurrence. -/
theorem arr1_du_b (a h b w d : Fin 512 → ℕ → ℝ) (ha : V c main_arg0 = arrOf a) (hh : V c main_v0_0 = arrOf h) (hb : V c main_arg2 = arrOf b)
    (hw : V c main_v0_1 = arrOf w) (hd : V c main_arg4 = arrOf d) :
    (dat1 V c).arrAt 7 cfg1.N = arrOf (fun l => adjB (b l) (d l)) := by
  refine (dat1 V c).arrAt_eq_of_covers 7 _ (by decide +kernel) fun t _ y => ?_
  blk_simp
  rw [after1_7]
  unfold outsAt1
  dsimp only
  rw [in1_0 V c _ ha t, in1_1 V c _ hh t, in1_2 V c _ hb t, in1_3 V c _ hw t, in1_4 V c _ hd t]
  refine (congrFun (out1_du_b c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) _ _ _ _ _) y).trans ?_
  refine (arr_block (fun l => adjB (b l) (d l)) t.val (idx1 t).1 y _ ?_ ?_).symm <;> blk_simp [idx1 t]

/-- Its product with the state below. -/
theorem arr1_da_b (a h b w d : Fin 512 → ℕ → ℝ) (ha : V c main_arg0 = arrOf a) (hh : V c main_v0_0 = arrOf h) (hb : V c main_arg2 = arrOf b)
    (hw : V c main_v0_1 = arrOf w) (hd : V c main_arg4 = arrOf d) :
    (dat1 V c).arrAt 8 cfg1.N = arrOf (fun l t => adjB (b l) (d l) t * below (w l) t) := by
  refine (dat1 V c).arrAt_eq_of_covers 8 _ (by decide +kernel) fun t _ y => ?_
  blk_simp
  rw [after1_8]
  unfold outsAt1
  dsimp only
  rw [in1_0 V c _ ha t, in1_1 V c _ hh t, in1_2 V c _ hb t, in1_3 V c _ hw t, in1_4 V c _ hd t]
  refine (congrFun (out1_da_b c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) _ _ _ _ _) y).trans ?_
  refine (arr_block (fun l t => adjB (b l) (d l) t * below (w l) t) t.val (idx1 t).1 y _ ?_ ?_).symm <;> blk_simp [idx1 t]

end Cert.KernelIdeal.Scan
-- ==== Proof.ScanLaunch.lean ====
/- The launch of the two kernels: every unscoped buffer at the end, and the six results over real arguments. -/
module

public import proofs.«01_k».proof.Proof.ScanArrays

@[expose] public section

set_option maxRecDepth 16384

noncomputable section

namespace Cert.KernelIdeal.Scan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unifying through plain definitions
set_option backward.isDefEq.respectTransparency.types false in
/-- Every unscoped buffer ends at the contents the second region leaves. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W2 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => h)

variable (c : Dev nD) (a u b w d : Fin 512 → ℕ → ℝ)
    (ha : m ((c : Thread nD τ).loc main_arg0) = arrOf a) (hu : m ((c : Thread nD τ).loc main_arg1) = arrOf u)
    (hb : m ((c : Thread nD τ).loc main_arg2) = arrOf b) (hw : m ((c : Thread nD τ).loc main_arg3) = arrOf w)
    (hd : m ((c : Thread nD τ).loc main_arg4) = arrOf d)

include ha hu hb hw in
/-- The forward recurrence's states when the second kernel starts. -/
theorem V1_fwd : V1 m ρ c main_v0_0 = arrOf fun l => fwd (a l) (u l) :=
  (W1_arr m ρ c 4).trans (arr0_fwd (V0 m ρ) c a u b w ha hu hb hw)

include ha hu hb hw in
/-- The reverse recurrence's states when the second kernel starts. -/
theorem V1_bwd : V1 m ρ c main_v0_1 = arrOf fun l => bwd (b l) (w l) :=
  (W1_arr m ρ c 5).trans (arr0_bwd (V0 m ρ) c a u b w ha hu hb hw)

include ha hu hb hw hd in
/-- The six results over real arguments. -/
theorem results :
    W2 m ρ c (Proc.devRef .tc main_v0_0) = arrOf (fun l => fwd (a l) (u l))
    ∧ W2 m ρ c (Proc.devRef .tc main_v0_1) = arrOf (fun l => bwd (b l) (w l))
    ∧ W2 m ρ c (Proc.devRef .tc main_v1_1) = arrOf (fun l t => adjF (a l) (d l) t * above (fwd (a l) (u l)) t)
    ∧ W2 m ρ c (Proc.devRef .tc main_v1_0) = arrOf (fun l => adjF (a l) (d l))
    ∧ W2 m ρ c (Proc.devRef .tc main_v1_3) = arrOf (fun l t => adjB (b l) (d l) t * below (bwd (b l) (w l)) t)
    ∧ W2 m ρ c (Proc.devRef .tc main_v1_2) = arrOf (fun l => adjB (b l) (d l)) := by
  have hh := V1_fwd m ρ c a u b w ha hu hb hw
  have hg := V1_bwd m ρ c a u b w ha hu hb hw
  have h0 : V1 m ρ c main_arg0 = arrOf a := (W1_args m ρ c main_arg0 (by decide)).trans ha
  have h2 : V1 m ρ c main_arg2 = arrOf b := (W1_args m ρ c main_arg2 (by decide)).trans hb
  have h4 : V1 m ρ c main_arg4 = arrOf d := (W1_args m ρ c main_arg4 (by decide)).trans hd
  refine ⟨(W2_of m ρ c main_v0_0 (by decide)).trans hh, (W2_of m ρ c main_v0_1 (by decide)).trans hg,
    (W2_arr m ρ c 6).trans (arr1_da_f (V1 m ρ) c a _ b _ d h0 hh h2 hg h4),
    (W2_arr m ρ c 5).trans (arr1_du_f (V1 m ρ) c a _ b _ d h0 hh h2 hg h4),
    (W2_arr m ρ c 8).trans (arr1_da_b (V1 m ρ) c a _ b _ d h0 hh h2 hg h4),
    (W2_arr m ρ c 7).trans (arr1_du_b (V1 m ρ) c a _ b _ d h0 hh h2 hg h4)⟩

end Cert.KernelIdeal.Scan
-- ==== Proof.ScanFinite.lean ====
/- The precondition read out: arrays of finite elements are arrays of reals, column by column. -/
module

public import proofs.«01_k».proof.Pre_finite
public import proofs.«01_k».proof.Proof.ScanArrays
public import Idealize.ShloMosaic.Lib.KernelVsHost
public import Idealize.ShloMosaic.Lib.Pointwise

@[expose] public section

noncomputable section

namespace Cert.Pre_finite

open Idealize.ShloMosaic
open Cert.KernelIdeal.Scan (arrOf)

/-- The one stated side condition. -/
theorem facts : Facts := ⟨by decide⟩

/-- Two bits whose conjunction is set are both set. -/
theorem and_bits : ∀ a b : BitVec 1, a &&& b = 1#1 → a = 1#1 ∧ b = 1#1 := by decide

/-- An extended real whose absolute value is below infinity is a real. -/
theorem real_of_below (x : EReal) (h : Ideal.cmp .olt (max x (-x)) (Ideal.ofBits .f32 0x7F800000#32) = 1#1) : ((x.toReal : ℝ) : EReal) = x := by
  have h' : max x (-x) < (⊤ : EReal) := by
    have e : Ideal.ofBits .f32 0x7F800000#32 = (⊤ : EReal) := by simp [Ideal.ofBits, Ideal.ieee]
    rw [← e]
    by_contra hn
    rw [show Ideal.cmp .olt (max x (-x)) (Ideal.ofBits .f32 0x7F800000#32) = BitVec.ofBool (decide (max x (-x) < Ideal.ofBits .f32 0x7F800000#32)) from rfl,
      decide_eq_false hn] at h
    exact absurd h (by decide)
  refine EReal.coe_toReal (fun e => ?_) (fun e => ?_)
  · rw [e] at h'; simp at h'
  · rw [e] at h'; simp at h'

/-- An array whose every element is a real is the array of its real columns. -/
theorem arr_of_real (x : FVec Ideal S4096x512 .f32) (h : ∀ y, (((x y : EReal).toReal : ℝ) : EReal) = x y) :
    x = arrOf fun l s => if hs : s < 4096 then EReal.toReal (x (ix2 ⟨s, hs⟩ l)) else 0 := by
  funext y
  show x y = (((if hs : (y 0).val < 4096 then EReal.toReal (x (ix2 ⟨(y 0).val, hs⟩ (y 1))) else 0 : ℝ)) : EReal)
  have e : (ix2 ⟨(y 0).val, (y 0).isLt⟩ (y 1) : S4096x512.Idx) = y := by
    funext a; fin_cases a <;> rfl
  refine Eq.trans ?_ (congrArg (fun r : ℝ => (r : EReal)) (dif_pos (show (y 0).val < 4096 from (y 0).isLt)).symm)
  exact (h y).symm.trans (congrArg (fun i => ((EReal.toReal (x i) : ℝ) : EReal)) e.symm)

/-- Where the precondition holds the five arguments are arrays of reals. -/
theorem real_arrays [Facts] (x0 x1 x2 x3 x4 : FVec Ideal S4096x512 .f32) (h : ∀ y, fn (F := Ideal) x0 x1 x2 x3 x4 y = 1#1) :
    (∃ f, x0 = arrOf f) ∧ (∃ f, x1 = arrOf f) ∧ (∃ f, x2 = arrOf f) ∧ (∃ f, x3 = arrOf f) ∧ ∃ f, x4 = arrOf f := by
  have key : ∀ y, ((((Ideal.cmp .olt (max (x0 y : EReal) (-(x0 y : EReal))) (Ideal.ofBits .f32 0x7F800000#32) = 1#1
      ∧ Ideal.cmp .olt (max (x1 y : EReal) (-(x1 y : EReal))) (Ideal.ofBits .f32 0x7F800000#32) = 1#1)
      ∧ Ideal.cmp .olt (max (x2 y : EReal) (-(x2 y : EReal))) (Ideal.ofBits .f32 0x7F800000#32) = 1#1)
      ∧ Ideal.cmp .olt (max (x3 y : EReal) (-(x3 y : EReal))) (Ideal.ofBits .f32 0x7F800000#32) = 1#1)
      ∧ Ideal.cmp .olt (max (x4 y : EReal) (-(x4 y : EReal))) (Ideal.ofBits .f32 0x7F800000#32) = 1#1) := fun y => by
    obtain ⟨h3, h4⟩ := and_bits _ _ (h y)
    obtain ⟨h2, h3⟩ := and_bits _ _ h3
    obtain ⟨h1, h2⟩ := and_bits _ _ h2
    obtain ⟨h0, h1⟩ := and_bits _ _ h1
    exact ⟨⟨⟨⟨h0, h1⟩, h2⟩, h3⟩, h4⟩
  exact ⟨⟨_, arr_of_real _ fun y => real_of_below _ (key y).1.1.1.1⟩, ⟨_, arr_of_real _ fun y => real_of_below _ (key y).1.1.1.2⟩,
    ⟨_, arr_of_real _ fun y => real_of_below _ (key y).1.1.2⟩, ⟨_, arr_of_real _ fun y => real_of_below _ (key y).1.2⟩,
    ⟨_, arr_of_real _ fun y => real_of_below _ (key y).2⟩⟩

end Cert.Pre_finite
-- ==== Proof.RefOps.lean ====
/- The reference's operations, stretch by stretch: before each of its four loops, each loop's condition, each loop's body; that
   the program is these stretches in order; and which buffers each stretch writes. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 100000

noncomputable section

namespace Cert.ReferenceIdeal.Scan

open Idealize.ShloMosaic Idealize.ShloMosaic.TcCoe Idealize.SL.Sem
open Cert.ReferenceIdeal Cert.ReferenceIdeal.Gen

variable {F : FTy → Type} [FloatOps F]

/-- The operations before loop 0. -/
abbrev pre0 : List (HloOp τ sig (Elt F)) :=
  [ StableHlo.unary main_arg0 main_v0 ((extractStridedSlice S1x512 ![0, 0] · slices_S4096x512_S1x512_0_0) : (⟨S4096x512, .f32⟩ : BufTy).Contents (Elt F) → (⟨S1x512, .f32⟩ : BufTy).Contents (Elt F)),
    StableHlo.reshape main_v0 main_v1 (rfl : (.f32 : EltTy) = .f32) shapeCasts_S1x512_S512,
    StableHlo.nullary main_cst (constant S_ .f32 0x00000000#32),
    StableHlo.unary main_cst main_v2 (broadcastInDim S512 ![] bcast_S_S512 : (⟨S_, .f32⟩ : BufTy).Contents (Elt F) → (⟨S512, .f32⟩ : BufTy).Contents (Elt F)),
    StableHlo.nullary main_cst_0 (constant S_ .f32 0x00000000#32),
    StableHlo.unary main_cst_0 main_v3 (broadcastInDim S4096x512 ![] bcast_S_S4096x512 : (⟨S_, .f32⟩ : BufTy).Contents (Elt F) → (⟨S4096x512, .f32⟩ : BufTy).Contents (Elt F)),
    StableHlo.nullary main_cst_1 (constant S_ .f32 0x00000000#32),
    StableHlo.unary main_cst_1 main_v4 (broadcastInDim S4096x512 ![] bcast_S_S4096x512 : (⟨S_, .f32⟩ : BufTy).Contents (Elt F) → (⟨S4096x512, .f32⟩ : BufTy).Contents (Elt F)),
    StableHlo.nullary main_c (constantI S_ 32 0#32),
    StableHlo.unary main_arg0 main_v5_0 id,
    StableHlo.unary main_arg1 main_v5_1 id,
    StableHlo.unary main_c main_v5_2 id,
    StableHlo.unary main_v2 main_v5_3 id,
    StableHlo.unary main_v3 main_v5_4 id,
    StableHlo.unary main_v4 main_v5_5 id ]
/-- The buffers `pre0` writes, in order. -/
abbrev pre0_W : List (Ref sig .tc) := [main_v0, main_v1, main_cst, main_v2, main_cst_0, main_v3, main_cst_1, main_v4, main_c, main_v5_0, main_v5_1, main_v5_2, main_v5_3, main_v5_4, main_v5_5]
/-- They write only those buffers. -/
theorem pre0_writes : (pre0 : List (HloOp τ sig (Elt F))).Forall fun op => op.writes ⊆ (pre0_W.map (Proc.devRef (τ := τ) .tc)).toFinset :=
  StableHlo.forall_writes_sub_of_map rfl
/-- They leave no buffer of unknown contents. -/
theorem pre0_fresh : (pre0 : List (HloOp τ sig (Elt F))).Forall fun op => op.fresh = ∅ := StableHlo.forall_fresh_of_map rfl
/-- They use only the thread's own buffers. -/
theorem pre0_sub : (pre0 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩

/-- Loop 0's condition: the bound, and the counter compared with it. -/
abbrev cond0 : List (HloOp τ sig (Elt F)) :=
  [ StableHlo.nullary main_while0c_c_21 (constantI S_ 32 4096#32),
    StableHlo.binary main_v5_2 main_while0c_c_21 main_while0c_v22 (cmpi .slt : (⟨S_, .i32⟩ : BufTy).Contents (Elt F) → (⟨S_, .i32⟩ : BufTy).Contents (Elt F) → (⟨S_, .i1⟩ : BufTy).Contents (Elt F)) ]
/-- The buffers `cond0` writes, in order. -/
abbrev cond0_W : List (Ref sig .tc) := [main_while0c_c_21, main_while0c_v22]
/-- They write only those buffers. -/
theorem cond0_writes : (cond0 : List (HloOp τ sig (Elt F))).Forall fun op => op.writes ⊆ (cond0_W.map (Proc.devRef (τ := τ) .tc)).toFinset :=
  StableHlo.forall_writes_sub_of_map rfl
/-- They leave no buffer of unknown contents. -/
theorem cond0_fresh : (cond0 : List (HloOp τ sig (Elt F))).Forall fun op => op.fresh = ∅ := StableHlo.forall_fresh_of_map rfl
/-- They use only the thread's own buffers. -/
theorem cond0_sub : (cond0 : List (HloOp τ sig (Elt F))).Forall fun op => op.bufs ⊆ StableHlo.tcRefs τ sig :=
  ⟨StableHlo.nullary_bufs_sub .., StableHlo.binary_bufs_sub ..⟩

/-- One trip of loop 0. -/
abbrev body0 : List (HloOp τ sig (Elt F)) :=
  [ StableHlo.TRef.nullary (.of main_while0b_call0_c : StableHlo.TRef sig ⟨S_, .i32⟩) (constantI S_ 32 0#32),
    StableHlo.TRef.unaryIndexed (.of main_v5_0 : StableHlo.TRef sig ⟨S4096x512, .f32⟩) ![(.of main_v5_2 : StableHlo.TRef sig ⟨S_, .i32⟩), (.of main_while0b_call0_c : StableHlo.TRef sig ⟨S_, .i32⟩)] (.of main_while0b_call0_v0 : StableHlo.TRef sig ⟨S1x512, .f32⟩) (fun x i => Host.dynamicSlice S1x512 x (fun k => (i k (Shape.Idx.first h_S_)).toInt) sliceFits_S4096x512_S1x512),
    StableHlo.TRef.reshape (.of main_while0b_call0_v0 : StableHlo.TRef sig ⟨S1x512, .f32⟩) (.of main_while0b_v22 : StableHlo.TRef sig ⟨S512, .f32⟩) (rfl : (.f32 : EltTy) = .f32) shapeCasts_S1x512_S512,
    StableHlo.TRef.nullary (.of main_while0b_call1_c : StableHlo.TRef sig ⟨S_, .i32⟩) (constantI S_ 32 0#32),
    StableHlo.TRef.unaryIndexed (.of main_v5_1 : StableHlo.TRef sig ⟨S4096x512, .f32⟩) ![(.of main_v5_2 : StableHlo.TRef sig ⟨S_, .i32⟩), (.of main_while0b_call1_c : StableHlo.TRef sig ⟨S_, .i32⟩)] (.of main_while0b_call1_v0 : StableHlo.TRef sig ⟨S1x512, .f32⟩) (fun x i => Host.dynamicSlice S1x512 x (fun k => (i k (Shape.Idx.first h_S_)).toInt) sliceFits_S4096x512_S1x512),
    StableHlo.TRef.reshape (.of main_while0b_call1_v0 : StableHlo.TRef sig ⟨S1x512, .f32⟩) (.of main_while0b_v23 : StableHlo.TRef sig ⟨S512, .f32⟩) (rfl : (.f32 : EltTy) = .f32) shapeCasts_S1x512_S512,
    StableHlo.binary main_while0b_v22 main_v5_3 main_while0b_v24 (mulf : (⟨S512, .f32⟩ : BufTy).Contents (Elt F) → (⟨S512, .f32⟩ : BufTy).Contents (Elt F) → (⟨S512, .f32⟩ : BufTy).Contents (Elt F)),
    StableHlo.binary main_while0b_v24 main_while0b_v23 main_while0b_v25 (addf : (⟨S512, .f32⟩ : BufTy).Contents (Elt F) → (⟨S512, .f32⟩ : BufTy).Contents (Elt F) → (⟨S512, .f32⟩ : BufTy).Contents (Elt F)),
    StableHlo.TRef.unary (.of main_while0b_v25 : StableHlo.TRef sig ⟨S512, .f32⟩) (.of main_while0b_call2_v0 : StableHlo.TRef sig ⟨S1x512, .f32⟩) (broadcastInDim S1x512 ![1] bcast_S512_S1x512_1),
    StableHlo.TRef.nullary (.of main_while0b_call2_c : StableHlo.TRef sig ⟨S_, .i32⟩) (constantI S_ 32 0#32),
    StableHlo.TRef.binaryIndexed (.of main_v5_4 : StableHlo.TRef sig ⟨S4096x512, .f32⟩) (.of main_while0b_call2_v0 : StableHlo.TRef sig ⟨S1x512, .f32⟩) ![(.of main_v5_2 : StableHlo.TRef sig ⟨S_, .i32⟩), (.of main_while0b_call2_c : StableHlo.TRef sig ⟨S_, .i32⟩)] (.of main_while0b_v26 : StableHlo.TRef sig ⟨S4096x512, .f32⟩) (fun x u i => Host.dynamicUpdateSlice x u (fun k => (i k (Shape.Idx.first h_S_)).toInt) updateFits_S4096x512_S1x512),
    StableHlo.TRef.unary (.of main_v5_3 : StableHlo.TRef sig ⟨S512, .f32⟩) (.of main_while0b_call3_v0 : StableHlo.TRef sig ⟨S1x512, .f32⟩) (broadcastInDim S1x512 ![1] bcast_S512_S1x512_1),
    StableHlo.TRef.nullary (.of main_while0b_call3_c : StableHlo.TRef sig ⟨S_, .i32⟩) (constantI S_ 32 0#32),
    StableHlo.TRef.binaryIndexed (.of main_v5_5 : StableHlo.TRef sig ⟨S4096x512, .f32⟩) (.of main_while0b_call3_v0 : StableHlo.TRef sig ⟨S1x512, .f32⟩) ![(.of main_v5_2 : StableHlo.TRef sig ⟨S_, .i32⟩), (.of main_while0b_call3_c : StableHlo.TRef sig ⟨S_, .i32⟩)] (.of main_while0b_v27 : StableHlo.TRef sig ⟨S4096x512, .f32⟩) (fun x u i => Host.dynamicUpdateSlice x u (fun k => (i k (Shape.Idx.first h_S_)).toInt) updateFits_S4096x512_S1x512),
    StableHlo.nullary main_while0b_c_21 (constantI S_ 32 1#32),
    StableHlo.binary main_v5_2 main_while0b_c_21 main_while0b_v28 (addi : (⟨S_, .i32⟩ : BufTy).Contents (Elt F) → (⟨S_, .i32⟩ : BufTy).Contents (Elt F) → (⟨S_, .i32⟩ : BufTy).Contents (Elt F)),
    StableHlo.unary main_while0b_v28 main_v5_2 id,
    StableHlo.unary main_while0b_v25 main_v5_3 id,
    StableHlo.unary main_while0b_v26 main_v5_4 id,
    StableHlo.unary main_while0b_v27 main_v5_5 id ]
/-- The buffers `body0` writes, in order. -/
abbrev body0_W : List (Ref sig .tc) := [main_while0b_call0_c, main_while0b_call0_v0, main_while0b_v22, main_while0b_call1_c, main_while0b_call1_v0, main_while0b_v23, main_while0b_v24, main_while0b_v25, main_while0b_call2_v0, main_while0b_call2_c, main_while0b_v26, main_while0b_call3_v0, main_while0b_call3_c, main_while0b_v27, main_while0b_c_21, main_while0b_v28, main_v5_2, main_v5_3, main_v5_4, main_v5_5]
/-- They write only those buffers. -/
theorem body0_writes : (body0 : List (HloOp τ sig (Elt F))).Forall fun op => op.writes ⊆ (body0_W.map (Proc.devRef (τ := τ) .tc)).toFinset :=
  StableHlo.forall_writes_sub_of_map rfl
/-- They leave no buffer of unknown contents. -/
theorem body0_fresh : (body0 : List (HloOp τ sig (Elt F))).Forall fun op => op.fresh = ∅ := StableHlo.forall_fresh_of_map rfl
/-- They use only the thread's own buffers. -/
theorem body0_sub : (body0 : List (HloOp τ sig (Elt F))).Forall fun op => op.bufs ⊆ StableHlo.tcRefs τ sig :=
  ⟨StableHlo.nullary_bufs_sub .., StableHlo.unaryIndexed_bufs_sub .., StableHlo.reshape_bufs_sub .., StableHlo.nullary_bufs_sub .., StableHlo.unaryIndexed_bufs_sub .., StableHlo.reshape_bufs_sub .., StableHlo.binary_bufs_sub .., StableHlo.binary_bufs_sub .., StableHlo.unary_bufs_sub .., StableHlo.nullary_bufs_sub .., StableHlo.binaryIndexed_bufs_sub .., StableHlo.unary_bufs_sub .., StableHlo.nullary_bufs_sub .., StableHlo.binaryIndexed_bufs_sub .., StableHlo.nullary_bufs_sub .., StableHlo.binary_bufs_sub .., StableHlo.unary_bufs_sub .., StableHlo.unary_bufs_sub .., StableHlo.unary_bufs_sub .., StableHlo.unary_bufs_sub ..⟩

/-- The operations before loop 1. -/
abbrev pre1 : List (HloOp τ sig (Elt F)) :=
  [ StableHlo.unary main_arg2 main_v6 ((extractStridedSlice S1x512 ![0, 0] · slices_S4096x512_S1x512_0_0) : (⟨S4096x512, .f32⟩ : BufTy).Contents (Elt F) → (⟨S1x512, .f32⟩ : BufTy).Contents (Elt F)),
    StableHlo.reshape main_v6 main_v7 (rfl : (.f32 : EltTy) = .f32) shapeCasts_S1x512_S512,
    StableHlo.nullary main_cst_2 (constant S_ .f32 0x00000000#32),
    StableHlo.unary main_cst_2 main_v8 (broadcastInDim S512 ![] bcast_S_S512 : (⟨S_, .f32⟩ : BufTy).Contents (Elt F) → (⟨S512, .f32⟩ : BufTy).Contents (Elt F)),
    StableHlo.nullary main_cst_3 (constant S_ .f32 0x00000000#32),
    StableHlo.unary main_cst_3 main_v9 (broadcastInDim S4096x512 ![] bcast_S_S4096x512 : (⟨S_, .f32⟩ : BufTy).Contents (Elt F) → (⟨S4096x512, .f32⟩ : BufTy).Contents (Elt F)),
    StableHlo.nullary main_cst_4 (constant S_ .f32 0x00000000#32),
    StableHlo.unary main_cst_4 main_v10 (broadcastInDim S4096x512 ![] bcast_S_S4096x512 : (⟨S_, .f32⟩ : BufTy).Contents (Elt F) → (⟨S4096x512, .f32⟩ : BufTy).Contents (Elt F)),
    StableHlo.nullary main_c_5 (constantI S_ 32 0#32),
    StableHlo.unary main_arg2 main_v11_0 id,
    StableHlo.unary main_arg3 main_v11_1 id,
    StableHlo.unary main_c_5 main_v11_2 id,
    StableHlo.unary main_v8 main_v11_3 id,
    StableHlo.unary main_v9 main_v11_4 id,
    StableHlo.unary main_v10 main_v11_5 id ]
/-- The buffers `pre1` writes, in order. -/
abbrev pre1_W : List (Ref sig .tc) := [main_v6, main_v7, main_cst_2, main_v8, main_cst_3, main_v9, main_cst_4, main_v10, main_c_5, main_v11_0, main_v11_1, main_v11_2, main_v11_3, main_v11_4, main_v11_5]
/-- They write only those buffers. -/
theorem pre1_writes : (pre1 : List (HloOp τ sig (Elt F))).Forall fun op => op.writes ⊆ (pre1_W.map (Proc.devRef (τ := τ) .tc)).toFinset :=
  StableHlo.forall_writes_sub_of_map rfl
/-- They leave no buffer of unknown contents. -/
theorem pre1_fresh : (pre1 : List (HloOp τ sig (Elt F))).Forall fun op => op.fresh = ∅ := StableHlo.forall_fresh_of_map rfl
/-- They use only the thread's own buffers. -/
theorem pre1_sub : (pre1 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩

/-- Loop 1's condition: the bound, and the counter compared with it. -/
abbrev cond1 : List (HloOp τ sig (Elt F)) :=
  [ StableHlo.nullary main_while1c_c_21 (constantI S_ 32 4096#32),
    StableHlo.binary main_v11_2 main_while1c_c_21 main_while1c_v22 (cmpi .slt : (⟨S_, .i32⟩ : BufTy).Contents (Elt F) → (⟨S_, .i32⟩ : BufTy).Contents (Elt F) → (⟨S_, .i1⟩ : BufTy).Contents (Elt F)) ]
/-- The buffers `cond1` writes, in order. -/
abbrev cond1_W : List (Ref sig .tc) := [main_while1c_c_21, main_while1c_v22]
/-- They write only those buffers. -/
theorem cond1_writes : (cond1 : List (HloOp τ sig (Elt F))).Forall fun op => op.writes ⊆ (cond1_W.map (Proc.devRef (τ := τ) .tc)).toFinset :=
  StableHlo.forall_writes_sub_of_map rfl
/-- They leave no buffer of unknown contents. -/
theorem cond1_fresh : (cond1 : List (HloOp τ sig (Elt F))).Forall fun op => op.fresh = ∅ := StableHlo.forall_fresh_of_map rfl
/-- They use only the thread's own buffers. -/
theorem cond1_sub : (cond1 : List (HloOp τ sig (Elt F))).Forall fun op => op.bufs ⊆ StableHlo.tcRefs τ sig :=
  ⟨StableHlo.nullary_bufs_sub .., StableHlo.binary_bufs_sub ..⟩

/-- One trip of loop 1. -/
abbrev body1 : List (HloOp τ sig (Elt F)) :=
  [ StableHlo.nullary main_while1b_c_21 (constantI S_ 32 4096#32),
    StableHlo.binary main_while1b_c_21 main_v11_2 main_while1b_v22 (subi : (⟨S_, .i32⟩ : BufTy).Contents (Elt F) → (⟨S_, .i32⟩ : BufTy).Contents (Elt F) → (⟨S_, .i32⟩ : BufTy).Contents (Elt F)),
    StableHlo.nullary main_while1b_c_22 (constantI S_ 32 1#32),
    StableHlo.binary main_while1b_v22 main_while1b_c_22 main_while1b_v23 (subi : (⟨S_, .i32⟩ : BufTy).Contents (Elt F) → (⟨S_, .i32⟩ : BufTy).Contents (Elt F) → (⟨S_, .i32⟩ : BufTy).Contents (Elt F)),
    StableHlo.TRef.nullary (.of main_while1b_call4_c : StableHlo.TRef sig ⟨S_, .i32⟩) (constantI S_ 32 0#32),
    StableHlo.TRef.unaryIndexed (.of main_v11_0 : StableHlo.TRef sig ⟨S4096x512, .f32⟩) ![(.of main_while1b_v23 : StableHlo.TRef sig ⟨S_, .i32⟩), (.of main_while1b_call4_c : StableHlo.TRef sig ⟨S_, .i32⟩)] (.of main_while1b_call4_v0 : StableHlo.TRef sig ⟨S1x512, .f32⟩) (fun x i => Host.dynamicSlice S1x512 x (fun k => (i k (Shape.Idx.first h_S_)).toInt) sliceFits_S4096x512_S1x512),
    StableHlo.TRef.reshape (.of main_while1b_call4_v0 : StableHlo.TRef sig ⟨S1x512, .f32⟩) (.of main_while1b_v24 : StableHlo.TRef sig ⟨S512, .f32⟩) (rfl : (.f32 : EltTy) = .f32) shapeCasts_S1x512_S512,
    StableHlo.TRef.nullary (.of main_while1b_call5_c : StableHlo.TRef sig ⟨S_, .i32⟩) (constantI S_ 32 0#32),
    StableHlo.TRef.unaryIndexed (.of main_v11_1 : StableHlo.TRef sig ⟨S4096x512, .f32⟩) ![(.of main_while1b_v23 : StableHlo.TRef sig ⟨S_, .i32⟩), (.of main_while1b_call5_c : StableHlo.TRef sig ⟨S_, .i32⟩)] (.of main_while1b_call5_v0 : StableHlo.TRef sig ⟨S1x512, .f32⟩) (fun x i => Host.dynamicSlice S1x512 x (fun k => (i k (Shape.Idx.first h_S_)).toInt) sliceFits_S4096x512_S1x512),
    StableHlo.TRef.reshape (.of main_while1b_call5_v0 : StableHlo.TRef sig ⟨S1x512, .f32⟩) (.of main_while1b_v25 : StableHlo.TRef sig ⟨S512, .f32⟩) (rfl : (.f32 : EltTy) = .f32) shapeCasts_S1x512_S512,
    StableHlo.binary main_while1b_v24 main_v11_3 main_while1b_v26 (mulf : (⟨S512, .f32⟩ : BufTy).Contents (Elt F) → (⟨S512, .f32⟩ : BufTy).Contents (Elt F) → (⟨S512, .f32⟩ : BufTy).Contents (Elt F)),
    StableHlo.binary main_while1b_v26 main_while1b_v25 main_while1b_v27 (addf : (⟨S512, .f32⟩ : BufTy).Contents (Elt F) → (⟨S512, .f32⟩ : BufTy).Contents (Elt F) → (⟨S512, .f32⟩ : BufTy).Contents (Elt F)),
    StableHlo.TRef.unary (.of main_while1b_v27 : StableHlo.TRef sig ⟨S512, .f32⟩) (.of main_while1b_call6_v0 : StableHlo.TRef sig ⟨S1x512, .f32⟩) (broadcastInDim S1x512 ![1] bcast_S512_S1x512_1),
    StableHlo.TRef.nullary (.of main_while1b_call6_c : StableHlo.TRef sig ⟨S_, .i32⟩) (constantI S_ 32 0#32),
    StableHlo.TRef.binaryIndexed (.of main_v11_4 : StableHlo.TRef sig ⟨S4096x512, .f32⟩) (.of main_while1b_call6_v0 : StableHlo.TRef sig ⟨S1x512, .f32⟩) ![(.of main_while1b_v23 : StableHlo.TRef sig ⟨S_, .i32⟩), (.of main_while1b_call6_c : StableHlo.TRef sig ⟨S_, .i32⟩)] (.of main_while1b_v28 : StableHlo.TRef sig ⟨S4096x512, .f32⟩) (fun x u i => Host.dynamicUpdateSlice x u (fun k => (i k (Shape.Idx.first h_S_)).toInt) updateFits_S4096x512_S1x512),
    StableHlo.TRef.unary (.of main_v11_3 : StableHlo.TRef sig ⟨S512, .f32⟩) (.of main_while1b_call7_v0 : StableHlo.TRef sig ⟨S1x512, .f32⟩) (broadcastInDim S1x512 ![1] bcast_S512_S1x512_1),
    StableHlo.TRef.nullary (.of main_while1b_call7_c : StableHlo.TRef sig ⟨S_, .i32⟩) (constantI S_ 32 0#32),
    StableHlo.TRef.binaryIndexed (.of main_v11_5 : StableHlo.TRef sig ⟨S4096x512, .f32⟩) (.of main_while1b_call7_v0 : StableHlo.TRef sig ⟨S1x512, .f32⟩) ![(.of main_while1b_v23 : StableHlo.TRef sig ⟨S_, .i32⟩), (.of main_while1b_call7_c : StableHlo.TRef sig ⟨S_, .i32⟩)] (.of main_while1b_v29 : StableHlo.TRef sig ⟨S4096x512, .f32⟩) (fun x u i => Host.dynamicUpdateSlice x u (fun k => (i k (Shape.Idx.first h_S_)).toInt) updateFits_S4096x512_S1x512),
    StableHlo.nullary main_while1b_c_23 (constantI S_ 32 1#32),
    StableHlo.binary main_v11_2 main_while1b_c_23 main_while1b_v30 (addi : (⟨S_, .i32⟩ : BufTy).Contents (Elt F) → (⟨S_, .i32⟩ : BufTy).Contents (Elt F) → (⟨S_, .i32⟩ : BufTy).Contents (Elt F)),
    StableHlo.unary main_while1b_v30 main_v11_2 id,
    StableHlo.unary main_while1b_v27 main_v11_3 id,
    StableHlo.unary main_while1b_v28 main_v11_4 id,
    StableHlo.unary main_while1b_v29 main_v11_5 id ]
/-- The buffers `body1` writes, in order. -/
abbrev body1_W : List (Ref sig .tc) := [main_while1b_c_21, main_while1b_v22, main_while1b_c_22, main_while1b_v23, main_while1b_call4_c, main_while1b_call4_v0, main_while1b_v24, main_while1b_call5_c, main_while1b_call5_v0, main_while1b_v25, main_while1b_v26, main_while1b_v27, main_while1b_call6_v0, main_while1b_call6_c, main_while1b_v28, main_while1b_call7_v0, main_while1b_call7_c, main_while1b_v29, main_while1b_c_23, main_while1b_v30, main_v11_2, main_v11_3, main_v11_4, main_v11_5]
/-- They write only those buffers. -/
theorem body1_writes : (body1 : List (HloOp τ sig (Elt F))).Forall fun op => op.writes ⊆ (body1_W.map (Proc.devRef (τ := τ) .tc)).toFinset :=
  StableHlo.forall_writes_sub_of_map rfl
/-- They leave no buffer of unknown contents. -/
theorem body1_fresh : (body1 : List (HloOp τ sig (Elt F))).Forall fun op => op.fresh = ∅ := StableHlo.forall_fresh_of_map rfl
/-- They use only the thread's own buffers. -/
theorem body1_sub : (body1 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.nullary_bufs_sub .., StableHlo.unaryIndexed_bufs_sub .., StableHlo.reshape_bufs_sub .., StableHlo.nullary_bufs_sub .., StableHlo.unaryIndexed_bufs_sub .., StableHlo.reshape_bufs_sub .., StableHlo.binary_bufs_sub .., StableHlo.binary_bufs_sub .., StableHlo.unary_bufs_sub .., StableHlo.nullary_bufs_sub .., StableHlo.binaryIndexed_bufs_sub .., StableHlo.unary_bufs_sub .., StableHlo.nullary_bufs_sub .., StableHlo.binaryIndexed_bufs_sub .., StableHlo.nullary_bufs_sub .., StableHlo.binary_bufs_sub .., StableHlo.unary_bufs_sub .., StableHlo.unary_bufs_sub .., StableHlo.unary_bufs_sub .., StableHlo.unary_bufs_sub ..⟩

/-- The operations before loop 2. -/
abbrev pre2 : List (HloOp τ sig (Elt F)) :=
  [ StableHlo.nullary main_cst_6 (constant S_ .f32 0x00000000#32),
    StableHlo.unary main_cst_6 main_v12 (broadcastInDim S512 ![] bcast_S_S512 : (⟨S_, .f32⟩ : BufTy).Contents (Elt F) → (⟨S512, .f32⟩ : BufTy).Contents (Elt F)),
    StableHlo.nullary main_cst_7 (constant S_ .f32 0x00000000#32),
    StableHlo.unary main_cst_7 main_v13 (broadcastInDim S512 ![] bcast_S_S512 : (⟨S_, .f32⟩ : BufTy).Contents (Elt F) → (⟨S512, .f32⟩ : BufTy).Contents (Elt F)),
    StableHlo.nullary main_cst_8 (constant S_ .f32 0x00000000#32),
    StableHlo.unary main_cst_8 main_v14 (broadcastInDim S512 ![] bcast_S_S512 : (⟨S_, .f32⟩ : BufTy).Contents (Elt F) → (⟨S512, .f32⟩ : BufTy).Contents (Elt F)),
    StableHlo.nullary main_cst_9 (constant S_ .f32 0x00000000#32),
    StableHlo.unary main_cst_9 main_v15 (broadcastInDim S4096x512 ![] bcast_S_S4096x512 : (⟨S_, .f32⟩ : BufTy).Contents (Elt F) → (⟨S4096x512, .f32⟩ : BufTy).Contents (Elt F)),
    StableHlo.nullary main_cst_10 (constant S_ .f32 0x00000000#32),
    StableHlo.unary main_cst_10 main_v16 (broadcastInDim S4096x512 ![] bcast_S_S4096x512 : (⟨S_, .f32⟩ : BufTy).Contents (Elt F) → (⟨S4096x512, .f32⟩ : BufTy).Contents (Elt F)),
    StableHlo.nullary main_c_11 (constantI S_ 32 0#32),
    StableHlo.unary main_arg4 main_v17_0 id,
    StableHlo.unary main_v11_5 main_v17_1 id,
    StableHlo.unary main_arg2 main_v17_2 id,
    StableHlo.unary main_c_11 main_v17_3 id,
    StableHlo.unary main_v14 main_v17_4 id,
    StableHlo.unary main_v15 main_v17_5 id,
    StableHlo.unary main_v16 main_v17_6 id ]
/-- The buffers `pre2` writes, in order. -/
abbrev pre2_W : List (Ref sig .tc) := [main_cst_6, main_v12, main_cst_7, main_v13, main_cst_8, main_v14, main_cst_9, main_v15, main_cst_10, main_v16, main_c_11, main_v17_0, main_v17_1, main_v17_2, main_v17_3, main_v17_4, main_v17_5, main_v17_6]
/-- They write only those buffers. -/
theorem pre2_writes : (pre2 : List (HloOp τ sig (Elt F))).Forall fun op => op.writes ⊆ (pre2_W.map (Proc.devRef (τ := τ) .tc)).toFinset :=
  StableHlo.forall_writes_sub_of_map rfl
/-- They leave no buffer of unknown contents. -/
theorem pre2_fresh : (pre2 : List (HloOp τ sig (Elt F))).Forall fun op => op.fresh = ∅ := StableHlo.forall_fresh_of_map rfl
/-- They use only the thread's own buffers. -/
theorem pre2_sub : (pre2 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- Loop 2's condition: the bound, and the counter compared with it. -/
abbrev cond2 : List (HloOp τ sig (Elt F)) :=
  [ StableHlo.nullary main_while2c_c_22 (constantI S_ 32 4096#32),
    StableHlo.binary main_v17_3 main_while2c_c_22 main_while2c_v22 (cmpi .slt : (⟨S_, .i32⟩ : BufTy).Contents (Elt F) → (⟨S_, .i32⟩ : BufTy).Contents (Elt F) → (⟨S_, .i1⟩ : BufTy).Contents (Elt F)) ]
/-- The buffers `cond2` writes, in order. -/
abbrev cond2_W : List (Ref sig .tc) := [main_while2c_c_22, main_while2c_v22]
/-- They write only those buffers. -/
theorem cond2_writes : (cond2 : List (HloOp τ sig (Elt F))).Forall fun op => op.writes ⊆ (cond2_W.map (Proc.devRef (τ := τ) .tc)).toFinset :=
  StableHlo.forall_writes_sub_of_map rfl
/-- They leave no buffer of unknown contents. -/
theorem cond2_fresh : (cond2 : List (HloOp τ sig (Elt F))).Forall fun op => op.fresh = ∅ := StableHlo.forall_fresh_of_map rfl
/-- They use only the thread's own buffers. -/
theorem cond2_sub : (cond2 : List (HloOp τ sig (Elt F))).Forall fun op => op.bufs ⊆ StableHlo.tcRefs τ sig :=
  ⟨StableHlo.nullary_bufs_sub .., StableHlo.binary_bufs_sub ..⟩

/-- One trip of loop 2. -/
abbrev body2 : List (HloOp τ sig (Elt F)) :=
  [ StableHlo.TRef.nullary (.of main_while2b_call8_c : StableHlo.TRef sig ⟨S_, .i32⟩) (constantI S_ 32 0#32),
    StableHlo.TRef.unaryIndexed (.of main_v17_0 : StableHlo.TRef sig ⟨S4096x512, .f32⟩) ![(.of main_v17_3 : StableHlo.TRef sig ⟨S_, .i32⟩), (.of main_while2b_call8_c : StableHlo.TRef sig ⟨S_, .i32⟩)] (.of main_while2b_call8_v0 : StableHlo.TRef sig ⟨S1x512, .f32⟩) (fun x i => Host.dynamicSlice S1x512 x (fun k => (i k (Shape.Idx.first h_S_)).toInt) sliceFits_S4096x512_S1x512),
    StableHlo.TRef.reshape (.of main_while2b_call8_v0 : StableHlo.TRef sig ⟨S1x512, .f32⟩) (.of main_while2b_v22 : StableHlo.TRef sig ⟨S512, .f32⟩) (rfl : (.f32 : EltTy) = .f32) shapeCasts_S1x512_S512,
    StableHlo.TRef.nullary (.of main_while2b_call9_c : StableHlo.TRef sig ⟨S_, .i32⟩) (constantI S_ 32 0#32),
    StableHlo.TRef.unaryIndexed (.of main_v17_1 : StableHlo.TRef sig ⟨S4096x512, .f32⟩) ![(.of main_v17_3 : StableHlo.TRef sig ⟨S_, .i32⟩), (.of main_while2b_call9_c : StableHlo.TRef sig ⟨S_, .i32⟩)] (.of main_while2b_call9_v0 : StableHlo.TRef sig ⟨S1x512, .f32⟩) (fun x i => Host.dynamicSlice S1x512 x (fun k => (i k (Shape.Idx.first h_S_)).toInt) sliceFits_S4096x512_S1x512),
    StableHlo.TRef.reshape (.of main_while2b_call9_v0 : StableHlo.TRef sig ⟨S1x512, .f32⟩) (.of main_while2b_v23 : StableHlo.TRef sig ⟨S512, .f32⟩) (rfl : (.f32 : EltTy) = .f32) shapeCasts_S1x512_S512,
    StableHlo.TRef.nullary (.of main_while2b_call10_c : StableHlo.TRef sig ⟨S_, .i32⟩) (constantI S_ 32 0#32),
    StableHlo.TRef.unaryIndexed (.of main_v17_2 : StableHlo.TRef sig ⟨S4096x512, .f32⟩) ![(.of main_v17_3 : StableHlo.TRef sig ⟨S_, .i32⟩), (.of main_while2b_call10_c : StableHlo.TRef sig ⟨S_, .i32⟩)] (.of main_while2b_call10_v0 : StableHlo.TRef sig ⟨S1x512, .f32⟩) (fun x i => Host.dynamicSlice S1x512 x (fun k => (i k (Shape.Idx.first h_S_)).toInt) sliceFits_S4096x512_S1x512),
    StableHlo.TRef.reshape (.of main_while2b_call10_v0 : StableHlo.TRef sig ⟨S1x512, .f32⟩) (.of main_while2b_v24 : StableHlo.TRef sig ⟨S512, .f32⟩) (rfl : (.f32 : EltTy) = .f32) shapeCasts_S1x512_S512,
    StableHlo.binary main_v17_4 main_while2b_v22 main_while2b_v25 (addf : (⟨S512, .f32⟩ : BufTy).Contents (Elt F) → (⟨S512, .f32⟩ : BufTy).Contents (Elt F) → (⟨S512, .f32⟩ : BufTy).Contents (Elt F)),
    StableHlo.binary main_while2b_v24 main_while2b_v25 main_while2b_v26 (mulf : (⟨S512, .f32⟩ : BufTy).Contents (Elt F) → (⟨S512, .f32⟩ : BufTy).Contents (Elt F) → (⟨S512, .f32⟩ : BufTy).Contents (Elt F)),
    StableHlo.binary main_while2b_v25 main_while2b_v23 main_while2b_v27 (mulf : (⟨S512, .f32⟩ : BufTy).Contents (Elt F) → (⟨S512, .f32⟩ : BufTy).Contents (Elt F) → (⟨S512, .f32⟩ : BufTy).Contents (Elt F)),
    StableHlo.TRef.unary (.of main_while2b_v27 : StableHlo.TRef sig ⟨S512, .f32⟩) (.of main_while2b_call11_v0 : StableHlo.TRef sig ⟨S1x512, .f32⟩) (broadcastInDim S1x512 ![1] bcast_S512_S1x512_1),
    StableHlo.TRef.nullary (.of main_while2b_call11_c : StableHlo.TRef sig ⟨S_, .i32⟩) (constantI S_ 32 0#32),
    StableHlo.TRef.binaryIndexed (.of main_v17_5 : StableHlo.TRef sig ⟨S4096x512, .f32⟩) (.of main_while2b_call11_v0 : StableHlo.TRef sig ⟨S1x512, .f32⟩) ![(.of main_v17_3 : StableHlo.TRef sig ⟨S_, .i32⟩), (.of main_while2b_call11_c : StableHlo.TRef sig ⟨S_, .i32⟩)] (.of main_while2b_v28 : StableHlo.TRef sig ⟨S4096x512, .f32⟩) (fun x u i => Host.dynamicUpdateSlice x u (fun k => (i k (Shape.Idx.first h_S_)).toInt) updateFits_S4096x512_S1x512),
    StableHlo.TRef.unary (.of main_while2b_v25 : StableHlo.TRef sig ⟨S512, .f32⟩) (.of main_while2b_call12_v0 : StableHlo.TRef sig ⟨S1x512, .f32⟩) (broadcastInDim S1x512 ![1] bcast_S512_S1x512_1),
    StableHlo.TRef.nullary (.of main_while2b_call12_c : StableHlo.TRef sig ⟨S_, .i32⟩) (constantI S_ 32 0#32),
    StableHlo.TRef.binaryIndexed (.of main_v17_6 : StableHlo.TRef sig ⟨S4096x512, .f32⟩) (.of main_while2b_call12_v0 : StableHlo.TRef sig ⟨S1x512, .f32⟩) ![(.of main_v17_3 : StableHlo.TRef sig ⟨S_, .i32⟩), (.of main_while2b_call12_c : StableHlo.TRef sig ⟨S_, .i32⟩)] (.of main_while2b_v29 : StableHlo.TRef sig ⟨S4096x512, .f32⟩) (fun x u i => Host.dynamicUpdateSlice x u (fun k => (i k (Shape.Idx.first h_S_)).toInt) updateFits_S4096x512_S1x512),
    StableHlo.nullary main_while2b_c_22 (constantI S_ 32 1#32),
    StableHlo.binary main_v17_3 main_while2b_c_22 main_while2b_v30 (addi : (⟨S_, .i32⟩ : BufTy).Contents (Elt F) → (⟨S_, .i32⟩ : BufTy).Contents (Elt F) → (⟨S_, .i32⟩ : BufTy).Contents (Elt F)),
    StableHlo.unary main_while2b_v30 main_v17_3 id,
    StableHlo.unary main_while2b_v26 main_v17_4 id,
    StableHlo.unary main_while2b_v28 main_v17_5 id,
    StableHlo.unary main_while2b_v29 main_v17_6 id ]
/-- The buffers `body2` writes, in order. -/
abbrev body2_W : List (Ref sig .tc) := [main_while2b_call8_c, main_while2b_call8_v0, main_while2b_v22, main_while2b_call9_c, main_while2b_call9_v0, main_while2b_v23, main_while2b_call10_c, main_while2b_call10_v0, main_while2b_v24, main_while2b_v25, main_while2b_v26, main_while2b_v27, main_while2b_call11_v0, main_while2b_call11_c, main_while2b_v28, main_while2b_call12_v0, main_while2b_call12_c, main_while2b_v29, main_while2b_c_22, main_while2b_v30, main_v17_3, main_v17_4, main_v17_5, main_v17_6]
/-- They write only those buffers. -/
theorem body2_writes : (body2 : List (HloOp τ sig (Elt F))).Forall fun op => op.writes ⊆ (body2_W.map (Proc.devRef (τ := τ) .tc)).toFinset :=
  StableHlo.forall_writes_sub_of_map rfl
/-- They leave no buffer of unknown contents. -/
theorem body2_fresh : (body2 : List (HloOp τ sig (Elt F))).Forall fun op => op.fresh = ∅ := StableHlo.forall_fresh_of_map rfl
/-- They use only the thread's own buffers. -/
theorem body2_sub : (body2 : List (HloOp τ sig (Elt F))).Forall fun op => op.bufs ⊆ StableHlo.tcRefs τ sig :=
  ⟨StableHlo.nullary_bufs_sub .., StableHlo.unaryIndexed_bufs_sub .., StableHlo.reshape_bufs_sub .., StableHlo.nullary_bufs_sub .., StableHlo.unaryIndexed_bufs_sub .., StableHlo.reshape_bufs_sub .., StableHlo.nullary_bufs_sub .., StableHlo.unaryIndexed_bufs_sub .., StableHlo.reshape_bufs_sub .., StableHlo.binary_bufs_sub .., StableHlo.binary_bufs_sub .., StableHlo.binary_bufs_sub .., StableHlo.unary_bufs_sub .., StableHlo.nullary_bufs_sub .., StableHlo.binaryIndexed_bufs_sub .., StableHlo.unary_bufs_sub .., StableHlo.nullary_bufs_sub .., StableHlo.binaryIndexed_bufs_sub .., StableHlo.nullary_bufs_sub .., StableHlo.binary_bufs_sub .., StableHlo.unary_bufs_sub .., StableHlo.unary_bufs_sub .., StableHlo.unary_bufs_sub .., StableHlo.unary_bufs_sub ..⟩

/-- The operations before loop 3. -/
abbrev pre3 : List (HloOp τ sig (Elt F)) :=
  [ StableHlo.nullary main_cst_12 (constant S_ .f32 0x00000000#32),
    StableHlo.unary main_cst_12 main_v18 (broadcastInDim S512 ![] bcast_S_S512 : (⟨S_, .f32⟩ : BufTy).Contents (Elt F) → (⟨S512, .f32⟩ : BufTy).Contents (Elt F)),
    StableHlo.nullary main_cst_13 (constant S_ .f32 0x00000000#32),
    StableHlo.unary main_cst_13 main_v19 (broadcastInDim S4096x512 ![] bcast_S_S4096x512 : (⟨S_, .f32⟩ : BufTy).Contents (Elt F) → (⟨S4096x512, .f32⟩ : BufTy).Contents (Elt F)),
    StableHlo.nullary main_cst_14 (constant S_ .f32 0x00000000#32),
    StableHlo.unary main_cst_14 main_v20 (broadcastInDim S4096x512 ![] bcast_S_S4096x512 : (⟨S_, .f32⟩ : BufTy).Contents (Elt F) → (⟨S4096x512, .f32⟩ : BufTy).Contents (Elt F)),
    StableHlo.nullary main_c_15 (constantI S_ 32 0#32),
    StableHlo.unary main_arg4 main_v21_0 id,
    StableHlo.unary main_v5_5 main_v21_1 id,
    StableHlo.unary main_arg0 main_v21_2 id,
    StableHlo.unary main_c_15 main_v21_3 id,
    StableHlo.unary main_v18 main_v21_4 id,
    StableHlo.unary main_v19 main_v21_5 id,
    StableHlo.unary main_v20 main_v21_6 id ]
/-- The buffers `pre3` writes, in order. -/
abbrev pre3_W : List (Ref sig .tc) := [main_cst_12, main_v18, main_cst_13, main_v19, main_cst_14, main_v20, main_c_15, main_v21_0, main_v21_1, main_v21_2, main_v21_3, main_v21_4, main_v21_5, main_v21_6]
/-- They write only those buffers. -/
theorem pre3_writes : (pre3 : List (HloOp τ sig (Elt F))).Forall fun op => op.writes ⊆ (pre3_W.map (Proc.devRef (τ := τ) .tc)).toFinset :=
  StableHlo.forall_writes_sub_of_map rfl
/-- They leave no buffer of unknown contents. -/
theorem pre3_fresh : (pre3 : List (HloOp τ sig (Elt F))).Forall fun op => op.fresh = ∅ := StableHlo.forall_fresh_of_map rfl
/-- They use only the thread's own buffers. -/
theorem pre3_sub : (pre3 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩

/-- Loop 3's condition: the bound, and the counter compared with it. -/
abbrev cond3 : List (HloOp τ sig (Elt F)) :=
  [ StableHlo.nullary main_while3c_c_22 (constantI S_ 32 4096#32),
    StableHlo.binary main_v21_3 main_while3c_c_22 main_while3c_v22 (cmpi .slt : (⟨S_, .i32⟩ : BufTy).Contents (Elt F) → (⟨S_, .i32⟩ : BufTy).Contents (Elt F) → (⟨S_, .i1⟩ : BufTy).Contents (Elt F)) ]
/-- The buffers `cond3` writes, in order. -/
abbrev cond3_W : List (Ref sig .tc) := [main_while3c_c_22, main_while3c_v22]
/-- They write only those buffers. -/
theorem cond3_writes : (cond3 : List (HloOp τ sig (Elt F))).Forall fun op => op.writes ⊆ (cond3_W.map (Proc.devRef (τ := τ) .tc)).toFinset :=
  StableHlo.forall_writes_sub_of_map rfl
/-- They leave no buffer of unknown contents. -/
theorem cond3_fresh : (cond3 : List (HloOp τ sig (Elt F))).Forall fun op => op.fresh = ∅ := StableHlo.forall_fresh_of_map rfl
/-- They use only the thread's own buffers. -/
theorem cond3_sub : (cond3 : List (HloOp τ sig (Elt F))).Forall fun op => op.bufs ⊆ StableHlo.tcRefs τ sig :=
  ⟨StableHlo.nullary_bufs_sub .., StableHlo.binary_bufs_sub ..⟩

/-- One trip of loop 3. -/
abbrev body3 : List (HloOp τ sig (Elt F)) :=
  [ StableHlo.nullary main_while3b_c_22 (constantI S_ 32 4096#32),
    StableHlo.binary main_while3b_c_22 main_v21_3 main_while3b_v22 (subi : (⟨S_, .i32⟩ : BufTy).Contents (Elt F) → (⟨S_, .i32⟩ : BufTy).Contents (Elt F) → (⟨S_, .i32⟩ : BufTy).Contents (Elt F)),
    StableHlo.nullary main_while3b_c_23 (constantI S_ 32 1#32),
    StableHlo.binary main_while3b_v22 main_while3b_c_23 main_while3b_v23 (subi : (⟨S_, .i32⟩ : BufTy).Contents (Elt F) → (⟨S_, .i32⟩ : BufTy).Contents (Elt F) → (⟨S_, .i32⟩ : BufTy).Contents (Elt F)),
    StableHlo.TRef.nullary (.of main_while3b_call13_c : StableHlo.TRef sig ⟨S_, .i32⟩) (constantI S_ 32 0#32),
    StableHlo.TRef.unaryIndexed (.of main_v21_0 : StableHlo.TRef sig ⟨S4096x512, .f32⟩) ![(.of main_while3b_v23 : StableHlo.TRef sig ⟨S_, .i32⟩), (.of main_while3b_call13_c : StableHlo.TRef sig ⟨S_, .i32⟩)] (.of main_while3b_call13_v0 : StableHlo.TRef sig ⟨S1x512, .f32⟩) (fun x i => Host.dynamicSlice S1x512 x (fun k => (i k (Shape.Idx.first h_S_)).toInt) sliceFits_S4096x512_S1x512),
    StableHlo.TRef.reshape (.of main_while3b_call13_v0 : StableHlo.TRef sig ⟨S1x512, .f32⟩) (.of main_while3b_v24 : StableHlo.TRef sig ⟨S512, .f32⟩) (rfl : (.f32 : EltTy) = .f32) shapeCasts_S1x512_S512,
    StableHlo.TRef.nullary (.of main_while3b_call14_c : StableHlo.TRef sig ⟨S_, .i32⟩) (constantI S_ 32 0#32),
    StableHlo.TRef.unaryIndexed (.of main_v21_1 : StableHlo.TRef sig ⟨S4096x512, .f32⟩) ![(.of main_while3b_v23 : StableHlo.TRef sig ⟨S_, .i32⟩), (.of main_while3b_call14_c : StableHlo.TRef sig ⟨S_, .i32⟩)] (.of main_while3b_call14_v0 : StableHlo.TRef sig ⟨S1x512, .f32⟩) (fun x i => Host.dynamicSlice S1x512 x (fun k => (i k (Shape.Idx.first h_S_)).toInt) sliceFits_S4096x512_S1x512),
    StableHlo.TRef.reshape (.of main_while3b_call14_v0 : StableHlo.TRef sig ⟨S1x512, .f32⟩) (.of main_while3b_v25 : StableHlo.TRef sig ⟨S512, .f32⟩) (rfl : (.f32 : EltTy) = .f32) shapeCasts_S1x512_S512,
    StableHlo.TRef.nullary (.of main_while3b_call15_c : StableHlo.TRef sig ⟨S_, .i32⟩) (constantI S_ 32 0#32),
    StableHlo.TRef.unaryIndexed (.of main_v21_2 : StableHlo.TRef sig ⟨S4096x512, .f32⟩) ![(.of main_while3b_v23 : StableHlo.TRef sig ⟨S_, .i32⟩), (.of main_while3b_call15_c : StableHlo.TRef sig ⟨S_, .i32⟩)] (.of main_while3b_call15_v0 : StableHlo.TRef sig ⟨S1x512, .f32⟩) (fun x i => Host.dynamicSlice S1x512 x (fun k => (i k (Shape.Idx.first h_S_)).toInt) sliceFits_S4096x512_S1x512),
    StableHlo.TRef.reshape (.of main_while3b_call15_v0 : StableHlo.TRef sig ⟨S1x512, .f32⟩) (.of main_while3b_v26 : StableHlo.TRef sig ⟨S512, .f32⟩) (rfl : (.f32 : EltTy) = .f32) shapeCasts_S1x512_S512,
    StableHlo.binary main_v21_4 main_while3b_v24 main_while3b_v27 (addf : (⟨S512, .f32⟩ : BufTy).Contents (Elt F) → (⟨S512, .f32⟩ : BufTy).Contents (Elt F) → (⟨S512, .f32⟩ : BufTy).Contents (Elt F)),
    StableHlo.binary main_while3b_v26 main_while3b_v27 main_while3b_v28 (mulf : (⟨S512, .f32⟩ : BufTy).Contents (Elt F) → (⟨S512, .f32⟩ : BufTy).Contents (Elt F) → (⟨S512, .f32⟩ : BufTy).Contents (Elt F)),
    StableHlo.binary main_while3b_v27 main_while3b_v25 main_while3b_v29 (mulf : (⟨S512, .f32⟩ : BufTy).Contents (Elt F) → (⟨S512, .f32⟩ : BufTy).Contents (Elt F) → (⟨S512, .f32⟩ : BufTy).Contents (Elt F)),
    StableHlo.TRef.unary (.of main_while3b_v29 : StableHlo.TRef sig ⟨S512, .f32⟩) (.of main_while3b_call16_v0 : StableHlo.TRef sig ⟨S1x512, .f32⟩) (broadcastInDim S1x512 ![1] bcast_S512_S1x512_1),
    StableHlo.TRef.nullary (.of main_while3b_call16_c : StableHlo.TRef sig ⟨S_, .i32⟩) (constantI S_ 32 0#32),
    StableHlo.TRef.binaryIndexed (.of main_v21_5 : StableHlo.TRef sig ⟨S4096x512, .f32⟩) (.of main_while3b_call16_v0 : StableHlo.TRef sig ⟨S1x512, .f32⟩) ![(.of main_while3b_v23 : StableHlo.TRef sig ⟨S_, .i32⟩), (.of main_while3b_call16_c : StableHlo.TRef sig ⟨S_, .i32⟩)] (.of main_while3b_v30 : StableHlo.TRef sig ⟨S4096x512, .f32⟩) (fun x u i => Host.dynamicUpdateSlice x u (fun k => (i k (Shape.Idx.first h_S_)).toInt) updateFits_S4096x512_S1x512),
    StableHlo.TRef.unary (.of main_while3b_v27 : StableHlo.TRef sig ⟨S512, .f32⟩) (.of main_while3b_call17_v0 : StableHlo.TRef sig ⟨S1x512, .f32⟩) (broadcastInDim S1x512 ![1] bcast_S512_S1x512_1),
    StableHlo.TRef.nullary (.of main_while3b_call17_c : StableHlo.TRef sig ⟨S_, .i32⟩) (constantI S_ 32 0#32),
    StableHlo.TRef.binaryIndexed (.of main_v21_6 : StableHlo.TRef sig ⟨S4096x512, .f32⟩) (.of main_while3b_call17_v0 : StableHlo.TRef sig ⟨S1x512, .f32⟩) ![(.of main_while3b_v23 : StableHlo.TRef sig ⟨S_, .i32⟩), (.of main_while3b_call17_c : StableHlo.TRef sig ⟨S_, .i32⟩)] (.of main_while3b_v31 : StableHlo.TRef sig ⟨S4096x512, .f32⟩) (fun x u i => Host.dynamicUpdateSlice x u (fun k => (i k (Shape.Idx.first h_S_)).toInt) updateFits_S4096x512_S1x512),
    StableHlo.nullary main_while3b_c_24 (constantI S_ 32 1#32),
    StableHlo.binary main_v21_3 main_while3b_c_24 main_while3b_v32 (addi : (⟨S_, .i32⟩ : BufTy).Contents (Elt F) → (⟨S_, .i32⟩ : BufTy).Contents (Elt F) → (⟨S_, .i32⟩ : BufTy).Contents (Elt F)),
    StableHlo.unary main_while3b_v32 main_v21_3 id,
    StableHlo.unary main_while3b_v28 main_v21_4 id,
    StableHlo.unary main_while3b_v30 main_v21_5 id,
    StableHlo.unary main_while3b_v31 main_v21_6 id ]
/-- The buffers `body3` writes, in order. -/
abbrev body3_W : List (Ref sig .tc) := [main_while3b_c_22, main_while3b_v22, main_while3b_c_23, main_while3b_v23, main_while3b_call13_c, main_while3b_call13_v0, main_while3b_v24, main_while3b_call14_c, main_while3b_call14_v0, main_while3b_v25, main_while3b_call15_c, main_while3b_call15_v0, main_while3b_v26, main_while3b_v27, main_while3b_v28, main_while3b_v29, main_while3b_call16_v0, main_while3b_call16_c, main_while3b_v30, main_while3b_call17_v0, main_while3b_call17_c, main_while3b_v31, main_while3b_c_24, main_while3b_v32, main_v21_3, main_v21_4, main_v21_5, main_v21_6]
/-- They write only those buffers. -/
theorem body3_writes : (body3 : List (HloOp τ sig (Elt F))).Forall fun op => op.writes ⊆ (body3_W.map (Proc.devRef (τ := τ) .tc)).toFinset :=
  StableHlo.forall_writes_sub_of_map rfl
/-- They leave no buffer of unknown contents. -/
theorem body3_fresh : (body3 : List (HloOp τ sig (Elt F))).Forall fun op => op.fresh = ∅ := StableHlo.forall_fresh_of_map rfl
/-- They use only the thread's own buffers. -/
theorem body3_sub : (body3 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub .., StableHlo.nullary_bufs_sub .., StableHlo.unaryIndexed_bufs_sub .., StableHlo.reshape_bufs_sub .., StableHlo.nullary_bufs_sub .., StableHlo.unaryIndexed_bufs_sub .., StableHlo.reshape_bufs_sub .., StableHlo.nullary_bufs_sub .., StableHlo.unaryIndexed_bufs_sub .., StableHlo.reshape_bufs_sub .., StableHlo.binary_bufs_sub .., StableHlo.binary_bufs_sub .., StableHlo.binary_bufs_sub .., StableHlo.unary_bufs_sub .., StableHlo.nullary_bufs_sub .., StableHlo.binaryIndexed_bufs_sub .., StableHlo.unary_bufs_sub .., StableHlo.nullary_bufs_sub .., StableHlo.binaryIndexed_bufs_sub .., StableHlo.nullary_bufs_sub .., StableHlo.binary_bufs_sub .., StableHlo.unary_bufs_sub .., StableHlo.unary_bufs_sub .., StableHlo.unary_bufs_sub .., StableHlo.unary_bufs_sub ..⟩

/-- Loop 0's body is its one stretch. -/
theorem body0_chain : main_while0_body (F := F) = (Pipeline.chain [StableHlo.seq body0] : Prog (TpuEff nD τ sig (Elt F) (HostLoop.Sig (Pipeline.Sig Λ₀ (Fin 0) fun p => (pcfgs (F := F) p).Adm) 4) .tc) PUnit) := by
  chain_rfl

/-- Loop 1's body is its one stretch. -/
theorem body1_chain : main_while1_body (F := F) = (Pipeline.chain [StableHlo.seq body1] : Prog (TpuEff nD τ sig (Elt F) (HostLoop.Sig (Pipeline.Sig Λ₀ (Fin 0) fun p => (pcfgs (F := F) p).Adm) 4) .tc) PUnit) := by
  chain_rfl

/-- Loop 2's body is its one stretch. -/
theorem body2_chain : main_while2_body (F := F) = (Pipeline.chain [StableHlo.seq body2] : Prog (TpuEff nD τ sig (Elt F) (HostLoop.Sig (Pipeline.Sig Λ₀ (Fin 0) fun p => (pcfgs (F := F) p).Adm) 4) .tc) PUnit) := by
  chain_rfl

/-- Loop 3's body is its one stretch. -/
theorem body3_chain : main_while3_body (F := F) = (Pipeline.chain [StableHlo.seq body3] : Prog (TpuEff nD τ sig (Elt F) (HostLoop.Sig (Pipeline.Sig Λ₀ (Fin 0) fun p => (pcfgs (F := F) p).Adm) 4) .tc) PUnit) := by
  chain_rfl

/-- The program is its stretches and loops in order. -/
theorem main_chain (c : Dev nD) : main (F := F) c = (Pipeline.chain [StableHlo.seq pre0, HostLoop.enter 0, StableHlo.seq pre1, HostLoop.enter 1,
    StableHlo.seq pre2, HostLoop.enter 2, StableHlo.seq pre3, HostLoop.enter 3] : Prog (TpuEff nD τ sig (Elt F) (HostLoop.Sig (Pipeline.Sig Λ₀ (Fin 0) fun p => (pcfgs (F := F) p).Adm) 4) .tc) PUnit) := by
  chain_rfl

end Cert.ReferenceIdeal.Scan
-- ==== Proof.RefRun.lean ====
/- The reference's run: its four counted loops one after another, every buffer at the end, every counter at zero. -/
module

public import proofs.«01_k».proof.Proof.RefOps

@[expose] public section

set_option maxRecDepth 100000

noncomputable section

namespace Cert.ReferenceIdeal.Scan

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)
open Cert.ReferenceIdeal Cert.ReferenceIdeal.Gen

variable {F : FTy → Type} [FloatOps F]

local notation "𝕄" => MT nD τ sig Unit (Elt F) ℕ (Option PUnit) ℕ

/-- No kernel region, so nothing to admit, no ticket and no level. -/
abbrev adm : (p : Fin 0) → (pcfgs (F := F) p).Adm := fun p => p.elim0
/-- No kernel region, so no ticket. -/
abbrev tk : Fin 0 → Pipeline.Ticket (Ix := Unit) (Name := ℕ) (U := Option PUnit) (Lvl := ℕ) (nD := nD) (τ := τ) (pcfgs (F := F)) adm := fun j => j.elim0
/-- No level. -/
abbrev L : GSem nD τ sig → Finset Unit := fun _ => ∅
/-- No level. -/
abbrev lv : GSem nD τ sig → Unit → ℕ := fun _ _ => 0

/-- A segment of the reference. -/
abbrev Seg : Type 1 := Pipeline.CSeg (pcfgs (F := F)) adm defs₀ Variants.none L lv loops tk

/-- What a device carries beside its buffers: that it owes nothing. -/
abbrev Ow (c : Dev nD) : sProp 𝕄 := iprop(∃ W, owes (c : Thread nD τ) (0 : CellTallies nD τ sig Unit) W)

/-- A stretch of operations at given contents. -/
abbrev stretch (ops : List (HloOp τ sig (Elt F))) (hs : ops.Forall fun op => op.bufs ⊆ StableHlo.tcRefs τ sig)
    (hf : ops.Forall fun op => op.fresh = ∅) (V : Dev nD → Valuation τ sig (Elt F)) : Seg (F := F) :=
  Pipeline.CSeg.ofOps _ _ _ _ _ _ _ _ (ucRefs τ sig) ops (fun op h => sub_ucRefs op ((List.forall_iff_forall_mem.mp hs) op h))
    (fun op h => (List.forall_iff_forall_mem.mp hf) op h) V Ow

-- the rule for one operation is stated for any thread and unifies with the device's own only through plain definitions
set_option backward.isDefEq.respectTransparency.types false in
/-- A condition of two operations: it answers what its second operation leaves, and hands the buffers on. -/
theorem cond_spec (op₁ op₂ : HloOp τ sig (Elt F)) (h₁ : op₁.bufs ⊆ ucRefs τ sig) (h₂ : op₂.bufs ⊆ ucRefs τ sig)
    (f₁ : op₁.fresh = ∅) (f₂ : op₂.fresh = ∅) (val : ((b : op₂.writes) → b.1.ty.Contents (Elt F)) → Elt F .i1)
    (bodyI : List (List (HloOp τ sig (Elt F)))) (W₀ : Dev nD → Valuation τ sig (Elt F)) (n : ℕ) (Rc : Dev nD → sProp 𝕄)
    (hval : ∀ k ≤ n, ∀ c, val (op₂.fn fun b => op₁.result (atTrip [op₁, op₂] bodyI W₀ k c) b.1) = 1#1 ↔ k < n) :
    LoopCond (pcfgs (F := F)) defs₀ Variants.none loops Rc
      ((do
        hlo rfl op₁ (fun _ => .ret ⟨⟩)
        hlo rfl op₂ (fun w => .ret (val w))) : Prog (TpuEff nD τ sig (Elt F) (HostLoop.Sig (Pipeline.Sig Λ₀ (Fin 0) fun p => (pcfgs (F := F) p).Adm) 4) .tc) (Elt F .i1)) [op₁, op₂] bodyI W₀ n := by
  intro k hk c bd
  have hv := hval k hk c
  rw [wp_bind]
  iintro ⟨Hb, Hh, HR⟩
  iapply (wp_hlo_within (Variants.lift Variants.none) (c : Thread nD τ) bd Set.univ h₁ (hf := f₁)) $$ [Hb Hh]
  · isplitl [Hb]; · iexact Hb
    iexact Hh
  iintro ⟨Hb, Hh⟩
  rw [wp_ret]; imodintro
  iapply (wp_hlo_within (Variants.lift Variants.none) (c : Thread nD τ) bd Set.univ h₂ (hf := f₂)) $$ [Hb Hh]
  · isplitl [Hb]; · iexact Hb
    iexact Hh
  iintro ⟨Hb, Hh⟩
  rw [wp_ret]; imodintro
  isplitr
  · ipureintro
    exact hv
  isplitl [Hb]; · iexact Hb
  isplitl [Hh]; · rw [after_cons, after_cons, after_nil]; iexact Hh
  iexact HR

/-- A counter that starts at zero and that every trip leaves one on holds the trip's number. -/
theorem counter (condOps : List (HloOp τ sig (Elt F))) (body : List (HloOp τ sig (Elt F))) (W₀ : Dev nD → Valuation τ sig (Elt F))
    (ctr : Valuation τ sig (Elt F) → IVec S_ 32)
    (hentry : ∀ c, ctr (W₀ c) = fun _ => 0#32)
    (hstep : ∀ V, ctr (after body (after condOps V)) = addi (ctr V) (constantI S_ 32 1#32)) (c : Dev nD) :
    ∀ k, ctr (atTrip condOps [body] W₀ k c) = fun _ => Scf.iv 0#32 1#32 k
  | 0 => by rw [atTrip_zero, hentry, Scf.iv_zero]
  | k + 1 => by
    rw [atTrip_succ, afterL_cons, afterL_nil, hstep, counter condOps body W₀ ctr hentry hstep c k, Scf.iv_succ]
    rfl

/-! ## The contents at each boundary -/

variable (m : (ℓ : Loc nD τ sig) → Buf (Elt F) ℓ) (ρ : Dev nD → PrngReg)

/-- Loop 0: entered, at trip `k`, left. -/
abbrev E0 (c : Dev nD) : Valuation τ sig (Elt F) := after pre0 (launchContents m c)
/-- Loop 0 at trip `k`. -/
abbrev K0 (k : ℕ) (c : Dev nD) : Valuation τ sig (Elt F) := atTrip cond0 [body0] (E0 m) k c
/-- After loop 0. -/
abbrev X0 (c : Dev nD) : Valuation τ sig (Elt F) := after cond0 (K0 m 4096 c)
/-- Loop 1. -/
abbrev E1 (c : Dev nD) : Valuation τ sig (Elt F) := after pre1 (X0 m c)
/-- Loop 1 at trip `k`. -/
abbrev K1 (k : ℕ) (c : Dev nD) : Valuation τ sig (Elt F) := atTrip cond1 [body1] (E1 m) k c
/-- After loop 1. -/
abbrev X1 (c : Dev nD) : Valuation τ sig (Elt F) := after cond1 (K1 m 4096 c)
/-- Loop 2. -/
abbrev E2 (c : Dev nD) : Valuation τ sig (Elt F) := after pre2 (X1 m c)
/-- Loop 2 at trip `k`. -/
abbrev K2 (k : ℕ) (c : Dev nD) : Valuation τ sig (Elt F) := atTrip cond2 [body2] (E2 m) k c
/-- After loop 2. -/
abbrev X2 (c : Dev nD) : Valuation τ sig (Elt F) := after cond2 (K2 m 4096 c)
/-- Loop 3. -/
abbrev E3 (c : Dev nD) : Valuation τ sig (Elt F) := after pre3 (X2 m c)
/-- Loop 3 at trip `k`. -/
abbrev K3 (k : ℕ) (c : Dev nD) : Valuation τ sig (Elt F) := atTrip cond3 [body3] (E3 m) k c
/-- After loop 3. -/
abbrev X3 (c : Dev nD) : Valuation τ sig (Elt F) := after cond3 (K3 m 4096 c)

/-! ## The counters, the conditions -/

/-- Each loop's counter at trip `k`. -/
theorem ctr0 (c : Dev nD) : ∀ k, K0 m k c (Proc.devRef .tc main_v5_2) = fun _ => Scf.iv 0#32 1#32 k :=
  counter cond0 body0 (E0 m) (fun V => V (Proc.devRef .tc main_v5_2)) (fun c => by after_reads_simp; rfl)
    (fun V => by after_reads_simp; rfl) c
/-- Loop 1's counter at trip `k`. -/
theorem ctr1 (c : Dev nD) : ∀ k, K1 m k c (Proc.devRef .tc main_v11_2) = fun _ => Scf.iv 0#32 1#32 k :=
  counter cond1 body1 (E1 m) (fun V => V (Proc.devRef .tc main_v11_2)) (fun c => by unfold E1; generalize X0 m c = V; after_reads_simp; rfl)
    (fun V => by after_reads_simp; rfl) c
/-- Loop 2's counter at trip `k`. -/
theorem ctr2 (c : Dev nD) : ∀ k, K2 m k c (Proc.devRef .tc main_v17_3) = fun _ => Scf.iv 0#32 1#32 k :=
  counter cond2 body2 (E2 m) (fun V => V (Proc.devRef .tc main_v17_3)) (fun c => by unfold E2; generalize X1 m c = V; after_reads_simp; rfl)
    (fun V => by after_reads_simp; rfl) c
/-- Loop 3's counter at trip `k`. -/
theorem ctr3 (c : Dev nD) : ∀ k, K3 m k c (Proc.devRef .tc main_v21_3) = fun _ => Scf.iv 0#32 1#32 k :=
  counter cond3 body3 (E3 m) (fun V => V (Proc.devRef .tc main_v21_3)) (fun c => by unfold E3; generalize X2 m c = V; after_reads_simp; rfl)
    (fun V => by after_reads_simp; rfl) c

/-- Each loop's condition. -/
theorem cond0_spec (Rc : Dev nD → sProp 𝕄) :
    LoopCond (pcfgs (F := F)) defs₀ Variants.none loops Rc (main_while0_cond (F := F)) cond0 [body0] (E0 m) 4096 := by
  refine cond_spec (nullary main_while0c_c_21 (constantI S_ 32 4096#32) (by decide)) (binary main_v5_2 main_while0c_c_21 main_while0c_v22 (cmpi .slt) (by decide) (by decide) (by decide))
    (sub_ucRefs _ (nullary_bufs_sub ..)) (sub_ucRefs _ (binary_bufs_sub ..)) rfl rfl
    (fun w => (w ⟨Proc.devRef .tc main_while0c_v22, Finset.mem_singleton_self _⟩ : IVec S_ 1) HostLoop.idx0) [body0] (E0 m) 4096 Rc ?_
  intro k hk c
  show Iff (IntOp.cmpi .slt (HloOp.result _ (K0 m k c) main_v5_2 HostLoop.idx0) (HloOp.result _ (K0 m k c) main_while0c_c_21 HostLoop.idx0) = 1#1) (k < 4096)
  rw [nullary_result_ne _ _ _ _ (by decide), nullary_result, ctr0 m c k]
  exact Scf.cmpi_slt_iv_ub_iff (lb := 0#32) (ub := 4096#32) (st := 1#32) (by decide) (show k ≤ Scf.trips 0#32 4096#32 1#32 from hk)
/-- Loop 1's condition: true on 4096 trips. -/
theorem cond1_spec (Rc : Dev nD → sProp 𝕄) :
    LoopCond (pcfgs (F := F)) defs₀ Variants.none loops Rc (main_while1_cond (F := F)) cond1 [body1] (E1 m) 4096 := by
  refine cond_spec (nullary main_while1c_c_21 (constantI S_ 32 4096#32) (by decide)) (binary main_v11_2 main_while1c_c_21 main_while1c_v22 (cmpi .slt) (by decide) (by decide) (by decide))
    (sub_ucRefs _ (nullary_bufs_sub ..)) (sub_ucRefs _ (binary_bufs_sub ..)) rfl rfl
    (fun w => (w ⟨Proc.devRef .tc main_while1c_v22, Finset.mem_singleton_self _⟩ : IVec S_ 1) HostLoop.idx0) [body1] (E1 m) 4096 Rc ?_
  intro k hk c
  show Iff (IntOp.cmpi .slt (HloOp.result _ (K1 m k c) main_v11_2 HostLoop.idx0) (HloOp.result _ (K1 m k c) main_while1c_c_21 HostLoop.idx0) = 1#1) (k < 4096)
  rw [nullary_result_ne _ _ _ _ (by decide), nullary_result, ctr1 m c k]
  exact Scf.cmpi_slt_iv_ub_iff (lb := 0#32) (ub := 4096#32) (st := 1#32) (by decide) (show k ≤ Scf.trips 0#32 4096#32 1#32 from hk)
/-- Loop 2's condition: true on 4096 trips. -/
theorem cond2_spec (Rc : Dev nD → sProp 𝕄) :
    LoopCond (pcfgs (F := F)) defs₀ Variants.none loops Rc (main_while2_cond (F := F)) cond2 [body2] (E2 m) 4096 := by
  refine cond_spec (nullary main_while2c_c_22 (constantI S_ 32 4096#32) (by decide)) (binary main_v17_3 main_while2c_c_22 main_while2c_v22 (cmpi .slt) (by decide) (by decide) (by decide))
    (sub_ucRefs _ (nullary_bufs_sub ..)) (sub_ucRefs _ (binary_bufs_sub ..)) rfl rfl
    (fun w => (w ⟨Proc.devRef .tc main_while2c_v22, Finset.mem_singleton_self _⟩ : IVec S_ 1) HostLoop.idx0) [body2] (E2 m) 4096 Rc ?_
  intro k hk c
  show Iff (IntOp.cmpi .slt (HloOp.result _ (K2 m k c) main_v17_3 HostLoop.idx0) (HloOp.result _ (K2 m k c) main_while2c_c_22 HostLoop.idx0) = 1#1) (k < 4096)
  rw [nullary_result_ne _ _ _ _ (by decide), nullary_result, ctr2 m c k]
  exact Scf.cmpi_slt_iv_ub_iff (lb := 0#32) (ub := 4096#32) (st := 1#32) (by decide) (show k ≤ Scf.trips 0#32 4096#32 1#32 from hk)
/-- Loop 3's condition: true on 4096 trips. -/
theorem cond3_spec (Rc : Dev nD → sProp 𝕄) :
    LoopCond (pcfgs (F := F)) defs₀ Variants.none loops Rc (main_while3_cond (F := F)) cond3 [body3] (E3 m) 4096 := by
  refine cond_spec (nullary main_while3c_c_22 (constantI S_ 32 4096#32) (by decide)) (binary main_v21_3 main_while3c_c_22 main_while3c_v22 (cmpi .slt) (by decide) (by decide) (by decide))
    (sub_ucRefs _ (nullary_bufs_sub ..)) (sub_ucRefs _ (binary_bufs_sub ..)) rfl rfl
    (fun w => (w ⟨Proc.devRef .tc main_while3c_v22, Finset.mem_singleton_self _⟩ : IVec S_ 1) HostLoop.idx0) [body3] (E3 m) 4096 Rc ?_
  intro k hk c
  show Iff (IntOp.cmpi .slt (HloOp.result _ (K3 m k c) main_v21_3 HostLoop.idx0) (HloOp.result _ (K3 m k c) main_while3c_c_22 HostLoop.idx0) = 1#1) (k < 4096)
  rw [nullary_result_ne _ _ _ _ (by decide), nullary_result, ctr3 m c k]
  exact Scf.cmpi_slt_iv_ub_iff (lb := 0#32) (ub := 4096#32) (st := 1#32) (by decide) (show k ≤ Scf.trips 0#32 4096#32 1#32 from hk)

/-! ## The run -/

/-- The eight segments. -/
abbrev segs : List (Seg (F := F)) :=
  [ stretch pre0 pre0_sub pre0_fresh (launchContents m),
    loopSeg _ _ _ _ _ _ _ _ 0 (main_while0_cond (F := F)) (main_while0_body (F := F)) rfl cond0 [body0]
      (.cons body0_sub (hf := List.forall_iff_forall_mem.mp body0_fresh) .nil) (by rw [body0_chain]; rfl) 4096 (E0 m) Ow (cond0_spec m Ow),
    stretch pre1 pre1_sub pre1_fresh (X0 m),
    loopSeg _ _ _ _ _ _ _ _ 1 (main_while1_cond (F := F)) (main_while1_body (F := F)) rfl cond1 [body1]
      (.cons body1_sub (hf := List.forall_iff_forall_mem.mp body1_fresh) .nil) (by rw [body1_chain]; rfl) 4096 (E1 m) Ow (cond1_spec m Ow),
    stretch pre2 pre2_sub pre2_fresh (X1 m),
    loopSeg _ _ _ _ _ _ _ _ 2 (main_while2_cond (F := F)) (main_while2_body (F := F)) rfl cond2 [body2]
      (.cons body2_sub (hf := List.forall_iff_forall_mem.mp body2_fresh) .nil) (by rw [body2_chain]; rfl) 4096 (E2 m) Ow (cond2_spec m Ow),
    stretch pre3 pre3_sub pre3_fresh (X2 m),
    loopSeg _ _ _ _ _ _ _ _ 3 (main_while3_cond (F := F)) (main_while3_body (F := F)) rfl cond3 [body3]
      (.cons body3_sub (hf := List.forall_iff_forall_mem.mp body3_fresh) .nil) (by rw [body3_chain]; rfl) 4096 (E3 m) Ow (cond3_spec m Ow)]

/-- The program is the run of its segments. -/
theorem main_run (c : Dev nD) : main (F := F) c = Pipeline.CSeg.runL (segs m) := (main_chain c).trans (by chain_rfl)

/-- No segment uses a ticket. -/
theorem segs_disjoint : (segs m).Pairwise fun s s' => Disjoint s.T s'.T :=
  Pipeline.CSeg.pairwise_disjoint_of_T_empty _ fun s _ => Finset.eq_empty_of_isEmpty s.T

/-- No counter of the program is outside its thread's own. -/
theorem no_unscoped : ∀ sm : SemLoc sig, sm.isScoped .tc = true := by decide

/-- Every unscoped buffer ends at what the last loop leaves, and every counter at zero. -/
theorem run_all [∀ e, Nonempty (Elt F e)] : θ_run (defs (F := F)) (onTc (τ := τ) (main (F := F))) ⟨m, fun _ => 0, ρ⟩
    (fun r => (∀ c : Dev nD, ∀ b ∈ ucRefs τ sig, r.2.mem ((c : Dev nD), b) = X3 m c b) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) adm (fun k => k.1.elim0) defs₀ Variants.none L lv loops tk m ρ main (segs m)
    (fun c Q => by rw [main_run m c]) (segs_disjoint m)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Ow c))
    (Tₙ := fun c => iprop(held (c : Thread nD τ) (ucRefs τ sig) (X3 m c)))
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = held (c : Thread nD τ) (ucRefs τ sig) (launchContents m c)
        from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = X3 m c b)
    (hfin := fun c s' => by
      unfold held
      iintro ⟨Hh, HSI⟩
      imodintro
      iapply (pointsTo_read_all (ucRefs τ sig) (fun b => ((c : Dev nD), b)) (X3 m c) s')
      isplitl [Hh] <;> iassumption)
    (hQ := fun s h hz => ⟨h, funext fun g => hz g (.inr (no_unscoped g.2))⟩)

/-! ## The arguments -/

/-- Nothing outside the written buffers of `condOps` and `body` changes in any number of trips. -/
theorem trip_keeps (condOps body : List (HloOp τ sig (Elt F))) (Wc Wb : List (Ref sig .tc))
    (hc : condOps.Forall fun op => op.writes ⊆ (Wc.map (Proc.devRef (τ := τ) .tc)).toFinset)
    (hb : body.Forall fun op => op.writes ⊆ (Wb.map (Proc.devRef (τ := τ) .tc)).toFinset)
    (W₀ : Dev nD → Valuation τ sig (Elt F)) (c : Dev nD) (b : Ref sig .tc) (h₁ : b ∉ Wc) (h₂ : b ∉ Wb) :
    ∀ k, atTrip condOps [body] W₀ k c (Proc.devRef .tc b) = W₀ c (Proc.devRef .tc b)
  | 0 => rfl
  | k + 1 => by
    rw [atTrip_succ, afterL_cons, afterL_nil, after_of_writes_sub body _ hb h₂, after_of_writes_sub condOps _ hc h₁]
    exact trip_keeps condOps body Wc Wb hc hb W₀ c b h₁ h₂ k

/-- Loop 0 and the operations before it change only what they write. -/
theorem X0_keeps (c : Dev nD) (b : Ref sig .tc) (h : b ∉ pre0_W ++ cond0_W ++ body0_W) :
    X0 m c (Proc.devRef .tc b) = launchContents m c (Proc.devRef .tc b) := by
  simp only [List.mem_append, not_or] at h
  exact ((after_of_writes_sub cond0 _ cond0_writes h.1.2).trans
    (trip_keeps cond0 body0 _ _ cond0_writes body0_writes (E0 m) c b h.1.2 h.2 4096)).trans (after_of_writes_sub pre0 _ pre0_writes h.1.1)
/-- Loop 1 and the operations before it change only what they write. -/
theorem X1_keeps (c : Dev nD) (b : Ref sig .tc) (h : b ∉ pre1_W ++ cond1_W ++ body1_W) :
    X1 m c (Proc.devRef .tc b) = X0 m c (Proc.devRef .tc b) := by
  simp only [List.mem_append, not_or] at h
  exact ((after_of_writes_sub cond1 _ cond1_writes h.1.2).trans
    (trip_keeps cond1 body1 _ _ cond1_writes body1_writes (E1 m) c b h.1.2 h.2 4096)).trans (after_of_writes_sub pre1 _ pre1_writes h.1.1)
/-- Loop 2 and the operations before it change only what they write. -/
theorem X2_keeps (c : Dev nD) (b : Ref sig .tc) (h : b ∉ pre2_W ++ cond2_W ++ body2_W) :
    X2 m c (Proc.devRef .tc b) = X1 m c (Proc.devRef .tc b) := by
  simp only [List.mem_append, not_or] at h
  exact ((after_of_writes_sub cond2 _ cond2_writes h.1.2).trans
    (trip_keeps cond2 body2 _ _ cond2_writes body2_writes (E2 m) c b h.1.2 h.2 4096)).trans (after_of_writes_sub pre2 _ pre2_writes h.1.1)
/-- Loop 3 and the operations before it change only what they write. -/
theorem X3_keeps (c : Dev nD) (b : Ref sig .tc) (h : b ∉ pre3_W ++ cond3_W ++ body3_W) :
    X3 m c (Proc.devRef .tc b) = X2 m c (Proc.devRef .tc b) := by
  simp only [List.mem_append, not_or] at h
  exact ((after_of_writes_sub cond3 _ cond3_writes h.1.2).trans
    (trip_keeps cond3 body3 _ _ cond3_writes body3_writes (E3 m) c b h.1.2 h.2 4096)).trans (after_of_writes_sub pre3 _ pre3_writes h.1.1)

/-- What no stretch writes ends as it was launched. -/
theorem X3_keeps_all (c : Dev nD) (b : Ref sig .tc) (h0 : b ∉ pre0_W ++ cond0_W ++ body0_W) (h1 : b ∉ pre1_W ++ cond1_W ++ body1_W)
    (h2 : b ∉ pre2_W ++ cond2_W ++ body2_W) (h3 : b ∉ pre3_W ++ cond3_W ++ body3_W) :
    X3 m c (Proc.devRef .tc b) = m ((c : Thread nD τ).loc b) :=
  (X3_keeps m c b h3).trans ((X2_keeps m c b h2).trans ((X1_keeps m c b h1).trans (X0_keeps m c b h0)))

/-- The five arguments end unchanged. -/
theorem X3_args (c : Dev nD) : ∀ b ∈ [main_arg0, main_arg1, main_arg2, main_arg3, main_arg4],
    X3 m c (Proc.devRef .tc b) = m ((c : Thread nD τ).loc b) := fun b hb =>
  X3_keeps_all m c b ((by decide : ∀ b ∈ [main_arg0, main_arg1, main_arg2, main_arg3, main_arg4], b ∉ pre0_W ++ cond0_W ++ body0_W) b hb)
    ((by decide : ∀ b ∈ [main_arg0, main_arg1, main_arg2, main_arg3, main_arg4], b ∉ pre1_W ++ cond1_W ++ body1_W) b hb)
    ((by decide : ∀ b ∈ [main_arg0, main_arg1, main_arg2, main_arg3, main_arg4], b ∉ pre2_W ++ cond2_W ++ body2_W) b hb)
    ((by decide : ∀ b ∈ [main_arg0, main_arg1, main_arg2, main_arg3, main_arg4], b ∉ pre3_W ++ cond3_W ++ body3_W) b hb)

end Cert.ReferenceIdeal.Scan
-- ==== Proof.RefRows.lean ====
/- One row of an array read and put, and what one trip of each of the reference's four loops leaves. -/
module

public import proofs.«01_k».proof.Proof.RefRun
public import proofs.«01_k».proof.Proof.ScanArrays
public import Idealize.ShloMosaic.Lib.WordCmp
public import Idealize.ShloMosaic.Lib.Pointwise

@[expose] public section

set_option maxRecDepth 100000

noncomputable section

namespace Cert.ReferenceIdeal.Scan

open Idealize.ShloMosaic Idealize.ShloMosaic.TcCoe
open Idealize.ShloMosaic.StableHlo
open Cert.ReferenceIdeal Cert.ReferenceIdeal.Gen
open Cert.KernelIdeal.Scan (arrOf)
open Idealize.ShloMosaic.WordCmp

section Rows
variable {F : FTy → Type} [FloatOps F]

/-- Row `i` of an array. -/
def row (x : FVec F S4096x512 .f32) (i : IVec S_ 32) : FVec F S512 .f32 :=
  shapeCast S512 (Host.dynamicSlice S1x512 x (fun k => ((![i, constantI S_ 32 0#32] : Fin 2 → IVec S_ 32) k (Shape.Idx.first h_S_)).toInt)
    sliceFits_S4096x512_S1x512) shapeCasts_S1x512_S512

/-- The array with row `i` replaced. -/
def put (x : FVec F S4096x512 .f32) (v : FVec F S512 .f32) (i : IVec S_ 32) : FVec F S4096x512 .f32 :=
  Host.dynamicUpdateSlice x (broadcastInDim S1x512 ![1] bcast_S512_S1x512_1 v)
    (fun k => ((![i, constantI S_ 32 0#32] : Fin 2 → IVec S_ 32) k (Shape.Idx.first h_S_)).toInt) updateFits_S4096x512_S1x512

/-- The row number of a loop that runs down. -/
def down (i : IVec S_ 32) : IVec S_ 32 := subi (subi (constantI S_ 32 4096#32) i) (constantI S_ 32 1#32)

/-- What one trip of loop 0 leaves in `main_v5_3`. -/
theorem trip0_v5_3 (V : Valuation τ sig (Elt F)) : after body0 (after cond0 V) (Proc.devRef .tc main_v5_3) =
    (addf (mulf (row (V (Proc.devRef .tc main_v5_0)) (V (Proc.devRef .tc main_v5_2))) (V (Proc.devRef .tc main_v5_3))) (row (V (Proc.devRef .tc main_v5_1)) (V (Proc.devRef .tc main_v5_2))) : BufTy.Contents (Elt F) _) := by
  simp only [row, put, down, body0, cond0]
  after_results_entrywise [cast_eq]
/-- What one trip of loop 0 leaves in `main_v5_4`. -/
theorem trip0_v5_4 (V : Valuation τ sig (Elt F)) : after body0 (after cond0 V) (Proc.devRef .tc main_v5_4) =
    (put (V (Proc.devRef .tc main_v5_4)) (addf (mulf (row (V (Proc.devRef .tc main_v5_0)) (V (Proc.devRef .tc main_v5_2))) (V (Proc.devRef .tc main_v5_3))) (row (V (Proc.devRef .tc main_v5_1)) (V (Proc.devRef .tc main_v5_2)))) (V (Proc.devRef .tc main_v5_2)) : BufTy.Contents (Elt F) _) := by
  simp only [row, put, down, body0, cond0]
  after_results_entrywise [cast_eq]
/-- What one trip of loop 0 leaves in `main_v5_5`. -/
theorem trip0_v5_5 (V : Valuation τ sig (Elt F)) : after body0 (after cond0 V) (Proc.devRef .tc main_v5_5) =
    (put (V (Proc.devRef .tc main_v5_5)) (V (Proc.devRef .tc main_v5_3)) (V (Proc.devRef .tc main_v5_2)) : BufTy.Contents (Elt F) _) := by
  simp only [row, put, down, body0, cond0]
  after_results_entrywise [cast_eq]
/-- The row number a trip of loop 1 computes first. -/
theorem head1_at (V : Valuation τ sig (Elt F)) : after (body1.take 4) V (Proc.devRef .tc main_while1b_v23) =
    (down (V (Proc.devRef .tc main_v11_2)) : BufTy.Contents (Elt F) _) := by
  simp only [down, body1, List.take_succ_cons, List.take_zero]
  after_results_entrywise [cast_eq]
/-- The operations that compute it change nothing else. -/
theorem head1_keeps (V : Valuation τ sig (Elt F)) (b : Ref sig .tc) (h : b ∉ body1_W.take 4) :
    after (body1.take 4) V (Proc.devRef .tc b) = V (Proc.devRef .tc b) :=
  after_of_writes_sub (body1.take 4) V (W := body1_W.take 4) (StableHlo.forall_writes_sub_of_map rfl) h
/-- What the rest of a trip of loop 1 leaves in `main_v11_3`. -/
theorem rest1_v11_3 (V : Valuation τ sig (Elt F)) : after (body1.drop 4) V (Proc.devRef .tc main_v11_3) =
    (addf (mulf (row (V (Proc.devRef .tc main_v11_0)) (V (Proc.devRef .tc main_while1b_v23))) (V (Proc.devRef .tc main_v11_3))) (row (V (Proc.devRef .tc main_v11_1)) (V (Proc.devRef .tc main_while1b_v23))) : BufTy.Contents (Elt F) _) := by
  simp only [row, put, body1, List.drop_succ_cons, List.drop_zero]
  after_results_entrywise [cast_eq]
/-- What one trip of loop 1 leaves in `main_v11_3`. -/
theorem trip1_v11_3 (V : Valuation τ sig (Elt F)) : after body1 (after cond1 V) (Proc.devRef .tc main_v11_3) =
    (addf (mulf (row (V (Proc.devRef .tc main_v11_0)) (down (V (Proc.devRef .tc main_v11_2)))) (V (Proc.devRef .tc main_v11_3))) (row (V (Proc.devRef .tc main_v11_1)) (down (V (Proc.devRef .tc main_v11_2)))) : BufTy.Contents (Elt F) _) := by
  rw [← List.take_append_drop 4 (body1 : List (HloOp τ sig (Elt F))), after_append, rest1_v11_3, head1_at, head1_keeps _ main_v11_0 (by decide), head1_keeps _ main_v11_1 (by decide), head1_keeps _ main_v11_3 (by decide),
    after_of_writes_sub cond1 V cond1_writes (show main_v11_0 ∉ cond1_W by decide), after_of_writes_sub cond1 V cond1_writes (show main_v11_1 ∉ cond1_W by decide), after_of_writes_sub cond1 V cond1_writes (show main_v11_3 ∉ cond1_W by decide), after_of_writes_sub cond1 V cond1_writes (show main_v11_2 ∉ cond1_W by decide)]
/-- What the rest of a trip of loop 1 leaves in `main_v11_4`. -/
theorem rest1_v11_4 (V : Valuation τ sig (Elt F)) : after (body1.drop 4) V (Proc.devRef .tc main_v11_4) =
    (put (V (Proc.devRef .tc main_v11_4)) (addf (mulf (row (V (Proc.devRef .tc main_v11_0)) (V (Proc.devRef .tc main_while1b_v23))) (V (Proc.devRef .tc main_v11_3))) (row (V (Proc.devRef .tc main_v11_1)) (V (Proc.devRef .tc main_while1b_v23)))) (V (Proc.devRef .tc main_while1b_v23)) : BufTy.Contents (Elt F) _) := by
  simp only [row, put, body1, List.drop_succ_cons, List.drop_zero]
  after_results_entrywise [cast_eq]
/-- What one trip of loop 1 leaves in `main_v11_4`. -/
theorem trip1_v11_4 (V : Valuation τ sig (Elt F)) : after body1 (after cond1 V) (Proc.devRef .tc main_v11_4) =
    (put (V (Proc.devRef .tc main_v11_4)) (addf (mulf (row (V (Proc.devRef .tc main_v11_0)) (down (V (Proc.devRef .tc main_v11_2)))) (V (Proc.devRef .tc main_v11_3))) (row (V (Proc.devRef .tc main_v11_1)) (down (V (Proc.devRef .tc main_v11_2))))) (down (V (Proc.devRef .tc main_v11_2))) : BufTy.Contents (Elt F) _) := by
  rw [← List.take_append_drop 4 (body1 : List (HloOp τ sig (Elt F))), after_append, rest1_v11_4, head1_at, head1_keeps _ main_v11_0 (by decide), head1_keeps _ main_v11_1 (by decide), head1_keeps _ main_v11_3 (by decide), head1_keeps _ main_v11_4 (by decide),
    after_of_writes_sub cond1 V cond1_writes (show main_v11_0 ∉ cond1_W by decide), after_of_writes_sub cond1 V cond1_writes (show main_v11_1 ∉ cond1_W by decide), after_of_writes_sub cond1 V cond1_writes (show main_v11_3 ∉ cond1_W by decide), after_of_writes_sub cond1 V cond1_writes (show main_v11_4 ∉ cond1_W by decide), after_of_writes_sub cond1 V cond1_writes (show main_v11_2 ∉ cond1_W by decide)]
/-- What the rest of a trip of loop 1 leaves in `main_v11_5`. -/
theorem rest1_v11_5 (V : Valuation τ sig (Elt F)) : after (body1.drop 4) V (Proc.devRef .tc main_v11_5) =
    (put (V (Proc.devRef .tc main_v11_5)) (V (Proc.devRef .tc main_v11_3)) (V (Proc.devRef .tc main_while1b_v23)) : BufTy.Contents (Elt F) _) := by
  simp only [row, put, body1, List.drop_succ_cons, List.drop_zero]
  after_results_entrywise [cast_eq]
/-- What one trip of loop 1 leaves in `main_v11_5`. -/
theorem trip1_v11_5 (V : Valuation τ sig (Elt F)) : after body1 (after cond1 V) (Proc.devRef .tc main_v11_5) =
    (put (V (Proc.devRef .tc main_v11_5)) (V (Proc.devRef .tc main_v11_3)) (down (V (Proc.devRef .tc main_v11_2))) : BufTy.Contents (Elt F) _) := by
  rw [← List.take_append_drop 4 (body1 : List (HloOp τ sig (Elt F))), after_append, rest1_v11_5, head1_at, head1_keeps _ main_v11_3 (by decide), head1_keeps _ main_v11_5 (by decide),
    after_of_writes_sub cond1 V cond1_writes (show main_v11_3 ∉ cond1_W by decide), after_of_writes_sub cond1 V cond1_writes (show main_v11_5 ∉ cond1_W by decide), after_of_writes_sub cond1 V cond1_writes (show main_v11_2 ∉ cond1_W by decide)]
/-- What one trip of loop 2 leaves in `main_v17_4`. -/
theorem trip2_v17_4 (V : Valuation τ sig (Elt F)) : after body2 (after cond2 V) (Proc.devRef .tc main_v17_4) =
    (mulf (row (V (Proc.devRef .tc main_v17_2)) (V (Proc.devRef .tc main_v17_3))) (addf (V (Proc.devRef .tc main_v17_4)) (row (V (Proc.devRef .tc main_v17_0)) (V (Proc.devRef .tc main_v17_3)))) : BufTy.Contents (Elt F) _) := by
  simp only [row, put, down, body2, cond2]
  after_results_entrywise [cast_eq]
/-- What one trip of loop 2 leaves in `main_v17_5`. -/
theorem trip2_v17_5 (V : Valuation τ sig (Elt F)) : after body2 (after cond2 V) (Proc.devRef .tc main_v17_5) =
    (put (V (Proc.devRef .tc main_v17_5)) (mulf (addf (V (Proc.devRef .tc main_v17_4)) (row (V (Proc.devRef .tc main_v17_0)) (V (Proc.devRef .tc main_v17_3)))) (row (V (Proc.devRef .tc main_v17_1)) (V (Proc.devRef .tc main_v17_3)))) (V (Proc.devRef .tc main_v17_3)) : BufTy.Contents (Elt F) _) := by
  simp only [row, put, down, body2, cond2]
  after_results_entrywise [cast_eq]
/-- What one trip of loop 2 leaves in `main_v17_6`. -/
theorem trip2_v17_6 (V : Valuation τ sig (Elt F)) : after body2 (after cond2 V) (Proc.devRef .tc main_v17_6) =
    (put (V (Proc.devRef .tc main_v17_6)) (addf (V (Proc.devRef .tc main_v17_4)) (row (V (Proc.devRef .tc main_v17_0)) (V (Proc.devRef .tc main_v17_3)))) (V (Proc.devRef .tc main_v17_3)) : BufTy.Contents (Elt F) _) := by
  simp only [row, put, down, body2, cond2]
  after_results_entrywise [cast_eq]
/-- The row number a trip of loop 3 computes first. -/
theorem head3_at (V : Valuation τ sig (Elt F)) : after (body3.take 4) V (Proc.devRef .tc main_while3b_v23) =
    (down (V (Proc.devRef .tc main_v21_3)) : BufTy.Contents (Elt F) _) := by
  simp only [down, body3, List.take_succ_cons, List.take_zero]
  after_results_entrywise [cast_eq]
/-- The operations that compute it change nothing else. -/
theorem head3_keeps (V : Valuation τ sig (Elt F)) (b : Ref sig .tc) (h : b ∉ body3_W.take 4) :
    after (body3.take 4) V (Proc.devRef .tc b) = V (Proc.devRef .tc b) :=
  after_of_writes_sub (body3.take 4) V (W := body3_W.take 4) (StableHlo.forall_writes_sub_of_map rfl) h
/-- What the rest of a trip of loop 3 leaves in `main_v21_4`. -/
theorem rest3_v21_4 (V : Valuation τ sig (Elt F)) : after (body3.drop 4) V (Proc.devRef .tc main_v21_4) =
    (mulf (row (V (Proc.devRef .tc main_v21_2)) (V (Proc.devRef .tc main_while3b_v23))) (addf (V (Proc.devRef .tc main_v21_4)) (row (V (Proc.devRef .tc main_v21_0)) (V (Proc.devRef .tc main_while3b_v23)))) : BufTy.Contents (Elt F) _) := by
  simp only [row, put, body3, List.drop_succ_cons, List.drop_zero]
  after_results_entrywise [cast_eq]
/-- What one trip of loop 3 leaves in `main_v21_4`. -/
theorem trip3_v21_4 (V : Valuation τ sig (Elt F)) : after body3 (after cond3 V) (Proc.devRef .tc main_v21_4) =
    (mulf (row (V (Proc.devRef .tc main_v21_2)) (down (V (Proc.devRef .tc main_v21_3)))) (addf (V (Proc.devRef .tc main_v21_4)) (row (V (Proc.devRef .tc main_v21_0)) (down (V (Proc.devRef .tc main_v21_3))))) : BufTy.Contents (Elt F) _) := by
  rw [← List.take_append_drop 4 (body3 : List (HloOp τ sig (Elt F))), after_append, rest3_v21_4, head3_at, head3_keeps _ main_v21_0 (by decide), head3_keeps _ main_v21_2 (by decide), head3_keeps _ main_v21_4 (by decide),
    after_of_writes_sub cond3 V cond3_writes (show main_v21_0 ∉ cond3_W by decide), after_of_writes_sub cond3 V cond3_writes (show main_v21_2 ∉ cond3_W by decide), after_of_writes_sub cond3 V cond3_writes (show main_v21_4 ∉ cond3_W by decide), after_of_writes_sub cond3 V cond3_writes (show main_v21_3 ∉ cond3_W by decide)]
/-- What the rest of a trip of loop 3 leaves in `main_v21_5`. -/
theorem rest3_v21_5 (V : Valuation τ sig (Elt F)) : after (body3.drop 4) V (Proc.devRef .tc main_v21_5) =
    (put (V (Proc.devRef .tc main_v21_5)) (mulf (addf (V (Proc.devRef .tc main_v21_4)) (row (V (Proc.devRef .tc main_v21_0)) (V (Proc.devRef .tc main_while3b_v23)))) (row (V (Proc.devRef .tc main_v21_1)) (V (Proc.devRef .tc main_while3b_v23)))) (V (Proc.devRef .tc main_while3b_v23)) : BufTy.Contents (Elt F) _) := by
  simp only [row, put, body3, List.drop_succ_cons, List.drop_zero]
  after_results_entrywise [cast_eq]
/-- What one trip of loop 3 leaves in `main_v21_5`. -/
theorem trip3_v21_5 (V : Valuation τ sig (Elt F)) : after body3 (after cond3 V) (Proc.devRef .tc main_v21_5) =
    (put (V (Proc.devRef .tc main_v21_5)) (mulf (addf (V (Proc.devRef .tc main_v21_4)) (row (V (Proc.devRef .tc main_v21_0)) (down (V (Proc.devRef .tc main_v21_3))))) (row (V (Proc.devRef .tc main_v21_1)) (down (V (Proc.devRef .tc main_v21_3))))) (down (V (Proc.devRef .tc main_v21_3))) : BufTy.Contents (Elt F) _) := by
  rw [← List.take_append_drop 4 (body3 : List (HloOp τ sig (Elt F))), after_append, rest3_v21_5, head3_at, head3_keeps _ main_v21_0 (by decide), head3_keeps _ main_v21_1 (by decide), head3_keeps _ main_v21_4 (by decide), head3_keeps _ main_v21_5 (by decide),
    after_of_writes_sub cond3 V cond3_writes (show main_v21_0 ∉ cond3_W by decide), after_of_writes_sub cond3 V cond3_writes (show main_v21_1 ∉ cond3_W by decide), after_of_writes_sub cond3 V cond3_writes (show main_v21_4 ∉ cond3_W by decide), after_of_writes_sub cond3 V cond3_writes (show main_v21_5 ∉ cond3_W by decide), after_of_writes_sub cond3 V cond3_writes (show main_v21_3 ∉ cond3_W by decide)]
/-- What the rest of a trip of loop 3 leaves in `main_v21_6`. -/
theorem rest3_v21_6 (V : Valuation τ sig (Elt F)) : after (body3.drop 4) V (Proc.devRef .tc main_v21_6) =
    (put (V (Proc.devRef .tc main_v21_6)) (addf (V (Proc.devRef .tc main_v21_4)) (row (V (Proc.devRef .tc main_v21_0)) (V (Proc.devRef .tc main_while3b_v23)))) (V (Proc.devRef .tc main_while3b_v23)) : BufTy.Contents (Elt F) _) := by
  simp only [row, put, body3, List.drop_succ_cons, List.drop_zero]
  after_results_entrywise [cast_eq]
/-- What one trip of loop 3 leaves in `main_v21_6`. -/
theorem trip3_v21_6 (V : Valuation τ sig (Elt F)) : after body3 (after cond3 V) (Proc.devRef .tc main_v21_6) =
    (put (V (Proc.devRef .tc main_v21_6)) (addf (V (Proc.devRef .tc main_v21_4)) (row (V (Proc.devRef .tc main_v21_0)) (down (V (Proc.devRef .tc main_v21_3))))) (down (V (Proc.devRef .tc main_v21_3))) : BufTy.Contents (Elt F) _) := by
  rw [← List.take_append_drop 4 (body3 : List (HloOp τ sig (Elt F))), after_append, rest3_v21_6, head3_at, head3_keeps _ main_v21_0 (by decide), head3_keeps _ main_v21_4 (by decide), head3_keeps _ main_v21_6 (by decide),
    after_of_writes_sub cond3 V cond3_writes (show main_v21_0 ∉ cond3_W by decide), after_of_writes_sub cond3 V cond3_writes (show main_v21_4 ∉ cond3_W by decide), after_of_writes_sub cond3 V cond3_writes (show main_v21_6 ∉ cond3_W by decide), after_of_writes_sub cond3 V cond3_writes (show main_v21_3 ∉ cond3_W by decide)]
/-- What loop 0 is entered with in `main_v5_0`. -/
theorem entry0_v5_0 (V : Valuation τ sig (Elt F)) : after pre0 V (Proc.devRef .tc main_v5_0) = (V (Proc.devRef .tc main_arg0) : BufTy.Contents (Elt F) _) := by
  after_reads_simp
  first | done | rfl
/-- What loop 0 is entered with in `main_v5_1`. -/
theorem entry0_v5_1 (V : Valuation τ sig (Elt F)) : after pre0 V (Proc.devRef .tc main_v5_1) = (V (Proc.devRef .tc main_arg1) : BufTy.Contents (Elt F) _) := by
  after_reads_simp
  first | done | rfl
/-- What loop 0 is entered with in `main_v5_3`. -/
theorem entry0_v5_3 (V : Valuation τ sig (Elt F)) : after pre0 V (Proc.devRef .tc main_v5_3) = (broadcastInDim S512 ![] bcast_S_S512 (constant S_ .f32 0x00000000#32 : FVec F S_ .f32) : BufTy.Contents (Elt F) _) := by
  after_reads_simp
  first | done | rfl
/-- What loop 0 is entered with in `main_v5_4`. -/
theorem entry0_v5_4 (V : Valuation τ sig (Elt F)) : after pre0 V (Proc.devRef .tc main_v5_4) = (broadcastInDim S4096x512 ![] bcast_S_S4096x512 (constant S_ .f32 0x00000000#32 : FVec F S_ .f32) : BufTy.Contents (Elt F) _) := by
  after_reads_simp
  first | done | rfl
/-- What loop 0 is entered with in `main_v5_5`. -/
theorem entry0_v5_5 (V : Valuation τ sig (Elt F)) : after pre0 V (Proc.devRef .tc main_v5_5) = (broadcastInDim S4096x512 ![] bcast_S_S4096x512 (constant S_ .f32 0x00000000#32 : FVec F S_ .f32) : BufTy.Contents (Elt F) _) := by
  after_reads_simp
  first | done | rfl
/-- What loop 1 is entered with in `main_v11_0`. -/
theorem entry1_v11_0 (V : Valuation τ sig (Elt F)) : after pre1 V (Proc.devRef .tc main_v11_0) = (V (Proc.devRef .tc main_arg2) : BufTy.Contents (Elt F) _) := by
  after_reads_simp
  first | done | rfl
/-- What loop 1 is entered with in `main_v11_1`. -/
theorem entry1_v11_1 (V : Valuation τ sig (Elt F)) : after pre1 V (Proc.devRef .tc main_v11_1) = (V (Proc.devRef .tc main_arg3) : BufTy.Contents (Elt F) _) := by
  after_reads_simp
  first | done | rfl
/-- What loop 1 is entered with in `main_v11_3`. -/
theorem entry1_v11_3 (V : Valuation τ sig (Elt F)) : after pre1 V (Proc.devRef .tc main_v11_3) = (broadcastInDim S512 ![] bcast_S_S512 (constant S_ .f32 0x00000000#32 : FVec F S_ .f32) : BufTy.Contents (Elt F) _) := by
  after_reads_simp
  first | done | rfl
/-- What loop 1 is entered with in `main_v11_4`. -/
theorem entry1_v11_4 (V : Valuation τ sig (Elt F)) : after pre1 V (Proc.devRef .tc main_v11_4) = (broadcastInDim S4096x512 ![] bcast_S_S4096x512 (constant S_ .f32 0x00000000#32 : FVec F S_ .f32) : BufTy.Contents (Elt F) _) := by
  after_reads_simp
  first | done | rfl
/-- What loop 1 is entered with in `main_v11_5`. -/
theorem entry1_v11_5 (V : Valuation τ sig (Elt F)) : after pre1 V (Proc.devRef .tc main_v11_5) = (broadcastInDim S4096x512 ![] bcast_S_S4096x512 (constant S_ .f32 0x00000000#32 : FVec F S_ .f32) : BufTy.Contents (Elt F) _) := by
  after_reads_simp
  first | done | rfl
/-- What loop 2 is entered with in `main_v17_0`. -/
theorem entry2_v17_0 (V : Valuation τ sig (Elt F)) : after pre2 V (Proc.devRef .tc main_v17_0) = (V (Proc.devRef .tc main_arg4) : BufTy.Contents (Elt F) _) := by
  after_reads_simp
  first | done | rfl
/-- What loop 2 is entered with in `main_v17_1`. -/
theorem entry2_v17_1 (V : Valuation τ sig (Elt F)) : after pre2 V (Proc.devRef .tc main_v17_1) = (V (Proc.devRef .tc main_v11_5) : BufTy.Contents (Elt F) _) := by
  after_reads_simp
  first | done | rfl
/-- What loop 2 is entered with in `main_v17_2`. -/
theorem entry2_v17_2 (V : Valuation τ sig (Elt F)) : after pre2 V (Proc.devRef .tc main_v17_2) = (V (Proc.devRef .tc main_arg2) : BufTy.Contents (Elt F) _) := by
  after_reads_simp
  first | done | rfl
/-- What loop 2 is entered with in `main_v17_4`. -/
theorem entry2_v17_4 (V : Valuation τ sig (Elt F)) : after pre2 V (Proc.devRef .tc main_v17_4) = (broadcastInDim S512 ![] bcast_S_S512 (constant S_ .f32 0x00000000#32 : FVec F S_ .f32) : BufTy.Contents (Elt F) _) := by
  after_reads_simp
  first | done | rfl
/-- What loop 2 is entered with in `main_v17_5`. -/
theorem entry2_v17_5 (V : Valuation τ sig (Elt F)) : after pre2 V (Proc.devRef .tc main_v17_5) = (broadcastInDim S4096x512 ![] bcast_S_S4096x512 (constant S_ .f32 0x00000000#32 : FVec F S_ .f32) : BufTy.Contents (Elt F) _) := by
  after_reads_simp
  first | done | rfl
/-- What loop 2 is entered with in `main_v17_6`. -/
theorem entry2_v17_6 (V : Valuation τ sig (Elt F)) : after pre2 V (Proc.devRef .tc main_v17_6) = (broadcastInDim S4096x512 ![] bcast_S_S4096x512 (constant S_ .f32 0x00000000#32 : FVec F S_ .f32) : BufTy.Contents (Elt F) _) := by
  after_reads_simp
  first | done | rfl
/-- What loop 3 is entered with in `main_v21_0`. -/
theorem entry3_v21_0 (V : Valuation τ sig (Elt F)) : after pre3 V (Proc.devRef .tc main_v21_0) = (V (Proc.devRef .tc main_arg4) : BufTy.Contents (Elt F) _) := by
  after_reads_simp
  first | done | rfl
/-- What loop 3 is entered with in `main_v21_1`. -/
theorem entry3_v21_1 (V : Valuation τ sig (Elt F)) : after pre3 V (Proc.devRef .tc main_v21_1) = (V (Proc.devRef .tc main_v5_5) : BufTy.Contents (Elt F) _) := by
  after_reads_simp
  first | done | rfl
/-- What loop 3 is entered with in `main_v21_2`. -/
theorem entry3_v21_2 (V : Valuation τ sig (Elt F)) : after pre3 V (Proc.devRef .tc main_v21_2) = (V (Proc.devRef .tc main_arg0) : BufTy.Contents (Elt F) _) := by
  after_reads_simp
  first | done | rfl
/-- What loop 3 is entered with in `main_v21_4`. -/
theorem entry3_v21_4 (V : Valuation τ sig (Elt F)) : after pre3 V (Proc.devRef .tc main_v21_4) = (broadcastInDim S512 ![] bcast_S_S512 (constant S_ .f32 0x00000000#32 : FVec F S_ .f32) : BufTy.Contents (Elt F) _) := by
  after_reads_simp
  first | done | rfl
/-- What loop 3 is entered with in `main_v21_5`. -/
theorem entry3_v21_5 (V : Valuation τ sig (Elt F)) : after pre3 V (Proc.devRef .tc main_v21_5) = (broadcastInDim S4096x512 ![] bcast_S_S4096x512 (constant S_ .f32 0x00000000#32 : FVec F S_ .f32) : BufTy.Contents (Elt F) _) := by
  after_reads_simp
  first | done | rfl
/-- What loop 3 is entered with in `main_v21_6`. -/
theorem entry3_v21_6 (V : Valuation τ sig (Elt F)) : after pre3 V (Proc.devRef .tc main_v21_6) = (broadcastInDim S4096x512 ![] bcast_S_S4096x512 (constant S_ .f32 0x00000000#32 : FVec F S_ .f32) : BufTy.Contents (Elt F) _) := by
  after_reads_simp
  first | done | rfl

end Rows

/-- The real row. -/
def rowOf (w : Fin 512 → ℝ) : FVec Ideal S512 .f32 := fun y => ((w (y 0) : ℝ) : EReal)

/-- A real array read at row `t`. -/
theorem row_arr (f : Fin 512 → ℕ → ℝ) (i : IVec S_ 32) (t : ℕ) (ht : t < 4096) (hi : i = fun _ => BitVec.ofNat 32 t) :
    row (arrOf f) i = rowOf fun l => f l t := by
  subst hi
  have e : ∀ a, (fun k => ((![fun _ => BitVec.ofNat 32 t, constantI S_ 32 0#32] : Fin 2 → IVec S_ 32) k (Shape.Idx.first h_S_)).toInt) a
      = ((![t, 0] : Fin 2 → ℕ) a : Int) := by
    intro a
    fin_cases a
    · exact toInt_ofNat_of_lt (w := 32) (by norm_num; omega)
    · rfl
  have hk : S4096x512.Slices ![t, 0] S1x512 := ⟨rfl, Fin.forall_fin_two.mpr ⟨show t + 1 ≤ 4096 by omega, show 0 + 512 ≤ 512 by omega⟩⟩
  unfold row
  rw [dynamicSlice_eq_extract S1x512 (arrOf f) _ _ ![t, 0] hk e]
  funext y
  rw [shapeCast_dropUnit_apply ![512]]
  show ((f _ _ : ℝ) : EReal) = ((f _ _ : ℝ) : EReal)
  congr 2
  apply Fin.ext
  show 0 + _ = _
  simp
  rfl

/-- A real array with row `t` replaced by a real row. -/
theorem put_arr (f : Fin 512 → ℕ → ℝ) (w : Fin 512 → ℝ) (i : IVec S_ 32) (t : ℕ) (ht : t < 4096) (hi : i = fun _ => BitVec.ofNat 32 t) :
    put (arrOf f) (rowOf w) i = arrOf fun l s => if s = t then w l else f l s := by
  subst hi
  have e : ∀ a, (fun k => ((![fun _ => BitVec.ofNat 32 t, constantI S_ 32 0#32] : Fin 2 → IVec S_ 32) k (Shape.Idx.first h_S_)).toInt) a
      = ((![t, 0] : Fin 2 → ℕ) a : Int) := by
    intro a
    fin_cases a
    · exact toInt_ofNat_of_lt (w := 32) (by norm_num; omega)
    · rfl
  have hk : S4096x512.Slices ![t, 0] S1x512 := ⟨rfl, Fin.forall_fin_two.mpr ⟨show t + 1 ≤ 4096 by omega, show 0 + 512 ≤ 512 by omega⟩⟩
  unfold put
  rw [dynamicUpdateSlice_eq_update (arrOf f) _ _ _ ![t, 0] hk e]
  funext y
  unfold updateSlice
  show _ = (((if (y 0).val = t then w (y 1) else f (y 1) (y 0).val : ℝ)) : EReal)
  by_cases h : (y 0).val = t
  · rw [if_pos h, dif_pos]
    · show ((w _ : ℝ) : EReal) = ((w _ : ℝ) : EReal)
      congr 2
    · intro a
      fin_cases a
      · show t ≤ (y 0).val ∧ (y 0).val < t + 1
        omega
      · exact ⟨Nat.zero_le _, by have := (y 1).isLt; show (y 1).val < 0 + 512; rw [Nat.zero_add]; exact this⟩
  · rw [if_neg h, dif_neg]
    · rfl
    · intro hin
      have := hin 0
      exact h (by have h1 : t ≤ (y 0).val := this.1; have h2 : (y 0).val < t + 1 := this.2; omega)

/-- The zero row. -/
theorem zero_row : broadcastInDim S512 ![] bcast_S_S512 (constant S_ .f32 0x00000000#32 : FVec Ideal S_ .f32) = rowOf fun _ => 0 := by
  funext y
  show Ideal.ofBits .f32 0x00000000#32 = ((0 : ℝ) : EReal)
  simp [Ideal.ofBits_zero]

/-- The zero array. -/
theorem zero_arr : broadcastInDim S4096x512 ![] bcast_S_S4096x512 (constant S_ .f32 0x00000000#32 : FVec Ideal S_ .f32) = arrOf fun _ _ => 0 := by
  funext y
  show Ideal.ofBits .f32 0x00000000#32 = ((0 : ℝ) : EReal)
  simp [Ideal.ofBits_zero]

/-- Rows are multiplied entry by entry. -/
theorem mul_row (p q : Fin 512 → ℝ) : mulf (rowOf p) (rowOf q) = rowOf fun l => p l * q l := by
  funext y
  exact (EReal.coe_mul _ _).symm

/-- Rows are added entry by entry. -/
theorem add_row (p q : Fin 512 → ℝ) : addf (rowOf p) (rowOf q) = rowOf fun l => p l + q l := by
  funext y
  exact (EReal.coe_add _ _).symm

/-- Arrays agree when their 4096 rows do. -/
theorem arrOf_congr (f g : Fin 512 → ℕ → ℝ) (h : ∀ l s, s < 4096 → f l s = g l s) : arrOf f = arrOf g := by
  funext y
  exact congrArg (fun r : ℝ => (r : EReal)) (h (y 1) (y 0).val (y 0).isLt)

/-- The counter's word at trip `k`. -/
theorem iv_word (k : ℕ) : Scf.iv 0#32 1#32 k = BitVec.ofNat 32 k := by
  unfold Scf.iv; simp

/-- The row number of trip `k` of a loop that runs down. -/
theorem down_word (k : ℕ) (hk : k < 4096) : down (fun _ => Scf.iv 0#32 1#32 k) = fun _ => BitVec.ofNat 32 (4095 - k) := by
  funext y
  show 4096#32 - Scf.iv 0#32 1#32 k - 1#32 = _
  rw [iv_word]
  apply BitVec.eq_of_toNat_eq
  simp only [BitVec.toNat_sub, BitVec.toNat_ofNat]
  omega

end Cert.ReferenceIdeal.Scan
-- ==== Proof.RefVal.lean ====
/- What the reference's four loops compute: the two recurrences and their two adjoint recurrences, column by column. -/
module

public import proofs.«01_k».proof.Proof.RefRows

@[expose] public section

set_option maxRecDepth 100000

noncomputable section

namespace Cert.ReferenceIdeal.Scan

open Idealize.ShloMosaic Idealize.ShloMosaic.TcCoe
open Idealize.ShloMosaic.StableHlo
open Cert.ReferenceIdeal Cert.ReferenceIdeal.Gen
open Cert.KernelIdeal.Scan (arrOf lin fwd bwd rev decayUp decayDown above below adjF adjB)

/-! ## Arrays written one row per trip, and the carried rows -/

/-- An array that starts at zero and whose row `σ k` trip `k` replaces by `f k` ends, `σ` being its own inverse, with `f (σ s)` in row `s`. -/
theorem written (σ : ℕ → ℕ) (hσ : ∀ k, k < 4096 → σ k < 4096) (hinv : ∀ k, k < 4096 → σ (σ k) = k) (w : ℕ → IVec S_ 32)
    (hw : ∀ k, k < 4096 → w k = fun _ => BitVec.ofNat 32 (σ k)) (f : Fin 512 → ℕ → ℝ) (x : ℕ → FVec Ideal S4096x512 .f32)
    (h0 : x 0 = arrOf fun _ _ => 0) (hs : ∀ k, k < 4096 → x (k + 1) = put (x k) (rowOf fun l => f l k) (w k)) :
    x 4096 = arrOf fun l s => f l (σ s) := by
  have key : ∀ k, k ≤ 4096 → x k = arrOf fun l s => if σ s < k then f l (σ s) else 0 := by
    intro k
    induction k with
    | zero => intro _; rw [h0]; exact arrOf_congr _ _ fun l s _ => (if_neg (by omega)).symm
    | succ k ih =>
      intro hk
      rw [hs k (by omega), ih (by omega), put_arr _ _ _ (σ k) (hσ k (by omega)) (hw k (by omega))]
      refine arrOf_congr _ _ fun l s hs' => ?_
      by_cases h : s = σ k
      · rw [if_pos h, if_pos (by rw [h, hinv k (by omega)]; omega), h, hinv k (by omega)]
      · have hne : σ s ≠ k := fun e => h (by rw [← e, hinv s hs'])
        rw [if_neg h]
        by_cases h2 : σ s < k
        · rw [if_pos h2, if_pos (by omega)]
        · rw [if_neg h2, if_neg (by omega)]
  rw [key 4096 (le_refl _)]
  exact arrOf_congr _ _ fun l s hs' => if_pos (hσ s hs')

/-- The carried row of a loop that forms `h ← a h + u`. -/
theorem carried (σ : ℕ → ℕ) (hσ : ∀ k, k < 4096 → σ k < 4096) (w : ℕ → IVec S_ 32)
    (hw : ∀ k, k < 4096 → w k = fun _ => BitVec.ofNat 32 (σ k)) (a u : Fin 512 → ℕ → ℝ) (h : ℕ → FVec Ideal S512 .f32)
    (h0 : h 0 = rowOf fun _ => 0) (hs : ∀ k, k < 4096 → h (k + 1) = addf (mulf (row (arrOf a) (w k)) (h k)) (row (arrOf u) (w k))) :
    ∀ k, k ≤ 4096 → h k = rowOf fun l => lin 0 (fun s => a l (σ s)) (fun s => u l (σ s)) k := by
  intro k
  induction k with
  | zero => intro _; exact h0
  | succ k ih =>
    intro hk
    rw [hs k (by omega), ih (by omega), row_arr a _ (σ k) (hσ k (by omega)) (hw k (by omega)), row_arr u _ (σ k) (hσ k (by omega)) (hw k (by omega)),
      mul_row, add_row]
    rfl

/-- The decay that enters step `k` of an adjoint loop: none before the first. -/
def entering (σ : ℕ → ℕ) (a : ℕ → ℝ) (k : ℕ) : ℝ := if k = 0 then 0 else a (σ (k - 1))

/-- The sum an adjoint loop forms at trip `k`, of what it carries and the row it reads; its carried row is the decay times that. -/
theorem adjoined (σ : ℕ → ℕ) (hσ : ∀ k, k < 4096 → σ k < 4096) (w : ℕ → IVec S_ 32)
    (hw : ∀ k, k < 4096 → w k = fun _ => BitVec.ofNat 32 (σ k)) (a d : Fin 512 → ℕ → ℝ) (g : ℕ → FVec Ideal S512 .f32)
    (h0 : g 0 = rowOf fun _ => 0) (hs : ∀ k, k < 4096 → g (k + 1) = mulf (row (arrOf a) (w k)) (addf (g k) (row (arrOf d) (w k)))) :
    ∀ k, k < 4096 → addf (g k) (row (arrOf d) (w k)) = rowOf fun l => lin 0 (entering σ (a l)) (fun s => d l (σ s)) (k + 1) := by
  have key : ∀ k, k ≤ 4096 → g k = rowOf fun l => entering σ (a l) k * lin 0 (entering σ (a l)) (fun s => d l (σ s)) k := by
    intro k
    induction k with
    | zero => intro _; rw [h0]; congr 1; funext l; simp [entering]
    | succ k ih =>
      intro hk
      rw [hs k (by omega), ih (by omega), row_arr a _ (σ k) (hσ k (by omega)) (hw k (by omega)), row_arr d _ (σ k) (hσ k (by omega)) (hw k (by omega)),
        add_row, mul_row]
      rfl
  intro k hk
  rw [key k hk.le, row_arr d _ (σ k) (hσ k hk) (hw k hk), add_row]
  rfl

/-- The order of a loop that runs up, and of one that runs down. -/
abbrev ups : ℕ → ℕ := fun k => k
/-- The order of a loop that runs down. -/
abbrev downs : ℕ → ℕ := fun k => 4095 - k

/-- The counter's word is the row number of a loop that runs up. -/
theorem up_word (k : ℕ) : (fun _ => Scf.iv 0#32 1#32 k : IVec S_ 32) = fun _ => BitVec.ofNat 32 k := funext fun _ => iv_word k

section Loops
variable (m : (ℓ : Loc nD τ sig) → Buf (Elt Ideal) ℓ) (c : Dev nD)

/-- Trip `k + 1` of loop 0 is trip `k`'s contents through the condition and the body. -/
theorem K0_succ (k : ℕ) : K0 m (k + 1) c = after body0 (after cond0 (K0 m k c)) := by
  show atTrip _ _ _ _ _ = _
  rw [atTrip_succ, afterL_cons, afterL_nil]
/-- What loop 0 does not write keeps its entry contents. -/
theorem K0_keeps (b : Ref sig .tc) (h : b ∉ cond0_W ++ body0_W) (k : ℕ) : K0 m k c (Proc.devRef .tc b) = E0 m c (Proc.devRef .tc b) := by
  simp only [List.mem_append, not_or] at h
  exact trip_keeps cond0 body0 _ _ cond0_writes body0_writes (E0 m) c b h.1 h.2 k
/-- The condition's last evaluation changes nothing the loop carries. -/
theorem X0_last (b : Ref sig .tc) (h : b ∉ cond0_W) : X0 m c (Proc.devRef .tc b) = K0 m 4096 c (Proc.devRef .tc b) :=
  after_of_writes_sub cond0 _ cond0_writes h

/-- Trip `k + 1` of loop 1 is trip `k`'s contents through the condition and the body. -/
theorem K1_succ (k : ℕ) : K1 m (k + 1) c = after body1 (after cond1 (K1 m k c)) := by
  show atTrip _ _ _ _ _ = _
  rw [atTrip_succ, afterL_cons, afterL_nil]
/-- What loop 1 does not write keeps its entry contents. -/
theorem K1_keeps (b : Ref sig .tc) (h : b ∉ cond1_W ++ body1_W) (k : ℕ) : K1 m k c (Proc.devRef .tc b) = E1 m c (Proc.devRef .tc b) := by
  simp only [List.mem_append, not_or] at h
  exact trip_keeps cond1 body1 _ _ cond1_writes body1_writes (E1 m) c b h.1 h.2 k
/-- The condition's last evaluation changes nothing the loop carries. -/
theorem X1_last (b : Ref sig .tc) (h : b ∉ cond1_W) : X1 m c (Proc.devRef .tc b) = K1 m 4096 c (Proc.devRef .tc b) :=
  after_of_writes_sub cond1 _ cond1_writes h

/-- Trip `k + 1` of loop 2 is trip `k`'s contents through the condition and the body. -/
theorem K2_succ (k : ℕ) : K2 m (k + 1) c = after body2 (after cond2 (K2 m k c)) := by
  show atTrip _ _ _ _ _ = _
  rw [atTrip_succ, afterL_cons, afterL_nil]
/-- What loop 2 does not write keeps its entry contents. -/
theorem K2_keeps (b : Ref sig .tc) (h : b ∉ cond2_W ++ body2_W) (k : ℕ) : K2 m k c (Proc.devRef .tc b) = E2 m c (Proc.devRef .tc b) := by
  simp only [List.mem_append, not_or] at h
  exact trip_keeps cond2 body2 _ _ cond2_writes body2_writes (E2 m) c b h.1 h.2 k
/-- The condition's last evaluation changes nothing the loop carries. -/
theorem X2_last (b : Ref sig .tc) (h : b ∉ cond2_W) : X2 m c (Proc.devRef .tc b) = K2 m 4096 c (Proc.devRef .tc b) :=
  after_of_writes_sub cond2 _ cond2_writes h

/-- Trip `k + 1` of loop 3 is trip `k`'s contents through the condition and the body. -/
theorem K3_succ (k : ℕ) : K3 m (k + 1) c = after body3 (after cond3 (K3 m k c)) := by
  show atTrip _ _ _ _ _ = _
  rw [atTrip_succ, afterL_cons, afterL_nil]
/-- What loop 3 does not write keeps its entry contents. -/
theorem K3_keeps (b : Ref sig .tc) (h : b ∉ cond3_W ++ body3_W) (k : ℕ) : K3 m k c (Proc.devRef .tc b) = E3 m c (Proc.devRef .tc b) := by
  simp only [List.mem_append, not_or] at h
  exact trip_keeps cond3 body3 _ _ cond3_writes body3_writes (E3 m) c b h.1 h.2 k
/-- The condition's last evaluation changes nothing the loop carries. -/
theorem X3_last (b : Ref sig .tc) (h : b ∉ cond3_W) : X3 m c (Proc.devRef .tc b) = K3 m 4096 c (Proc.devRef .tc b) :=
  after_of_writes_sub cond3 _ cond3_writes h

/-- Loop 0: the forward recurrence, and the state each row was entered with. -/
theorem loop0 (a u : Fin 512 → ℕ → ℝ) (ha : m ((c : Thread nD τ).loc main_arg0) = arrOf a) (hu : m ((c : Thread nD τ).loc main_arg1) = arrOf u) :
    X0 m c (Proc.devRef .tc main_v5_4) = arrOf (fun l => fwd (a l) (u l)) ∧ X0 m c (Proc.devRef .tc main_v5_5) = arrOf (fun l => above (fwd (a l) (u l))) := by
  have hA : ∀ k, K0 m k c (Proc.devRef .tc main_v5_0) = arrOf a := fun k => (K0_keeps m c main_v5_0 (by decide) k).trans ((entry0_v5_0 _).trans (ha))
  have hU : ∀ k, K0 m k c (Proc.devRef .tc main_v5_1) = arrOf u := fun k => (K0_keeps m c main_v5_1 (by decide) k).trans ((entry0_v5_1 _).trans (hu))
  have hw : ∀ k, k < 4096 → K0 m k c (Proc.devRef .tc main_v5_2) = fun _ => BitVec.ofNat 32 (ups k) := fun k hk => (ctr0 m c k).trans (up_word k)
  have hstep : ∀ k, k < 4096 → K0 m (k + 1) c (Proc.devRef .tc main_v5_3) =
      addf (mulf (row (arrOf a) (K0 m k c (Proc.devRef .tc main_v5_2))) (K0 m k c (Proc.devRef .tc main_v5_3))) (row (arrOf u) (K0 m k c (Proc.devRef .tc main_v5_2))) := fun k hk => by
    rw [K0_succ, trip0_v5_3, hA, hU]
  have hh := carried ups (fun _ h => h) (fun k => K0 m k c (Proc.devRef .tc main_v5_2)) hw a u (fun k => K0 m k c (Proc.devRef .tc main_v5_3)) ((entry0_v5_3 _).trans zero_row) hstep
  refine ⟨?_, ?_⟩
  · refine (X0_last m c main_v5_4 (by decide)).trans ((written ups (fun _ h => h) (fun _ _ => rfl) (fun k => K0 m k c (Proc.devRef .tc main_v5_2)) hw
      (fun l k => lin 0 (fun s => a l (ups s)) (fun s => u l (ups s)) (k + 1)) (fun k => K0 m k c (Proc.devRef .tc main_v5_4))
      ((entry0_v5_4 _).trans zero_arr) fun k hk => ?_).trans (arrOf_congr _ _ fun l s hs => ?_))
    · show K0 m (k + 1) c (Proc.devRef .tc main_v5_4) = _
      rw [K0_succ, trip0_v5_4, ← trip0_v5_3, ← K0_succ, hh (k + 1) hk]
    · rfl
  · refine (X0_last m c main_v5_5 (by decide)).trans ((written ups (fun _ h => h) (fun _ _ => rfl) (fun k => K0 m k c (Proc.devRef .tc main_v5_2)) hw
      (fun l k => lin 0 (fun s => a l (ups s)) (fun s => u l (ups s)) k) (fun k => K0 m k c (Proc.devRef .tc main_v5_5))
      ((entry0_v5_5 _).trans zero_arr) fun k hk => ?_).trans (arrOf_congr _ _ fun l s hs => ?_))
    · show K0 m (k + 1) c (Proc.devRef .tc main_v5_5) = _
      rw [K0_succ, trip0_v5_5, hh k hk.le]
    · cases s with
      | zero => rfl
      | succ s => rfl

/-- Loop 1: the reverse recurrence, and the state each row was entered with. -/
theorem loop1 (a u : Fin 512 → ℕ → ℝ) (ha : m ((c : Thread nD τ).loc main_arg2) = arrOf a) (hu : m ((c : Thread nD τ).loc main_arg3) = arrOf u) :
    X1 m c (Proc.devRef .tc main_v11_4) = arrOf (fun l => bwd (a l) (u l)) ∧ X1 m c (Proc.devRef .tc main_v11_5) = arrOf (fun l => below (bwd (a l) (u l))) := by
  have hA : ∀ k, K1 m k c (Proc.devRef .tc main_v11_0) = arrOf a := fun k => (K1_keeps m c main_v11_0 (by decide) k).trans ((entry1_v11_0 _).trans ((X0_keeps m c main_arg2 (by decide)).trans ha))
  have hU : ∀ k, K1 m k c (Proc.devRef .tc main_v11_1) = arrOf u := fun k => (K1_keeps m c main_v11_1 (by decide) k).trans ((entry1_v11_1 _).trans ((X0_keeps m c main_arg3 (by decide)).trans hu))
  have hw : ∀ k, k < 4096 → down (K1 m k c (Proc.devRef .tc main_v11_2)) = fun _ => BitVec.ofNat 32 (downs k) := fun k hk => (congrArg down (ctr1 m c k)).trans (down_word k hk)
  have hstep : ∀ k, k < 4096 → K1 m (k + 1) c (Proc.devRef .tc main_v11_3) =
      addf (mulf (row (arrOf a) (down (K1 m k c (Proc.devRef .tc main_v11_2)))) (K1 m k c (Proc.devRef .tc main_v11_3))) (row (arrOf u) (down (K1 m k c (Proc.devRef .tc main_v11_2)))) := fun k hk => by
    rw [K1_succ, trip1_v11_3, hA, hU]
  have hh := carried downs (fun k h => by show 4095 - k < 4096; omega) (fun k => down (K1 m k c (Proc.devRef .tc main_v11_2))) hw a u (fun k => K1 m k c (Proc.devRef .tc main_v11_3)) ((entry1_v11_3 _).trans zero_row) hstep
  refine ⟨?_, ?_⟩
  · refine (X1_last m c main_v11_4 (by decide)).trans ((written downs (fun k h => by show 4095 - k < 4096; omega) (fun k h => by show 4095 - (4095 - k) = k; omega) (fun k => down (K1 m k c (Proc.devRef .tc main_v11_2))) hw
      (fun l k => lin 0 (fun s => a l (downs s)) (fun s => u l (downs s)) (k + 1)) (fun k => K1 m k c (Proc.devRef .tc main_v11_4))
      ((entry1_v11_4 _).trans zero_arr) fun k hk => ?_).trans (arrOf_congr _ _ fun l s hs => ?_))
    · show K1 m (k + 1) c (Proc.devRef .tc main_v11_4) = _
      rw [K1_succ, trip1_v11_4, ← trip1_v11_3, ← K1_succ, hh (k + 1) hk]
    · show _ = lin 0 (rev (a l)) (rev (u l)) (4096 - s)
      rw [show 4096 - s = (4095 - s) + 1 by omega]
      rfl
  · refine (X1_last m c main_v11_5 (by decide)).trans ((written downs (fun k h => by show 4095 - k < 4096; omega) (fun k h => by show 4095 - (4095 - k) = k; omega) (fun k => down (K1 m k c (Proc.devRef .tc main_v11_2))) hw
      (fun l k => lin 0 (fun s => a l (downs s)) (fun s => u l (downs s)) k) (fun k => K1 m k c (Proc.devRef .tc main_v11_5))
      ((entry1_v11_5 _).trans zero_arr) fun k hk => ?_).trans (arrOf_congr _ _ fun l s hs => ?_))
    · show K1 m (k + 1) c (Proc.devRef .tc main_v11_5) = _
      rw [K1_succ, trip1_v11_5, hh k hk.le]
    · show lin 0 (rev (a l)) (rev (u l)) (4095 - s) = if s = 4095 then 0 else lin 0 (rev (a l)) (rev (u l)) (4096 - (s + 1))
      by_cases h : s = 4095
      · rw [if_pos h, h]; rfl
      · rw [if_neg h, show 4096 - (s + 1) = 4095 - s by omega]

/-- The decay that enters a step of the loop that runs up. -/
theorem entering_ups (a d : ℕ → ℝ) (s : ℕ) : lin 0 (entering ups a) (fun s => d (ups s)) (s + 1) = adjB a d s := rfl

/-- The decay that enters a step of the loop that runs down. -/
theorem entering_downs (a d : ℕ → ℝ) (s : ℕ) (hs : s < 4096) : lin 0 (entering downs a) (fun s => d (downs s)) (downs s + 1) = adjF a d s := by
  unfold adjF
  rw [show downs s + 1 = 4096 - s by show 4095 - s + 1 = _; omega]
  refine Cert.KernelIdeal.Scan.lin_congr 0 _ (fun t ht => ?_) (fun t ht => rfl)
  unfold entering decayDown
  by_cases h : t = 0
  · rw [if_pos h, if_pos h]
  · rw [if_neg h, if_neg h, show downs (t - 1) = 4096 - t by show 4095 - (t - 1) = _; omega]

/-- Loop 2: the adjoint of the reverse recurrence, and its product with the state each row was entered with. -/
theorem loop2 (a d p : Fin 512 → ℕ → ℝ) (ha : m ((c : Thread nD τ).loc main_arg2) = arrOf a) (hd : m ((c : Thread nD τ).loc main_arg4) = arrOf d)
    (hp : X1 m c (Proc.devRef .tc main_v11_5) = arrOf p) :
    X2 m c (Proc.devRef .tc main_v17_6) = arrOf (fun l => adjB (a l) (d l)) ∧ X2 m c (Proc.devRef .tc main_v17_5) = arrOf (fun l t => adjB (a l) (d l) t * p l t) := by
  have hA : ∀ k, K2 m k c (Proc.devRef .tc main_v17_2) = arrOf a := fun k => (K2_keeps m c main_v17_2 (by decide) k).trans ((entry2_v17_2 _).trans ((X1_keeps m c main_arg2 (by decide)).trans <| (X0_keeps m c main_arg2 (by decide)).trans ha))
  have hD : ∀ k, K2 m k c (Proc.devRef .tc main_v17_0) = arrOf d := fun k => (K2_keeps m c main_v17_0 (by decide) k).trans ((entry2_v17_0 _).trans ((X1_keeps m c main_arg4 (by decide)).trans <| (X0_keeps m c main_arg4 (by decide)).trans hd))
  have hP : ∀ k, K2 m k c (Proc.devRef .tc main_v17_1) = arrOf p := fun k => (K2_keeps m c main_v17_1 (by decide) k).trans ((entry2_v17_1 _).trans hp)
  have hw : ∀ k, k < 4096 → K2 m k c (Proc.devRef .tc main_v17_3) = fun _ => BitVec.ofNat 32 (ups k) := fun k hk => (ctr2 m c k).trans (up_word k)
  have hstep : ∀ k, k < 4096 → K2 m (k + 1) c (Proc.devRef .tc main_v17_4) =
      mulf (row (arrOf a) (K2 m k c (Proc.devRef .tc main_v17_3))) (addf (K2 m k c (Proc.devRef .tc main_v17_4)) (row (arrOf d) (K2 m k c (Proc.devRef .tc main_v17_3)))) := fun k hk => by
    rw [K2_succ, trip2_v17_4, hA, hD]
  have hh := adjoined ups (fun _ h => h) (fun k => K2 m k c (Proc.devRef .tc main_v17_3)) hw a d (fun k => K2 m k c (Proc.devRef .tc main_v17_4)) ((entry2_v17_4 _).trans zero_row) hstep
  refine ⟨?_, ?_⟩
  · refine (X2_last m c main_v17_6 (by decide)).trans ((written ups (fun _ h => h) (fun _ _ => rfl) (fun k => K2 m k c (Proc.devRef .tc main_v17_3)) hw
      (fun l k => lin 0 (entering ups (a l)) (fun s => d l (ups s)) (k + 1)) (fun k => K2 m k c (Proc.devRef .tc main_v17_6))
      ((entry2_v17_6 _).trans zero_arr) fun k hk => ?_).trans (arrOf_congr _ _ fun l s hs => ?_))
    · show K2 m (k + 1) c (Proc.devRef .tc main_v17_6) = _
      rw [K2_succ, trip2_v17_6, hD, ← hh k hk]
    · exact entering_ups (a l) (d l) s
  · refine (X2_last m c main_v17_5 (by decide)).trans ((written ups (fun _ h => h) (fun _ _ => rfl) (fun k => K2 m k c (Proc.devRef .tc main_v17_3)) hw
      (fun l k => lin 0 (entering ups (a l)) (fun s => d l (ups s)) (k + 1) * p l (ups k)) (fun k => K2 m k c (Proc.devRef .tc main_v17_5))
      ((entry2_v17_5 _).trans zero_arr) fun k hk => ?_).trans (arrOf_congr _ _ fun l s hs => ?_))
    · show K2 m (k + 1) c (Proc.devRef .tc main_v17_5) = _
      rw [K2_succ, trip2_v17_5, hD, hP, hh k hk, row_arr p _ (ups k) (hk) (hw k hk), mul_row]
    · show _ = adjB (a l) (d l) s * p l s
      rw [← show _ = adjB (a l) (d l) s from by exact entering_ups (a l) (d l) s]

/-- Loop 3: the adjoint of the forward recurrence, and its product with the state each row was entered with. -/
theorem loop3 (a d p : Fin 512 → ℕ → ℝ) (ha : m ((c : Thread nD τ).loc main_arg0) = arrOf a) (hd : m ((c : Thread nD τ).loc main_arg4) = arrOf d)
    (hp : X2 m c (Proc.devRef .tc main_v5_5) = arrOf p) :
    X3 m c (Proc.devRef .tc main_v21_6) = arrOf (fun l => adjF (a l) (d l)) ∧ X3 m c (Proc.devRef .tc main_v21_5) = arrOf (fun l t => adjF (a l) (d l) t * p l t) := by
  have hA : ∀ k, K3 m k c (Proc.devRef .tc main_v21_2) = arrOf a := fun k => (K3_keeps m c main_v21_2 (by decide) k).trans ((entry3_v21_2 _).trans ((X2_keeps m c main_arg0 (by decide)).trans <| (X1_keeps m c main_arg0 (by decide)).trans <| (X0_keeps m c main_arg0 (by decide)).trans ha))
  have hD : ∀ k, K3 m k c (Proc.devRef .tc main_v21_0) = arrOf d := fun k => (K3_keeps m c main_v21_0 (by decide) k).trans ((entry3_v21_0 _).trans ((X2_keeps m c main_arg4 (by decide)).trans <| (X1_keeps m c main_arg4 (by decide)).trans <| (X0_keeps m c main_arg4 (by decide)).trans hd))
  have hP : ∀ k, K3 m k c (Proc.devRef .tc main_v21_1) = arrOf p := fun k => (K3_keeps m c main_v21_1 (by decide) k).trans ((entry3_v21_1 _).trans hp)
  have hw : ∀ k, k < 4096 → down (K3 m k c (Proc.devRef .tc main_v21_3)) = fun _ => BitVec.ofNat 32 (downs k) := fun k hk => (congrArg down (ctr3 m c k)).trans (down_word k hk)
  have hstep : ∀ k, k < 4096 → K3 m (k + 1) c (Proc.devRef .tc main_v21_4) =
      mulf (row (arrOf a) (down (K3 m k c (Proc.devRef .tc main_v21_3)))) (addf (K3 m k c (Proc.devRef .tc main_v21_4)) (row (arrOf d) (down (K3 m k c (Proc.devRef .tc main_v21_3))))) := fun k hk => by
    rw [K3_succ, trip3_v21_4, hA, hD]
  have hh := adjoined downs (fun k h => by show 4095 - k < 4096; omega) (fun k => down (K3 m k c (Proc.devRef .tc main_v21_3))) hw a d (fun k => K3 m k c (Proc.devRef .tc main_v21_4)) ((entry3_v21_4 _).trans zero_row) hstep
  refine ⟨?_, ?_⟩
  · refine (X3_last m c main_v21_6 (by decide)).trans ((written downs (fun k h => by show 4095 - k < 4096; omega) (fun k h => by show 4095 - (4095 - k) = k; omega) (fun k => down (K3 m k c (Proc.devRef .tc main_v21_3))) hw
      (fun l k => lin 0 (entering downs (a l)) (fun s => d l (downs s)) (k + 1)) (fun k => K3 m k c (Proc.devRef .tc main_v21_6))
      ((entry3_v21_6 _).trans zero_arr) fun k hk => ?_).trans (arrOf_congr _ _ fun l s hs => ?_))
    · show K3 m (k + 1) c (Proc.devRef .tc main_v21_6) = _
      rw [K3_succ, trip3_v21_6, hD, ← hh k hk]
    · exact entering_downs (a l) (d l) s hs
  · refine (X3_last m c main_v21_5 (by decide)).trans ((written downs (fun k h => by show 4095 - k < 4096; omega) (fun k h => by show 4095 - (4095 - k) = k; omega) (fun k => down (K3 m k c (Proc.devRef .tc main_v21_3))) hw
      (fun l k => lin 0 (entering downs (a l)) (fun s => d l (downs s)) (k + 1) * p l (downs k)) (fun k => K3 m k c (Proc.devRef .tc main_v21_5))
      ((entry3_v21_5 _).trans zero_arr) fun k hk => ?_).trans (arrOf_congr _ _ fun l s hs => ?_))
    · show K3 m (k + 1) c (Proc.devRef .tc main_v21_5) = _
      rw [K3_succ, trip3_v21_5, hD, hP, hh k hk, row_arr p _ (downs k) (show 4095 - k < 4096 by omega) (hw k hk), mul_row]
    · show _ = adjF (a l) (d l) s * p l s
      rw [← show _ = adjF (a l) (d l) s from by exact entering_downs (a l) (d l) s hs]
      rw [show downs (downs s) = s by show 4095 - (4095 - s) = s; omega]

/-- The reference's six results, of the five arguments as real arrays. -/
theorem results (a u b w d : Fin 512 → ℕ → ℝ)
    (ha : m ((c : Thread nD τ).loc main_arg0) = arrOf a) (hu : m ((c : Thread nD τ).loc main_arg1) = arrOf u)
    (hb : m ((c : Thread nD τ).loc main_arg2) = arrOf b) (hw : m ((c : Thread nD τ).loc main_arg3) = arrOf w)
    (hd : m ((c : Thread nD τ).loc main_arg4) = arrOf d) :
    X3 m c (Proc.devRef .tc main_v5_4) = arrOf (fun l => fwd (a l) (u l)) ∧
    X3 m c (Proc.devRef .tc main_v11_4) = arrOf (fun l => bwd (b l) (w l)) ∧
    X3 m c (Proc.devRef .tc main_v21_5) = arrOf (fun l t => adjF (a l) (d l) t * above (fwd (a l) (u l)) t) ∧
    X3 m c (Proc.devRef .tc main_v21_6) = arrOf (fun l => adjF (a l) (d l)) ∧
    X3 m c (Proc.devRef .tc main_v17_5) = arrOf (fun l t => adjB (b l) (d l) t * below (bwd (b l) (w l)) t) ∧
    X3 m c (Proc.devRef .tc main_v17_6) = arrOf (fun l => adjB (b l) (d l)) := by
  obtain ⟨h54, h55⟩ := loop0 m c a u ha hu
  obtain ⟨h114, h115⟩ := loop1 m c b w hb hw
  obtain ⟨h176, h175⟩ := loop2 m c b d _ hb hd h115
  have h55' := (X2_keeps m c main_v5_5 (by decide)).trans ((X1_keeps m c main_v5_5 (by decide)).trans h55)
  obtain ⟨h216, h215⟩ := loop3 m c a d _ ha hd h55'
  exact ⟨(X3_keeps m c main_v5_4 (by decide)).trans ((X2_keeps m c main_v5_4 (by decide)).trans ((X1_keeps m c main_v5_4 (by decide)).trans h54)),
    (X3_keeps m c main_v11_4 (by decide)).trans ((X2_keeps m c main_v11_4 (by decide)).trans h114), h215, h216,
    (X3_keeps m c main_v17_5 (by decide)).trans h175, (X3_keeps m c main_v17_6 (by decide)).trans h176⟩

end Loops

end Cert.ReferenceIdeal.Scan
-- ==== Proof.ScanClaim.lean ====
/- The reference's run as its claims state it, and the equality of the kernel pair with the reference. -/
module

public import proofs.«01_k».proof.Defs
public import proofs.«01_k».proof.Proof.Gen.KernelIdeal
public import proofs.«01_k».proof.Proof.Gen.ReferenceIdeal
public import proofs.«01_k».proof.Proof.ScanLaunch
public import proofs.«01_k».proof.Proof.ScanFinite
public import proofs.«01_k».proof.Proof.RefVal

@[expose] public section

noncomputable section

namespace Cert.Proof

open Idealize.ShloMosaic Idealize.ShloMosaic.TcCoe Idealize.SL.Sem

/-- The reference runs, its arguments end unchanged and every counter ends at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD, ∀ b ∈ [Cert.ReferenceIdeal.main_arg0, Cert.ReferenceIdeal.main_arg1, Cert.ReferenceIdeal.main_arg2,
          Cert.ReferenceIdeal.main_arg3, Cert.ReferenceIdeal.main_arg4],
        r.2.mem ((c.tc : Thread Cert.ReferenceIdeal.nD Cert.ReferenceIdeal.τ).loc b) = m ((c.tc : Thread Cert.ReferenceIdeal.nD Cert.ReferenceIdeal.τ).loc b))
        ∧ r.2.sem = fun _ => 0) :=
  (θ_run (Cert.ReferenceIdeal.defs (F := Ideal)) (onTc (τ := Cert.ReferenceIdeal.τ) (Cert.ReferenceIdeal.main (F := Ideal)))
    ⟨m, fun _ => 0, g⟩).mono (fun r h => ⟨fun c b hb => (h.1 c _ (StableHlo.devRef_mem_ucRefs b
      ((by decide : ∀ b ∈ [Cert.ReferenceIdeal.main_arg0, Cert.ReferenceIdeal.main_arg1, Cert.ReferenceIdeal.main_arg2,
          Cert.ReferenceIdeal.main_arg3, Cert.ReferenceIdeal.main_arg4], (Proc.devRef .tc b : DevRef Cert.ReferenceIdeal.τ Cert.ReferenceIdeal.sig).isScoped = false) b hb))).trans
      (Cert.ReferenceIdeal.Scan.X3_args m c b hb), h.2⟩) (Cert.ReferenceIdeal.Scan.run_all m g)

/-- The reference's claim. -/
theorem reference_quiescent : Cert.quiescent_ReferenceIdeal (hReferenceIdeal := Cert.ReferenceIdeal.Gen.facts) := fun m g _ =>
  (θ_run (Cert.ReferenceIdeal.defs (F := Ideal)) (onTc (τ := Cert.ReferenceIdeal.τ) (Cert.ReferenceIdeal.main (F := Ideal)))
    ⟨m, fun _ => 0, g⟩).mono (fun r h => ⟨fun c => ⟨h.1 c _ (by simp), h.1 c _ (by simp), h.1 c _ (by simp), h.1 c _ (by simp), h.1 c _ (by simp)⟩, h.2⟩)
    (reference_frame m g)

/-- On finite arguments the two kernels' six results are the reference's. -/
theorem scan_algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hpre hin
  refine ⟨fun c => Cert.KernelIdeal.Gen.W2 m g c (Proc.devRef .tc Cert.KernelIdeal.main_v0_0),
    fun c => Cert.KernelIdeal.Gen.W2 m g c (Proc.devRef .tc Cert.KernelIdeal.main_v0_1),
    fun c => Cert.KernelIdeal.Gen.W2 m g c (Proc.devRef .tc Cert.KernelIdeal.main_v1_1),
    fun c => Cert.KernelIdeal.Gen.W2 m g c (Proc.devRef .tc Cert.KernelIdeal.main_v1_0),
    fun c => Cert.KernelIdeal.Gen.W2 m g c (Proc.devRef .tc Cert.KernelIdeal.main_v1_3),
    fun c => Cert.KernelIdeal.Gen.W2 m g c (Proc.devRef .tc Cert.KernelIdeal.main_v1_2), ?_, ?_⟩
  · refine (θ_run (Cert.KernelIdeal.defs (F := Ideal)) (onTc (τ := Cert.KernelIdeal.τ) (Cert.KernelIdeal.main (F := Ideal)))
      ⟨m, fun _ => 0, g⟩).mono (fun r h c => ?_) (Cert.KernelIdeal.Scan.run_all m g)
    have hb : ∀ b : Ref Cert.KernelIdeal.sig .tc, (Proc.devRef .tc b : DevRef Cert.KernelIdeal.τ Cert.KernelIdeal.sig).isScoped = false →
        r.2.mem ((c.tc : Thread Cert.KernelIdeal.nD Cert.KernelIdeal.τ).loc b) = Cert.KernelIdeal.Gen.W2 m g c (Proc.devRef .tc b) :=
      fun b hs => h c _ (StableHlo.devRef_mem_ucRefs b hs)
    exact ⟨hb _ (by decide), hb _ (by decide), hb _ (by decide), hb _ (by decide), hb _ (by decide), hb _ (by decide),
      (hb _ (by decide)).trans (Cert.KernelIdeal.Gen.W2_main_arg0 m g c), (hb _ (by decide)).trans (Cert.KernelIdeal.Gen.W2_main_arg1 m g c),
      (hb _ (by decide)).trans (Cert.KernelIdeal.Gen.W2_main_arg2 m g c), (hb _ (by decide)).trans (Cert.KernelIdeal.Gen.W2_main_arg3 m g c),
      (hb _ (by decide)).trans (Cert.KernelIdeal.Gen.W2_main_arg4 m g c)⟩
  · refine (θ_run (Cert.ReferenceIdeal.defs (F := Ideal)) (onTc (τ := Cert.ReferenceIdeal.τ) (Cert.ReferenceIdeal.main (F := Ideal)))
      ⟨m', fun _ => 0, g'⟩).mono (fun r h c => ?_) (Cert.ReferenceIdeal.Scan.run_all m' g')
    have hb : ∀ b : Ref Cert.ReferenceIdeal.sig .tc, (Proc.devRef .tc b : DevRef Cert.ReferenceIdeal.τ Cert.ReferenceIdeal.sig).isScoped = false →
        r.2.mem ((c.tc : Thread Cert.ReferenceIdeal.nD Cert.ReferenceIdeal.τ).loc b) = Cert.ReferenceIdeal.Scan.X3 m' c (Proc.devRef .tc b) :=
      fun b hs => h.1 c _ (StableHlo.devRef_mem_ucRefs b hs)
    obtain ⟨⟨a, ha⟩, ⟨u, hu⟩, ⟨b, hb'⟩, ⟨w, hw⟩, ⟨d, hd⟩⟩ := @Cert.Pre_finite.real_arrays Cert.Pre_finite.facts _ _ _ _ _ (fun y => congrFun (hpre c) y)
    obtain ⟨e0, e1, e2, e3, e4⟩ := hin c
    obtain ⟨k0, k1, k2, k3, k4, k5⟩ := Cert.KernelIdeal.Scan.results m g c a u b w d ha hu hb' hw hd
    obtain ⟨r0, r1, r2, r3, r4, r5⟩ := Cert.ReferenceIdeal.Scan.results m' c a u b w d (e0.trans ha) (e1.trans hu) (e2.trans hb') (e3.trans hw) (e4.trans hd)
    exact ⟨(hb _ (by decide)).trans (r0.trans k0.symm), (hb _ (by decide)).trans (r1.trans k1.symm), (hb _ (by decide)).trans (r2.trans k2.symm),
      (hb _ (by decide)).trans (r3.trans k3.symm), (hb _ (by decide)).trans (r4.trans k4.symm), (hb _ (by decide)).trans (r5.trans k5.symm),
      (hb _ (by decide)).trans (Cert.ReferenceIdeal.Scan.X3_args m' c _ (by simp)), (hb _ (by decide)).trans (Cert.ReferenceIdeal.Scan.X3_args m' c _ (by simp)),
      (hb _ (by decide)).trans (Cert.ReferenceIdeal.Scan.X3_args m' c _ (by simp)), (hb _ (by decide)).trans (Cert.ReferenceIdeal.Scan.X3_args m' c _ (by simp)),
      (hb _ (by decide)).trans (Cert.ReferenceIdeal.Scan.X3_args m' c _ (by simp))⟩

end Cert.Proof
-- ==== Proof.Dact.lean ====
/- The value of the gradient through the second MLP product: what the kernel stores, tile by tile. -/
module

public import proofs.«01_k».proof.Proof.Gen.DactIdeal.Frame
public import proofs.«01_k».proof.Proof.Gen.DactRefIdeal.Run
public import Idealize.ShloMosaic.Lib.Pipeline.ValueKit
public import Idealize.ShloMosaic.Lib.Claim
public import Idealize.ShloMosaic.Lib.Quiescent
public import proofs.«01_k».proof.Defs

@[expose] public section

set_option maxRecDepth 16384

noncomputable section

open Idealize.ShloMosaic Idealize.ShloMosaic.TcCoe Idealize.SL.Sem
open Idealize.ShloMosaic.Pipeline (Dat)

namespace Cert.DactIdeal.Val

open Cert.DactIdeal Cert.DactIdeal.Gen

variable (m : (ℓ : Loc nD τ sig) → Buf (Elt Ideal) ℓ)

/-- The reference's term over the kernel's arguments. -/
abbrev REF (D : FVec Ideal S4096x1024 .bf16) (W : FVec Ideal S4096x1024 .bf16) (H : FVec Ideal S4096x4096 .bf16) : FVec Ideal S4096x4096 .bf16 :=
  truncf .bf16 (select (cmpf .ogt (extf .f32 H Cert.DactRefIdeal.Gen.bitsLt_bf16_f32) (broadcastInDim Cert.DactRefIdeal.S4096x4096 ![] Cert.DactRefIdeal.Gen.bcast_S_S4096x4096 (constant Cert.DactRefIdeal.S_ .f32 0x00000000#32))) (mulf (Host.dotGeneral Cert.DactRefIdeal.dot_S4096x1024_S4096x1024_S4096x4096_1_1_0_0_n_n none (extf .f32 D Cert.DactRefIdeal.Gen.bitsLt_bf16_f32) (extf .f32 W Cert.DactRefIdeal.Gen.bitsLt_bf16_f32)) (mulf (broadcastInDim Cert.DactRefIdeal.S4096x4096 ![] Cert.DactRefIdeal.Gen.bcast_S_S4096x4096 (constant Cert.DactRefIdeal.S_ .f32 0x40000000#32)) (maximumf (extf .f32 H Cert.DactRefIdeal.Gen.bitsLt_bf16_f32) (broadcastInDim Cert.DactRefIdeal.S4096x4096 ![] Cert.DactRefIdeal.Gen.bcast_S_S4096x4096 (constant Cert.DactRefIdeal.S_ .f32 0x00000000#32))))) (broadcastInDim Cert.DactRefIdeal.S4096x4096 ![] Cert.DactRefIdeal.Gen.bcast_S_S4096x4096 (constant Cert.DactRefIdeal.S_ .f32 0x00000000#32))) Cert.DactRefIdeal.Gen.bitsLt_bf16_f32

/-- Which block each window holds at each point. -/
theorem idx : ∀ t : Fin cfg0.N, win0_0.index t = ![t.val / 4, 0] ∧ win0_1.index t = ![t.val % 4, 0] ∧ win0_2.index t = ![t.val / 4, t.val % 4]
    ∧ win0_3.index t = ![t.val / 4, t.val % 4] :=
  (by decide +kernel : ∀ t : Fin grid0.N, _)

/-- Past the threshold nothing is lost: below it the factor is already zero. -/
theorem gate (x s q : EReal) : (if 0 < x then s * (q * max x 0) else 0) = s * (q * max x 0) := by
  split_ifs with h
  · rfl
  · rw [max_eq_right (not_lt.mp h), mul_zero, mul_zero]

/-- What the body stores is the reference at the block's place. -/
theorem point (c : Dev nD) (t : Fin cfg0.N) (y) : k0_pay1 (iblk m c 0 t) (iblk m c 1 t) (iblk m c 2 t) y
    = REF (m ((c : Thread nD τ).loc main_arg0)) (m ((c : Thread nD τ).loc main_arg1)) (m ((c : Thread nD τ).loc main_arg2)) (((cfg0.win 3).blk t).view.emb y) := by
  pointwise [k0_pay1, REF]
  rw [gate, mul_assoc]
  blk_point [iblk, V, idx t]

/-- The result array after the run. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.DactIdeal.Val

namespace Cert.Proof

/-- The kernel's hidden gradient is the reference's. -/
theorem dact_algebraic : Cert.algebraic_DactIdeal_DactRefIdeal (hDactIdeal := Cert.DactIdeal.Gen.facts) (hDactRefIdeal := Cert.DactRefIdeal.Gen.facts) := by
  pair_intro
  · run_from Cert.DactIdeal.Gen.run_main m g
  · run_from Cert.DactRefIdeal.Value.run m' g'
    exact (Cert.DactIdeal.Val.final m c).symm

/-- The reference's frame. -/
theorem dact_ref_frame : Cert.quiescent_DactRefIdeal (hDactRefIdeal := Cert.DactRefIdeal.Gen.facts) := by
  intro m g _
  exact (θ_run _ _ _).mono (fun r h => ⟨fun c => (h c).2, sem_eq_zero_of_no_sems (by decide) r.2⟩) (Cert.DactRefIdeal.Value.run m g)

end Cert.Proof

end
-- ==== Proof.Dw2.lean ====
/- The value of the second MLP weight's gradient: the two halves of the rows, added up in the kernel's scratch. -/
module

public import proofs.«01_k».proof.Proof.Gen.Dw2Ideal.Frame
public import proofs.«01_k».proof.Proof.Gen.Dw2RefIdeal.Run
public import Idealize.ShloMosaic.Lib.Pipeline.ValueKit
public import Idealize.ShloMosaic.Lib.Claim
public import Idealize.ShloMosaic.Lib.Pipeline.ReadBack
public import Idealize.ShloMosaic.Lib.Quiescent
public import proofs.«01_k».proof.Defs

@[expose] public section

set_option maxRecDepth 16384

noncomputable section

open Idealize.ShloMosaic Idealize.ShloMosaic.TcCoe Idealize.SL.Sem
open Idealize.ShloMosaic.Pipeline (Dat)

namespace Cert.Dw2Ideal.Val

open Cert.Dw2Ideal Cert.Dw2Ideal.Gen

variable (m : (ℓ : Loc nD τ sig) → Buf (Elt Ideal) ℓ)

/-- The reference's gradient over the kernel's arguments: the squared activations against the upstream gradient. -/
abbrev REF (H : FVec Ideal S4096x4096 .bf16) (D : FVec Ideal S4096x1024 .bf16) : FVec Ideal S4096x1024 .f32 :=
  transpose Cert.Dw2RefIdeal.S4096x1024 [1, 0] (Host.dotGeneral Cert.Dw2RefIdeal.dot_S4096x1024_S4096x4096_S1024x4096_0_0_1_1_n_n none (extf .f32 D Cert.Dw2RefIdeal.Gen.bitsLt_bf16_f32) (mulf (maximumf (extf .f32 H Cert.Dw2RefIdeal.Gen.bitsLt_bf16_f32) (broadcastInDim Cert.Dw2RefIdeal.S4096x4096 ![] Cert.Dw2RefIdeal.Gen.bcast_S_S4096x4096 (constant Cert.Dw2RefIdeal.S_ .f32 0x00000000#32))) (maximumf (extf .f32 H Cert.Dw2RefIdeal.Gen.bitsLt_bf16_f32) (broadcastInDim Cert.Dw2RefIdeal.S4096x4096 ![] Cert.Dw2RefIdeal.Gen.bcast_S_S4096x4096 (constant Cert.Dw2RefIdeal.S_ .f32 0x00000000#32))))) Cert.Dw2RefIdeal.Gen.transposes_S1024x4096_S4096x1024_1_0

/-- Which block each window holds at each point. -/
theorem idx : ∀ t : Fin cfg0.N, win0_0.index t = ![t.val % 2, t.val / 2] ∧ win0_1.index t = ![t.val % 2, 0] ∧ win0_2.index t = ![t.val / 2, 0]
    ∧ win0_3.index t = ![t.val / 2, 0] :=
  (by decide +kernel : ∀ t : Fin grid0.N, _)

/-- The rectified value squared, times the upstream gradient, for one lane. -/
abbrev lane (h d : EReal) : EReal := max h 0 * max h 0 * d

/-- The first half starts the scratch with its part. -/
theorem first (x0 : Vec Ideal S2048x1024 .bf16) (x1 : Vec Ideal S2048x1024 .bf16) (j : S1024x1024.Idx) :
    k0_pay2 x0 x1 j = 0 + ∑ k : Fin 2048, lane (x0 (ix2 k (j 0))) (x1 (ix2 k (j 1))) := by
  pointwise [k0_pay2, k0_pay1]

/-- The other half adds its part to what the scratch held. -/
theorem next (x0 : Vec Ideal S2048x1024 .bf16) (x1 : Vec Ideal S2048x1024 .bf16) (acc : Vec Ideal S1024x1024 .f32) (j : S1024x1024.Idx) :
    k0_pay4 x0 x1 acc j = acc j + ∑ k : Fin 2048, lane (x0 (ix2 k (j 0))) (x1 (ix2 k (j 1))) := by
  pointwise [k0_pay4, k0_pay1]

/-- The reference's entry as one sum over all the rows. -/
theorem ref_at (H : FVec Ideal S4096x4096 .bf16) (D : FVec Ideal S4096x1024 .bf16) (j : S4096x1024.Idx) :
    REF H D j = ∑ k : Fin 4096, lane (H (ix2 k (j 0))) (D (ix2 k (j 1))) := by
  pointwise [REF]
  exact Finset.sum_congr rfl fun k _ => mul_comm _ _

/-- The sum so far: in the scratch until the last point of a run, which writes it to the result instead. -/
abbrev kept (c : Dev nD) (n : ℕ) (h : n < cfg0.N) : Vec Ideal S1024x1024 .f32 :=
  if n % 2 = 1 then (outsAt0 m c n h).1 else (outsAt0 m c n h).2.2

/-- The narrow result holds what the wide one does. -/
theorem narrow_eq (c : Dev nD) (t : Fin cfg0.N) (h : t.val % 2 = 1) (y : S1024x1024.Idx) : (outsAt0 m c t.val t.isLt).2.1 y = (outsAt0 m c t.val t.isLt).1 y := by
  rw [outsAt0_B m c t (by omega) h]; frame_out
  pointwise [k0_pay4, k0_pay5]

/-- The first point of a run starts the sum. -/
theorem kept_first (c : Dev nD) (t : Fin cfg0.N) (h : t.val % 2 = 0) (j : S1024x1024.Idx) :
    kept m c t.val t.isLt j = 0 + ∑ k : Fin 2048, lane ((show FVec Ideal S2048x1024 .bf16 from iblk m c 0 t) (ix2 k (j 0))) ((show FVec Ideal S2048x1024 .bf16 from iblk m c 1 t) (ix2 k (j 1))) := by
  rw [kept, if_neg (by omega), outsAt0_A m c t h (by omega)]; frame_out
  exact first _ _ j

/-- Each later point adds its part. -/
theorem kept_next (c : Dev nD) (t : Fin cfg0.N) (h : ¬ t.val % 2 = 0) (j : S1024x1024.Idx) :
    kept m c t.val t.isLt j = kept m c (t.val - 1) (Nat.lt_of_le_of_lt (Nat.sub_le _ _) t.isLt) j
      + ∑ k : Fin 2048, lane ((show FVec Ideal S2048x1024 .bf16 from iblk m c 0 t) (ix2 k (j 0))) ((show FVec Ideal S2048x1024 .bf16 from iblk m c 1 t) (ix2 k (j 1))) := by
  rw [kept, if_pos (by omega), kept, if_neg (by omega), outsAt0_B m c t h (by omega)]; frame_out
  rw [read_unread_whole]
  exact next _ _ _ j

/-- What the last point of a run writes is the reference at the block's place. -/
theorem point (c : Dev nD) (t : Fin cfg0.N) (h : t.val % 2 = 1) (y : S1024x1024.Idx) : (outsAt0 m c t.val t.isLt).1 y
    = REF (m ((c : Thread nD τ).loc main_arg0)) (m ((c : Thread nD τ).loc main_arg1)) (((cfg0.win 2).blk t).view.emb y) := by
  have hk : (outsAt0 m c t.val t.isLt).1 y = kept m c t.val t.isLt y := by rw [kept, if_pos h]
  rw [hk, Pipeline.eq_sum_fin_of_reset_step_apply_of_flush (kept m c) 2 (fun _ => 0) _ (kept_first m c) (kept_next m c) t h y, zero_add, ref_at]
  refine Fin.sum_mul_add_congr fun s k hl => ?_
  blk_point [iblk, V, idx t, idx ⟨_, Pipeline.run_point_lt_of_flush t h s⟩]

/-- The wide result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]
  exact point m c t ((flush0_2 t).mp hf) y

/-- The narrow result array after the run. -/
theorem final_narrow (c : Dev nD) : (dats m 0 c).arrAt 3 (cfgs 0).N
    = truncf .bf16 (REF (m ((c : Thread nD τ).loc main_arg0)) (m ((c : Thread nD τ).loc main_arg1))) Cert.Dw2RefIdeal.Gen.bitsLt_bf16_f32 := by
  refine (dats m 0 c).arrAt_eq_of_covers 3 _ (by decide +kernel) fun t hf y => ?_
  blk_simp
  rw [after0_3, narrow_eq m c t ((flush0_3 t).mp hf)]
  exact point m c t ((flush0_3 t).mp hf) y

end Cert.Dw2Ideal.Val

namespace Cert.Proof

/-- The kernel's gradient of the second MLP weight, in both formats, is the reference's. -/
theorem dw2_algebraic : Cert.algebraic_Dw2Ideal_Dw2RefIdeal (hDw2Ideal := Cert.Dw2Ideal.Gen.facts) (hDw2RefIdeal := Cert.Dw2RefIdeal.Gen.facts) := by
  pair_intro
  · run_from Cert.Dw2Ideal.Gen.run_main m g
  · run_from Cert.Dw2RefIdeal.Value.run m' g'
    · exact (Cert.Dw2Ideal.Val.final m c).symm
    · exact (Cert.Dw2Ideal.Val.final_narrow m c).symm

/-- The reference's frame. -/
theorem dw2_ref_frame : Cert.quiescent_Dw2RefIdeal (hDw2RefIdeal := Cert.Dw2RefIdeal.Gen.facts) := by
  intro m g _
  exact (θ_run _ _ _).mono (fun r h => ⟨fun c => (h c).2.2, sem_eq_zero_of_no_sems (by decide) r.2⟩) (Cert.Dw2RefIdeal.Value.run m g)

end Cert.Proof

end
-- ==== Proof.Dw1.lean ====
/- The value of the first MLP weight's gradient: what the kernel stores, block by block. -/
module

public import proofs.«01_k».proof.Proof.Gen.Dw1Ideal.Frame
public import proofs.«01_k».proof.Proof.Gen.Dw1RefIdeal.Run
public import Idealize.ShloMosaic.Lib.Pipeline.ValueKit
public import Idealize.ShloMosaic.Lib.Claim
public import Idealize.ShloMosaic.Lib.Quiescent
public import proofs.«01_k».proof.Defs

@[expose] public section

set_option maxRecDepth 16384

noncomputable section

open Idealize.ShloMosaic Idealize.ShloMosaic.TcCoe Idealize.SL.Sem
open Idealize.ShloMosaic.Pipeline (Dat)

namespace Cert.Dw1Ideal.Val

open Cert.Dw1Ideal Cert.Dw1Ideal.Gen

variable (m : (ℓ : Loc nD τ sig) → Buf (Elt Ideal) ℓ)

/-- The reference's gradient over the kernel's arguments: one product, taken apart into the four shards of the weight. -/
abbrev REF (Y : FVec Ideal S4096x1024 .bf16) (D : FVec Ideal S4096x4096 .bf16) : FVec Ideal S4x1024x1024 .f32 :=
  transpose S4x1024x1024 [1, 0, 2] (shapeCast Cert.Dw1RefIdeal.S1024x4x1024 (transpose Cert.Dw1RefIdeal.S1024x4096 [1, 0] (Host.dotGeneral Cert.Dw1RefIdeal.dot_S4096x4096_S4096x1024_S4096x1024_0_0_1_1_n_n none (extf .f32 D Cert.Dw1RefIdeal.Gen.bitsLt_bf16_f32) (extf .f32 Y Cert.Dw1RefIdeal.Gen.bitsLt_bf16_f32)) Cert.Dw1RefIdeal.Gen.transposes_S4096x1024_S1024x4096_1_0) Cert.Dw1RefIdeal.Gen.shapeCasts_S1024x4096_S1024x4x1024) Cert.Dw1RefIdeal.Gen.transposes_S1024x4x1024_S4x1024x1024_1_0_2

/-- Which block each window holds at each point. -/
theorem idx : ∀ t : Fin cfg0.N, win0_0.index t = ![0, 0] ∧ win0_1.index t = ![0, t.val] ∧ win0_2.index t = ![t.val, 0, 0]
    ∧ win0_3.index t = ![t.val, 0, 0] :=
  (by decide +kernel : ∀ t : Fin grid0.N, _)

/-- What the body stores in the wide result is the reference at the block's place. -/
theorem point (c : Dev nD) (t : Fin cfg0.N) (y) : k0_pay2 (iblk m c 0 t) (iblk m c 1 t) y
    = REF (m ((c : Thread nD τ).loc main_arg0)) (m ((c : Thread nD τ).loc main_arg1)) (((cfg0.win 2).blk t).view.emb y) := by
  pointwise [k0_pay2, k0_pay1, REF]
  refine Finset.sum_congr rfl fun k _ => ?_
  rw [mul_comm]
  blk_point [iblk, V, idx t]

/-- What the body stores in the narrow result is the reference at the block's place. -/
theorem point_narrow (c : Dev nD) (t : Fin cfg0.N) (y) : k0_pay3 (iblk m c 0 t) (iblk m c 1 t) y
    = REF (m ((c : Thread nD τ).loc main_arg0)) (m ((c : Thread nD τ).loc main_arg1)) (((cfg0.win 3).blk t).view.emb y) := by
  pointwise [k0_pay3, k0_pay1, REF]
  refine Finset.sum_congr rfl fun k _ => ?_
  rw [mul_comm]
  blk_point [iblk, V, idx t]

/-- The wide result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The narrow result array after the run. -/
theorem final_narrow (c : Dev nD) : (dats m 0 c).arrAt 3 (cfgs 0).N
    = truncf .bf16 (REF (m ((c : Thread nD τ).loc main_arg0)) (m ((c : Thread nD τ).loc main_arg1))) Cert.Dw1RefIdeal.Gen.bitsLt_bf16_f32 := by
  refine (dats m 0 c).arrAt_eq_of_covers 3 _ (by decide +kernel) fun t _ y => ?_
  blk_simp
  rw [after0_3]; frame_out
  exact point_narrow m c t y

end Cert.Dw1Ideal.Val

namespace Cert.Proof

/-- The kernel's gradient of the first MLP weight, in both formats, is the reference's. -/
theorem dw1_algebraic : Cert.algebraic_Dw1Ideal_Dw1RefIdeal (hDw1Ideal := Cert.Dw1Ideal.Gen.facts) (hDw1RefIdeal := Cert.Dw1RefIdeal.Gen.facts) := by
  pair_intro
  · run_from Cert.Dw1Ideal.Gen.run_main m g
  · run_from Cert.Dw1RefIdeal.Value.run m' g'
    · exact (Cert.Dw1Ideal.Val.final m c).symm
    · exact (Cert.Dw1Ideal.Val.final_narrow m c).symm

/-- The reference's frame. -/
theorem dw1_ref_frame : Cert.quiescent_Dw1RefIdeal (hDw1RefIdeal := Cert.Dw1RefIdeal.Gen.facts) := by
  intro m g _
  exact (θ_run _ _ _).mono (fun r h => ⟨fun c => (h c).2.2, sem_eq_zero_of_no_sems (by decide) r.2⟩) (Cert.Dw1RefIdeal.Value.run m g)

end Cert.Proof

end
-- ==== Proof.Norm.lean ====
/- The gradient through a row normalisation, one row at a time, over the extended reals. -/
module

public import Idealize.ShloMosaic.Lib.Pipeline.ValueKit
public import Idealize.ShloMosaic.Lib.Claim

@[expose] public section

noncomputable section

open Idealize.ShloMosaic

namespace Cert.Norm

/-- The mean of a row's squares, with the small constant that keeps the root away from zero. -/
def meanSq (h : Fin 1024 → EReal) : EReal :=
  Ideal.div (∑ x, h x * h x) (Ideal.ofBits FTy.f32 0x44800000#32) + Ideal.ofBits FTy.f32 0x358637BD#32

/-- A row's entry normalised: `h` the row, `g` the gain. -/
def normAt (h g : Fin 1024 → EReal) (j : Fin 1024) : EReal :=
  h j * Ideal.rsqrt (meanSq h) * g j

/-- What the normalisation sends back through the mean of the squares, to every entry of the row alike. -/
def pull (q h g : Fin 1024 → EReal) : EReal :=
  Ideal.div ((∑ x, h x * (q x * g x)) * (Ideal.ofBits FTy.f32 0xBF000000#32 * Ideal.div (Ideal.rsqrt (meanSq h)) (meanSq h)))
    (Ideal.ofBits FTy.f32 0x44800000#32)

/-- The gradient of a row's entry: `q` what comes from above, `h` the row, `g` the gain, `d` what the residual path brings. -/
def dhAt (q h g : Fin 1024 → EReal) (d : EReal) (j : Fin 1024) : EReal :=
  q j * g j * Ideal.rsqrt (meanSq h) + h j * pull q h g + pull q h g * h j + d

/-- One row's part of the gradient of the gain. -/
def dgainAt (q h : Fin 1024 → EReal) (j : Fin 1024) : EReal :=
  h j * Ideal.rsqrt (meanSq h) * q j

/-- The normalised row depends on its ingredients entry by entry. -/
theorem normAt_congr {h h' g g' : Fin 1024 → EReal} {j j' : Fin 1024} (hh : ∀ k, h k = h' k) (hg : ∀ k, g k = g' k) (hj : j = j') :
    normAt h g j = normAt h' g' j' := by
  obtain rfl : h = h' := funext hh
  obtain rfl : g = g' := funext hg
  rw [hj]

/-- The row's gradient depends on its ingredients entry by entry. -/
theorem dhAt_congr {q q' h h' g g' : Fin 1024 → EReal} {d d' : EReal} {j j' : Fin 1024} (hq : ∀ k, q k = q' k) (hh : ∀ k, h k = h' k) (hg : ∀ k, g k = g' k)
    (hd : d = d') (hj : j = j') : dhAt q h g d j = dhAt q' h' g' d' j' := by
  obtain rfl : q = q' := funext hq
  obtain rfl : h = h' := funext hh
  obtain rfl : g = g' := funext hg
  rw [hd, hj]

/-- So does its part of the gain's gradient. -/
theorem dgainAt_congr {q q' h h' : Fin 1024 → EReal} {j j' : Fin 1024} (hq : ∀ k, q k = q' k) (hh : ∀ k, h k = h' k) (hj : j = j') :
    dgainAt q h j = dgainAt q' h' j' := by
  obtain rfl : q = q' := funext hq
  obtain rfl : h = h' := funext hh
  rw [hj]

end Cert.Norm

end
-- ==== Proof.Dy.lean ====
/- The value of the gradient through the first MLP product and the normalisation before it. -/
module

public import proofs.«01_k».proof.Proof.Gen.DyIdeal.Frame
public import proofs.«01_k».proof.Proof.Gen.DyRefIdeal.Run
public import proofs.«01_k».proof.Proof.Norm
public import Idealize.ShloMosaic.Lib.Quiescent
public import proofs.«01_k».proof.Defs

@[expose] public section

set_option maxRecDepth 16384

noncomputable section

open Idealize.ShloMosaic Idealize.ShloMosaic.TcCoe Idealize.SL.Sem
open Idealize.ShloMosaic.Pipeline (Dat)

namespace Cert.DyIdeal.Val

open Cert.DyIdeal Cert.DyIdeal.Gen Cert.Norm

variable (m : (ℓ : Loc nD τ sig) → Buf (Elt Ideal) ℓ)

/-- The gradient of the normalised rows: the hidden gradient against the whole first weight, whose columns lie in four shards. -/
def up (A : FVec Ideal S4096x4096 .bf16) (W : FVec Ideal S4x1024x1024 .bf16) (r : Fin 4096) (k : Fin 1024) : EReal :=
  ∑ l : Fin 4096, A (ix2 r l) * W (ix3 ⟨l.val / 1024, by omega⟩ k ⟨l.val % 1024, by omega⟩)

/-- The gradient of the rows before the normalisation. -/
def DH (A : FVec Ideal S4096x4096 .bf16) (W : FVec Ideal S4x1024x1024 .bf16) (H : FVec Ideal S4096x1024 .f32) (G : FVec Ideal S1x1024 .f32)
    (D : FVec Ideal S4096x1024 .f32) : FVec Ideal S4096x1024 .f32 :=
  fun i => dhAt (up A W (i 0)) (fun k => H (ix2 (i 0) k)) (fun k => G (ix2 0 k)) (D i) (i 1)

/-- The gradient of the gain. -/
def DG (A : FVec Ideal S4096x4096 .bf16) (W : FVec Ideal S4x1024x1024 .bf16) (H : FVec Ideal S4096x1024 .f32) : FVec Ideal S1x1024 .f32 :=
  fun i => ∑ r : Fin 4096, dgainAt (up A W r) (fun k => H (ix2 r k)) (i 1)

/-- The gradient of the gain in eight parts, one for each block of rows. -/
def PARTS (A : FVec Ideal S4096x4096 .bf16) (W : FVec Ideal S4x1024x1024 .bf16) (H : FVec Ideal S4096x1024 .f32) : FVec Ideal S8x1x1024 .f32 :=
  fun i => ∑ s : Fin 512, dgainAt (up A W ⟨(i 0).val * 512 + s.val, by have h : (i 0).val < 8 := (i 0).isLt; omega⟩)
    (fun k => H (ix2 ⟨(i 0).val * 512 + s.val, by have h : (i 0).val < 8 := (i 0).isLt; omega⟩ k)) (i 2)

/-- The parts add up. -/
theorem parts_sum (A : FVec Ideal S4096x4096 .bf16) (W : FVec Ideal S4x1024x1024 .bf16) (H : FVec Ideal S4096x1024 .f32) :
    Host.reduceAdd (PARTS A W H) (constant S_ .f32 0x00000000#32) reducesTo_S8x1x1024_S1x1024_d0 h_S_ = DG A W H := by
  funext j
  pointwise
  exact Fin.sum_mul_add_congr fun s k hl => rfl

/-- Which block each window holds at each point. -/
theorem idx : ∀ t : Fin cfg0.N, win0_0.index t = ![t.val, 0] ∧ win0_1.index t = ![0, 0, 0] ∧ win0_2.index t = ![1, 0, 0]
    ∧ win0_3.index t = ![2, 0, 0] ∧ win0_4.index t = ![3, 0, 0] ∧ win0_5.index t = ![t.val, 0] ∧ win0_6.index t = ![t.val, 0]
    ∧ win0_7.index t = ![0, 0] ∧ win0_8.index t = ![t.val, 0] ∧ win0_9.index t = ![t.val, 0] ∧ win0_10.index t = ![t.val, 0, 0] :=
  (by decide +kernel : ∀ t : Fin grid0.N, _)

/-- The body's row gradient is the gradient through the normalisation. -/
theorem row (Q : FVec Ideal S512x1024 .f32) (H D : Vec Ideal S512x1024 .f32) (G : Vec Ideal S1x1024 .f32) (j : S512x1024.Idx) :
    k0_pay2 Q H D G (k0_pay6 H) j = dhAt (fun k => Q (ix2 (j 0) k)) (fun k => H (ix2 (j 0) k)) (fun k => G (ix2 0 k)) (D j) (j 1) := by
  pointwise [k0_pay2, k0_pay6, k0_pay1, dhAt, pull, meanSq]
  simp only [Fin.sum_univ_one]

/-- The body's part of the gain's gradient adds its block's rows. -/
theorem gain (Q : FVec Ideal S512x1024 .f32) (H : Vec Ideal S512x1024 .f32) (j : S1x1x1024.Idx) :
    k0_pay4 Q H (k0_pay6 H) j = ∑ s : Fin 512, dgainAt (fun k => Q (ix2 s k)) (fun k => H (ix2 s k)) (j 2) := by
  pointwise [k0_pay4, k0_pay6, k0_pay1, dgainAt, meanSq]

/-- The sum over the hidden axis, shard by shard. -/
theorem up_split (A : FVec Ideal S4096x4096 .bf16) (W : FVec Ideal S4x1024x1024 .bf16) (r : Fin 4096) (k : Fin 1024) :
    up A W r k = ∑ s : Fin 4, ∑ l : Fin 1024, A (ix2 r ⟨s.val * 1024 + l.val, by omega⟩) * W (ix3 s k l) :=
  (Fin.sum_mul_add_congr fun s l hl => by
    have h1 : (⟨(s.val * 1024 + l.val) / 1024, by omega⟩ : Fin 4) = s := Fin.ext (by show (s.val * 1024 + l.val) / 1024 = s.val; omega)
    have h2 : (⟨(s.val * 1024 + l.val) % 1024, by omega⟩ : Fin 1024) = l := Fin.ext (by show (s.val * 1024 + l.val) % 1024 = l.val; omega)
    show _ = A (ix2 r ⟨s.val * 1024 + l.val, hl⟩) * W (ix3 ⟨(s.val * 1024 + l.val) / 1024, by omega⟩ k ⟨(s.val * 1024 + l.val) % 1024, by omega⟩)
    rw [h1, h2]).symm

/-- The body's product, in its four parts, is the whole sum over the hidden axis. -/
theorem prod (c : Dev nD) (t : Fin cfg0.N) (i : S512x1024.Idx) (r : Fin 4096) (hr : r.val = t.val * 512 + (i 0).val) :
    k0_pay5 (iblk m c 0 t) (iblk m c 1 t) (iblk m c 2 t) (iblk m c 3 t) (iblk m c 4 t) i
      = up (m ((c : Thread nD τ).loc main_arg0)) (m ((c : Thread nD τ).loc main_arg1)) r (i 1) := by
  refine Eq.trans ?_ (up_split _ _ _ _).symm
  rw [Fin.sum_univ_four]
  pointwise [k0_pay5]
  blk_point [iblk, V, idx t]

/-- The body's rows of the residual stream are the block's rows of the array. -/
theorem rows (c : Dev nD) (t : Fin cfg0.N) (i : Fin 512) (k : Fin 1024) (r : Fin 4096) (hr : r.val = t.val * 512 + i.val) :
    (show FVec Ideal S512x1024 .f32 from iblk m c 5 t) (ix2 i k) = (show FVec Ideal S4096x1024 .f32 from m ((c : Thread nD τ).loc main_arg2)) (ix2 r k) := by
  blk_ext [iblk, V, idx t]

/-- What the body stores in the wide result is the row gradient at the block's place. -/
theorem point (c : Dev nD) (t : Fin cfg0.N) (y : S512x1024.Idx) (i : S4096x1024.Idx) (h0 : (i 0).val = t.val * 512 + (y 0).val) (h1 : (i 1).val = (y 1).val) :
    k0_pay2 (k0_pay5 (iblk m c 0 t) (iblk m c 1 t) (iblk m c 2 t) (iblk m c 3 t) (iblk m c 4 t)) (iblk m c 5 t) (iblk m c 6 t) (iblk m c 7 t) (k0_pay6 (iblk m c 5 t)) y
    = DH (m ((c : Thread nD τ).loc main_arg0)) (m ((c : Thread nD τ).loc main_arg1)) (m ((c : Thread nD τ).loc main_arg2)) (m ((c : Thread nD τ).loc main_arg3)) (m ((c : Thread nD τ).loc main_arg4)) i := by
  refine (row _ _ _ _ y).trans (dhAt_congr (fun k => prod m c t (ix2 (y 0) k) (i 0) h0) (fun k => rows m c t (y 0) k (i 0) h0) (fun k => ?_) ?_ (Fin.ext h1.symm))
  · blk_ext [iblk, V, idx t]
  · blk_ext [iblk, V, idx t]

/-- What the body stores of the gain's gradient is its block's part. -/
theorem point_gain (c : Dev nD) (t : Fin cfg0.N) (y : S1x1x1024.Idx) (i : S8x1x1024.Idx) (h0 : (i 0).val = t.val) (h2 : (i 2).val = (y 2).val) :
    k0_pay4 (k0_pay5 (iblk m c 0 t) (iblk m c 1 t) (iblk m c 2 t) (iblk m c 3 t) (iblk m c 4 t)) (iblk m c 5 t) (k0_pay6 (iblk m c 5 t)) y
    = PARTS (m ((c : Thread nD τ).loc main_arg0)) (m ((c : Thread nD τ).loc main_arg1)) (m ((c : Thread nD τ).loc main_arg2)) i := by
  refine (gain _ _ y).trans (Finset.sum_congr rfl fun s _ => dgainAt_congr (fun k => prod m c t (ix2 s k) _ ?_) (fun k => rows m c t s k _ ?_) (Fin.ext h2.symm))
  all_goals
    show (i 0).val * 512 + s.val = t.val * 512 + s.val
    rw [h0]

/-- The wide result array after the run. -/
theorem final (c : Dev nD) : (dats m 0 c).arrAt 8 (cfgs 0).N
    = DH (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]; unfold_out out0_8; frame_out
  refine point m c t y _ ?_ ?_ <;> (blk_simp [idx t] <;> try omega)

/-- The narrow result array after the run. -/
theorem final_narrow (c : Dev nD) : (dats m 0 c).arrAt 9 (cfgs 0).N
    = DH (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t _ y => ?_
  blk_simp
  rw [after0_9]; unfold_out out0_9; frame_out
  refine point m c t y _ ?_ ?_ <;> (blk_simp [idx t] <;> try omega)

/-- The array of the gain's parts after the run. -/
theorem final_gain (c : Dev nD) : (dats m 0 c).arrAt 10 (cfgs 0).N
    = PARTS (m ((c : Thread nD τ).loc main_arg0)) (m ((c : Thread nD τ).loc main_arg1)) (m ((c : Thread nD τ).loc main_arg2)) := by
  refine (dats m 0 c).arrAt_eq_of_covers 10 _ (by decide +kernel) fun t _ y => ?_
  blk_simp
  rw [after0_10]; unfold_out out0_10; frame_out
  refine point_gain m c t y _ ?_ ?_ <;> (blk_simp [idx t] <;> try omega)

/-- The host's sum after the kernel reads the array of parts. -/
theorem tail (c : Dev nD) : Pipeline.afterTail₀ cfgs (dats m) 0 (V0 m) [hostOps1] c main_v1
    = Host.reduceAdd (show FVec Ideal S8x1x1024 .f32 from (dats m 0 c).arrAt 10 (cfgs 0).N) (constant S_ .f32 0x00000000#32) reducesTo_S8x1x1024_S1x1024_d0 h_S_ := by
  unfold Pipeline.afterTail₀
  simp only [List.flatten_cons, List.flatten_nil, List.append_nil]
  after_results
  exact congrArg (fun X => Host.reduceAdd X (constant S_ .f32 0x00000000#32) reducesTo_S8x1x1024_S1x1024_d0 h_S_)
    (Pipeline.withArrays_arr_shared spec0 c (V0 m c) (fun w => (dats m 0 c).arrAt w (cfgs 0).N) ((dats m 0 c).arrAt_sharedIn sharedIn0 (V0 m c) (A_eq m c) _) 10)

/-- The kernel's run, with the three results and the arguments named. -/
theorem run (g : Dev nD → PrngReg) : θ_run defs (onTc (τ := τ) (main (F := Ideal))) ⟨m, fun _ => 0, g⟩ fun r => ∀ c : Dev nD,
      r.2.mem ((c : Thread nD τ).loc main_v0_0) = DH (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_1) = DH (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v1) = DG (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  run_from Cert.DyIdeal.Gen.run_main m g
  · exact final m c
  · exact final_narrow m c
  · exact (tail m c).trans ((congrArg (fun X => Host.reduceAdd X (constant S_ .f32 0x00000000#32) reducesTo_S8x1x1024_S1x1024_d0 h_S_) (final_gain m c)).trans (parts_sum _ _ _))

end Cert.DyIdeal.Val

namespace Cert.DyRefIdeal.Val

open Cert.DyRefIdeal Cert.DyRefIdeal.Gen Cert.Norm

variable (m : (ℓ : Loc nD τ sig) → Buf (Elt Ideal) ℓ)

/-- The reference's product is the sum over the hidden axis. -/
theorem prod (A : FVec Ideal S4096x4096 .bf16) (W : FVec Ideal S4x1024x1024 .bf16) (i : S4096x1024.Idx) :
    Host.dotGeneral dot_S4096x4096_S1024x4096_S4096x1024_1_1_0_0_n_n none (extf .f32 A bitsLt_bf16_f32) (shapeCast S1024x4096 (transpose S1024x4x1024 [1, 0, 2] (extf .f32 W bitsLt_bf16_f32) transposes_S4x1024x1024_S1024x4x1024_1_0_2) shapeCasts_S1024x4x1024_S1024x4096) i
      = Cert.DyIdeal.Val.up A W (i 0) (i 1) := by
  pointwise [Cert.DyIdeal.Val.up]

/-- The reference's mean of the squares, before the root. -/
def ms (H : FVec Ideal S4096x1024 .f32) : FVec Ideal S4096x1 .f32 :=
  addf (Host.divf (broadcastInDim S4096x1 ![0] bcast_S4096_S4096x1_0 (Host.reduceAdd (mulf H H) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- The reference's upstream gradient times the gain. -/
def scaled (Q : FVec Ideal S4096x1024 .f32) (G : FVec Ideal S1x1024 .f32) : FVec Ideal S4096x1024 .f32 :=
  mulf Q (broadcastInDim S4096x1024 ![0, 1] bcast_S1x1024_S4096x1024_0_1 G)

/-- The reference's term through the mean. -/
def back (Q H : FVec Ideal S4096x1024 .f32) (G : FVec Ideal S1x1024 .f32) : FVec Ideal S4096x1024 .f32 :=
  broadcastInDim S4096x1024 ![0] bcast_S4096_S4096x1024_0 (Host.reduceAdd (Host.divf (mulf (shapeCast _ (Host.reduceAdd (mulf H (scaled Q G)) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (ms H)) (ms H)))) (broadcastInDim S4096x1 ![] bcast_S_S4096x1 (constant S_ .f32 0x44800000#32))) (constant S_ .f32 0x00000000#32) reducesTo_S4096x1_S4096_d1 h_S_)

/-- The reference's gradient of the rows before the normalisation. -/
def dh (Q H : FVec Ideal S4096x1024 .f32) (G : FVec Ideal S1x1024 .f32) (D : FVec Ideal S4096x1024 .f32) : FVec Ideal S4096x1024 .f32 :=
  addf (addf (addf (mulf (scaled Q G) (broadcastInDim S4096x1024 ![0, 1] bcast_S4096x1_S4096x1024_0_1 (Host.rsqrt (ms H)))) (mulf H (back Q H G))) (mulf (back Q H G) H)) D

/-- Entry by entry it is the gradient through the normalisation. -/
theorem dh_at (Q H : FVec Ideal S4096x1024 .f32) (G : FVec Ideal S1x1024 .f32) (D : FVec Ideal S4096x1024 .f32) (i : S4096x1024.Idx) :
    dh Q H G D i = dhAt (fun k => Q (ix2 (i 0) k)) (fun k => H (ix2 (i 0) k)) (fun k => G (ix2 0 k)) (D i) (i 1) := by
  pointwise [dh, ms, scaled, back, dhAt, pull, meanSq]
  simp only [Fin.sum_univ_one]

/-- The reference's gradient of the gain. -/
def dg (Q H : FVec Ideal S4096x1024 .f32) : FVec Ideal S1x1024 .f32 :=
  shapeCast _ (Host.reduceAdd (mulf (mulf H (broadcastInDim S4096x1024 ![0, 1] bcast_S4096x1_S4096x1024_0_1 (Host.rsqrt (ms H)))) Q) (constant S_ .f32 0x00000000#32) reducesTo_S4096x1024_S1024_d0 h_S_) shapeCasts_S1024_S1x1024

/-- Entry by entry it adds every row's part. -/
theorem dg_at (Q H : FVec Ideal S4096x1024 .f32) (i : S1x1024.Idx) :
    dg Q H i = ∑ r : Fin 4096, dgainAt (fun k => Q (ix2 r k)) (fun k => H (ix2 r k)) (i 1) := by
  pointwise [dg, ms, dgainAt, meanSq]

/-- The reference's product array. -/
def Q (A : FVec Ideal S4096x4096 .bf16) (W : FVec Ideal S4x1024x1024 .bf16) : FVec Ideal S4096x1024 .f32 :=
  Host.dotGeneral dot_S4096x4096_S1024x4096_S4096x1024_1_1_0_0_n_n none (extf .f32 A bitsLt_bf16_f32) (shapeCast S1024x4096 (transpose S1024x4x1024 [1, 0, 2] (extf .f32 W bitsLt_bf16_f32) transposes_S4x1024x1024_S1024x4x1024_1_0_2) shapeCasts_S1024x4x1024_S1024x4096)

/-- The reference's row gradient over its arguments. -/
theorem rows (A : FVec Ideal S4096x4096 .bf16) (W : FVec Ideal S4x1024x1024 .bf16) (H : FVec Ideal S4096x1024 .f32) (G : FVec Ideal S1x1024 .f32) (D : FVec Ideal S4096x1024 .f32) :
    dh (Q A W) H G D = Cert.DyIdeal.Val.DH A W H G D := by
  funext i
  exact (dh_at _ _ _ _ i).trans (dhAt_congr (fun k => prod A W (ix2 (i 0) k)) (fun _ => rfl) (fun _ => rfl) rfl rfl)

/-- The reference's gain gradient over its arguments. -/
theorem gains (A : FVec Ideal S4096x4096 .bf16) (W : FVec Ideal S4x1024x1024 .bf16) (H : FVec Ideal S4096x1024 .f32) :
    dg (Q A W) H = Cert.DyIdeal.Val.DG A W H := by
  funext i
  exact (dg_at _ _ i).trans (Finset.sum_congr rfl fun r _ => dgainAt_congr (fun k => prod A W (ix2 r k)) (fun _ => rfl) rfl)

/-- The reference's run, with the three results and the arguments named. -/
theorem run (g : Dev nD → PrngReg) : θ_run defs (onTc (τ := τ) (main (F := Ideal))) ⟨m, fun _ => 0, g⟩ fun r => ∀ c : Dev nD,
      r.2.mem ((c : Thread nD τ).loc main_v40) = dh (Q (m ((c : Thread nD τ).loc main_arg0)) (m ((c : Thread nD τ).loc main_arg1))) (m ((c : Thread nD τ).loc main_arg2)) (m ((c : Thread nD τ).loc main_arg3)) (m ((c : Thread nD τ).loc main_arg4))
      ∧ r.2.mem ((c : Thread nD τ).loc main_v42) = dh (Q (m ((c : Thread nD τ).loc main_arg0)) (m ((c : Thread nD τ).loc main_arg1))) (m ((c : Thread nD τ).loc main_arg2)) (m ((c : Thread nD τ).loc main_arg3)) (m ((c : Thread nD τ).loc main_arg4))
      ∧ r.2.mem ((c : Thread nD τ).loc main_v23) = dg (Q (m ((c : Thread nD τ).loc main_arg0)) (m ((c : Thread nD τ).loc main_arg1))) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run _ _ _).mono (fun r h c => ?_) (Cert.DyRefIdeal.Value.run m g)
  obtain ⟨h0, h1, h2, ha⟩ := h c
  refine ⟨h0.trans ?_, h1.trans ?_, h2.trans ?_, ha⟩
  · unfold Cert.DyRefIdeal.Value.res_main_v40 dh back scaled ms Q; rfl
  · unfold Cert.DyRefIdeal.Value.res_main_v42 dh back scaled ms Q; rfl
  · unfold dg ms Q; rfl

end Cert.DyRefIdeal.Val

namespace Cert.Proof

/-- The kernel's gradients through the first MLP product and the normalisation are the reference's. -/
theorem dy_algebraic : Cert.algebraic_DyIdeal_DyRefIdeal (hDyIdeal := Cert.DyIdeal.Gen.facts) (hDyRefIdeal := Cert.DyRefIdeal.Gen.facts) := by
  intro m g m' g' _ hagree
  refine ⟨_, _, _, Cert.DyIdeal.Val.run m g, ?_⟩
  refine (θ_run _ _ _).mono (fun r h c => ?_) (Cert.DyRefIdeal.Val.run m' g')
  obtain ⟨h0, h1, h2, ha⟩ := h c
  obtain ⟨e0, e1, e2, e3, e4⟩ := hagree c
  refine ⟨h0.trans ?_, h1.trans ?_, h2.trans ?_, ha⟩
  · rw [Cert.DyRefIdeal.Val.rows, e0, e1, e2, e3, e4]
  · rw [Cert.DyRefIdeal.Val.rows, e0, e1, e2, e3, e4]
  · rw [Cert.DyRefIdeal.Val.gains, e0, e1, e2]

/-- The reference's frame. -/
theorem dy_ref_frame : Cert.quiescent_DyRefIdeal (hDyRefIdeal := Cert.DyRefIdeal.Gen.facts) := by
  intro m g _
  exact (θ_run _ _ _).mono (fun r h => ⟨fun c => (h c).2.2.2, sem_eq_zero_of_no_sems (by decide) r.2⟩) (Cert.DyRefIdeal.Value.run m g)

end Cert.Proof

end
-- ==== Proof.Products.lean ====
/- The values of the plain products: a projection's input, its output's gradient, the first MLP product. -/
module

public import proofs.«01_k».proof.Proof.Gen.DoutIdeal.Frame
public import proofs.«01_k».proof.Proof.Gen.DoutRefIdeal.Run
public import proofs.«01_k».proof.Proof.Gen.UpIdeal.Frame
public import proofs.«01_k».proof.Proof.Gen.UpRefIdeal.Run
public import proofs.«01_k».proof.Proof.Gen.AbInIdeal.Frame
public import proofs.«01_k».proof.Proof.Gen.AbInRefIdeal.Run
public import proofs.«01_k».proof.Proof.Gen.GlaInIdeal.Frame
public import proofs.«01_k».proof.Proof.Gen.GlaInRefIdeal.Run
public import Idealize.ShloMosaic.Lib.Pipeline.ValueKit
public import Idealize.ShloMosaic.Lib.Claim
public import Idealize.ShloMosaic.Lib.Quiescent
public import proofs.«01_k».proof.Defs

@[expose] public section

set_option maxRecDepth 16384

noncomputable section

open Idealize.ShloMosaic Idealize.ShloMosaic.TcCoe Idealize.SL.Sem
open Idealize.ShloMosaic.Pipeline (Dat)

namespace Cert.DoutIdeal.Val

open Cert.DoutIdeal Cert.DoutIdeal.Gen

variable (m : (ℓ : Loc nD τ sig) → Buf (Elt Ideal) ℓ)

/-- The gradient before an output projection: the upstream gradient against the weight's rows. -/
abbrev REF (A : FVec Ideal S4096x1024 .bf16) (W : FVec Ideal S1024x1024 .bf16) : FVec Ideal S4096x1024 .f32 :=
  Host.dotGeneral Cert.DoutRefIdeal.dot_S4096x1024_S1024x1024_S4096x1024_1_1_0_0_n_n none (extf .f32 A Cert.DoutRefIdeal.Gen.bitsLt_bf16_f32) (extf .f32 W Cert.DoutRefIdeal.Gen.bitsLt_bf16_f32)

/-- Which block each window holds at each point. -/
theorem idx : ∀ t : Fin cfg0.N, win0_0.index t = ![t.val, 0] ∧ win0_1.index t = ![0, 0] ∧ win0_2.index t = ![t.val, 0] :=
  (by decide +kernel : ∀ t : Fin grid0.N, _)

/-- The result array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, REF]
  blk_point [iblk, V, idx t]

end Cert.DoutIdeal.Val

namespace Cert.Proof

/-- The kernel's product is the reference's. -/
theorem dout_algebraic : Cert.algebraic_DoutIdeal_DoutRefIdeal (hDoutIdeal := Cert.DoutIdeal.Gen.facts) (hDoutRefIdeal := Cert.DoutRefIdeal.Gen.facts) := by
  pair_intro
  · run_from Cert.DoutIdeal.Gen.run_main m g
  · run_from Cert.DoutRefIdeal.Value.run m' g'
    exact (Cert.DoutIdeal.Val.final m c).symm

/-- The reference's frame. -/
theorem dout_ref_frame : Cert.quiescent_DoutRefIdeal (hDoutRefIdeal := Cert.DoutRefIdeal.Gen.facts) := by
  intro m g _
  exact (θ_run _ _ _).mono (fun r h => ⟨fun c => (h c).2, sem_eq_zero_of_no_sems (by decide) r.2⟩) (Cert.DoutRefIdeal.Value.run m g)

end Cert.Proof

namespace Cert.UpIdeal.Val

open Cert.UpIdeal Cert.UpIdeal.Gen

variable (m : (ℓ : Loc nD τ sig) → Buf (Elt Ideal) ℓ)

/-- The first MLP product: the normalised rows against the weight, whose columns lie in four shards. -/
abbrev REF (A : FVec Ideal S4096x1024 .bf16) (W : FVec Ideal S4x1024x1024 .bf16) : FVec Ideal S4096x4096 .bf16 :=
  truncf .bf16 (Host.dotGeneral Cert.UpRefIdeal.dot_S4096x1024_S1024x4096_S4096x4096_1_0_0_1_n_n none (extf .f32 A Cert.UpRefIdeal.Gen.bitsLt_bf16_f32) (shapeCast Cert.UpRefIdeal.S1024x4096 (transpose Cert.UpRefIdeal.S1024x4x1024 [1, 0, 2] (extf .f32 W Cert.UpRefIdeal.Gen.bitsLt_bf16_f32) Cert.UpRefIdeal.Gen.transposes_S4x1024x1024_S1024x4x1024_1_0_2) Cert.UpRefIdeal.Gen.shapeCasts_S1024x4x1024_S1024x4096)) Cert.UpRefIdeal.Gen.bitsLt_bf16_f32

/-- Which block each window holds at each point. -/
theorem idx : ∀ t : Fin cfg0.N, win0_0.index t = ![t.val / 4, 0] ∧ win0_1.index t = ![t.val % 4, 0, 0] ∧ win0_2.index t = ![t.val / 4, t.val % 4] :=
  (by decide +kernel : ∀ t : Fin grid0.N, _)

/-- The result array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, REF]
  blk_point [iblk, V, idx t]

end Cert.UpIdeal.Val

namespace Cert.Proof

/-- The kernel's product is the reference's. -/
theorem up_algebraic : Cert.algebraic_UpIdeal_UpRefIdeal (hUpIdeal := Cert.UpIdeal.Gen.facts) (hUpRefIdeal := Cert.UpRefIdeal.Gen.facts) := by
  pair_intro
  · run_from Cert.UpIdeal.Gen.run_main m g
  · run_from Cert.UpRefIdeal.Value.run m' g'
    exact (Cert.UpIdeal.Val.final m c).symm

/-- The reference's frame. -/
theorem up_ref_frame : Cert.quiescent_UpRefIdeal (hUpRefIdeal := Cert.UpRefIdeal.Gen.facts) := by
  intro m g _
  exact (θ_run _ _ _).mono (fun r h => ⟨fun c => (h c).2, sem_eq_zero_of_no_sems (by decide) r.2⟩) (Cert.UpRefIdeal.Value.run m g)

end Cert.Proof

namespace Cert.AbInIdeal.Val

open Cert.AbInIdeal Cert.AbInIdeal.Gen

variable (m : (ℓ : Loc nD τ sig) → Buf (Elt Ideal) ℓ)

/-- The first layer's input projection, whose weight's columns lie in four shards. -/
abbrev REF (A : FVec Ideal S4096x1024 .bf16) (W : FVec Ideal S4x1024x896 .bf16) : FVec Ideal S4096x3584 .f32 :=
  Host.dotGeneral Cert.AbInRefIdeal.dot_S4096x1024_S1024x3584_S4096x3584_1_0_0_1_n_n none (extf .f32 A Cert.AbInRefIdeal.Gen.bitsLt_bf16_f32) (shapeCast Cert.AbInRefIdeal.S1024x3584 (transpose Cert.AbInRefIdeal.S1024x4x896 [1, 0, 2] (extf .f32 W Cert.AbInRefIdeal.Gen.bitsLt_bf16_f32) Cert.AbInRefIdeal.Gen.transposes_S4x1024x896_S1024x4x896_1_0_2) Cert.AbInRefIdeal.Gen.shapeCasts_S1024x4x896_S1024x3584)

/-- Which block each window holds at each point. -/
theorem idx : ∀ t : Fin cfg0.N, win0_0.index t = ![t.val / 4, 0] ∧ win0_1.index t = ![t.val % 4, 0, 0] ∧ win0_2.index t = ![t.val / 4, t.val % 4] :=
  (by decide +kernel : ∀ t : Fin grid0.N, _)

/-- The result array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, REF]
  blk_point [iblk, V, idx t]

end Cert.AbInIdeal.Val

namespace Cert.Proof

/-- The kernel's product is the reference's. -/
theorem ab_in_algebraic : Cert.algebraic_AbInIdeal_AbInRefIdeal (hAbInIdeal := Cert.AbInIdeal.Gen.facts) (hAbInRefIdeal := Cert.AbInRefIdeal.Gen.facts) := by
  pair_intro
  · run_from Cert.AbInIdeal.Gen.run_main m g
  · run_from Cert.AbInRefIdeal.Value.run m' g'
    exact (Cert.AbInIdeal.Val.final m c).symm

/-- The reference's frame. -/
theorem ab_in_ref_frame : Cert.quiescent_AbInRefIdeal (hAbInRefIdeal := Cert.AbInRefIdeal.Gen.facts) := by
  intro m g _
  exact (θ_run _ _ _).mono (fun r h => ⟨fun c => (h c).2, sem_eq_zero_of_no_sems (by decide) r.2⟩) (Cert.AbInRefIdeal.Value.run m g)

end Cert.Proof

namespace Cert.GlaInIdeal.Val

open Cert.GlaInIdeal Cert.GlaInIdeal.Gen

variable (m : (ℓ : Loc nD τ sig) → Buf (Elt Ideal) ℓ)

/-- The second layer's input projection. -/
abbrev REF (A : FVec Ideal S4096x1024 .bf16) (W : FVec Ideal S1024x3200 .bf16) : FVec Ideal S4096x3200 .f32 :=
  Host.dotGeneral Cert.GlaInRefIdeal.dot_S4096x1024_S1024x3200_S4096x3200_1_0_0_1_n_n none (extf .f32 A Cert.GlaInRefIdeal.Gen.bitsLt_bf16_f32) (extf .f32 W Cert.GlaInRefIdeal.Gen.bitsLt_bf16_f32)

/-- Which block each window holds at each point. -/
theorem idx : ∀ t : Fin cfg0.N, win0_0.index t = ![t.val, 0] ∧ win0_1.index t = ![0, 0] ∧ win0_2.index t = ![t.val, 0] :=
  (by decide +kernel : ∀ t : Fin grid0.N, _)

/-- The result array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay1, REF]
  blk_point [iblk, V, idx t]

end Cert.GlaInIdeal.Val

namespace Cert.Proof

/-- The kernel's product is the reference's. -/
theorem gla_in_algebraic : Cert.algebraic_GlaInIdeal_GlaInRefIdeal (hGlaInIdeal := Cert.GlaInIdeal.Gen.facts) (hGlaInRefIdeal := Cert.GlaInRefIdeal.Gen.facts) := by
  pair_intro
  · run_from Cert.GlaInIdeal.Gen.run_main m g
  · run_from Cert.GlaInRefIdeal.Value.run m' g'
    exact (Cert.GlaInIdeal.Val.final m c).symm

/-- The reference's frame. -/
theorem gla_in_ref_frame : Cert.quiescent_GlaInRefIdeal (hGlaInRefIdeal := Cert.GlaInRefIdeal.Gen.facts) := by
  intro m g _
  exact (θ_run _ _ _).mono (fun r h => ⟨fun c => (h c).2, sem_eq_zero_of_no_sems (by decide) r.2⟩) (Cert.GlaInRefIdeal.Value.run m g)

end Cert.Proof

end
-- ==== Proof.Dwout.lean ====
/- The value of an output weight's gradient: the four quarters of the rows, added up in the kernel's scratch. -/
module

public import proofs.«01_k».proof.Proof.Gen.DwoutIdeal.Frame
public import proofs.«01_k».proof.Proof.Gen.DwoutRefIdeal.Run
public import Idealize.ShloMosaic.Lib.Pipeline.ValueKit
public import Idealize.ShloMosaic.Lib.Claim
public import Idealize.ShloMosaic.Lib.Pipeline.ReadBack
public import Idealize.ShloMosaic.Lib.Quiescent
public import proofs.«01_k».proof.Defs

@[expose] public section

set_option maxRecDepth 16384

noncomputable section

open Idealize.ShloMosaic Idealize.ShloMosaic.TcCoe Idealize.SL.Sem
open Idealize.ShloMosaic.Pipeline (Dat)

namespace Cert.DwoutIdeal.Val

open Cert.DwoutIdeal Cert.DwoutIdeal.Gen

variable (m : (ℓ : Loc nD τ sig) → Buf (Elt Ideal) ℓ)

/-- The reference's gradient over the kernel's arguments: the mixer's rows against the upstream gradient. -/
abbrev REF (X : FVec Ideal S4096x1024 .bf16) (D : FVec Ideal S4096x1024 .bf16) : FVec Ideal S1024x1024 .f32 :=
  transpose Cert.DwoutRefIdeal.S1024x1024 [1, 0] (Host.dotGeneral Cert.DwoutRefIdeal.dot_S4096x1024_S4096x1024_S1024x1024_0_0_1_1_n_n none (extf .f32 D Cert.DwoutRefIdeal.Gen.bitsLt_bf16_f32) (extf .f32 X Cert.DwoutRefIdeal.Gen.bitsLt_bf16_f32)) Cert.DwoutRefIdeal.Gen.transposes_S1024x1024_S1024x1024_1_0

/-- Which block each window holds at each point. -/
theorem idx : ∀ t : Fin cfg0.N, win0_0.index t = ![t.val, 0] ∧ win0_1.index t = ![t.val, 0] ∧ win0_2.index t = ![0, 0] ∧ win0_3.index t = ![0, 0] :=
  (by decide +kernel : ∀ t : Fin grid0.N, _)

/-- The first quarter starts the scratch with its part. -/
theorem first (x0 x1 : Vec Ideal S1024x1024 .bf16) (j : S1024x1024.Idx) :
    k0_pay2 x0 x1 j = 0 + ∑ k : Fin 1024, x0 (ix2 k (j 0)) * x1 (ix2 k (j 1)) := by
  pointwise [k0_pay2, k0_pay1]

/-- A later quarter adds its part to what the scratch held. -/
theorem next (x0 x1 : Vec Ideal S1024x1024 .bf16) (acc : Vec Ideal S1024x1024 .f32) (j : S1024x1024.Idx) :
    k0_pay3 x0 x1 acc j = acc j + ∑ k : Fin 1024, x0 (ix2 k (j 0)) * x1 (ix2 k (j 1)) := by
  pointwise [k0_pay3, k0_pay1]

/-- The last quarter adds its part the same way. -/
theorem next_last (x0 x1 : Vec Ideal S1024x1024 .bf16) (acc : Vec Ideal S1024x1024 .f32) (j : S1024x1024.Idx) :
    k0_pay4 x0 x1 acc j = acc j + ∑ k : Fin 1024, x0 (ix2 k (j 0)) * x1 (ix2 k (j 1)) := by
  pointwise [k0_pay4, k0_pay1]

/-- The reference's entry as one sum over all the rows. -/
theorem ref_at (X : FVec Ideal S4096x1024 .bf16) (D : FVec Ideal S4096x1024 .bf16) (j : S1024x1024.Idx) :
    REF X D j = ∑ k : Fin 4096, X (ix2 k (j 0)) * D (ix2 k (j 1)) := by
  pointwise [REF]
  exact Finset.sum_congr rfl fun k _ => mul_comm _ _

/-- The sum so far: in the scratch until the last point of a run, which writes it to the result instead. -/
abbrev kept (c : Dev nD) (n : ℕ) (h : n < cfg0.N) : Vec Ideal S1024x1024 .f32 :=
  if n % 4 = 3 then (outsAt0 m c n h).1 else (outsAt0 m c n h).2.2

/-- The narrow result holds what the wide one does. -/
theorem narrow_eq (c : Dev nD) (t : Fin cfg0.N) (h : t.val % 4 = 3) (y : S1024x1024.Idx) : (outsAt0 m c t.val t.isLt).2.1 y = (outsAt0 m c t.val t.isLt).1 y := by
  rw [outsAt0_C m c t (by omega) (by omega) h]; frame_out
  pointwise [k0_pay4, k0_pay5]

/-- The first point of a run starts the sum. -/
theorem kept_first (c : Dev nD) (t : Fin cfg0.N) (h : t.val % 4 = 0) (j : S1024x1024.Idx) :
    kept m c t.val t.isLt j = 0 + ∑ k : Fin 1024, (show FVec Ideal S1024x1024 .bf16 from iblk m c 0 t) (ix2 k (j 0)) * (show FVec Ideal S1024x1024 .bf16 from iblk m c 1 t) (ix2 k (j 1)) := by
  rw [kept, if_neg (by omega), outsAt0_A m c t h (by omega) (by omega)]; frame_out
  exact first _ _ j

/-- Each later point adds its part. -/
theorem kept_next (c : Dev nD) (t : Fin cfg0.N) (h : ¬ t.val % 4 = 0) (j : S1024x1024.Idx) :
    kept m c t.val t.isLt j = kept m c (t.val - 1) (Nat.lt_of_le_of_lt (Nat.sub_le _ _) t.isLt) j
      + ∑ k : Fin 1024, (show FVec Ideal S1024x1024 .bf16 from iblk m c 0 t) (ix2 k (j 0)) * (show FVec Ideal S1024x1024 .bf16 from iblk m c 1 t) (ix2 k (j 1)) := by
  have hp : ¬ (t.val - 1) % 4 = 3 := by omega
  by_cases hl : t.val % 4 = 3
  · rw [kept, if_pos hl, kept, if_neg hp, outsAt0_C m c t h (by omega) hl]; frame_out
    rw [read_unread_whole]
    exact next_last _ _ _ j
  · rw [kept, if_neg hl, kept, if_neg hp, outsAt0_B m c t h (by omega) hl]; frame_out
    rw [read_unread_whole]
    exact next _ _ _ j

/-- What the last point of a run writes is the reference at the block's place. -/
theorem point (c : Dev nD) (t : Fin cfg0.N) (h : t.val % 4 = 3) (y : S1024x1024.Idx) : (outsAt0 m c t.val t.isLt).1 y
    = REF (m ((c : Thread nD τ).loc main_arg0)) (m ((c : Thread nD τ).loc main_arg1)) (((cfg0.win 2).blk t).view.emb y) := by
  have hk : (outsAt0 m c t.val t.isLt).1 y = kept m c t.val t.isLt y := by rw [kept, if_pos h]
  rw [hk, Pipeline.eq_sum_fin_of_reset_step_apply_of_flush (kept m c) 4 (fun _ => 0) _ (kept_first m c) (kept_next m c) t h y, zero_add, ref_at]
  refine Fin.sum_mul_add_congr fun s k hl => ?_
  blk_point [iblk, V, idx t, idx ⟨_, Pipeline.run_point_lt_of_flush t h s⟩]

/-- The wide result array after the run. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  blk_simp
  rw [after0_2]
  exact point m c t ((flush0_2 t).mp hf) y

/-- The narrow result array after the run. -/
theorem final_narrow (c : Dev nD) : (dats m 0 c).arrAt 3 (cfgs 0).N
    = truncf .bf16 (REF (m ((c : Thread nD τ).loc main_arg0)) (m ((c : Thread nD τ).loc main_arg1))) Cert.DwoutRefIdeal.Gen.bitsLt_bf16_f32 := by
  refine (dats m 0 c).arrAt_eq_of_covers 3 _ (by decide +kernel) fun t hf y => ?_
  blk_simp
  rw [after0_3, narrow_eq m c t ((flush0_3 t).mp hf)]
  exact point m c t ((flush0_3 t).mp hf) y

end Cert.DwoutIdeal.Val

namespace Cert.Proof

/-- The kernel's gradient of an output weight, in both formats, is the reference's. -/
theorem dwout_algebraic : Cert.algebraic_DwoutIdeal_DwoutRefIdeal (hDwoutIdeal := Cert.DwoutIdeal.Gen.facts) (hDwoutRefIdeal := Cert.DwoutRefIdeal.Gen.facts) := by
  pair_intro
  · run_from Cert.DwoutIdeal.Gen.run_main m g
  · run_from Cert.DwoutRefIdeal.Value.run m' g'
    · exact (Cert.DwoutIdeal.Val.final m c).symm
    · exact (Cert.DwoutIdeal.Val.final_narrow m c).symm

/-- The reference's frame. -/
theorem dwout_ref_frame : Cert.quiescent_DwoutRefIdeal (hDwoutRefIdeal := Cert.DwoutRefIdeal.Gen.facts) := by
  intro m g _
  exact (θ_run _ _ _).mono (fun r h => ⟨fun c => (h c).2.2, sem_eq_zero_of_no_sems (by decide) r.2⟩) (Cert.DwoutRefIdeal.Value.run m g)

end Cert.Proof

end
-- ==== Proof.Weights.lean ====
/- The values of the input projections' weight gradients: what the kernels store, block by block. -/
module

public import proofs.«01_k».proof.Proof.Gen.AbDwinIdeal.Frame
public import proofs.«01_k».proof.Proof.Gen.AbDwinRefIdeal.Run
public import proofs.«01_k».proof.Proof.Gen.GlaDwinIdeal.Frame
public import proofs.«01_k».proof.Proof.Gen.GlaDwinRefIdeal.Run
public import Idealize.ShloMosaic.Lib.Pipeline.ValueKit
public import Idealize.ShloMosaic.Lib.Claim
public import Idealize.ShloMosaic.Lib.Quiescent
public import proofs.«01_k».proof.Defs

@[expose] public section

set_option maxRecDepth 16384

noncomputable section

open Idealize.ShloMosaic Idealize.ShloMosaic.TcCoe Idealize.SL.Sem
open Idealize.ShloMosaic.Pipeline (Dat)

namespace Cert.AbDwinIdeal.Val

open Cert.AbDwinIdeal Cert.AbDwinIdeal.Gen

variable (m : (ℓ : Loc nD τ sig) → Buf (Elt Ideal) ℓ)

/-- The gradient of the first layer's input weight: one product, taken apart into the four shards of the weight. -/
abbrev REF (Y : FVec Ideal S4096x1024 .bf16) (D : FVec Ideal S4096x3584 .bf16) : FVec Ideal S4x1024x896 .f32 :=
  transpose Cert.AbDwinRefIdeal.S4x1024x896 [1, 0, 2] (shapeCast Cert.AbDwinRefIdeal.S1024x4x896 (transpose Cert.AbDwinRefIdeal.S1024x3584 [1, 0] (Host.dotGeneral Cert.AbDwinRefIdeal.dot_S4096x3584_S4096x1024_S3584x1024_0_0_1_1_n_n none (extf .f32 D Cert.AbDwinRefIdeal.Gen.bitsLt_bf16_f32) (extf .f32 Y Cert.AbDwinRefIdeal.Gen.bitsLt_bf16_f32)) Cert.AbDwinRefIdeal.Gen.transposes_S3584x1024_S1024x3584_1_0) Cert.AbDwinRefIdeal.Gen.shapeCasts_S1024x3584_S1024x4x896) Cert.AbDwinRefIdeal.Gen.transposes_S1024x4x896_S4x1024x896_1_0_2

/-- Which block each window holds at each point. -/
theorem idx : ∀ t : Fin cfg0.N, win0_0.index t = ![0, 0] ∧ win0_1.index t = ![0, t.val] ∧ win0_2.index t = ![t.val, 0, 0] ∧ win0_3.index t = ![t.val, 0, 0] :=
  (by decide +kernel : ∀ t : Fin grid0.N, _)

/-- What the body stores in the wide result is the reference at the block's place. -/
theorem point (c : Dev nD) (t : Fin cfg0.N) (y) : k0_pay2 (iblk m c 0 t) (iblk m c 1 t) y
    = REF (m ((c : Thread nD τ).loc main_arg0)) (m ((c : Thread nD τ).loc main_arg1)) (((cfg0.win 2).blk t).view.emb y) := by
  pointwise [k0_pay2, k0_pay1, REF]
  refine Finset.sum_congr rfl fun k _ => ?_
  rw [mul_comm]
  blk_point [iblk, V, idx t]

/-- What the body stores in the narrow result is the reference at the block's place. -/
theorem point_narrow (c : Dev nD) (t : Fin cfg0.N) (y) : k0_pay3 (iblk m c 0 t) (iblk m c 1 t) y
    = REF (m ((c : Thread nD τ).loc main_arg0)) (m ((c : Thread nD τ).loc main_arg1)) (((cfg0.win 3).blk t).view.emb y) := by
  pointwise [k0_pay3, k0_pay1, REF]
  refine Finset.sum_congr rfl fun k _ => ?_
  rw [mul_comm]
  blk_point [iblk, V, idx t]

/-- The wide result array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The narrow result array after the run. -/
theorem final_narrow (c : Dev nD) : (dats m 0 c).arrAt 3 (cfgs 0).N
    = truncf .bf16 (REF (m ((c : Thread nD τ).loc main_arg0)) (m ((c : Thread nD τ).loc main_arg1))) Cert.AbDwinRefIdeal.Gen.bitsLt_bf16_f32 := by
  refine (dats m 0 c).arrAt_eq_of_covers 3 _ (by decide +kernel) fun t _ y => ?_
  blk_simp
  rw [after0_3]; frame_out
  exact point_narrow m c t y

end Cert.AbDwinIdeal.Val

namespace Cert.Proof

/-- The kernel's weight gradient, in both formats, is the reference's. -/
theorem ab_dwin_algebraic : Cert.algebraic_AbDwinIdeal_AbDwinRefIdeal (hAbDwinIdeal := Cert.AbDwinIdeal.Gen.facts) (hAbDwinRefIdeal := Cert.AbDwinRefIdeal.Gen.facts) := by
  pair_intro
  · run_from Cert.AbDwinIdeal.Gen.run_main m g
  · run_from Cert.AbDwinRefIdeal.Value.run m' g'
    · exact (Cert.AbDwinIdeal.Val.final m c).symm
    · exact (Cert.AbDwinIdeal.Val.final_narrow m c).symm

/-- The reference's frame. -/
theorem ab_dwin_ref_frame : Cert.quiescent_AbDwinRefIdeal (hAbDwinRefIdeal := Cert.AbDwinRefIdeal.Gen.facts) := by
  intro m g _
  exact (θ_run _ _ _).mono (fun r h => ⟨fun c => (h c).2.2, sem_eq_zero_of_no_sems (by decide) r.2⟩) (Cert.AbDwinRefIdeal.Value.run m g)

end Cert.Proof

namespace Cert.GlaDwinIdeal.Val

open Cert.GlaDwinIdeal Cert.GlaDwinIdeal.Gen

variable (m : (ℓ : Loc nD τ sig) → Buf (Elt Ideal) ℓ)

/-- The gradient of the second layer's input weight. -/
abbrev REF (Y : FVec Ideal S4096x1024 .bf16) (D : FVec Ideal S4096x3200 .bf16) : FVec Ideal S1024x3200 .f32 :=
  transpose Cert.GlaDwinRefIdeal.S1024x3200 [1, 0] (Host.dotGeneral Cert.GlaDwinRefIdeal.dot_S4096x3200_S4096x1024_S3200x1024_0_0_1_1_n_n none (extf .f32 D Cert.GlaDwinRefIdeal.Gen.bitsLt_bf16_f32) (extf .f32 Y Cert.GlaDwinRefIdeal.Gen.bitsLt_bf16_f32)) Cert.GlaDwinRefIdeal.Gen.transposes_S3200x1024_S1024x3200_1_0

/-- Which block each window holds at each point. -/
theorem idx : ∀ t : Fin cfg0.N, win0_0.index t = ![0, 0] ∧ win0_1.index t = ![0, t.val] ∧ win0_2.index t = ![0, t.val] ∧ win0_3.index t = ![0, t.val] :=
  (by decide +kernel : ∀ t : Fin grid0.N, _)

/-- What the body stores in the wide result is the reference at the block's place. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  refine Finset.sum_congr rfl fun k _ => ?_
  rw [mul_comm]
  blk_point [iblk, V, idx t]

/-- What the body stores in the narrow result is the reference at the block's place. -/
theorem point_narrow (c : Dev nD) (t : Fin cfg0.N) (y) : k0_pay2 (iblk m c 0 t) (iblk m c 1 t) y
    = REF (m ((c : Thread nD τ).loc main_arg0)) (m ((c : Thread nD τ).loc main_arg1)) (((cfg0.win 3).blk t).view.emb y) := by
  pointwise [k0_pay2, k0_pay1, REF]
  refine Finset.sum_congr rfl fun k _ => ?_
  rw [mul_comm]
  blk_point [iblk, V, idx t]

/-- The wide result array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

/-- The narrow result array after the run. -/
theorem final_narrow (c : Dev nD) : (dats m 0 c).arrAt 3 (cfgs 0).N
    = truncf .bf16 (REF (m ((c : Thread nD τ).loc main_arg0)) (m ((c : Thread nD τ).loc main_arg1))) Cert.GlaDwinRefIdeal.Gen.bitsLt_bf16_f32 := by
  refine (dats m 0 c).arrAt_eq_of_covers 3 _ (by decide +kernel) fun t _ y => ?_
  blk_simp
  rw [after0_3]; frame_out
  exact point_narrow m c t y

end Cert.GlaDwinIdeal.Val

namespace Cert.Proof

/-- The kernel's weight gradient, in both formats, is the reference's. -/
theorem gla_dwin_algebraic : Cert.algebraic_GlaDwinIdeal_GlaDwinRefIdeal (hGlaDwinIdeal := Cert.GlaDwinIdeal.Gen.facts) (hGlaDwinRefIdeal := Cert.GlaDwinRefIdeal.Gen.facts) := by
  pair_intro
  · run_from Cert.GlaDwinIdeal.Gen.run_main m g
  · run_from Cert.GlaDwinRefIdeal.Value.run m' g'
    · exact (Cert.GlaDwinIdeal.Val.final m c).symm
    · exact (Cert.GlaDwinIdeal.Val.final_narrow m c).symm

/-- The reference's frame. -/
theorem gla_dwin_ref_frame : Cert.quiescent_GlaDwinRefIdeal (hGlaDwinRefIdeal := Cert.GlaDwinRefIdeal.Gen.facts) := by
  intro m g _
  exact (θ_run _ _ _).mono (fun r h => ⟨fun c => (h c).2.2, sem_eq_zero_of_no_sems (by decide) r.2⟩) (Cert.GlaDwinRefIdeal.Value.run m g)

end Cert.Proof

end
-- ==== Proof.AbDy.lean ====
/- The value of the gradient through the first layer's input projection and the normalisation before it. -/
module

public import proofs.«01_k».proof.Proof.Gen.AbDyIdeal.Frame
public import proofs.«01_k».proof.Proof.Gen.AbDyRefIdeal.Run
public import proofs.«01_k».proof.Proof.Dy
public import Idealize.ShloMosaic.Lib.Quiescent
public import proofs.«01_k».proof.Defs

@[expose] public section

set_option maxRecDepth 16384

noncomputable section

open Idealize.ShloMosaic Idealize.ShloMosaic.TcCoe Idealize.SL.Sem
open Idealize.ShloMosaic.Pipeline (Dat)

namespace Cert.AbDyIdeal.Val

open Cert.AbDyIdeal Cert.AbDyIdeal.Gen Cert.Norm

variable (m : (ℓ : Loc nD τ sig) → Buf (Elt Ideal) ℓ)

/-- The gradient of the normalised rows: the projection's gradient against the whole input weight, whose columns lie in four shards. -/
def up (A : FVec Ideal S4096x3584 .bf16) (W : FVec Ideal S4x1024x896 .bf16) (r : Fin 4096) (k : Fin 1024) : EReal :=
  ∑ l : Fin 3584, A (ix2 r l) * W (ix3 ⟨l.val / 896, by omega⟩ k ⟨l.val % 896, by omega⟩)

/-- The gradient of the rows before the normalisation. -/
def DH (A : FVec Ideal S4096x3584 .bf16) (W : FVec Ideal S4x1024x896 .bf16) (H : FVec Ideal S4096x1024 .f32) (G : FVec Ideal S1x1024 .f32)
    (D : FVec Ideal S4096x1024 .f32) : FVec Ideal S4096x1024 .f32 :=
  fun i => dhAt (up A W (i 0)) (fun k => H (ix2 (i 0) k)) (fun k => G (ix2 0 k)) (D i) (i 1)

/-- The gradient of the gain. -/
def DG (A : FVec Ideal S4096x3584 .bf16) (W : FVec Ideal S4x1024x896 .bf16) (H : FVec Ideal S4096x1024 .f32) : FVec Ideal S1x1024 .f32 :=
  fun i => ∑ r : Fin 4096, dgainAt (up A W r) (fun k => H (ix2 r k)) (i 1)

/-- The gradient of the gain in four parts, one for each block of rows. -/
def PARTS (A : FVec Ideal S4096x3584 .bf16) (W : FVec Ideal S4x1024x896 .bf16) (H : FVec Ideal S4096x1024 .f32) : FVec Ideal S4x1x1024 .f32 :=
  fun i => ∑ s : Fin 1024, dgainAt (up A W ⟨(i 0).val * 1024 + s.val, by have h : (i 0).val < 4 := (i 0).isLt; omega⟩)
    (fun k => H (ix2 ⟨(i 0).val * 1024 + s.val, by have h : (i 0).val < 4 := (i 0).isLt; omega⟩ k)) (i 2)

/-- The parts add up. -/
theorem parts_sum (A : FVec Ideal S4096x3584 .bf16) (W : FVec Ideal S4x1024x896 .bf16) (H : FVec Ideal S4096x1024 .f32) :
    Host.reduceAdd (PARTS A W H) (constant S_ .f32 0x00000000#32) reducesTo_S4x1x1024_S1x1024_d0 h_S_ = DG A W H := by
  funext j
  pointwise
  exact Fin.sum_mul_add_congr fun s k hl => rfl

/-- Which block each window holds at each point. -/
theorem idx : ∀ t : Fin cfg0.N, win0_0.index t = ![t.val, 0] ∧ win0_1.index t = ![0, 0, 0] ∧ win0_2.index t = ![1, 0, 0]
    ∧ win0_3.index t = ![2, 0, 0] ∧ win0_4.index t = ![3, 0, 0] ∧ win0_5.index t = ![t.val, 0] ∧ win0_6.index t = ![t.val, 0]
    ∧ win0_7.index t = ![0, 0] ∧ win0_8.index t = ![t.val, 0] ∧ win0_9.index t = ![t.val, 0, 0] :=
  (by decide +kernel : ∀ t : Fin grid0.N, _)

/-- The body's row gradient is the gradient through the normalisation. -/
theorem row (Q : FVec Ideal S1024x1024 .f32) (H D : Vec Ideal S1024x1024 .f32) (G : Vec Ideal S1x1024 .f32) (j : S1024x1024.Idx) :
    k0_pay2 Q H D G (k0_pay5 H) j = dhAt (fun k => Q (ix2 (j 0) k)) (fun k => H (ix2 (j 0) k)) (fun k => G (ix2 0 k)) (D j) (j 1) := by
  pointwise [k0_pay2, k0_pay5, k0_pay1, dhAt, pull, meanSq]
  simp only [Fin.sum_univ_one]

/-- The body's part of the gain's gradient adds its block's rows. -/
theorem gain (Q : FVec Ideal S1024x1024 .f32) (H : Vec Ideal S1024x1024 .f32) (j : S1x1x1024.Idx) :
    k0_pay3 Q H (k0_pay5 H) j = ∑ s : Fin 1024, dgainAt (fun k => Q (ix2 s k)) (fun k => H (ix2 s k)) (j 2) := by
  pointwise [k0_pay3, k0_pay5, k0_pay1, dgainAt, meanSq]

/-- The sum over the projection's columns, shard by shard. -/
theorem up_split (A : FVec Ideal S4096x3584 .bf16) (W : FVec Ideal S4x1024x896 .bf16) (r : Fin 4096) (k : Fin 1024) :
    up A W r k = ∑ s : Fin 4, ∑ l : Fin 896, A (ix2 r ⟨s.val * 896 + l.val, by omega⟩) * W (ix3 s k l) :=
  (Fin.sum_mul_add_congr fun s l hl => by
    have h1 : (⟨(s.val * 896 + l.val) / 896, by omega⟩ : Fin 4) = s := Fin.ext (by show (s.val * 896 + l.val) / 896 = s.val; omega)
    have h2 : (⟨(s.val * 896 + l.val) % 896, by omega⟩ : Fin 896) = l := Fin.ext (by show (s.val * 896 + l.val) % 896 = l.val; omega)
    show _ = A (ix2 r ⟨s.val * 896 + l.val, hl⟩) * W (ix3 ⟨(s.val * 896 + l.val) / 896, by omega⟩ k ⟨(s.val * 896 + l.val) % 896, by omega⟩)
    rw [h1, h2]).symm

/-- The body's product, in its four parts, is the whole sum over the projection's columns. -/
theorem prod (c : Dev nD) (t : Fin cfg0.N) (i : S1024x1024.Idx) (r : Fin 4096) (hr : r.val = t.val * 1024 + (i 0).val) :
    k0_pay4 (iblk m c 0 t) (iblk m c 1 t) (iblk m c 2 t) (iblk m c 3 t) (iblk m c 4 t) i
      = up (m ((c : Thread nD τ).loc main_arg0)) (m ((c : Thread nD τ).loc main_arg1)) r (i 1) := by
  refine Eq.trans ?_ (up_split _ _ _ _).symm
  rw [Fin.sum_univ_four]
  pointwise [k0_pay4]
  blk_point [iblk, V, idx t]

/-- The body's rows of the residual stream are the block's rows of the array. -/
theorem rows (c : Dev nD) (t : Fin cfg0.N) (i : Fin 1024) (k : Fin 1024) (r : Fin 4096) (hr : r.val = t.val * 1024 + i.val) :
    (show FVec Ideal S1024x1024 .f32 from iblk m c 5 t) (ix2 i k) = (show FVec Ideal S4096x1024 .f32 from m ((c : Thread nD τ).loc main_arg2)) (ix2 r k) := by
  blk_ext [iblk, V, idx t]

/-- What the body stores in the result is the row gradient at the block's place. -/
theorem point (c : Dev nD) (t : Fin cfg0.N) (y : S1024x1024.Idx) (i : S4096x1024.Idx) (h0 : (i 0).val = t.val * 1024 + (y 0).val) (h1 : (i 1).val = (y 1).val) :
    k0_pay2 (k0_pay4 (iblk m c 0 t) (iblk m c 1 t) (iblk m c 2 t) (iblk m c 3 t) (iblk m c 4 t)) (iblk m c 5 t) (iblk m c 6 t) (iblk m c 7 t) (k0_pay5 (iblk m c 5 t)) y
    = DH (m ((c : Thread nD τ).loc main_arg0)) (m ((c : Thread nD τ).loc main_arg1)) (m ((c : Thread nD τ).loc main_arg2)) (m ((c : Thread nD τ).loc main_arg3)) (m ((c : Thread nD τ).loc main_arg4)) i := by
  refine (row _ _ _ _ y).trans (dhAt_congr (fun k => prod m c t (ix2 (y 0) k) (i 0) h0) (fun k => rows m c t (y 0) k (i 0) h0) (fun k => ?_) ?_ (Fin.ext h1.symm))
  · blk_ext [iblk, V, idx t]
  · blk_ext [iblk, V, idx t]

/-- What the body stores of the gain's gradient is its block's part. -/
theorem point_gain (c : Dev nD) (t : Fin cfg0.N) (y : S1x1x1024.Idx) (i : S4x1x1024.Idx) (h0 : (i 0).val = t.val) (h2 : (i 2).val = (y 2).val) :
    k0_pay3 (k0_pay4 (iblk m c 0 t) (iblk m c 1 t) (iblk m c 2 t) (iblk m c 3 t) (iblk m c 4 t)) (iblk m c 5 t) (k0_pay5 (iblk m c 5 t)) y
    = PARTS (m ((c : Thread nD τ).loc main_arg0)) (m ((c : Thread nD τ).loc main_arg1)) (m ((c : Thread nD τ).loc main_arg2)) i := by
  refine (gain _ _ y).trans (Finset.sum_congr rfl fun s _ => dgainAt_congr (fun k => prod m c t (ix2 s k) _ ?_) (fun k => rows m c t s k _ ?_) (Fin.ext h2.symm))
  all_goals
    show (i 0).val * 1024 + s.val = t.val * 1024 + s.val
    rw [h0]

/-- The wide result array after the run. -/
theorem final (c : Dev nD) : (dats m 0 c).arrAt 8 (cfgs 0).N
    = DH (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]; unfold_out out0_8; frame_out
  refine point m c t y _ ?_ ?_ <;> (blk_simp [idx t] <;> try omega)

/-- The array of the gain's parts after the run. -/
theorem final_gain (c : Dev nD) : (dats m 0 c).arrAt 9 (cfgs 0).N
    = PARTS (m ((c : Thread nD τ).loc main_arg0)) (m ((c : Thread nD τ).loc main_arg1)) (m ((c : Thread nD τ).loc main_arg2)) := by
  refine (dats m 0 c).arrAt_eq_of_covers 9 _ (by decide +kernel) fun t _ y => ?_
  blk_simp
  rw [after0_9]; unfold_out out0_9; frame_out
  refine point_gain m c t y _ ?_ ?_ <;> (blk_simp [idx t] <;> try omega)

/-- The host's sum after the kernel reads the array of parts. -/
theorem tail (c : Dev nD) : Pipeline.afterTail₀ cfgs (dats m) 0 (V0 m) [hostOps1] c main_v1
    = Host.reduceAdd (show FVec Ideal S4x1x1024 .f32 from (dats m 0 c).arrAt 9 (cfgs 0).N) (constant S_ .f32 0x00000000#32) reducesTo_S4x1x1024_S1x1024_d0 h_S_ := by
  unfold Pipeline.afterTail₀
  simp only [List.flatten_cons, List.flatten_nil, List.append_nil]
  after_results
  exact congrArg (fun X => Host.reduceAdd X (constant S_ .f32 0x00000000#32) reducesTo_S4x1x1024_S1x1024_d0 h_S_)
    (Pipeline.withArrays_arr_shared spec0 c (V0 m c) (fun w => (dats m 0 c).arrAt w (cfgs 0).N) ((dats m 0 c).arrAt_sharedIn sharedIn0 (V0 m c) (A_eq m c) _) 9)

/-- The kernel's run, with the two results and the arguments named. -/
theorem run (g : Dev nD → PrngReg) : θ_run defs (onTc (τ := τ) (main (F := Ideal))) ⟨m, fun _ => 0, g⟩ fun r => ∀ c : Dev nD,
      r.2.mem ((c : Thread nD τ).loc main_v0_0) = DH (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v1) = DG (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  run_from Cert.AbDyIdeal.Gen.run_main m g
  · exact final m c
  · exact (tail m c).trans ((congrArg (fun X => Host.reduceAdd X (constant S_ .f32 0x00000000#32) reducesTo_S4x1x1024_S1x1024_d0 h_S_) (final_gain m c)).trans (parts_sum _ _ _))

end Cert.AbDyIdeal.Val

namespace Cert.AbDyRefIdeal.Val

open Cert.AbDyRefIdeal Cert.AbDyRefIdeal.Gen Cert.Norm

variable (m : (ℓ : Loc nD τ sig) → Buf (Elt Ideal) ℓ)

/-- The reference's product array. -/
def Q (A : FVec Ideal S4096x3584 .bf16) (W : FVec Ideal S4x1024x896 .bf16) : FVec Ideal S4096x1024 .f32 :=
  Host.dotGeneral dot_S4096x3584_S1024x3584_S4096x1024_1_1_0_0_n_n none (extf .f32 A bitsLt_bf16_f32) (shapeCast S1024x3584 (transpose S1024x4x896 [1, 0, 2] (extf .f32 W bitsLt_bf16_f32) transposes_S4x1024x896_S1024x4x896_1_0_2) shapeCasts_S1024x4x896_S1024x3584)

/-- The reference's product is the sum over the projection's columns. -/
theorem prod (A : FVec Ideal S4096x3584 .bf16) (W : FVec Ideal S4x1024x896 .bf16) (i : S4096x1024.Idx) : Q A W i = Cert.AbDyIdeal.Val.up A W (i 0) (i 1) := by
  pointwise [Q, Cert.AbDyIdeal.Val.up]

/-- The reference's row gradient over its arguments. -/
theorem rows (A : FVec Ideal S4096x3584 .bf16) (W : FVec Ideal S4x1024x896 .bf16) (H : FVec Ideal S4096x1024 .f32) (G : FVec Ideal S1x1024 .f32) (D : FVec Ideal S4096x1024 .f32) :
    Cert.DyRefIdeal.Val.dh (Q A W) H G D = Cert.AbDyIdeal.Val.DH A W H G D := by
  funext i
  exact (Cert.DyRefIdeal.Val.dh_at _ _ _ _ i).trans (dhAt_congr (fun k => prod A W (ix2 (i 0) k)) (fun _ => rfl) (fun _ => rfl) rfl rfl)

/-- The reference's gain gradient over its arguments. -/
theorem gains (A : FVec Ideal S4096x3584 .bf16) (W : FVec Ideal S4x1024x896 .bf16) (H : FVec Ideal S4096x1024 .f32) :
    Cert.DyRefIdeal.Val.dg (Q A W) H = Cert.AbDyIdeal.Val.DG A W H := by
  funext i
  exact (Cert.DyRefIdeal.Val.dg_at _ _ i).trans (Finset.sum_congr rfl fun r _ => dgainAt_congr (fun k => prod A W (ix2 r k)) (fun _ => rfl) rfl)

/-- The reference's run, with the two results and the arguments named. -/
theorem run (g : Dev nD → PrngReg) : θ_run defs (onTc (τ := τ) (main (F := Ideal))) ⟨m, fun _ => 0, g⟩ fun r => ∀ c : Dev nD,
      r.2.mem ((c : Thread nD τ).loc main_v40) = Cert.DyRefIdeal.Val.dh (Q (m ((c : Thread nD τ).loc main_arg0)) (m ((c : Thread nD τ).loc main_arg1))) (m ((c : Thread nD τ).loc main_arg2)) (m ((c : Thread nD τ).loc main_arg3)) (m ((c : Thread nD τ).loc main_arg4))
      ∧ r.2.mem ((c : Thread nD τ).loc main_v23) = Cert.DyRefIdeal.Val.dg (Q (m ((c : Thread nD τ).loc main_arg0)) (m ((c : Thread nD τ).loc main_arg1))) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run _ _ _).mono (fun r h c => ?_) (Cert.AbDyRefIdeal.Value.run m g)
  obtain ⟨h0, h1, ha⟩ := h c
  refine ⟨h0.trans ?_, h1.trans ?_, ha⟩
  · unfold Cert.AbDyRefIdeal.Value.res_main_v40 Cert.DyRefIdeal.Val.dh Cert.DyRefIdeal.Val.back Cert.DyRefIdeal.Val.scaled Cert.DyRefIdeal.Val.ms Q; rfl
  · unfold Cert.DyRefIdeal.Val.dg Cert.DyRefIdeal.Val.ms Q; rfl

end Cert.AbDyRefIdeal.Val

namespace Cert.Proof

/-- The kernel's gradients through the first layer's input projection and the normalisation are the reference's. -/
theorem ab_dy_algebraic : Cert.algebraic_AbDyIdeal_AbDyRefIdeal (hAbDyIdeal := Cert.AbDyIdeal.Gen.facts) (hAbDyRefIdeal := Cert.AbDyRefIdeal.Gen.facts) := by
  intro m g m' g' _ hagree
  refine ⟨_, _, Cert.AbDyIdeal.Val.run m g, ?_⟩
  refine (θ_run _ _ _).mono (fun r h c => ?_) (Cert.AbDyRefIdeal.Val.run m' g')
  obtain ⟨h0, h1, ha⟩ := h c
  obtain ⟨e0, e1, e2, e3, e4⟩ := hagree c
  refine ⟨h0.trans ?_, h1.trans ?_, ha⟩
  · rw [Cert.AbDyRefIdeal.Val.rows, e0, e1, e2, e3, e4]
  · rw [Cert.AbDyRefIdeal.Val.gains, e0, e1, e2]

/-- The reference's frame. -/
theorem ab_dy_ref_frame : Cert.quiescent_AbDyRefIdeal (hAbDyRefIdeal := Cert.AbDyRefIdeal.Gen.facts) := by
  intro m g _
  exact (θ_run _ _ _).mono (fun r h => ⟨fun c => (h c).2.2, sem_eq_zero_of_no_sems (by decide) r.2⟩) (Cert.AbDyRefIdeal.Value.run m g)

end Cert.Proof

end
-- ==== Proof.GlaDy.lean ====
/- The value of the gradient through the second layer's input projection and the normalisation before it. -/
module

public import proofs.«01_k».proof.Proof.Gen.GlaDyIdeal.Frame
public import proofs.«01_k».proof.Proof.Gen.GlaDyRefIdeal.Run
public import proofs.«01_k».proof.Proof.Dy
public import Idealize.ShloMosaic.Lib.Quiescent
public import proofs.«01_k».proof.Defs

@[expose] public section

set_option maxRecDepth 16384

noncomputable section

open Idealize.ShloMosaic Idealize.ShloMosaic.TcCoe Idealize.SL.Sem
open Idealize.ShloMosaic.Pipeline (Dat)

namespace Cert.GlaDyIdeal.Val

open Cert.GlaDyIdeal Cert.GlaDyIdeal.Gen Cert.Norm

variable (m : (ℓ : Loc nD τ sig) → Buf (Elt Ideal) ℓ)

/-- The gradient of the normalised rows: the projection's gradient against the input weight. -/
def up (A : FVec Ideal S4096x3200 .bf16) (W : FVec Ideal S1024x3200 .bf16) (r : Fin 4096) (k : Fin 1024) : EReal :=
  ∑ l : Fin 3200, A (ix2 r l) * W (ix2 k l)

/-- The gradient of the rows before the normalisation. -/
def DH (A : FVec Ideal S4096x3200 .bf16) (W : FVec Ideal S1024x3200 .bf16) (H : FVec Ideal S4096x1024 .f32) (G : FVec Ideal S1x1024 .f32)
    (D : FVec Ideal S4096x1024 .f32) : FVec Ideal S4096x1024 .f32 :=
  fun i => dhAt (up A W (i 0)) (fun k => H (ix2 (i 0) k)) (fun k => G (ix2 0 k)) (D i) (i 1)

/-- The gradient of the gain. -/
def DG (A : FVec Ideal S4096x3200 .bf16) (W : FVec Ideal S1024x3200 .bf16) (H : FVec Ideal S4096x1024 .f32) : FVec Ideal S1x1024 .f32 :=
  fun i => ∑ r : Fin 4096, dgainAt (up A W r) (fun k => H (ix2 r k)) (i 1)

/-- The gradient of the gain in four parts, one for each block of rows. -/
def PARTS (A : FVec Ideal S4096x3200 .bf16) (W : FVec Ideal S1024x3200 .bf16) (H : FVec Ideal S4096x1024 .f32) : FVec Ideal S4x1x1024 .f32 :=
  fun i => ∑ s : Fin 1024, dgainAt (up A W ⟨(i 0).val * 1024 + s.val, by have h : (i 0).val < 4 := (i 0).isLt; omega⟩)
    (fun k => H (ix2 ⟨(i 0).val * 1024 + s.val, by have h : (i 0).val < 4 := (i 0).isLt; omega⟩ k)) (i 2)

/-- The parts add up. -/
theorem parts_sum (A : FVec Ideal S4096x3200 .bf16) (W : FVec Ideal S1024x3200 .bf16) (H : FVec Ideal S4096x1024 .f32) :
    Host.reduceAdd (PARTS A W H) (constant S_ .f32 0x00000000#32) reducesTo_S4x1x1024_S1x1024_d0 h_S_ = DG A W H := by
  funext j
  pointwise
  exact Fin.sum_mul_add_congr fun s k hl => rfl

/-- Which block each window holds at each point. -/
theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![t.val, 0] ∧ win0_6.index t = ![t.val, 0] ∧ win0_7.index t = ![t.val, 0, 0] :=
  (by decide +kernel : ∀ t : Fin grid0.N, _)

/-- The body's row gradient is the gradient through the normalisation. -/
theorem row (x : Vec Ideal S1024x3200 .bf16) (w : Vec Ideal S1024x3200 .bf16) (H D : Vec Ideal S1024x1024 .f32) (G : Vec Ideal S1x1024 .f32) (j : S1024x1024.Idx) :
    k0_pay1 D (k0_pay10 x w H G) (k0_pay11 x w H G) j = dhAt (fun k => k0_pay4 x w (ix2 (j 0) k)) (fun k => H (ix2 (j 0) k)) (fun k => G (ix2 0 k)) (D j) (j 1) := by
  pointwise [k0_pay1, k0_pay10, k0_pay11, k0_pay9, k0_pay8, k0_pay6, k0_pay5, k0_pay4, dhAt, pull, meanSq]
  simp only [Fin.sum_univ_one]

/-- The body's part of the gain's gradient adds its block's rows. -/
theorem gain (x : Vec Ideal S1024x3200 .bf16) (w : Vec Ideal S1024x3200 .bf16) (H : Vec Ideal S1024x1024 .f32) (j : S1x1x1024.Idx) :
    k0_pay3 (k0_pay7 x w H) j = ∑ s : Fin 1024, dgainAt (fun k => k0_pay4 x w (ix2 s k)) (fun k => H (ix2 s k)) (j 2) := by
  pointwise [k0_pay3, k0_pay7, k0_pay6, k0_pay5, k0_pay4, dgainAt, meanSq]

/-- The body's product is the whole sum over the projection's columns. -/
theorem prod (c : Dev nD) (t : Fin cfg0.N) (i : S1024x1024.Idx) (r : Fin 4096) (hr : r.val = t.val * 1024 + (i 0).val) :
    k0_pay4 (iblk m c 0 t) (iblk m c 1 t) i = up (m ((c : Thread nD τ).loc main_arg0)) (m ((c : Thread nD τ).loc main_arg1)) r (i 1) := by
  pointwise [k0_pay4, up]
  blk_point [iblk, V, idx t]

/-- The body's rows of the residual stream are the block's rows of the array. -/
theorem rows (c : Dev nD) (t : Fin cfg0.N) (i : Fin 1024) (k : Fin 1024) (r : Fin 4096) (hr : r.val = t.val * 1024 + i.val) :
    (show FVec Ideal S1024x1024 .f32 from iblk m c 2 t) (ix2 i k) = (show FVec Ideal S4096x1024 .f32 from m ((c : Thread nD τ).loc main_arg2)) (ix2 r k) := by
  blk_ext [iblk, V, idx t]

/-- What the body stores in the wide result is the row gradient at the block's place. -/
theorem point (c : Dev nD) (t : Fin cfg0.N) (y : S1024x1024.Idx) (i : S4096x1024.Idx) (h0 : (i 0).val = t.val * 1024 + (y 0).val) (h1 : (i 1).val = (y 1).val) :
    k0_pay1 (iblk m c 3 t) (k0_pay10 (iblk m c 0 t) (iblk m c 1 t) (iblk m c 2 t) (iblk m c 4 t)) (k0_pay11 (iblk m c 0 t) (iblk m c 1 t) (iblk m c 2 t) (iblk m c 4 t)) y
    = DH (m ((c : Thread nD τ).loc main_arg0)) (m ((c : Thread nD τ).loc main_arg1)) (m ((c : Thread nD τ).loc main_arg2)) (m ((c : Thread nD τ).loc main_arg3)) (m ((c : Thread nD τ).loc main_arg4)) i := by
  refine (row _ _ _ _ _ y).trans (dhAt_congr (fun k => prod m c t (ix2 (y 0) k) (i 0) h0) (fun k => rows m c t (y 0) k (i 0) h0) (fun k => ?_) ?_ (Fin.ext h1.symm))
  · blk_ext [iblk, V, idx t]
  · blk_ext [iblk, V, idx t]

/-- What the body stores of the gain's gradient is its block's part. -/
theorem point_gain (c : Dev nD) (t : Fin cfg0.N) (y : S1x1x1024.Idx) (i : S4x1x1024.Idx) (h0 : (i 0).val = t.val) (h2 : (i 2).val = (y 2).val) :
    k0_pay3 (k0_pay7 (iblk m c 0 t) (iblk m c 1 t) (iblk m c 2 t)) y
    = PARTS (m ((c : Thread nD τ).loc main_arg0)) (m ((c : Thread nD τ).loc main_arg1)) (m ((c : Thread nD τ).loc main_arg2)) i := by
  refine (gain _ _ _ y).trans (Finset.sum_congr rfl fun s _ => dgainAt_congr (fun k => prod m c t (ix2 s k) _ ?_) (fun k => rows m c t s k _ ?_) (Fin.ext h2.symm))
  all_goals
    show (i 0).val * 1024 + s.val = t.val * 1024 + s.val
    rw [h0]

/-- The wide result array after the run. -/
theorem final (c : Dev nD) : (dats m 0 c).arrAt 5 (cfgs 0).N = DH (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]; unfold_out out0_5; frame_out
  refine point m c t y _ ?_ ?_ <;> (blk_simp [idx t] <;> try omega)

/-- The narrow result array after the run. -/
theorem final_narrow (c : Dev nD) : (dats m 0 c).arrAt 6 (cfgs 0).N = DH (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]; unfold_out out0_6; frame_out
  refine point m c t y _ ?_ ?_ <;> (blk_simp [idx t] <;> try omega)

/-- The array of the gain's parts after the run. -/
theorem final_gain (c : Dev nD) : (dats m 0 c).arrAt 7 (cfgs 0).N
    = PARTS (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]; unfold_out out0_7; frame_out
  refine point_gain m c t y _ ?_ ?_ <;> (blk_simp [idx t] <;> try omega)

/-- The host's sum after the kernel reads the array of parts. -/
theorem tail (c : Dev nD) : Pipeline.afterTail₀ cfgs (dats m) 0 (V0 m) [hostOps1] c main_v1
    = Host.reduceAdd (show FVec Ideal S4x1x1024 .f32 from (dats m 0 c).arrAt 7 (cfgs 0).N) (constant S_ .f32 0x00000000#32) reducesTo_S4x1x1024_S1x1024_d0 h_S_ := by
  unfold Pipeline.afterTail₀
  simp only [List.flatten_cons, List.flatten_nil, List.append_nil]
  after_results
  exact congrArg (fun X => Host.reduceAdd X (constant S_ .f32 0x00000000#32) reducesTo_S4x1x1024_S1x1024_d0 h_S_)
    (Pipeline.withArrays_arr spec0 (by decide) c (V0 m c) (fun w => (dats m 0 c).arrAt w (cfgs 0).N) 7)

/-- The kernel's run, with the three results and the arguments named. -/
theorem run (g : Dev nD → PrngReg) : θ_run defs (onTc (τ := τ) (main (F := Ideal))) ⟨m, fun _ => 0, g⟩ fun r => ∀ c : Dev nD,
      r.2.mem ((c : Thread nD τ).loc main_v0_0) = DH (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_1) = DH (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v1) = DG (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  run_from Cert.GlaDyIdeal.Gen.run_main m g
  · exact final m c
  · exact final_narrow m c
  · exact (tail m c).trans ((congrArg (fun X => Host.reduceAdd X (constant S_ .f32 0x00000000#32) reducesTo_S4x1x1024_S1x1024_d0 h_S_) (final_gain m c)).trans (parts_sum _ _ _))

end Cert.GlaDyIdeal.Val

namespace Cert.GlaDyRefIdeal.Val

open Cert.GlaDyRefIdeal Cert.GlaDyRefIdeal.Gen Cert.Norm

variable (m : (ℓ : Loc nD τ sig) → Buf (Elt Ideal) ℓ)

/-- The reference's product array. -/
def Q (A : FVec Ideal S4096x3200 .bf16) (W : FVec Ideal S1024x3200 .bf16) : FVec Ideal S4096x1024 .f32 :=
  Host.dotGeneral dot_S4096x3200_S1024x3200_S4096x1024_1_1_0_0_n_n none (extf .f32 A bitsLt_bf16_f32) (extf .f32 W bitsLt_bf16_f32)

/-- The reference's product is the sum over the projection's columns. -/
theorem prod (A : FVec Ideal S4096x3200 .bf16) (W : FVec Ideal S1024x3200 .bf16) (i : S4096x1024.Idx) : Q A W i = Cert.GlaDyIdeal.Val.up A W (i 0) (i 1) := by
  pointwise [Q, Cert.GlaDyIdeal.Val.up]

/-- The reference's row gradient over its arguments. -/
theorem rows (A : FVec Ideal S4096x3200 .bf16) (W : FVec Ideal S1024x3200 .bf16) (H : FVec Ideal S4096x1024 .f32) (G : FVec Ideal S1x1024 .f32) (D : FVec Ideal S4096x1024 .f32) :
    Cert.DyRefIdeal.Val.dh (Q A W) H G D = Cert.GlaDyIdeal.Val.DH A W H G D := by
  funext i
  exact (Cert.DyRefIdeal.Val.dh_at _ _ _ _ i).trans (dhAt_congr (fun k => prod A W (ix2 (i 0) k)) (fun _ => rfl) (fun _ => rfl) rfl rfl)

/-- The reference's gain gradient over its arguments. -/
theorem gains (A : FVec Ideal S4096x3200 .bf16) (W : FVec Ideal S1024x3200 .bf16) (H : FVec Ideal S4096x1024 .f32) :
    Cert.DyRefIdeal.Val.dg (Q A W) H = Cert.GlaDyIdeal.Val.DG A W H := by
  funext i
  exact (Cert.DyRefIdeal.Val.dg_at _ _ i).trans (Finset.sum_congr rfl fun r _ => dgainAt_congr (fun k => prod A W (ix2 r k)) (fun _ => rfl) rfl)

/-- The reference's run, with the three results and the arguments named. -/
theorem run (g : Dev nD → PrngReg) : θ_run defs (onTc (τ := τ) (main (F := Ideal))) ⟨m, fun _ => 0, g⟩ fun r => ∀ c : Dev nD,
      r.2.mem ((c : Thread nD τ).loc main_v38) = Cert.DyRefIdeal.Val.dh (Q (m ((c : Thread nD τ).loc main_arg0)) (m ((c : Thread nD τ).loc main_arg1))) (m ((c : Thread nD τ).loc main_arg2)) (m ((c : Thread nD τ).loc main_arg3)) (m ((c : Thread nD τ).loc main_arg4))
      ∧ r.2.mem ((c : Thread nD τ).loc main_v40) = Cert.DyRefIdeal.Val.dh (Q (m ((c : Thread nD τ).loc main_arg0)) (m ((c : Thread nD τ).loc main_arg1))) (m ((c : Thread nD τ).loc main_arg2)) (m ((c : Thread nD τ).loc main_arg3)) (m ((c : Thread nD τ).loc main_arg4))
      ∧ r.2.mem ((c : Thread nD τ).loc main_v21) = Cert.DyRefIdeal.Val.dg (Q (m ((c : Thread nD τ).loc main_arg0)) (m ((c : Thread nD τ).loc main_arg1))) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run _ _ _).mono (fun r h c => ?_) (Cert.GlaDyRefIdeal.Value.run m g)
  obtain ⟨h0, h1, h2, ha⟩ := h c
  refine ⟨h0.trans ?_, h1.trans ?_, h2.trans ?_, ha⟩
  · unfold Cert.GlaDyRefIdeal.Value.res_main_v38 Cert.DyRefIdeal.Val.dh Cert.DyRefIdeal.Val.back Cert.DyRefIdeal.Val.scaled Cert.DyRefIdeal.Val.ms Q; rfl
  · unfold Cert.GlaDyRefIdeal.Value.res_main_v40 Cert.DyRefIdeal.Val.dh Cert.DyRefIdeal.Val.back Cert.DyRefIdeal.Val.scaled Cert.DyRefIdeal.Val.ms Q; rfl
  · unfold Cert.DyRefIdeal.Val.dg Cert.DyRefIdeal.Val.ms Q; rfl

end Cert.GlaDyRefIdeal.Val

namespace Cert.Proof

/-- The kernel's gradients through the second layer's input projection and the normalisation are the reference's. -/
theorem gla_dy_algebraic : Cert.algebraic_GlaDyIdeal_GlaDyRefIdeal (hGlaDyIdeal := Cert.GlaDyIdeal.Gen.facts) (hGlaDyRefIdeal := Cert.GlaDyRefIdeal.Gen.facts) := by
  intro m g m' g' _ hagree
  refine ⟨_, _, _, Cert.GlaDyIdeal.Val.run m g, ?_⟩
  refine (θ_run _ _ _).mono (fun r h c => ?_) (Cert.GlaDyRefIdeal.Val.run m' g')
  obtain ⟨h0, h1, h2, ha⟩ := h c
  obtain ⟨e0, e1, e2, e3, e4⟩ := hagree c
  refine ⟨h0.trans ?_, h1.trans ?_, h2.trans ?_, ha⟩
  · rw [Cert.GlaDyRefIdeal.Val.rows, e0, e1, e2, e3, e4]
  · rw [Cert.GlaDyRefIdeal.Val.rows, e0, e1, e2, e3, e4]
  · rw [Cert.GlaDyRefIdeal.Val.gains, e0, e1, e2]

/-- The reference's frame. -/
theorem gla_dy_ref_frame : Cert.quiescent_GlaDyRefIdeal (hGlaDyRefIdeal := Cert.GlaDyRefIdeal.Gen.facts) := by
  intro m g _
  exact (θ_run _ _ _).mono (fun r h => ⟨fun c => (h c).2.2.2, sem_eq_zero_of_no_sems (by decide) r.2⟩) (Cert.GlaDyRefIdeal.Value.run m g)

end Cert.Proof

end
-- ==== Proof.Down.lean ====
/- The values of the second MLP product: the squared activations against the weight in two halves, onto the residual stream, then normalised where a layer follows. -/
module

public import proofs.«01_k».proof.Proof.Gen.DownIdeal.Frame
public import proofs.«01_k».proof.Proof.Gen.DownRefIdeal.Run
public import proofs.«01_k».proof.Proof.Gen.LastIdeal.Frame
public import proofs.«01_k».proof.Proof.Gen.LastRefIdeal.Run
public import Idealize.ShloMosaic.Lib.Pipeline.ValueKit
public import Idealize.ShloMosaic.Lib.Claim
public import Idealize.ShloMosaic.Lib.Pipeline.ReadBack
public import proofs.«01_k».proof.Proof.Norm
public import Idealize.ShloMosaic.Lib.Quiescent
public import proofs.«01_k».proof.Defs

@[expose] public section

set_option maxRecDepth 16384

noncomputable section

open Idealize.ShloMosaic Idealize.ShloMosaic.TcCoe Idealize.SL.Sem
open Idealize.ShloMosaic.Pipeline (Dat)

namespace Cert.Norm

/-- The rectified value squared. -/
def sqRelu (h : EReal) : EReal := max h 0 * max h 0

/-- A sum over 4096 lanes in its two halves. -/
theorem halves (f : Fin 4096 → EReal) : (∑ k : Fin 2048, f ⟨k.val, by omega⟩) + (∑ k : Fin 2048, f ⟨2048 + k.val, by omega⟩) = ∑ k : Fin 4096, f k :=
  (Fin.sum_univ_add (a := 2048) (b := 2048) f).symm

end Cert.Norm

namespace Cert.DownRefIdeal.Val

open Cert.DownRefIdeal Cert.DownRefIdeal.Gen Cert.Norm

/-- The reference's new rows of the residual stream. -/
def ROWS (X : FVec Ideal S4096x4096 .bf16) (W : FVec Ideal S4096x1024 .bf16) (H : FVec Ideal S4096x1024 .f32) : FVec Ideal S4096x1024 .f32 :=
  addf H (Host.dotGeneral dot_S4096x4096_S4096x1024_S4096x1024_1_0_0_1_n_n none (mulf (maximumf (extf .f32 X bitsLt_bf16_f32) (broadcastInDim S4096x4096 ![] bcast_S_S4096x4096 (constant S_ .f32 0x00000000#32))) (maximumf (extf .f32 X bitsLt_bf16_f32) (broadcastInDim S4096x4096 ![] bcast_S_S4096x4096 (constant S_ .f32 0x00000000#32)))) (extf .f32 W bitsLt_bf16_f32))

/-- Entry by entry they are a sum onto the old ones. -/
theorem rows_at (X : FVec Ideal S4096x4096 .bf16) (W : FVec Ideal S4096x1024 .bf16) (H : FVec Ideal S4096x1024 .f32) (i : S4096x1024.Idx) :
    ROWS X W H i = (∑ k : Fin 4096, sqRelu (X (ix2 (i 0) k)) * W (ix2 k (i 1))) + H i := by
  refine Eq.trans ?_ (add_comm _ _)
  pointwise [ROWS, sqRelu]

/-- The reference's normalisation of the new rows. -/
def NORM (H : FVec Ideal S4096x1024 .f32) (G : FVec Ideal S1x1024 .f32) : FVec Ideal S4096x1024 .bf16 :=
  truncf .bf16 (mulf (mulf H (broadcastInDim S4096x1024 ![0, 1] bcast_S4096x1_S4096x1024_0_1 (Host.rsqrt (addf (Host.divf (broadcastInDim S4096x1 ![0] bcast_S4096_S4096x1_0 (Host.reduceAdd (mulf H H) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 G)) bitsLt_bf16_f32

/-- Entry by entry it is the normalised row. -/
theorem norm_at (H : FVec Ideal S4096x1024 .f32) (G : FVec Ideal S1x1024 .f32) (i : S4096x1024.Idx) :
    NORM H G i = normAt (fun k => H (ix2 (i 0) k)) (fun k => G (ix2 0 k)) (i 1) := by
  pointwise [NORM, normAt, meanSq]

end Cert.DownRefIdeal.Val

namespace Cert.DownIdeal.Val

open Cert.DownIdeal Cert.DownIdeal.Gen Cert.Norm Cert.DownRefIdeal.Val

variable (m : (ℓ : Loc nD τ sig) → Buf (Elt Ideal) ℓ)

/-- Which block each window holds at each point. -/
theorem idx : ∀ t : Fin cfg0.N, win0_0.index t = ![t.val / 2, t.val % 2] ∧ win0_1.index t = ![t.val % 2, 0] ∧ win0_2.index t = ![t.val / 2, 0]
    ∧ win0_3.index t = ![0, 0] ∧ win0_4.index t = ![t.val / 2, 0] ∧ win0_5.index t = ![t.val / 2, 0] :=
  (by decide +kernel : ∀ t : Fin grid0.N, _)

/-- The point before the last of a pair. -/
abbrev prev (t : Fin cfg0.N) : Fin cfg0.N := ⟨t.val - 1, Nat.lt_of_le_of_lt (Nat.sub_le _ _) t.isLt⟩

/-- The first half of the sum stays in the scratch. -/
theorem kept (c : Dev nD) (t : Fin cfg0.N) (h : t.val % 2 = 1) : (outsAt0 m c (t.val - 1) (prev t).isLt).2.2 = k0_pay2 (iblk m c 0 (prev t)) (iblk m c 1 (prev t)) := by
  have e := outsAt0_A m c (prev t) (by show (t.val - 1) % 2 = 0; omega) (by show ¬(t.val - 1) % 2 = 1; omega)
  rw [e]; frame_out

/-- The other half and the old rows are added to what the scratch held. -/
theorem next (x0 x1 : Vec Ideal S1024x2048 .bf16) (w0 w1 : Vec Ideal S2048x1024 .bf16) (h : Vec Ideal S1024x1024 .f32) (j : S1024x1024.Idx) :
    k0_pay4 x1 w1 (k0_pay2 x0 w0) h j = (∑ k : Fin 2048, sqRelu (x0 (ix2 (j 0) k)) * w0 (ix2 k (j 1))) + (∑ k : Fin 2048, sqRelu (x1 (ix2 (j 0) k)) * w1 (ix2 k (j 1))) + h j := by
  pointwise [k0_pay4, k0_pay2, k0_pay1, sqRelu]

/-- What the last point of a pair stores in the wide result is the reference's row at the block's place. -/
theorem point (c : Dev nD) (t : Fin cfg0.N) (h : t.val % 2 = 1) (y : S1024x1024.Idx) (i : S4096x1024.Idx) (h0 : (i 0).val = t.val / 2 * 1024 + (y 0).val) (h1 : (i 1).val = (y 1).val) :
    k0_pay4 (iblk m c 0 t) (iblk m c 1 t) (k0_pay2 (iblk m c 0 (prev t)) (iblk m c 1 (prev t))) (iblk m c 2 t) y = ROWS (m ((c : Thread nD τ).loc main_arg0)) (m ((c : Thread nD τ).loc main_arg1)) (m ((c : Thread nD τ).loc main_arg2)) i := by
  refine (next _ _ _ _ _ y).trans ?_
  rw [rows_at]
  refine congrArg₂ (· + ·) ?_ ?_
  · rw [← halves]
    refine congrArg₂ (· + ·) (Finset.sum_congr rfl fun k _ => ?_) (Finset.sum_congr rfl fun k _ => ?_)
    · blk_point [iblk, V, idx t, idx (prev t)]
    · blk_point [iblk, V, idx t, idx (prev t)]
  · blk_ext [iblk, V, idx t]

/-- The body normalises the rows it has made. -/
theorem row (x : Vec Ideal S1024x2048 .bf16) (w : Vec Ideal S2048x1024 .bf16) (a h : Vec Ideal S1024x1024 .f32) (g : Vec Ideal S1x1024 .f32) (j : S1024x1024.Idx) :
    k0_pay5 x w a h g j = normAt (fun k => k0_pay4 x w a h (ix2 (j 0) k)) (fun k => g (ix2 0 k)) (j 1) := by
  pointwise [k0_pay5, k0_pay4, k0_pay1, normAt, meanSq]

/-- What it stores in the narrow result is the reference's normalised row there. -/
theorem point_narrow (c : Dev nD) (t : Fin cfg0.N) (h : t.val % 2 = 1) (y : S1024x1024.Idx) (i : S4096x1024.Idx) (h0 : (i 0).val = t.val / 2 * 1024 + (y 0).val) (h1 : (i 1).val = (y 1).val) :
    k0_pay5 (iblk m c 0 t) (iblk m c 1 t) (k0_pay2 (iblk m c 0 (prev t)) (iblk m c 1 (prev t))) (iblk m c 2 t) (iblk m c 3 t) y = NORM (ROWS (m ((c : Thread nD τ).loc main_arg0)) (m ((c : Thread nD τ).loc main_arg1)) (m ((c : Thread nD τ).loc main_arg2))) (m ((c : Thread nD τ).loc main_arg3)) i := by
  refine (row _ _ _ _ _ y).trans ((normAt_congr (fun k => point m c t h (ix2 (y 0) k) (ix2 (i 0) k) h0 rfl) (fun k => ?_) (Fin.ext h1.symm)).trans (norm_at _ _ i).symm)
  blk_ext [iblk, V, idx t]

/-- The wide result array after the run. -/
theorem final (c : Dev nD) : (dats m 0 c).arrAt 4 (cfgs 0).N = ROWS (m ((c : Thread nD τ).loc main_arg0)) (m ((c : Thread nD τ).loc main_arg1)) (m ((c : Thread nD τ).loc main_arg2)) := by
  refine (dats m 0 c).arrAt_eq_of_covers 4 _ (by decide +kernel) fun t hf y => ?_
  have h := (flush0_4 t).mp hf
  blk_simp
  rw [after0_4, outsAt0_B m c t (by omega) h]; frame_out
  rw [read_unread_whole, kept m c t h]
  refine point m c t h y _ ?_ ?_ <;> (blk_simp [idx t] <;> try omega)

/-- The narrow result array after the run. -/
theorem final_narrow (c : Dev nD) : (dats m 0 c).arrAt 5 (cfgs 0).N = NORM (ROWS (m ((c : Thread nD τ).loc main_arg0)) (m ((c : Thread nD τ).loc main_arg1)) (m ((c : Thread nD τ).loc main_arg2))) (m ((c : Thread nD τ).loc main_arg3)) := by
  refine (dats m 0 c).arrAt_eq_of_covers 5 _ (by decide +kernel) fun t hf y => ?_
  have h := (flush0_5 t).mp hf
  blk_simp
  rw [after0_5, outsAt0_B m c t (by omega) h]; frame_out
  rw [read_unread_whole, kept m c t h]
  refine point_narrow m c t h y _ ?_ ?_ <;> (blk_simp [idx t] <;> try omega)

end Cert.DownIdeal.Val

namespace Cert.Proof

/-- The kernel's new rows, and the normalised ones, are the reference's. -/
theorem down_algebraic : Cert.algebraic_DownIdeal_DownRefIdeal (hDownIdeal := Cert.DownIdeal.Gen.facts) (hDownRefIdeal := Cert.DownRefIdeal.Gen.facts) := by
  pair_intro
  · run_from Cert.DownIdeal.Gen.run_main m g
  · run_from Cert.DownRefIdeal.Value.run m' g'
    · exact (Cert.DownIdeal.Val.final m c).symm
    · exact (Cert.DownIdeal.Val.final_narrow m c).symm

/-- The reference's frame. -/
theorem down_ref_frame : Cert.quiescent_DownRefIdeal (hDownRefIdeal := Cert.DownRefIdeal.Gen.facts) := by
  intro m g _
  exact (θ_run _ _ _).mono (fun r h => ⟨fun c => (h c).2.2, sem_eq_zero_of_no_sems (by decide) r.2⟩) (Cert.DownRefIdeal.Value.run m g)

end Cert.Proof

namespace Cert.LastRefIdeal.Val

open Cert.LastRefIdeal Cert.LastRefIdeal.Gen Cert.Norm

/-- The reference's new rows of the residual stream. -/
def ROWS (X : FVec Ideal S4096x4096 .bf16) (W : FVec Ideal S4096x1024 .bf16) (H : FVec Ideal S4096x1024 .f32) : FVec Ideal S4096x1024 .f32 :=
  addf H (Host.dotGeneral dot_S4096x4096_S4096x1024_S4096x1024_1_0_0_1_n_n none (mulf (maximumf (extf .f32 X bitsLt_bf16_f32) (broadcastInDim S4096x4096 ![] bcast_S_S4096x4096 (constant S_ .f32 0x00000000#32))) (maximumf (extf .f32 X bitsLt_bf16_f32) (broadcastInDim S4096x4096 ![] bcast_S_S4096x4096 (constant S_ .f32 0x00000000#32)))) (extf .f32 W bitsLt_bf16_f32))

/-- Entry by entry they are a sum onto the old ones. -/
theorem rows_at (X : FVec Ideal S4096x4096 .bf16) (W : FVec Ideal S4096x1024 .bf16) (H : FVec Ideal S4096x1024 .f32) (i : S4096x1024.Idx) :
    ROWS X W H i = (∑ k : Fin 4096, sqRelu (X (ix2 (i 0) k)) * W (ix2 k (i 1))) + H i := by
  refine Eq.trans ?_ (add_comm _ _)
  pointwise [ROWS, sqRelu]

end Cert.LastRefIdeal.Val

namespace Cert.LastIdeal.Val

open Cert.LastIdeal Cert.LastIdeal.Gen Cert.Norm Cert.LastRefIdeal.Val

variable (m : (ℓ : Loc nD τ sig) → Buf (Elt Ideal) ℓ)

/-- Which block each window holds at each point. -/
theorem idx : ∀ t : Fin cfg0.N, win0_0.index t = ![t.val / 2, t.val % 2] ∧ win0_1.index t = ![t.val % 2, 0] ∧ win0_2.index t = ![t.val / 2, 0]
    ∧ win0_3.index t = ![t.val / 2, 0] :=
  (by decide +kernel : ∀ t : Fin grid0.N, _)

/-- The point before the last of a pair. -/
abbrev prev (t : Fin cfg0.N) : Fin cfg0.N := ⟨t.val - 1, Nat.lt_of_le_of_lt (Nat.sub_le _ _) t.isLt⟩

/-- The first half of the sum stays in the scratch. -/
theorem kept (c : Dev nD) (t : Fin cfg0.N) (h : t.val % 2 = 1) : (outsAt0 m c (t.val - 1) (prev t).isLt).2 = k0_pay2 (iblk m c 0 (prev t)) (iblk m c 1 (prev t)) := by
  have e := outsAt0_A m c (prev t) (by show (t.val - 1) % 2 = 0; omega) (by show ¬(t.val - 1) % 2 = 1; omega)
  rw [e]; frame_out

/-- The other half and the old rows are added to what the scratch held. -/
theorem next (x0 x1 : Vec Ideal S1024x2048 .bf16) (w0 w1 : Vec Ideal S2048x1024 .bf16) (h : Vec Ideal S1024x1024 .f32) (j : S1024x1024.Idx) :
    k0_pay4 x1 w1 (k0_pay2 x0 w0) h j = (∑ k : Fin 2048, sqRelu (x0 (ix2 (j 0) k)) * w0 (ix2 k (j 1))) + (∑ k : Fin 2048, sqRelu (x1 (ix2 (j 0) k)) * w1 (ix2 k (j 1))) + h j := by
  pointwise [k0_pay4, k0_pay2, k0_pay1, sqRelu]

/-- What the last point of a pair stores in the wide result is the reference's row at the block's place. -/
theorem point (c : Dev nD) (t : Fin cfg0.N) (h : t.val % 2 = 1) (y : S1024x1024.Idx) (i : S4096x1024.Idx) (h0 : (i 0).val = t.val / 2 * 1024 + (y 0).val) (h1 : (i 1).val = (y 1).val) :
    k0_pay4 (iblk m c 0 t) (iblk m c 1 t) (k0_pay2 (iblk m c 0 (prev t)) (iblk m c 1 (prev t))) (iblk m c 2 t) y = ROWS (m ((c : Thread nD τ).loc main_arg0)) (m ((c : Thread nD τ).loc main_arg1)) (m ((c : Thread nD τ).loc main_arg2)) i := by
  refine (next _ _ _ _ _ y).trans ?_
  rw [rows_at]
  refine congrArg₂ (· + ·) ?_ ?_
  · rw [← halves]
    refine congrArg₂ (· + ·) (Finset.sum_congr rfl fun k _ => ?_) (Finset.sum_congr rfl fun k _ => ?_)
    · blk_point [iblk, V, idx t, idx (prev t)]
    · blk_point [iblk, V, idx t, idx (prev t)]
  · blk_ext [iblk, V, idx t]

/-- The wide result array after the run. -/
theorem final (c : Dev nD) : (dats m 0 c).arrAt 3 (cfgs 0).N = ROWS (m ((c : Thread nD τ).loc main_arg0)) (m ((c : Thread nD τ).loc main_arg1)) (m ((c : Thread nD τ).loc main_arg2)) := by
  refine (dats m 0 c).arrAt_eq_of_covers 3 _ (by decide +kernel) fun t hf y => ?_
  have h := (flush0_3 t).mp hf
  blk_simp
  rw [after0_3, outsAt0_B m c t (by omega) h]; frame_out
  rw [read_unread_whole, kept m c t h]
  refine point m c t h y _ ?_ ?_ <;> (blk_simp [idx t] <;> try omega)

end Cert.LastIdeal.Val

namespace Cert.Proof

/-- The kernel's new rows are the reference's. -/
theorem last_algebraic : Cert.algebraic_LastIdeal_LastRefIdeal (hLastIdeal := Cert.LastIdeal.Gen.facts) (hLastRefIdeal := Cert.LastRefIdeal.Gen.facts) := by
  pair_intro
  · run_from Cert.LastIdeal.Gen.run_main m g
  · run_from Cert.LastRefIdeal.Value.run m' g'
    exact (Cert.LastIdeal.Val.final m c).symm

/-- The reference's frame. -/
theorem last_ref_frame : Cert.quiescent_LastRefIdeal (hLastRefIdeal := Cert.LastRefIdeal.Gen.facts) := by
  intro m g _
  exact (θ_run _ _ _).mono (fun r h => ⟨fun c => (h c).2, sem_eq_zero_of_no_sems (by decide) r.2⟩) (Cert.LastRefIdeal.Value.run m g)

end Cert.Proof

end
-- ==== Proof.Out.lean ====
/- The values of an output projection: the mixer's rows against the weight, onto the residual stream, then normalised. -/
module

public import proofs.«01_k».proof.Proof.Gen.OutIdeal.Frame
public import proofs.«01_k».proof.Proof.Gen.OutRefIdeal.Run
public import Idealize.ShloMosaic.Lib.Pipeline.ValueKit
public import Idealize.ShloMosaic.Lib.Claim
public import proofs.«01_k».proof.Proof.Norm
public import Idealize.ShloMosaic.Lib.Quiescent
public import proofs.«01_k».proof.Defs

@[expose] public section

set_option maxRecDepth 16384

noncomputable section

open Idealize.ShloMosaic Idealize.ShloMosaic.TcCoe Idealize.SL.Sem
open Idealize.ShloMosaic.Pipeline (Dat)

namespace Cert.OutRefIdeal.Val

open Cert.OutRefIdeal Cert.OutRefIdeal.Gen Cert.Norm

/-- The reference's new rows of the residual stream. -/
def ROWS (X : FVec Ideal S4096x1024 .bf16) (W : FVec Ideal S1024x1024 .bf16) (H : FVec Ideal S4096x1024 .f32) : FVec Ideal S4096x1024 .f32 :=
  addf H (Host.dotGeneral dot_S4096x1024_S1024x1024_S4096x1024_1_0_0_1_n_n none (extf .f32 X bitsLt_bf16_f32) (extf .f32 W bitsLt_bf16_f32))

/-- Entry by entry they are a sum onto the old ones. -/
theorem rows_at (X : FVec Ideal S4096x1024 .bf16) (W : FVec Ideal S1024x1024 .bf16) (H : FVec Ideal S4096x1024 .f32) (i : S4096x1024.Idx) :
    ROWS X W H i = (∑ k : Fin 1024, X (ix2 (i 0) k) * W (ix2 k (i 1))) + H i := by
  refine Eq.trans ?_ (add_comm _ _)
  pointwise [ROWS]

/-- The reference's normalisation of the new rows. -/
def NORM (H : FVec Ideal S4096x1024 .f32) (G : FVec Ideal S1x1024 .f32) : FVec Ideal S4096x1024 .bf16 :=
  truncf .bf16 (mulf (mulf H (broadcastInDim S4096x1024 ![0, 1] bcast_S4096x1_S4096x1024_0_1 (Host.rsqrt (addf (Host.divf (broadcastInDim S4096x1 ![0] bcast_S4096_S4096x1_0 (Host.reduceAdd (mulf H H) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 G)) bitsLt_bf16_f32

/-- Entry by entry it is the normalised row. -/
theorem norm_at (H : FVec Ideal S4096x1024 .f32) (G : FVec Ideal S1x1024 .f32) (i : S4096x1024.Idx) :
    NORM H G i = normAt (fun k => H (ix2 (i 0) k)) (fun k => G (ix2 0 k)) (i 1) := by
  pointwise [NORM, normAt, meanSq]

end Cert.OutRefIdeal.Val

namespace Cert.OutIdeal.Val

open Cert.OutIdeal Cert.OutIdeal.Gen Cert.Norm Cert.OutRefIdeal.Val

variable (m : (ℓ : Loc nD τ sig) → Buf (Elt Ideal) ℓ)

/-- Which block each window holds at each point. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- The body normalises the rows it has made. -/
theorem row (x w : Vec Ideal S1024x1024 .bf16) (h : Vec Ideal S1024x1024 .f32) (g : Vec Ideal S1x1024 .f32) (j : S1024x1024.Idx) :
    k0_pay2 x w h g j = normAt (fun k => k0_pay1 x w h (ix2 (j 0) k)) (fun k => g (ix2 0 k)) (j 1) := by
  pointwise [k0_pay2, k0_pay1, normAt, meanSq]

/-- What the body stores in the wide result is the reference's row at the block's place. -/
theorem point (c : Dev nD) (t : Fin cfg0.N) (y : S1024x1024.Idx) (i : S4096x1024.Idx) (h0 : (i 0).val = t.val * 1024 + (y 0).val) (h1 : (i 1).val = (y 1).val) :
    k0_pay1 (iblk m c 0 t) (iblk m c 1 t) (iblk m c 2 t) y = ROWS (m ((c : Thread nD τ).loc main_arg0)) (m ((c : Thread nD τ).loc main_arg1)) (m ((c : Thread nD τ).loc main_arg2)) i := by
  rw [rows_at]
  pointwise [k0_pay1]
  blk_point [iblk, V, idx t]

/-- What the body stores in the narrow result is the reference's normalised row there. -/
theorem point_narrow (c : Dev nD) (t : Fin cfg0.N) (y : S1024x1024.Idx) (i : S4096x1024.Idx) (h0 : (i 0).val = t.val * 1024 + (y 0).val) (h1 : (i 1).val = (y 1).val) :
    k0_pay2 (iblk m c 0 t) (iblk m c 1 t) (iblk m c 2 t) (iblk m c 3 t) y = NORM (ROWS (m ((c : Thread nD τ).loc main_arg0)) (m ((c : Thread nD τ).loc main_arg1)) (m ((c : Thread nD τ).loc main_arg2))) (m ((c : Thread nD τ).loc main_arg3)) i := by
  refine (row _ _ _ _ y).trans ((normAt_congr (fun k => point m c t (ix2 (y 0) k) (ix2 (i 0) k) h0 rfl) (fun k => ?_) (Fin.ext h1.symm)).trans (norm_at _ _ i).symm)
  blk_ext [iblk, V, idx t]

/-- The wide result array after the run. -/
theorem final (c : Dev nD) : (dats m 0 c).arrAt 4 (cfgs 0).N = ROWS (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  refine point m c t y _ ?_ ?_ <;> (blk_simp [idx t] <;> try omega)

/-- The narrow result array after the run. -/
theorem final_narrow (c : Dev nD) : (dats m 0 c).arrAt 5 (cfgs 0).N = NORM (ROWS (m ((c : Thread nD τ).loc main_arg0)) (m ((c : Thread nD τ).loc main_arg1)) (m ((c : Thread nD τ).loc main_arg2))) (m ((c : Thread nD τ).loc main_arg3)) := by
  refine (dats m 0 c).arrAt_eq_of_covers 5 _ (by decide +kernel) fun t _ y => ?_
  blk_simp
  rw [after0_5]; frame_out
  refine point_narrow m c t y _ ?_ ?_ <;> (blk_simp [idx t] <;> try omega)

end Cert.OutIdeal.Val

namespace Cert.Proof

/-- The kernel's new rows, and the normalised ones, are the reference's. -/
theorem out_algebraic : Cert.algebraic_OutIdeal_OutRefIdeal (hOutIdeal := Cert.OutIdeal.Gen.facts) (hOutRefIdeal := Cert.OutRefIdeal.Gen.facts) := by
  pair_intro
  · run_from Cert.OutIdeal.Gen.run_main m g
  · run_from Cert.OutRefIdeal.Value.run m' g'
    · exact (Cert.OutIdeal.Val.final m c).symm
    · exact (Cert.OutIdeal.Val.final_narrow m c).symm

/-- The reference's frame. -/
theorem out_ref_frame : Cert.quiescent_OutRefIdeal (hOutRefIdeal := Cert.OutRefIdeal.Gen.facts) := by
  intro m g _
  exact (θ_run _ _ _).mono (fun r h => ⟨fun c => (h c).2.2, sem_eq_zero_of_no_sems (by decide) r.2⟩) (Cert.OutRefIdeal.Value.run m g)

end Cert.Proof

end
-- ==== Proof.Gate.lean ====
/- The scalar facts of the recurrence's gates: the decay's softplus, the guarded form of one minus an exponential, sums against block-diagonal weights. -/
module

public import Idealize.ShloMosaic.Lib.Pipeline.ValueKit
public import Idealize.ShloMosaic.Lib.KernelVsHost
public import Idealize.ShloMosaic.Lib.Pointwise

@[expose] public section

noncomputable section

namespace Cert.Gate

open Idealize.ShloMosaic

/-- A value that is a real number. -/
def IsReal (x : EReal) : Prop := ∃ r : ℝ, x = (r : EReal)

/-- A real number is real. -/
theorem isReal_coe (r : ℝ) : IsReal (r : EReal) := ⟨r, rfl⟩

/-- A sum of reals is real. -/
theorem IsReal.add {x y : EReal} : IsReal x → IsReal y → IsReal (x + y)
  | ⟨a, ha⟩, ⟨b, hb⟩ => ⟨a + b, by rw [ha, hb, EReal.coe_add]⟩

/-- A product of reals is real. -/
theorem IsReal.mul {x y : EReal} : IsReal x → IsReal y → IsReal (x * y)
  | ⟨a, ha⟩, ⟨b, hb⟩ => ⟨a * b, by rw [ha, hb, EReal.coe_mul]⟩

/-- A negated real is real. -/
theorem IsReal.neg {x : EReal} : IsReal x → IsReal (-x)
  | ⟨a, ha⟩ => ⟨-a, by rw [ha, EReal.coe_neg]⟩

/-- A real's exponential is real. -/
theorem IsReal.exp {x : EReal} : IsReal x → IsReal (Ideal.exp x)
  | ⟨a, ha⟩ => ⟨Real.exp a, by rw [ha]; rfl⟩

/-- A finite sum of reals is a real. -/
theorem IsReal.sum {ι : Type} (s : Finset ι) (f : ι → EReal) (h : ∀ i, IsReal (f i)) : IsReal (∑ i ∈ s, f i) :=
  Finset.sum_induction f IsReal (fun _ _ => IsReal.add) ⟨0, rfl⟩ fun i _ => h i

/-- A value below infinity in absolute value is a real. -/
theorem isReal_of_below (x : EReal) (h : Ideal.cmp .olt (max x (-x)) (Ideal.ofBits .f32 0x7F800000#32) = 1#1) : IsReal x := by
  have h' : max x (-x) < (⊤ : EReal) := by
    have e : Ideal.ofBits .f32 0x7F800000#32 = (⊤ : EReal) := by simp [Ideal.ofBits, Ideal.ieee]
    rw [← e]
    by_contra hn
    rw [show Ideal.cmp .olt (max x (-x)) (Ideal.ofBits .f32 0x7F800000#32) = BitVec.ofBool (decide (max x (-x) < Ideal.ofBits .f32 0x7F800000#32)) from rfl,
      decide_eq_false hn] at h
    exact absurd h (by decide)
  induction x using EReal.rec with
  | bot => simp at h'
  | top => simp at h'
  | coe r => exact ⟨r, rfl⟩

/-- The words of the constants. -/
theorem word_two : Ideal.ofBits .f32 0x40000000#32 = ((2 : ℝ) : EReal) := by
  simp [Ideal.ofBits, Ideal.ieee]; rw [← EReal.coe_mul]; norm_num

/-- The word of minus eight. -/
theorem word_neg_eight : Ideal.ofBits .f32 0xC1000000#32 = ((-8 : ℝ) : EReal) := by
  simp [Ideal.ofBits, Ideal.ieee]; rw [← EReal.coe_mul]; norm_num

/-- The word of one half. -/
theorem word_half : Ideal.ofBits .f32 0x3F000000#32 = ((1 / 2 : ℝ) : EReal) := by
  simp [Ideal.ofBits, Ideal.ieee]; rw [← EReal.coe_mul]; norm_num

/-- The word of infinity. -/
theorem word_inf : Ideal.ofBits .f32 0x7F800000#32 = (⊤ : EReal) := by
  simp [Ideal.ofBits, Ideal.ieee]

/-- The logistic function has real values everywhere. -/
theorem isReal_logistic (x : EReal) : IsReal (Ideal.logistic x) := by
  induction x using EReal.rec with
  | bot => exact ⟨0, by rw [Ideal.logistic, EReal.neg_bot, show Ideal.exp ⊤ = ⊤ from rfl, EReal.add_top_of_ne_bot (by decide)]; simp [Ideal.div]⟩
  | top => exact ⟨1, by rw [Ideal.logistic, EReal.neg_top, show Ideal.exp ⊥ = 0 from rfl]; simp [Ideal.div]⟩
  | coe r =>
    refine ⟨1 / (1 + Real.exp (-r)), ?_⟩
    have hp : (0 : ℝ) < 1 + Real.exp (-r) := by positivity
    show Ideal.div 1 (1 + Ideal.exp (-(r : EReal))) = _
    rw [show Ideal.exp (-(r : EReal)) = ((Real.exp (-r) : ℝ) : EReal) from rfl, show (1 : EReal) = ((1 : ℝ) : EReal) from rfl, ← EReal.coe_add, Ideal.div,
      if_neg (by exact_mod_cast hp.ne'), div_eq_mul_inv, EReal.coe_mul, EReal.coe_inv]

/-- The larger of two reals. -/
theorem max_coe (a b : ℝ) : max (a : EReal) (b : EReal) = ((max a b : ℝ) : EReal) :=
  (Monotone.map_max (f := fun r : ℝ => (r : EReal)) fun _ _ h => EReal.coe_le_coe_iff.mpr h).symm

/-- The kernel's softplus of the negated decay. -/
def softK (l : EReal) : EReal := max (0 - l) 0 + Ideal.log1p (Ideal.exp (0 - max (0 - l) (-(0 - l))))

/-- Of a real it is a real. -/
theorem softK_coe (l : ℝ) : softK l = ((max (-l) 0 + Real.log (1 + Real.exp (-|l|)) : ℝ) : EReal) := by
  have hp : (0 : ℝ) < 1 + Real.exp (-|l|) := by positivity
  have h1 : (0 : EReal) - (l : EReal) = ((-l : ℝ) : EReal) := by rw [zero_sub, EReal.coe_neg]
  have h2 : max (((-l : ℝ)) : EReal) (-((-l : ℝ) : EReal)) = ((|l| : ℝ) : EReal) := by
    rw [← EReal.coe_neg, max_coe, neg_neg, max_comm]; rfl
  rw [softK, h1, h2, zero_sub, ← EReal.coe_neg, show Ideal.exp ((-|l| : ℝ) : EReal) = ((Real.exp (-|l|) : ℝ) : EReal) from rfl, Ideal.log1p,
    show (1 : EReal) = ((1 : ℝ) : EReal) from rfl, ← EReal.coe_add, show Ideal.log ((1 + Real.exp (-|l|) : ℝ) : EReal) = if 1 + Real.exp (-|l|) ≤ 0 then ⊥ else ((Real.log (1 + Real.exp (-|l|)) : ℝ) : EReal) from rfl,
    if_neg (not_le.mpr hp), show (0 : EReal) = ((0 : ℝ) : EReal) from rfl, max_coe, ← EReal.coe_add]

/-- The guarded form of one minus an exponential, as the kernel spells it. -/
def guarded (x : EReal) : EReal :=
  if Ideal.exp x = 1 then 0 - x
  else Ideal.div ((1 - Ideal.exp x) * x) (Ideal.log (if Ideal.exp x = 1 then Ideal.ofBits .f32 0x40000000#32 else Ideal.exp x))

/-- Of a real it is one minus the exponential. -/
theorem guarded_coe (x : ℝ) : guarded x = -(Ideal.expm1 x) := by
  have e : Ideal.exp (x : EReal) = ((Real.exp x : ℝ) : EReal) := rfl
  have one : (1 : EReal) = ((1 : ℝ) : EReal) := rfl
  rw [guarded, Ideal.expm1, e]
  by_cases h : x = 0
  · rw [if_pos (by rw [h, Real.exp_zero]; rfl), h, Real.exp_zero, one, ← EReal.coe_sub, ← EReal.coe_neg, zero_sub, ← EReal.coe_neg]
    norm_num
  · have hn : ¬ (((Real.exp x : ℝ) : EReal) = 1) := by
      rw [one, EReal.coe_eq_coe_iff, Real.exp_eq_one_iff]; exact h
    rw [if_neg hn, if_neg hn, show Ideal.log ((Real.exp x : ℝ) : EReal) = if Real.exp x ≤ 0 then ⊥ else ((Real.log (Real.exp x) : ℝ) : EReal) from rfl,
      if_neg (not_le.mpr (Real.exp_pos x)), Real.log_exp, Ideal.div, if_neg (by exact_mod_cast h), one, ← EReal.coe_sub, ← EReal.coe_sub, ← EReal.coe_neg, ← EReal.coe_inv,
      ← EReal.coe_mul, ← EReal.coe_mul]
    congr 1
    field_simp
    ring

/-- The reference's softplus: the logarithm of a sum of two exponentials, one of zero. -/
theorem soft_ref (l : ℝ) : max (-(l : EReal)) 0 + Ideal.log1p (Ideal.exp (-(max (-(l : EReal) - 0) (-(-(l : EReal) - 0))))) = softK l := by
  rw [softK, sub_zero, zero_sub, zero_sub]

/-- A sum against a block-diagonal matrix is the sum over the block. -/
theorem block_sum (g : Fin 8) (f : Fin 512 → EReal) (w : Fin 512 → EReal)
    (hw : ∀ k : Fin 512, k.val / 64 ≠ g.val → w k = 0) :
    ∑ k : Fin 512, f k * w k = ∑ k : Fin 64, f ⟨g.val * 64 + k.val, by omega⟩ * w ⟨g.val * 64 + k.val, by omega⟩ := by
  let emb : Fin 64 ↪ Fin 512 := ⟨fun k => ⟨g.val * 64 + k.val, by omega⟩, fun a b h => Fin.ext (by have := congrArg Fin.val h; simpa using this)⟩
  refine Eq.trans ?_ (Finset.sum_map Finset.univ emb fun k => f k * w k)
  refine (Finset.sum_subset (Finset.subset_univ _) fun k _ hk => ?_).symm
  have hne : k.val / 64 ≠ g.val := fun he => hk (Finset.mem_map.mpr ⟨⟨k.val % 64, by omega⟩, Finset.mem_univ _, Fin.ext (by show g.val * 64 + k.val % 64 = k.val; omega)⟩)
  rw [hw k hne, mul_zero]

/-- The decay's logarithm, from the gate before its logistic and the decay's parameter. -/
def laOf (z l : EReal) : EReal := Ideal.ofBits .f32 0xC1000000#32 * Ideal.logistic z * softK l

/-- The recurrence's factor. -/
def aOf (z l : EReal) : EReal := Ideal.exp (laOf z l)

/-- The recurrence's input, with the kernel's guarded form. -/
def uOf (z zi x l : EReal) : EReal := Ideal.sqrt (guarded (Ideal.ofBits .f32 0x40000000#32 * laOf z l)) * (Ideal.logistic zi * x)

/-- The decay's logarithm is a real when its parameter is. -/
theorem isReal_laOf (z : EReal) {l : EReal} (hl : IsReal l) : IsReal (laOf z l) := by
  obtain ⟨r, rfl⟩ := hl
  exact IsReal.mul (IsReal.mul ⟨-8, word_neg_eight⟩ (isReal_logistic z)) ⟨_, softK_coe r⟩

/-- On a real the guarded form is one minus the exponential. -/
theorem guarded_of_isReal {x : EReal} : IsReal x → guarded x = -(Ideal.expm1 x)
  | ⟨r, hr⟩ => by rw [hr]; exact guarded_coe r

/-- A one-bit comparison of two block numbers, as a number. -/
theorem eye (a b : Fin 8) : (FloatOps.uitofp .f32 (IntOp.cmpi .eq (IntOp.addi (BitVec.ofNat 32 a.val) 0#32) (BitVec.ofNat 32 b.val)) : Ideal .f32)
    = if a.val = b.val then (1 : EReal) else 0 := by
  have h : IntOp.cmpi .eq (IntOp.addi (BitVec.ofNat 32 a.val) 0#32) (BitVec.ofNat 32 b.val) = if a.val = b.val then 1#1 else 0#1 := by
    revert a b; decide
  rw [h]
  split
  · exact (show (((1#1 : BitVec 1).toNat : ℝ) : EReal) = 1 by simp)
  · exact (show (((0#1 : BitVec 1).toNat : ℝ) : EReal) = 0 by simp)

end Cert.Gate
-- ==== Proof.Gates.lean ====
/- The values of the recurrence's gates: two block-diagonal products, their logistics, the decay and the gated input of both directions. -/
module

public import proofs.«01_k».proof.Proof.Gen.GatesIdeal.Frame
public import proofs.«01_k».proof.Proof.Gen.GatesRefIdeal.Run
public import Idealize.ShloMosaic.Lib.Pipeline.ValueKit
public import Idealize.ShloMosaic.Lib.Claim
public import proofs.«01_k».proof.Proof.Gate
public import Idealize.ShloMosaic.Lib.Quiescent
public import proofs.«01_k».proof.Defs
public import proofs.«01_k».proof.Pre_finite_decay

@[expose] public section

set_option maxRecDepth 16384

noncomputable section

open Idealize.ShloMosaic Idealize.ShloMosaic.TcCoe Idealize.SL.Sem
open Idealize.ShloMosaic.Pipeline (Dat)

namespace Cert.Pre_finite_decay

/-- The precondition's broadcast is one. -/
theorem facts : Facts := ⟨by decide⟩

end Cert.Pre_finite_decay

namespace Cert.GatesRefIdeal.Val

open Cert.GatesRefIdeal Cert.GatesRefIdeal.Gen Cert.Gate

/-- The reference's gate before its logistic, one block of columns at a time. -/
def PRE (X : FVec Ideal S4096x512 .f32) (W : FVec Ideal S2x8x64x64 .f32) (B : FVec Ideal S2x512 .f32) : FVec Ideal S2x4096x512 .f32 :=
  addf (shapeCast _ (transpose S2x4096x8x64 [1, 3, 0, 2] (Host.dotGeneral dot_S2x8x64x64_S4096x8x64_S8x2x64x4096_2_2_03_0_1_1 none W (shapeCast _ X shapeCasts_S4096x512_S4096x8x64)) transposes_S8x2x64x4096_S2x4096x8x64_1_3_0_2) shapeCasts_S2x4096x8x64_S2x4096x512)
    (broadcastInDim S2x4096x512 ![0, 1, 2] bcast_S2x1x512_S2x4096x512_0_1_2 (broadcastInDim S2x1x512 ![0, 2] bcast_S2x512_S2x1x512_0_2 B))

/-- One column of a gate before its logistic: its block of the row against its block's column, with the bias. -/
def zAt (X : FVec Ideal S4096x512 .f32) (W : FVec Ideal S2x8x64x64 .f32) (B : FVec Ideal S2x512 .f32) (d : Fin 2) (s : Fin 4096) (j : Fin 512) : EReal :=
  (∑ k : Fin 64, X (ix2 s ⟨j.val / 64 * 64 + k.val, by omega⟩) * W (ix4 d ⟨j.val / 64, by omega⟩ k ⟨j.val % 64, by omega⟩)) + B (ix2 d j)

/-- A gate before its logistic, at a place. -/
theorem pre_at (X : FVec Ideal S4096x512 .f32) (W : FVec Ideal S2x8x64x64 .f32) (B : FVec Ideal S2x512 .f32) (i : S2x4096x512.Idx) :
    PRE X W B i = zAt X W B (i 0) (i 1) (i 2) := by
  refine Eq.trans ?_ (congrArg (· + B (ix2 (i 0) (i 2))) (Finset.sum_congr rfl fun k _ => mul_comm _ _))
  pointwise [PRE]

/-- The constant one. -/
def one : FVec Ideal S2x4096x512 .f32 := broadcastInDim S2x4096x512 ![] bcast_S_S2x4096x512 (constant S_ .f32 0x3F800000#32)

/-- The reference's logistic. -/
def SIG (Z : FVec Ideal S2x4096x512 .f32) : FVec Ideal S2x4096x512 .f32 := Host.divf one (addf one (Host.exp (Host.negf Z)))

/-- The reference's logistic is the scalar one. -/
theorem sig_at (Z : FVec Ideal S2x4096x512 .f32) (i : S2x4096x512.Idx) : SIG Z i = Ideal.logistic (Z i) := by
  pointwise [SIG, one]
  rfl

/-- The constant zero. -/
def zero : FVec Ideal S2x512 .f32 := broadcastInDim S2x512 ![] bcast_S_S2x512 (constant S_ .f32 0x00000000#32)

/-- The softplus of the negated parameter. -/
def SOFT (L : FVec Ideal S2x512 .f32) : FVec Ideal S2x512 .f32 :=
  select (cmpf .une (subf (Host.negf L) zero) (subf (Host.negf L) zero)) (addf (Host.negf L) zero)
    (addf (maximumf (Host.negf L) zero) (Host.log1p (Host.exp (Host.negf (Host.absf (subf (Host.negf L) zero))))))
/-- On a real parameter it is the kernel's. -/
theorem soft_at (L : FVec Ideal S2x512 .f32) (i : S2x512.Idx) (h : IsReal (L i)) : SOFT L i = softK (L i) := by
  obtain ⟨r, hr⟩ := h
  refine Eq.trans ?_ ((soft_ref r).trans (congrArg softK hr.symm))
  pointwise [SOFT, zero]
  rw [if_neg (fun h => h rfl), hr]
  rfl

/-- The decay's logarithm of both directions. -/
def LA (Z : FVec Ideal S2x4096x512 .f32) (L : FVec Ideal S2x512 .f32) : FVec Ideal S2x4096x512 .f32 :=
  mulf (mulf (broadcastInDim S2x4096x512 ![] bcast_S_S2x4096x512 (constant S_ .f32 0xC1000000#32)) (SIG Z)) (broadcastInDim S2x4096x512 ![0, 1, 2] bcast_S2x1x512_S2x4096x512_0_1_2 (broadcastInDim S2x1x512 ![0, 2] bcast_S2x512_S2x1x512_0_2 (SOFT L)))

/-- The reference's decay exponent, at a place. -/
theorem la_at (Z : FVec Ideal S2x4096x512 .f32) (L : FVec Ideal S2x512 .f32) (i : S2x4096x512.Idx) (h : IsReal (L (ix2 (i 0) (i 2)))) :
    LA Z L i = laOf (Z i) (L (ix2 (i 0) (i 2))) := by
  rw [laOf, ← soft_at L _ h, ← sig_at]
  pointwise [LA]

/-- One direction's rows of an array that holds both. -/
def SIDE0 (X : FVec Ideal S2x4096x512 .f32) : FVec Ideal S4096x512 .f32 :=
  shapeCast _ (extractStridedSlice S1x4096x512 ![0, 0, 0] X slices_S2x4096x512_S1x4096x512_0_0_0) shapeCasts_S1x4096x512_S4096x512

/-- The other direction's. -/
def SIDE1 (X : FVec Ideal S2x4096x512 .f32) : FVec Ideal S4096x512 .f32 :=
  shapeCast _ (extractStridedSlice S1x4096x512 ![1, 0, 0] X slices_S2x4096x512_S1x4096x512_1_0_0) shapeCasts_S1x4096x512_S4096x512

/-- The forward direction, at a place. -/
theorem side0_at (X : FVec Ideal S2x4096x512 .f32) (i : S4096x512.Idx) : SIDE0 X i = X (ix3 0 (i 0) (i 1)) := by
  pointwise [SIDE0]

/-- The backward direction, at a place. -/
theorem side1_at (X : FVec Ideal S2x4096x512 .f32) (i : S4096x512.Idx) : SIDE1 X i = X (ix3 1 (i 0) (i 1)) := by
  pointwise [SIDE1]

/-- The recurrence's factors of both directions. -/
def A (X : FVec Ideal S4096x512 .f32) (W : FVec Ideal S2x8x64x64 .f32) (B L : FVec Ideal S2x512 .f32) : FVec Ideal S2x4096x512 .f32 :=
  Host.exp (LA (PRE X W B) L)

/-- The reference's factor, at a place. -/
theorem a_at (X : FVec Ideal S4096x512 .f32) (W : FVec Ideal S2x8x64x64 .f32) (B L : FVec Ideal S2x512 .f32) (d : Fin 2) (s : Fin 4096) (j : Fin 512) (h : IsReal (L (ix2 d j))) :
    A X W B L (ix3 d s j) = aOf (zAt X W B d s j) (L (ix2 d j)) :=
  congrArg Ideal.exp ((la_at (PRE X W B) L (ix3 d s j) h).trans (congrArg (laOf · _) (pre_at X W B (ix3 d s j))))

/-- The recurrence's inputs of both directions. -/
def U (X : FVec Ideal S4096x512 .f32) (Wa : FVec Ideal S2x8x64x64 .f32) (Ba : FVec Ideal S2x512 .f32) (Wx : FVec Ideal S2x8x64x64 .f32) (Bx L : FVec Ideal S2x512 .f32) : FVec Ideal S2x4096x512 .f32 :=
  mulf (Host.sqrt (Host.negf (Host.expm1 (mulf (broadcastInDim S2x4096x512 ![] bcast_S_S2x4096x512 (constant S_ .f32 0x40000000#32)) (LA (PRE X Wa Ba) L)))))
    (mulf (SIG (PRE X Wx Bx)) (broadcastInDim S2x4096x512 ![0, 1, 2] bcast_S1x4096x512_S2x4096x512_0_1_2 (broadcastInDim S1x4096x512 ![1, 2] bcast_S4096x512_S1x4096x512_1_2 X)))

/-- The reference's input, at a place. -/
theorem u_at (X : FVec Ideal S4096x512 .f32) (Wa : FVec Ideal S2x8x64x64 .f32) (Ba : FVec Ideal S2x512 .f32) (Wx : FVec Ideal S2x8x64x64 .f32) (Bx L : FVec Ideal S2x512 .f32)
    (d : Fin 2) (s : Fin 4096) (j : Fin 512) (h : IsReal (L (ix2 d j))) :
    U X Wa Ba Wx Bx L (ix3 d s j) = uOf (zAt X Wa Ba d s j) (zAt X Wx Bx d s j) (X (ix2 s j)) (L (ix2 d j)) := by
  have hz : LA (PRE X Wa Ba) L (ix3 d s j) = laOf (zAt X Wa Ba d s j) (L (ix2 d j)) :=
    (la_at (PRE X Wa Ba) L (ix3 d s j) h).trans (congrArg (laOf · _) (pre_at X Wa Ba (ix3 d s j)))
  have hi : SIG (PRE X Wx Bx) (ix3 d s j) = Ideal.logistic (zAt X Wx Bx d s j) :=
    (sig_at _ _).trans (congrArg Ideal.logistic (pre_at X Wx Bx (ix3 d s j)))
  rw [uOf, guarded_of_isReal (IsReal.mul ⟨2, word_two⟩ (isReal_laOf _ h)), ← hz, ← hi]
  pointwise [U]
  rfl

/-- The reference's run: the four results, and the arguments as they were. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v43) = SIDE0 (A (m ((c.tc : Thread nD τ).loc main_arg0)) (m ((c.tc : Thread nD τ).loc main_arg1)) (m ((c.tc : Thread nD τ).loc main_arg2)) (m ((c.tc : Thread nD τ).loc main_arg5)))
      ∧ r.2.mem ((c.tc : Thread nD τ).loc main_v45) = SIDE0 (U (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
      ∧ r.2.mem ((c.tc : Thread nD τ).loc main_v47) = SIDE1 (A (m ((c.tc : Thread nD τ).loc main_arg0)) (m ((c.tc : Thread nD τ).loc main_arg1)) (m ((c.tc : Thread nD τ).loc main_arg2)) (m ((c.tc : Thread nD τ).loc main_arg5)))
      ∧ r.2.mem ((c.tc : Thread nD τ).loc main_v49) = SIDE1 (U (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5)) :=
  (θ_run _ _ _).mono (fun r h c => h c) (Cert.GatesRefIdeal.Value.run m g)

end Cert.GatesRefIdeal.Val

namespace Cert.GatesIdeal.Val

open Cert.GatesIdeal Cert.GatesIdeal.Gen Cert.Gate Cert.GatesRefIdeal.Val

variable (m : (ℓ : Loc nD τ sig) → Buf (Elt Ideal) ℓ)

/-- Which block each window holds at each point. -/
theorem idx : ∀ t : Fin cfg0.N, win0_0.index t = ![t.val, 0] ∧ win0_1.index t = ![0, 0, 0] ∧ win0_2.index t = ![0, 0, 0]
    ∧ win0_3.index t = ![0, 0] ∧ win0_4.index t = ![0, 0] ∧ win0_5.index t = ![0, 0]
    ∧ win0_6.index t = ![t.val, 0] ∧ win0_7.index t = ![t.val, 0] ∧ win0_8.index t = ![t.val, 0] ∧ win0_9.index t = ![t.val, 0] :=
  (by decide +kernel : ∀ t : Fin grid0.N, _)

/-- The block-diagonal matrices that the host lays out. -/
def DIAG (W : FVec Ideal S2x8x64x64 .f32) : FVec Ideal S2x512x512 .f32 :=
  shapeCast _ (mulf (broadcastInDim S2x8x64x8x64 ![0, 1, 2, 3, 4] bcast_S2x8x64x1x64_S2x8x64x8x64_0_1_2_3_4 (broadcastInDim S2x8x64x1x64 ![0, 1, 2, 4] bcast_S2x8x64x64_S2x8x64x1x64_0_1_2_4 W))
    (broadcastInDim S2x8x64x8x64 ![0, 1, 2, 3, 4] bcast_S1x8x1x8x1_S2x8x64x8x64_0_1_2_3_4 (broadcastInDim S1x8x1x8x1 ![1, 3] bcast_S8x8_S1x8x1x8x1_1_3
      (uitofp .f32 (cmpi .eq (addi (iotaInDim S8x8 32 0) (broadcastInDim S8x8 ![] bcast_S_S8x8 (constantI S_ 32 0#32))) (iotaInDim S8x8 32 1)))))) shapeCasts_S2x8x64x8x64_S2x512x512

/-- The first such matrix. -/
theorem v11 (c : Dev nD) : V m c main_v11 = DIAG (m ((c : Thread nD τ).loc main_arg1)) := by
  unfold V hostOps0
  after_results
  rfl

/-- The second such matrix. -/
theorem v23 (c : Dev nD) : V m c main_v23 = DIAG (m ((c : Thread nD τ).loc main_arg3)) := by
  unfold V hostOps0
  after_results
  rfl

/-- An entry is the block's, or zero off the blocks. -/
theorem diag_at (W : FVec Ideal S2x8x64x64 .f32) (d : Fin 2) (k j : Fin 512) :
    DIAG W (ix3 d k j) = W (ix4 d ⟨k.val / 64, by omega⟩ ⟨k.val % 64, by omega⟩ ⟨j.val % 64, by omega⟩) * (if k.val / 64 = j.val / 64 then 1 else 0) := by
  refine Eq.trans ?_ (congrArg (_ * ·) (eye ⟨k.val / 64, by omega⟩ ⟨j.val / 64, by omega⟩))
  pointwise [DIAG]

/-- A row against a column of it meets the column's block only. -/
theorem diag_sum (W : FVec Ideal S2x8x64x64 .f32) (d : Fin 2) (j : Fin 512) (f : Fin 512 → EReal) :
    ∑ k : Fin 512, f k * DIAG W (ix3 d k j) = ∑ k : Fin 64, f ⟨j.val / 64 * 64 + k.val, by omega⟩ * W (ix4 d ⟨j.val / 64, by omega⟩ k ⟨j.val % 64, by omega⟩) := by
  refine (block_sum ⟨j.val / 64, by omega⟩ f (fun k => DIAG W (ix3 d k j)) fun k hk => ?_).trans (Finset.sum_congr rfl fun k _ => congrArg (_ * ·) ?_)
  · exact (diag_at W d k j).trans ((congrArg (_ * ·) (if_neg hk)).trans (mul_zero _))
  · refine (diag_at W d ⟨j.val / 64 * 64 + k.val, by omega⟩ j).trans ?_
    refine (congrArg (_ * ·) (if_pos (show (j.val / 64 * 64 + k.val) / 64 = j.val / 64 by omega))).trans ((mul_one _).trans ?_)
    refine congrArg W (congrArg₂ (fun a b => ix4 d a b _) (Fin.ext ?_) (Fin.ext ?_))
    · show (j.val / 64 * 64 + k.val) / 64 = j.val / 64; omega
    · show (j.val / 64 * 64 + k.val) % 64 = k.val; omega

/-- A gate before its logistic, as the body computes it. -/
def zK (x : Vec Ideal S512x512 .f32) (w : Vec Ideal S2x512x512 .f32) (b : Vec Ideal S2x512 .f32) (d : Fin 2) (j : S512x512.Idx) : EReal :=
  (∑ k : Fin 512, x (ix2 (j 0) k) * w (ix3 d k (j 1))) + b (ix2 d (j 1))

/-- The four values that the body stores. -/
theorem a_forward (x : Vec Ideal S512x512 .f32) (w : Vec Ideal S2x512x512 .f32) (b l : Vec Ideal S2x512 .f32) (j : S512x512.Idx) :
    k0_pay10 (k0_pay7 x w b) (k0_pay8 l) j = aOf (zK x w b 0 j) (l (ix2 0 (j 1))) := by
  pointwise [k0_pay10, k0_pay9, k0_pay7, k0_pay4, k0_pay8, aOf, laOf, softK, zK]
  rfl

/-- The backward factor. -/
theorem a_backward (x : Vec Ideal S512x512 .f32) (w : Vec Ideal S2x512x512 .f32) (b l : Vec Ideal S2x512 .f32) (j : S512x512.Idx) :
    k0_pay2 (k0_pay13 x (k0_pay4 w) b) (k0_pay15 l) (k0_pay16 l) j = aOf (zK x w b 1 j) (l (ix2 1 (j 1))) := by
  pointwise [k0_pay2, k0_pay1, k0_pay13, k0_pay4, k0_pay15, k0_pay16, k0_pay14, aOf, laOf, softK, zK]
  rfl

/-- The forward input. -/
theorem u_forward (x : Vec Ideal S512x512 .f32) (wa wx : Vec Ideal S2x512x512 .f32) (ba bx l : Vec Ideal S2x512 .f32) (j : S512x512.Idx) :
    k0_pay11 x (k0_pay6 x wx bx) (k0_pay7 x wa ba) (k0_pay8 l) j = uOf (zK x wa ba 0 j) (zK x wx bx 0 j) (x j) (l (ix2 0 (j 1))) := by
  pointwise [k0_pay11, k0_pay9, k0_pay6, k0_pay5, k0_pay7, k0_pay4, k0_pay8, uOf, laOf, softK, zK, guarded]
  rfl

/-- The backward input. -/
theorem u_backward (x : Vec Ideal S512x512 .f32) (wa wx : Vec Ideal S2x512x512 .f32) (ba bx l : Vec Ideal S2x512 .f32) (j : S512x512.Idx) :
    k0_pay3 x (k0_pay12 x (k0_pay5 wx) bx) (k0_pay13 x (k0_pay4 wa) ba) (k0_pay15 l) (k0_pay16 l) j = uOf (zK x wa ba 1 j) (zK x wx bx 1 j) (x j) (l (ix2 1 (j 1))) := by
  pointwise [k0_pay3, k0_pay1, k0_pay12, k0_pay5, k0_pay13, k0_pay4, k0_pay15, k0_pay16, k0_pay14, uOf, laOf, softK, zK, guarded]
  rfl

/-- The body's gate before its logistic is the reference's. -/
theorem za (c : Dev nD) (t : Fin cfg0.N) (d : Fin 2) (y : S512x512.Idx) (s : Fin 4096) (j : Fin 512) (h0 : s.val = t.val * 512 + (y 0).val) (h1 : j.val = (y 1).val) :
    zK (iblk m c 0 t) (iblk m c 1 t) (iblk m c 3 t) d y = zAt (m ((c : Thread nD τ).loc main_arg0)) (m ((c : Thread nD τ).loc main_arg1)) (m ((c : Thread nD τ).loc main_arg2)) d s j := by
  have e : (iblk m c 1 t : Vec Ideal S2x512x512 .f32) = DIAG (m ((c : Thread nD τ).loc main_arg1)) := by
    funext z
    blk_ext [iblk, v11 m c, idx t]
  obtain rfl : j = y 1 := Fin.ext h1
  rw [zK, e]
  refine (congrArg (· + _) (diag_sum _ d (y 1) fun k => iblk m c 0 t (ix2 (y 0) k))).trans ?_
  unfold zAt
  blk_point [iblk, V, idx t]

/-- The same of the input gate. -/
theorem zx (c : Dev nD) (t : Fin cfg0.N) (d : Fin 2) (y : S512x512.Idx) (s : Fin 4096) (j : Fin 512) (h0 : s.val = t.val * 512 + (y 0).val) (h1 : j.val = (y 1).val) :
    zK (iblk m c 0 t) (iblk m c 2 t) (iblk m c 4 t) d y = zAt (m ((c : Thread nD τ).loc main_arg0)) (m ((c : Thread nD τ).loc main_arg3)) (m ((c : Thread nD τ).loc main_arg4)) d s j := by
  have e : (iblk m c 2 t : Vec Ideal S2x512x512 .f32) = DIAG (m ((c : Thread nD τ).loc main_arg3)) := by
    funext z
    blk_ext [iblk, v23 m c, idx t]
  obtain rfl : j = y 1 := Fin.ext h1
  rw [zK, e]
  refine (congrArg (· + _) (diag_sum _ d (y 1) fun k => iblk m c 0 t (ix2 (y 0) k))).trans ?_
  unfold zAt
  blk_point [iblk, V, idx t]

/-- The row of the block is the array's. -/
theorem row_at (c : Dev nD) (t : Fin cfg0.N) (y : S512x512.Idx) (s : Fin 4096) (j : Fin 512) (h0 : s.val = t.val * 512 + (y 0).val) (h1 : j.val = (y 1).val) :
    iblk m c 0 t y = m ((c : Thread nD τ).loc main_arg0) (ix2 s j) := by
  blk_point [iblk, V, idx t]

/-- The parameter's block is the whole of it. -/
theorem lam_at (c : Dev nD) (t : Fin cfg0.N) (d : Fin 2) (y : S512x512.Idx) (j : Fin 512) (h1 : j.val = (y 1).val) :
    (iblk m c 5 t : Vec Ideal S2x512 .f32) (ix2 d (y 1)) = m ((c : Thread nD τ).loc main_arg5) (ix2 d j) := by
  obtain rfl : j = y 1 := Fin.ext h1
  blk_point [iblk, V, idx t]

/-- The reference's factors and inputs, of the kernel's arguments. -/
def FACT (c : Dev nD) : FVec Ideal Cert.GatesRefIdeal.S2x4096x512 .f32 :=
  A (m ((c : Thread nD τ).loc main_arg0)) (m ((c : Thread nD τ).loc main_arg1)) (m ((c : Thread nD τ).loc main_arg2)) (m ((c : Thread nD τ).loc main_arg5))

/-- The reference's inputs, of the kernel's arguments. -/
def INP (c : Dev nD) : FVec Ideal Cert.GatesRefIdeal.S2x4096x512 .f32 :=
  U (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- One factor at a block's place is the reference's. -/
theorem factor (c : Dev nD) (hl : ∀ i, IsReal (m ((c : Thread nD τ).loc main_arg5) i)) (t : Fin cfg0.N) (d : Fin 2) (y : S512x512.Idx) (s : Fin 4096) (j : Fin 512)
    (h0 : s.val = t.val * 512 + (y 0).val) (h1 : j.val = (y 1).val) :
    aOf (zK (iblk m c 0 t) (iblk m c 1 t) (iblk m c 3 t) d y) ((iblk m c 5 t : Vec Ideal S2x512 .f32) (ix2 d (y 1))) = FACT m c (ix3 d s j) := by
  rw [za m c t d y s j h0 h1, lam_at m c t d y j h1]
  exact (a_at _ _ _ _ d s j (hl _)).symm

/-- One input at a block's place is the reference's. -/
theorem input (c : Dev nD) (hl : ∀ i, IsReal (m ((c : Thread nD τ).loc main_arg5) i)) (t : Fin cfg0.N) (d : Fin 2) (y : S512x512.Idx) (s : Fin 4096) (j : Fin 512)
    (h0 : s.val = t.val * 512 + (y 0).val) (h1 : j.val = (y 1).val) :
    uOf (zK (iblk m c 0 t) (iblk m c 1 t) (iblk m c 3 t) d y) (zK (iblk m c 0 t) (iblk m c 2 t) (iblk m c 4 t) d y) ((iblk m c 0 t : Vec Ideal S512x512 .f32) y) ((iblk m c 5 t : Vec Ideal S2x512 .f32) (ix2 d (y 1))) = INP m c (ix3 d s j) := by
  rw [za m c t d y s j h0 h1, zx m c t d y s j h0 h1, row_at m c t y s j h0 h1, lam_at m c t d y j h1]
  exact (u_at _ _ _ _ _ _ d s j (hl _)).symm

/-- The forward factors after the run. -/
theorem final_a_f (c : Dev nD) (hl : ∀ i, IsReal (m ((c : Thread nD τ).loc main_arg5) i)) : (dats m 0 c).arrAt 6 (cfgs 0).N = SIDE0 (FACT m c) := by
  refine (dats m 0 c).arrAt_eq_of_covers 6 _ (by decide +kernel) fun t _ y => ?_
  blk_simp
  rw [after0_6]; unfold_out out0_6; frame_out
  refine (a_forward _ _ _ _ y).trans ((factor m c hl t 0 y _ _ ?_ ?_).trans (side0_at _ _).symm) <;> (blk_simp [idx t] <;> try omega)

/-- The forward inputs after the run. -/
theorem final_u_f (c : Dev nD) (hl : ∀ i, IsReal (m ((c : Thread nD τ).loc main_arg5) i)) : (dats m 0 c).arrAt 7 (cfgs 0).N = SIDE0 (INP m c) := by
  refine (dats m 0 c).arrAt_eq_of_covers 7 _ (by decide +kernel) fun t _ y => ?_
  blk_simp
  rw [after0_7]; unfold_out out0_7; frame_out
  refine (u_forward _ _ _ _ _ _ y).trans ((input m c hl t 0 y _ _ ?_ ?_).trans (side0_at _ _).symm) <;> (blk_simp [idx t] <;> try omega)

/-- The backward factors after the run. -/
theorem final_a_b (c : Dev nD) (hl : ∀ i, IsReal (m ((c : Thread nD τ).loc main_arg5) i)) : (dats m 0 c).arrAt 8 (cfgs 0).N = SIDE1 (FACT m c) := by
  refine (dats m 0 c).arrAt_eq_of_covers 8 _ (by decide +kernel) fun t _ y => ?_
  blk_simp
  rw [after0_8]; unfold_out out0_8; frame_out
  refine (a_backward _ _ _ _ y).trans ((factor m c hl t 1 y _ _ ?_ ?_).trans (side1_at _ _).symm) <;> (blk_simp [idx t] <;> try omega)

/-- The backward inputs after the run. -/
theorem final_u_b (c : Dev nD) (hl : ∀ i, IsReal (m ((c : Thread nD τ).loc main_arg5) i)) : (dats m 0 c).arrAt 9 (cfgs 0).N = SIDE1 (INP m c) := by
  refine (dats m 0 c).arrAt_eq_of_covers 9 _ (by decide +kernel) fun t _ y => ?_
  blk_simp
  rw [after0_9]; unfold_out out0_9; frame_out
  refine (u_backward _ _ _ _ _ _ y).trans ((input m c hl t 1 y _ _ ?_ ?_).trans (side1_at _ _).symm) <;> (blk_simp [idx t] <;> try omega)

/-- The parameter is real when the precondition holds. -/
theorem lam_real (hpre : Cert.Pre_GatesIdeal_finite_decay (hPre_finite_decay := Cert.Pre_finite_decay.facts) m) (c : Dev nD) (i : S2x512.Idx) :
    IsReal (m ((c : Thread nD τ).loc main_arg5) i) := by
  have h := congrFun (hpre c) i
  exact isReal_of_below _ h

/-- The kernel's run: the four results are the reference's functions of the arguments, and the arguments are as they were. -/
theorem run (g : Dev nD → PrngReg) (hl : ∀ (c : Dev nD) i, IsReal (m ((c : Thread nD τ).loc main_arg5) i)) :
    θ_run (defs (F := Ideal)) (onTc (τ := τ) (main (F := Ideal))) ⟨m, fun _ => 0, g⟩ fun r => ∀ c : Dev nD,
      r.2.mem ((c.tc : Thread nD τ).loc main_v24_0) = SIDE0 (A (m ((c.tc : Thread nD τ).loc main_arg0)) (m ((c.tc : Thread nD τ).loc main_arg1)) (m ((c.tc : Thread nD τ).loc main_arg2)) (m ((c.tc : Thread nD τ).loc main_arg5)))
      ∧ r.2.mem ((c.tc : Thread nD τ).loc main_v24_1) = SIDE0 (U (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
      ∧ r.2.mem ((c.tc : Thread nD τ).loc main_v24_2) = SIDE1 (A (m ((c.tc : Thread nD τ).loc main_arg0)) (m ((c.tc : Thread nD τ).loc main_arg1)) (m ((c.tc : Thread nD τ).loc main_arg2)) (m ((c.tc : Thread nD τ).loc main_arg5)))
      ∧ r.2.mem ((c.tc : Thread nD τ).loc main_v24_3) = SIDE1 (U (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2))
      ∧ r.2.mem ((c.tc : Thread nD τ).loc main_arg3) = (m ((c.tc : Thread nD τ).loc main_arg3))
      ∧ r.2.mem ((c.tc : Thread nD τ).loc main_arg4) = (m ((c.tc : Thread nD τ).loc main_arg4))
      ∧ r.2.mem ((c.tc : Thread nD τ).loc main_arg5) = (m ((c.tc : Thread nD τ).loc main_arg5)) := by
  refine (θ_run _ _ _).mono (fun r h c => ?_) (Cert.GatesIdeal.Gen.run_main m g)
  exact ⟨((h c).1 6).trans (final_a_f m c (hl c)), ((h c).1 7).trans (final_u_f m c (hl c)), ((h c).1 8).trans (final_a_b m c (hl c)), ((h c).1 9).trans (final_u_b m c (hl c)),
    ((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).1 3).trans (((dats m 0 c).arrAt_in 3 rfl _).trans ((A_eq m c 3).trans (V_main_arg2 m c))),
    ((h c).2 main_arg3 (Pipeline.mem_restRefs_of main_arg3 (by decide) (by decide))).trans (V_main_arg3 m c),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c)))⟩

end Cert.GatesIdeal.Val

namespace Cert.Proof

open Cert.GatesIdeal.Val Cert.GatesRefIdeal.Val

/-- With a finite decay parameter the kernel's factors and inputs are the reference's, in both directions. -/
theorem gates_algebraic : Cert.algebraic_GatesIdeal_GatesRefIdeal_pre_finite_decay (hGatesIdeal := Cert.GatesIdeal.Gen.facts) (hGatesRefIdeal := Cert.GatesRefIdeal.Gen.facts)
    (hPre_finite_decay := Cert.Pre_finite_decay.facts) := by
  intro m g m' g' hpre hagree
  refine ⟨_, _, _, _, Cert.GatesIdeal.Val.run m g (fun c i => lam_real m hpre c i), ?_⟩
  refine (θ_run _ _ _).mono (fun r h c => ?_) (Cert.GatesRefIdeal.Val.run m' g')
  obtain ⟨e0, e1, e2, e3, e4, e5⟩ := hagree c
  have h' := h c
  rw [e0, e1, e2, e3, e4, e5] at h'
  rw [e0, e1, e2, e3, e4, e5]
  exact h'

/-- The reference's frame. -/
theorem gates_ref_frame : Cert.quiescent_GatesRefIdeal (hGatesRefIdeal := Cert.GatesRefIdeal.Gen.facts) := by
  intro m g _
  exact (θ_run _ _ _).mono (fun r h => ⟨fun c => (h c).2.2.2.2, sem_eq_zero_of_no_sems (by decide) r.2⟩) (Cert.GatesRefIdeal.Value.run m g)

end Cert.Proof

end
-- ==== Proof.GateBwd.lean ====
/- The scalar facts of the gates' gradients: the values at one place, the split derivative of the softplus, and when everything is a real number. -/
module

public import proofs.«01_k».proof.Proof.Gate

@[expose] public section

noncomputable section

namespace Cert.Gate

open Idealize.ShloMosaic

/-- The square root that scales the gated input. -/
def sqOf (z l : EReal) : EReal := Ideal.sqrt (guarded (Ideal.ofBits .f32 0x40000000#32 * laOf z l))

/-- The gradient of the decay's logarithm. -/
def dlaOf (z zi x l da du : EReal) : EReal :=
  Ideal.ofBits .f32 0x40000000#32 * ((0 - Ideal.exp (Ideal.ofBits .f32 0x40000000#32 * laOf z l)) * (du * (Ideal.logistic zi * x) * Ideal.div (Ideal.ofBits .f32 0x3F000000#32) (sqOf z l)))
    + da * Ideal.exp (laOf z l)

/-- The gradient that the row receives through the input itself. -/
def dinOf (z zi l du : EReal) : EReal := Ideal.logistic zi * (sqOf z l * du)

/-- The gradient of the input gate before its logistic. -/
def dziOf (z zi x l du : EReal) : EReal := sqOf z l * du * x * (Ideal.logistic zi * (1 - Ideal.logistic zi))

/-- The gradient of the recurrence gate before its logistic. -/
def dzaOf (z zi x l da du : EReal) : EReal :=
  Ideal.ofBits .f32 0xC1000000#32 * (dlaOf z zi x l da du * softK l) * (Ideal.logistic z * (1 - Ideal.logistic z))

/-- One place's part of the gradient of the softplus. -/
def dspOf (z zi x l da du : EReal) : EReal := Ideal.ofBits .f32 0xC1000000#32 * Ideal.logistic z * dlaOf z zi x l da du

/-- On a real parameter the square root is of one minus the exponential. -/
theorem sqOf_of_isReal (z : EReal) {l : EReal} (h : IsReal l) :
    sqOf z l = Ideal.sqrt (-(Ideal.expm1 (Ideal.ofBits .f32 0x40000000#32 * laOf z l))) :=
  congrArg Ideal.sqrt (guarded_of_isReal (IsReal.mul ⟨2, word_two⟩ (isReal_laOf z h)))

/-- The logistic of a real is a positive real. -/
theorem logistic_pos {z : EReal} : IsReal z → ∃ r : ℝ, 0 < r ∧ Ideal.logistic z = (r : EReal)
  | ⟨r, hr⟩ => by
    have hp : (0 : ℝ) < 1 + Real.exp (-r) := by positivity
    refine ⟨1 / (1 + Real.exp (-r)), by positivity, ?_⟩
    rw [hr]
    show Ideal.div 1 (1 + Ideal.exp (-(r : EReal))) = _
    rw [show Ideal.exp (-(r : EReal)) = ((Real.exp (-r) : ℝ) : EReal) from rfl, show (1 : EReal) = ((1 : ℝ) : EReal) from rfl, ← EReal.coe_add, Ideal.div,
      if_neg (by exact_mod_cast hp.ne'), div_eq_mul_inv, EReal.coe_mul, EReal.coe_inv]

/-- The softplus of a real is a positive real. -/
theorem soft_pos (l : ℝ) : 0 < max (-l) 0 + Real.log (1 + Real.exp (-|l|)) :=
  add_pos_of_nonneg_of_pos (le_max_right _ _) (Real.log_pos (by linarith [Real.exp_pos (-|l|)]))

/-- The exponential of a negative number is below one. -/
theorem exp_below {x : ℝ} (h : x < 0) : Real.exp x < 1 := (Real.exp_lt_exp.mpr h).trans_eq Real.exp_zero

/-- Of reals the square root is a positive real. -/
theorem sqOf_pos {z l : EReal} (hz : IsReal z) : IsReal l → ∃ r : ℝ, 0 < r ∧ sqOf z l = (r : EReal)
  | ⟨l', hl⟩ => by
    obtain ⟨r, hr, er⟩ := logistic_pos hz
    have hs := soft_pos l'
    refine ⟨Real.sqrt (1 - Real.exp (2 * (-8 * r * (max (-l') 0 + Real.log (1 + Real.exp (-|l'|)))))), ?_, ?_⟩
    · refine Real.sqrt_pos.mpr (sub_pos.mpr (exp_below ?_))
      nlinarith [mul_pos hr hs]
    · have hn : ¬ (1 - Real.exp (2 * (-8 * r * (max (-l') 0 + Real.log (1 + Real.exp (-|l'|)))))) < 0 := by
        have : Real.exp (2 * (-8 * r * (max (-l') 0 + Real.log (1 + Real.exp (-|l'|))))) < 1 := exp_below (by nlinarith [mul_pos hr hs])
        linarith
      rw [sqOf_of_isReal z ⟨l', hl⟩, laOf, er, hl, softK_coe, word_two, word_neg_eight, ← EReal.coe_mul, ← EReal.coe_mul, ← EReal.coe_mul, Ideal.expm1,
        show Ideal.exp ((2 * (-8 * r * (max (-l') 0 + Real.log (1 + Real.exp (-|l'|)))) : ℝ) : EReal) = ((Real.exp (2 * (-8 * r * (max (-l') 0 + Real.log (1 + Real.exp (-|l'|))))) : ℝ) : EReal) from rfl,
        show (1 : EReal) = ((1 : ℝ) : EReal) from rfl, ← EReal.coe_sub, ← EReal.coe_neg, neg_sub]
      exact if_neg hn

/-- The gradient of the decay's logarithm is a real when everything is. -/
theorem isReal_dlaOf {z zi x l da du : EReal} (hz : IsReal z) (hx : IsReal x) (hl : IsReal l) (ha : IsReal da) (hu : IsReal du) :
    IsReal (dlaOf z zi x l da du) := by
  obtain ⟨q, hq, eq⟩ := sqOf_pos hz hl
  have hd : IsReal (Ideal.div (Ideal.ofBits .f32 0x3F000000#32) (sqOf z l)) := by
    refine ⟨1 / 2 * q⁻¹, ?_⟩
    rw [eq, word_half, Ideal.div, if_neg (by exact_mod_cast hq.ne'), EReal.coe_mul, EReal.coe_inv]
  have he : IsReal (0 - Ideal.exp (Ideal.ofBits .f32 0x40000000#32 * laOf z l)) := by
    rw [zero_sub]
    exact (IsReal.mul ⟨2, word_two⟩ (isReal_laOf z hl)).exp.neg
  exact IsReal.add (IsReal.mul ⟨2, word_two⟩ (he.mul ((hu.mul ((isReal_logistic zi).mul hx)).mul hd))) (ha.mul (isReal_laOf z hl).exp)

/-- The weight of the softplus's derivative at the negated parameter. -/
def wOf (l : EReal) : EReal := Ideal.exp (-l - softK l)

/-- The kernel's gradient of the parameter from the softplus's: the derivative split at zero. -/
def dlK (S l : EReal) : EReal :=
  0 - ((if 0 ≤ 0 - l then 0 - Ideal.div S (Ideal.exp (0 - max (0 - l) (-(0 - l))) + 1) * Ideal.exp (0 - max (0 - l) (-(0 - l))) else 0)
    + (0 - (if 0 ≤ 0 - l then 0 else 0 - Ideal.div S (Ideal.exp (0 - max (0 - l) (-(0 - l))) + 1) * Ideal.exp (0 - max (0 - l) (-(0 - l)))))
    + S * (if 0 < 0 - l then 1 else if 0 - l = 0 then Ideal.ofBits .f32 0x3F000000#32 else 0))

/-- The weight of a real is a real. -/
theorem wOf_coe (l : ℝ) : wOf l = ((Real.exp (-l - (max (-l) 0 + Real.log (1 + Real.exp (-|l|)))) : ℝ) : EReal) := by
  rw [wOf, softK_coe, ← EReal.coe_neg, ← EReal.coe_sub]; rfl

/-- The split derivative is the weight, away from zero. -/
theorem dlK_real {S l : EReal} (hS : IsReal S) (hl : IsReal l) (hn : l ≠ 0) : dlK S l = -(S * wOf l) := by
  obtain ⟨s, rfl⟩ := hS
  obtain ⟨r, rfl⟩ := hl
  have h0 : r ≠ 0 := fun h => hn (by rw [h]; rfl)
  have hv : (0 : EReal) - (r : EReal) = ((-r : ℝ) : EReal) := by rw [zero_sub, EReal.coe_neg]
  have he : Ideal.exp (0 - max (((-r : ℝ)) : EReal) (-((-r : ℝ) : EReal))) = ((Real.exp (-|r|) : ℝ) : EReal) := by
    rw [← EReal.coe_neg, max_coe, neg_neg, max_comm, zero_sub, ← EReal.coe_neg]; rfl
  have hp : (0 : ℝ) < Real.exp (-|r|) + 1 := by positivity
  have hq : Ideal.div (s : EReal) (((Real.exp (-|r|) : ℝ) : EReal) + 1) * ((Real.exp (-|r|) : ℝ) : EReal) = ((s * (Real.exp (-|r|) + 1)⁻¹ * Real.exp (-|r|) : ℝ) : EReal) := by
    rw [show (1 : EReal) = ((1 : ℝ) : EReal) from rfl, ← EReal.coe_add, Ideal.div, if_neg (by exact_mod_cast hp.ne'), ← EReal.coe_inv, ← EReal.coe_mul, ← EReal.coe_mul]
  have hw : Real.exp (-r - (max (-r) 0 + Real.log (1 + Real.exp (-|r|)))) = Real.exp (-r - max (-r) 0) * (1 + Real.exp (-|r|))⁻¹ := by
    rw [← sub_sub, Real.exp_sub _ (Real.log _), Real.exp_log (by positivity), div_eq_mul_inv]
  rw [dlK, hv, he, hq, wOf_coe, hw]
  rcases lt_or_gt_of_ne h0 with h | h
  · have c1 : (0 : EReal) < ((-r : ℝ) : EReal) := by exact_mod_cast neg_pos.mpr h
    rw [if_pos c1.le, if_pos c1.le, if_pos c1, max_eq_left (neg_pos.mpr h).le, sub_self (-r), Real.exp_zero, show (0 : EReal) = ((0 : ℝ) : EReal) from rfl, show (1 : EReal) = ((1 : ℝ) : EReal) from rfl]
    simp only [← EReal.coe_sub, ← EReal.coe_add, ← EReal.coe_mul, ← EReal.coe_neg]
    congr 1
    field_simp
    ring
  · have c1 : ¬ (0 : EReal) ≤ ((-r : ℝ) : EReal) := by
      rw [not_le]; exact_mod_cast neg_neg_of_pos h
    rw [if_neg c1, if_neg c1, if_neg (fun k => c1 k.le), if_neg (fun k => c1 k.ge), max_eq_right (neg_neg_of_pos h).le, abs_of_pos h, show (0 : EReal) = ((0 : ℝ) : EReal) from rfl]
    simp only [← EReal.coe_sub, ← EReal.coe_add, ← EReal.coe_mul, ← EReal.coe_neg]
    congr 1
    rw [sub_zero]
    field_simp
    ring

/-- A real factor distributes over a sum of reals. -/
theorem neg_sum_mul {ι : Type} (s : Finset ι) (f : ι → EReal) (hf : ∀ i, IsReal (f i)) {w : EReal} : IsReal w → ∑ i ∈ s, -(f i * w) = -((∑ i ∈ s, f i) * w)
  | ⟨r, hr⟩ => by
    classical
    induction s using Finset.induction_on with
    | empty => rw [Finset.sum_empty, Finset.sum_empty, zero_mul, neg_zero]
    | insert a t ha ih =>
      obtain ⟨p, hp⟩ := hf a
      obtain ⟨q, hq⟩ := IsReal.sum t f hf
      rw [Finset.sum_insert ha, Finset.sum_insert ha, ih, hp, hq, hr]
      simp only [← EReal.coe_add, ← EReal.coe_mul, ← EReal.coe_neg]
      congr 1
      ring

/-- The parts' split derivatives add up to the weighted sum. -/
theorem sum_dlK {ι : Type} [Fintype ι] (f : ι → EReal) (hf : ∀ i, IsReal (f i)) {l : EReal} (hl : IsReal l) (hn : l ≠ 0) :
    ∑ i, dlK (f i) l = -((∑ i, f i) * wOf l) := by
  obtain ⟨r, hr⟩ := hl
  rw [Finset.sum_congr rfl fun i _ => dlK_real (hf i) ⟨r, hr⟩ hn]
  exact neg_sum_mul _ f hf ⟨_, (congrArg wOf hr).trans (wOf_coe r)⟩

end Cert.Gate

end
-- ==== Proof.Dgates.lean ====
/- The reference's gradients of the gates, each result at a place in scalars. -/
module

public import proofs.«01_k».proof.Proof.Gen.DgatesRefIdeal.Run
public import Idealize.ShloMosaic.Lib.Pipeline.ValueKit
public import Idealize.ShloMosaic.Lib.Claim
public import proofs.«01_k».proof.Proof.GateBwd
public import proofs.«01_k».proof.Proof.Gates
public import Idealize.ShloMosaic.Lib.Quiescent
public import proofs.«01_k».proof.Defs

@[expose] public section

set_option maxRecDepth 16384

noncomputable section

open Idealize.ShloMosaic Idealize.ShloMosaic.TcCoe Idealize.SL.Sem
open Idealize.ShloMosaic.Pipeline (Dat)

namespace Cert.DgatesRefIdeal.Val

open Cert.DgatesRefIdeal Cert.DgatesRefIdeal.Gen Cert.Gate Cert.GatesRefIdeal.Val Cert.DgatesRefIdeal.Value

/-- The ten arguments. -/
structure Args where
  x : FVec Ideal S4096x512 .f32
  daf : FVec Ideal S4096x512 .f32
  duf : FVec Ideal S4096x512 .f32
  dab : FVec Ideal S4096x512 .f32
  dub : FVec Ideal S4096x512 .f32
  wa : FVec Ideal S2x8x64x64 .f32
  ba : FVec Ideal S2x512 .f32
  wx : FVec Ideal S2x8x64x64 .f32
  bx : FVec Ideal S2x512 .f32
  l : FVec Ideal S2x512 .f32

namespace Args

variable (a : Args)

/-- The recurrence gate before its logistic. -/
def za (d : Fin 2) (s : Fin 4096) (j : Fin 512) : EReal := zAt a.x a.wa a.ba d s j

/-- The input gate before its logistic. -/
def zi (d : Fin 2) (s : Fin 4096) (j : Fin 512) : EReal := zAt a.x a.wx a.bx d s j

/-- The factors' gradient of a direction. -/
def da (d : Fin 2) : FVec Ideal S4096x512 .f32 := if d = 0 then a.daf else a.dab

/-- The inputs' gradient of a direction. -/
def du (d : Fin 2) : FVec Ideal S4096x512 .f32 := if d = 0 then a.duf else a.dub

/-- The gradient of the recurrence gate before its logistic. -/
def dza (d : Fin 2) (s : Fin 4096) (j : Fin 512) : EReal :=
  dzaOf (a.za d s j) (a.zi d s j) (a.x (ix2 s j)) (a.l (ix2 d j)) (a.da d (ix2 s j)) (a.du d (ix2 s j))

/-- The gradient of the input gate before its logistic. -/
def dzi (d : Fin 2) (s : Fin 4096) (j : Fin 512) : EReal :=
  dziOf (a.za d s j) (a.zi d s j) (a.x (ix2 s j)) (a.l (ix2 d j)) (a.du d (ix2 s j))

/-- The row's gradient through the input itself. -/
def din (d : Fin 2) (s : Fin 4096) (j : Fin 512) : EReal :=
  dinOf (a.za d s j) (a.zi d s j) (a.l (ix2 d j)) (a.du d (ix2 s j))

/-- The parts of the softplus's gradient. -/
def dsp (d : Fin 2) (s : Fin 4096) (j : Fin 512) : EReal :=
  dspOf (a.za d s j) (a.zi d s j) (a.x (ix2 s j)) (a.l (ix2 d j)) (a.da d (ix2 s j)) (a.du d (ix2 s j))

/-- A row of gate gradients against a row of its block of the weights. -/
def back (g : Fin 2 → Fin 4096 → Fin 512 → EReal) (w : FVec Ideal S2x8x64x64 .f32) (d : Fin 2) (s : Fin 4096) (j : Fin 512) : EReal :=
  ∑ k : Fin 64, g d s ⟨j.val / 64 * 64 + k.val, by omega⟩ * w (ix4 d ⟨j.val / 64, by omega⟩ ⟨j.val % 64, by omega⟩ k)

/-- The rows' gradient. -/
def DXC : FVec Ideal S4096x512 .f32 := fun i =>
  (a.din 0 (i 0) (i 1) + a.din 1 (i 0) (i 1)) + ((back a.dzi a.wx 0 (i 0) (i 1) + back a.dzi a.wx 1 (i 0) (i 1)) + (back a.dza a.wa 0 (i 0) (i 1) + back a.dza a.wa 1 (i 0) (i 1)))

/-- A weight's gradient. -/
def DW (g : Fin 2 → Fin 4096 → Fin 512 → EReal) : FVec Ideal S2x8x64x64 .f32 := fun i =>
  ∑ s : Fin 4096, a.x (ix2 s ⟨(i 1).val * 64 + (i 2).val, by have h1 : (i 1).val < 8 := (i 1).isLt; have h2 : (i 2).val < 64 := (i 2).isLt; omega⟩)
    * g (i 0) s ⟨(i 1).val * 64 + (i 3).val, by have h1 : (i 1).val < 8 := (i 1).isLt; have h2 : (i 3).val < 64 := (i 3).isLt; omega⟩

/-- A bias's gradient. -/
def DB (g : Fin 2 → Fin 4096 → Fin 512 → EReal) : FVec Ideal S2x512 .f32 := fun i => ∑ s : Fin 4096, g (i 0) s (i 1)

/-- The decay parameter's gradient. -/
def DLAM : FVec Ideal S2x512 .f32 := fun i => -((∑ s : Fin 4096, a.dsp (i 0) s (i 1)) * wOf (a.l i))

end Args

variable (V : Valuation τ sig (Elt Ideal))

/-- The arguments in a valuation. -/
def argsOf : Args := ⟨V (Proc.devRef .tc main_arg0), V (Proc.devRef .tc main_arg1), V (Proc.devRef .tc main_arg2), V (Proc.devRef .tc main_arg3), V (Proc.devRef .tc main_arg4),
  V (Proc.devRef .tc main_arg5), V (Proc.devRef .tc main_arg6), V (Proc.devRef .tc main_arg7), V (Proc.devRef .tc main_arg8), V (Proc.devRef .tc main_arg9)⟩

/-- The recurrence gate. -/
theorem r_at (d : Fin 2) (s : Fin 4096) (j : Fin 512) : (res_main_v12 V : FVec Ideal S2x4096x512 .f32) (ix3 d s j) = Ideal.logistic ((argsOf V).za d s j) :=
  (sig_at (PRE (argsOf V).x (argsOf V).wa (argsOf V).ba) _).trans (congrArg Ideal.logistic (pre_at _ _ _ (ix3 d s j)))

/-- The input gate. -/
theorem i_at (d : Fin 2) (s : Fin 4096) (j : Fin 512) : (res_main_v27 V : FVec Ideal S2x4096x512 .f32) (ix3 d s j) = Ideal.logistic ((argsOf V).zi d s j) :=
  (sig_at (PRE (argsOf V).x (argsOf V).wx (argsOf V).bx) _).trans (congrArg Ideal.logistic (pre_at _ _ _ (ix3 d s j)))

/-- The softplus. -/
theorem sp_at (d : Fin 2) (j : Fin 512) (h : IsReal ((argsOf V).l (ix2 d j))) : (res_main_v34_0 V : FVec Ideal S2x512 .f32) (ix2 d j) = softK ((argsOf V).l (ix2 d j)) :=
  soft_at (argsOf V).l _ h

/-- The decay's logarithm. -/
theorem la_at' (d : Fin 2) (s : Fin 4096) (j : Fin 512) (h : IsReal ((argsOf V).l (ix2 d j))) :
    (res_main_v37 V : FVec Ideal S2x4096x512 .f32) (ix3 d s j) = laOf ((argsOf V).za d s j) ((argsOf V).l (ix2 d j)) :=
  (la_at (PRE (argsOf V).x (argsOf V).wa (argsOf V).ba) (argsOf V).l (ix3 d s j) h).trans (congrArg (laOf · _) (pre_at _ _ _ (ix3 d s j)))

/-- The square root. -/
theorem sq_at (d : Fin 2) (s : Fin 4096) (j : Fin 512) (h : IsReal ((argsOf V).l (ix2 d j))) :
    (res_main_v44 V : FVec Ideal S2x4096x512 .f32) (ix3 d s j) = sqOf ((argsOf V).za d s j) ((argsOf V).l (ix2 d j)) := by
  rw [sqOf_of_isReal _ h, ← la_at' V d s j h]
  pointwise [res_main_v44, res_main_v40]
  rfl

/-- The stacked gradients of the inputs. -/
theorem du_at (d : Fin 2) (s : Fin 4096) (j : Fin 512) : (res_main_v65 V : FVec Ideal S2x4096x512 .f32) (ix3 d s j) = (argsOf V).du d (ix2 s j) := by
  match d with
  | 0 => pointwise [res_main_v65]; rfl
  | 1 => pointwise [res_main_v65]; rfl

/-- The stacked gradients of the factors. -/
def DA : FVec Ideal S2x4096x512 .f32 :=
  addf (pad S2x4096x512 ![1, 0, 0] ![0, 0, 0] ![0, 0, 0] (broadcastInDim S1x4096x512 ![1, 2] bcast_S4096x512_S1x4096x512_1_2 (V (Proc.devRef .tc main_arg3))) (constant S_ .f32 0x00000000#32) pads_S1x4096x512_S2x4096x512_100_000_000 h_S_)
    (pad S2x4096x512 ![0, 0, 0] ![1, 0, 0] ![0, 0, 0] (broadcastInDim S1x4096x512 ![1, 2] bcast_S4096x512_S1x4096x512_1_2 (V (Proc.devRef .tc main_arg1))) (constant S_ .f32 0x00000000#32) pads_S1x4096x512_S2x4096x512_010_000_000 h_S_)

/-- The stacked factors' gradient, at a place. -/
theorem da_at (d : Fin 2) (s : Fin 4096) (j : Fin 512) : DA V (ix3 d s j) = (argsOf V).da d (ix2 s j) := by
  match d with
  | 0 => pointwise [DA]; rfl
  | 1 => pointwise [DA]; rfl

/-- The gradient of the decay's logarithm. -/
theorem dla_at (d : Fin 2) (s : Fin 4096) (j : Fin 512) (h : IsReal ((argsOf V).l (ix2 d j))) : (res_main_v83 V : FVec Ideal S2x4096x512 .f32) (ix3 d s j)
    = dlaOf ((argsOf V).za d s j) ((argsOf V).zi d s j) ((argsOf V).x (ix2 s j)) ((argsOf V).l (ix2 d j)) ((argsOf V).da d (ix2 s j)) ((argsOf V).du d (ix2 s j)) := by
  rw [dlaOf, ← la_at' V d s j h, ← sq_at V d s j h, ← i_at V d s j, ← du_at V d s j, ← da_at V d s j, zero_sub, EReal.neg_mul, mul_comm (Ideal.exp _) (_ * _), ← EReal.neg_mul]
  pointwise [res_main_v83, res_main_v49, res_main_v47, res_main_v38, res_main_v40, DA]
  rfl

/-- The gradient of the input gate before its logistic. -/
theorem dzi_at (d : Fin 2) (s : Fin 4096) (j : Fin 512) (h : IsReal ((argsOf V).l (ix2 d j))) : (res_main_v94 V : FVec Ideal S2x4096x512 .f32) (ix3 d s j) = (argsOf V).dzi d s j := by
  rw [Args.dzi, dziOf, ← sq_at V d s j h, ← i_at V d s j, ← du_at V d s j]
  pointwise [res_main_v94, res_main_v69, res_main_v47]
  rfl

/-- The gradient of the recurrence gate before its logistic. -/
theorem dza_at (d : Fin 2) (s : Fin 4096) (j : Fin 512) (h : IsReal ((argsOf V).l (ix2 d j))) : (res_main_v104 V : FVec Ideal S2x4096x512 .f32) (ix3 d s j) = (argsOf V).dza d s j := by
  rw [Args.dza, dzaOf, ← dla_at V d s j h, ← sp_at V d j h, ← r_at V d s j]
  pointwise [res_main_v104, res_main_v35]

/-- The parts of the softplus's gradient. -/
theorem dsp_at (d : Fin 2) (s : Fin 4096) (j : Fin 512) (h : IsReal ((argsOf V).l (ix2 d j))) : (mulf (res_main_v32 V) (res_main_v83 V) : FVec Ideal S2x4096x512 .f32) (ix3 d s j) = (argsOf V).dsp d s j := by
  rw [Args.dsp, dspOf, ← dla_at V d s j h, ← r_at V d s j]
  pointwise [res_main_v32]

/-- The row's gradient through the input itself. -/
theorem din_at (d : Fin 2) (s : Fin 4096) (j : Fin 512) (h : IsReal ((argsOf V).l (ix2 d j))) : (mulf (res_main_v27 V) (res_main_v69 V) : FVec Ideal S2x4096x512 .f32) (ix3 d s j) = (argsOf V).din d s j := by
  rw [Args.din, dinOf, ← sq_at V d s j h, ← i_at V d s j, ← du_at V d s j]
  pointwise [res_main_v69]

/-- A sum over the rows. -/
def SUM (G : FVec Ideal S2x4096x512 .f32) : FVec Ideal S2x512 .f32 :=
  Host.reduceAdd (shapeCast _ (Host.reduceAdd G (constant S_ .f32 0x00000000#32) reducesTo_S2x4096x512_S2x512_d1 h_S_) shapeCasts_S2x512_S2x1x512) (constant S_ .f32 0x00000000#32) reducesTo_S2x1x512_S2x512_d1 h_S_

/-- A sum over the rows, at a place. -/
theorem sum_at (G : FVec Ideal S2x4096x512 .f32) (d : Fin 2) (j : Fin 512) : SUM G (ix2 d j) = ∑ s : Fin 4096, G (ix3 d s j) := by
  pointwise [SUM]
  exact Fin.sum_univ_one _

/-- A weight's gradient. -/
def OUTER (G : FVec Ideal S2x4096x512 .f32) (X : FVec Ideal S4096x512 .f32) : FVec Ideal S2x8x64x64 .f32 :=
  transpose S2x8x64x64 [1, 0, 3, 2] (Host.dotGeneral dot_S8x2x64x4096_S4096x8x64_S8x2x64x64_3_0_12_2_0_1 none (transpose S8x2x64x4096 [2, 0, 3, 1] (shapeCast _ G shapeCasts_S2x4096x512_S2x4096x8x64) transposes_S2x4096x8x64_S8x2x64x4096_2_0_3_1) (shapeCast _ X shapeCasts_S4096x512_S4096x8x64)) transposes_S8x2x64x64_S2x8x64x64_1_0_3_2

/-- A weight's gradient, at a place. -/
theorem outer_at (G : FVec Ideal S2x4096x512 .f32) (X : FVec Ideal S4096x512 .f32) (d : Fin 2) (g : Fin 8) (k j : Fin 64) :
    OUTER G X (ix4 d g k j) = ∑ s : Fin 4096, X (ix2 s ⟨g.val * 64 + k.val, by omega⟩) * G (ix3 d s ⟨g.val * 64 + j.val, by omega⟩) := by
  refine Eq.trans ?_ (Finset.sum_congr rfl fun s _ => mul_comm _ _)
  pointwise [OUTER]

/-- The gate gradients against the weights, both directions. -/
def BACK (G : FVec Ideal S2x4096x512 .f32) (W : FVec Ideal S2x8x64x64 .f32) : FVec Ideal S4096x8x64 .f32 :=
  transpose S4096x8x64 [1, 0, 2] (Host.dotGeneral dot_S8x2x64x4096_S2x8x64x64_S8x4096x64_12_03_3_2_0_1 none (transpose S8x2x64x4096 [2, 0, 3, 1] (shapeCast _ G shapeCasts_S2x4096x512_S2x4096x8x64) transposes_S2x4096x8x64_S8x2x64x4096_2_0_3_1) W) transposes_S8x4096x64_S4096x8x64_1_0_2

/-- A row of gate gradients against the weights, at a place. -/
theorem back_at (G : FVec Ideal S2x4096x512 .f32) (W : FVec Ideal S2x8x64x64 .f32) (s : Fin 4096) (j : Fin 512) :
    BACK G W (ix3 s ⟨j.val / 64, by omega⟩ ⟨j.val % 64, by omega⟩) = Args.back (fun d s j => G (ix3 d s j)) W 0 s j + Args.back (fun d s j => G (ix3 d s j)) W 1 s j := by
  refine Eq.trans ?_ (Fin.sum_univ_two fun d : Fin 2 => Args.back (fun d s j => G (ix3 d s j)) W d s j)
  unfold Args.back
  pointwise [BACK]

/-- The rows' gradient. -/
def ROWS (M D A : FVec Ideal S2x4096x512 .f32) (Wx Wa : FVec Ideal S2x8x64x64 .f32) : FVec Ideal S4096x512 .f32 :=
  addf (Host.reduceAdd (shapeCast _ (Host.reduceAdd M (constant S_ .f32 0x00000000#32) reducesTo_S2x4096x512_S4096x512_d0 h_S_) shapeCasts_S4096x512_S1x4096x512) (constant S_ .f32 0x00000000#32) reducesTo_S1x4096x512_S4096x512_d0 h_S_)
    (shapeCast _ (addf (BACK D Wx) (BACK A Wa)) shapeCasts_S4096x8x64_S4096x512)

/-- The rows' gradient, at a place. -/
theorem rows_at (M D A : FVec Ideal S2x4096x512 .f32) (Wx Wa : FVec Ideal S2x8x64x64 .f32) (s : Fin 4096) (j : Fin 512) : ROWS M D A Wx Wa (ix2 s j)
    = (M (ix3 0 s j) + M (ix3 1 s j)) + (BACK D Wx (ix3 s ⟨j.val / 64, by omega⟩ ⟨j.val % 64, by omega⟩) + BACK A Wa (ix3 s ⟨j.val / 64, by omega⟩ ⟨j.val % 64, by omega⟩)) := by
  refine Eq.trans ?_ (congrArg (· + _) (Fin.sum_univ_two fun d : Fin 2 => M (ix3 d s j)))
  pointwise [ROWS]
  exact congrArg (· + _) (Fin.sum_univ_one _)

/-- The reference's rows' gradient. -/
theorem dxc_eq (hl : ∀ i, IsReal ((argsOf V).l i)) : ROWS (mulf (res_main_v27 V) (res_main_v69 V)) (res_main_v94 V) (res_main_v104 V) (argsOf V).wx (argsOf V).wa = (argsOf V).DXC := by
  have e : (fun d s j => (res_main_v94 V : FVec Ideal S2x4096x512 .f32) (ix3 d s j)) = (argsOf V).dzi := by funext d s j; exact dzi_at V d s j (hl _)
  have e' : (fun d s j => (res_main_v104 V : FVec Ideal S2x4096x512 .f32) (ix3 d s j)) = (argsOf V).dza := by funext d s j; exact dza_at V d s j (hl _)
  funext i
  obtain ⟨s, j, rfl⟩ : ∃ (s : Fin 4096) (j : Fin 512), i = ix2 s j := ⟨i 0, i 1, (ix2_eta i).symm⟩
  rw [rows_at, back_at, back_at, e, e', din_at V 0 s j (hl _), din_at V 1 s j (hl _)]
  rfl

/-- The reference's weights' gradients. -/
theorem dw_eq (G : FVec Ideal S2x4096x512 .f32) (g : Fin 2 → Fin 4096 → Fin 512 → EReal) (e : ∀ d s j, G (ix3 d s j) = g d s j) : OUTER G (argsOf V).x = (argsOf V).DW g := by
  funext i
  obtain ⟨d, q, k, j, rfl⟩ : ∃ (d : Fin 2) (q : Fin 8) (k j : Fin 64), i = ix4 d q k j := ⟨i 0, i 1, i 2, i 3, (ix4_eta i).symm⟩
  rw [outer_at]
  exact Finset.sum_congr rfl fun s _ => congrArg (_ * ·) (e _ _ _)

/-- The reference's biases' gradients. -/
theorem db_eq (G : FVec Ideal S2x4096x512 .f32) (g : Fin 2 → Fin 4096 → Fin 512 → EReal) (e : ∀ d s j, G (ix3 d s j) = g d s j) : SUM G = Args.DB g := by
  funext i
  obtain ⟨d, j, rfl⟩ : ∃ (d : Fin 2) (j : Fin 512), i = ix2 d j := ⟨i 0, i 1, (ix2_eta i).symm⟩
  rw [sum_at]
  exact Finset.sum_congr rfl fun s _ => e _ _ _

/-- The reference's parameter's gradient. -/
def LAM : FVec Ideal S2x512 .f32 :=
  Host.negf (mulf (SUM (mulf (res_main_v32 V) (res_main_v83 V))) (Host.exp (subf (select (cmpf .oeq (res_main_v33 V) (broadcastInDim S2x512 ![] bcast_S_S2x512 (constant S_ .f32 0x7F800000#32))) (broadcastInDim S2x512 ![] bcast_S_S2x512 (constant S_ .f32 0x00000000#32)) (res_main_v33 V))
    (select (cmpf .oeq (res_main_v34_0 V) (broadcastInDim S2x512 ![] bcast_S_S2x512 (constant S_ .f32 0x7F800000#32))) (broadcastInDim S2x512 ![] bcast_S_S2x512 (constant S_ .f32 0x00000000#32)) (res_main_v34_0 V)))))

/-- The decay parameter's gradient. -/
theorem dlam_eq (hl : ∀ i, IsReal ((argsOf V).l i)) : LAM V = (argsOf V).DLAM := by
  funext i
  obtain ⟨d, j, rfl⟩ : ∃ (d : Fin 2) (j : Fin 512), i = ix2 d j := ⟨i 0, i 1, (ix2_eta i).symm⟩
  show _ = -((∑ s : Fin 4096, (argsOf V).dsp d s j) * wOf ((argsOf V).l (ix2 d j)))
  rw [wOf, ← sp_at V d j (hl _), ← Finset.sum_congr rfl fun s _ => dsp_at V d s j (hl _), ← sum_at]
  pointwise [LAM]
  obtain ⟨p, hp⟩ := hl (ix2 d j)
  have ev : (res_main_v33 V : FVec Ideal S2x512 .f32) (ix2 d j) = -(argsOf V).l (ix2 d j) := rfl
  have e1 : ¬ ((res_main_v33 V : FVec Ideal S2x512 .f32) (ix2 d j) = Ideal.ofBits FTy.f32 2139095040#32) := by
    rw [ev, word_inf, hp, ← EReal.coe_neg]
    exact EReal.coe_ne_top _
  have e2 : ¬ ((res_main_v34_0 V : FVec Ideal S2x512 .f32) (ix2 d j) = Ideal.ofBits FTy.f32 2139095040#32) := by
    rw [word_inf, sp_at V d j (hl _), hp, softK_coe]
    exact EReal.coe_ne_top _
  rw [if_neg e1, if_neg e2, ev]

/-- The reference's arguments. -/
def argsR (m : (ℓ : Loc nD τ sig) → Buf (Elt Ideal) ℓ) (c : Dev nD) : Args :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4),
    m ((c.tc : Thread nD τ).loc main_arg5), m ((c.tc : Thread nD τ).loc main_arg6), m ((c.tc : Thread nD τ).loc main_arg7), m ((c.tc : Thread nD τ).loc main_arg8), m ((c.tc : Thread nD τ).loc main_arg9)⟩

/-- The reference's run: the six results, and the arguments as they were. -/
theorem run (m : (ℓ : Loc nD τ sig) → Buf (Elt Ideal) ℓ) (g : Dev nD → PrngReg) (hl : ∀ (c : Dev nD) i, IsReal ((argsR m c).l i)) :
    θ_run (defs (F := Ideal)) (onTc (τ := τ) (main (F := Ideal))) ⟨m, fun _ => 0, g⟩ fun r => ∀ c : Dev nD,
      r.2.mem ((c.tc : Thread nD τ).loc main_v116) = (argsR m c).DXC
      ∧ r.2.mem ((c.tc : Thread nD τ).loc main_v114) = (argsR m c).DW (argsR m c).dza
      ∧ r.2.mem ((c.tc : Thread nD τ).loc main_v107) = Args.DB (argsR m c).dza
      ∧ r.2.mem ((c.tc : Thread nD τ).loc main_v103) = (argsR m c).DW (argsR m c).dzi
      ∧ r.2.mem ((c.tc : Thread nD τ).loc main_v97) = Args.DB (argsR m c).dzi
      ∧ r.2.mem ((c.tc : Thread nD τ).loc main_v91) = (argsR m c).DLAM
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run _ _ _).mono (fun r h c => ?_) (Cert.DgatesRefIdeal.Value.run m g)
  have hV : ∀ i, IsReal ((argsOf (StableHlo.launchContents m c)).l i) := hl c
  obtain ⟨h0, h1, h2, h3, h4, h5, h6⟩ := h c
  exact ⟨h0.trans (dxc_eq (StableHlo.launchContents m c) hV), h1.trans (dw_eq (StableHlo.launchContents m c) _ _ fun d s j => dza_at _ d s j (hV _)), h2.trans (db_eq _ _ fun d s j => dza_at _ d s j (hV _)),
    h3.trans (dw_eq (StableHlo.launchContents m c) _ _ fun d s j => dzi_at _ d s j (hV _)), h4.trans (db_eq _ _ fun d s j => dzi_at _ d s j (hV _)), h5.trans (dlam_eq (StableHlo.launchContents m c) hV), h6⟩

end Cert.DgatesRefIdeal.Val

end
-- ==== Proof.DgatesBody.lean ====
/- The body of the gates' gradients: what it computes of its blocks, at a place. -/
module

public import proofs.«01_k».proof.Proof.Gen.DgatesIdeal.Frame
public import proofs.«01_k».proof.Proof.Dgates
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DgatesIdeal.Val

open Cert.DgatesIdeal Cert.DgatesIdeal.Gen Cert.Gate
open Cert.GatesIdeal.Val (zK DIAG diag_at diag_sum)

/-- The ten blocks that a point reads. -/
structure Blk where
  x : Vec Ideal S512x512 .f32
  daf : Vec Ideal S512x512 .f32
  duf : Vec Ideal S512x512 .f32
  dab : Vec Ideal S512x512 .f32
  dub : Vec Ideal S512x512 .f32
  wa : Vec Ideal S2x512x512 .f32
  wx : Vec Ideal S2x512x512 .f32
  ba : Vec Ideal S2x512 .f32
  bx : Vec Ideal S2x512 .f32
  l : Vec Ideal S2x512 .f32

namespace Blk

variable (b : Blk)

/-- The scalar values at a place of a direction. -/
def za (d : Fin 2) (y : S512x512.Idx) : EReal := zK b.x b.wa b.ba d y
/-- The other gate before its logistic. -/
def zi (d : Fin 2) (y : S512x512.Idx) : EReal := zK b.x b.wx b.bx d y
/-- The factors' gradient of a direction. -/
def da (d : Fin 2) : Vec Ideal S512x512 .f32 := if d = 0 then b.daf else b.dab
/-- The inputs' gradient of a direction. -/
def du (d : Fin 2) : Vec Ideal S512x512 .f32 := if d = 0 then b.duf else b.dub
/-- The gradient of the recurrence gate before its logistic. -/
def dza (d : Fin 2) (y : S512x512.Idx) : EReal := dzaOf (b.za d y) (b.zi d y) (b.x y) (b.l (ix2 d (y 1))) (b.da d y) (b.du d y)
/-- The gradient of the input gate before its logistic. -/
def dzi (d : Fin 2) (y : S512x512.Idx) : EReal := dziOf (b.za d y) (b.zi d y) (b.x y) (b.l (ix2 d (y 1))) (b.du d y)
/-- The row's gradient through the input itself. -/
def din (d : Fin 2) (y : S512x512.Idx) : EReal := dinOf (b.za d y) (b.zi d y) (b.l (ix2 d (y 1))) (b.du d y)
/-- The softplus's gradient. -/
def dsp (d : Fin 2) (y : S512x512.Idx) : EReal := dspOf (b.za d y) (b.zi d y) (b.x y) (b.l (ix2 d (y 1))) (b.da d y) (b.du d y)

/-- The body's arrays of the forward direction: the gates, the square root and the gradients. -/
abbrev r0 := k0_pay8 b.x b.wa b.ba
/-- The forward input gate. -/
abbrev i0 := k0_pay11 b.x b.wx b.bx
/-- The forward square root. -/
abbrev q0 := k0_pay29 (k0_pay24 b.l b.r0) (k0_pay25 b.l b.r0) (k0_pay26 b.l b.r0) (k0_pay27 b.l b.r0)
/-- The half of the forward square root's inverse. -/
abbrev h0 := k0_pay30 (k0_pay24 b.l b.r0) (k0_pay25 b.l b.r0) (k0_pay26 b.l b.r0) (k0_pay27 b.l b.r0)
/-- The forward decay exponent's gradient. -/
abbrev dl0 := k0_pay71 b.daf b.duf (k0_pay19 b.l) (k0_pay21 b.l b.r0) (k0_pay28 (k0_pay22 b.l b.r0)) b.h0 (k0_pay31 b.x b.i0)
/-- The forward input gate's gradient. -/
abbrev dzi0 := k0_pay72 b.x b.duf (k0_pay12 b.i0 (FloatOps.ofBits .f32 0x3F800000#32)) b.q0

/-- Those of the backward direction. -/
abbrev i1 := k0_pay36 b.x (k0_pay6 b.wx) b.bx
/-- The backward recurrence gate. -/
abbrev e1 := k0_pay38 b.x (k0_pay5 b.wa) b.ba
/-- The backward decay exponent's gradient. -/
abbrev dla1 := k0_pay56 b.x b.dab b.dub b.i1 b.e1 (k0_pay39 b.l) (k0_pay40 b.l)
/-- The backward gated input's gradient. -/
abbrev u1 := k0_pay55 b.x b.dub b.e1 (k0_pay39 b.l) (k0_pay40 b.l)
/-- The backward recurrence gate's gradient. -/
abbrev dza1 := k0_pay62 (k0_pay34 b.x (k0_pay5 b.wa) b.ba) (k0_pay49 (k0_pay39 b.l) (k0_pay40 b.l)) b.dla1

/-- The recurrence gate's gradient, forward. -/
theorem dza0_at (y : S512x512.Idx) : k0_pay76 (k0_pay9 b.x b.wa b.ba) b.dl0 y = b.dza 0 y := by
  pointwise [k0_pay76, k0_pay9, k0_pay71, k0_pay69, k0_pay21, k0_pay28, k0_pay30, k0_pay31, k0_pay19, k0_pay14, k0_pay17, k0_pay22, k0_pay20, k0_pay13, k0_pay29, k0_pay24, k0_pay25, k0_pay26, k0_pay27, k0_pay23, k0_pay11, k0_pay10, k0_pay6, k0_pay8, k0_pay7, k0_pay5, Blk.dza, dzaOf, dlaOf, sqOf, guarded, laOf, softK, Blk.za, Blk.zi, zK]
  rfl

/-- The input gate's gradient, forward. -/
theorem dzi0_at (y : S512x512.Idx) : b.dzi0 y = b.dzi 0 y := by
  pointwise [k0_pay72, k0_pay67, k0_pay12, k0_pay19, k0_pay14, k0_pay17, k0_pay22, k0_pay20, k0_pay13, k0_pay29, k0_pay24, k0_pay25, k0_pay26, k0_pay27, k0_pay23, k0_pay11, k0_pay10, k0_pay6, k0_pay8, k0_pay7, k0_pay5, Blk.dzi, dziOf, dlaOf, sqOf, guarded, laOf, softK, Blk.za, Blk.zi, zK]
  rfl

/-- The gradient through the input, forward. -/
theorem din0_at (y : S512x512.Idx) : b.i0 y * (b.q0 y * b.duf y) = b.din 0 y := by
  pointwise [k0_pay19, k0_pay14, k0_pay17, k0_pay22, k0_pay20, k0_pay13, k0_pay29, k0_pay24, k0_pay25, k0_pay26, k0_pay27, k0_pay23, k0_pay11, k0_pay10, k0_pay6, k0_pay8, k0_pay7, k0_pay5, Blk.din, dinOf, dlaOf, sqOf, guarded, laOf, softK, Blk.za, Blk.zi, zK]
  rfl

/-- The softplus's part, forward. -/
theorem dsp0_at (y : S512x512.Idx) : k0_pay13 b.r0 y * k0_pay69 b.daf b.duf (k0_pay21 b.l b.r0) (k0_pay28 (k0_pay22 b.l b.r0)) b.h0 (k0_pay31 b.x b.i0) y = b.dsp 0 y := by
  pointwise [k0_pay69, k0_pay21, k0_pay28, k0_pay30, k0_pay31, k0_pay19, k0_pay14, k0_pay17, k0_pay22, k0_pay20, k0_pay13, k0_pay29, k0_pay24, k0_pay25, k0_pay26, k0_pay27, k0_pay23, k0_pay11, k0_pay10, k0_pay6, k0_pay8, k0_pay7, k0_pay5, Blk.dsp, dspOf, dlaOf, sqOf, guarded, laOf, softK, Blk.za, Blk.zi, zK]
  rfl

/-- The recurrence gate's gradient, backward. -/
theorem dza1_at (y : S512x512.Idx) : b.dza1 y = b.dza 1 y := by
  pointwise [k0_pay62, k0_pay34, k0_pay56, k0_pay38, k0_pay33, k0_pay32, k0_pay39, k0_pay40, k0_pay49, k0_pay47, k0_pay50, k0_pay51, k0_pay52, k0_pay53, k0_pay55, k0_pay36, k0_pay35, k0_pay6, k0_pay5, Blk.dza, dzaOf, dlaOf, sqOf, guarded, laOf, softK, Blk.za, Blk.zi, zK]
  rfl

/-- The input gate's gradient, backward. -/
theorem dzi1_at (y : S512x512.Idx) : k0_pay58 (k0_pay37 b.x (k0_pay6 b.wx) b.bx) b.u1 y = b.dzi 1 y := by
  pointwise [k0_pay58, k0_pay37, k0_pay38, k0_pay33, k0_pay32, k0_pay39, k0_pay40, k0_pay49, k0_pay47, k0_pay50, k0_pay51, k0_pay52, k0_pay53, k0_pay55, k0_pay36, k0_pay35, k0_pay6, k0_pay5, Blk.dzi, dziOf, dlaOf, sqOf, guarded, laOf, softK, Blk.za, Blk.zi, zK]
  rfl

/-- The gradient through the input, backward. -/
theorem din1_at (y : S512x512.Idx) : k0_pay54 b.dub b.i1 b.e1 (k0_pay39 b.l) (k0_pay40 b.l) y = b.din 1 y := by
  pointwise [k0_pay54, k0_pay38, k0_pay33, k0_pay32, k0_pay39, k0_pay40, k0_pay49, k0_pay47, k0_pay50, k0_pay51, k0_pay52, k0_pay53, k0_pay55, k0_pay36, k0_pay35, k0_pay6, k0_pay5, Blk.din, dinOf, dlaOf, sqOf, guarded, laOf, softK, Blk.za, Blk.zi, zK]
  rfl

/-- The softplus's part, backward. -/
theorem dsp1_at (y : S512x512.Idx) : b.e1 y * b.dla1 y = b.dsp 1 y := by
  pointwise [k0_pay56, k0_pay38, k0_pay33, k0_pay32, k0_pay39, k0_pay40, k0_pay49, k0_pay47, k0_pay50, k0_pay51, k0_pay52, k0_pay53, k0_pay55, k0_pay36, k0_pay35, k0_pay6, k0_pay5, Blk.dsp, dspOf, dlaOf, sqOf, guarded, laOf, softK, Blk.za, Blk.zi, zK]
  rfl

/-- The products that become the rows' gradient, the gate gradients taken as they are. -/
theorem rows_at (v13 v23 v25 v32 v83 v259 v260 v100 v110 v164 v165 v88 v98 v171 : FVec Ideal S512x512 .f32) (du : Vec Ideal S512x512 .f32) (v136 : FVec Ideal S1x512 .f32) (y : S512x512.Idx) :
    k0_pay78 v13 v23 v25 (k0_pay68 du v32 v83 (k0_pay60 v100 v110 v164 v165) (k0_pay64 v98 v136 v171) (k0_pay65 v88) (constant S512x512 .f32 0x00000000#32)) v259 v260 y
      = (v32 y * (v83 y * du y) + v164 y) + (((∑ k : Fin 512, v260 (ix2 (y 0) k) * v25 (ix2 (y 1) k)) + ∑ k : Fin 512, k0_pay58 v110 v165 (ix2 (y 0) k) * v100 (ix2 (y 1) k))
        + ((∑ k : Fin 512, k0_pay76 v23 v259 (ix2 (y 0) k) * v13 (ix2 (y 1) k)) + ∑ k : Fin 512, k0_pay62 v98 v136 v171 (ix2 (y 0) k) * v88 (ix2 (y 1) k))) := by
  refine Eq.trans ?_ (show (((v164 y + ∑ k : Fin 512, k0_pay58 v110 v165 (ix2 (y 0) k) * v100 (ix2 (y 1) k)) + ∑ k : Fin 512, k0_pay62 v98 v136 v171 (ix2 (y 0) k) * v88 (ix2 (y 1) k)) + v32 y * (v83 y * du y)
      + ∑ k : Fin 512, v260 (ix2 (y 0) k) * v25 (ix2 (y 1) k)) + ∑ k : Fin 512, k0_pay76 v23 v259 (ix2 (y 0) k) * v13 (ix2 (y 1) k) = _ by abel)
  pointwise [k0_pay78, k0_pay68, k0_pay60, k0_pay64, k0_pay65, k0_pay67]

/-- A weight's part: the rows against the two directions' gradients. -/
theorem wa_part (x v23 v259 v210 : FVec Ideal S512x512 .f32) (d : Fin 2) (k j : Fin 512) :
    k0_pay79 x v23 (k0_pay66 x v210) v259 (ix3 d k j) = ∑ s : Fin 512, x (ix2 s k) * (if d = 0 then k0_pay76 v23 v259 else v210) (ix2 s j) := by
  match d with
  | 0 => pointwise [k0_pay79, k0_pay66]
  | 1 => pointwise [k0_pay79, k0_pay66]

/-- The input weights' part, over the stored arrays. -/
theorem wx_part (x v260 v110 v165 : FVec Ideal S512x512 .f32) (d : Fin 2) (k j : Fin 512) :
    k0_pay75 x (k0_pay61 x v110 v165) v260 (ix3 d k j) = ∑ s : Fin 512, x (ix2 s k) * (if d = 0 then v260 else k0_pay58 v110 v165) (ix2 s j) := by
  match d with
  | 0 => pointwise [k0_pay75, k0_pay61]
  | 1 => pointwise [k0_pay75, k0_pay61]

/-- A bias's part: the sums of the two directions' gradients. -/
theorem ba_part (v23 v259 v98 v171 : FVec Ideal S512x512 .f32) (v136 : FVec Ideal S1x512 .f32) (d : Fin 2) (j : Fin 512) :
    k0_pay77 v23 (k0_pay63 v98 v136 v171) v259 (ix2 d j) = ∑ s : Fin 512, (if d = 0 then k0_pay76 v23 v259 else k0_pay62 v98 v136 v171) (ix2 s j) := by
  match d with
  | 0 => pointwise [k0_pay77, k0_pay63]
  | 1 => pointwise [k0_pay77, k0_pay63]

/-- The input bias's part, over the stored arrays. -/
theorem bx_part (x du v35 v83 v110 v165 : FVec Ideal S512x512 .f32) (d : Fin 2) (j : Fin 512) :
    k0_pay74 (k0_pay59 v110 v165) (k0_pay73 x du v35 v83) (ix2 d j) = ∑ s : Fin 512, (if d = 0 then k0_pay72 x du v35 v83 else k0_pay58 v110 v165) (ix2 s j) := by
  match d with
  | 0 => pointwise [k0_pay74, k0_pay59, k0_pay73]
  | 1 => pointwise [k0_pay74, k0_pay59, k0_pay73]

/-- The parameter's part: the split derivative of the two directions' sums. -/
theorem lam_part (d : Fin 2) (j : Fin 512) :
    k0_pay70 b.daf b.duf (k0_pay13 b.r0) (k0_pay15 b.l) (k0_pay16 b.l) (k0_pay17 b.l) (k0_pay18 b.l) (k0_pay21 b.l b.r0) (k0_pay28 (k0_pay22 b.l b.r0)) b.h0 (k0_pay31 b.x b.i0)
      (k0_pay57 b.e1 (k0_pay45 (k0_pay41 b.l) (k0_pay42 b.l) k0_pay43 k0_pay44) (k0_pay46 (k0_pay39 b.l)) (k0_pay47 (k0_pay39 b.l)) (k0_pay48 (k0_pay39 b.l)) b.dla1) (ix2 d j)
      = dlK (∑ s : Fin 512, b.dsp d (ix2 s j)) (b.l (ix2 d j)) := by
  match d with
  | 0 =>
    rw [Finset.sum_congr rfl fun s _ => (b.dsp0_at (ix2 s j)).symm]
    pointwise [k0_pay70, k0_pay57, k0_pay15, k0_pay16, k0_pay17, k0_pay18, k0_pay14, dlK]
    rfl
  | 1 =>
    rw [Finset.sum_congr rfl fun s _ => (b.dsp1_at (ix2 s j)).symm]
    pointwise [k0_pay70, k0_pay57, k0_pay45, k0_pay46, k0_pay47, k0_pay48, k0_pay39, k0_pay41, k0_pay42, k0_pay43, k0_pay44, dlK]
    rfl

/-- The first half of a stack of weights. -/
theorem half0 (w : Vec Ideal S2x512x512 .f32) (j k : Fin 512) : k0_pay7 w (ix2 j k) = w (ix3 0 j k) := by
  pointwise [k0_pay7, k0_pay5]

/-- The same of the other weights. -/
theorem half0' (w : Vec Ideal S2x512x512 .f32) (j k : Fin 512) : k0_pay10 w (ix2 j k) = w (ix3 0 j k) := by
  pointwise [k0_pay10, k0_pay6]

/-- The second half of a stack of weights. -/
theorem half1 (w : Vec Ideal S2x512x512 .f32) (j k : Fin 512) : k0_pay32 (k0_pay5 w) (ix2 j k) = w (ix3 1 j k) := by
  pointwise [k0_pay32, k0_pay5]

/-- The same of the other weights. -/
theorem half1' (w : Vec Ideal S2x512x512 .f32) (j k : Fin 512) : k0_pay35 (k0_pay6 w) (ix2 j k) = w (ix3 1 j k) := by
  pointwise [k0_pay35, k0_pay6]

/-- A row of gate gradients against a row of the weights. -/
def back (g : Fin 2 → S512x512.Idx → EReal) (w : Vec Ideal S2x512x512 .f32) (d : Fin 2) (y : S512x512.Idx) : EReal :=
  ∑ k : Fin 512, g d (ix2 (y 0) k) * w (ix3 d (y 1) k)

/-- The rows' gradient that a point stores. -/
theorem rows_val (y : S512x512.Idx) :
    k0_pay78 (k0_pay7 b.wa) (k0_pay9 b.x b.wa b.ba) (k0_pay10 b.wx) (k0_pay68 b.duf b.i0 b.q0 (k0_pay60 (k0_pay35 (k0_pay6 b.wx)) (k0_pay37 b.x (k0_pay6 b.wx) b.bx) (k0_pay54 b.dub b.i1 b.e1 (k0_pay39 b.l) (k0_pay40 b.l)) b.u1)
      (k0_pay64 (k0_pay34 b.x (k0_pay5 b.wa) b.ba) (k0_pay49 (k0_pay39 b.l) (k0_pay40 b.l)) b.dla1) (k0_pay65 (k0_pay32 (k0_pay5 b.wa))) (constant S512x512 .f32 0x00000000#32)) b.dl0 b.dzi0 y
      = (b.din 0 y + b.din 1 y) + ((back b.dzi b.wx 0 y + back b.dzi b.wx 1 y) + (back b.dza b.wa 0 y + back b.dza b.wa 1 y)) := by
  refine (rows_at _ _ _ _ _ _ _ _ _ _ _ _ _ _ _ _ y).trans (congrArg₂ (· + ·) (congrArg₂ (· + ·) (b.din0_at y) (b.din1_at y)) (congrArg₂ (· + ·) (congrArg₂ (· + ·) ?_ ?_) (congrArg₂ (· + ·) ?_ ?_)))
  · exact Finset.sum_congr rfl fun k _ => congrArg₂ (· * ·) (b.dzi0_at _) (half0' _ _ _)
  · exact Finset.sum_congr rfl fun k _ => congrArg₂ (· * ·) (b.dzi1_at _) (half1' _ _ _)
  · exact Finset.sum_congr rfl fun k _ => congrArg₂ (· * ·) (b.dza0_at _) (half0 _ _ _)
  · exact Finset.sum_congr rfl fun k _ => congrArg₂ (· * ·) (b.dza1_at _) (half1 _ _ _)

/-- The recurrence weights' part that a point adds. -/
theorem wa_val (d : Fin 2) (k j : Fin 512) : k0_pay79 b.x (k0_pay9 b.x b.wa b.ba) (k0_pay66 b.x b.dza1) b.dl0 (ix3 d k j) = ∑ s : Fin 512, b.x (ix2 s k) * b.dza d (ix2 s j) := by
  refine (wa_part _ _ _ _ d k j).trans (Finset.sum_congr rfl fun s _ => ?_)
  match d with
  | 0 => exact congrArg (_ * ·) (b.dza0_at (ix2 s j))
  | 1 => exact congrArg (_ * ·) (b.dza1_at (ix2 s j))

/-- The input weights' part that a point adds. -/
theorem wx_val (d : Fin 2) (k j : Fin 512) : k0_pay75 b.x (k0_pay61 b.x (k0_pay37 b.x (k0_pay6 b.wx) b.bx) b.u1) b.dzi0 (ix3 d k j) = ∑ s : Fin 512, b.x (ix2 s k) * b.dzi d (ix2 s j) := by
  refine (wx_part _ _ _ _ d k j).trans (Finset.sum_congr rfl fun s _ => ?_)
  match d with
  | 0 => exact congrArg (_ * ·) (b.dzi0_at (ix2 s j))
  | 1 => exact congrArg (_ * ·) (b.dzi1_at (ix2 s j))

/-- The recurrence bias's part. -/
theorem ba_val (d : Fin 2) (j : Fin 512) : k0_pay77 (k0_pay9 b.x b.wa b.ba) (k0_pay63 (k0_pay34 b.x (k0_pay5 b.wa) b.ba) (k0_pay49 (k0_pay39 b.l) (k0_pay40 b.l)) b.dla1) b.dl0 (ix2 d j) = ∑ s : Fin 512, b.dza d (ix2 s j) := by
  refine (ba_part _ _ _ _ _ d j).trans (Finset.sum_congr rfl fun s _ => ?_)
  match d with
  | 0 => exact b.dza0_at (ix2 s j)
  | 1 => exact b.dza1_at (ix2 s j)

/-- The input bias's part. -/
theorem bx_val (d : Fin 2) (j : Fin 512) : k0_pay74 (k0_pay59 (k0_pay37 b.x (k0_pay6 b.wx) b.bx) b.u1) (k0_pay73 b.x b.duf (k0_pay12 b.i0 (FloatOps.ofBits .f32 0x3F800000#32)) b.q0) (ix2 d j) = ∑ s : Fin 512, b.dzi d (ix2 s j) := by
  refine (bx_part _ _ _ _ _ _ d j).trans (Finset.sum_congr rfl fun s _ => ?_)
  match d with
  | 0 => exact b.dzi0_at (ix2 s j)
  | 1 => exact b.dzi1_at (ix2 s j)

/-- Each accumulator adds its part to what it held. -/
theorem add_wa (x v23 v259 : FVec Ideal S512x512 .f32) (v224 : FVec Ideal S2x512x512 .f32) (acc : Vec Ideal S2x512x512 .f32) (i : S2x512x512.Idx) : k0_pay80 x v23 v224 v259 acc i = acc i + k0_pay79 x v23 v224 v259 i := by
  pointwise [k0_pay80]

/-- The same of the input weights. -/
theorem add_wx (v : FVec Ideal S2x512x512 .f32) (acc : Vec Ideal S2x512x512 .f32) (i : S2x512x512.Idx) : k0_pay1 v acc i = acc i + v i := by
  pointwise [k0_pay1]

/-- The same of the recurrence bias. -/
theorem add_ba (v : FVec Ideal S2x512 .f32) (acc : Vec Ideal S2x512 .f32) (i : S2x512.Idx) : k0_pay2 v acc i = acc i + v i := by
  pointwise [k0_pay2]

/-- The same of the input bias. -/
theorem add_bx (v : FVec Ideal S2x512 .f32) (acc : Vec Ideal S2x512 .f32) (i : S2x512.Idx) : k0_pay3 v acc i = acc i + v i := by
  pointwise [k0_pay3]

/-- The same of the decay parameter. -/
theorem add_lam (v : FVec Ideal S2x512 .f32) (acc : Vec Ideal S2x512 .f32) (i : S2x512.Idx) : k0_pay4 v acc i = acc i + v i := by
  pointwise [k0_pay4]

end Blk

end Cert.DgatesIdeal.Val

end
-- ==== Proof.DgatesRun.lean ====
/- The gates' gradients: the kernel's run, its results summed over the blocks of rows, against the reference's. -/
module

public import proofs.«01_k».proof.Proof.DgatesBody
public import proofs.«01_k».proof.Proof.Dgates
public import proofs.«01_k».proof.Pre_finite_gates
public import Idealize.ShloMosaic.Lib.Pipeline.ReadBack
public import Idealize.ShloMosaic.Lib.ReduceAll

@[expose] public section

set_option maxRecDepth 16384

noncomputable section

open Idealize.ShloMosaic Idealize.ShloMosaic.TcCoe Idealize.SL.Sem
open Idealize.ShloMosaic.Pipeline (Dat)

namespace Cert.Pre_finite_gates

/-- The precondition's broadcasts and reductions are ones. -/
theorem facts : Facts := ⟨by decide, by decide, by decide, by decide, by decide, by decide, by decide⟩

end Cert.Pre_finite_gates

namespace Cert.DgatesIdeal.Val

open Cert.DgatesIdeal Cert.DgatesIdeal.Gen Cert.Gate Cert.DgatesRefIdeal.Val
open Cert.GatesIdeal.Val (DIAG diag_at diag_sum zK)
open Cert.GatesRefIdeal.Val (zAt)

variable (m : (ℓ : Loc nD τ sig) → Buf (Elt Ideal) ℓ)

/-- Which block each window holds at each point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0]
    ∧ win0_5.index t = ![0, 0, 0] ∧ win0_6.index t = ![0, 0, 0] ∧ win0_7.index t = ![0, 0] ∧ win0_8.index t = ![0, 0] ∧ win0_9.index t = ![0, 0]
    ∧ win0_10.index t = ![t.val, 0] ∧ win0_11.index t = ![0, 0, 0] ∧ win0_12.index t = ![0, 0, 0] ∧ win0_13.index t = ![0, 0] ∧ win0_14.index t = ![0, 0] ∧ win0_15.index t = ![0, 0] :=
  (by decide +kernel : ∀ t : Fin grid0.N, _)

/-- The arguments, named. -/
def args (c : Dev nD) : Args where
  x := m ((c : Thread nD τ).loc main_arg0)
  daf := m ((c : Thread nD τ).loc main_arg1)
  duf := m ((c : Thread nD τ).loc main_arg2)
  dab := m ((c : Thread nD τ).loc main_arg3)
  dub := m ((c : Thread nD τ).loc main_arg4)
  wa := m ((c : Thread nD τ).loc main_arg5)
  ba := m ((c : Thread nD τ).loc main_arg6)
  wx := m ((c : Thread nD τ).loc main_arg7)
  bx := m ((c : Thread nD τ).loc main_arg8)
  l := m ((c : Thread nD τ).loc main_arg9)

/-- The blocks of a point, named. -/
def blk (c : Dev nD) (t : Fin cfg0.N) : Blk where
  x := iblk m c 0 t
  daf := iblk m c 1 t
  duf := iblk m c 2 t
  dab := iblk m c 3 t
  dub := iblk m c 4 t
  wa := iblk m c 5 t
  wx := iblk m c 6 t
  ba := iblk m c 7 t
  bx := iblk m c 8 t
  l := iblk m c 9 t

/-- The recurrence weights that the host lays out. -/
theorem v11 (c : Dev nD) : V m c main_v11 = DIAG (m ((c : Thread nD τ).loc main_arg5)) := by
  unfold V V0
  simp only [List.flatten_cons, List.flatten_nil, List.append_nil]
  after_results
  rfl

/-- The input weights that the host lays out. -/
theorem v23 (c : Dev nD) : V m c main_v23 = DIAG (m ((c : Thread nD τ).loc main_arg7)) := by
  unfold V V0
  simp only [List.flatten_cons, List.flatten_nil, List.append_nil]
  after_results
  rfl

/-- The recurrence weights' block is the whole. -/
theorem wa_blk (c : Dev nD) (t : Fin cfg0.N) : (blk m c t).wa = DIAG (args m c).wa := by
  funext z
  show (iblk m c 5 t : Vec Ideal S2x512x512 .f32) z = DIAG (m ((c : Thread nD τ).loc main_arg5)) z
  blk_ext [iblk, v11 m c, idx t]

/-- The input weights' block is the whole. -/
theorem wx_blk (c : Dev nD) (t : Fin cfg0.N) : (blk m c t).wx = DIAG (args m c).wx := by
  funext z
  show (iblk m c 6 t : Vec Ideal S2x512x512 .f32) z = DIAG (m ((c : Thread nD τ).loc main_arg7)) z
  blk_ext [iblk, v23 m c, idx t]

/-- A row against a row of such a matrix meets the row's block only. -/
theorem diag_row (W : FVec Ideal S2x8x64x64 .f32) (d : Fin 2) (j : Fin 512) (f : Fin 512 → EReal) :
    ∑ k : Fin 512, f k * DIAG W (ix3 d j k) = ∑ k : Fin 64, f ⟨j.val / 64 * 64 + k.val, by omega⟩ * W (ix4 d ⟨j.val / 64, by omega⟩ ⟨j.val % 64, by omega⟩ k) := by
  refine (block_sum ⟨j.val / 64, by omega⟩ f (fun k => DIAG W (ix3 d j k)) fun k hk => ?_).trans (Finset.sum_congr rfl fun k _ => congrArg (_ * ·) ?_)
  · exact (diag_at W d j k).trans ((congrArg (_ * ·) (if_neg (Ne.symm hk))).trans (mul_zero _))
  · refine (diag_at W d j ⟨j.val / 64 * 64 + k.val, by omega⟩).trans ?_
    refine (congrArg (_ * ·) (if_pos (show j.val / 64 = (j.val / 64 * 64 + k.val) / 64 by omega))).trans ((mul_one _).trans ?_)
    refine congrArg W (congrArg (fun b => ix4 d _ _ b) (Fin.ext ?_))
    show (j.val / 64 * 64 + k.val) % 64 = k.val; omega

section Place

variable (c : Dev nD) (t : Fin cfg0.N) (y : S512x512.Idx) (s : Fin 4096) (j : Fin 512) (h0 : s.val = t.val * 512 + (y 0).val) (h1 : j.val = (y 1).val)
include h0 h1

/-- A row's place in the array. -/
theorem x_blk : (blk m c t).x y = (args m c).x (ix2 s j) := by
  show (iblk m c 0 t : Vec Ideal S512x512 .f32) y = m ((c : Thread nD τ).loc main_arg0) (ix2 s j)
  blk_point [iblk, V, idx t]

/-- The factors' gradient at a place. -/
theorem da_blk (d : Fin 2) : (blk m c t).da d y = (args m c).da d (ix2 s j) := by
  match d with
  | 0 =>
    show (iblk m c 1 t : Vec Ideal S512x512 .f32) y = m ((c : Thread nD τ).loc main_arg1) (ix2 s j)
    blk_point [iblk, V, idx t]
  | 1 =>
    show (iblk m c 3 t : Vec Ideal S512x512 .f32) y = m ((c : Thread nD τ).loc main_arg3) (ix2 s j)
    blk_point [iblk, V, idx t]

/-- The inputs' gradient at a place. -/
theorem du_blk (d : Fin 2) : (blk m c t).du d y = (args m c).du d (ix2 s j) := by
  match d with
  | 0 =>
    show (iblk m c 2 t : Vec Ideal S512x512 .f32) y = m ((c : Thread nD τ).loc main_arg2) (ix2 s j)
    blk_point [iblk, V, idx t]
  | 1 =>
    show (iblk m c 4 t : Vec Ideal S512x512 .f32) y = m ((c : Thread nD τ).loc main_arg4) (ix2 s j)
    blk_point [iblk, V, idx t]

omit h0 in
/-- The parameter's block is the whole of it. -/
theorem l_blk (d : Fin 2) : (blk m c t).l (ix2 d (y 1)) = (args m c).l (ix2 d j) := by
  obtain rfl : j = y 1 := Fin.ext h1
  show (iblk m c 9 t : Vec Ideal S2x512 .f32) (ix2 d (y 1)) = m ((c : Thread nD τ).loc main_arg9) (ix2 d (y 1))
  blk_point [iblk, V, idx t]

omit h0 in
/-- The bias's block is the whole of it. -/
theorem ba_blk (d : Fin 2) : (blk m c t).ba (ix2 d (y 1)) = (args m c).ba (ix2 d j) := by
  obtain rfl : j = y 1 := Fin.ext h1
  show (iblk m c 7 t : Vec Ideal S2x512 .f32) (ix2 d (y 1)) = m ((c : Thread nD τ).loc main_arg6) (ix2 d (y 1))
  blk_point [iblk, V, idx t]

omit h0 in
/-- The bias's block is the whole of it. -/
theorem bx_blk (d : Fin 2) : (blk m c t).bx (ix2 d (y 1)) = (args m c).bx (ix2 d j) := by
  obtain rfl : j = y 1 := Fin.ext h1
  show (iblk m c 8 t : Vec Ideal S2x512 .f32) (ix2 d (y 1)) = m ((c : Thread nD τ).loc main_arg8) (ix2 d (y 1))
  blk_point [iblk, V, idx t]

/-- The recurrence gate before its logistic at a place. -/
theorem za_blk (d : Fin 2) : (blk m c t).za d y = (args m c).za d s j := by
  obtain rfl : j = y 1 := Fin.ext h1
  rw [Blk.za, zK, wa_blk]
  refine (congrArg (· + _) (diag_sum _ d (y 1) fun k => (blk m c t).x (ix2 (y 0) k))).trans ?_
  exact congrArg₂ (· + ·) (Finset.sum_congr rfl fun k _ => congrArg (· * _) (x_blk m c t (ix2 (y 0) ⟨(y 1).val / 64 * 64 + k.val, by have : (y 1).val < 512 := (y 1).isLt; omega⟩) s _ h0 rfl)) (ba_blk m c t y _ rfl d)

/-- The input gate before its logistic at a place. -/
theorem zi_blk (d : Fin 2) : (blk m c t).zi d y = (args m c).zi d s j := by
  obtain rfl : j = y 1 := Fin.ext h1
  rw [Blk.zi, zK, wx_blk]
  refine (congrArg (· + _) (diag_sum _ d (y 1) fun k => (blk m c t).x (ix2 (y 0) k))).trans ?_
  exact congrArg₂ (· + ·) (Finset.sum_congr rfl fun k _ => congrArg (· * _) (x_blk m c t (ix2 (y 0) ⟨(y 1).val / 64 * 64 + k.val, by have : (y 1).val < 512 := (y 1).isLt; omega⟩) s _ h0 rfl)) (bx_blk m c t y _ rfl d)

/-- The recurrence gate's gradient at a place. -/
theorem dza_blk (d : Fin 2) : (blk m c t).dza d y = (args m c).dza d s j := by
  rw [Blk.dza, Args.dza, za_blk m c t y s j h0 h1, zi_blk m c t y s j h0 h1, x_blk m c t y s j h0 h1, l_blk m c t y j h1, da_blk m c t y s j h0 h1, du_blk m c t y s j h0 h1]

/-- The input gate's gradient at a place. -/
theorem dzi_blk (d : Fin 2) : (blk m c t).dzi d y = (args m c).dzi d s j := by
  rw [Blk.dzi, Args.dzi, za_blk m c t y s j h0 h1, zi_blk m c t y s j h0 h1, x_blk m c t y s j h0 h1, l_blk m c t y j h1, du_blk m c t y s j h0 h1]

/-- The gradient through the gated input at a place. -/
theorem din_blk (d : Fin 2) : (blk m c t).din d y = (args m c).din d s j := by
  rw [Blk.din, Args.din, za_blk m c t y s j h0 h1, zi_blk m c t y s j h0 h1, l_blk m c t y j h1, du_blk m c t y s j h0 h1]

/-- The softplus's gradient at a place. -/
theorem dsp_blk (d : Fin 2) : (blk m c t).dsp d y = (args m c).dsp d s j := by
  rw [Blk.dsp, Args.dsp, za_blk m c t y s j h0 h1, zi_blk m c t y s j h0 h1, x_blk m c t y s j h0 h1, l_blk m c t y j h1, da_blk m c t y s j h0 h1, du_blk m c t y s j h0 h1]

/-- A row of recurrence gate gradients against the weights. -/
theorem back_a (d : Fin 2) : Blk.back (blk m c t).dza (blk m c t).wa d y = Args.back (args m c).dza (args m c).wa d s j := by
  obtain rfl : j = y 1 := Fin.ext h1
  rw [Blk.back, wa_blk]
  refine (diag_row _ d (y 1) fun k => (blk m c t).dza d (ix2 (y 0) k)).trans (Finset.sum_congr rfl fun k _ => congrArg (· * _) ?_)
  exact dza_blk m c t (ix2 (y 0) ⟨(y 1).val / 64 * 64 + k.val, by have : (y 1).val < 512 := (y 1).isLt; omega⟩) s ⟨(y 1).val / 64 * 64 + k.val, by have : (y 1).val < 512 := (y 1).isLt; omega⟩ h0 rfl d

/-- A row of input gate gradients against the weights. -/
theorem back_x (d : Fin 2) : Blk.back (blk m c t).dzi (blk m c t).wx d y = Args.back (args m c).dzi (args m c).wx d s j := by
  obtain rfl : j = y 1 := Fin.ext h1
  rw [Blk.back, wx_blk]
  refine (diag_row _ d (y 1) fun k => (blk m c t).dzi d (ix2 (y 0) k)).trans (Finset.sum_congr rfl fun k _ => congrArg (· * _) ?_)
  exact dzi_blk m c t (ix2 (y 0) ⟨(y 1).val / 64 * 64 + k.val, by have : (y 1).val < 512 := (y 1).isLt; omega⟩) s ⟨(y 1).val / 64 * 64 + k.val, by have : (y 1).val < 512 := (y 1).isLt; omega⟩ h0 rfl d

end Place

/-- What a point stores of the rows' gradient is the reference's. -/
theorem rows_point (c : Dev nD) (t : Fin cfg0.N) (y : S512x512.Idx) (i : S4096x512.Idx) (h0 : (i 0).val = t.val * 512 + (y 0).val) (h1 : (i 1).val = (y 1).val) :
    (outsAt0 m c t.val t.isLt).1 y = (args m c).DXC i := by
  have key : ∀ z : EReal, z = ((blk m c t).din 0 y + (blk m c t).din 1 y) + ((Blk.back (blk m c t).dzi (blk m c t).wx 0 y + Blk.back (blk m c t).dzi (blk m c t).wx 1 y)
      + (Blk.back (blk m c t).dza (blk m c t).wa 0 y + Blk.back (blk m c t).dza (blk m c t).wa 1 y)) → z = (args m c).DXC i := fun z hz => by
    rw [hz, din_blk m c t y (i 0) (i 1) h0 h1, din_blk m c t y (i 0) (i 1) h0 h1, back_x m c t y (i 0) (i 1) h0 h1, back_x m c t y (i 0) (i 1) h0 h1, back_a m c t y (i 0) (i 1) h0 h1, back_a m c t y (i 0) (i 1) h0 h1, Args.DXC]
  refine key _ ?_
  by_cases h : t.val % 8 = 0
  · have h1 : ¬1 ≤ t.val := by have : t.val < 8 := t.isLt; omega
    rw [outsAt0_A m c t h h1 h h1 h h1 h h1 h h1]; frame_out
    have e := (blk m c t).rows_val y
    dsimp only [blk, Blk.r0, Blk.i0, Blk.q0, Blk.h0, Blk.dl0, Blk.dzi0, Blk.i1, Blk.e1, Blk.dla1, Blk.u1, Blk.dza1] at e
    exact e
  · have h1 : 1 ≤ t.val := by omega
    rw [outsAt0_B m c t h h1 h h1 h h1 h h1 h h1]; frame_out
    have e := (blk m c t).rows_val y
    dsimp only [blk, Blk.r0, Blk.i0, Blk.q0, Blk.h0, Blk.dl0, Blk.dzi0, Blk.i1, Blk.e1, Blk.dla1, Blk.u1, Blk.dza1] at e
    exact e

/-- The rows' gradient after the run. -/
theorem final_rows (c : Dev nD) : (dats m 0 c).arrAt 10 (cfgs 0).N = (args m c).DXC := by
  refine (dats m 0 c).arrAt_eq_of_covers 10 _ (by decide +kernel) fun t _ y => ?_
  blk_simp
  rw [after0_10]
  refine rows_point m c t y _ ?_ ?_ <;> (blk_simp [idx t] <;> try omega)

/-- An accumulator that starts at its part and adds its part at each point holds the parts' sum at the last. -/
theorem acc {ι : Type} (f : (n : ℕ) → n < cfg0.N → ι → EReal) (part : Fin cfg0.N → ι → EReal)
    (first : ∀ t : Fin cfg0.N, t.val % 8 = 0 → ∀ i, f t.val t.isLt i = part t i)
    (next : ∀ t : Fin cfg0.N, ¬t.val % 8 = 0 → ∀ i, f t.val t.isLt i = f (t.val - 1) (Nat.lt_of_le_of_lt (Nat.sub_le _ _) t.isLt) i + part t i)
    (t : Fin cfg0.N) (h : t.val % 8 = 7) (i : ι) : f t.val t.isLt i = ∑ s : Fin 8, part ⟨s.val, s.isLt⟩ i := by
  rw [Pipeline.eq_sum_fin_of_reset_step_apply_of_flush f 8 (fun _ => 0) part (fun t h i => (first t h i).trans (zero_add _).symm) next t h i, zero_add]
  refine Finset.sum_congr rfl fun s _ => congrArg (fun u => part u i) (Fin.ext ?_)
  have : t.val < 8 := t.isLt
  show 8 * (t.val / 8) + s.val = s.val
  omega

end Cert.DgatesIdeal.Val

end
-- ==== Proof.DgatesSum.lean ====
/- The gates' weight, bias and decay gradients: the kernel's sums over the blocks of rows are the sums over the rows. -/
module

public import proofs.«01_k».proof.Proof.DgatesRun

@[expose] public section

set_option maxRecDepth 16384

noncomputable section

open Idealize.ShloMosaic Idealize.ShloMosaic.TcCoe Idealize.SL.Sem
open Idealize.ShloMosaic.Pipeline (Dat)

namespace Cert.DgatesIdeal.Val

open Cert.DgatesIdeal Cert.DgatesIdeal.Gen Cert.Gate Cert.DgatesRefIdeal.Val

variable (m : (ℓ : Loc nD τ sig) → Buf (Elt Ideal) ℓ)

/-- A point's part of a weight's gradient, the whole of a product of rows and gate gradients. -/
def partW (c : Dev nD) (g : Blk → Fin 2 → S512x512.Idx → EReal) (t : Fin cfg0.N) (i : S2x512x512.Idx) : EReal :=
  ∑ s : Fin 512, (blk m c t).x (ix2 s (i 1)) * g (blk m c t) (i 0) (ix2 s (i 2))

/-- A point's part of a bias's gradient. -/
def partB (c : Dev nD) (g : Blk → Fin 2 → S512x512.Idx → EReal) (t : Fin cfg0.N) (i : S2x512.Idx) : EReal :=
  ∑ s : Fin 512, g (blk m c t) (i 0) (ix2 s (i 1))

/-- A point's part of the decay parameter's gradient. -/
def partL (c : Dev nD) (t : Fin cfg0.N) (i : S2x512.Idx) : EReal := dlK (partB m c Blk.dsp t i) ((blk m c t).l i)

/-- The first point leaves its part of the recurrence weights' gradient. -/
theorem first_wa (c : Dev nD) (t : Fin cfg0.N) (h : t.val % 8 = 0) (i : S2x512x512.Idx) : (outsAt0 m c t.val t.isLt).2.1 i = partW m c Blk.dza t i := by
  have h1 : ¬1 ≤ t.val := by have : t.val < 8 := t.isLt; omega
  obtain ⟨d, k, j, rfl⟩ : ∃ (d : Fin 2) (k j : Fin 512), i = ix3 d k j := ⟨i 0, i 1, i 2, (ix3_eta i).symm⟩
  rw [outsAt0_A m c t h h1 h h1 h h1 h h1 h h1]; frame_out
  have e := (blk m c t).wa_val d k j
  dsimp only [blk, Blk.r0, Blk.i0, Blk.q0, Blk.h0, Blk.dl0, Blk.dzi0, Blk.i1, Blk.e1, Blk.dla1, Blk.u1, Blk.dza1] at e
  exact e

/-- A later point adds its part of the recurrence weights' gradient. -/
theorem next_wa (c : Dev nD) (t : Fin cfg0.N) (h : ¬t.val % 8 = 0) (i : S2x512x512.Idx) :
    (outsAt0 m c t.val t.isLt).2.1 i = (outsAt0 m c (t.val - 1) (Nat.lt_of_le_of_lt (Nat.sub_le _ _) t.isLt)).2.1 i + partW m c Blk.dza t i := by
  have h1 : 1 ≤ t.val := by omega
  obtain ⟨d, k, j, rfl⟩ : ∃ (d : Fin 2) (k j : Fin 512), i = ix3 d k j := ⟨i 0, i 1, i 2, (ix3_eta i).symm⟩
  rw [outsAt0_B m c t h h1 h h1 h h1 h h1 h h1]; frame_out
  have e := (blk m c t).wa_val d k j
  dsimp only [blk, Blk.r0, Blk.i0, Blk.q0, Blk.h0, Blk.dl0, Blk.dzi0, Blk.i1, Blk.e1, Blk.dla1, Blk.u1, Blk.dza1] at e
  exact (Blk.add_wa _ _ _ _ _ _).trans (congrArg (_ + ·) e)

/-- The last point holds the sum of the parts of the recurrence weights' gradient. -/
theorem last_wa (c : Dev nD) (t : Fin cfg0.N) (h : t.val % 8 = 7) (i : S2x512x512.Idx) : (outsAt0 m c t.val t.isLt).2.1 i = ∑ s : Fin 8, partW m c Blk.dza ⟨s.val, s.isLt⟩ i :=
  acc (fun n hn => (outsAt0 m c n hn).2.1) (partW m c Blk.dza) (first_wa m c) (next_wa m c) t h i

/-- The first point leaves its part of the input weights' gradient. -/
theorem first_wx (c : Dev nD) (t : Fin cfg0.N) (h : t.val % 8 = 0) (i : S2x512x512.Idx) : (outsAt0 m c t.val t.isLt).2.2.1 i = partW m c Blk.dzi t i := by
  have h1 : ¬1 ≤ t.val := by have : t.val < 8 := t.isLt; omega
  obtain ⟨d, k, j, rfl⟩ : ∃ (d : Fin 2) (k j : Fin 512), i = ix3 d k j := ⟨i 0, i 1, i 2, (ix3_eta i).symm⟩
  rw [outsAt0_A m c t h h1 h h1 h h1 h h1 h h1]; frame_out
  have e := (blk m c t).wx_val d k j
  dsimp only [blk, Blk.r0, Blk.i0, Blk.q0, Blk.h0, Blk.dl0, Blk.dzi0, Blk.i1, Blk.e1, Blk.dla1, Blk.u1, Blk.dza1] at e
  exact e

/-- A later point adds its part of the input weights' gradient. -/
theorem next_wx (c : Dev nD) (t : Fin cfg0.N) (h : ¬t.val % 8 = 0) (i : S2x512x512.Idx) :
    (outsAt0 m c t.val t.isLt).2.2.1 i = (outsAt0 m c (t.val - 1) (Nat.lt_of_le_of_lt (Nat.sub_le _ _) t.isLt)).2.2.1 i + partW m c Blk.dzi t i := by
  have h1 : 1 ≤ t.val := by omega
  obtain ⟨d, k, j, rfl⟩ : ∃ (d : Fin 2) (k j : Fin 512), i = ix3 d k j := ⟨i 0, i 1, i 2, (ix3_eta i).symm⟩
  rw [outsAt0_B m c t h h1 h h1 h h1 h h1 h h1]; frame_out
  have e := (blk m c t).wx_val d k j
  dsimp only [blk, Blk.r0, Blk.i0, Blk.q0, Blk.h0, Blk.dl0, Blk.dzi0, Blk.i1, Blk.e1, Blk.dla1, Blk.u1, Blk.dza1] at e
  exact (Blk.add_wx _ _ _).trans (congrArg (_ + ·) e)

/-- The last point holds the sum of the parts of the input weights' gradient. -/
theorem last_wx (c : Dev nD) (t : Fin cfg0.N) (h : t.val % 8 = 7) (i : S2x512x512.Idx) : (outsAt0 m c t.val t.isLt).2.2.1 i = ∑ s : Fin 8, partW m c Blk.dzi ⟨s.val, s.isLt⟩ i :=
  acc (fun n hn => (outsAt0 m c n hn).2.2.1) (partW m c Blk.dzi) (first_wx m c) (next_wx m c) t h i

/-- The first point leaves its part of the recurrence bias's gradient. -/
theorem first_ba (c : Dev nD) (t : Fin cfg0.N) (h : t.val % 8 = 0) (i : S2x512.Idx) : (outsAt0 m c t.val t.isLt).2.2.2.1 i = partB m c Blk.dza t i := by
  have h1 : ¬1 ≤ t.val := by have : t.val < 8 := t.isLt; omega
  obtain ⟨d, j, rfl⟩ : ∃ (d : Fin 2) (j : Fin 512), i = ix2 d j := ⟨i 0, i 1, (ix2_eta i).symm⟩
  rw [outsAt0_A m c t h h1 h h1 h h1 h h1 h h1]; frame_out
  have e := (blk m c t).ba_val d j
  dsimp only [blk, Blk.r0, Blk.i0, Blk.q0, Blk.h0, Blk.dl0, Blk.dzi0, Blk.i1, Blk.e1, Blk.dla1, Blk.u1, Blk.dza1] at e
  exact e

/-- A later point adds its part of the recurrence bias's gradient. -/
theorem next_ba (c : Dev nD) (t : Fin cfg0.N) (h : ¬t.val % 8 = 0) (i : S2x512.Idx) :
    (outsAt0 m c t.val t.isLt).2.2.2.1 i = (outsAt0 m c (t.val - 1) (Nat.lt_of_le_of_lt (Nat.sub_le _ _) t.isLt)).2.2.2.1 i + partB m c Blk.dza t i := by
  have h1 : 1 ≤ t.val := by omega
  obtain ⟨d, j, rfl⟩ : ∃ (d : Fin 2) (j : Fin 512), i = ix2 d j := ⟨i 0, i 1, (ix2_eta i).symm⟩
  rw [outsAt0_B m c t h h1 h h1 h h1 h h1 h h1]; frame_out
  have e := (blk m c t).ba_val d j
  dsimp only [blk, Blk.r0, Blk.i0, Blk.q0, Blk.h0, Blk.dl0, Blk.dzi0, Blk.i1, Blk.e1, Blk.dla1, Blk.u1, Blk.dza1] at e
  exact (Blk.add_ba _ _ _).trans (congrArg (_ + ·) e)

/-- The last point holds the sum of the parts of the recurrence bias's gradient. -/
theorem last_ba (c : Dev nD) (t : Fin cfg0.N) (h : t.val % 8 = 7) (i : S2x512.Idx) : (outsAt0 m c t.val t.isLt).2.2.2.1 i = ∑ s : Fin 8, partB m c Blk.dza ⟨s.val, s.isLt⟩ i :=
  acc (fun n hn => (outsAt0 m c n hn).2.2.2.1) (partB m c Blk.dza) (first_ba m c) (next_ba m c) t h i

/-- The first point leaves its part of the input bias's gradient. -/
theorem first_bx (c : Dev nD) (t : Fin cfg0.N) (h : t.val % 8 = 0) (i : S2x512.Idx) : (outsAt0 m c t.val t.isLt).2.2.2.2.1 i = partB m c Blk.dzi t i := by
  have h1 : ¬1 ≤ t.val := by have : t.val < 8 := t.isLt; omega
  obtain ⟨d, j, rfl⟩ : ∃ (d : Fin 2) (j : Fin 512), i = ix2 d j := ⟨i 0, i 1, (ix2_eta i).symm⟩
  rw [outsAt0_A m c t h h1 h h1 h h1 h h1 h h1]; frame_out
  have e := (blk m c t).bx_val d j
  dsimp only [blk, Blk.r0, Blk.i0, Blk.q0, Blk.h0, Blk.dl0, Blk.dzi0, Blk.i1, Blk.e1, Blk.dla1, Blk.u1, Blk.dza1] at e
  exact e

/-- A later point adds its part of the input bias's gradient. -/
theorem next_bx (c : Dev nD) (t : Fin cfg0.N) (h : ¬t.val % 8 = 0) (i : S2x512.Idx) :
    (outsAt0 m c t.val t.isLt).2.2.2.2.1 i = (outsAt0 m c (t.val - 1) (Nat.lt_of_le_of_lt (Nat.sub_le _ _) t.isLt)).2.2.2.2.1 i + partB m c Blk.dzi t i := by
  have h1 : 1 ≤ t.val := by omega
  obtain ⟨d, j, rfl⟩ : ∃ (d : Fin 2) (j : Fin 512), i = ix2 d j := ⟨i 0, i 1, (ix2_eta i).symm⟩
  rw [outsAt0_B m c t h h1 h h1 h h1 h h1 h h1]; frame_out
  have e := (blk m c t).bx_val d j
  dsimp only [blk, Blk.r0, Blk.i0, Blk.q0, Blk.h0, Blk.dl0, Blk.dzi0, Blk.i1, Blk.e1, Blk.dla1, Blk.u1, Blk.dza1] at e
  exact (Blk.add_bx _ _ _).trans (congrArg (_ + ·) e)

/-- The last point holds the sum of the parts of the input bias's gradient. -/
theorem last_bx (c : Dev nD) (t : Fin cfg0.N) (h : t.val % 8 = 7) (i : S2x512.Idx) : (outsAt0 m c t.val t.isLt).2.2.2.2.1 i = ∑ s : Fin 8, partB m c Blk.dzi ⟨s.val, s.isLt⟩ i :=
  acc (fun n hn => (outsAt0 m c n hn).2.2.2.2.1) (partB m c Blk.dzi) (first_bx m c) (next_bx m c) t h i

/-- The first point leaves its part of the decay parameter's gradient. -/
theorem first_lam (c : Dev nD) (t : Fin cfg0.N) (h : t.val % 8 = 0) (i : S2x512.Idx) : (outsAt0 m c t.val t.isLt).2.2.2.2.2 i = partL m c t i := by
  have h1 : ¬1 ≤ t.val := by have : t.val < 8 := t.isLt; omega
  obtain ⟨d, j, rfl⟩ : ∃ (d : Fin 2) (j : Fin 512), i = ix2 d j := ⟨i 0, i 1, (ix2_eta i).symm⟩
  rw [outsAt0_A m c t h h1 h h1 h h1 h h1 h h1]; frame_out
  have e := (blk m c t).lam_part d j
  dsimp only [blk, Blk.r0, Blk.i0, Blk.q0, Blk.h0, Blk.dl0, Blk.dzi0, Blk.i1, Blk.e1, Blk.dla1, Blk.u1, Blk.dza1] at e
  exact e

/-- A later point adds its part of the decay parameter's gradient. -/
theorem next_lam (c : Dev nD) (t : Fin cfg0.N) (h : ¬t.val % 8 = 0) (i : S2x512.Idx) :
    (outsAt0 m c t.val t.isLt).2.2.2.2.2 i = (outsAt0 m c (t.val - 1) (Nat.lt_of_le_of_lt (Nat.sub_le _ _) t.isLt)).2.2.2.2.2 i + partL m c t i := by
  have h1 : 1 ≤ t.val := by omega
  obtain ⟨d, j, rfl⟩ : ∃ (d : Fin 2) (j : Fin 512), i = ix2 d j := ⟨i 0, i 1, (ix2_eta i).symm⟩
  rw [outsAt0_B m c t h h1 h h1 h h1 h h1 h h1]; frame_out
  have e := (blk m c t).lam_part d j
  dsimp only [blk, Blk.r0, Blk.i0, Blk.q0, Blk.h0, Blk.dl0, Blk.dzi0, Blk.i1, Blk.e1, Blk.dla1, Blk.u1, Blk.dza1] at e
  exact (Blk.add_lam _ _ _).trans (congrArg (_ + ·) e)

/-- The last point holds the sum of the parts of the decay parameter's gradient. -/
theorem last_lam (c : Dev nD) (t : Fin cfg0.N) (h : t.val % 8 = 7) (i : S2x512.Idx) : (outsAt0 m c t.val t.isLt).2.2.2.2.2 i = ∑ s : Fin 8, partL m c ⟨s.val, s.isLt⟩ i :=
  acc (fun n hn => (outsAt0 m c n hn).2.2.2.2.2) (partL m c) (first_lam m c) (next_lam m c) t h i

/-- The parts of a weight's gradient, over all the blocks, are the sum over the rows. -/
theorem sum_W (c : Dev nD) (g : Blk → Fin 2 → S512x512.Idx → EReal) (G : Fin 2 → Fin 4096 → Fin 512 → EReal)
    (hg : ∀ (t : Fin cfg0.N) (y : S512x512.Idx) (s : Fin 4096) (j : Fin 512), s.val = t.val * 512 + (y 0).val → j.val = (y 1).val → ∀ d, g (blk m c t) d y = G d s j) (i : S2x512x512.Idx) :
    ∑ s : Fin 8, partW m c g ⟨s.val, s.isLt⟩ i = ∑ s : Fin 4096, (args m c).x (ix2 s (i 1)) * G (i 0) s (i 2) :=
  Fin.sum_mul_add_congr fun s k hl => congrArg₂ (· * ·) (x_blk m c ⟨s.val, s.isLt⟩ (ix2 k (i 1)) _ _ rfl rfl) (hg ⟨s.val, s.isLt⟩ (ix2 k (i 2)) _ _ rfl rfl _)

/-- The parts of a bias's gradient, over all the blocks, are the sum over the rows. -/
theorem sum_B (c : Dev nD) (g : Blk → Fin 2 → S512x512.Idx → EReal) (G : Fin 2 → Fin 4096 → Fin 512 → EReal)
    (hg : ∀ (t : Fin cfg0.N) (y : S512x512.Idx) (s : Fin 4096) (j : Fin 512), s.val = t.val * 512 + (y 0).val → j.val = (y 1).val → ∀ d, g (blk m c t) d y = G d s j) (i : S2x512.Idx) :
    ∑ s : Fin 8, partB m c g ⟨s.val, s.isLt⟩ i = ∑ s : Fin 4096, G (i 0) s (i 1) :=
  Fin.sum_mul_add_congr fun s k hl => hg ⟨s.val, s.isLt⟩ (ix2 k (i 1)) _ _ rfl rfl _

/-- Every argument is a real number at every place. -/
structure Real (a : Args) : Prop where
  x : ∀ i, IsReal (a.x i)
  da : ∀ d i, IsReal (a.da d i)
  du : ∀ d i, IsReal (a.du d i)
  wa : ∀ i, IsReal (a.wa i)
  ba : ∀ i, IsReal (a.ba i)
  wx : ∀ i, IsReal (a.wx i)
  bx : ∀ i, IsReal (a.bx i)
  l : ∀ i, IsReal (a.l i)
  ne : ∀ i, a.l i ≠ 0

/-- A gate before its logistic is real when the arguments are. -/
theorem real_z {X : FVec Ideal Cert.GatesRefIdeal.S4096x512 .f32} {W : FVec Ideal Cert.GatesRefIdeal.S2x8x64x64 .f32} {B : FVec Ideal Cert.GatesRefIdeal.S2x512 .f32}
    (hX : ∀ i, IsReal (X i)) (hW : ∀ i, IsReal (W i)) (hB : ∀ i, IsReal (B i)) (d : Fin 2) (s : Fin 4096) (j : Fin 512) : IsReal (Cert.GatesRefIdeal.Val.zAt X W B d s j) :=
  (IsReal.sum _ _ fun k => (hX _).mul (hW _)).add (hB _)

/-- The softplus's gradient is real when the arguments are. -/
theorem real_dsp {a : Args} (h : Real a) (d : Fin 2) (s : Fin 4096) (j : Fin 512) : IsReal (a.dsp d s j) := by
  have hz : IsReal (a.za d s j) := real_z h.x h.wa h.ba d s j
  have hd := isReal_dlaOf (zi := a.zi d s j) hz (h.x (ix2 s j)) (h.l (ix2 d j)) (h.da d (ix2 s j)) (h.du d (ix2 s j))
  exact ((isReal_coe _).mul (isReal_logistic _)).mul hd

/-- The decay parameter's parts sum to its gradient. -/
theorem sum_L (c : Dev nD) (h : Real (args m c)) (i : S2x512.Idx) : ∑ s : Fin 8, partL m c ⟨s.val, s.isLt⟩ i = (args m c).DLAM i := by
  obtain ⟨d, j, rfl⟩ : ∃ (d : Fin 2) (j : Fin 512), i = ix2 d j := ⟨i 0, i 1, (ix2_eta i).symm⟩
  have hB := sum_B m c Blk.dsp (args m c).dsp (fun t y s j h0 h1 d => dsp_blk m c t y s j h0 h1 d) (ix2 d j)
  have e : ∀ s : Fin 8, partL m c ⟨s.val, s.isLt⟩ (ix2 d j) = dlK (partB m c Blk.dsp ⟨s.val, s.isLt⟩ (ix2 d j)) ((args m c).l (ix2 d j)) := fun s =>
    congrArg (dlK _) (l_blk m c ⟨s.val, s.isLt⟩ (ix2 0 j) j rfl d)
  refine (Finset.sum_congr rfl fun s _ => e s).trans ((sum_dlK _ (fun s => ?_) (h.l _) (h.ne _)).trans (congrArg (fun z => -(z * _)) hB))
  refine IsReal.sum _ _ fun k => ?_
  have hl : s.val * 512 + k.val < 4096 := by omega
  exact (dsp_blk m c ⟨s.val, s.isLt⟩ (ix2 k j) ⟨s.val * 512 + k.val, hl⟩ j rfl rfl d).symm ▸ real_dsp h d _ j

/-- A function's values at places of the same coordinates agree. -/
theorem same3 (F : S2x512x512.Idx → EReal) (y i : S2x512x512.Idx) (h0 : (i 0).val = (y 0).val) (h1 : (i 1).val = (y 1).val) (h2 : (i 2).val = (y 2).val) : F y = F i :=
  congrArg F (funext fun a => match a with
    | 0 => Fin.ext h0.symm
    | 1 => Fin.ext h1.symm
    | 2 => Fin.ext h2.symm)

/-- The same of two coordinates. -/
theorem same2 (F : S2x512.Idx → EReal) (y i : S2x512.Idx) (h0 : (i 0).val = (y 0).val) (h1 : (i 1).val = (y 1).val) : F y = F i :=
  congrArg F (funext fun a => match a with
    | 0 => Fin.ext h0.symm
    | 1 => Fin.ext h1.symm)

/-- The rows against gate gradients of every column, of which the host keeps the blocks. -/
def ACC (a : Args) (g : Fin 2 → Fin 4096 → Fin 512 → EReal) : FVec Ideal S2x512x512 .f32 := fun i => ∑ s : Fin 4096, a.x (ix2 s (i 1)) * g (i 0) s (i 2)

/-- The recurrence weights' products after the run. -/
theorem final_wa (c : Dev nD) : (dats m 0 c).arrAt 11 (cfgs 0).N = ACC (args m c) (args m c).dza := by
  refine (dats m 0 c).arrAt_eq_of_covers 11 _ (by decide +kernel) fun t hf y => ?_
  blk_simp
  rw [after0_11]
  refine (last_wa m c t ((flush0_11 t).mp hf) y).trans ((sum_W m c Blk.dza _ (fun t y s j h0 h1 d => dza_blk m c t y s j h0 h1 d) y).trans (same3 (ACC (args m c) (args m c).dza) y _ ?_ ?_ ?_)) <;> (blk_simp [idx t] <;> try omega)

/-- The input weights' products after the run. -/
theorem final_wx (c : Dev nD) : (dats m 0 c).arrAt 12 (cfgs 0).N = ACC (args m c) (args m c).dzi := by
  refine (dats m 0 c).arrAt_eq_of_covers 12 _ (by decide +kernel) fun t hf y => ?_
  blk_simp
  rw [after0_12]
  refine (last_wx m c t ((flush0_12 t).mp hf) y).trans ((sum_W m c Blk.dzi _ (fun t y s j h0 h1 d => dzi_blk m c t y s j h0 h1 d) y).trans (same3 (ACC (args m c) (args m c).dzi) y _ ?_ ?_ ?_)) <;> (blk_simp [idx t] <;> try omega)

/-- The recurrence bias's gradient after the run. -/
theorem final_ba (c : Dev nD) : (dats m 0 c).arrAt 13 (cfgs 0).N = Args.DB (args m c).dza := by
  refine (dats m 0 c).arrAt_eq_of_covers 13 _ (by decide +kernel) fun t hf y => ?_
  blk_simp
  rw [after0_13]
  refine (last_ba m c t ((flush0_13 t).mp hf) y).trans ((sum_B m c Blk.dza _ (fun t y s j h0 h1 d => dza_blk m c t y s j h0 h1 d) y).trans (same2 (Args.DB (args m c).dza) y _ ?_ ?_)) <;> (blk_simp [idx t] <;> try omega)

/-- The input bias's gradient after the run. -/
theorem final_bx (c : Dev nD) : (dats m 0 c).arrAt 14 (cfgs 0).N = Args.DB (args m c).dzi := by
  refine (dats m 0 c).arrAt_eq_of_covers 14 _ (by decide +kernel) fun t hf y => ?_
  blk_simp
  rw [after0_14]
  refine (last_bx m c t ((flush0_14 t).mp hf) y).trans ((sum_B m c Blk.dzi _ (fun t y s j h0 h1 d => dzi_blk m c t y s j h0 h1 d) y).trans (same2 (Args.DB (args m c).dzi) y _ ?_ ?_)) <;> (blk_simp [idx t] <;> try omega)

/-- The decay parameter's gradient after the run. -/
theorem final_lam (c : Dev nD) (h : Real (args m c)) : (dats m 0 c).arrAt 15 (cfgs 0).N = (args m c).DLAM := by
  refine (dats m 0 c).arrAt_eq_of_covers 15 _ (by decide +kernel) fun t hf y => ?_
  blk_simp
  rw [after0_15]
  refine (last_lam m c t ((flush0_15 t).mp hf) y).trans ((sum_L m c h y).trans (same2 (args m c).DLAM y _ ?_ ?_)) <;> (blk_simp [idx t] <;> try omega)

end Cert.DgatesIdeal.Val

end
-- ==== Proof.DgatesMain.lean ====
/- The gates' gradients: the weights' blocks that the host keeps, the whole run, and its agreement with the reference. -/
module

public import proofs.«01_k».proof.Proof.DgatesSum

@[expose] public section

set_option maxRecDepth 16384

noncomputable section

open Idealize.ShloMosaic Idealize.ShloMosaic.TcCoe Idealize.SL.Sem
open Idealize.ShloMosaic.Pipeline (Dat)

namespace Cert.Gate

/-- Two bits whose conjunction is set are both set. -/
theorem and_bits : ∀ a b : BitVec 1, a &&& b = 1#1 → a = 1#1 ∧ b = 1#1 := by decide

/-- A value that compares as other than zero is other than zero. -/
theorem ne_of_une (x : EReal) (h : Ideal.cmp .une x (Ideal.ofBits .f32 0x00000000#32) = 1#1) : x ≠ 0 := by
  rintro rfl
  have e : Ideal.ofBits .f32 0x00000000#32 = (0 : EReal) := by simp [Ideal.ofBits, Ideal.ieee]
  rw [e] at h
  simp [Ideal.cmp] at h

open Cert.Pre_finite_gates in
/-- An array all of whose absolute values are below infinity has real values. -/
theorem all_real {s : Shape} {axes : List (Fin s.rank)} (x : FVec Ideal s .f32) (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant S_ .f32 0x7F800000#32))) (constantI S_ 1 1#1) hr hu j = 1#1) (i : s.Idx) : IsReal (x i) :=
  have : Subsingleton S_.Idx := ⟨fun a b => funext fun k => k.elim0⟩
  isReal_of_below _ (Host.reduce_andi_all _ _ _ _ _ e i)

open Cert.Pre_finite_gates in
/-- An array that compares everywhere as other than zero is nowhere zero. -/
theorem all_ne {s : Shape} {axes : List (Fin s.rank)} (x : FVec Ideal s .f32) (hb : S_.BroadcastsInDim s (![] : Fin 0 → Fin s.rank)) (hr : s.ReducesTo axes S_) (hu : 0 < S_.numel) (j : S_.Idx)
    (e : Host.reduce IntOp.andi (cmpf .une x (broadcastInDim s ![] hb (constant S_ .f32 0x00000000#32))) (constantI S_ 1 1#1) hr hu j = 1#1) (i : s.Idx) : (x i : EReal) ≠ 0 :=
  have : Subsingleton S_.Idx := ⟨fun a b => funext fun k => k.elim0⟩
  ne_of_une _ (Host.reduce_andi_all _ _ _ _ _ e i)

end Cert.Gate

namespace Cert.DgatesIdeal.Val

open Cert.DgatesIdeal Cert.DgatesIdeal.Gen Cert.Gate Cert.DgatesRefIdeal.Val

variable (m : (ℓ : Loc nD τ sig) → Buf (Elt Ideal) ℓ)

/-- The eight diagonal blocks, stacked. -/
def CUT (Y : FVec Ideal S2x8x64x8x64 .f32) : FVec Ideal S2x8x64x64 .f32 :=
  concatenate S2x8x64x64 1 [⟨S2x1x64x64, broadcastInDim S2x1x64x64 ![0, 2, 3] bcast_S2x64x64_S2x1x64x64_0_2_3 (shapeCast S2x64x64 (extractStridedSlice S2x1x64x1x64 ![0, 0, 0, 0, 0] Y slices_S2x8x64x8x64_S2x1x64x1x64_0_0_0_0_0) shapeCasts_S2x1x64x1x64_S2x64x64)⟩,
    ⟨S2x1x64x64, broadcastInDim S2x1x64x64 ![0, 2, 3] bcast_S2x64x64_S2x1x64x64_0_2_3 (shapeCast S2x64x64 (extractStridedSlice S2x1x64x1x64 ![0, 1, 0, 1, 0] Y slices_S2x8x64x8x64_S2x1x64x1x64_0_1_0_1_0) shapeCasts_S2x1x64x1x64_S2x64x64)⟩,
    ⟨S2x1x64x64, broadcastInDim S2x1x64x64 ![0, 2, 3] bcast_S2x64x64_S2x1x64x64_0_2_3 (shapeCast S2x64x64 (extractStridedSlice S2x1x64x1x64 ![0, 2, 0, 2, 0] Y slices_S2x8x64x8x64_S2x1x64x1x64_0_2_0_2_0) shapeCasts_S2x1x64x1x64_S2x64x64)⟩,
    ⟨S2x1x64x64, broadcastInDim S2x1x64x64 ![0, 2, 3] bcast_S2x64x64_S2x1x64x64_0_2_3 (shapeCast S2x64x64 (extractStridedSlice S2x1x64x1x64 ![0, 3, 0, 3, 0] Y slices_S2x8x64x8x64_S2x1x64x1x64_0_3_0_3_0) shapeCasts_S2x1x64x1x64_S2x64x64)⟩,
    ⟨S2x1x64x64, broadcastInDim S2x1x64x64 ![0, 2, 3] bcast_S2x64x64_S2x1x64x64_0_2_3 (shapeCast S2x64x64 (extractStridedSlice S2x1x64x1x64 ![0, 4, 0, 4, 0] Y slices_S2x8x64x8x64_S2x1x64x1x64_0_4_0_4_0) shapeCasts_S2x1x64x1x64_S2x64x64)⟩,
    ⟨S2x1x64x64, broadcastInDim S2x1x64x64 ![0, 2, 3] bcast_S2x64x64_S2x1x64x64_0_2_3 (shapeCast S2x64x64 (extractStridedSlice S2x1x64x1x64 ![0, 5, 0, 5, 0] Y slices_S2x8x64x8x64_S2x1x64x1x64_0_5_0_5_0) shapeCasts_S2x1x64x1x64_S2x64x64)⟩,
    ⟨S2x1x64x64, broadcastInDim S2x1x64x64 ![0, 2, 3] bcast_S2x64x64_S2x1x64x64_0_2_3 (shapeCast S2x64x64 (extractStridedSlice S2x1x64x1x64 ![0, 6, 0, 6, 0] Y slices_S2x8x64x8x64_S2x1x64x1x64_0_6_0_6_0) shapeCasts_S2x1x64x1x64_S2x64x64)⟩,
    ⟨S2x1x64x64, broadcastInDim S2x1x64x64 ![0, 2, 3] bcast_S2x64x64_S2x1x64x64_0_2_3 (shapeCast S2x64x64 (extractStridedSlice S2x1x64x1x64 ![0, 7, 0, 7, 0] Y slices_S2x8x64x8x64_S2x1x64x1x64_0_7_0_7_0) shapeCasts_S2x1x64x1x64_S2x64x64)⟩]
    concatenates_S2x1x64x64_S2x1x64x64_S2x1x64x64_S2x1x64x64_S2x1x64x64_S2x1x64x64_S2x1x64x64_S2x1x64x64_S2x8x64x64_d1

/-- The diagonal blocks of a stack of matrices. -/
def EXT (X : FVec Ideal S2x512x512 .f32) : FVec Ideal S2x8x64x64 .f32 := CUT (shapeCast S2x8x64x8x64 X shapeCasts_S2x512x512_S2x8x64x8x64)

/-- A place of the stacked blocks is the matrix's place in the block. -/
theorem cut_at (Y : FVec Ideal S2x8x64x8x64 .f32) (d : Fin 2) (q : Fin 8) (a b : Fin 64) : CUT Y (ix4 d q a b) = Y (ix5 d q a q b) := by
  match q with
  | 0 => pointwise [CUT]
  | 1 => pointwise [CUT]
  | 2 => pointwise [CUT]
  | 3 => pointwise [CUT]
  | 4 => pointwise [CUT]
  | 5 => pointwise [CUT]
  | 6 => pointwise [CUT]
  | 7 => pointwise [CUT]

/-- A place of the diagonal blocks, in the matrix. -/
theorem ext_at (X : FVec Ideal S2x512x512 .f32) (d : Fin 2) (q : Fin 8) (a b : Fin 64) : EXT X (ix4 d q a b) = X (ix3 d ⟨q.val * 64 + a.val, by omega⟩ ⟨q.val * 64 + b.val, by omega⟩) := by
  refine (cut_at _ d q a b).trans ?_
  pointwise []

/-- The blocks of the products are the weight's gradient. -/
theorem ext_acc (a : Args) (g : Fin 2 → Fin 4096 → Fin 512 → EReal) : EXT (ACC a g) = a.DW g := by
  funext i
  obtain ⟨d, q, u, v, rfl⟩ : ∃ (d : Fin 2) (q : Fin 8) (u v : Fin 64), i = ix4 d q u v := ⟨i 0, i 1, i 2, i 3, (ix4_eta i).symm⟩
  exact ext_at (ACC a g) d q u v

/-- What the host leaves of the recurrence weights' products. -/
theorem tail_wa (c : Dev nD) : Pipeline.afterTail₀ cfgs (dats m) 0 (V0 m) [hostOps1] c main_v50 = EXT ((dats m 0 c).arrAt 11 (cfgs 0).N) := by
  unfold Pipeline.afterTail₀
  simp only [List.flatten_cons, List.flatten_nil, List.append_nil]
  after_results
  exact congrArg (fun X => EXT X) (Pipeline.withArrays_arr spec0 (by decide) c (V0 m c) (fun w => (dats m 0 c).arrAt w (cfgs 0).N) 11)

/-- What the host leaves of the input weights' products. -/
theorem tail_wx (c : Dev nD) : Pipeline.afterTail₀ cfgs (dats m) 0 (V0 m) [hostOps1] c main_v76 = EXT ((dats m 0 c).arrAt 12 (cfgs 0).N) := by
  unfold Pipeline.afterTail₀
  simp only [List.flatten_cons, List.flatten_nil, List.append_nil]
  after_results
  exact congrArg (fun X => EXT X) (Pipeline.withArrays_arr spec0 (by decide) c (V0 m c) (fun w => (dats m 0 c).arrAt w (cfgs 0).N) 12)

/-- The kernel's run: the six results are the reference's functions of the arguments, and the arguments are as they were. -/
theorem run (g : Dev nD → PrngReg) (hl : ∀ c : Dev nD, Real (args m c)) :
    θ_run (defs (F := Ideal)) (onTc (τ := τ) (main (F := Ideal))) ⟨m, fun _ => 0, g⟩ fun r => ∀ c : Dev nD,
      r.2.mem ((c.tc : Thread nD τ).loc main_v24_0) = (args m c).DXC
      ∧ r.2.mem ((c.tc : Thread nD τ).loc main_v50) = (args m c).DW (args m c).dza
      ∧ r.2.mem ((c.tc : Thread nD τ).loc main_v24_3) = Args.DB (args m c).dza
      ∧ r.2.mem ((c.tc : Thread nD τ).loc main_v76) = (args m c).DW (args m c).dzi
      ∧ r.2.mem ((c.tc : Thread nD τ).loc main_v24_4) = Args.DB (args m c).dzi
      ∧ r.2.mem ((c.tc : Thread nD τ).loc main_v24_5) = (args m c).DLAM
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run _ _ _).mono (fun r h c => ?_) (θ_run_and (Cert.DgatesIdeal.Gen.run_main m g) (Cert.DgatesIdeal.Gen.unchanged m g))
  obtain ⟨h, hu⟩ := h
  exact ⟨((h c).1 10).trans (final_rows m c),
    ((h c).2 main_v50 (Pipeline.mem_restRefs_of main_v50 (by decide) (by decide))).trans ((tail_wa m c).trans ((congrArg EXT (final_wa m c)).trans (ext_acc _ _))),
    ((h c).1 13).trans (final_ba m c),
    ((h c).2 main_v76 (Pipeline.mem_restRefs_of main_v76 (by decide) (by decide))).trans ((tail_wx m c).trans ((congrArg EXT (final_wx m c)).trans (ext_acc _ _))),
    ((h c).1 14).trans (final_bx m c), ((h c).1 15).trans (final_lam m c (hl c)), hu c⟩

/-- The arguments are real, and the decay parameter is nowhere zero, when the precondition holds. -/
theorem real_of_pre (hpre : Cert.Pre_DgatesIdeal_finite_gates (hPre_finite_gates := Cert.Pre_finite_gates.facts) m) (c : Dev nD) : Real (args m c) := by
  have h := congrFun (hpre c) (Shape.Idx.first Cert.Pre_finite_gates.facts.h_S_)
  obtain ⟨h, hn⟩ := Cert.Gate.and_bits _ _ h
  obtain ⟨h, h9⟩ := Cert.Gate.and_bits _ _ h
  obtain ⟨h, h8⟩ := Cert.Gate.and_bits _ _ h
  obtain ⟨h, h7⟩ := Cert.Gate.and_bits _ _ h
  obtain ⟨h, h6⟩ := Cert.Gate.and_bits _ _ h
  obtain ⟨h, h5⟩ := Cert.Gate.and_bits _ _ h
  obtain ⟨h, h4⟩ := Cert.Gate.and_bits _ _ h
  obtain ⟨h, h3⟩ := Cert.Gate.and_bits _ _ h
  obtain ⟨h, h2⟩ := Cert.Gate.and_bits _ _ h
  obtain ⟨h0, h1⟩ := Cert.Gate.and_bits _ _ h
  exact {
    x := all_real _ _ _ _ _ h0
    da := fun d => match d with
      | 0 => all_real _ _ _ _ _ h1
      | 1 => all_real _ _ _ _ _ h3
    du := fun d => match d with
      | 0 => all_real _ _ _ _ _ h2
      | 1 => all_real _ _ _ _ _ h4
    wa := all_real _ _ _ _ _ h5
    ba := all_real _ _ _ _ _ h6
    wx := all_real _ _ _ _ _ h7
    bx := all_real _ _ _ _ _ h8
    l := all_real _ _ _ _ _ h9
    ne := all_ne _ _ _ _ _ hn }

end Cert.DgatesIdeal.Val

namespace Cert.Proof

open Cert.DgatesIdeal.Val Cert.DgatesRefIdeal.Val

/-- With finite arguments and a decay parameter nowhere zero, the kernel's gradients through the gates are the reference's. -/
theorem dgates_algebraic : Cert.algebraic_DgatesIdeal_DgatesRefIdeal_pre_finite_gates (hDgatesIdeal := Cert.DgatesIdeal.Gen.facts) (hDgatesRefIdeal := Cert.DgatesRefIdeal.Gen.facts)
    (hPre_finite_gates := Cert.Pre_finite_gates.facts) := by
  intro m g m' g' hpre hagree
  have e : ∀ c, argsR m' c = args m c := fun c => by
    obtain ⟨e0, e1, e2, e3, e4, e5, e6, e7, e8, e9⟩ := hagree c
    unfold argsR args
    congr 1
  refine ⟨_, _, _, _, _, _, Cert.DgatesIdeal.Val.run m g (fun c => real_of_pre m hpre c), ?_⟩
  refine (θ_run _ _ _).mono (fun r h c => ?_) (Cert.DgatesRefIdeal.Val.run m' g' (fun c i => by rw [e c]; exact (real_of_pre m hpre c).l i))
  have h' := h c
  rw [e c] at h'
  exact h'

/-- The reference's frame. -/
theorem dgates_ref_frame : Cert.quiescent_DgatesRefIdeal (hDgatesRefIdeal := Cert.DgatesRefIdeal.Gen.facts) := by
  intro m g _
  exact (θ_run _ _ _).mono (fun r h => ⟨fun c => (h c).2.2.2.2.2.2, sem_eq_zero_of_no_sems (by decide) r.2⟩) (Cert.DgatesRefIdeal.Value.run m g)

end Cert.Proof

end
-- ==== Proof.PadUp.lean ====
/- A block of sixteen rows written into one of two zero matrices, and the sum of a row against what comes out. -/
module

public import Idealize.ShloMosaic.Lib.Pipeline.ValueKit
public import Idealize.ShloMosaic.Lib.KernelVsHost
public import Idealize.ShloMosaic.Lib.Pointwise
public import Idealize.ShloMosaic.Lib.Routing.OpsSet

@[expose] public section

noncomputable section

namespace Cert.PadUp

open Idealize.ShloMosaic Idealize.ShloMosaic.Routing

/-- Where a row block's element lands: in the matrix that the first word names, as many rows down as the second says. -/
theorem rows_land (d : ScatterDims ⟨3, ![2, 128, 512]⟩ ⟨1, ![2]⟩ ⟨2, ![16, 512]⟩) (hu : d.updateWindowDims = [0, 1]) (hi : d.insertedWindowDims = [0])
    (hs : d.scatterDimsToOperandDims = [0, 1]) (hv : d.indexVectorDim = 0) (w : IVec ⟨1, ![2]⟩ 32) (k : (⟨2, ![16, 512]⟩ : Shape).Idx) (p : Fin 2) (q : Fin 128) (j : Fin 512) :
    d.resultIdx? k w = some (ix3 p q j) ↔ (w (ix1 0)).toInt = (p.val : Int) ∧ (w (ix1 1)).toInt + ((k 0).val : Int) = (q.val : Int) ∧ ((k 1).val : Int) = (j.val : Int) := by
  obtain ⟨u, i, s, v, wf⟩ := d
  dsimp only at hu hi hs hv
  subst hu hi hs hv
  rw [resultIdx?_eq_some]
  have s0 : ScatterDims.start ⟨_, _, _, _, wf⟩ k w 0 = (w (ix1 0)).toInt := by
    unfold ScatterDims.start
    rw [dif_pos (show (0 : Fin 3) ∈ ([0, 1] : List (Fin 3)) by decide)]
    congr 2
    funext b
    obtain rfl : b = 0 := Subsingleton.elim _ _
    rfl
  have s1 : ScatterDims.start ⟨_, _, _, _, wf⟩ k w 1 = (w (ix1 1)).toInt := by
    unfold ScatterDims.start
    rw [dif_pos (show (1 : Fin 3) ∈ ([0, 1] : List (Fin 3)) by decide)]
    congr 2
    funext b
    obtain rfl : b = 0 := Subsingleton.elim _ _
    rfl
  have s2 : ScatterDims.start ⟨_, _, _, _, wf⟩ k w 2 = 0 := by
    unfold ScatterDims.start
    rw [dif_neg (show ¬ (2 : Fin 3) ∈ ([0, 1] : List (Fin 3)) by decide)]
  have w0 : ScatterDims.window ⟨_, _, _, _, wf⟩ k 0 = 0 := rfl
  have w1 : ScatterDims.window ⟨_, _, _, _, wf⟩ k 1 = (k 0).val := rfl
  have w2 : ScatterDims.window ⟨_, _, _, _, wf⟩ k 2 = (k 1).val := rfl
  constructor
  · intro h
    have h0 := h 0; have h1 := h 1; have h2 := h 2
    rw [s0, w0] at h0; rw [s1, w1] at h1; rw [s2, w2] at h2
    refine ⟨?_, h1, ?_⟩
    · exact (add_zero _).symm.trans h0
    · exact (zero_add _).symm.trans h2
  · intro h a
    match a with
    | 0 => exact (congrArg₂ (fun x (y : Nat) => x + (y : Int)) s0 w0).trans ((add_zero _).trans h.1)
    | 1 => exact (congrArg₂ (fun x (y : Nat) => x + (y : Int)) s1 w1).trans h.2.1
    | 2 => exact (congrArg₂ (fun x (y : Nat) => x + (y : Int)) s2 w2).trans ((zero_add _).trans h.2.2)

/-- The array after the write: the block's rows there, what was before elsewhere. -/
theorem rows_set {α : Type} (d : ScatterDims ⟨3, ![2, 128, 512]⟩ ⟨1, ![2]⟩ ⟨2, ![16, 512]⟩) (hu : d.updateWindowDims = [0, 1]) (hi : d.insertedWindowDims = [0])
    (hs : d.scatterDimsToOperandDims = [0, 1]) (hv : d.indexVectorDim = 0) (w : IVec ⟨1, ![2]⟩ 32) (x : (⟨3, ![2, 128, 512]⟩ : Shape).Idx → α) (u : (⟨2, ![16, 512]⟩ : Shape).Idx → α)
    (e : Fin 2) (r : Nat) (h0 : (w (ix1 0)).toInt = (e.val : Int)) (h1 : (w (ix1 1)).toInt = (r : Int)) (p : Fin 2) (q : Fin 128) (j : Fin 512) :
    Host.scatter d (fun _ b => b) x w u (ix3 p q j) = if h : p = e ∧ r ≤ q.val ∧ q.val < r + 16 then u (ix2 ⟨q.val - r, by omega⟩ j) else x (ix3 p q j) := by
  have land := rows_land d hu hi hs hv w
  by_cases h : p = e ∧ r ≤ q.val ∧ q.val < r + 16
  · rw [dif_pos h]
    refine scatter_set_hit d x w u _ _ (fun k hk => ?_) (ix2 ⟨q.val - r, by omega⟩ j) ((land _ p q j).2 ⟨?_, ?_, rfl⟩)
    · have l := (land k p q j).1 hk
      rw [h1] at l
      refine (congrArg u (eq_ix2 k)).trans (congrArg₂ (fun a b => u (ix2 a b)) (Fin.ext ?_) (Fin.ext ?_))
      · have := l.2.1
        show (k 0).val = q.val - r
        omega
      · exact_mod_cast l.2.2
    · rw [h0, h.1]
    · rw [h1]
      show (r : Int) + ((q.val - r : Nat) : Int) = _
      omega
  · rw [dif_neg h]
    refine scatter_set_miss d x w u _ fun k hk => h ?_
    have l := (land k p q j).1 hk
    rw [h0, h1] at l
    have hk0 : (k 0).val < 16 := (k 0).isLt
    refine ⟨Fin.ext ?_, ?_, ?_⟩ <;> omega

/-- A row of 128 against a column that is zero outside sixteen rows: the sum over the sixteen. -/
theorem sum_rows (r : Nat) (hr : r + 16 ≤ 128) (f : Fin 128 → EReal) (g : Fin 16 → EReal) (w : Fin 128 → EReal)
    (hin : ∀ k : Fin 16, w ⟨r + k.val, by omega⟩ = g k) (hout : ∀ k : Fin 128, ¬ (r ≤ k.val ∧ k.val < r + 16) → w k = 0) :
    ∑ k : Fin 128, f k * w k = ∑ k : Fin 16, f ⟨r + k.val, by omega⟩ * g k := by
  refine Eq.trans ?_ (Finset.sum_congr rfl fun k _ => congrArg (_ * ·) (hin k))
  refine (Finset.sum_of_injOn (fun k : Fin 16 => (⟨r + k.val, by omega⟩ : Fin 128)) ?_ (fun _ _ => Finset.mem_coe.2 (Finset.mem_univ _)) (fun k _ hk => ?_) (fun _ _ => rfl)).symm
  · intro a _ b _ hab
    have := congrArg Fin.val hab
    dsimp only at this
    exact Fin.ext (by omega)
  · rw [hout k fun hh => hk ⟨⟨k.val - r, by omega⟩, Finset.mem_coe.2 (Finset.mem_univ _), Fin.ext (by show r + (k.val - r) = k.val; omega)⟩, mul_zero]

end Cert.PadUp

end
-- ==== Proof.GlaPre.lean ====
/- The linear attention's forward preparation: the scaled queries and the logarithms of the gates of both directions. -/
module

public import proofs.«01_k».proof.Proof.Gen.GlaPreIdeal.Frame
public import proofs.«01_k».proof.Proof.Gen.GlaPreRefIdeal.Run
public import Idealize.ShloMosaic.Lib.Pipeline.ValueKit
public import Idealize.ShloMosaic.Lib.Claim
public import proofs.«01_k».proof.Proof.Gate
public import proofs.«01_k».proof.Proof.PadUp
public import Idealize.ShloMosaic.Lib.Quiescent
public import proofs.«01_k».proof.Defs

@[expose] public section

set_option maxRecDepth 16384

noncomputable section

open Idealize.ShloMosaic Idealize.ShloMosaic.TcCoe Idealize.SL.Sem
open Idealize.ShloMosaic.Pipeline (Dat)

namespace Cert.GlaPreRefIdeal.Val

open Cert.GlaPreRefIdeal Cert.GlaPreRefIdeal.Gen Cert.Gate

/-- The scaled queries. -/
def Q (X : FVec Ideal S4096x3200 .f32) : FVec Ideal S4096x512 .f32 :=
  mulf (extractStridedSlice S4096x512 ![0, 0] X slices_S4096x3200_S4096x512_0_0) (broadcastInDim S4096x512 ![] bcast_S_S4096x512 (constant S_ .f32 0x3DB504F3#32))

/-- A scaled query, at a place. -/
theorem q_at (X : FVec Ideal S4096x3200 .f32) (i : S4096x512.Idx) : Q X i = X (ix2 (i 0) ⟨(i 1).val, by have := (i 1).isLt; simp at this; omega⟩) * Ideal.ofBits .f32 0x3DB504F3#32 := by
  pointwise [Q]

/-- The forward direction's gate before its logistic. -/
def Z0 (X : FVec Ideal S4096x3200 .f32) (U : FVec Ideal S2x16x512 .f32) (B : FVec Ideal S2x512 .f32) : FVec Ideal S4096x512 .f32 :=
  addf (Host.dotGeneral dot_S4096x16_S16x512_S4096x512_1_0_0_1_n_n none (extractStridedSlice S4096x16 ![0, 3072] X slices_S4096x3200_S4096x16_0_3072)
      (shapeCast _ (extractStridedSlice S1x16x512 ![0, 0, 0] U slices_S2x16x512_S1x16x512_0_0_0) shapeCasts_S1x16x512_S16x512))
    (broadcastInDim S4096x512 ![0, 1] bcast_S1x512_S4096x512_0_1 (broadcastInDim S1x512 ![1] bcast_S512_S1x512_1
      (shapeCast _ (extractStridedSlice S1x512 ![0, 0] B slices_S2x512_S1x512_0_0) shapeCasts_S1x512_S512)))

/-- The backward direction's. -/
def Z1 (X : FVec Ideal S4096x3200 .f32) (U : FVec Ideal S2x16x512 .f32) (B : FVec Ideal S2x512 .f32) : FVec Ideal S4096x512 .f32 :=
  addf (Host.dotGeneral dot_S4096x16_S16x512_S4096x512_1_0_0_1_n_n none (extractStridedSlice S4096x16 ![0, 3088] X slices_S4096x3200_S4096x16_0_3088)
      (shapeCast _ (extractStridedSlice S1x16x512 ![1, 0, 0] U slices_S2x16x512_S1x16x512_1_0_0) shapeCasts_S1x16x512_S16x512))
    (broadcastInDim S4096x512 ![0, 1] bcast_S1x512_S4096x512_0_1 (broadcastInDim S1x512 ![1] bcast_S512_S1x512_1
      (shapeCast _ (extractStridedSlice S1x512 ![1, 0] B slices_S2x512_S1x512_1_0) shapeCasts_S1x512_S512)))

/-- One column of a gate before its logistic: sixteen low-rank columns of the row against the direction's matrix, with the bias. -/
def zAt (X : FVec Ideal S4096x3200 .f32) (U : FVec Ideal S2x16x512 .f32) (B : FVec Ideal S2x512 .f32) (d : Fin 2) (s : Fin 4096) (j : Fin 512) : EReal :=
  (∑ k : Fin 16, X (ix2 s ⟨3072 + (d.val * 16 + k.val), by omega⟩) * U (ix3 d k j)) + B (ix2 d j)

/-- The forward gate, at a place. -/
theorem z0_at (X : FVec Ideal S4096x3200 .f32) (U : FVec Ideal S2x16x512 .f32) (B : FVec Ideal S2x512 .f32) (i : S4096x512.Idx) : Z0 X U B i = zAt X U B 0 (i 0) (i 1) := by
  refine Eq.trans ?_ (congrArg (· + B (ix2 0 (i 1))) (Finset.sum_congr rfl fun k _ => congrArg (fun t => X (ix2 (i 0) t) * U (ix3 0 k (i 1))) (show (⟨3072 + k.val, by omega⟩ : Fin 3200) = ⟨3072 + (((0 : Fin 2)).val * 16 + k.val), by simp; omega⟩ from Fin.ext (by simp; try omega))))
  pointwise [Z0]

/-- The backward gate, at a place. -/
theorem z1_at (X : FVec Ideal S4096x3200 .f32) (U : FVec Ideal S2x16x512 .f32) (B : FVec Ideal S2x512 .f32) (i : S4096x512.Idx) : Z1 X U B i = zAt X U B 1 (i 0) (i 1) := by
  refine Eq.trans ?_ (congrArg (· + B (ix2 1 (i 1))) (Finset.sum_congr rfl fun k _ => congrArg (fun t => X (ix2 (i 0) t) * U (ix3 1 k (i 1))) (show (⟨3088 + k.val, by omega⟩ : Fin 3200) = ⟨3072 + (((1 : Fin 2)).val * 16 + k.val), by simp; omega⟩ from Fin.ext (by simp; try omega))))
  pointwise [Z1]

/-- The constant zero. -/
def zero : FVec Ideal S4096x512 .f32 := broadcastInDim S4096x512 ![] bcast_S_S4096x512 (constant S_ .f32 0x00000000#32)

/-- The gate's logarithm over sixteen: the negated softplus of the negated gate. -/
def LF (Z : FVec Ideal S4096x512 .f32) : FVec Ideal S4096x512 .f32 :=
  Host.divf (Host.negf (select (cmpf .une (subf (Host.negf Z) zero) (subf (Host.negf Z) zero)) (addf (Host.negf Z) zero)
    (addf (maximumf (Host.negf Z) zero) (Host.log1p (Host.exp (Host.negf (Host.absf (subf (Host.negf Z) zero))))))))
    (broadcastInDim S4096x512 ![] bcast_S_S4096x512 (constant S_ .f32 0x41800000#32))

/-- The kernel's spelling of it. -/
def lfOf (z : EReal) : EReal := (0 - softK z) * Ideal.ofBits .f32 0x3D800000#32

/-- The word of sixteen. -/
theorem word_sixteen : Ideal.ofBits .f32 0x41800000#32 = ((16 : ℝ) : EReal) := by
  simp [Ideal.ofBits, Ideal.ieee]; rw [← EReal.coe_mul]; norm_num

/-- The word of a sixteenth. -/
theorem word_sixteenth : Ideal.ofBits .f32 0x3D800000#32 = ((1 / 16 : ℝ) : EReal) := by
  simp [Ideal.ofBits, Ideal.ieee]; rw [← EReal.coe_mul]; norm_num

/-- Division by sixteen is multiplication by a sixteenth. -/
theorem div_sixteen (x : EReal) : Ideal.div x (Ideal.ofBits .f32 0x41800000#32) = x * Ideal.ofBits .f32 0x3D800000#32 := by
  rw [word_sixteen, word_sixteenth, Ideal.div, if_neg (by norm_num), ← EReal.coe_inv]
  norm_num

/-- Both spellings agree at every value. -/
theorem lf_at (Z : FVec Ideal S4096x512 .f32) (i : S4096x512.Idx) : LF Z i = lfOf (Z i) := by
  have e : max (-(Z i : EReal)) 0 + Ideal.log1p (Ideal.exp (-(max (-(Z i : EReal) - 0) (-(-(Z i : EReal) - 0))))) = softK (Z i) := by
    rw [softK, sub_zero, zero_sub, zero_sub]
  rw [lfOf, ← div_sixteen, ← e, zero_sub]
  pointwise [LF, zero]
  rw [if_neg (fun h => h rfl)]
  rfl

/-- The reference's run: the three results, and the arguments as they were. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v4) = Q (m ((c.tc : Thread nD τ).loc main_arg0))
      ∧ r.2.mem ((c.tc : Thread nD τ).loc main_v15) = LF (Z0 (m ((c.tc : Thread nD τ).loc main_arg0)) (m ((c.tc : Thread nD τ).loc main_arg1)) (m ((c.tc : Thread nD τ).loc main_arg2)))
      ∧ r.2.mem ((c.tc : Thread nD τ).loc main_v26) = LF (Z1 (m ((c.tc : Thread nD τ).loc main_arg0)) (m ((c.tc : Thread nD τ).loc main_arg1)) (m ((c.tc : Thread nD τ).loc main_arg2)))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2)) :=
  (θ_run _ _ _).mono (fun r h c => h c) (Cert.GlaPreRefIdeal.Value.run m g)

end Cert.GlaPreRefIdeal.Val

namespace Cert.GlaPreIdeal.Val

open Cert.GlaPreIdeal Cert.GlaPreIdeal.Gen Cert.Gate Cert.GlaPreRefIdeal.Val

variable (m : (ℓ : Loc nD τ sig) → Buf (Elt Ideal) ℓ)

/-- Which block each window holds at each point. -/
theorem idx : ∀ t : Fin cfg0.N, win0_0.index t = ![t.val, 0] ∧ win0_1.index t = ![t.val, 24] ∧ win0_2.index t = ![0, 0, 0]
    ∧ win0_3.index t = ![0, 0] ∧ win0_4.index t = ![t.val, 0] ∧ win0_5.index t = ![t.val, 0] ∧ win0_6.index t = ![t.val, 0] :=
  (by decide +kernel : ∀ t : Fin grid0.N, _)

/-- Where a block of rows goes: two words. -/
def at2 (a b : BitVec 32) : IVec S2 32 :=
  concatenate S2 0 [⟨S1, (broadcastInDim S1 ![] bcast_S_S1 (constantI S_ 32 a) : IVec S1 32)⟩, ⟨S1, (broadcastInDim S1 ![] bcast_S_S1 (constantI S_ 32 b) : IVec S1 32)⟩] concatenates_S1_S1_S2_d0

/-- The first word. -/
theorem at2_fst (a b : BitVec 32) : at2 a b (ix1 0) = a := by
  pointwise [at2]
/-- The second word. -/
theorem at2_snd (a b : BitVec 32) : at2 a b (ix1 1) = b := by
  pointwise [at2]

/-- The two matrices with their sixteen rows in place, that the host lays out. -/
def PAD (U : FVec Ideal S2x16x512 .f32) : FVec Ideal S2x128x512 .f32 :=
  Host.scatter scatter_S2x128x512_S2_S16x512_01_0_01_0 (fun _ b => b)
    (Host.scatter scatter_S2x128x512_S2_S16x512_01_0_01_0 (fun _ b => b) (broadcastInDim S2x128x512 ![] bcast_S_S2x128x512 (constant S_ .f32 0x00000000#32)) (at2 0#32 0#32)
      (shapeCast S16x512 (extractStridedSlice S1x16x512 ![0, 0, 0] U slices_S2x16x512_S1x16x512_0_0_0) shapeCasts_S1x16x512_S16x512)) (at2 1#32 16#32)
    (shapeCast S16x512 (extractStridedSlice S1x16x512 ![1, 0, 0] U slices_S2x16x512_S1x16x512_1_0_0) shapeCasts_S1x16x512_S16x512)

/-- The host's array is that. -/
theorem v12 (c : Dev nD) : V m c main_v12 = PAD (m ((c : Thread nD τ).loc main_arg1)) := by
  unfold V hostOps0
  after_results
  rfl

/-- Zero everywhere before the rows are written. -/
theorem zeros_at (i : S2x128x512.Idx) : (broadcastInDim S2x128x512 ![] bcast_S_S2x128x512 (constant S_ .f32 0x00000000#32) : FVec Ideal S2x128x512 .f32) i = (0 : EReal) := by
  pointwise []

/-- A direction's row block. -/
theorem half0 (U : FVec Ideal S2x16x512 .f32) (k : Fin 16) (j : Fin 512) :
    shapeCast S16x512 (extractStridedSlice S1x16x512 ![0, 0, 0] U slices_S2x16x512_S1x16x512_0_0_0) shapeCasts_S1x16x512_S16x512 (ix2 k j) = U (ix3 0 k j) := by
  pointwise []
/-- The other direction's. -/
theorem half1 (U : FVec Ideal S2x16x512 .f32) (k : Fin 16) (j : Fin 512) :
    shapeCast S16x512 (extractStridedSlice S1x16x512 ![1, 0, 0] U slices_S2x16x512_S1x16x512_1_0_0) shapeCasts_S1x16x512_S16x512 (ix2 k j) = U (ix3 1 k j) := by
  pointwise []

/-- An element of the laid-out matrices. -/
theorem pad_at (U : FVec Ideal S2x16x512 .f32) (d : Fin 2) (k : Fin 128) (j : Fin 512) :
    PAD U (ix3 d k j) = if h : d = 1 ∧ 16 ≤ k.val ∧ k.val < 16 + 16 then U (ix3 1 ⟨k.val - 16, by omega⟩ j)
      else if h : d = 0 ∧ 0 ≤ k.val ∧ k.val < 0 + 16 then U (ix3 0 ⟨k.val - 0, by omega⟩ j) else 0 := by
  refine (PadUp.rows_set scatter_S2x128x512_S2_S16x512_01_0_01_0 rfl rfl rfl rfl (at2 1#32 16#32) _ _ 1 16 (by rw [at2_fst]; rfl) (by rw [at2_snd]; rfl) d k j).trans ?_
  refine dite_congr rfl (fun h => half1 U _ j) fun h => ?_
  refine (PadUp.rows_set scatter_S2x128x512_S2_S16x512_01_0_01_0 rfl rfl rfl rfl (at2 0#32 0#32) _ _ 0 0 (by rw [at2_fst]; rfl) (by rw [at2_snd]; rfl) d k j).trans ?_
  exact dite_congr rfl (fun h => half0 U _ j) fun h => zeros_at _

/-- A row of 128 columns against a column of them meets sixteen rows only. -/
theorem pad_sum (U : FVec Ideal S2x16x512 .f32) (d : Fin 2) (j : Fin 512) (f : Fin 128 → EReal) :
    ∑ k : Fin 128, f k * PAD U (ix3 d k j) = ∑ k : Fin 16, f ⟨d.val * 16 + k.val, by omega⟩ * U (ix3 d k j) := by
  refine PadUp.sum_rows (d.val * 16) (by omega) f (fun k => U (ix3 d k j)) (fun k => PAD U (ix3 d k j)) (fun k => ?_) fun k hk => ?_
  · refine (pad_at U d _ j).trans ?_
    match d with
    | 0 =>
      rw [dif_neg (fun h => absurd h.1 (by decide)), dif_pos ⟨rfl, Nat.zero_le _, by show 0 * 16 + k.val < _; omega⟩]
      exact congrArg (fun t => U (ix3 0 t j)) (Fin.ext (show 0 * 16 + k.val - 0 = k.val by omega))
    | 1 =>
      rw [dif_pos ⟨rfl, by show 16 ≤ 1 * 16 + k.val; omega, by show 1 * 16 + k.val < _; omega⟩]
      exact congrArg (fun t => U (ix3 1 t j)) (Fin.ext (show 1 * 16 + k.val - 16 = k.val by omega))
  · refine (pad_at U d k j).trans ?_
    rw [dif_neg, dif_neg]
    · rintro ⟨rfl, h⟩
      exact hk (by simpa using h)
    · rintro ⟨rfl, h⟩
      exact hk (by simpa using h)

/-- A gate before its logistic, as the body computes it. -/
def zK (x : Vec Ideal S512x128 .f32) (w : Vec Ideal S2x128x512 .f32) (b : Vec Ideal S2x512 .f32) (d : Fin 2) (j : S512x512.Idx) : EReal :=
  (∑ k : Fin 128, x (ix2 (j 0) k) * w (ix3 d k (j 1))) + b (ix2 d (j 1))

/-- The stored query. -/
theorem q_store (x : Vec Ideal S512x512 .f32) (j : S512x512.Idx) : k0_pay3 x j = x j * Ideal.ofBits .f32 0x3DB504F3#32 := by
  pointwise [k0_pay3]

/-- The stored forward logarithm. -/
theorem lf_forward (x : Vec Ideal S512x128 .f32) (w : Vec Ideal S2x128x512 .f32) (b : Vec Ideal S2x512 .f32) (j : S512x512.Idx) :
    k0_pay4 x w b j = lfOf (zK x w b 0 j) := by
  pointwise [k0_pay4, k0_pay2, lfOf, softK, zK]
  rfl

/-- The stored backward logarithm. -/
theorem lf_backward (x : Vec Ideal S512x128 .f32) (w : Vec Ideal S2x128x512 .f32) (b : Vec Ideal S2x512 .f32) (j : S512x512.Idx) :
    k0_pay1 (k0_pay5 x w b) k0_pay6 j = lfOf (zK x w b 1 j) := by
  pointwise [k0_pay1, k0_pay5, k0_pay6, k0_pay2, lfOf, softK, zK]
  rfl

/-- The body's gate before its logistic is the reference's. -/
theorem z_at (c : Dev nD) (t : Fin cfg0.N) (d : Fin 2) (y : S512x512.Idx) (s : Fin 4096) (j : Fin 512) (h0 : s.val = t.val * 512 + (y 0).val) (h1 : j.val = (y 1).val) :
    zK (iblk m c 1 t) (iblk m c 2 t) (iblk m c 3 t) d y = zAt (m ((c : Thread nD τ).loc main_arg0)) (m ((c : Thread nD τ).loc main_arg1)) (m ((c : Thread nD τ).loc main_arg2)) d s j := by
  have e : (iblk m c 2 t : Vec Ideal S2x128x512 .f32) = PAD (m ((c : Thread nD τ).loc main_arg1)) := by
    funext z
    blk_ext [iblk, v12 m c, idx t]
  obtain rfl : j = y 1 := Fin.ext h1
  rw [zK, e]
  refine (congrArg (· + _) (pad_sum _ d (y 1) fun k => iblk m c 1 t (ix2 (y 0) k))).trans ?_
  unfold zAt
  blk_point [iblk, V, idx t]

/-- The query's block is the array's. -/
theorem query_at (c : Dev nD) (t : Fin cfg0.N) (y : S512x512.Idx) (s : Fin 4096) (j : Fin 3200) (h0 : s.val = t.val * 512 + (y 0).val) (h1 : j.val = (y 1).val) :
    (X0_0 m c t : Vec Ideal S512x512 .f32) y = m ((c : Thread nD τ).loc main_arg0) (ix2 s j) := by
  unfold X0_0 Pipeline.Window.fill
  rw [dif_pos (moved0_0 t y)]
  blk_point [iblk, V, idx t]

/-- The scaled queries after the run. -/
theorem final_q (c : Dev nD) : (dats m 0 c).arrAt 4 (cfgs 0).N = Q (m ((c : Thread nD τ).loc main_arg0)) := by
  refine (dats m 0 c).arrAt_eq_of_covers 4 _ (by decide +kernel) fun t _ y => ?_
  blk_simp
  rw [after0_4]; unfold outsAt0 out0_A_4 kernelRun0_A; frame_out
  refine (q_store _ y).trans ((congrArg (fun z : EReal => z * Ideal.ofBits .f32 0x3DB504F3#32) (query_at m c t y _ _ ?_ ?_)).trans (q_at _ _).symm) <;> (blk_simp [idx t] <;> try omega)

/-- The forward logarithms after the run. -/
theorem final_f (c : Dev nD) : (dats m 0 c).arrAt 5 (cfgs 0).N = LF (Z0 (m ((c : Thread nD τ).loc main_arg0)) (m ((c : Thread nD τ).loc main_arg1)) (m ((c : Thread nD τ).loc main_arg2))) := by
  refine (dats m 0 c).arrAt_eq_of_covers 5 _ (by decide +kernel) fun t _ y => ?_
  blk_simp
  rw [after0_5]; unfold outsAt0 out0_A_5 kernelRun0_A; frame_out
  refine (lf_forward _ _ _ y).trans ((congrArg lfOf ((z_at m c t 0 y _ _ ?_ ?_).trans (z0_at _ _ _ _).symm)).trans (lf_at _ _).symm) <;> (blk_simp [idx t] <;> try omega)

/-- The backward logarithms after the run. -/
theorem final_b (c : Dev nD) : (dats m 0 c).arrAt 6 (cfgs 0).N = LF (Z1 (m ((c : Thread nD τ).loc main_arg0)) (m ((c : Thread nD τ).loc main_arg1)) (m ((c : Thread nD τ).loc main_arg2))) := by
  refine (dats m 0 c).arrAt_eq_of_covers 6 _ (by decide +kernel) fun t _ y => ?_
  blk_simp
  rw [after0_6]; unfold outsAt0 out0_A_6 kernelRun0_A; frame_out
  refine (lf_backward _ _ _ y).trans ((congrArg lfOf ((z_at m c t 1 y _ _ ?_ ?_).trans (z1_at _ _ _ _).symm)).trans (lf_at _ _).symm) <;> (blk_simp [idx t] <;> try omega)

/-- The kernel's run: the three results are the reference's functions of the arguments, and the arguments are as they were. -/
theorem run (g : Dev nD → PrngReg) :
    θ_run (defs (F := Ideal)) (onTc (τ := τ) (main (F := Ideal))) ⟨m, fun _ => 0, g⟩ fun r => ∀ c : Dev nD,
      r.2.mem ((c.tc : Thread nD τ).loc main_v13_0) = Q (m ((c.tc : Thread nD τ).loc main_arg0))
      ∧ r.2.mem ((c.tc : Thread nD τ).loc main_v13_1) = LF (Z0 (m ((c.tc : Thread nD τ).loc main_arg0)) (m ((c.tc : Thread nD τ).loc main_arg1)) (m ((c.tc : Thread nD τ).loc main_arg2)))
      ∧ r.2.mem ((c.tc : Thread nD τ).loc main_v13_2) = LF (Z1 (m ((c.tc : Thread nD τ).loc main_arg0)) (m ((c.tc : Thread nD τ).loc main_arg1)) (m ((c.tc : Thread nD τ).loc main_arg2)))
      ∧ r.2.mem ((c.tc : Thread nD τ).loc main_arg0) = (m ((c.tc : Thread nD τ).loc main_arg0))
      ∧ r.2.mem ((c.tc : Thread nD τ).loc main_arg1) = (m ((c.tc : Thread nD τ).loc main_arg1))
      ∧ r.2.mem ((c.tc : Thread nD τ).loc main_arg2) = (m ((c.tc : Thread nD τ).loc main_arg2)) := by
  refine (θ_run _ _ _).mono (fun r h c => ?_) (θ_run_and (Cert.GlaPreIdeal.Gen.run_main m g) (Cert.GlaPreIdeal.Gen.unchanged m g))
  obtain ⟨h, hu⟩ := h
  exact ⟨((h c).1 4).trans (final_q m c), ((h c).1 5).trans (final_f m c), ((h c).1 6).trans (final_b m c), hu c⟩

end Cert.GlaPreIdeal.Val

namespace Cert.Proof

open Cert.GlaPreIdeal.Val Cert.GlaPreRefIdeal.Val

/-- The kernel's queries and logarithms are the reference's, of any arguments. -/
theorem gla_pre_algebraic : Cert.algebraic_GlaPreIdeal_GlaPreRefIdeal (hGlaPreIdeal := Cert.GlaPreIdeal.Gen.facts) (hGlaPreRefIdeal := Cert.GlaPreRefIdeal.Gen.facts) := by
  intro m g m' g' _ hagree
  refine ⟨_, _, _, Cert.GlaPreIdeal.Val.run m g, ?_⟩
  refine (θ_run _ _ _).mono (fun r h c => ?_) (Cert.GlaPreRefIdeal.Val.run m' g')
  obtain ⟨e0, e1, e2⟩ := hagree c
  have h' := h c
  rw [e0, e1, e2] at h'
  rw [e0, e1, e2]
  exact h'

/-- The reference's frame. -/
theorem gla_pre_ref_frame : Cert.quiescent_GlaPreRefIdeal (hGlaPreRefIdeal := Cert.GlaPreRefIdeal.Gen.facts) := by
  intro m g _
  exact (θ_run _ _ _).mono (fun r h => ⟨fun c => (h c).2.2.2, sem_eq_zero_of_no_sems (by decide) r.2⟩) (Cert.GlaPreRefIdeal.Value.run m g)

end Cert.Proof

end
-- ==== Proof.GlaDpre.lean ====
/- The gradients of the linear attention's preparation: what the reference computes, at every place. -/
module

public import proofs.«01_k».proof.Proof.Gen.GlaDpreRefIdeal.Run
public import proofs.«01_k».proof.Proof.GlaPre
public import Idealize.ShloMosaic.Lib.Pipeline.ValueKit
public import Idealize.ShloMosaic.Lib.Quiescent
public import proofs.«01_k».proof.Defs

@[expose] public section

set_option maxRecDepth 16384

noncomputable section

open Idealize.ShloMosaic Idealize.ShloMosaic.TcCoe Idealize.SL.Sem

namespace Cert.Gate

/-- A value, or zero in place of infinity. -/
def noInf (x : EReal) : EReal := if x = Ideal.ofBits .f32 0x7F800000#32 then 0 else x

/-- The softplus's gradient as the reference differentiates it: the exponential of the difference, infinities replaced by zero. -/
def gradR (x : EReal) : EReal :=
  Ideal.exp (noInf x - noInf (max x 0 + Ideal.log1p (Ideal.exp (-(max (x - 0) (-(x - 0)))))))

/-- It is the logistic function, at the infinities too. -/
theorem gradR_eq (z : EReal) : gradR (-z) = Ideal.logistic (0 - z) := by
  have one : (1 : EReal) = ((1 : ℝ) : EReal) := rfl
  have zero : (0 : EReal) = ((0 : ℝ) : EReal) := rfl
  have e : max (-z) 0 + Ideal.log1p (Ideal.exp (-(max (-z - 0) (-(-z - 0))))) = softK z := by
    rw [softK, sub_zero, zero_sub, zero_sub]
  rw [gradR, e, noInf, noInf, word_inf]
  induction z using EReal.rec with
  | bot =>
    have hs : softK (⊥ : EReal) = ⊤ := by
      rw [softK, zero_sub, EReal.neg_bot, max_eq_left le_top, EReal.neg_top, max_eq_left bot_le, zero_sub, EReal.neg_top, Ideal.log1p]
      show (⊤ : EReal) + Ideal.log (1 + 0) = ⊤
      rw [add_zero, one, show Ideal.log ((1 : ℝ) : EReal) = if (1 : ℝ) ≤ 0 then ⊥ else ((Real.log 1 : ℝ) : EReal) from rfl, if_neg (by norm_num), EReal.top_add_coe]
    rw [hs, EReal.neg_bot, if_pos rfl, zero_sub, zero_sub, neg_zero, EReal.neg_bot, Ideal.logistic, EReal.neg_top]
    show Ideal.exp 0 = Ideal.div 1 (1 + 0)
    rw [add_zero, Ideal.div, if_neg one_ne_zero, zero, show Ideal.exp ((0 : ℝ) : EReal) = ((Real.exp 0 : ℝ) : EReal) from rfl, Real.exp_zero, one, ← EReal.coe_inv, ← EReal.coe_mul]
    norm_num
  | top =>
    have hs : softK (⊤ : EReal) = 0 := by
      rw [softK, zero_sub, EReal.neg_top, max_eq_right bot_le, EReal.neg_bot, max_eq_right bot_le, zero_sub, EReal.neg_top, Ideal.log1p]
      show (0 : EReal) + Ideal.log (1 + 0) = 0
      rw [add_zero, one, show Ideal.log ((1 : ℝ) : EReal) = if (1 : ℝ) ≤ 0 then ⊥ else ((Real.log 1 : ℝ) : EReal) from rfl, if_neg (by norm_num), Real.log_one, zero_add]
      rfl
    rw [hs, EReal.neg_top, if_neg (by decide), if_neg (by decide), zero_sub, EReal.neg_top, Ideal.logistic, EReal.neg_bot, sub_zero]
    show (0 : EReal) = Ideal.div 1 (1 + ⊤)
    rw [Ideal.div, one, EReal.coe_add_top, if_neg (by decide), EReal.inv_top, mul_zero]
  | coe z =>
    have hn : ∀ r : ℝ, (r : EReal) ≠ ⊤ := EReal.coe_ne_top
    have hp : (0 : ℝ) < 1 + Real.exp z := by positivity
    have hq : (0 : ℝ) < 1 + Real.exp (-|z|) := by positivity
    rw [softK_coe, ← EReal.coe_neg, if_neg (hn _), if_neg (hn _), zero_sub, ← EReal.coe_neg, Ideal.logistic, ← EReal.coe_neg, neg_neg, ← EReal.coe_sub,
      show Ideal.exp ((z : ℝ) : EReal) = ((Real.exp z : ℝ) : EReal) from rfl, Ideal.div, one, ← EReal.coe_add, if_neg (by rw [zero]; exact fun h => hp.ne' (EReal.coe_eq_coe_iff.mp h)),
      ← EReal.coe_inv, ← EReal.coe_mul, one_mul]
    refine congrArg (fun r : ℝ => (r : EReal)) ?_
    rcases le_total 0 z with h | h
    · rw [max_eq_right (by linarith), abs_of_nonneg h, zero_add, Real.exp_sub, Real.exp_log (by positivity)]
      rw [Real.exp_neg]
      have := Real.exp_pos z
      field_simp
      ring
    · rw [max_eq_left (by linarith), abs_of_nonpos h, neg_neg, show -z - (-z + Real.log (1 + Real.exp z)) = -Real.log (1 + Real.exp z) by ring, Real.exp_neg, Real.exp_log hp]

/-- A gate's gradient, as the kernel spells it: the logarithm's gradient times the logistic of the negated gate, over sixteen. -/
def dzOf (z d : EReal) : EReal := d * Ideal.logistic (0 - z) * Ideal.ofBits .f32 0x3D800000#32

/-- The reference's spelling of it. -/
theorem dz_ref (z d : EReal) : -(-(Ideal.div d (Ideal.ofBits .f32 0x41800000#32)) * gradR (-z)) = dzOf z d := by
  rw [gradR_eq, dzOf, Cert.GlaPreRefIdeal.Val.div_sixteen, EReal.neg_mul, neg_neg, mul_right_comm]

end Cert.Gate

namespace Cert.GlaDpreRefIdeal.Val

open Cert.GlaDpreRefIdeal Cert.GlaDpreRefIdeal.Gen Cert.GlaDpreRefIdeal.Value Cert.Gate
open Cert.GlaPreRefIdeal.Val (Z0 Z1 zAt z0_at z1_at)

/-- The arguments, named. -/
structure Args where
  x : FVec Ideal S4096x3200 .f32
  dqf : FVec Ideal S4096x512 .f32
  dqb : FVec Ideal S4096x512 .f32
  dff : FVec Ideal S4096x512 .f32
  dfb : FVec Ideal S4096x512 .f32
  dkf : FVec Ideal S4096x512 .f32
  dkb : FVec Ideal S4096x512 .f32
  dvf : FVec Ideal S4096x1024 .f32
  dvb : FVec Ideal S4096x1024 .f32
  u : FVec Ideal S2x16x512 .f32
  b : FVec Ideal S2x512 .f32

/-- The logarithm's gradient of a direction. -/
def Args.df (a : Args) (d : Fin 2) : FVec Ideal S4096x512 .f32 := match d with
  | 0 => a.dff
  | 1 => a.dfb

/-- A gate's gradient. -/
def Args.dz (a : Args) (d : Fin 2) (s : Fin 4096) (j : Fin 512) : EReal := dzOf (zAt a.x a.u a.b d s j) (a.df d (ix2 s j))

/-- The queries' gradient. -/
def Args.DQ (a : Args) : FVec Ideal S4096x512 .bf16 := fun i => (a.dqf i + a.dqb i) * Ideal.ofBits .f32 0x3DB504F3#32

/-- The keys' gradient. -/
def Args.DK (a : Args) : FVec Ideal S4096x512 .bf16 := fun i => a.dkf i + a.dkb i

/-- The values' gradient. -/
def Args.DV (a : Args) : FVec Ideal S4096x1024 .bf16 := fun i => a.dvf i + a.dvb i

/-- One low-rank column's gradient: its direction's gate gradients against its row of the direction's matrix. -/
def Args.lr (a : Args) (s : Fin 4096) (k : Fin 128) : EReal :=
  if h : k.val < 16 then ∑ j : Fin 512, a.dz 0 s j * a.u (ix3 0 ⟨k.val, h⟩ j)
  else if h : k.val < 32 then ∑ j : Fin 512, a.dz 1 s j * a.u (ix3 1 ⟨k.val - 16, by omega⟩ j) else 0

/-- The low-rank columns' gradient. -/
def Args.DLR (a : Args) : FVec Ideal S4096x128 .bf16 := fun i => a.lr (i 0) (i 1)

/-- The matrices' gradient. -/
def Args.DU (a : Args) : FVec Ideal S2x16x512 .f32 := fun i => ∑ s : Fin 4096, a.dz (i 0) s (i 2) * a.x (ix2 s ⟨3072 + ((i 0).val * 16 + (i 1).val), by
  have h0 : (i 0).val < 2 := (i 0).isLt
  have h1 : (i 1).val < 16 := (i 1).isLt
  omega⟩)

/-- The biases' gradient. -/
def Args.DB (a : Args) : FVec Ideal S2x512 .f32 := fun i => ∑ s : Fin 4096, a.dz (i 0) s (i 1)

/-- The arguments in a memory. -/
def argsOf (V : Valuation τ sig (Elt Ideal)) : Args where
  x := V (Proc.devRef .tc main_arg0)
  dqf := V (Proc.devRef .tc main_arg1)
  dqb := V (Proc.devRef .tc main_arg2)
  dff := V (Proc.devRef .tc main_arg3)
  dfb := V (Proc.devRef .tc main_arg4)
  dkf := V (Proc.devRef .tc main_arg5)
  dkb := V (Proc.devRef .tc main_arg6)
  dvf := V (Proc.devRef .tc main_arg7)
  dvb := V (Proc.devRef .tc main_arg8)
  u := V (Proc.devRef .tc main_arg9)
  b := V (Proc.devRef .tc main_arg10)

variable (V : Valuation τ sig (Elt Ideal))

/-- The forward gate, negated. -/
theorem n0_at (i : S4096x512.Idx) : (res_main_call0_v0 V : FVec Ideal S4096x512 .f32) i = -zAt (argsOf V).x (argsOf V).u (argsOf V).b 0 (i 0) (i 1) :=
  congrArg (fun z : EReal => -z) (z0_at (argsOf V).x (argsOf V).u (argsOf V).b i)

/-- The backward gate, negated. -/
theorem n1_at (i : S4096x512.Idx) : (res_main_call1_v0 V : FVec Ideal S4096x512 .f32) i = -zAt (argsOf V).x (argsOf V).u (argsOf V).b 1 (i 0) (i 1) :=
  congrArg (fun z : EReal => -z) (z1_at (argsOf V).x (argsOf V).u (argsOf V).b i)

/-- The reference's forward gate gradient. -/
theorem dz0_at (i : S4096x512.Idx) : (res_main_v47 V : FVec Ideal S4096x512 .f32) i = (argsOf V).dz 0 (i 0) (i 1) := by
  refine Eq.trans ?_ ((congrArg (fun n => -(-(Ideal.div ((argsOf V).dff i) (Ideal.ofBits .f32 0x41800000#32)) * gradR n)) (n0_at V i)).trans ((dz_ref _ _).trans
    (congrArg (fun y => dzOf _ ((argsOf V).dff y)) (ix2_eta i).symm)))
  pointwise [res_main_v47, res_main_call0_v1_0, res_main_call0_call0_v3, res_main_call0_call0_cst, gradR, noInf]
  simp only [ne_eq, not_true_eq_false, if_false]
  rfl

/-- The reference's backward gate gradient. -/
theorem dz1_at (i : S4096x512.Idx) : (res_main_v34 V : FVec Ideal S4096x512 .f32) i = (argsOf V).dz 1 (i 0) (i 1) := by
  refine Eq.trans ?_ ((congrArg (fun n => -(-(Ideal.div ((argsOf V).dfb i) (Ideal.ofBits .f32 0x41800000#32)) * gradR n)) (n1_at V i)).trans ((dz_ref _ _).trans
    (congrArg (fun y => dzOf _ ((argsOf V).dfb y)) (ix2_eta i).symm)))
  pointwise [res_main_v34, res_main_call1_v1_0, res_main_call1_call0_v3, res_main_call1_call0_cst, gradR, noInf]
  simp only [ne_eq, not_true_eq_false, if_false]
  rfl

/-- The reference's low-rank gradient over its gate gradients. -/
def LR (DF DB : FVec Ideal S4096x512 .f32) (U0 U1 : FVec Ideal S16x512 .f32) : FVec Ideal S4096x128 .bf16 :=
  truncf .bf16 (concatenate S4096x128 1 [⟨S4096x16, (Host.dotGeneral dot_S4096x512_S16x512_S4096x16_1_1_0_0_n_n none DF U0 : FVec Ideal S4096x16 .f32)⟩,
    ⟨S4096x16, (Host.dotGeneral dot_S4096x512_S16x512_S4096x16_1_1_0_0_n_n none DB U1 : FVec Ideal S4096x16 .f32)⟩,
    ⟨S4096x96, (broadcastInDim S4096x96 ![] bcast_S_S4096x96 (constant S_ .f32 0x00000000#32) : FVec Ideal S4096x96 .f32)⟩] concatenates_S4096x16_S4096x16_S4096x96_S4096x128_d1) bitsLt_bf16_f32

/-- That gradient, at a place. -/
theorem lr_at (DF DB : FVec Ideal S4096x512 .f32) (U0 U1 : FVec Ideal S16x512 .f32) (s : Fin 4096) (k : Fin 128) : LR DF DB U0 U1 (ix2 s k)
    = if h : k.val < 16 then ∑ j : Fin 512, DF (ix2 s j) * U0 (ix2 ⟨k.val, h⟩ j)
      else if h : k.val < 32 then ∑ j : Fin 512, DB (ix2 s j) * U1 (ix2 ⟨k.val - 16, by omega⟩ j) else 0 := by
  pointwise [LR]
  have e : (k.val - 16 < 16) = (k.val < 32) := propext (by omega)
  simp only [e]

/-- The reference's matrix gradient over its gate gradients. -/
def UP (DF DB : FVec Ideal S4096x512 .f32) (L0 L1 : FVec Ideal S4096x16 .f32) : FVec Ideal S2x16x512 .f32 :=
  addf (pad S2x16x512 ![1, 0, 0] ![0, 0, 0] ![0, 0, 0] (broadcastInDim S1x16x512 ![1, 2] bcast_S16x512_S1x16x512_1_2 (transpose S16x512 [1, 0] (Host.dotGeneral dot_S4096x512_S4096x16_S512x16_0_0_1_1_n_n none DB L1) transposes_S512x16_S16x512_1_0)) (constant S_ .f32 0x00000000#32) pads_S1x16x512_S2x16x512_100_000_000 h_S_)
    (pad S2x16x512 ![0, 0, 0] ![1, 0, 0] ![0, 0, 0] (broadcastInDim S1x16x512 ![1, 2] bcast_S16x512_S1x16x512_1_2 (transpose S16x512 [1, 0] (Host.dotGeneral dot_S4096x512_S4096x16_S512x16_0_0_1_1_n_n none DF L0) transposes_S512x16_S16x512_1_0)) (constant S_ .f32 0x00000000#32) pads_S1x16x512_S2x16x512_010_000_000 h_S_)

/-- That gradient, at a place of the forward matrix. -/
theorem up0_at (DF DB : FVec Ideal S4096x512 .f32) (L0 L1 : FVec Ideal S4096x16 .f32) (k : Fin 16) (j : Fin 512) :
    UP DF DB L0 L1 (ix3 0 k j) = ∑ s : Fin 4096, DF (ix2 s j) * L0 (ix2 s k) := by
  refine Eq.trans ?_ (zero_add _)
  pointwise [UP]
  done

/-- That gradient, at a place of the backward matrix. -/
theorem up1_at (DF DB : FVec Ideal S4096x512 .f32) (L0 L1 : FVec Ideal S4096x16 .f32) (k : Fin 16) (j : Fin 512) :
    UP DF DB L0 L1 (ix3 1 k j) = ∑ s : Fin 4096, DB (ix2 s j) * L1 (ix2 s k) := by
  refine Eq.trans ?_ (add_zero _)
  pointwise [UP]
  done

/-- The reference's bias gradient over its gate gradients. -/
def BI (DF DB : FVec Ideal S4096x512 .f32) : FVec Ideal S2x512 .f32 :=
  addf (pad S2x512 ![1, 0] ![0, 0] ![0, 0] (broadcastInDim S1x512 ![1] bcast_S512_S1x512_1 (Host.reduceAdd (shapeCast _ (Host.reduceAdd DB (constant S_ .f32 0x00000000#32) reducesTo_S4096x512_S512_d0 h_S_) shapeCasts_S512_S1x512) (constant S_ .f32 0x00000000#32) reducesTo_S1x512_S512_d0 h_S_)) (constant S_ .f32 0x00000000#32) pads_S1x512_S2x512_100_000 h_S_)
    (pad S2x512 ![0, 0] ![1, 0] ![0, 0] (broadcastInDim S1x512 ![1] bcast_S512_S1x512_1 (Host.reduceAdd (shapeCast _ (Host.reduceAdd DF (constant S_ .f32 0x00000000#32) reducesTo_S4096x512_S512_d0 h_S_) shapeCasts_S512_S1x512) (constant S_ .f32 0x00000000#32) reducesTo_S1x512_S512_d0 h_S_)) (constant S_ .f32 0x00000000#32) pads_S1x512_S2x512_010_000 h_S_)

/-- That gradient, at a place of the forward bias. -/
theorem bi0_at (DF DB : FVec Ideal S4096x512 .f32) (j : Fin 512) : BI DF DB (ix2 0 j) = ∑ s : Fin 4096, DF (ix2 s j) := by
  refine Eq.trans ?_ (zero_add _)
  pointwise [BI]
  exact Fin.sum_univ_one _

/-- That gradient, at a place of the backward bias. -/
theorem bi1_at (DF DB : FVec Ideal S4096x512 .f32) (j : Fin 512) : BI DF DB (ix2 1 j) = ∑ s : Fin 4096, DB (ix2 s j) := by
  refine Eq.trans ?_ (add_zero _)
  pointwise [BI]
  exact Fin.sum_univ_one _

/-- The forward matrix, as the reference slices it. -/
theorem u0_at (k : Fin 16) (j : Fin 512) : (res_main_v8 V : FVec Ideal S16x512 .f32) (ix2 k j) = (argsOf V).u (ix3 0 k j) := by
  pointwise [res_main_v8]
  rfl

/-- The backward matrix. -/
theorem u1_at (k : Fin 16) (j : Fin 512) : (res_main_v19 V : FVec Ideal S16x512 .f32) (ix2 k j) = (argsOf V).u (ix3 1 k j) := by
  pointwise [res_main_v19]
  rfl

/-- The forward low-rank columns, as the reference slices them. -/
theorem l0_at (s : Fin 4096) (k : Fin 16) : (res_main_v1 V : FVec Ideal S4096x16 .f32) (ix2 s k) = (argsOf V).x (ix2 s ⟨3072 + k.val, by omega⟩) := by
  pointwise [res_main_v1]
  rfl

/-- The backward ones. -/
theorem l1_at (s : Fin 4096) (k : Fin 16) : (res_main_v2 V : FVec Ideal S4096x16 .f32) (ix2 s k) = (argsOf V).x (ix2 s ⟨3088 + k.val, by omega⟩) := by
  pointwise [res_main_v2]
  rfl

/-- The reference's queries' gradient. -/
theorem dq_eq (a : Args) : truncf .bf16 (mulf (addf a.dqf a.dqb) (broadcastInDim S4096x512 ![] bcast_S_S4096x512 (constant S_ .f32 0x3DB504F3#32))) bitsLt_bf16_f32 = a.DQ := by
  funext i
  pointwise [Args.DQ]

/-- The reference's low-rank gradient is the one stated. -/
theorem dlr_eq : LR (res_main_v47 V) (res_main_v34 V) (res_main_v8 V) (res_main_v19 V) = (argsOf V).DLR := by
  funext i
  obtain ⟨s, k, rfl⟩ : ∃ s k, i = ix2 s k := ⟨_, _, (ix2_eta i).symm⟩
  refine (lr_at _ _ _ _ s k).trans ?_
  refine dite_congr rfl (fun h => Finset.sum_congr rfl fun j _ => congrArg₂ (fun p q : EReal => p * q) (dz0_at V (ix2 s j)) (u0_at V _ j)) fun h => ?_
  exact dite_congr rfl (fun h => Finset.sum_congr rfl fun j _ => congrArg₂ (fun p q : EReal => p * q) (dz1_at V (ix2 s j)) (u1_at V _ j)) fun h => rfl

/-- The reference's matrices' gradient is the one stated. -/
theorem du_eq : UP (res_main_v47 V) (res_main_v34 V) (res_main_v1 V) (res_main_v2 V) = (argsOf V).DU := by
  funext i
  obtain ⟨d, k, j, rfl⟩ : ∃ d k j, i = ix3 d k j := ⟨_, _, _, (ix3_eta i).symm⟩
  match d with
  | 0 =>
    refine (up0_at _ _ _ _ k j).trans (Finset.sum_congr rfl fun s _ => congrArg₂ (fun p q : EReal => p * q) (dz0_at V (ix2 s j)) ((l0_at V s k).trans ?_))
    exact congrArg (fun q => (argsOf V).x (ix2 s q)) (show (⟨3072 + k.val, _⟩ : Fin 3200) = ⟨3072 + (0 * 16 + k.val), _⟩ from Fin.ext (by show _ = _; simp))
  | 1 =>
    refine (up1_at _ _ _ _ k j).trans (Finset.sum_congr rfl fun s _ => congrArg₂ (fun p q : EReal => p * q) (dz1_at V (ix2 s j)) ((l1_at V s k).trans ?_))
    exact congrArg (fun q => (argsOf V).x (ix2 s q)) (show (⟨3088 + k.val, _⟩ : Fin 3200) = ⟨3072 + (1 * 16 + k.val), _⟩ from Fin.ext (by show 3088 + _ = 3072 + (1 * 16 + _); omega))

/-- The reference's biases' gradient is the one stated. -/
theorem db_eq : BI (res_main_v47 V) (res_main_v34 V) = (argsOf V).DB := by
  funext i
  obtain ⟨d, j, rfl⟩ : ∃ d j, i = ix2 d j := ⟨_, _, (ix2_eta i).symm⟩
  match d with
  | 0 => exact (bi0_at _ _ j).trans (Finset.sum_congr rfl fun s _ => dz0_at V (ix2 s j))
  | 1 => exact (bi1_at _ _ j).trans (Finset.sum_congr rfl fun s _ => dz1_at V (ix2 s j))

/-- The arguments of a device. -/
def argsR (m : (ℓ : Loc nD τ sig) → Buf (Elt Ideal) ℓ) (c : Dev nD) : Args :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4),
    m ((c.tc : Thread nD τ).loc main_arg5), m ((c.tc : Thread nD τ).loc main_arg6), m ((c.tc : Thread nD τ).loc main_arg7), m ((c.tc : Thread nD τ).loc main_arg8), m ((c.tc : Thread nD τ).loc main_arg9),
    m ((c.tc : Thread nD τ).loc main_arg10)⟩

/-- The reference's run: the six results, and the arguments as they were. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v64) = (argsR m c).DQ
      ∧ r.2.mem ((c.tc : Thread nD τ).loc main_v65) = (argsR m c).DK
      ∧ r.2.mem ((c.tc : Thread nD τ).loc main_v66) = (argsR m c).DV
      ∧ r.2.mem ((c.tc : Thread nD τ).loc main_v67) = (argsR m c).DLR
      ∧ r.2.mem ((c.tc : Thread nD τ).loc main_v59) = (argsR m c).DU
      ∧ r.2.mem ((c.tc : Thread nD τ).loc main_v56) = (argsR m c).DB
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run _ _ _).mono (fun r h c => ?_) (Cert.GlaDpreRefIdeal.Value.run m g)
  obtain ⟨h0, h1, h2, h3, h4, h5, h6⟩ := h c
  exact ⟨h0.trans (dq_eq (argsOf (StableHlo.launchContents m c))), h1, h2, h3.trans (dlr_eq (StableHlo.launchContents m c)), h4.trans (du_eq (StableHlo.launchContents m c)), h5.trans (db_eq (StableHlo.launchContents m c)), h6⟩

end Cert.GlaDpreRefIdeal.Val

end
-- ==== Proof.GlaDpreRun.lean ====
/- The gradients of the linear attention's preparation: the kernel's run computes the reference's functions of its arguments. -/
module

public import proofs.«01_k».proof.Proof.Gen.GlaDpreIdeal.Frame
public import proofs.«01_k».proof.Proof.GlaDpre

@[expose] public section

set_option maxRecDepth 16384

noncomputable section

open Idealize.ShloMosaic Idealize.ShloMosaic.TcCoe Idealize.SL.Sem

namespace Cert.GlaDpreIdeal.Val

open Cert.GlaDpreIdeal Cert.GlaDpreIdeal.Gen Cert.Gate
open Cert.GlaDpreRefIdeal.Val (Args)
open Cert.GlaPreIdeal.Val (PAD pad_at pad_sum zK)
open Cert.GlaPreRefIdeal.Val (zAt)

/-- A block's gate gradient. -/
def dzK (x : Vec Ideal S512x128 .f32) (d : Vec Ideal S512x512 .f32) (w : Vec Ideal S2x128x512 .f32) (b : Vec Ideal S2x512 .f32) (e : Fin 2) (j : S512x512.Idx) : EReal :=
  dzOf (zK x w b e j) (d j)

/-- The stored queries' gradient. -/
theorem dq_store (p q : Vec Ideal S512x512 .f32) (j : S512x512.Idx) : k0_pay17 p q j = (p j + q j) * Ideal.ofBits .f32 0x3DB504F3#32 := by
  pointwise [k0_pay17]

/-- The stored keys' gradient. -/
theorem dk_store (p q : Vec Ideal S512x512 .f32) (j : S512x512.Idx) : k0_pay18 p q j = p j + q j := by
  pointwise [k0_pay18]

/-- The stored values' gradient. -/
theorem dv_store (p q : Vec Ideal S512x1024 .f32) (j : S512x1024.Idx) : k0_pay19 p q j = p j + q j := by
  pointwise [k0_pay19]

variable (x : Vec Ideal S512x128 .f32) (d d' : Vec Ideal S512x512 .f32) (w : Vec Ideal S2x128x512 .f32) (b : Vec Ideal S2x512 .f32)

/-- The forward gate gradient the body computes. -/
theorem dz_forward (j : S512x512.Idx) : k0_pay8 x d w b j = dzK x d w b 0 j := by
  pointwise [k0_pay8, k0_pay6, k0_pay7, dzK, dzOf, zK]

/-- The stored low-rank gradient. -/
theorem dlr_store (j : S512x128.Idx) : k0_pay1 (k0_pay14 x d' (k0_pay6 w) b k0_pay7 (k0_pay9 x d w b) (k0_pay10 w) (constant S512x128 FTy.f32 0#32)) j
    = (0 + ∑ l : Fin 512, dzK x d w b 0 (ix2 (j 0) l) * w (ix3 0 (j 1) l)) + ∑ l : Fin 512, dzK x d' w b 1 (ix2 (j 0) l) * w (ix3 1 (j 1) l) := by
  pointwise [k0_pay1, k0_pay14, k0_pay6, k0_pay7, k0_pay8, k0_pay9, k0_pay10, k0_pay13, dzK, dzOf, zK]

/-- A row block's part of the forward matrix's gradient. -/
theorem dw_forward (j : S512x128.Idx) : k0_pay11 x (k0_pay8 x d w b) j = ∑ s : Fin 512, dzK x d w b 0 (ix2 s (j 0)) * x (ix2 s (j 1)) := by
  pointwise [k0_pay11, k0_pay8, k0_pay6, k0_pay7, dzK, dzOf, zK]

/-- A row block's part of the backward matrix's gradient. -/
theorem dw_backward (j : S512x128.Idx) : k0_pay15 x d (k0_pay6 w) b j = ∑ s : Fin 512, dzK x d w b 1 (ix2 s (j 0)) * x (ix2 s (j 1)) := by
  pointwise [k0_pay15, k0_pay13, k0_pay6, k0_pay7, dzK, dzOf, zK]

/-- A row block's part of the forward bias's gradient. -/
theorem db_forward (j : S1x512.Idx) : k0_pay12 (k0_pay8 x d w b) j = ∑ s : Fin 512, dzK x d w b 0 (ix2 s (j 1)) := by
  pointwise [k0_pay12, k0_pay8, k0_pay6, k0_pay7, dzK, dzOf, zK]

/-- A row block's part of the backward bias's gradient. -/
theorem db_backward (j : S1x512.Idx) : k0_pay16 x d (k0_pay6 w) b j = ∑ s : Fin 512, dzK x d w b 1 (ix2 s (j 1)) := by
  pointwise [k0_pay16, k0_pay13, k0_pay6, k0_pay7, dzK, dzOf, zK]

/-- Adding a part of the forward matrix's gradient. -/
theorem add_wf (v acc : Vec Ideal S512x128 .f32) (i : S512x128.Idx) : k0_pay2 v acc i = acc i + v i := by
  pointwise [k0_pay2]

/-- Adding a part of the backward matrix's gradient. -/
theorem add_wb (v acc : Vec Ideal S512x128 .f32) (i : S512x128.Idx) : k0_pay3 v acc i = acc i + v i := by
  pointwise [k0_pay3]

/-- Adding a part of the forward bias's gradient. -/
theorem add_bf (v acc : Vec Ideal S1x512 .f32) (i : S1x512.Idx) : k0_pay4 v acc i = acc i + v i := by
  pointwise [k0_pay4]

/-- Adding a part of the backward bias's gradient. -/
theorem add_bb (v acc : Vec Ideal S1x512 .f32) (i : S1x512.Idx) : k0_pay5 v acc i = acc i + v i := by
  pointwise [k0_pay5]

variable (m : (ℓ : Loc nD τ sig) → Buf (Elt Ideal) ℓ)

/-- Which block each window holds at each point. -/
theorem idx : ∀ t : Fin cfg0.N, win0_0.index t = ![t.val, 0] ∧ win0_1.index t = ![t.val, 24] ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![t.val, 0] ∧ win0_9.index t = ![t.val, 0] ∧ win0_10.index t = ![0, 0, 0]
    ∧ win0_11.index t = ![0, 0] ∧ win0_12.index t = ![t.val, 0] ∧ win0_13.index t = ![t.val, 0] ∧ win0_14.index t = ![t.val, 0] ∧ win0_15.index t = ![t.val, 0] ∧ win0_16.index t = ![0, 0]
    ∧ win0_17.index t = ![0, 0] ∧ win0_18.index t = ![0, 0] ∧ win0_19.index t = ![0, 0] :=
  (by decide +kernel : ∀ t : Fin grid0.N, _)

/-- The arguments of a device. -/
def args (c : Dev nD) : Args :=
  ⟨m ((c.tc : Thread nD τ).loc main_arg0), m ((c.tc : Thread nD τ).loc main_arg1), m ((c.tc : Thread nD τ).loc main_arg2), m ((c.tc : Thread nD τ).loc main_arg3), m ((c.tc : Thread nD τ).loc main_arg4),
    m ((c.tc : Thread nD τ).loc main_arg5), m ((c.tc : Thread nD τ).loc main_arg6), m ((c.tc : Thread nD τ).loc main_arg7), m ((c.tc : Thread nD τ).loc main_arg8), m ((c.tc : Thread nD τ).loc main_arg9),
    m ((c.tc : Thread nD τ).loc main_arg10)⟩

/-- The host lays the two matrices out with their rows in place. -/
theorem v12 (c : Dev nD) : V m c main_v12 = PAD (args m c).u := by
  unfold V V0
  simp only [List.flatten_cons, List.flatten_nil, List.append_nil]
  after_results
  rfl

/-- The staged matrices are those. -/
theorem w_blk (c : Dev nD) (t : Fin cfg0.N) : (iblk m c 10 t : Vec Ideal S2x128x512 .f32) = PAD (args m c).u := by
  funext z
  blk_ext [iblk, v12 m c, idx t]

section Places
variable (c : Dev nD) (t : Fin cfg0.N)

/-- A staged low-rank column is the projection's. -/
theorem x_blk (y : S512x128.Idx) (s : Fin 4096) (k : Fin 128) (h0 : s.val = t.val * 512 + (y 0).val) (h1 : k.val = (y 1).val) :
    (iblk m c 1 t : Vec Ideal S512x128 .f32) y = (args m c).x (ix2 s ⟨3072 + k.val, by omega⟩) := by
  unfold args
  blk_point [iblk, V, idx t]

/-- A staged block's gate before its logistic is the reference's. -/
theorem z_blk (d : Fin 2) (y : S512x512.Idx) (s : Fin 4096) (j : Fin 512) (h0 : s.val = t.val * 512 + (y 0).val) (h1 : j.val = (y 1).val) :
    zK (iblk m c 1 t) (iblk m c 10 t) (iblk m c 11 t) d y = zAt (args m c).x (args m c).u (args m c).b d s j := by
  obtain rfl : j = y 1 := Fin.ext h1
  rw [zK, w_blk m c t]
  refine (congrArg (· + _) (pad_sum _ d (y 1) fun k => iblk m c 1 t (ix2 (y 0) k))).trans ?_
  unfold zAt args
  blk_point [iblk, V, idx t]

/-- A staged block's forward gate gradient is the reference's. -/
theorem dz0_blk (y : S512x512.Idx) (s : Fin 4096) (j : Fin 512) (h0 : s.val = t.val * 512 + (y 0).val) (h1 : j.val = (y 1).val) :
    dzK (iblk m c 1 t) (iblk m c 4 t) (iblk m c 10 t) (iblk m c 11 t) 0 y = (args m c).dz 0 s j := by
  refine congrArg₂ dzOf (z_blk m c t 0 y s j h0 h1) ?_
  unfold Args.df args
  blk_point [iblk, V, idx t]

/-- A staged block's backward gate gradient is the reference's. -/
theorem dz1_blk (y : S512x512.Idx) (s : Fin 4096) (j : Fin 512) (h0 : s.val = t.val * 512 + (y 0).val) (h1 : j.val = (y 1).val) :
    dzK (iblk m c 1 t) (iblk m c 5 t) (iblk m c 10 t) (iblk m c 11 t) 1 y = (args m c).dz 1 s j := by
  refine congrArg₂ dzOf (z_blk m c t 1 y s j h0 h1) ?_
  unfold Args.df args
  blk_point [iblk, V, idx t]

end Places

end Cert.GlaDpreIdeal.Val

end
-- ==== Proof.GlaDpreSum.lean ====
/- The gradients of the linear attention's preparation: the kernel's arrays after its run, and the two programs' agreement. -/
module

public import proofs.«01_k».proof.Proof.GlaDpreRun
public import Idealize.ShloMosaic.Lib.Pipeline.ReadBack

@[expose] public section

set_option maxRecDepth 16384

noncomputable section

open Idealize.ShloMosaic Idealize.ShloMosaic.TcCoe Idealize.SL.Sem

namespace Cert.GlaDpreIdeal.Val

open Cert.GlaDpreIdeal Cert.GlaDpreIdeal.Gen Cert.Gate
open Cert.GlaDpreRefIdeal.Val (Args)
open Cert.GlaPreIdeal.Val (PAD pad_at)

variable (m : (ℓ : Loc nD τ sig) → Buf (Elt Ideal) ℓ)

/-- A function of a place takes the same value at the same place. -/
theorem same2 {a b : ℕ} {α : Type} (F : (⟨2, ![a, b]⟩ : Shape).Idx → α) (y i : (⟨2, ![a, b]⟩ : Shape).Idx) (h0 : (y 0).val = (i 0).val) (h1 : (y 1).val = (i 1).val) : F y = F i := by
  refine congrArg F (funext fun k => ?_)
  match k with
  | 0 => exact Fin.ext h0
  | 1 => exact Fin.ext h1

/-- A matrix's gradient before its sixteen rows are cut out. -/
def WD (a : Args) (d : Fin 2) : FVec Ideal S512x128 .f32 := fun i => ∑ s : Fin 4096, a.dz d s (i 0) * a.x (ix2 s ⟨3072 + (i 1).val, by
  have h : (i 1).val < 128 := (i 1).isLt
  omega⟩)

/-- A bias's gradient. -/
def BD (a : Args) (d : Fin 2) : FVec Ideal S1x512 .f32 := fun i => ∑ s : Fin 4096, a.dz d s (i 1)

/-- A point's gate gradients. -/
def dzB (c : Dev nD) (t : Fin cfg0.N) (d : Fin 2) (y : S512x512.Idx) : EReal := match d with
  | 0 => dzK (iblk m c 1 t) (iblk m c 4 t) (iblk m c 10 t) (iblk m c 11 t) 0 y
  | 1 => dzK (iblk m c 1 t) (iblk m c 5 t) (iblk m c 10 t) (iblk m c 11 t) 1 y

/-- They are the reference's. -/
theorem dz_blk (c : Dev nD) (t : Fin cfg0.N) (d : Fin 2) (y : S512x512.Idx) (s : Fin 4096) (j : Fin 512) (h0 : s.val = t.val * 512 + (y 0).val) (h1 : j.val = (y 1).val) :
    dzB m c t d y = (args m c).dz d s j := match d with
  | 0 => dz0_blk m c t y s j h0 h1
  | 1 => dz1_blk m c t y s j h0 h1

/-- A point's part of a matrix's gradient. -/
def partW (c : Dev nD) (d : Fin 2) (t : Fin cfg0.N) (i : S512x128.Idx) : EReal := ∑ s : Fin 512, dzB m c t d (ix2 s (i 0)) * (iblk m c 1 t : Vec Ideal S512x128 .f32) (ix2 s (i 1))

/-- A point's part of a bias's gradient. -/
def partB (c : Dev nD) (d : Fin 2) (t : Fin cfg0.N) (i : S1x512.Idx) : EReal := ∑ s : Fin 512, dzB m c t d (ix2 s (i 1))

/-- An accumulator that starts at its part and adds its part at each later point ends at the parts' sum. -/
theorem acc {ι : Type} (f : (n : ℕ) → n < cfg0.N → ι → EReal) (part : Fin cfg0.N → ι → EReal)
    (first : ∀ t : Fin cfg0.N, t.val % 8 = 0 → ∀ i, f t.val t.isLt i = part t i)
    (next : ∀ t : Fin cfg0.N, ¬t.val % 8 = 0 → ∀ i, f t.val t.isLt i = f (t.val - 1) (Nat.lt_of_le_of_lt (Nat.sub_le _ _) t.isLt) i + part t i)
    (t : Fin cfg0.N) (h : t.val % 8 = 7) (i : ι) : f t.val t.isLt i = ∑ s : Fin 8, part ⟨s.val, s.isLt⟩ i := by
  rw [Pipeline.eq_sum_fin_of_reset_step_apply_of_flush f 8 (fun _ => 0) part (fun t h i => (first t h i).trans (zero_add _).symm) next t h i, zero_add]
  refine Finset.sum_congr rfl fun s _ => congrArg (fun u => part u i) (Fin.ext ?_)
  have : t.val < 8 := t.isLt
  show 8 * (t.val / 8) + s.val = s.val
  omega

/-- The parts of a matrix's gradient add up to it. -/
theorem sum_W (c : Dev nD) (d : Fin 2) (i : S512x128.Idx) : ∑ s : Fin 8, partW m c d ⟨s.val, s.isLt⟩ i = WD (args m c) d i :=
  Fin.sum_mul_add_congr fun s k hl => congrArg₂ (· * ·) (dz_blk m c ⟨s.val, s.isLt⟩ d (ix2 k (i 0)) _ _ rfl rfl) (x_blk m c ⟨s.val, s.isLt⟩ (ix2 k (i 1)) _ _ rfl rfl)

/-- The parts of a bias's gradient add up to it. -/
theorem sum_B (c : Dev nD) (d : Fin 2) (i : S1x512.Idx) : ∑ s : Fin 8, partB m c d ⟨s.val, s.isLt⟩ i = BD (args m c) d i :=
  Fin.sum_mul_add_congr fun s k hl => dz_blk m c ⟨s.val, s.isLt⟩ d (ix2 k (i 1)) _ _ rfl rfl

/-- The first point leaves its part of the forward matrix's gradient. -/
theorem first_wf (c : Dev nD) (t : Fin cfg0.N) (h : t.val % 8 = 0) (i : S512x128.Idx) : (outsAt0 m c t.val t.isLt).2.2.2.2.1 i = partW m c 0 t i := by
  have h1 : ¬1 ≤ t.val := by have : t.val < 8 := t.isLt; omega
  rw [outsAt0_A m c t h h1 h h1 h h1 h h1]; frame_out
  exact dw_forward _ _ _ _ i

/-- A later point adds its part of the forward matrix's gradient. -/
theorem next_wf (c : Dev nD) (t : Fin cfg0.N) (h : ¬t.val % 8 = 0) (i : S512x128.Idx) :
    (outsAt0 m c t.val t.isLt).2.2.2.2.1 i = (outsAt0 m c (t.val - 1) (Nat.lt_of_le_of_lt (Nat.sub_le _ _) t.isLt)).2.2.2.2.1 i + partW m c 0 t i := by
  have h1 : 1 ≤ t.val := by omega
  rw [outsAt0_B m c t h h1 h h1 h h1 h h1]; frame_out
  exact (add_wf _ _ i).trans (congrArg (_ + ·) (dw_forward _ _ _ _ i))

/-- The forward matrix's gradient after the run. -/
theorem final_wf (c : Dev nD) : (dats m 0 c).arrAt 16 (cfgs 0).N = WD (args m c) 0 := by
  refine (dats m 0 c).arrAt_eq_of_covers 16 _ (by decide +kernel) fun t hf y => ?_
  blk_simp
  rw [after0_16]
  refine (acc (fun n hn => (outsAt0 m c n hn).2.2.2.2.1) (partW m c 0) (first_wf m c) (next_wf m c) t ((flush0_16 t).mp hf) y).trans ((sum_W m c 0 y).trans (same2 (WD (args m c) 0) y _ ?_ ?_)) <;> (blk_simp [idx t] <;> try omega)

/-- The first point leaves its part of the backward matrix's gradient. -/
theorem first_wb (c : Dev nD) (t : Fin cfg0.N) (h : t.val % 8 = 0) (i : S512x128.Idx) : (outsAt0 m c t.val t.isLt).2.2.2.2.2.1 i = partW m c 1 t i := by
  have h1 : ¬1 ≤ t.val := by have : t.val < 8 := t.isLt; omega
  rw [outsAt0_A m c t h h1 h h1 h h1 h h1]; frame_out
  exact dw_backward _ _ _ _ i

/-- A later point adds its part of the backward matrix's gradient. -/
theorem next_wb (c : Dev nD) (t : Fin cfg0.N) (h : ¬t.val % 8 = 0) (i : S512x128.Idx) :
    (outsAt0 m c t.val t.isLt).2.2.2.2.2.1 i = (outsAt0 m c (t.val - 1) (Nat.lt_of_le_of_lt (Nat.sub_le _ _) t.isLt)).2.2.2.2.2.1 i + partW m c 1 t i := by
  have h1 : 1 ≤ t.val := by omega
  rw [outsAt0_B m c t h h1 h h1 h h1 h h1]; frame_out
  exact (add_wb _ _ i).trans (congrArg (_ + ·) (dw_backward _ _ _ _ i))

/-- The backward matrix's gradient after the run. -/
theorem final_wb (c : Dev nD) : (dats m 0 c).arrAt 17 (cfgs 0).N = WD (args m c) 1 := by
  refine (dats m 0 c).arrAt_eq_of_covers 17 _ (by decide +kernel) fun t hf y => ?_
  blk_simp
  rw [after0_17]
  refine (acc (fun n hn => (outsAt0 m c n hn).2.2.2.2.2.1) (partW m c 1) (first_wb m c) (next_wb m c) t ((flush0_17 t).mp hf) y).trans ((sum_W m c 1 y).trans (same2 (WD (args m c) 1) y _ ?_ ?_)) <;> (blk_simp [idx t] <;> try omega)

/-- The first point leaves its part of the forward bias's gradient. -/
theorem first_bf (c : Dev nD) (t : Fin cfg0.N) (h : t.val % 8 = 0) (i : S1x512.Idx) : (outsAt0 m c t.val t.isLt).2.2.2.2.2.2.1 i = partB m c 0 t i := by
  have h1 : ¬1 ≤ t.val := by have : t.val < 8 := t.isLt; omega
  rw [outsAt0_A m c t h h1 h h1 h h1 h h1]; frame_out
  exact db_forward _ _ _ _ i

/-- A later point adds its part of the forward bias's gradient. -/
theorem next_bf (c : Dev nD) (t : Fin cfg0.N) (h : ¬t.val % 8 = 0) (i : S1x512.Idx) :
    (outsAt0 m c t.val t.isLt).2.2.2.2.2.2.1 i = (outsAt0 m c (t.val - 1) (Nat.lt_of_le_of_lt (Nat.sub_le _ _) t.isLt)).2.2.2.2.2.2.1 i + partB m c 0 t i := by
  have h1 : 1 ≤ t.val := by omega
  rw [outsAt0_B m c t h h1 h h1 h h1 h h1]; frame_out
  exact (add_bf _ _ i).trans (congrArg (_ + ·) (db_forward _ _ _ _ i))

/-- The forward bias's gradient after the run. -/
theorem final_bf (c : Dev nD) : (dats m 0 c).arrAt 18 (cfgs 0).N = BD (args m c) 0 := by
  refine (dats m 0 c).arrAt_eq_of_covers 18 _ (by decide +kernel) fun t hf y => ?_
  blk_simp
  rw [after0_18]
  refine (acc (fun n hn => (outsAt0 m c n hn).2.2.2.2.2.2.1) (partB m c 0) (first_bf m c) (next_bf m c) t ((flush0_18 t).mp hf) y).trans ((sum_B m c 0 y).trans (same2 (BD (args m c) 0) y _ ?_ ?_)) <;> (blk_simp [idx t] <;> try omega)

/-- The first point leaves its part of the backward bias's gradient. -/
theorem first_bb (c : Dev nD) (t : Fin cfg0.N) (h : t.val % 8 = 0) (i : S1x512.Idx) : (outsAt0 m c t.val t.isLt).2.2.2.2.2.2.2 i = partB m c 1 t i := by
  have h1 : ¬1 ≤ t.val := by have : t.val < 8 := t.isLt; omega
  rw [outsAt0_A m c t h h1 h h1 h h1 h h1]; frame_out
  exact db_backward _ _ _ _ i

/-- A later point adds its part of the backward bias's gradient. -/
theorem next_bb (c : Dev nD) (t : Fin cfg0.N) (h : ¬t.val % 8 = 0) (i : S1x512.Idx) :
    (outsAt0 m c t.val t.isLt).2.2.2.2.2.2.2 i = (outsAt0 m c (t.val - 1) (Nat.lt_of_le_of_lt (Nat.sub_le _ _) t.isLt)).2.2.2.2.2.2.2 i + partB m c 1 t i := by
  have h1 : 1 ≤ t.val := by omega
  rw [outsAt0_B m c t h h1 h h1 h h1 h h1]; frame_out
  exact (add_bb _ _ i).trans (congrArg (_ + ·) (db_backward _ _ _ _ i))

/-- The backward bias's gradient after the run. -/
theorem final_bb (c : Dev nD) : (dats m 0 c).arrAt 19 (cfgs 0).N = BD (args m c) 1 := by
  refine (dats m 0 c).arrAt_eq_of_covers 19 _ (by decide +kernel) fun t hf y => ?_
  blk_simp
  rw [after0_19]
  refine (acc (fun n hn => (outsAt0 m c n hn).2.2.2.2.2.2.2) (partB m c 1) (first_bb m c) (next_bb m c) t ((flush0_19 t).mp hf) y).trans ((sum_B m c 1 y).trans (same2 (BD (args m c) 1) y _ ?_ ?_)) <;> (blk_simp [idx t] <;> try omega)

end Cert.GlaDpreIdeal.Val

end
-- ==== Proof.GlaDpreMain.lean ====
/- The gradients of the linear attention's preparation: the rows, the host's tail, and the two programs' agreement. -/
module

public import proofs.«01_k».proof.Proof.GlaDpreSum

@[expose] public section

set_option maxRecDepth 16384

noncomputable section

open Idealize.ShloMosaic Idealize.ShloMosaic.TcCoe Idealize.SL.Sem

namespace Cert.GlaDpreIdeal.Val

open Cert.GlaDpreIdeal Cert.GlaDpreIdeal.Gen Cert.Gate
open Cert.GlaDpreRefIdeal.Val (Args)
open Cert.GlaPreIdeal.Val (PAD pad_at)

/-- The forward matrix laid out: its sixteen rows first. -/
theorem pad_fst (U : FVec Ideal S2x16x512 .f32) (k : Fin 128) (j : Fin 512) : PAD U (ix3 0 k j) = if h : k.val < 16 then U (ix3 0 ⟨k.val, h⟩ j) else 0 := by
  refine (pad_at U 0 k j).trans ?_
  rw [dif_neg fun h => absurd h.1 (by decide)]
  by_cases h : k.val < 16
  · rw [dif_pos ⟨rfl, Nat.zero_le _, by omega⟩, dif_pos h]
    rfl
  · rw [dif_neg (fun q => h (by have := q.2.2; omega)), dif_neg h]

/-- The backward matrix laid out: its sixteen rows next. -/
theorem pad_snd (U : FVec Ideal S2x16x512 .f32) (k : Fin 128) (j : Fin 512) :
    PAD U (ix3 1 k j) = if h : 16 ≤ k.val ∧ k.val < 32 then U (ix3 1 ⟨k.val - 16, by omega⟩ j) else 0 := by
  refine (pad_at U 1 k j).trans ?_
  by_cases h : 16 ≤ k.val ∧ k.val < 32
  · rw [dif_pos ⟨rfl, h.1, by omega⟩, dif_pos h]
  · rw [dif_neg (fun q => h ⟨q.2.1, by have := q.2.2; omega⟩), dif_neg (fun q => absurd q.1 (by decide)), dif_neg h]

/-- The products with the laid-out matrices are those with the sixteen rows of one direction. -/
theorem lr_eq (a : Args) (s : Fin 4096) (k : Fin 128) :
    (0 + ∑ l : Fin 512, a.dz 0 s l * PAD a.u (ix3 0 k l)) + ∑ l : Fin 512, a.dz 1 s l * PAD a.u (ix3 1 k l) = a.lr s k := by
  rw [zero_add, Args.lr]
  simp only [pad_fst, pad_snd]
  by_cases h : k.val < 16
  · simp only [dif_pos h, dif_neg (show ¬(16 ≤ k.val ∧ k.val < 32) by omega), mul_zero, Finset.sum_const_zero, add_zero]
  · by_cases h2 : k.val < 32
    · simp only [dif_neg h, dif_pos h2, dif_pos (show 16 ≤ k.val ∧ k.val < 32 from ⟨by omega, h2⟩), mul_zero, Finset.sum_const_zero, zero_add]
    · simp only [dif_neg h, dif_neg h2, dif_neg (show ¬(16 ≤ k.val ∧ k.val < 32) by omega), mul_zero, Finset.sum_const_zero, add_zero]

variable (m : (ℓ : Loc nD τ sig) → Buf (Elt Ideal) ℓ)

section Places
variable (c : Dev nD) (t : Fin cfg0.N)

/-- What a point stores of the queries' gradient. -/
theorem store_dq (y : S512x512.Idx) : (outsAt0 m c t.val t.isLt).1 y = (fun p q : EReal => (p + q) * Ideal.ofBits .f32 0x3DB504F3#32) (iblk m c 2 t y) (iblk m c 3 t y) := by
  by_cases h : t.val % 8 = 0
  · have h1 : ¬1 ≤ t.val := by have : t.val < 8 := t.isLt; omega
    rw [outsAt0_A m c t h h1 h h1 h h1 h h1]; frame_out
    exact dq_store _ _ y
  · have h1 : 1 ≤ t.val := by omega
    rw [outsAt0_B m c t h h1 h h1 h h1 h h1]; frame_out
    exact dq_store _ _ y

/-- What a point stores of the keys' gradient. -/
theorem store_dk (y : S512x512.Idx) : (outsAt0 m c t.val t.isLt).2.1 y = (fun p q : EReal => p + q) (iblk m c 6 t y) (iblk m c 7 t y) := by
  by_cases h : t.val % 8 = 0
  · have h1 : ¬1 ≤ t.val := by have : t.val < 8 := t.isLt; omega
    rw [outsAt0_A m c t h h1 h h1 h h1 h h1]; frame_out
    exact dk_store _ _ y
  · have h1 : 1 ≤ t.val := by omega
    rw [outsAt0_B m c t h h1 h h1 h h1 h h1]; frame_out
    exact dk_store _ _ y

/-- What a point stores of the values' gradient. -/
theorem store_dv (y : S512x1024.Idx) : (outsAt0 m c t.val t.isLt).2.2.1 y = (fun p q : EReal => p + q) (iblk m c 8 t y) (iblk m c 9 t y) := by
  by_cases h : t.val % 8 = 0
  · have h1 : ¬1 ≤ t.val := by have : t.val < 8 := t.isLt; omega
    rw [outsAt0_A m c t h h1 h h1 h h1 h h1]; frame_out
    exact dv_store _ _ y
  · have h1 : 1 ≤ t.val := by omega
    rw [outsAt0_B m c t h h1 h h1 h h1 h h1]; frame_out
    exact dv_store _ _ y

/-- What a point stores of the low-rank columns' gradient. -/
theorem store_dlr (y : S512x128.Idx) : (outsAt0 m c t.val t.isLt).2.2.2.1 y = (0 + ∑ l : Fin 512, dzB m c t 0 (ix2 (y 0) l) * (iblk m c 10 t : Vec Ideal S2x128x512 .f32) (ix3 0 (y 1) l)) + ∑ l : Fin 512, dzB m c t 1 (ix2 (y 0) l) * (iblk m c 10 t : Vec Ideal S2x128x512 .f32) (ix3 1 (y 1) l) := by
  by_cases h : t.val % 8 = 0
  · have h1 : ¬1 ≤ t.val := by have : t.val < 8 := t.isLt; omega
    rw [outsAt0_A m c t h h1 h h1 h h1 h h1]; frame_out
    exact dlr_store _ _ _ _ _ y
  · have h1 : 1 ≤ t.val := by omega
    rw [outsAt0_B m c t h h1 h h1 h h1 h h1]; frame_out
    exact dlr_store _ _ _ _ _ y

/-- It is the reference's value there. -/
theorem point_dq (y : S512x512.Idx) (i : S4096x512.Idx) (h0 : (i 0).val = t.val * 512 + (y 0).val) (h1 : (i 1).val = (y 1).val) : (outsAt0 m c t.val t.isLt).1 y = (args m c).DQ i := by
  refine (store_dq m c t y).trans (congrArg₂ (fun p q : EReal => (p + q) * Ideal.ofBits .f32 0x3DB504F3#32) (?_ : (iblk m c 2 t : Vec Ideal S512x512 .f32) y = (args m c).dqf i) (?_ : (iblk m c 3 t : Vec Ideal S512x512 .f32) y = (args m c).dqb i))
  · unfold args
    blk_point [iblk, V, idx t]
  · unfold args
    blk_point [iblk, V, idx t]

/-- It is the reference's value there. -/
theorem point_dk (y : S512x512.Idx) (i : S4096x512.Idx) (h0 : (i 0).val = t.val * 512 + (y 0).val) (h1 : (i 1).val = (y 1).val) : (outsAt0 m c t.val t.isLt).2.1 y = (args m c).DK i := by
  refine (store_dk m c t y).trans (congrArg₂ (fun p q : EReal => p + q) (?_ : (iblk m c 6 t : Vec Ideal S512x512 .f32) y = (args m c).dkf i) (?_ : (iblk m c 7 t : Vec Ideal S512x512 .f32) y = (args m c).dkb i))
  · unfold args
    blk_point [iblk, V, idx t]
  · unfold args
    blk_point [iblk, V, idx t]

/-- It is the reference's value there. -/
theorem point_dv (y : S512x1024.Idx) (i : S4096x1024.Idx) (h0 : (i 0).val = t.val * 512 + (y 0).val) (h1 : (i 1).val = (y 1).val) : (outsAt0 m c t.val t.isLt).2.2.1 y = (args m c).DV i := by
  refine (store_dv m c t y).trans (congrArg₂ (fun p q : EReal => p + q) (?_ : (iblk m c 8 t : Vec Ideal S512x1024 .f32) y = (args m c).dvf i) (?_ : (iblk m c 9 t : Vec Ideal S512x1024 .f32) y = (args m c).dvb i))
  · unfold args
    blk_point [iblk, V, idx t]
  · unfold args
    blk_point [iblk, V, idx t]

/-- It is the reference's value there. -/
theorem point_dlr (y : S512x128.Idx) (i : S4096x128.Idx) (h0 : (i 0).val = t.val * 512 + (y 0).val) (h1 : (i 1).val = (y 1).val) : (outsAt0 m c t.val t.isLt).2.2.2.1 y = (args m c).DLR i := by
  refine (store_dlr m c t y).trans ((congrArg₂ (fun p q : EReal => 0 + p + q) (Finset.sum_congr rfl fun l _ => ?_) (Finset.sum_congr rfl fun l _ => ?_)).trans (lr_eq (args m c) (i 0) (i 1)))
  · exact congrArg₂ (fun p q : EReal => p * q) (dz_blk m c t 0 (ix2 (y 0) l) (i 0) l h0 rfl) ((congrFun (w_blk m c t) _).trans (congrArg (fun k => PAD (args m c).u (ix3 0 k l)) (Fin.ext h1.symm)))
  · exact congrArg₂ (fun p q : EReal => p * q) (dz_blk m c t 1 (ix2 (y 0) l) (i 0) l h0 rfl) ((congrFun (w_blk m c t) _).trans (congrArg (fun k => PAD (args m c).u (ix3 1 k l)) (Fin.ext h1.symm)))

end Places

/-- The queries' gradient after the run. -/
theorem final_dq (c : Dev nD) : (dats m 0 c).arrAt 12 (cfgs 0).N = (args m c).DQ := by
  refine (dats m 0 c).arrAt_eq_of_covers 12 _ (by decide +kernel) fun t _ y => ?_
  blk_simp
  rw [after0_12]
  refine point_dq m c t y _ ?_ ?_ <;> (blk_simp [idx t] <;> try omega)

/-- The keys' gradient after the run. -/
theorem final_dk (c : Dev nD) : (dats m 0 c).arrAt 13 (cfgs 0).N = (args m c).DK := by
  refine (dats m 0 c).arrAt_eq_of_covers 13 _ (by decide +kernel) fun t _ y => ?_
  blk_simp
  rw [after0_13]
  refine point_dk m c t y _ ?_ ?_ <;> (blk_simp [idx t] <;> try omega)

/-- The values' gradient after the run. -/
theorem final_dv (c : Dev nD) : (dats m 0 c).arrAt 14 (cfgs 0).N = (args m c).DV := by
  refine (dats m 0 c).arrAt_eq_of_covers 14 _ (by decide +kernel) fun t _ y => ?_
  blk_simp
  rw [after0_14]
  refine point_dv m c t y _ ?_ ?_ <;> (blk_simp [idx t] <;> try omega)

/-- The low-rank columns' gradient after the run. -/
theorem final_dlr (c : Dev nD) : (dats m 0 c).arrAt 15 (cfgs 0).N = (args m c).DLR := by
  refine (dats m 0 c).arrAt_eq_of_covers 15 _ (by decide +kernel) fun t _ y => ?_
  blk_simp
  rw [after0_15]
  refine point_dlr m c t y _ ?_ ?_ <;> (blk_simp [idx t] <;> try omega)

/-- What the host makes of the two products: each turned over, stacked, its own sixteen rows cut out. -/
def STK (A B : FVec Ideal S512x128 .f32) : FVec Ideal S2x128x512 .f32 :=
  concatenate S2x128x512 0 [⟨S1x128x512, (broadcastInDim S1x128x512 ![1, 2] bcast_S128x512_S1x128x512_1_2 (transpose S128x512 [1, 0] A transposes_S512x128_S128x512_1_0) : FVec Ideal S1x128x512 .f32)⟩,
    ⟨S1x128x512, (broadcastInDim S1x128x512 ![1, 2] bcast_S128x512_S1x128x512_1_2 (transpose S128x512 [1, 0] B transposes_S512x128_S128x512_1_0) : FVec Ideal S1x128x512 .f32)⟩] concatenates_S1x128x512_S1x128x512_S2x128x512_d0

/-- The cut rows, stacked again. -/
def CUT (X : FVec Ideal S2x128x512 .f32) : FVec Ideal S2x16x512 .f32 :=
  concatenate S2x16x512 0 [⟨S1x16x512, (broadcastInDim S1x16x512 ![1, 2] bcast_S16x512_S1x16x512_1_2 (shapeCast _ (extractStridedSlice S1x16x512 ![0, 0, 0] X slices_S2x128x512_S1x16x512_0_0_0) shapeCasts_S1x16x512_S16x512) : FVec Ideal S1x16x512 .f32)⟩,
    ⟨S1x16x512, (broadcastInDim S1x16x512 ![1, 2] bcast_S16x512_S1x16x512_1_2 (shapeCast _ (extractStridedSlice S1x16x512 ![1, 16, 0] X slices_S2x128x512_S1x16x512_1_16_0) shapeCasts_S1x16x512_S16x512) : FVec Ideal S1x16x512 .f32)⟩] concatenates_S1x16x512_S1x16x512_S2x16x512_d0

/-- The two biases' gradients, stacked. -/
def TWO (A B : FVec Ideal S1x512 .f32) : FVec Ideal S2x512 .f32 := concatenate S2x512 0 [⟨S1x512, A⟩, ⟨S1x512, B⟩] concatenates_S1x512_S1x512_S2x512_d0

/-- The stack's forward half. -/
theorem stk_fst (A B : FVec Ideal S512x128 .f32) (k : Fin 128) (j : Fin 512) : STK A B (ix3 0 k j) = A (ix2 j k) := by
  pointwise [STK]
/-- The stack's backward half. -/
theorem stk_snd (A B : FVec Ideal S512x128 .f32) (k : Fin 128) (j : Fin 512) : STK A B (ix3 1 k j) = B (ix2 j k) := by
  pointwise [STK]
/-- The forward rows. -/
theorem cut_fst (X : FVec Ideal S2x128x512 .f32) (k : Fin 16) (j : Fin 512) : CUT X (ix3 0 k j) = X (ix3 0 ⟨0 * 16 + k.val, by omega⟩ j) := by
  pointwise [CUT]
/-- The backward rows. -/
theorem cut_snd (X : FVec Ideal S2x128x512 .f32) (k : Fin 16) (j : Fin 512) : CUT X (ix3 1 k j) = X (ix3 1 ⟨1 * 16 + k.val, by omega⟩ j) := by
  pointwise [CUT]
/-- The forward bias. -/
theorem two_fst (A B : FVec Ideal S1x512 .f32) (j : Fin 512) : TWO A B (ix2 0 j) = A (ix2 0 j) := by
  pointwise [TWO]
/-- The backward bias. -/
theorem two_snd (A B : FVec Ideal S1x512 .f32) (j : Fin 512) : TWO A B (ix2 1 j) = B (ix2 0 j) := by
  pointwise [TWO]

/-- The host's matrices' gradient is the reference's. -/
theorem cut_eq (a : Args) : CUT (STK (WD a 0) (WD a 1)) = a.DU := by
  funext i
  obtain ⟨d, k, j, rfl⟩ : ∃ d k j, i = ix3 d k j := ⟨_, _, _, (ix3_eta i).symm⟩
  match d with
  | 0 => exact (cut_fst _ k j).trans (stk_fst _ _ _ j)
  | 1 => exact (cut_snd _ k j).trans (stk_snd _ _ _ j)

/-- The host's biases' gradient is the reference's. -/
theorem two_eq (a : Args) : TWO (BD a 0) (BD a 1) = a.DB := by
  funext i
  obtain ⟨d, j, rfl⟩ : ∃ d j, i = ix2 d j := ⟨_, _, (ix2_eta i).symm⟩
  match d with
  | 0 => exact two_fst _ _ j
  | 1 => exact two_snd _ _ j

/-- What the host leaves of the matrices' products. -/
theorem tail_w (c : Dev nD) : Pipeline.afterTail₀ cfgs (dats m) 0 (V0 m) [hostOps1] c main_v25 = CUT (STK ((dats m 0 c).arrAt 16 (cfgs 0).N) ((dats m 0 c).arrAt 17 (cfgs 0).N)) := by
  unfold Pipeline.afterTail₀
  simp only [List.flatten_cons, List.flatten_nil, List.append_nil]
  after_results
  exact congrArg₂ (fun A B => CUT (STK A B)) (Pipeline.withArrays_arr_shared spec0 c (V0 m c) (fun w => (dats m 0 c).arrAt w (cfgs 0).N) ((dats m 0 c).arrAt_sharedIn sharedIn0 (V0 m c) (A_eq m c) _) 16) (Pipeline.withArrays_arr_shared spec0 c (V0 m c) (fun w => (dats m 0 c).arrAt w (cfgs 0).N) ((dats m 0 c).arrAt_sharedIn sharedIn0 (V0 m c) (A_eq m c) _) 17)

/-- What the host leaves of the biases' sums. -/
theorem tail_b (c : Dev nD) : Pipeline.afterTail₀ cfgs (dats m) 0 (V0 m) [hostOps1] c main_v26 = TWO ((dats m 0 c).arrAt 18 (cfgs 0).N) ((dats m 0 c).arrAt 19 (cfgs 0).N) := by
  unfold Pipeline.afterTail₀
  simp only [List.flatten_cons, List.flatten_nil, List.append_nil]
  after_results
  exact congrArg₂ (fun A B => TWO A B) (Pipeline.withArrays_arr_shared spec0 c (V0 m c) (fun w => (dats m 0 c).arrAt w (cfgs 0).N) ((dats m 0 c).arrAt_sharedIn sharedIn0 (V0 m c) (A_eq m c) _) 18) (Pipeline.withArrays_arr_shared spec0 c (V0 m c) (fun w => (dats m 0 c).arrAt w (cfgs 0).N) ((dats m 0 c).arrAt_sharedIn sharedIn0 (V0 m c) (A_eq m c) _) 19)

/-- The kernel's run: the six results are the reference's functions of the arguments, and the arguments are as they were. -/
theorem run (g : Dev nD → PrngReg) :
    θ_run (defs (F := Ideal)) (onTc (τ := τ) (main (F := Ideal))) ⟨m, fun _ => 0, g⟩ fun r => ∀ c : Dev nD,
      r.2.mem ((c.tc : Thread nD τ).loc main_v13_0) = (args m c).DQ
      ∧ r.2.mem ((c.tc : Thread nD τ).loc main_v13_1) = (args m c).DK
      ∧ r.2.mem ((c.tc : Thread nD τ).loc main_v13_2) = (args m c).DV
      ∧ r.2.mem ((c.tc : Thread nD τ).loc main_v13_3) = (args m c).DLR
      ∧ r.2.mem ((c.tc : Thread nD τ).loc main_v25) = (args m c).DU
      ∧ r.2.mem ((c.tc : Thread nD τ).loc main_v26) = (args m c).DB
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run _ _ _).mono (fun r h c => ?_) (θ_run_and (Cert.GlaDpreIdeal.Gen.run_main m g) (Cert.GlaDpreIdeal.Gen.unchanged m g))
  obtain ⟨h, hu⟩ := h
  exact ⟨((h c).1 12).trans (final_dq m c), ((h c).1 13).trans (final_dk m c), ((h c).1 14).trans (final_dv m c), ((h c).1 15).trans (final_dlr m c),
    ((h c).2 main_v25 (Pipeline.mem_restRefs_of main_v25 (by decide) (by decide))).trans ((tail_w m c).trans ((congrArg₂ (fun A B => CUT (STK A B)) (final_wf m c) (final_wb m c)).trans (cut_eq _))),
    ((h c).2 main_v26 (Pipeline.mem_restRefs_of main_v26 (by decide) (by decide))).trans ((tail_b m c).trans ((congrArg₂ (fun A B => TWO A B) (final_bf m c) (final_bb m c)).trans (two_eq _))), hu c⟩

end Cert.GlaDpreIdeal.Val

namespace Cert.Proof

/-- The idealised gradient kernel of the linear attention's preparation computes what the idealised reference computes. -/
theorem gla_dpre_algebraic : Cert.algebraic_GlaDpreIdeal_GlaDpreRefIdeal (hGlaDpreIdeal := Cert.GlaDpreIdeal.Gen.facts) (hGlaDpreRefIdeal := Cert.GlaDpreRefIdeal.Gen.facts) := by
  intro m g m' g' _ hagree
  refine ⟨_, _, _, _, _, _, Cert.GlaDpreIdeal.Val.run m g, ?_⟩
  refine (θ_run _ _ _).mono (fun r h c => ?_) (Cert.GlaDpreRefIdeal.Val.run m' g')
  obtain ⟨e0, e1, e2, e3, e4, e5, e6, e7, e8, e9, e10⟩ := hagree c
  have h' := h c
  have e : Cert.GlaDpreRefIdeal.Val.argsR m' c = Cert.GlaDpreIdeal.Val.args m c := by
    rw [Cert.GlaDpreRefIdeal.Val.argsR, Cert.GlaDpreIdeal.Val.args, e0, e1, e2, e3, e4, e5, e6, e7, e8, e9, e10]
  rw [e] at h'
  exact h'

/-- The idealised reference of the gradients of the linear attention's preparation runs to its end. -/
theorem gla_dpre_ref_frame : Cert.quiescent_GlaDpreRefIdeal (hGlaDpreRefIdeal := Cert.GlaDpreRefIdeal.Gen.facts) := by
  intro m g _
  exact (θ_run _ _ _).mono (fun r h => ⟨fun c => (h c).2.2.2.2.2.2, sem_eq_zero_of_no_sems (by decide) r.2⟩) (Cert.GlaDpreRefIdeal.Value.run m g)

end Cert.Proof

end
-- ==== Proof.Dconv.lean ====
/- The convolution's gradients: what the reference computes, at every place. -/
module

public import proofs.«01_k».proof.Proof.Gen.DconvRefIdeal.Run
public import Idealize.ShloMosaic.Lib.Pipeline.ValueKit
public import Idealize.ShloMosaic.Lib.Quiescent
public import proofs.«01_k».proof.Defs

@[expose] public section

set_option maxRecDepth 16384

noncomputable section

open Idealize.ShloMosaic Idealize.ShloMosaic.TcCoe Idealize.SL.Sem

namespace Cert.DconvRefIdeal.Val

open Cert.DconvRefIdeal Cert.DconvRefIdeal.Gen Cert.DconvRefIdeal.Value

/-- A sequence with zeros before and after it, read two places back. -/
def padAt (f : Fin 4096 → EReal) (n : ℕ) : EReal := if h : 2 ≤ n ∧ n < 4098 then f ⟨n - 2, by omega⟩ else 0

/-- The sequence's own place. -/
theorem padAt_self (f : Fin 4096 → EReal) (s : Fin 4096) (n : ℕ) (hn : n = s.val + 2) : padAt f n = f s := by
  rw [padAt, dif_pos (by omega)]
  exact congrArg f (Fin.ext (by show n - 2 = s.val; omega))

/-- The input's gradient at a place: the four taps' shares. -/
def dxOf (w : Fin 4 → EReal) (g : Fin 4096 → EReal) (s : Fin 4096) : EReal :=
  ((w 3 * padAt g (s.val + 1) + w 2 * g s) + w 1 * padAt g (s.val + 3)) + w 0 * padAt g (s.val + 4)

/-- The input's gradient, as the reference computes it. -/
def DX (w : FVec Ideal S4x512 .f32) (g : FVec Ideal S4096x512 .f32) : FVec Ideal S4096x512 .bf16 :=
  truncf .bf16 (extractStridedSlice S4096x512 ![2, 0] (addf (addf (addf
    (pad S4099x512 ![3, 0] ![0, 0] ![0, 0] (mulf (broadcastInDim S4096x512 ![0, 1] bcast_S1x512_S4096x512_0_1 (broadcastInDim S1x512 ![1] bcast_S512_S1x512_1 (shapeCast _ (extractStridedSlice S1x512 ![3, 0] w slices_S4x512_S1x512_3_0) shapeCasts_S1x512_S512))) (shapeCast _ g shapeCasts_S4096x512_S4096x512)) (constant S_ .f32 0x00000000#32) pads_S4096x512_S4099x512_300_000 h_S_)
    (pad S4099x512 ![2, 0] ![1, 0] ![0, 0] (mulf (broadcastInDim S4096x512 ![0, 1] bcast_S1x512_S4096x512_0_1 (broadcastInDim S1x512 ![1] bcast_S512_S1x512_1 (shapeCast _ (extractStridedSlice S1x512 ![2, 0] w slices_S4x512_S1x512_2_0) shapeCasts_S1x512_S512))) (shapeCast _ g shapeCasts_S4096x512_S4096x512)) (constant S_ .f32 0x00000000#32) pads_S4096x512_S4099x512_210_000 h_S_))
    (pad S4099x512 ![1, 0] ![2, 0] ![0, 0] (mulf (broadcastInDim S4096x512 ![0, 1] bcast_S1x512_S4096x512_0_1 (broadcastInDim S1x512 ![1] bcast_S512_S1x512_1 (shapeCast _ (extractStridedSlice S1x512 ![1, 0] w slices_S4x512_S1x512_1_0) shapeCasts_S1x512_S512))) (shapeCast _ g shapeCasts_S4096x512_S4096x512)) (constant S_ .f32 0x00000000#32) pads_S4096x512_S4099x512_120_000 h_S_))
    (pad S4099x512 ![0, 0] ![3, 0] ![0, 0] (mulf (broadcastInDim S4096x512 ![0, 1] bcast_S1x512_S4096x512_0_1 (broadcastInDim S1x512 ![1] bcast_S512_S1x512_1 (shapeCast _ (extractStridedSlice S1x512 ![0, 0] w slices_S4x512_S1x512_0_0) shapeCasts_S1x512_S512))) (shapeCast _ g shapeCasts_S4096x512_S4096x512)) (constant S_ .f32 0x00000000#32) pads_S4096x512_S4099x512_030_000 h_S_)) slices_S4099x512_S4096x512_2_0) bitsLt_bf16_f32

/-- A share inside the padding is the tap times the padded sequence. -/
theorem share (P : Prop) [Decidable P] (a : EReal) (f : Fin 4096 → EReal) (k : P → Fin 4096) (n : ℕ) (hP : P ↔ (2 ≤ n ∧ n < 4098)) (hk : ∀ h, (k h).val = n - 2) :
    (if h : P then a * f (k h) else 0) = a * padAt f n := by
  by_cases h : P
  · rw [dif_pos h, padAt, dif_pos (hP.mp h)]
    exact congrArg (fun i => a * f i) (Fin.ext (hk h))
  · rw [dif_neg h, padAt, dif_neg (fun q => h (hP.mpr q)), mul_zero]

/-- It is the four taps' shares. -/
theorem dx_at (w : FVec Ideal S4x512 .f32) (g : FVec Ideal S4096x512 .f32) (s : Fin 4096) (l : Fin 512) : DX w g (ix2 s l) = dxOf (fun t => w (ix2 t l)) (fun r => g (ix2 r l)) s := by
  pointwise [DX]
  rw [dxOf]
  refine congrArg₂ (· + ·) (congrArg₂ (· + ·) (congrArg₂ (· + ·) ?_ rfl) ?_) ?_
  · exact share _ _ (fun r => g (ix2 r l)) (fun h => ⟨2 + s.val - 3, h.2⟩) _ (by omega) (fun h => by show 2 + s.val - 3 = _; omega)
  · exact share _ _ (fun r => g (ix2 r l)) (fun h => ⟨2 + s.val - 1, h.2⟩) _ (by omega) (fun h => by show 2 + s.val - 1 = _; omega)
  · exact share _ _ (fun r => g (ix2 r l)) (fun h => ⟨2 + s.val, h⟩) _ (by omega) (fun h => by show 2 + s.val = _; omega)

/-- A column of the projected values the convolution reads. -/
def colX (x : FVec Ideal S4096x3584 .f32) (l : Fin 512) : Fin 4096 → EReal := fun r => x (ix2 r ⟨l.val, by omega⟩)

/-- A column of the gradient. -/
def colG (g : FVec Ideal S4096x512 .f32) (l : Fin 512) : Fin 4096 → EReal := fun r => g (ix2 r l)

/-- The taps' gradient: each tap's sum of the gradient times the shifted input. -/
def DW (x : FVec Ideal S4096x3584 .f32) (g : FVec Ideal S4096x512 .f32) : FVec Ideal S4x512 .f32 := fun i =>
  ∑ s : Fin 4096, colG g (i 1) s * padAt (colX x (i 1)) ((i 0).val + s.val)

/-- The bias's gradient. -/
def DB (g : FVec Ideal S4096x512 .f32) : FVec Ideal S1x512 .f32 := fun i => ∑ s : Fin 4096, g (ix2 s (i 1))

/-- Zero before, the sequence, zero after. -/
theorem framed (f : Fin 4096 → EReal) (n : ℕ) : (if h : n < 2 then (0 : EReal) else if h : n - 2 < 4096 then f ⟨n - 2, h⟩ else 0) = padAt f n := by
  rw [padAt]
  by_cases h : n < 2
  · rw [dif_pos h, dif_neg (by omega)]
  · by_cases h2 : n - 2 < 4096
    · rw [dif_neg h, dif_pos h2, dif_pos (by omega)]
    · rw [dif_neg h, dif_neg h2, dif_neg (by omega)]

/-- A tap's sum, whatever way its shifted values are written. -/
theorem tap (n : ℕ) (f g q : Fin 4096 → EReal) (hq : ∀ s, q s = padAt f (n + s.val)) : (∑ _z : Fin 1, ∑ s, g s * q s) = ∑ s, g s * padAt f (n + s.val) :=
  (Fin.sum_univ_one _).trans (Finset.sum_congr rfl fun s _ => congrArg (fun p => g s * p) (hq s))

variable (m : (ℓ : Loc nD τ sig) → Buf (Elt Ideal) ℓ)

/-- The reference's taps' gradient is that. -/
theorem dw_eq (c : Dev nD) : res_main_v82 m c = DW (m ((c.tc : Thread nD τ).loc main_arg0)) (m ((c.tc : Thread nD τ).loc main_arg2)) := by
  funext i
  obtain ⟨t, l, rfl⟩ : ∃ (t : Fin 4) (l : Fin 512), i = ix2 t l := ⟨_, _, (ix2_eta i).symm⟩
  match t with
  | 0 =>
    pointwise [res_main_v82]
    exact tap 0 (colX (m ((c.tc : Thread nD τ).loc main_arg0)) l) (colG (m ((c.tc : Thread nD τ).loc main_arg2)) l) _ fun s => (framed (colX (m ((c.tc : Thread nD τ).loc main_arg0)) l) _).trans (congrArg (padAt _) (Nat.zero_add _).symm)
  | 1 =>
    pointwise [res_main_v82]
    exact tap 1 (colX (m ((c.tc : Thread nD τ).loc main_arg0)) l) (colG (m ((c.tc : Thread nD τ).loc main_arg2)) l) _ fun s => framed (colX (m ((c.tc : Thread nD τ).loc main_arg0)) l) _
  | 2 =>
    pointwise [res_main_v82]
    exact tap 2 (colX (m ((c.tc : Thread nD τ).loc main_arg0)) l) (colG (m ((c.tc : Thread nD τ).loc main_arg2)) l) _ fun s => (padAt_self (colX (m ((c.tc : Thread nD τ).loc main_arg0)) l) s _ (Nat.add_comm _ _)).symm
  | 3 =>
    pointwise [res_main_v82]
    exact tap 3 (colX (m ((c.tc : Thread nD τ).loc main_arg0)) l) (colG (m ((c.tc : Thread nD τ).loc main_arg2)) l) _ fun s => framed (colX (m ((c.tc : Thread nD τ).loc main_arg0)) l) _

/-- The reference's bias's gradient is that. -/
theorem db_eq (g : FVec Ideal S4096x512 .f32) : shapeCast S1x512 (Host.reduceAdd g (constant S_ .f32 0x00000000#32) reducesTo_S4096x512_S512_d0 h_S_) shapeCasts_S512_S1x512 = DB g := by
  funext i
  pointwise [DB]

/-- The reference's run: the three gradients, and the arguments as they were. -/
theorem run (g : Dev nD → PrngReg) :
    θ_run (defs (F := Ideal)) (onTc (τ := τ) (main (F := Ideal))) ⟨m, fun _ => 0, g⟩ fun r => ∀ c : Dev nD,
      r.2.mem ((c.tc : Thread nD τ).loc main_v86) = DX (m ((c.tc : Thread nD τ).loc main_arg1)) (m ((c.tc : Thread nD τ).loc main_arg2))
      ∧ r.2.mem ((c.tc : Thread nD τ).loc main_v82) = DW (m ((c.tc : Thread nD τ).loc main_arg0)) (m ((c.tc : Thread nD τ).loc main_arg2))
      ∧ r.2.mem ((c.tc : Thread nD τ).loc main_v40) = DB (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run _ _ _).mono (fun r h c => ?_) (Cert.DconvRefIdeal.Value.run m g)
  obtain ⟨h0, h1, h2, h3⟩ := h c
  exact ⟨h0, h1.trans (dw_eq m c), h2.trans (db_eq _), h3⟩

end Cert.DconvRefIdeal.Val

end
-- ==== Proof.DconvShift.lean ====
/- The convolution's gradients: which rows a shifted block keeps. -/
module

public import proofs.«01_k».proof.Proof.Gen.DconvIdeal.Frame
public import proofs.«01_k».proof.Proof.Dconv
public import Idealize.ShloMosaic.Lib.KernelVsHost

@[expose] public section

set_option maxRecDepth 16384

noncomputable section

open Idealize.ShloMosaic Idealize.ShloMosaic.TcCoe Idealize.SL.Sem

namespace Cert.DconvIdeal.Val

open Cert.DconvIdeal Cert.DconvIdeal.Gen
open Cert.DconvRefIdeal.Val (padAt dxOf DX DW DB)

/-- The rows whose shifted row is inside the block, as the body finds them. -/
def inside (off : BitVec 32) (v : BitVec 32) : BitVec 1 := IntOp.andi (IntOp.cmpi .sge (IntOp.addi v off) 0#32) (IntOp.cmpi .slt (IntOp.addi v off) 4096#32)

/-- A shifted block: the rotated rows, zero where they come from around the end. -/
def SH (off n : BitVec 32) (x : FVec Ideal S4096x128 .f32) : FVec Ideal S4096x128 .f32 :=
  select (andi (cmpi .sge (addi (iota .tc S4096x128 32 [0] iota_S4096x128_d0_w32) (broadcast S4096x128 off)) (broadcast S4096x128 0#32))
    (cmpi .slt (addi (iota .tc S4096x128 32 [0] iota_S4096x128_d0_w32) (broadcast S4096x128 off)) (broadcast S4096x128 4096#32)))
    (dynamicRotate 0 n none x rotates_S4096x128_d0) (broadcast S4096x128 (Scalar.ofBits .f32 0x00000000#32))

/-- The rows found are the rows whose place, moved by the shift, is inside. -/
theorem inside_eq (k : Fin 5) : ∀ s : Fin 4096, inside (BitVec.ofNat 32 k.val - 2#32) (BitVec.ofNat 32 s.val) = if 2 ≤ k.val + s.val ∧ k.val + s.val < 4098 then 1#1 else 0#1 := by
  revert k
  decide +kernel

end Cert.DconvIdeal.Val

end
-- ==== Proof.DconvRows.lean ====
/- The convolution's gradients: the kernel's shifted blocks, and what its stores hold. -/
module

public import proofs.«01_k».proof.Proof.Gen.DconvIdeal.Frame
public import proofs.«01_k».proof.Proof.DconvShift
public import Idealize.ShloMosaic.Lib.KernelVsHost

@[expose] public section

set_option maxRecDepth 16384

noncomputable section

open Idealize.ShloMosaic Idealize.ShloMosaic.TcCoe Idealize.SL.Sem

namespace Cert.DconvIdeal.Val

open Cert.DconvIdeal Cert.DconvIdeal.Gen
open Cert.DconvRefIdeal.Val (padAt dxOf DX DW DB)

/-- The row counter at a place. -/
theorem iota_row (s : Fin 4096) (l : Fin 128) : iota .tc S4096x128 32 [0] iota_S4096x128_d0_w32 (ix2 s l) = BitVec.ofNat 32 s.val :=
  iota_single_apply .tc S4096x128 32 0 iota_S4096x128_d0_w32 (ix2 s l)

/-- A shifted block's column is the padded column, read further on. -/
theorem SH_at (k : Fin 5) (off n : BitVec 32) (hoff : off = BitVec.ofNat 32 k.val - 2#32) (hn : n.toNat % 4096 + k.val = 2 ∨ n.toNat % 4096 + k.val = 4098)
    (x : FVec Ideal S4096x128 .f32) (s : Fin 4096) (l : Fin 128) : SH off n x (ix2 s l) = padAt (fun r => x (ix2 r l)) (k.val + s.val) := by
  have hm : (if inside off (BitVec.ofNat 32 s.val) = 1#1 then dynamicRotate 0 n none x rotates_S4096x128_d0 (ix2 s l) else (Scalar.ofBits .f32 0x00000000#32 : Ideal .f32)) = padAt (fun r => x (ix2 r l)) (k.val + s.val) := by
    rw [hoff, inside_eq k s, padAt]
    by_cases h : 2 ≤ k.val + s.val ∧ k.val + s.val < 4098
    · rw [dif_pos h, if_pos h, if_pos rfl]
      exact dynamicRotate_apply 0 n x rotates_S4096x128_d0 (ix2 s l) (ix2 ⟨k.val + s.val - 2, by omega⟩ l) (fun b => by
        match b with
        | 0 =>
          show k.val + s.val - 2 = (s.val + 4096 - n.toNat % 4096) % 4096
          omega
        | 1 => rfl)
    · rw [dif_neg h, if_neg h, if_neg (by decide)]
      exact Ideal.ofBits_zero_f32
  refine Eq.trans ?_ hm
  rw [SH, ← iota_row s l]
  rfl

/-- A block's sum down its rows. -/
def RED (a : FVec Ideal S4096x128 .f32) : FVec Ideal S1x128 .f32 := shapeCast S1x128 (multiReduction .add [0] S128 a 0x00000000#32 reduces_S4096x128_S128 (.inl rfl) rfl) shapeCasts_S128_S1x128

/-- It is the sum of every column. -/
theorem RED_at (a : FVec Ideal S4096x128 .f32) (z : Fin 1) (l : Fin 128) : RED a (ix2 z l) = ∑ s : Fin 4096, a (ix2 s l) := by
  pointwise [RED]

/-- The taps' gradient's row that a shifted block gives. -/
theorem row_at (k : Fin 5) (off n : BitVec 32) (hoff : off = BitVec.ofNat 32 k.val - 2#32) (hn : n.toNat % 4096 + k.val = 2 ∨ n.toNat % 4096 + k.val = 4098)
    (x g : FVec Ideal S4096x128 .f32) (z : Fin 1) (l : Fin 128) :
    RED (mulf g (SH off n x)) (ix2 z l) = ∑ s : Fin 4096, g (ix2 s l) * padAt (fun r => x (ix2 r l)) (k.val + s.val) := by
  rw [RED_at]
  exact Finset.sum_congr rfl fun s _ => congrArg (fun p : EReal => (g (ix2 s l) : EReal) * p) (SH_at k off n hoff hn x s l)

/-- A row of the taps, over the whole block. -/
def WB (w : FVec Ideal S1x128 .f32) : FVec Ideal S4096x128 .f32 := broadcastTo S4096x128 w broadcasts_S1x128_S4096x128

/-- Its value is the row's. -/
theorem WB_at (w : FVec Ideal S1x128 .f32) (s : Fin 4096) (l : Fin 128) : WB w (ix2 s l) = w (ix2 0 l) := by
  pointwise [WB]

/-- The input's gradient's block, with its shifted blocks named. -/
theorem pay3_eq (g : FVec Ideal S4096x128 .f32) (w2 w0 w1 w3 : FVec Ideal S1x128 .f32) :
    k0_pay3 g (iota .tc S4096x128 32 [0] iota_S4096x128_d0_w32) (k0_pay1 g w2 w0) (k0_pay2 g w1) w3
      = truncf .bf16 (addf (addf (addf (mulf (WB w2) g) (mulf (WB w0) (SH 2#32 4094#32 g))) (mulf (WB w1) (SH 1#32 4095#32 g))) (mulf (WB w3) (SH 4294967295#32 1#32 g))) bitsLt_bf16_f32 := rfl

/-- A loaded row of the taps. -/
theorem ld_row (w : Vec Ideal S4x128 .f32) (t : Fin 4) (inb : ∀ x, (![t.val, 0] : Fin 2 → Nat) x + S1x128.size x ≤ S4x128.size x) (l : Fin 128) :
    (View.ld w (Rect.unit (s := S4x128) ![t.val, 0] S1x128.size inb) : Vec Ideal S1x128 .f32) (ix2 (0 : Fin 1) l) = w (ix2 t l) := by
  refine congrArg w (funext fun x => Fin.ext ?_)
  fin_cases x
  · show t.val + 1 * 0 = t.val; omega
  · show 0 + 1 * l.val = l.val; omega

/-- The four shares in the other order. -/
theorem reorder (A B C D : EReal) : ((B + D) + C) + A = ((A + B) + C) + D := by
  abel

/-- The input's gradient's block at a place: the four taps' shares. -/
theorem pay3_at (g : Vec Ideal S4096x128 .f32) (w : Vec Ideal S4x128 .f32) (s : Fin 4096) (l : Fin 128) :
    (k0_pay3 (F := Ideal) g (iota .tc S4096x128 32 [0] iota_S4096x128_d0_w32) (k0_pay1 g (View.ld w r0_1) (View.ld w r0_2)) (k0_pay2 g (View.ld w r0_3)) (View.ld w r0_4) (ix2 s l) : EReal)
      = dxOf (fun t => w (ix2 t l)) (fun r => g (ix2 r l)) s := by
  have h (a : FVec Ideal S1x128 .f32) (p q : EReal) (hp : a (ix2 0 l) = p) (x : FVec Ideal S4096x128 .f32) (hq : x (ix2 s l) = q) : mulf (WB a) x (ix2 s l) = (p * q : EReal) :=
    congrArg₂ (fun a b : EReal => a * b) ((WB_at a s l).trans hp) hq
  have e1 := h (View.ld w r0_1) _ _ (ld_row w 2 _ l) g rfl
  have e2 := h (View.ld w r0_2) _ _ (ld_row w 0 _ l) (SH 2#32 4094#32 g) (SH_at 4 _ _ (by decide) (by decide) g s l)
  have e3 := h (View.ld w r0_3) _ _ (ld_row w 1 _ l) (SH 1#32 4095#32 g) (SH_at 3 _ _ (by decide) (by decide) g s l)
  have e4 := h (View.ld w r0_4) _ _ (ld_row w 3 _ l) (SH 4294967295#32 1#32 g) (SH_at 1 _ _ (by decide) (by decide) g s l)
  rw [pay3_eq, dxOf]
  refine (congrArg₂ (fun a b : EReal => a + b) (congrArg₂ (fun a b : EReal => a + b) (congrArg₂ (fun a b : EReal => a + b) e1 e2) e3) e4).trans ?_
  rw [Nat.add_comm s.val 1, Nat.add_comm s.val 3, Nat.add_comm s.val 4]
  exact reorder _ _ _ _

/-- A place of a row stored into the taps' block. -/
theorem row_emb (t : Fin 4) (inb : ∀ x, (![t.val, 0] : Fin 2 → Nat) x + S1x128.size x ≤ S4x128.size x) (l : Fin 128) :
    (Rect.unit (s := S4x128) ![t.val, 0] S1x128.size inb).emb (ix2 (0 : Fin 1) l) = ix2 t l := by
  funext x
  apply Fin.ext
  fin_cases x
  · show t.val + 1 * 0 = t.val; omega
  · show 0 + 1 * l.val = l.val; omega

/-- The newest stored row, at its own place. -/
theorem row_hit (t : Fin 4) (inb : ∀ x, (![t.val, 0] : Fin 2 → Nat) x + S1x128.size x ≤ S4x128.size x) (w : S1x128.Idx → Elt Ideal .f32)
    (L : List (View.Piece (Elt Ideal) S4x128 .f32)) (l : Fin 128) :
    View.canon ((⟨Rect.unit (s := S4x128) ![t.val, 0] S1x128.size inb, w⟩ : View.Piece (Elt Ideal) S4x128 .f32) :: L) (ix2 t l) = w (ix2 (0 : Fin 1) l) := by
  rw [← row_emb t inb l]
  exact View.canon_cons_emb (Rect.unit (s := S4x128) ![t.val, 0] S1x128.size inb) w L (ix2 (0 : Fin 1) l)

/-- The newest stored row, at another place. -/
theorem row_miss (t t' : Fin 4) (hne : t'.val ≠ t.val) (inb : ∀ x, (![t'.val, 0] : Fin 2 → Nat) x + S1x128.size x ≤ S4x128.size x) (w : S1x128.Idx → Elt Ideal .f32)
    (L : List (View.Piece (Elt Ideal) S4x128 .f32)) (l : Fin 128) :
    View.canon ((⟨Rect.unit (s := S4x128) ![t'.val, 0] S1x128.size inb, w⟩ : View.Piece (Elt Ideal) S4x128 .f32) :: L) (ix2 t l) = View.canon L (ix2 t l) := by
  refine View.canon_cons_of_not_mem _ L ?_
  intro hm
  obtain ⟨i, hi, he⟩ := (LoadRect.mem_set _).mp hm (0 : Fin 2)
  have hi1 : i < 1 := hi
  have he' : t.val = t'.val + 1 * i := he
  omega

/-- A row's sum with the block's own rows. -/
theorem own_at (x g : FVec Ideal S4096x128 .f32) (l : Fin 128) :
    RED (mulf g x) (ix2 (0 : Fin 1) l) = ∑ s : Fin 4096, g (ix2 s l) * padAt (fun r => x (ix2 r l)) (2 + s.val) := by
  rw [RED_at]
  exact Finset.sum_congr rfl fun s _ => congrArg (fun p : EReal => (g (ix2 s l) : EReal) * p) (Cert.DconvRefIdeal.Val.padAt_self (fun r => x (ix2 r l)) s _ (Nat.add_comm _ _)).symm

/-- The taps' gradient's block at a place. -/
theorem out4_at (x : Vec Ideal S4096x128 .f32) (w : Vec Ideal S4x128 .f32) (g : Vec Ideal S4096x128 .f32) (t : Fin 4) (l : Fin 128) :
    (out0_4 (F := Ideal) x w g (ix2 t l) : EReal) = ∑ s : Fin 4096, (g (ix2 s l) : EReal) * padAt (fun r => x (ix2 r l)) (t.val + s.val) := by
  unfold_out out0_4
  have hx : View.ld x r0_0 = x := View.ld_unit_zero (by funext a; fin_cases a <;> rfl) _ x
  have hg : View.ld g r0_0 = g := View.ld_unit_zero (by funext a; fin_cases a <;> rfl) _ g
  rw [hx, hg]
  match t with
  | 0 =>
    exact (row_miss 0 3 (by decide) _ _ _ l).trans ((row_miss 0 2 (by decide) _ _ _ l).trans ((row_miss 0 1 (by decide) _ _ _ l).trans ((row_hit 0 _ _ _ l).trans
      (row_at 0 4294967294#32 2#32 (by decide) (by decide) x g 0 l))))
  | 1 =>
    exact (row_miss 1 3 (by decide) _ _ _ l).trans ((row_miss 1 2 (by decide) _ _ _ l).trans ((row_hit 1 _ _ _ l).trans
      (row_at 1 4294967295#32 1#32 (by decide) (by decide) x g 0 l)))
  | 2 =>
    exact (row_miss 2 3 (by decide) _ _ _ l).trans ((row_hit 2 _ _ _ l).trans (own_at x g l))
  | 3 =>
    exact (row_hit 3 _ _ _ l).trans (row_at 3 1#32 4095#32 (by decide) (by decide) x g 0 l)

end Cert.DconvIdeal.Val

end
-- ==== Proof.DconvRun.lean ====
/- The convolution's gradients: the kernel's run computes the reference's functions of its arguments. -/
module

public import proofs.«01_k».proof.Proof.DconvRows
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.DconvIdeal.Val

open Cert.DconvIdeal Cert.DconvIdeal.Gen
open Cert.DconvRefIdeal.Val (padAt dxOf DX DW DB dx_at colX colG)

variable (m : (ℓ : Loc nD τ sig) → Buf (Elt Ideal) ℓ)

/-- The projected values, as a 4096 by 3584 array. -/
abbrev aX (c : Dev nD) : FVec Ideal S4096x3584 .f32 := m ((c.tc : Thread nD τ).loc main_arg0)

/-- The taps. -/
abbrev aW (c : Dev nD) : FVec Ideal S4x512 .f32 := m ((c.tc : Thread nD τ).loc main_arg1)

/-- The gradient of what the convolution gave. -/
abbrev aG (c : Dev nD) : FVec Ideal S4096x512 .f32 := m ((c.tc : Thread nD τ).loc main_arg2)

/-- Which block each window holds at each point. -/
theorem idx : ∀ t : Fin cfg0.N, win0_0.index t = ![0, t.val] ∧ win0_1.index t = ![0, t.val] ∧ win0_2.index t = ![0, t.val]
    ∧ win0_3.index t = ![0, t.val] ∧ win0_4.index t = ![0, t.val] ∧ win0_5.index t = ![0, t.val] :=
  (by decide +kernel : ∀ t : Fin grid0.N, _)

/-- The block's column in the whole array. -/
abbrev col (t : Fin cfg0.N) (l : Fin 128) : Fin 512 := ⟨t.val * 128 + l.val, by have h : t.val < 4 := t.isLt; omega⟩

/-- The block of projected values at a place. -/
theorem x_blk (c : Dev nD) (t : Fin cfg0.N) (s : Fin 4096) (l : Fin 128) : (iblk m c 0 t : Vec Ideal S4096x128 .f32) (ix2 s l) = colX (aX m c) (col t l) s := by
  unfold colX aX
  blk_point [iblk, V, idx t]

/-- The block of taps at a place. -/
theorem w_blk (c : Dev nD) (t : Fin cfg0.N) (k : Fin 4) (l : Fin 128) : (iblk m c 1 t : Vec Ideal S4x128 .f32) (ix2 k l) = aW m c (ix2 k (col t l)) := by
  unfold aW
  blk_point [iblk, V, idx t]

/-- The block of the gradient at a place. -/
theorem g_blk (c : Dev nD) (t : Fin cfg0.N) (s : Fin 4096) (l : Fin 128) : (iblk m c 2 t : Vec Ideal S4096x128 .f32) (ix2 s l) = aG m c (ix2 s (col t l)) := by
  unfold aG
  blk_point [iblk, V, idx t]

section Places

variable (c : Dev nD) (t : Fin cfg0.N)

/-- What the body stores of the input's gradient is the reference's value at the block's place. -/
theorem point_dx (y : S4096x128.Idx) (i : S4096x512.Idx) (h0 : (i 0).val = (y 0).val) (h1 : (i 1).val = t.val * 128 + (y 1).val) :
    out0_3 (iblk m c 0 t) (iblk m c 1 t) (iblk m c 2 t) y = DX (aW m c) (aG m c) i := by
  obtain ⟨s, l, rfl⟩ : ∃ (s : Fin 4096) (l : Fin 128), y = ix2 s l := ⟨_, _, (ix2_eta y).symm⟩
  obtain rfl : i = ix2 s (col t l) := (ix2_eta i).symm.trans (congrArg₂ (fun a b => ix2 a b) (Fin.ext h0) (Fin.ext h1))
  unfold_out out0_3
  frame_out
  refine (pay3_at (iblk m c 2 t) (iblk m c 1 t) s l).trans (Eq.trans ?_ (dx_at _ _ s (col t l)).symm)
  exact congrArg₂ (fun w g => dxOf w g s) (funext fun k => w_blk m c t k l) (funext fun r => g_blk m c t r l)

/-- What the body stores of the taps' gradient is the reference's value at the block's place. -/
theorem point_dw (y : S4x128.Idx) (i : S4x512.Idx) (h0 : (i 0).val = (y 0).val) (h1 : (i 1).val = t.val * 128 + (y 1).val) :
    out0_4 (iblk m c 0 t) (iblk m c 1 t) (iblk m c 2 t) y = DW (aX m c) (aG m c) i := by
  obtain ⟨k, l, rfl⟩ : ∃ (k : Fin 4) (l : Fin 128), y = ix2 k l := ⟨_, _, (ix2_eta y).symm⟩
  obtain rfl : i = ix2 k (col t l) := (ix2_eta i).symm.trans (congrArg₂ (fun a b => ix2 a b) (Fin.ext h0) (Fin.ext h1))
  refine (out4_at (iblk m c 0 t) (iblk m c 1 t) (iblk m c 2 t) k l).trans ?_
  exact Finset.sum_congr rfl fun s _ => congrArg₂ (fun p q : EReal => p * q) (g_blk m c t s l) (congrArg (fun f => padAt f (k.val + s.val)) (funext fun r => x_blk m c t r l))

/-- What the body stores of the bias's gradient is the reference's value at the block's place. -/
theorem point_db (y : S1x128.Idx) (i : S1x512.Idx) (h1 : (i 1).val = t.val * 128 + (y 1).val) :
    out0_5 (iblk m c 0 t) (iblk m c 1 t) (iblk m c 2 t) y = DB (aG m c) i := by
  obtain ⟨z, l, rfl⟩ : ∃ (z : Fin 1) (l : Fin 128), y = ix2 z l := ⟨_, _, (ix2_eta y).symm⟩
  have hi : i 1 = col t l := Fin.ext h1
  unfold_out out0_5
  frame_out
  refine (RED_at (iblk m c 2 t) z l).trans ?_
  unfold DB
  rw [hi]
  exact Finset.sum_congr rfl fun s _ => g_blk m c t s l

end Places

/-- The input's gradient after the run. -/
theorem final_dx (c : Dev nD) : (dats m 0 c).arrAt 3 (cfgs 0).N = DX (aW m c) (aG m c) := by
  refine (dats m 0 c).arrAt_eq_of_covers 3 _ (by decide +kernel) fun t _ y => ?_
  blk_simp
  rw [after0_3]
  refine point_dx m c t y _ ?_ ?_ <;> (blk_simp [idx t] <;> try omega)

/-- The taps' gradient after the run. -/
theorem final_dw (c : Dev nD) : (dats m 0 c).arrAt 4 (cfgs 0).N = DW (aX m c) (aG m c) := by
  refine (dats m 0 c).arrAt_eq_of_covers 4 _ (by decide +kernel) fun t _ y => ?_
  blk_simp
  rw [after0_4]
  refine point_dw m c t y _ ?_ ?_ <;> (blk_simp [idx t] <;> try omega)

/-- The bias's gradient after the run. -/
theorem final_db (c : Dev nD) : (dats m 0 c).arrAt 5 (cfgs 0).N = DB (aG m c) := by
  refine (dats m 0 c).arrAt_eq_of_covers 5 _ (by decide +kernel) fun t _ y => ?_
  blk_simp
  rw [after0_5]
  refine point_db m c t y _ ?_ <;> (blk_simp [idx t] <;> try omega)

end Cert.DconvIdeal.Val

namespace Cert.Proof

/-- The idealised gradient kernel of the convolution computes what the idealised reference computes. -/
theorem dconv_algebraic : Cert.algebraic_DconvIdeal_DconvRefIdeal (hDconvIdeal := Cert.DconvIdeal.Gen.facts) (hDconvRefIdeal := Cert.DconvRefIdeal.Gen.facts) := by
  pair_intro
  · run_from Cert.DconvIdeal.Gen.run_main m g
  · run_from Cert.DconvRefIdeal.Val.run m' g'
    · exact (Cert.DconvIdeal.Val.final_dx m c).symm
    · exact (Cert.DconvIdeal.Val.final_dw m c).symm
    · exact (Cert.DconvIdeal.Val.final_db m c).symm

/-- The idealised reference of the convolution's gradients runs to its end. -/
theorem dconv_ref_frame : Cert.quiescent_DconvRefIdeal (hDconvRefIdeal := Cert.DconvRefIdeal.Gen.facts) := by
  intro m g _
  exact (θ_run _ _ _).mono (fun r h => ⟨fun c => (h c).2.2.2, sem_eq_zero_of_no_sems (by decide) r.2⟩) (Cert.DconvRefIdeal.Value.run m g)

end Cert.Proof

end
-- ==== Proof.Conv.lean ====
/- The convolution: the kernel's rows are the reference's. -/
module

public import proofs.«01_k».proof.Proof.Gen.ConvIdeal.Frame
public import proofs.«01_k».proof.Proof.Gen.ConvRefIdeal.Run
public import proofs.«01_k».proof.Proof.DconvRows
public import Idealize.ShloMosaic.Lib.Pipeline.ValueKit
public import Idealize.ShloMosaic.Lib.Claim
public import Idealize.ShloMosaic.Lib.Quiescent
public import proofs.«01_k».proof.Defs

@[expose] public section

set_option maxRecDepth 16384

noncomputable section

open Idealize.ShloMosaic Idealize.ShloMosaic.TcCoe Idealize.SL.Sem
open Idealize.ShloMosaic.Pipeline (Dat)

namespace Cert.ConvRefIdeal.Val

open Cert.ConvRefIdeal Cert.ConvRefIdeal.Gen
open Cert.DconvRefIdeal.Val (padAt padAt_self framed colX)

/-- The convolved columns between two rows of zeros before and one after. -/
abbrev XP (X : FVec Ideal S4096x3584 .f32) : FVec Ideal S4099x512 .f32 :=
  concatenate S4099x512 0 [⟨S2x512, (broadcastInDim S2x512 ![] bcast_S_S2x512 (constant S_ .f32 0x00000000#32) : FVec Ideal S2x512 .f32)⟩, ⟨S4096x512, (extractStridedSlice S4096x512 ![0, 0] X slices_S4096x3584_S4096x512_0_0 : FVec Ideal S4096x512 .f32)⟩, ⟨S1x512, (broadcastInDim S1x512 ![] bcast_S_S1x512 (constant S_ .f32 0x00000000#32) : FVec Ideal S1x512 .f32)⟩] concatenates_S2x512_S4096x512_S1x512_S4099x512_d0

/-- The reference's term over its arguments. -/
def REF (X : FVec Ideal S4096x3584 .f32) (W : FVec Ideal S4x512 .f32) (B : FVec Ideal S1x512 .f32) : FVec Ideal S4096x512 .f32 :=
  addf (addf (addf (addf (addf (broadcastInDim S4096x512 ![] bcast_S_S4096x512 (constant S_ .f32 0x00000000#32))
    (mulf (broadcastInDim S4096x512 ![0, 1] bcast_S1x512_S4096x512_0_1 (broadcastInDim S1x512 ![1] bcast_S512_S1x512_1 (shapeCast _ (extractStridedSlice S1x512 ![0, 0] W slices_S4x512_S1x512_0_0) shapeCasts_S1x512_S512))) (extractStridedSlice S4096x512 ![0, 0] (XP X) slices_S4099x512_S4096x512_0_0)))
    (mulf (broadcastInDim S4096x512 ![0, 1] bcast_S1x512_S4096x512_0_1 (broadcastInDim S1x512 ![1] bcast_S512_S1x512_1 (shapeCast _ (extractStridedSlice S1x512 ![1, 0] W slices_S4x512_S1x512_1_0) shapeCasts_S1x512_S512))) (extractStridedSlice S4096x512 ![1, 0] (XP X) slices_S4099x512_S4096x512_1_0)))
    (mulf (broadcastInDim S4096x512 ![0, 1] bcast_S1x512_S4096x512_0_1 (broadcastInDim S1x512 ![1] bcast_S512_S1x512_1 (shapeCast _ (extractStridedSlice S1x512 ![2, 0] W slices_S4x512_S1x512_2_0) shapeCasts_S1x512_S512))) (extractStridedSlice S4096x512 ![2, 0] (XP X) slices_S4099x512_S4096x512_2_0)))
    (mulf (broadcastInDim S4096x512 ![0, 1] bcast_S1x512_S4096x512_0_1 (broadcastInDim S1x512 ![1] bcast_S512_S1x512_1 (shapeCast _ (extractStridedSlice S1x512 ![3, 0] W slices_S4x512_S1x512_3_0) shapeCasts_S1x512_S512))) (extractStridedSlice S4096x512 ![3, 0] (XP X) slices_S4099x512_S4096x512_3_0)))
    (broadcastInDim S4096x512 ![0, 1] bcast_S1x512_S4096x512_0_1 B)

/-- A row of the padded columns. -/
theorem xp_at (X : FVec Ideal S4096x3584 .f32) (n : Fin 4099) (l : Fin 512) : XP X (ix2 n l) = padAt (colX X l) n.val := by
  refine Eq.trans ?_ (framed (colX X l) n.val)
  pointwise [XP]
  rfl

/-- A tap times the padded columns, as the reference reads them. -/
theorem term_at (X : FVec Ideal S4096x3584 .f32) (a : FVec Ideal S4096x512 .f32) (t : Fin 4) (h : S4099x512.Slices ![t.val, 0] S4096x512) (s : Fin 4096) (l : Fin 512) (w : EReal) (ha : a (ix2 s l) = w) :
    mulf a (extractStridedSlice S4096x512 ![t.val, 0] (XP X) h) (ix2 s l) = w * padAt (colX X l) (t.val + s.val) := by
  have e : extractStridedSlice S4096x512 ![t.val, 0] (XP X) h (ix2 s l) = XP X (ix2 ⟨t.val + s.val, by omega⟩ l) := by
    rw [extractStridedSlice]
    refine congrArg (XP X) (funext fun x => Fin.ext ?_)
    fin_cases x
    · rfl
    · show 0 + l.val = l.val; omega
  exact congrArg₂ (fun p q : EReal => p * q) ha (e.trans (xp_at X _ l))

/-- The convolution at a place. -/
theorem ref_at (X : FVec Ideal S4096x3584 .f32) (W : FVec Ideal S4x512 .f32) (B : FVec Ideal S1x512 .f32) (s : Fin 4096) (l : Fin 512) :
    REF X W B (ix2 s l) = ((((0 + W (ix2 0 l) * padAt (colX X l) (0 + s.val)) + W (ix2 1 l) * padAt (colX X l) (1 + s.val)) + W (ix2 2 l) * padAt (colX X l) (2 + s.val))
      + W (ix2 3 l) * padAt (colX X l) (3 + s.val)) + B (ix2 0 l) := by
  refine congrArg₂ (fun p q : EReal => p + q) (congrArg₂ (fun p q : EReal => p + q) (congrArg₂ (fun p q : EReal => p + q) (congrArg₂ (fun p q : EReal => p + q) (congrArg₂ (fun p q : EReal => p + q) ?_
    (term_at X _ 0 _ s l _ ?_)) (term_at X _ 1 _ s l _ ?_)) (term_at X _ 2 _ s l _ ?_)) (term_at X _ 3 _ s l _ ?_)) ?_ <;> pointwise []

end Cert.ConvRefIdeal.Val

namespace Cert.ConvIdeal.Val

open Cert.ConvIdeal Cert.ConvIdeal.Gen
open Cert.ConvRefIdeal.Val (REF ref_at)
open Cert.DconvRefIdeal.Val (padAt padAt_self colX)
open Cert.DconvIdeal.Val (SH SH_at WB WB_at ld_row)

/-- The stored block, with its shifted blocks named. -/
theorem pay_eq (x : FVec Ideal S4096x128 .f32) (b w2 w0 w1 w3 : FVec Ideal S1x128 .f32) :
    k0_pay1 x (iota .tc S4096x128 32 [0] iota_S4096x128_d0_w32) (k0_pay2 x b w2 w0) w1 (k0_pay3 x) w3
      = addf (addf (addf (addf (WB b) (mulf (WB w2) x)) (mulf (WB w0) (SH 4294967294#32 2#32 x))) (mulf (WB w1) (SH 4294967295#32 1#32 x))) (mulf (WB w3) (SH 1#32 4095#32 x)) := rfl

/-- The four shares and the bias in the other order. -/
theorem reorder (A B C D E : EReal) : (((E + C) + A) + B) + D = ((((0 + A) + B) + C) + D) + E := by
  rw [zero_add]
  abel

/-- The stored block at a place. -/
theorem pay_at (x : Vec Ideal S4096x128 .f32) (w : Vec Ideal S4x128 .f32) (b : Vec Ideal S1x128 .f32) (s : Fin 4096) (l : Fin 128) :
    (k0_pay1 (F := Ideal) x (iota .tc S4096x128 32 [0] iota_S4096x128_d0_w32) (k0_pay2 x b (View.ld w r0_2) (View.ld w r0_3)) (View.ld w r0_4) (k0_pay3 x) (View.ld w r0_5) (ix2 s l) : EReal)
      = ((((0 + w (ix2 0 l) * padAt (fun r => x (ix2 r l)) (0 + s.val)) + w (ix2 1 l) * padAt (fun r => x (ix2 r l)) (1 + s.val)) + w (ix2 2 l) * padAt (fun r => x (ix2 r l)) (2 + s.val))
      + w (ix2 3 l) * padAt (fun r => x (ix2 r l)) (3 + s.val)) + b (ix2 0 l) := by
  have h (a : FVec Ideal S1x128 .f32) (p q : EReal) (hp : a (ix2 0 l) = p) (y : FVec Ideal S4096x128 .f32) (hq : y (ix2 s l) = q) : mulf (WB a) y (ix2 s l) = (p * q : EReal) :=
    congrArg₂ (fun a b : EReal => a * b) ((WB_at a s l).trans hp) hq
  have e1 := h (View.ld w r0_2) _ _ (ld_row w 2 _ l) x (padAt_self (fun r => x (ix2 r l)) s (2 + s.val) (Nat.add_comm _ _)).symm
  have e2 := h (View.ld w r0_3) _ _ (ld_row w 0 _ l) (SH 4294967294#32 2#32 x) (SH_at 0 _ _ (by decide) (by decide) x s l)
  have e3 := h (View.ld w r0_4) _ _ (ld_row w 1 _ l) (SH 4294967295#32 1#32 x) (SH_at 1 _ _ (by decide) (by decide) x s l)
  have e4 := h (View.ld w r0_5) _ _ (ld_row w 3 _ l) (SH 1#32 4095#32 x) (SH_at 3 _ _ (by decide) (by decide) x s l)
  rw [pay_eq]
  refine (congrArg₂ (fun a b : EReal => a + b) (congrArg₂ (fun a b : EReal => a + b) (congrArg₂ (fun a b : EReal => a + b) (congrArg₂ (fun a b : EReal => a + b) (WB_at b s l) e1) e2) e3) e4).trans ?_
  exact reorder _ _ _ _ _

variable (m : (ℓ : Loc nD τ sig) → Buf (Elt Ideal) ℓ)

/-- Which block each window holds at each point. -/
theorem idx : ∀ t : Fin cfg0.N, win0_0.index t = ![0, t.val] ∧ win0_1.index t = ![0, t.val] ∧ win0_2.index t = ![0, t.val] ∧ win0_3.index t = ![0, t.val] :=
  (by decide +kernel : ∀ t : Fin grid0.N, _)

/-- The projected values. -/
abbrev aX (c : Dev nD) : FVec Ideal S4096x3584 .f32 := m ((c.tc : Thread nD τ).loc main_arg0)

/-- The taps. -/
abbrev aW (c : Dev nD) : FVec Ideal S4x512 .f32 := m ((c.tc : Thread nD τ).loc main_arg1)

/-- The bias. -/
abbrev aB (c : Dev nD) : FVec Ideal S1x512 .f32 := m ((c.tc : Thread nD τ).loc main_arg2)

/-- The block's column in the whole array. -/
abbrev col (t : Fin cfg0.N) (l : Fin 128) : Fin 512 := ⟨t.val * 128 + l.val, by have h : t.val < 4 := t.isLt; omega⟩

/-- The block of projected values at a place. -/
theorem x_blk (c : Dev nD) (t : Fin cfg0.N) (s : Fin 4096) (l : Fin 128) : (iblk m c 0 t : Vec Ideal S4096x128 .f32) (ix2 s l) = colX (aX m c) (col t l) s := by
  unfold colX aX
  blk_point [iblk, V, idx t]

/-- The block of taps at a place. -/
theorem w_blk (c : Dev nD) (t : Fin cfg0.N) (k : Fin 4) (l : Fin 128) : (iblk m c 1 t : Vec Ideal S4x128 .f32) (ix2 k l) = aW m c (ix2 k (col t l)) := by
  unfold aW
  blk_point [iblk, V, idx t]

/-- The block of the bias at a place. -/
theorem b_blk (c : Dev nD) (t : Fin cfg0.N) (z : Fin 1) (l : Fin 128) : (iblk m c 2 t : Vec Ideal S1x128 .f32) (ix2 z l) = aB m c (ix2 z (col t l)) := by
  unfold aB
  blk_point [iblk, V, idx t]

/-- What the body stores is the reference's value at the block's place. -/
theorem point (c : Dev nD) (t : Fin cfg0.N) (y : S4096x128.Idx) (i : S4096x512.Idx) (h0 : (i 0).val = (y 0).val) (h1 : (i 1).val = t.val * 128 + (y 1).val) :
    out0_3 (iblk m c 0 t) (iblk m c 1 t) (iblk m c 2 t) y = REF (aX m c) (aW m c) (aB m c) i := by
  obtain ⟨s, l, rfl⟩ : ∃ (s : Fin 4096) (l : Fin 128), y = ix2 s l := ⟨_, _, (ix2_eta y).symm⟩
  obtain rfl : i = ix2 s (col t l) := (ix2_eta i).symm.trans (congrArg₂ (fun a b => ix2 a b) (Fin.ext h0) (Fin.ext h1))
  unfold Cert.ConvIdeal.Gen.out0_3
  frame_out
  refine (pay_at (iblk m c 0 t) (iblk m c 1 t) (iblk m c 2 t) s l).trans (Eq.trans ?_ (ref_at _ _ _ s (col t l)).symm)
  rw [show (fun r => (iblk m c 0 t : Vec Ideal S4096x128 .f32) (ix2 r l)) = colX (aX m c) (col t l) from funext fun r => x_blk m c t r l]
  rw [w_blk m c t 0 l, w_blk m c t 1 l, w_blk m c t 2 l, w_blk m c t 3 l, b_blk m c t 0 l]

/-- The result array after the run. -/
theorem final (c : Dev nD) : (dats m 0 c).arrAt 3 (cfgs 0).N = REF (aX m c) (aW m c) (aB m c) := by
  refine (dats m 0 c).arrAt_eq_of_covers 3 _ (by decide +kernel) fun t _ y => ?_
  blk_simp
  rw [after0_3]
  refine point m c t y _ ?_ ?_ <;> (blk_simp [idx t] <;> try omega)

end Cert.ConvIdeal.Val

namespace Cert.Proof

/-- The idealised convolution computes what the idealised reference computes. -/
theorem conv_algebraic : Cert.algebraic_ConvIdeal_ConvRefIdeal (hConvIdeal := Cert.ConvIdeal.Gen.facts) (hConvRefIdeal := Cert.ConvRefIdeal.Gen.facts) := by
  pair_intro
  · run_from Cert.ConvIdeal.Gen.run_main m g
  · run_from Cert.ConvRefIdeal.Value.run m' g'
    exact (Cert.ConvIdeal.Val.final m c).symm

/-- The idealised reference of the convolution runs to its end. -/
theorem conv_ref_frame : Cert.quiescent_ConvRefIdeal (hConvRefIdeal := Cert.ConvRefIdeal.Gen.facts) := by
  intro m g _
  exact (θ_run _ _ _).mono (fun r h => ⟨fun c => (h c).2, sem_eq_zero_of_no_sems (by decide) r.2⟩) (Cert.ConvRefIdeal.Value.run m g)

end Cert.Proof

end
-- ==== Proof.PreNorm.lean ====
/- The norm before the first mixer: the kernel's rows are the reference's. -/
module

public import proofs.«01_k».proof.Proof.Gen.NormIdeal.Frame
public import proofs.«01_k».proof.Proof.Gen.NormRefIdeal.Run
public import Idealize.ShloMosaic.Lib.Pipeline.ValueKit
public import Idealize.ShloMosaic.Lib.Claim
public import Idealize.ShloMosaic.Lib.Quiescent
public import proofs.«01_k».proof.Defs

@[expose] public section

set_option maxRecDepth 16384

noncomputable section

open Idealize.ShloMosaic Idealize.ShloMosaic.TcCoe Idealize.SL.Sem
open Idealize.ShloMosaic.Pipeline (Dat)

namespace Cert.NormRefIdeal.Val

open Cert.NormRefIdeal Cert.NormRefIdeal.Gen

/-- The reference's term over its arguments. -/
abbrev REF (X : FVec Ideal S4096x1024 .f32) (G : FVec Ideal S1x1024 .f32) : FVec Ideal S4096x1024 .bf16 :=
  truncf .bf16 (mulf (mulf X (broadcastInDim S4096x1024 ![0, 1] bcast_S4096x1_S4096x1024_0_1 (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 G)) bitsLt_bf16_f32

end Cert.NormRefIdeal.Val

namespace Cert.NormIdeal.Val

open Cert.NormIdeal Cert.NormIdeal.Gen
open Cert.NormRefIdeal.Val (REF)

variable (m : (ℓ : Loc nD τ sig) → Buf (Elt Ideal) ℓ)

/-- Which block each window holds at each point. -/
theorem idx : ∀ t : Fin cfg0.N, win0_0.index t = ![t.val, 0] ∧ win0_1.index t = ![0, 0] ∧ win0_2.index t = ![t.val, 0] :=
  (by decide +kernel : ∀ t : Fin grid0.N, _)

/-- What the body stores is the reference at the block's place. -/
theorem point (c : Dev nD) (t : Fin cfg0.N) (y) : k0_pay1 (iblk m c 0 t) (iblk m c 1 t) y
    = REF (m ((c : Thread nD τ).loc main_arg0)) (m ((c : Thread nD τ).loc main_arg1)) (((cfg0.win 2).blk t).view.emb y) := by
  pointwise [k0_pay1, REF]
  blk_point [iblk, V, idx t]

/-- The result array after the run. -/
theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.NormIdeal.Val

namespace Cert.Proof

/-- The idealised norm before the first mixer computes what the idealised reference computes. -/
theorem norm_algebraic : Cert.algebraic_NormIdeal_NormRefIdeal (hNormIdeal := Cert.NormIdeal.Gen.facts) (hNormRefIdeal := Cert.NormRefIdeal.Gen.facts) := by
  pair_intro
  · run_from Cert.NormIdeal.Gen.run_main m g
  · run_from Cert.NormRefIdeal.Value.run m' g'
    exact (Cert.NormIdeal.Val.final m c).symm

/-- The idealised reference of the norm before the first mixer runs to its end. -/
theorem norm_ref_frame : Cert.quiescent_NormRefIdeal (hNormRefIdeal := Cert.NormRefIdeal.Gen.facts) := by
  intro m g _
  exact (θ_run _ _ _).mono (fun r h => ⟨fun c => (h c).2, sem_eq_zero_of_no_sems (by decide) r.2⟩) (Cert.NormRefIdeal.Value.run m g)

end Cert.Proof

end
-- ==== Proof.GlaPost.lean ====
/- The linear attention's output: each head's rows over their root mean square, times the gain and the gate, at every row. -/
module

public import proofs.«01_k».proof.Proof.Gen.GlaPostIdeal.Frame
public import proofs.«01_k».proof.Proof.Gen.GlaPostRefIdeal.Run
public import Idealize.ShloMosaic.Lib.Pipeline.ValueKit
public import Idealize.ShloMosaic.Lib.Claim
public import Idealize.ShloMosaic.Lib.Quiescent
public import proofs.«01_k».proof.Defs

@[expose] public section

set_option maxRecDepth 16384

noncomputable section

open Idealize.ShloMosaic Idealize.ShloMosaic.TcCoe Idealize.SL.Sem
open Idealize.ShloMosaic.Pipeline (Dat)

namespace Cert.GlaPostRefIdeal.Val

open Cert.GlaPostRefIdeal Cert.GlaPostRefIdeal.Gen

/-- A head's column of the whole row. -/
def hcol (h : Fin 4) (k : Fin 256) : Fin 1024 := ⟨h.val * 256 + k.val, by omega⟩

/-- The heads' rows, one head at a time. -/
def HEADS (A B : FVec Ideal S4096x1024 .f32) : FVec Ideal S4096x4x256 .f32 := shapeCast _ (addf A B) shapeCasts_S4096x1024_S4096x4x256

/-- The heads' rows over their root mean squares. -/
def NORMED (A B : FVec Ideal S4096x1024 .f32) : FVec Ideal S4096x4x256 .f32 :=
  mulf (HEADS A B) (broadcastInDim S4096x4x256 ![0, 1, 2] bcast_S4096x4x1_S4096x4x256_0_1_2 (Host.rsqrt (addf (Host.divf (broadcastInDim S4096x4x1 ![0, 1] bcast_S4096x4_S4096x4x1_0_1 (Host.reduceAdd (mulf (HEADS A B) (HEADS A B)) (constant S_ .f32 0x00000000#32) reducesTo_S4096x4x256_S4096x4_d2 h_S_)) (broadcastInDim S4096x4x1 ![] bcast_S_S4096x4x1 (constant S_ .f32 0x43800000#32))) (broadcastInDim S4096x4x1 ![] bcast_S_S4096x4x1 (constant S_ .f32 0x358637BD#32)))))

/-- The reference's logistic. -/
def SIG (X : FVec Ideal S4096x3200 .f32) : FVec Ideal S4096x1024 .f32 :=
  Host.divf (broadcastInDim S4096x1024 ![] bcast_S_S4096x1024 (constant S_ .f32 0x3F800000#32)) (addf (broadcastInDim S4096x1024 ![] bcast_S_S4096x1024 (constant S_ .f32 0x3F800000#32)) (Host.exp (Host.negf (extractStridedSlice S4096x1024 ![0, 2048] X slices_S4096x3200_S4096x1024_0_2048))))

/-- The reference's term over its arguments. -/
def REF (A B : FVec Ideal S4096x1024 .f32) (X : FVec Ideal S4096x3200 .f32) (G : FVec Ideal S1x1024 .f32) : FVec Ideal S4096x1024 .bf16 :=
  truncf .bf16 (mulf (mulf (shapeCast _ (NORMED A B) shapeCasts_S4096x4x256_S4096x1024) (broadcastInDim S4096x1024 ![0, 1] bcast_S1x1024_S4096x1024_0_1 G)) (mulf (extractStridedSlice S4096x1024 ![0, 2048] X slices_S4096x3200_S4096x1024_0_2048) (SIG X))) bitsLt_bf16_f32

/-- A head's row entry over the row's root mean square. -/
def nOf (f : Fin 256 → EReal) (k : Fin 256) : EReal :=
  f k * Ideal.rsqrt (Ideal.div (∑ j : Fin 256, f j * f j) (Ideal.ofBits .f32 0x43800000#32) + Ideal.ofBits .f32 0x358637BD#32)

/-- What is stored, from the normed entry, the gain and the gate. -/
def outOf (n g r : EReal) : EReal := n * g * (r * Ideal.logistic r)

/-- A head's row entry. -/
theorem heads_at (A B : FVec Ideal S4096x1024 .f32) (s : Fin 4096) (h : Fin 4) (k : Fin 256) : HEADS A B (ix3 s h k) = (A (ix2 s (hcol h k)) + B (ix2 s (hcol h k)) : EReal) := by
  pointwise [HEADS, hcol]

/-- A normed entry. -/
theorem normed_at (A B : FVec Ideal S4096x1024 .f32) (s : Fin 4096) (h : Fin 4) (k : Fin 256) :
    NORMED A B (ix3 s h k) = nOf (fun j => (A (ix2 s (hcol h j)) + B (ix2 s (hcol h j)) : EReal)) k := by
  refine Eq.trans ?_ (congrArg (fun f : Fin 256 → EReal => nOf f k) (funext fun j => heads_at A B s h j))
  pointwise [NORMED, nOf]

/-- The reference's logistic is the scalar one. -/
theorem sig_at (X : FVec Ideal S4096x3200 .f32) (s : Fin 4096) (l : Fin 1024) : SIG X (ix2 s l) = Ideal.logistic (X (ix2 s ⟨2048 + l.val, by omega⟩)) := by
  pointwise [SIG]
  rfl

/-- The reference at a place. -/
theorem ref_at (A B : FVec Ideal S4096x1024 .f32) (X : FVec Ideal S4096x3200 .f32) (G : FVec Ideal S1x1024 .f32) (s : Fin 4096) (h : Fin 4) (k : Fin 256) :
    REF A B X G (ix2 s (hcol h k)) = outOf (nOf (fun j => (A (ix2 s (hcol h j)) + B (ix2 s (hcol h j)) : EReal)) k) (G (ix2 0 (hcol h k))) (X (ix2 s ⟨2048 + (hcol h k).val, by have := (hcol h k).isLt; omega⟩)) := by
  rw [outOf, ← normed_at, ← sig_at]
  pointwise [REF, hcol]

end Cert.GlaPostRefIdeal.Val

namespace Cert.GlaPostIdeal.Val

open Cert.GlaPostIdeal Cert.GlaPostIdeal.Gen
open Cert.GlaPostRefIdeal.Val (REF hcol nOf outOf ref_at)

variable (m : (ℓ : Loc nD τ sig) → Buf (Elt Ideal) ℓ)

/-- Which block each window holds at each point. -/
theorem idx : ∀ t : Fin cfg0.N, win0_0.index t = ![t.val, 0] ∧ win0_1.index t = ![t.val, 0] ∧ win0_2.index t = ![t.val, 2] ∧ win0_3.index t = ![0, 0] ∧ win0_4.index t = ![t.val, 0] :=
  (by decide +kernel : ∀ t : Fin grid0.N, _)

/-- A head's row of a block. -/
def hrow (a b : Vec Ideal S512x1024 .f32) (r : Fin 512) (h : Fin 4) (j : Fin 256) : EReal := (a (ix2 r (hcol h j)) + b (ix2 r (hcol h j)) : EReal)

/-- The first head's normed entry. -/
theorem head0 (a b : Vec Ideal S512x1024 .f32) (r : Fin 512) (k : Fin 256) : (k0_pay3 (F := Ideal) a b : FVec Ideal S512x256 .f32) (ix2 r k) = nOf (hrow a b r 0) k := by
  pointwise [k0_pay3, k0_pay2, nOf, hrow, hcol]
/-- The second head's. -/
theorem head1 (a b : Vec Ideal S512x1024 .f32) (r : Fin 512) (k : Fin 256) : (k0_pay4 (F := Ideal) a b : FVec Ideal S512x256 .f32) (ix2 r k) = nOf (hrow a b r 1) k := by
  pointwise [k0_pay4, k0_pay2, nOf, hrow, hcol]
/-- The third head's. -/
theorem head2 (a b : Vec Ideal S512x1024 .f32) (r : Fin 512) (k : Fin 256) : (k0_pay5 (F := Ideal) a b : FVec Ideal S512x256 .f32) (ix2 r k) = nOf (hrow a b r 2) k := by
  pointwise [k0_pay5, k0_pay2, nOf, hrow, hcol]

/-- A head's row of the whole arrays. -/
def wrow (A B : FVec Ideal S4096x1024 .f32) (s : Fin 4096) (h : Fin 4) (j : Fin 256) : EReal := (A (ix2 s (hcol h j)) + B (ix2 s (hcol h j)) : EReal)

/-- What the body stores. -/
theorem body_at (a b x : Vec Ideal S512x1024 .f32) (g : Vec Ideal S1x1024 .f32) (r : Fin 512) (h : Fin 4) (k : Fin 256) :
    (k0_pay1 (F := Ideal) x g (k0_pay3 a b) (k0_pay4 a b) (k0_pay5 a b) (k0_pay6 a b) (k0_pay7 a b) : FVec Ideal S512x1024 .bf16) (ix2 r (hcol h k))
      = outOf (nOf (hrow a b r h) k) (g (ix2 0 (hcol h k))) (x (ix2 r (hcol h k))) := by
  match h with
  | 0 =>
    rw [← head0]
    pointwise [k0_pay1, outOf, hcol]
  | 1 =>
    rw [← head1]
    pointwise [k0_pay1, outOf, hcol]
  | 2 =>
    rw [← head2]
    pointwise [k0_pay1, outOf, hcol]
    rw [dif_neg (by omega), dif_neg (by omega), dif_pos (by omega), show (⟨512 + k.val - 256 - 256, by omega⟩ : Fin 256) = k from Fin.ext (by show 512 + k.val - 256 - 256 = k.val; omega)]
  | 3 =>
    pointwise [k0_pay1, k0_pay6, k0_pay7, k0_pay2, outOf, nOf, hrow, hcol]
    rw [dif_neg (by omega), dif_neg (by omega), dif_neg (by omega),
      show (⟨768 + (768 + k.val - 256 - 256 - 256), by omega⟩ : Fin 1024) = ⟨768 + k.val, by omega⟩ from Fin.ext (by show 768 + (768 + k.val - 256 - 256 - 256) = 768 + k.val; omega)]

/-- A block's gate columns are the projection's. -/
theorem x_blk (c : Dev nD) (t : Fin cfg0.N) (y : S512x1024.Idx) (s : Fin 4096) (j : Fin 3200) (h0 : s.val = t.val * 512 + (y 0).val) (h1 : j.val = 2048 + (y 1).val) :
    (X0_2 m c t : Vec Ideal S512x1024 .f32) y = m ((c : Thread nD τ).loc main_arg2) (ix2 s j) := by
  unfold X0_2 Pipeline.Window.fill
  rw [dif_pos (moved0_2 t y)]
  blk_point [iblk, V, idx t]

/-- A block's head row is the reference's. -/
theorem hrow_blk (c : Dev nD) (t : Fin cfg0.N) (r : Fin 512) (s : Fin 4096) (h0 : s.val = t.val * 512 + r.val) (h : Fin 4) (j : Fin 256) :
    hrow (iblk m c 0 t) (iblk m c 1 t) r h j = wrow (m ((c : Thread nD τ).loc main_arg0)) (m ((c : Thread nD τ).loc main_arg1)) s h j := by
  unfold hrow wrow hcol
  blk_point [iblk, V, idx t]

/-- A block's gain is the argument's. -/
theorem g_blk (c : Dev nD) (t : Fin cfg0.N) (l : Fin 1024) : (iblk m c 3 t : Vec Ideal S1x1024 .f32) (ix2 0 l) = m ((c : Thread nD τ).loc main_arg3) (ix2 0 l) := by
  blk_point [iblk, V, idx t]

/-- What the body stores is the reference at the block's place. -/
theorem point (c : Dev nD) (t : Fin cfg0.N) (r : Fin 512) (h : Fin 4) (k : Fin 256) (i : S4096x1024.Idx) (h0 : (i 0).val = t.val * 512 + r.val) (h1 : (i 1).val = (hcol h k).val) :
    outOf (nOf (hrow (iblk m c 0 t) (iblk m c 1 t) r h) k) ((iblk m c 3 t : Vec Ideal S1x1024 .f32) (ix2 0 (hcol h k))) ((X0_2 m c t : Vec Ideal S512x1024 .f32) (ix2 r (hcol h k)))
      = REF (m ((c : Thread nD τ).loc main_arg0)) (m ((c : Thread nD τ).loc main_arg1)) (m ((c : Thread nD τ).loc main_arg2)) (m ((c : Thread nD τ).loc main_arg3)) i := by
  have e : i = ix2 (i 0) (hcol h k) := (ix2_eta i).symm.trans (congrArg (fun b => ix2 (i 0) b) (Fin.ext h1))
  generalize i 0 = s at e h0
  subst e
  rw [show hrow (iblk m c 0 t) (iblk m c 1 t) r h = wrow (m ((c : Thread nD τ).loc main_arg0)) (m ((c : Thread nD τ).loc main_arg1)) s h from funext fun j => hrow_blk m c t r s h0 h j,
    g_blk m c t, x_blk m c t _ s ⟨2048 + (hcol h k).val, by have := (hcol h k).isLt; omega⟩ h0 rfl]
  exact (ref_at _ _ _ _ s h k).symm

/-- The result array after the run. -/
theorem final (c : Dev nD) : (dats m 0 c).arrAt 4 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; unfold outsAt0 out0_A_4 kernelRun0_A; frame_out
  have hy : (y 1).val < 1024 := (y 1).isLt
  obtain ⟨h, k, e⟩ : ∃ (h : Fin 4) (k : Fin 256), y = ix2 (y 0) (hcol h k) :=
    ⟨⟨(y 1).val / 256, by omega⟩, ⟨(y 1).val % 256, by omega⟩, (ix2_eta y).symm.trans (congrArg (fun b => ix2 (y 0) b) (Fin.ext (by show (y 1).val = (y 1).val / 256 * 256 + (y 1).val % 256; omega)))⟩
  generalize y 0 = r at e
  subst e
  refine (body_at _ _ _ _ r h k).trans (point m c t r h k _ ?_ ?_) <;> (blk_simp [idx t] <;> try omega)

end Cert.GlaPostIdeal.Val

namespace Cert.Proof

/-- The idealised output of the linear attention computes what the idealised reference computes. -/
theorem gla_post_algebraic : Cert.algebraic_GlaPostIdeal_GlaPostRefIdeal (hGlaPostIdeal := Cert.GlaPostIdeal.Gen.facts) (hGlaPostRefIdeal := Cert.GlaPostRefIdeal.Gen.facts) := by
  pair_intro
  · run_from Cert.GlaPostIdeal.Gen.run_main m g
  · run_from Cert.GlaPostRefIdeal.Value.run m' g'
    exact (Cert.GlaPostIdeal.Val.final m c).symm

/-- The idealised reference of the linear attention's output runs to its end. -/
theorem gla_post_ref_frame : Cert.quiescent_GlaPostRefIdeal (hGlaPostRefIdeal := Cert.GlaPostRefIdeal.Gen.facts) := by
  intro m g _
  exact (θ_run _ _ _).mono (fun r h => ⟨fun c => (h c).2, sem_eq_zero_of_no_sems (by decide) r.2⟩) (Cert.GlaPostRefIdeal.Value.run m g)

end Cert.Proof

end
-- ==== Proof.GlaDpost.lean ====
/- The gradients of the linear attention's output: the reference's three results at every place. -/
module

public import proofs.«01_k».proof.Proof.Gen.GlaDpostRefIdeal.Run
public import Idealize.ShloMosaic.Lib.Pipeline.ValueKit
public import Idealize.ShloMosaic.Lib.Claim
public import Idealize.ShloMosaic.Lib.Quiescent
public import proofs.«01_k».proof.Defs

@[expose] public section

set_option maxRecDepth 16384

noncomputable section

open Idealize.ShloMosaic Idealize.ShloMosaic.TcCoe Idealize.SL.Sem
open Idealize.ShloMosaic.Pipeline (Dat)

namespace Cert.HeadNorm

/-- A head's column of the whole row. -/
def hcol (h : Fin 4) (k : Fin 256) : Fin 1024 := ⟨h.val * 256 + k.val, by omega⟩

/-- Every column is one head's. -/
theorem col_split (l : Fin 1024) : ∃ (h : Fin 4) (k : Fin 256), l = hcol h k :=
  ⟨⟨l.val / 256, by omega⟩, ⟨l.val % 256, by omega⟩, Fin.ext (by show l.val = l.val / 256 * 256 + l.val % 256; omega)⟩

/-- A head's row's mean square and the small constant. -/
def varOf (f : Fin 256 → EReal) : EReal := Ideal.div (∑ j : Fin 256, f j * f j) (Ideal.ofBits .f32 0x43800000#32) + Ideal.ofBits .f32 0x358637BD#32

/-- One over its root. -/
def rsOf (f : Fin 256 → EReal) : EReal := Ideal.rsqrt (varOf f)

/-- A head's row entry over the row's root mean square. -/
def nOf (f : Fin 256 → EReal) (k : Fin 256) : EReal := f k * rsOf f

/-- The root's gradient times its derivative by the mean square. -/
def dsOf (f : Fin 256 → EReal) : EReal := Ideal.ofBits .f32 0xBF000000#32 * Ideal.div (rsOf f) (varOf f)

/-- The mean square's share of each entry's gradient. -/
def cOf (f g : Fin 256 → EReal) : EReal := Ideal.div ((∑ j : Fin 256, f j * g j) * dsOf f) (Ideal.ofBits .f32 0x43800000#32)

/-- The gradient of a head's row entry, from the gradient of its normed row. -/
def doOf (f g : Fin 256 → EReal) (k : Fin 256) : EReal := g k * rsOf f + f k * cOf f g + cOf f g * f k

/-- What the gain's gradient sums, before the normed entry. -/
def grOf (d r : EReal) : EReal := d * (r * Ideal.logistic r)

/-- The gradient of the gate's argument. -/
def drOf (n g d r : EReal) : EReal := n * g * d * Ideal.logistic r + r * (n * g * d) * (Ideal.logistic r * (1 - Ideal.logistic r))

end Cert.HeadNorm

namespace Cert.GlaDpostRefIdeal.Val

open Cert.GlaDpostRefIdeal Cert.GlaDpostRefIdeal.Gen Cert.HeadNorm

/-- The heads' rows, one head at a time. -/
def HEADS (V : FVec Ideal S4096x1024 .f32) : FVec Ideal S4096x4x256 .f32 := shapeCast _ V shapeCasts_S4096x1024_S4096x4x256

/-- The heads' mean squares and the small constant. -/
def VAR (V : FVec Ideal S4096x1024 .f32) : FVec Ideal S4096x4x1 .f32 :=
  addf (Host.divf (broadcastInDim S4096x4x1 ![0, 1] bcast_S4096x4_S4096x4x1_0_1 (Host.reduceAdd (mulf (HEADS V) (HEADS V)) (constant S_ .f32 0x00000000#32) reducesTo_S4096x4x256_S4096x4_d2 h_S_)) (broadcastInDim S4096x4x1 ![] bcast_S_S4096x4x1 (constant S_ .f32 0x43800000#32))) (broadcastInDim S4096x4x1 ![] bcast_S_S4096x4x1 (constant S_ .f32 0x358637BD#32))

/-- One over their roots. -/
def RS (V : FVec Ideal S4096x1024 .f32) : FVec Ideal S4096x4x1 .f32 := Host.rsqrt (VAR V)

/-- The heads' rows over their root mean squares, as whole rows. -/
def NORMED (V : FVec Ideal S4096x1024 .f32) : FVec Ideal S4096x1024 .f32 :=
  shapeCast _ (mulf (HEADS V) (broadcastInDim S4096x4x256 ![0, 1, 2] bcast_S4096x4x1_S4096x4x256_0_1_2 (RS V))) shapeCasts_S4096x4x256_S4096x1024

/-- The gate's argument. -/
def R (X : FVec Ideal S4096x3200 .f32) : FVec Ideal S4096x1024 .f32 := extractStridedSlice S4096x1024 ![0, 2048] X slices_S4096x3200_S4096x1024_0_2048

/-- One, everywhere. -/
def ONE : FVec Ideal S4096x1024 .f32 := broadcastInDim S4096x1024 ![] bcast_S_S4096x1024 (constant S_ .f32 0x3F800000#32)

/-- The reference's logistic. -/
def SIG (X : FVec Ideal S4096x3200 .f32) : FVec Ideal S4096x1024 .f32 := Host.divf ONE (addf ONE (Host.exp (Host.negf (R X))))

/-- What the gain's gradient sums, before the normed entry. -/
def GR (D : FVec Ideal S4096x1024 .f32) (X : FVec Ideal S4096x3200 .f32) : FVec Ideal S4096x1024 .f32 := mulf D (mulf (R X) (SIG X))

/-- The gradient of the normed rows, one head at a time. -/
def DN (D : FVec Ideal S4096x1024 .f32) (X : FVec Ideal S4096x3200 .f32) (G : FVec Ideal S1x1024 .f32) : FVec Ideal S4096x4x256 .f32 :=
  shapeCast _ (mulf (GR D X) (broadcastInDim S4096x1024 ![0, 1] bcast_S1x1024_S4096x1024_0_1 G)) shapeCasts_S4096x1024_S4096x4x256

/-- The mean square's share of each entry's gradient. -/
def SHARE (V : FVec Ideal S4096x1024 .f32) (D : FVec Ideal S4096x1024 .f32) (X : FVec Ideal S4096x3200 .f32) (G : FVec Ideal S1x1024 .f32) : FVec Ideal S4096x4x256 .f32 :=
  broadcastInDim S4096x4x256 ![0, 1] bcast_S4096x4_S4096x4x256_0_1 (Host.reduceAdd (Host.divf (mulf (shapeCast _ (Host.reduceAdd (mulf (HEADS V) (DN D X G)) (constant S_ .f32 0x00000000#32) reducesTo_S4096x4x256_S4096x4_d2 h_S_) shapeCasts_S4096x4_S4096x4x1)
    (mulf (broadcastInDim S4096x4x1 ![] bcast_S_S4096x4x1 (constant S_ .f32 0xBF000000#32)) (Host.divf (RS V) (VAR V)))) (broadcastInDim S4096x4x1 ![] bcast_S_S4096x4x1 (constant S_ .f32 0x43800000#32))) (constant S_ .f32 0x00000000#32) reducesTo_S4096x4x1_S4096x4_d2 h_S_)

/-- The gradient of the attention's output. -/
def DO (V : FVec Ideal S4096x1024 .f32) (D : FVec Ideal S4096x1024 .f32) (X : FVec Ideal S4096x3200 .f32) (G : FVec Ideal S1x1024 .f32) : FVec Ideal S4096x1024 .f32 :=
  shapeCast _ (addf (addf (mulf (DN D X G) (broadcastInDim S4096x4x256 ![0, 1, 2] bcast_S4096x4x1_S4096x4x256_0_1_2 (RS V))) (mulf (HEADS V) (SHARE V D X G))) (mulf (SHARE V D X G) (HEADS V))) shapeCasts_S4096x4x256_S4096x1024

/-- The gradient of the product of the normed rows and the gain, times the logistic's argument's factor. -/
def NGD (V : FVec Ideal S4096x1024 .f32) (D : FVec Ideal S4096x1024 .f32) (G : FVec Ideal S1x1024 .f32) : FVec Ideal S4096x1024 .f32 :=
  mulf (mulf (NORMED V) (broadcastInDim S4096x1024 ![0, 1] bcast_S1x1024_S4096x1024_0_1 G)) D

/-- The gradient of the gate's argument. -/
def DR (V : FVec Ideal S4096x1024 .f32) (D : FVec Ideal S4096x1024 .f32) (X : FVec Ideal S4096x3200 .f32) (G : FVec Ideal S1x1024 .f32) : FVec Ideal S4096x1024 .bf16 :=
  truncf .bf16 (addf (mulf (NGD V D G) (SIG X)) (mulf (mulf (R X) (NGD V D G)) (mulf (SIG X) (subf ONE (SIG X))))) bitsLt_bf16_f32

/-- The gradient of the gain. -/
def DG (V : FVec Ideal S4096x1024 .f32) (D : FVec Ideal S4096x1024 .f32) (X : FVec Ideal S4096x3200 .f32) : FVec Ideal S1x1024 .f32 :=
  shapeCast _ (Host.reduceAdd (mulf (NORMED V) (GR D X)) (constant S_ .f32 0x00000000#32) reducesTo_S4096x1024_S1024_d0 h_S_) shapeCasts_S1024_S1x1024

/-- A head's row. -/
def frow (V : FVec Ideal S4096x1024 .f32) (s : Fin 4096) (h : Fin 4) (j : Fin 256) : EReal := V (ix2 s (hcol h j))

/-- The gate's argument at a place. -/
def rAt (X : FVec Ideal S4096x3200 .f32) (s : Fin 4096) (l : Fin 1024) : EReal := X (ix2 s ⟨2048 + l.val, by omega⟩)

/-- The gradient of a head's normed row. -/
def grow (D : FVec Ideal S4096x1024 .f32) (X : FVec Ideal S4096x3200 .f32) (G : FVec Ideal S1x1024 .f32) (s : Fin 4096) (h : Fin 4) (j : Fin 256) : EReal :=
  grOf (D (ix2 s (hcol h j))) (rAt X s (hcol h j)) * (G (ix2 0 (hcol h j)) : EReal)

section Places
variable (V D : FVec Ideal S4096x1024 .f32) (X : FVec Ideal S4096x3200 .f32) (G : FVec Ideal S1x1024 .f32) (s : Fin 4096) (h : Fin 4) (k : Fin 256) (l : Fin 1024)

/-- A head's row entry. -/
theorem heads_at : HEADS V (ix3 s h k) = frow V s h k := by
  pointwise [HEADS, frow, hcol]

/-- The mean square at a place. -/
theorem var_at : VAR V (ix3 s h 0) = varOf (frow V s h) := by
  refine Eq.trans ?_ (congrArg varOf (funext fun j => heads_at V s h j))
  pointwise [VAR, varOf]

/-- One over the root at a place. -/
theorem rs_at : RS V (ix3 s h 0) = rsOf (frow V s h) := by
  rw [rsOf, ← var_at]
  pointwise [RS]

/-- A normed entry. -/
theorem normed_at : NORMED V (ix2 s (hcol h k)) = nOf (frow V s h) k := by
  rw [nOf, ← rs_at, ← heads_at]
  pointwise [NORMED, hcol]

/-- The gate's argument is the projection's column. -/
theorem r_at : R X (ix2 s l) = rAt X s l := by
  pointwise [R, rAt]

/-- The reference's logistic is the scalar one. -/
theorem sig_at : SIG X (ix2 s l) = Ideal.logistic (rAt X s l) := by
  rw [← r_at]
  pointwise [SIG, ONE]
  rfl

/-- The gain's gradient's other factor at a place. -/
theorem gr_at : GR D X (ix2 s l) = grOf (D (ix2 s l)) (rAt X s l) := by
  rw [grOf, ← sig_at, ← r_at]
  pointwise [GR]

/-- The gradient of a normed entry. -/
theorem dn_at : DN D X G (ix3 s h k) = grow D X G s h k := by
  rw [grow, ← gr_at]
  pointwise [DN, hcol]

/-- The mean square's share at a place. -/
theorem share_at : SHARE V D X G (ix3 s h k) = cOf (frow V s h) (grow D X G s h) := by
  refine Eq.trans ?_ (congrArg₂ cOf (funext fun j => heads_at V s h j) (funext fun j => dn_at D X G s h j))
  rw [cOf, dsOf, show (fun j => HEADS V (ix3 s h j)) = frow V s h from funext fun j => heads_at V s h j, ← rs_at, ← var_at]
  refine Eq.trans ?_ (Fintype.sum_unique fun z : Fin 1 => Ideal.div ((∑ j, HEADS V (ix3 s h j) * DN D X G (ix3 s h j)) * (Ideal.ofBits .f32 0xBF000000#32 * Ideal.div (RS V (ix3 s h z)) (VAR V (ix3 s h z)))) (Ideal.ofBits .f32 0x43800000#32))
  pointwise [SHARE]

/-- The gradient of the attention's output at a place. -/
theorem do_at : DO V D X G (ix2 s (hcol h k)) = doOf (frow V s h) (grow D X G s h) k := by
  rw [doOf, ← share_at V D X G s h k, ← rs_at, ← heads_at, ← dn_at]
  pointwise [DO, hcol]

/-- The gradient of the gate's argument at a place. -/
theorem dr_at : DR V D X G (ix2 s (hcol h k)) = drOf (nOf (frow V s h) k) (G (ix2 0 (hcol h k))) (D (ix2 s (hcol h k))) (rAt X s (hcol h k)) := by
  rw [drOf, ← normed_at, ← sig_at, ← r_at]
  pointwise [DR, NGD, ONE, hcol]

/-- The gradient of the gain at a place. -/
theorem dg_at (z : Fin 1) : DG V D X (ix2 z (hcol h k)) = ∑ s : Fin 4096, nOf (frow V s h) k * grOf (D (ix2 s (hcol h k))) (rAt X s (hcol h k)) := by
  refine Eq.trans ?_ (Finset.sum_congr rfl fun s _ => congrArg₂ (fun a b : EReal => a * b) (normed_at V s h k) (gr_at D X s (hcol h k)))
  pointwise [DG, hcol]

end Places

/-- The reference's run: the three results, and the arguments as they were. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v44) = DO (addf (m ((c.tc : Thread nD τ).loc main_arg0)) (m ((c.tc : Thread nD τ).loc main_arg1))) (m ((c.tc : Thread nD τ).loc main_arg3)) (m ((c.tc : Thread nD τ).loc main_arg2)) (m ((c.tc : Thread nD τ).loc main_arg4))
      ∧ r.2.mem ((c.tc : Thread nD τ).loc main_v45) = DR (addf (m ((c.tc : Thread nD τ).loc main_arg0)) (m ((c.tc : Thread nD τ).loc main_arg1))) (m ((c.tc : Thread nD τ).loc main_arg3)) (m ((c.tc : Thread nD τ).loc main_arg2)) (m ((c.tc : Thread nD τ).loc main_arg4))
      ∧ r.2.mem ((c.tc : Thread nD τ).loc main_v26) = DG (addf (m ((c.tc : Thread nD τ).loc main_arg0)) (m ((c.tc : Thread nD τ).loc main_arg1))) (m ((c.tc : Thread nD τ).loc main_arg3)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun r h c => h c) (Cert.GlaDpostRefIdeal.Value.run m g)

end Cert.GlaDpostRefIdeal.Val

end
-- ==== Proof.GlaDpostBody.lean ====
/- The gradients of the linear attention's output: what the body stores, at every place of a block. -/
module

public import proofs.«01_k».proof.Proof.Gen.GlaDpostIdeal.Frame
public import proofs.«01_k».proof.Proof.GlaDpost

@[expose] public section

set_option maxRecDepth 16384

noncomputable section

open Idealize.ShloMosaic Idealize.ShloMosaic.TcCoe Idealize.SL.Sem
open Idealize.ShloMosaic.Pipeline (Dat)

namespace Cert.GlaDpostIdeal.Val

open Cert.GlaDpostIdeal Cert.GlaDpostIdeal.Gen Cert.HeadNorm

/-- A sum over one place. -/
theorem sum_one (f : Fin 1 → EReal) : ∑ z : Fin 1, f z = f 0 := Fintype.sum_unique f

/-- A row of a head's block. -/
def row (v : FVec Ideal S512x256 .f32) (r : Fin 512) (j : Fin 256) : EReal := v (ix2 r j)

/-- The gradient of a head's row entry, from its row, its normed row's gradient, the root's inverse and the derivative. -/
def dK (f g : Fin 256 → EReal) (rs ds : EReal) (k : Fin 256) : EReal :=
  g k * rs + f k * Ideal.div ((∑ j : Fin 256, f j * g j) * ds) (Ideal.ofBits .f32 0x43800000#32) + Ideal.div ((∑ j : Fin 256, f j * g j) * ds) (Ideal.ofBits .f32 0x43800000#32) * f k

section Store
variable (v6 v20 v34 v48 v81 v82 v83 v89 : FVec Ideal S512x256 .f32) (v14 v17 v28 v31 v42 v45 v59 v87 : FVec Ideal S512x1 .f32) (w : FVec Ideal S512x1024 .f32) (u : FVec Ideal S512x512 .f32) (r : Fin 512) (k : Fin 256)

/-- The last two heads' part is zero at the first head. -/
theorem p37_0 : k0_pay37 v34 v42 v45 v48 v59 v83 v87 v89 (ix2 r (hcol 0 k)) = (0 : EReal) := by
  pointwise [k0_pay37, hcol]
  repeat' (split <;> try (exfalso; omega))
  try simp only [sum_one, add_zero, zero_add]
  try rfl
/-- The last two heads' part is zero at the second head. -/
theorem p37_1 : k0_pay37 v34 v42 v45 v48 v59 v83 v87 v89 (ix2 r (hcol 1 k)) = (0 : EReal) := by
  pointwise [k0_pay37, hcol]
  repeat' (split <;> try (exfalso; omega))
  try simp only [sum_one, add_zero, zero_add]
  try rfl
/-- The last two heads' part at the third head. -/
theorem p37_2 : k0_pay37 v34 v42 v45 v48 v59 v83 v87 v89 (ix2 r (hcol 2 k)) = dK (row v34 r) (row v83 r) (v42 (ix2 r 0)) (v45 (ix2 r 0)) k := by
  pointwise [k0_pay37, dK, row, hcol]
  repeat' (split <;> try (exfalso; omega))
  try simp only [sum_one, add_zero, zero_add]
  try rfl
/-- The last two heads' part at the last head. -/
theorem p37_3 : k0_pay37 v34 v42 v45 v48 v59 v83 v87 v89 (ix2 r (hcol 3 k)) = (v89 (ix2 r k) + v48 (ix2 r k) * Ideal.div (v87 (ix2 r 0) * v59 (ix2 r 0)) (Ideal.ofBits .f32 0x43800000#32)
    + Ideal.div (v87 (ix2 r 0) * v59 (ix2 r 0)) (Ideal.ofBits .f32 0x43800000#32) * v48 (ix2 r k) : EReal) := by
  pointwise [k0_pay37, hcol]
  repeat' (split <;> try (exfalso; omega))
  try simp only [sum_one, add_zero, zero_add]
  try rfl
/-- The second head's part is zero at the first. -/
theorem p38_0 : k0_pay38 v20 v28 v31 v82 (ix2 r ⟨k.val, by omega⟩) = (0 : EReal) := by
  pointwise [k0_pay38]
  repeat' (split <;> try (exfalso; omega))
  try simp only [sum_one, add_zero, zero_add]
  try rfl
/-- The second head's part. -/
theorem p38_1 : k0_pay38 v20 v28 v31 v82 (ix2 r ⟨256 + k.val, by omega⟩) = dK (row v20 r) (row v82 r) (v28 (ix2 r 0)) (v31 (ix2 r 0)) k := by
  pointwise [k0_pay38, dK, row]
  repeat' (split <;> try (exfalso; omega))
  try simp only [sum_one, add_zero, zero_add]
  try rfl
/-- What is stored at the first head. -/
theorem p1_0 : k0_pay1 v6 v14 v17 v81 w (Scalar.ofBits .f32 0x00000000#32) u (ix2 r (hcol 0 k)) = (w (ix2 r (hcol 0 k)) + u (ix2 r ⟨k.val, by omega⟩) : EReal) + dK (row v6 r) (row v81 r) (v14 (ix2 r 0)) (v17 (ix2 r 0)) k := by
  pointwise [k0_pay1, dK, row, hcol]
  repeat' (split <;> try (exfalso; omega))
  try simp only [sum_one, add_zero, zero_add]
  try rfl
/-- What is stored at the second head. -/
theorem p1_1 : k0_pay1 v6 v14 v17 v81 w (Scalar.ofBits .f32 0x00000000#32) u (ix2 r (hcol 1 k)) = (w (ix2 r (hcol 1 k)) + u (ix2 r ⟨256 + k.val, by omega⟩) : EReal) := by
  pointwise [k0_pay1, hcol]
  repeat' (split <;> try (exfalso; omega))
  try simp only [sum_one, add_zero, zero_add]
  try rfl
/-- What is stored at the third head. -/
theorem p1_2 : k0_pay1 v6 v14 v17 v81 w (Scalar.ofBits .f32 0x00000000#32) u (ix2 r (hcol 2 k)) = (w (ix2 r (hcol 2 k)) : EReal) := by
  pointwise [k0_pay1, hcol]
  repeat' (split <;> try (exfalso; omega))
  try simp only [sum_one, add_zero, zero_add]
  try rfl
/-- What is stored at the last head. -/
theorem p1_3 : k0_pay1 v6 v14 v17 v81 w (Scalar.ofBits .f32 0x00000000#32) u (ix2 r (hcol 3 k)) = (w (ix2 r (hcol 3 k)) : EReal) := by
  pointwise [k0_pay1, hcol]
  repeat' (split <;> try (exfalso; omega))
  try simp only [sum_one, add_zero, zero_add]
  try rfl

end Store

/-- A head's row of a block. -/
def hrow (a b : Vec Ideal S512x1024 .f32) (r : Fin 512) (h : Fin 4) (j : Fin 256) : EReal := (a (ix2 r (hcol h j)) + b (ix2 r (hcol h j)) : EReal)

/-- The gradient of a head's normed row of a block. -/
def gK (x d : Vec Ideal S512x1024 .f32) (g : Vec Ideal S1x1024 .f32) (r : Fin 512) (h : Fin 4) (j : Fin 256) : EReal :=
  grOf (d (ix2 r (hcol h j))) (x (ix2 r (hcol h j))) * (g (ix2 0 (hcol h j)) : EReal)

section Heads
variable (a b x d : Vec Ideal S512x1024 .f32) (g : Vec Ideal S1x1024 .f32) (r : Fin 512) (h : Fin 4) (k : Fin 256)

/-- The first head's row. -/
theorem f_0 : row (k0_pay5 (F := Ideal) a b) r = hrow a b r 0 := by
  funext j
  pointwise [row, hrow, hcol, k0_pay5, k0_pay4]
/-- The first head's mean square. -/
theorem v_0 : (k0_pay6 (F := Ideal) a b) (ix2 r 0) = varOf (hrow a b r 0) := by
  rw [← f_0]
  pointwise [varOf, row, k0_pay6]
/-- One over its root. -/
theorem s_0 : (k0_pay7 (F := Ideal) a b) (ix2 r 0) = rsOf (hrow a b r 0) := by
  rw [rsOf, ← v_0]
  pointwise [k0_pay7]
/-- Its derivative. -/
theorem d_0 : (k0_pay8 (F := Ideal) a b) (ix2 r 0) = dsOf (hrow a b r 0) := by
  rw [dsOf, ← v_0, ← s_0]
  pointwise [k0_pay8]
/-- The gradient of its normed row. -/
theorem g_0 : row (k0_pay31 (F := Ideal) x d g) r = gK x d g r 0 := by
  funext j
  pointwise [row, gK, grOf, hcol, k0_pay31, k0_pay30, k0_pay27, k0_pay26]
/-- The second head's row. -/
theorem f_1 : row (k0_pay10 (F := Ideal) a b) r = hrow a b r 1 := by
  funext j
  pointwise [row, hrow, hcol, k0_pay10, k0_pay4]
/-- The second head's mean square. -/
theorem v_1 : (k0_pay11 (F := Ideal) a b) (ix2 r 0) = varOf (hrow a b r 1) := by
  rw [← f_1]
  pointwise [varOf, row, k0_pay11]
/-- One over its root. -/
theorem s_1 : (k0_pay12 (F := Ideal) a b) (ix2 r 0) = rsOf (hrow a b r 1) := by
  rw [rsOf, ← v_1]
  pointwise [k0_pay12]
/-- Its derivative. -/
theorem d_1 : (k0_pay13 (F := Ideal) a b) (ix2 r 0) = dsOf (hrow a b r 1) := by
  rw [dsOf, ← v_1, ← s_1]
  pointwise [k0_pay13]
/-- The gradient of its normed row. -/
theorem g_1 : row (k0_pay32 (F := Ideal) x d g) r = gK x d g r 1 := by
  funext j
  pointwise [row, gK, grOf, hcol, k0_pay32, k0_pay30, k0_pay27, k0_pay26]
/-- The third head's row. -/
theorem f_2 : row (k0_pay15 (F := Ideal) a b) r = hrow a b r 2 := by
  funext j
  pointwise [row, hrow, hcol, k0_pay15, k0_pay4]
/-- The third head's mean square. -/
theorem v_2 : (k0_pay18 (F := Ideal) (k0_pay16 a b) k0_pay17) (ix2 r 0) = varOf (hrow a b r 2) := by
  rw [← f_2]
  pointwise [varOf, row, k0_pay18, k0_pay16, k0_pay17]
/-- One over its root. -/
theorem s_2 : (k0_pay19 (F := Ideal) (k0_pay16 a b) k0_pay17) (ix2 r 0) = rsOf (hrow a b r 2) := by
  rw [rsOf, ← v_2]
  pointwise [k0_pay19]
/-- Its derivative. -/
theorem d_2 : (k0_pay20 (F := Ideal) (k0_pay16 a b) k0_pay17) (ix2 r 0) = dsOf (hrow a b r 2) := by
  rw [dsOf, ← v_2, ← s_2]
  pointwise [k0_pay20]
/-- The gradient of its normed row. -/
theorem g_2 : row (k0_pay33 (F := Ideal) x d g) r = gK x d g r 2 := by
  funext j
  pointwise [row, gK, grOf, hcol, k0_pay33, k0_pay30, k0_pay27, k0_pay26]
/-- The last head's row. -/
theorem f_3 : row (k0_pay21 (F := Ideal) (k0_pay4 a b)) r = hrow a b r 3 := by
  funext j
  pointwise [row, hrow, hcol, k0_pay21, k0_pay4]
/-- The last head's mean square. -/
theorem v_3 : (k0_pay22 (F := Ideal) (k0_pay4 a b)) (ix2 r 0) = varOf (hrow a b r 3) := by
  rw [← f_3]
  pointwise [varOf, row, k0_pay22]
/-- One over its root. -/
theorem s_3 : (k0_pay23 (F := Ideal) (k0_pay4 a b)) (ix2 r 0) = rsOf (hrow a b r 3) := by
  rw [rsOf, ← v_3]
  pointwise [k0_pay23]
/-- Its derivative. -/
theorem d_3 : (k0_pay24 (F := Ideal) (k0_pay4 a b)) (ix2 r 0) = dsOf (hrow a b r 3) := by
  rw [dsOf, ← v_3, ← s_3]
  pointwise [k0_pay24]
/-- The gradient of its normed row. -/
theorem g_3 : row (k0_pay34 (F := Ideal) x d g) r = gK x d g r 3 := by
  funext j
  pointwise [row, gK, grOf, hcol, k0_pay34, k0_pay30, k0_pay27, k0_pay26]

/-- What the body stores of the attention's output's gradient. -/
theorem store_do : k0_pay1 (F := Ideal) (k0_pay5 a b) (k0_pay7 a b) (k0_pay8 a b) (k0_pay31 x d g)
    (k0_pay37 (k0_pay15 a b) (k0_pay19 (k0_pay16 a b) k0_pay17) (k0_pay20 (k0_pay16 a b) k0_pay17) (k0_pay21 (k0_pay4 a b)) (k0_pay24 (k0_pay4 a b)) (k0_pay33 x d g) (k0_pay35 x d g (k0_pay4 a b)) (k0_pay36 x d g (k0_pay4 a b)))
    (Scalar.ofBits .f32 0x00000000#32) (k0_pay38 (k0_pay10 a b) (k0_pay12 a b) (k0_pay13 a b) (k0_pay32 x d g)) (ix2 r (hcol h k)) = doOf (hrow a b r h) (gK x d g r h) k := by
  match h with
  | 0 => rw [p1_0, p37_0, p38_0, f_0, s_0, d_0, g_0, zero_add, zero_add]; rfl
  | 1 => rw [p1_1, p37_1, p38_1, f_1, s_1, d_1, g_1, zero_add]; rfl
  | 2 => rw [p1_2, p37_2, f_2, s_2, d_2, g_2]; rfl
  | 3 =>
    rw [p1_3, p37_3, d_3, doOf, cOf, ← s_3, ← f_3, ← g_3]
    pointwise [k0_pay35, k0_pay36, row]

/-- The normed rows of a block. -/
theorem normed_at : k0_pay25 (F := Ideal) (k0_pay4 a b) (k0_pay9 a b) (k0_pay14 a b) (k0_pay15 a b) (k0_pay16 a b) k0_pay17 (ix2 r (hcol h k)) = nOf (hrow a b r h) k := by
  match h with
  | 0 =>
    rw [nOf, ← s_0, ← f_0]
    pointwise [k0_pay25, k0_pay9, row, hcol]
    repeat' (split <;> try (exfalso; omega))
    all_goals rfl
  | 1 =>
    rw [nOf, ← s_1, ← f_1]
    pointwise [k0_pay25, k0_pay14, row, hcol]
    repeat' (split <;> try (exfalso; omega))
    all_goals rfl
  | 2 =>
    rw [nOf, ← s_2, ← f_2]
    pointwise [k0_pay25, row, hcol]
    repeat' (split <;> try (exfalso; omega))
    rw [show (⟨512 + k.val - 256 - 256, by omega⟩ : Fin 256) = k from Fin.ext (by show 512 + k.val - 256 - 256 = k.val; omega)]
  | 3 =>
    rw [nOf, ← s_3, ← f_3]
    pointwise [k0_pay25, row, hcol]
    repeat' (split <;> try (exfalso; omega))
    rw [show (⟨768 + k.val - 256 - 256 - 256, by omega⟩ : Fin 256) = k from Fin.ext (by show 768 + k.val - 256 - 256 - 256 = k.val; omega)]

/-- What the body stores of the gate's argument's gradient. -/
theorem store_dr : k0_pay2 (F := Ideal) (k0_pay28 x d g (k0_pay4 a b) (k0_pay9 a b) (k0_pay14 a b) (k0_pay15 a b) (k0_pay16 a b) k0_pay17) (ix2 r (hcol h k))
    = drOf (nOf (hrow a b r h) k) (g (ix2 0 (hcol h k))) (d (ix2 r (hcol h k))) (x (ix2 r (hcol h k))) := by
  rw [drOf, ← normed_at]
  pointwise [k0_pay2, k0_pay28, k0_pay26]

/-- A block's part of the gain's gradient. -/
theorem part_dg (z : Fin 1) : k0_pay29 (F := Ideal) x d (k0_pay4 a b) (k0_pay9 a b) (k0_pay14 a b) (k0_pay15 a b) (k0_pay16 a b) k0_pay17 (ix2 z (hcol h k))
    = ∑ r : Fin 512, nOf (hrow a b r h) k * grOf (d (ix2 r (hcol h k))) (x (ix2 r (hcol h k))) := by
  refine Eq.trans ?_ (Finset.sum_congr rfl fun r _ => congrArg (fun n : EReal => n * grOf (d (ix2 r (hcol h k))) (x (ix2 r (hcol h k)))) (normed_at a b r h k))
  pointwise [k0_pay29, k0_pay27, k0_pay26, grOf]

/-- Adding a part of the gain's gradient. -/
theorem add_dg (v acc : Vec Ideal S1x1024 .f32) (i : S1x1024.Idx) : k0_pay3 v acc i = acc i + v i := by
  pointwise [k0_pay3]

end Heads

end Cert.GlaDpostIdeal.Val

end
-- ==== Proof.GlaDpostMain.lean ====
/- The gradients of the linear attention's output: every block's gradients, the gain's gradient summed over the blocks, and the claim. -/
module

public import proofs.«01_k».proof.Proof.GlaDpostBody
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.GlaDpostIdeal.Val

open Cert.GlaDpostIdeal Cert.GlaDpostIdeal.Gen Cert.HeadNorm
open Cert.GlaDpostRefIdeal.Val (DO DR DG frow grow rAt do_at dr_at dg_at)

variable (m : (ℓ : Loc nD τ sig) → Buf (Elt Ideal) ℓ)

/-- Which block each window holds at each point. -/
theorem idx : ∀ t : Fin cfg0.N, win0_0.index t = ![t.val, 0] ∧ win0_1.index t = ![t.val, 0] ∧ win0_2.index t = ![t.val, 2] ∧ win0_3.index t = ![t.val, 0]
    ∧ win0_4.index t = ![0, 0] ∧ win0_5.index t = ![t.val, 0] ∧ win0_6.index t = ![t.val, 0] ∧ win0_7.index t = ![0, 0] :=
  (by decide +kernel : ∀ t : Fin grid0.N, _)

/-- The attention's output, both directions together. -/
def aV (c : Dev nD) : FVec Ideal S4096x1024 .f32 := addf (m ((c.tc : Thread nD τ).loc main_arg0)) (m ((c.tc : Thread nD τ).loc main_arg1))
/-- The projections. -/
def aX (c : Dev nD) : FVec Ideal S4096x3200 .f32 := m ((c.tc : Thread nD τ).loc main_arg2)
/-- The gradient of the result. -/
def aD (c : Dev nD) : FVec Ideal S4096x1024 .f32 := m ((c.tc : Thread nD τ).loc main_arg3)
/-- The gain. -/
def aG (c : Dev nD) : FVec Ideal S1x1024 .f32 := m ((c.tc : Thread nD τ).loc main_arg4)

section Places
variable (c : Dev nD) (t : Fin cfg0.N) (r : Fin 512) (s : Fin 4096) (h : Fin 4)

/-- A block's gate columns are the projection's. -/
theorem x_blk (l : Fin 1024) (h0 : s.val = t.val * 512 + r.val) : (X0_2 m c t : Vec Ideal S512x1024 .f32) (ix2 r l) = rAt (aX m c) s l := by
  unfold X0_2 Pipeline.Window.fill rAt aX
  rw [dif_pos (moved0_2 t (ix2 r l))]
  blk_point [iblk, V, idx t]

/-- A block's rows of the result's gradient. -/
theorem d_blk (l : Fin 1024) (h0 : s.val = t.val * 512 + r.val) : (iblk m c 3 t : Vec Ideal S512x1024 .f32) (ix2 r l) = aD m c (ix2 s l) := by
  unfold aD
  blk_point [iblk, V, idx t]

/-- A block's gain. -/
theorem g_blk (l : Fin 1024) : (iblk m c 4 t : Vec Ideal S1x1024 .f32) (ix2 0 l) = aG m c (ix2 0 l) := by
  unfold aG
  blk_point [iblk, V, idx t]

/-- A block's head row is the array's. -/
theorem hrow_blk (h0 : s.val = t.val * 512 + r.val) : hrow (iblk m c 0 t) (iblk m c 1 t) r h = frow (aV m c) s h := by
  funext j
  unfold hrow frow hcol aV
  refine congrArg₂ (fun p q : EReal => p + q) ?_ ?_ <;> blk_point [iblk, V, idx t]

/-- A block's gradient of a head's normed row is the array's. -/
theorem gK_blk (h0 : s.val = t.val * 512 + r.val) : gK (X0_2 m c t) (iblk m c 3 t) (iblk m c 4 t) r h = grow (aD m c) (aX m c) (aG m c) s h := by
  funext j
  rw [gK, x_blk m c t r s _ h0, d_blk m c t r s _ h0, g_blk m c t]
  rfl

end Places

/-- Blocks' columns, one head's at a time. -/
theorem split (y : S512x1024.Idx) : ∃ (r : Fin 512) (h : Fin 4) (k : Fin 256), y = ix2 r (hcol h k) := by
  obtain ⟨h, k, e⟩ := col_split (y 1)
  exact ⟨y 0, h, k, (ix2_eta y).symm.trans (congrArg (fun b => ix2 (y 0) b) e)⟩

/-- What a point leaves of the output's gradient. -/
theorem out_do (c : Dev nD) (t : Fin cfg0.N) (r : Fin 512) (h : Fin 4) (k : Fin 256) :
    (outsAt0 m c t.val t.isLt).1 (ix2 r (hcol h k)) = doOf (hrow (iblk m c 0 t) (iblk m c 1 t) r h) (gK (X0_2 m c t) (iblk m c 3 t) (iblk m c 4 t) r h) k := by
  by_cases e : t.val % 8 = 0
  · have h1 : ¬1 ≤ t.val := by have : t.val < 8 := t.isLt; omega
    rw [outsAt0_A m c t e h1]; frame_out
    exact store_do _ _ _ _ _ r h k
  · have h1 : 1 ≤ t.val := by omega
    rw [outsAt0_B m c t e h1]; frame_out
    exact store_do _ _ _ _ _ r h k

/-- What a point leaves of the gate's argument's gradient. -/
theorem out_dr (c : Dev nD) (t : Fin cfg0.N) (r : Fin 512) (h : Fin 4) (k : Fin 256) :
    (outsAt0 m c t.val t.isLt).2.1 (ix2 r (hcol h k)) = drOf (nOf (hrow (iblk m c 0 t) (iblk m c 1 t) r h) k) ((iblk m c 4 t : Vec Ideal S1x1024 .f32) (ix2 0 (hcol h k)))
      ((iblk m c 3 t : Vec Ideal S512x1024 .f32) (ix2 r (hcol h k))) ((X0_2 m c t : Vec Ideal S512x1024 .f32) (ix2 r (hcol h k))) := by
  by_cases e : t.val % 8 = 0
  · have h1 : ¬1 ≤ t.val := by have : t.val < 8 := t.isLt; omega
    rw [outsAt0_A m c t e h1]; frame_out
    exact store_dr _ _ _ _ _ r h k
  · have h1 : 1 ≤ t.val := by omega
    rw [outsAt0_B m c t e h1]; frame_out
    exact store_dr _ _ _ _ _ r h k

/-- A point's part of the gain's gradient. -/
def partG (c : Dev nD) (t : Fin cfg0.N) (i : S1x1024.Idx) : EReal :=
  k0_pay29 (F := Ideal) (X0_2 m c t) (iblk m c 3 t) (k0_pay4 (iblk m c 0 t) (iblk m c 1 t)) (k0_pay9 (iblk m c 0 t) (iblk m c 1 t)) (k0_pay14 (iblk m c 0 t) (iblk m c 1 t)) (k0_pay15 (iblk m c 0 t) (iblk m c 1 t)) (k0_pay16 (iblk m c 0 t) (iblk m c 1 t)) k0_pay17 i

/-- The first point leaves its part. -/
theorem first_dg (c : Dev nD) (t : Fin cfg0.N) (h : t.val % 8 = 0) (i : S1x1024.Idx) : (outsAt0 m c t.val t.isLt).2.2 i = partG m c t i := by
  have h1 : ¬1 ≤ t.val := by have : t.val < 8 := t.isLt; omega
  rw [outsAt0_A m c t h h1]; frame_out
  rfl

/-- A later point adds its part. -/
theorem next_dg (c : Dev nD) (t : Fin cfg0.N) (h : ¬t.val % 8 = 0) (i : S1x1024.Idx) :
    (outsAt0 m c t.val t.isLt).2.2 i = (outsAt0 m c (t.val - 1) (Nat.lt_of_le_of_lt (Nat.sub_le _ _) t.isLt)).2.2 i + partG m c t i := by
  have h1 : 1 ≤ t.val := by omega
  rw [outsAt0_B m c t h h1]; frame_out
  exact add_dg _ _ i

/-- An accumulator that starts at its part and adds its part at each later point ends at the parts' sum. -/
theorem acc {ι : Type} (f : (n : ℕ) → n < cfg0.N → ι → EReal) (part : Fin cfg0.N → ι → EReal)
    (first : ∀ t : Fin cfg0.N, t.val % 8 = 0 → ∀ i, f t.val t.isLt i = part t i)
    (next : ∀ t : Fin cfg0.N, ¬t.val % 8 = 0 → ∀ i, f t.val t.isLt i = f (t.val - 1) (Nat.lt_of_le_of_lt (Nat.sub_le _ _) t.isLt) i + part t i)
    (t : Fin cfg0.N) (h : t.val % 8 = 7) (i : ι) : f t.val t.isLt i = ∑ s : Fin 8, part ⟨s.val, s.isLt⟩ i := by
  rw [Pipeline.eq_sum_fin_of_reset_step_apply_of_flush f 8 (fun _ => 0) part (fun t h i => (first t h i).trans (zero_add _).symm) next t h i, zero_add]
  refine Finset.sum_congr rfl fun s _ => congrArg (fun u => part u i) (Fin.ext ?_)
  have : t.val < 8 := t.isLt
  show 8 * (t.val / 8) + s.val = s.val
  omega

/-- The parts add up to the gain's gradient. -/
theorem sum_G (c : Dev nD) (h : Fin 4) (k : Fin 256) : ∑ s : Fin 8, partG m c ⟨s.val, s.isLt⟩ (ix2 0 (hcol h k)) = DG (aV m c) (aD m c) (aX m c) (ix2 0 (hcol h k)) := by
  rw [dg_at]
  refine Eq.trans (Finset.sum_congr rfl fun (s : Fin 8) _ => part_dg (iblk m c 0 ⟨s.val, s.isLt⟩) (iblk m c 1 ⟨s.val, s.isLt⟩) (X0_2 m c ⟨s.val, s.isLt⟩) (iblk m c 3 ⟨s.val, s.isLt⟩) h k 0) ?_
  refine Fin.sum_mul_add_congr fun s r hl => ?_
  rw [hrow_blk m c ⟨s.val, s.isLt⟩ r ⟨s.val * 512 + r.val, hl⟩ h rfl, d_blk m c ⟨s.val, s.isLt⟩ r ⟨s.val * 512 + r.val, hl⟩ _ rfl, x_blk m c ⟨s.val, s.isLt⟩ r ⟨s.val * 512 + r.val, hl⟩ _ rfl]

/-- A block's gradient of the output is the reference's at its place. -/
theorem point_do (c : Dev nD) (t : Fin cfg0.N) (y : S512x1024.Idx) (i : S4096x1024.Idx) (h0 : (i 0).val = t.val * 512 + (y 0).val) (h1 : (i 1).val = (y 1).val) :
    (outsAt0 m c t.val t.isLt).1 y = DO (aV m c) (aD m c) (aX m c) (aG m c) i := by
  obtain ⟨r, h, k, rfl⟩ := split y
  have e : i = ix2 (i 0) (hcol h k) := (ix2_eta i).symm.trans (congrArg (fun b => ix2 (i 0) b) (Fin.ext h1))
  generalize i 0 = s at e h0
  subst e
  rw [out_do, hrow_blk m c t r s h h0, gK_blk m c t r s h h0]
  exact (do_at _ _ _ _ s h k).symm

/-- A block's gradient of the gate's argument is the reference's at its place. -/
theorem point_dr (c : Dev nD) (t : Fin cfg0.N) (y : S512x1024.Idx) (i : S4096x1024.Idx) (h0 : (i 0).val = t.val * 512 + (y 0).val) (h1 : (i 1).val = (y 1).val) :
    (outsAt0 m c t.val t.isLt).2.1 y = DR (aV m c) (aD m c) (aX m c) (aG m c) i := by
  obtain ⟨r, h, k, rfl⟩ := split y
  have e : i = ix2 (i 0) (hcol h k) := (ix2_eta i).symm.trans (congrArg (fun b => ix2 (i 0) b) (Fin.ext h1))
  generalize i 0 = s at e h0
  subst e
  rw [out_dr, hrow_blk m c t r s h h0, x_blk m c t r s _ h0, d_blk m c t r s _ h0, g_blk m c t]
  exact (dr_at _ _ _ _ s h k).symm

/-- The gain's gradient after the last point is the reference's. -/
theorem point_dg (c : Dev nD) (t : Fin cfg0.N) (ht : t.val % 8 = 7) (y i : S1x1024.Idx) (h1 : (i 1).val = (y 1).val) :
    (outsAt0 m c t.val t.isLt).2.2 y = DG (aV m c) (aD m c) (aX m c) i := by
  obtain ⟨h, k, e⟩ := col_split (y 1)
  obtain rfl : y = ix2 0 (hcol h k) := (ix2_eta y).symm.trans (congrArg₂ (fun a b => ix2 a b) (Subsingleton.elim _ _) e)
  obtain rfl : i = ix2 0 (hcol h k) := (ix2_eta i).symm.trans (congrArg₂ (fun a b => ix2 a b) (Subsingleton.elim _ _) (Fin.ext h1))
  exact (acc (fun n hn => (outsAt0 m c n hn).2.2) (partG m c) (first_dg m c) (next_dg m c) t ht _).trans (sum_G m c h k)

/-- The output's gradient after the run. -/
theorem final_do (c : Dev nD) : (dats m 0 c).arrAt 5 (cfgs 0).N = DO (aV m c) (aD m c) (aX m c) (aG m c) := by
  refine (dats m 0 c).arrAt_eq_of_covers 5 _ (by decide +kernel) fun t _ y => ?_
  blk_simp
  rw [after0_5]
  refine point_do m c t y _ ?_ ?_ <;> (blk_simp [idx t] <;> try omega)

/-- The gate's argument's gradient after the run. -/
theorem final_dr (c : Dev nD) : (dats m 0 c).arrAt 6 (cfgs 0).N = DR (aV m c) (aD m c) (aX m c) (aG m c) := by
  refine (dats m 0 c).arrAt_eq_of_covers 6 _ (by decide +kernel) fun t _ y => ?_
  blk_simp
  rw [after0_6]
  refine point_dr m c t y _ ?_ ?_ <;> (blk_simp [idx t] <;> try omega)

/-- The gain's gradient after the run. -/
theorem final_dg (c : Dev nD) : (dats m 0 c).arrAt 7 (cfgs 0).N = DG (aV m c) (aD m c) (aX m c) := by
  refine (dats m 0 c).arrAt_eq_of_covers 7 _ (by decide +kernel) fun t hf y => ?_
  blk_simp
  rw [after0_7]
  refine point_dg m c t ((flush0_7 t).mp hf) y _ ?_ <;> (blk_simp [idx t] <;> try omega)

end Cert.GlaDpostIdeal.Val

namespace Cert.Proof

/-- The idealised gradient kernel of the linear attention's output computes what the idealised reference computes. -/
theorem gla_dpost_algebraic : Cert.algebraic_GlaDpostIdeal_GlaDpostRefIdeal (hGlaDpostIdeal := Cert.GlaDpostIdeal.Gen.facts) (hGlaDpostRefIdeal := Cert.GlaDpostRefIdeal.Gen.facts) := by
  pair_intro
  · run_from Cert.GlaDpostIdeal.Gen.run_main m g
  · run_from Cert.GlaDpostRefIdeal.Val.run m' g'
    · exact (Cert.GlaDpostIdeal.Val.final_do m c).symm
    · exact (Cert.GlaDpostIdeal.Val.final_dr m c).symm
    · exact (Cert.GlaDpostIdeal.Val.final_dg m c).symm

/-- The idealised reference of the output's gradients runs to its end. -/
theorem gla_dpost_ref_frame : Cert.quiescent_GlaDpostRefIdeal (hGlaDpostRefIdeal := Cert.GlaDpostRefIdeal.Gen.facts) := by
  intro m g _
  exact (θ_run _ _ _).mono (fun r h => ⟨fun c => (h c).2.2.2, sem_eq_zero_of_no_sems (by decide) r.2⟩) (Cert.GlaDpostRefIdeal.Value.run m g)

end Cert.Proof

end
-- ==== Proof.lean ====
module

public import proofs.«01_k».proof.Defs
public import proofs.«01_k».proof.Proof.Gen.ReferenceIdeal
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Dact
public import proofs.«01_k».proof.Proof.Gen.Dact.Skeleton
public import proofs.«01_k».proof.Proof.Gen.Dact.Launch
public import proofs.«01_k».proof.Proof.Gen.Dact.Points
public import proofs.«01_k».proof.Proof.Gen.Dact.Frame
public import proofs.«01_k».proof.Proof.Gen.DactIdeal
public import proofs.«01_k».proof.Proof.Gen.DactIdeal.Skeleton
public import proofs.«01_k».proof.Proof.Gen.DactIdeal.Launch
public import proofs.«01_k».proof.Proof.Gen.DactIdeal.Points
public import proofs.«01_k».proof.Proof.Gen.DactIdeal.Frame
public import proofs.«01_k».proof.Proof.Gen.DactIdeal.Value
public import proofs.«01_k».proof.Proof.Gen.DactRefIdeal
public import proofs.«01_k».proof.Proof.Gen.DactRefIdeal.Run
public import proofs.«01_k».proof.Proof.Gen.Dw2
public import proofs.«01_k».proof.Proof.Gen.Dw2.Skeleton
public import proofs.«01_k».proof.Proof.Gen.Dw2.Launch
public import proofs.«01_k».proof.Proof.Gen.Dw2.Points
public import proofs.«01_k».proof.Proof.Gen.Dw2.Frame
public import proofs.«01_k».proof.Proof.Gen.Dw2Ideal
public import proofs.«01_k».proof.Proof.Gen.Dw2Ideal.Skeleton
public import proofs.«01_k».proof.Proof.Gen.Dw2Ideal.Launch
public import proofs.«01_k».proof.Proof.Gen.Dw2Ideal.Points
public import proofs.«01_k».proof.Proof.Gen.Dw2Ideal.Frame
public import proofs.«01_k».proof.Proof.Gen.Dw2Ideal.Value
public import proofs.«01_k».proof.Proof.Gen.Dw2RefIdeal
public import proofs.«01_k».proof.Proof.Gen.Dw2RefIdeal.Run
public import proofs.«01_k».proof.Proof.Gen.Dw1
public import proofs.«01_k».proof.Proof.Gen.Dw1.Skeleton
public import proofs.«01_k».proof.Proof.Gen.Dw1.Launch
public import proofs.«01_k».proof.Proof.Gen.Dw1.Points
public import proofs.«01_k».proof.Proof.Gen.Dw1.Frame
public import proofs.«01_k».proof.Proof.Gen.Dw1Ideal
public import proofs.«01_k».proof.Proof.Gen.Dw1Ideal.Skeleton
public import proofs.«01_k».proof.Proof.Gen.Dw1Ideal.Launch
public import proofs.«01_k».proof.Proof.Gen.Dw1Ideal.Points
public import proofs.«01_k».proof.Proof.Gen.Dw1Ideal.Frame
public import proofs.«01_k».proof.Proof.Gen.Dw1Ideal.Value
public import proofs.«01_k».proof.Proof.Gen.Dw1RefIdeal
public import proofs.«01_k».proof.Proof.Gen.Dw1RefIdeal.Run
public import proofs.«01_k».proof.Proof.Gen.Dy
public import proofs.«01_k».proof.Proof.Gen.Dy.Skeleton
public import proofs.«01_k».proof.Proof.Gen.Dy.Launch
public import proofs.«01_k».proof.Proof.Gen.Dy.Points
public import proofs.«01_k».proof.Proof.Gen.Dy.Frame
public import proofs.«01_k».proof.Proof.Gen.DyIdeal
public import proofs.«01_k».proof.Proof.Gen.DyIdeal.Skeleton
public import proofs.«01_k».proof.Proof.Gen.DyIdeal.Launch
public import proofs.«01_k».proof.Proof.Gen.DyIdeal.Points
public import proofs.«01_k».proof.Proof.Gen.DyIdeal.Frame
public import proofs.«01_k».proof.Proof.Gen.DyRefIdeal
public import proofs.«01_k».proof.Proof.Gen.DyRefIdeal.Run
public import proofs.«01_k».proof.Proof.Gen.Dout
public import proofs.«01_k».proof.Proof.Gen.Dout.Skeleton
public import proofs.«01_k».proof.Proof.Gen.Dout.Launch
public import proofs.«01_k».proof.Proof.Gen.Dout.Points
public import proofs.«01_k».proof.Proof.Gen.Dout.Frame
public import proofs.«01_k».proof.Proof.Gen.DoutIdeal
public import proofs.«01_k».proof.Proof.Gen.DoutIdeal.Skeleton
public import proofs.«01_k».proof.Proof.Gen.DoutIdeal.Launch
public import proofs.«01_k».proof.Proof.Gen.DoutIdeal.Points
public import proofs.«01_k».proof.Proof.Gen.DoutIdeal.Frame
public import proofs.«01_k».proof.Proof.Gen.DoutRefIdeal
public import proofs.«01_k».proof.Proof.Gen.DoutRefIdeal.Run
public import proofs.«01_k».proof.Proof.Gen.Dwout
public import proofs.«01_k».proof.Proof.Gen.Dwout.Skeleton
public import proofs.«01_k».proof.Proof.Gen.Dwout.Launch
public import proofs.«01_k».proof.Proof.Gen.Dwout.Points
public import proofs.«01_k».proof.Proof.Gen.Dwout.Frame
public import proofs.«01_k».proof.Proof.Gen.DwoutIdeal
public import proofs.«01_k».proof.Proof.Gen.DwoutIdeal.Skeleton
public import proofs.«01_k».proof.Proof.Gen.DwoutIdeal.Launch
public import proofs.«01_k».proof.Proof.Gen.DwoutIdeal.Points
public import proofs.«01_k».proof.Proof.Gen.DwoutIdeal.Frame
public import proofs.«01_k».proof.Proof.Gen.DwoutRefIdeal
public import proofs.«01_k».proof.Proof.Gen.DwoutRefIdeal.Run
public import proofs.«01_k».proof.Proof.Gen.AbDwin
public import proofs.«01_k».proof.Proof.Gen.AbDwin.Skeleton
public import proofs.«01_k».proof.Proof.Gen.AbDwin.Launch
public import proofs.«01_k».proof.Proof.Gen.AbDwin.Points
public import proofs.«01_k».proof.Proof.Gen.AbDwin.Frame
public import proofs.«01_k».proof.Proof.Gen.AbDwinIdeal
public import proofs.«01_k».proof.Proof.Gen.AbDwinIdeal.Skeleton
public import proofs.«01_k».proof.Proof.Gen.AbDwinIdeal.Launch
public import proofs.«01_k».proof.Proof.Gen.AbDwinIdeal.Points
public import proofs.«01_k».proof.Proof.Gen.AbDwinIdeal.Frame
public import proofs.«01_k».proof.Proof.Gen.AbDwinRefIdeal
public import proofs.«01_k».proof.Proof.Gen.AbDwinRefIdeal.Run
public import proofs.«01_k».proof.Proof.Gen.GlaDwin
public import proofs.«01_k».proof.Proof.Gen.GlaDwin.Skeleton
public import proofs.«01_k».proof.Proof.Gen.GlaDwin.Launch
public import proofs.«01_k».proof.Proof.Gen.GlaDwin.Points
public import proofs.«01_k».proof.Proof.Gen.GlaDwin.Frame
public import proofs.«01_k».proof.Proof.Gen.GlaDwinIdeal
public import proofs.«01_k».proof.Proof.Gen.GlaDwinIdeal.Skeleton
public import proofs.«01_k».proof.Proof.Gen.GlaDwinIdeal.Launch
public import proofs.«01_k».proof.Proof.Gen.GlaDwinIdeal.Points
public import proofs.«01_k».proof.Proof.Gen.GlaDwinIdeal.Frame
public import proofs.«01_k».proof.Proof.Gen.GlaDwinRefIdeal
public import proofs.«01_k».proof.Proof.Gen.GlaDwinRefIdeal.Run
public import proofs.«01_k».proof.Proof.Gen.AbDy
public import proofs.«01_k».proof.Proof.Gen.AbDy.Skeleton
public import proofs.«01_k».proof.Proof.Gen.AbDy.Launch
public import proofs.«01_k».proof.Proof.Gen.AbDy.Points
public import proofs.«01_k».proof.Proof.Gen.AbDy.Frame
public import proofs.«01_k».proof.Proof.Gen.AbDyIdeal
public import proofs.«01_k».proof.Proof.Gen.AbDyIdeal.Skeleton
public import proofs.«01_k».proof.Proof.Gen.AbDyIdeal.Launch
public import proofs.«01_k».proof.Proof.Gen.AbDyIdeal.Points
public import proofs.«01_k».proof.Proof.Gen.AbDyIdeal.Frame
public import proofs.«01_k».proof.Proof.Gen.AbDyRefIdeal
public import proofs.«01_k».proof.Proof.Gen.AbDyRefIdeal.Run
public import proofs.«01_k».proof.Proof.Gen.GlaDy
public import proofs.«01_k».proof.Proof.Gen.GlaDy.Skeleton
public import proofs.«01_k».proof.Proof.Gen.GlaDy.Launch
public import proofs.«01_k».proof.Proof.Gen.GlaDy.Points
public import proofs.«01_k».proof.Proof.Gen.GlaDy.Frame
public import proofs.«01_k».proof.Proof.Gen.GlaDyIdeal
public import proofs.«01_k».proof.Proof.Gen.GlaDyIdeal.Skeleton
public import proofs.«01_k».proof.Proof.Gen.GlaDyIdeal.Launch
public import proofs.«01_k».proof.Proof.Gen.GlaDyIdeal.Points
public import proofs.«01_k».proof.Proof.Gen.GlaDyIdeal.Frame
public import proofs.«01_k».proof.Proof.Gen.GlaDyRefIdeal
public import proofs.«01_k».proof.Proof.Gen.GlaDyRefIdeal.Run
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.UpRefIdeal.Run
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownRefIdeal.Run
public import proofs.«01_k».proof.Proof.Gen.Last
public import proofs.«01_k».proof.Proof.Gen.Last.Skeleton
public import proofs.«01_k».proof.Proof.Gen.Last.Launch
public import proofs.«01_k».proof.Proof.Gen.Last.Points
public import proofs.«01_k».proof.Proof.Gen.Last.Frame
public import proofs.«01_k».proof.Proof.Gen.LastIdeal
public import proofs.«01_k».proof.Proof.Gen.LastIdeal.Skeleton
public import proofs.«01_k».proof.Proof.Gen.LastIdeal.Launch
public import proofs.«01_k».proof.Proof.Gen.LastIdeal.Points
public import proofs.«01_k».proof.Proof.Gen.LastIdeal.Frame
public import proofs.«01_k».proof.Proof.Gen.LastRefIdeal
public import proofs.«01_k».proof.Proof.Gen.LastRefIdeal.Run
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.OutRefIdeal.Run
public import proofs.«01_k».proof.Proof.Gen.AbIn
public import proofs.«01_k».proof.Proof.Gen.AbIn.Skeleton
public import proofs.«01_k».proof.Proof.Gen.AbIn.Launch
public import proofs.«01_k».proof.Proof.Gen.AbIn.Points
public import proofs.«01_k».proof.Proof.Gen.AbIn.Frame
public import proofs.«01_k».proof.Proof.Gen.AbInIdeal
public import proofs.«01_k».proof.Proof.Gen.AbInIdeal.Skeleton
public import proofs.«01_k».proof.Proof.Gen.AbInIdeal.Launch
public import proofs.«01_k».proof.Proof.Gen.AbInIdeal.Points
public import proofs.«01_k».proof.Proof.Gen.AbInIdeal.Frame
public import proofs.«01_k».proof.Proof.Gen.AbInRefIdeal
public import proofs.«01_k».proof.Proof.Gen.AbInRefIdeal.Run
public import proofs.«01_k».proof.Proof.Gen.GlaIn
public import proofs.«01_k».proof.Proof.Gen.GlaIn.Skeleton
public import proofs.«01_k».proof.Proof.Gen.GlaIn.Launch
public import proofs.«01_k».proof.Proof.Gen.GlaIn.Points
public import proofs.«01_k».proof.Proof.Gen.GlaIn.Frame
public import proofs.«01_k».proof.Proof.Gen.GlaInIdeal
public import proofs.«01_k».proof.Proof.Gen.GlaInIdeal.Skeleton
public import proofs.«01_k».proof.Proof.Gen.GlaInIdeal.Launch
public import proofs.«01_k».proof.Proof.Gen.GlaInIdeal.Points
public import proofs.«01_k».proof.Proof.Gen.GlaInIdeal.Frame
public import proofs.«01_k».proof.Proof.Gen.GlaInRefIdeal
public import proofs.«01_k».proof.Proof.Gen.GlaInRefIdeal.Run
public import proofs.«01_k».proof.Proof.Gen.Dgates
public import proofs.«01_k».proof.Proof.Gen.Dgates.Skeleton
public import proofs.«01_k».proof.Proof.Gen.Dgates.Launch
public import proofs.«01_k».proof.Proof.Gen.Dgates.Points
public import proofs.«01_k».proof.Proof.Gen.Dgates.Frame
public import proofs.«01_k».proof.Proof.Gen.DgatesIdeal
public import proofs.«01_k».proof.Proof.Gen.DgatesIdeal.Skeleton
public import proofs.«01_k».proof.Proof.Gen.DgatesIdeal.Launch
public import proofs.«01_k».proof.Proof.Gen.DgatesIdeal.Points
public import proofs.«01_k».proof.Proof.Gen.DgatesIdeal.Frame
public import proofs.«01_k».proof.Proof.Gen.DgatesRefIdeal
public import proofs.«01_k».proof.Proof.Gen.DgatesRefIdeal.Run
public import proofs.«01_k».proof.Proof.Gen.Gates
public import proofs.«01_k».proof.Proof.Gen.Gates.Skeleton
public import proofs.«01_k».proof.Proof.Gen.Gates.Launch
public import proofs.«01_k».proof.Proof.Gen.Gates.Points
public import proofs.«01_k».proof.Proof.Gen.Gates.Frame
public import proofs.«01_k».proof.Proof.Gen.GatesIdeal
public import proofs.«01_k».proof.Proof.Gen.GatesIdeal.Skeleton
public import proofs.«01_k».proof.Proof.Gen.GatesIdeal.Launch
public import proofs.«01_k».proof.Proof.Gen.GatesIdeal.Points
public import proofs.«01_k».proof.Proof.Gen.GatesIdeal.Frame
public import proofs.«01_k».proof.Proof.Gen.GatesRefIdeal
public import proofs.«01_k».proof.Proof.Gen.GatesRefIdeal.Run
public import proofs.«01_k».proof.Proof.Gen.GlaDpre
public import proofs.«01_k».proof.Proof.Gen.GlaDpre.Skeleton
public import proofs.«01_k».proof.Proof.Gen.GlaDpre.Launch
public import proofs.«01_k».proof.Proof.Gen.GlaDpre.Points
public import proofs.«01_k».proof.Proof.Gen.GlaDpre.Frame
public import proofs.«01_k».proof.Proof.Gen.GlaDpreIdeal
public import proofs.«01_k».proof.Proof.Gen.GlaDpreIdeal.Skeleton
public import proofs.«01_k».proof.Proof.Gen.GlaDpreIdeal.Launch
public import proofs.«01_k».proof.Proof.Gen.GlaDpreIdeal.Points
public import proofs.«01_k».proof.Proof.Gen.GlaDpreIdeal.Frame
public import proofs.«01_k».proof.Proof.Gen.GlaDpreRefIdeal
public import proofs.«01_k».proof.Proof.Gen.GlaDpreRefIdeal.Run
public import proofs.«01_k».proof.Proof.Gen.GlaPre
public import proofs.«01_k».proof.Proof.Gen.GlaPre.Skeleton
public import proofs.«01_k».proof.Proof.Gen.GlaPre.Launch
public import proofs.«01_k».proof.Proof.Gen.GlaPre.Points
public import proofs.«01_k».proof.Proof.Gen.GlaPre.Frame
public import proofs.«01_k».proof.Proof.Gen.GlaPreIdeal
public import proofs.«01_k».proof.Proof.Gen.GlaPreIdeal.Skeleton
public import proofs.«01_k».proof.Proof.Gen.GlaPreIdeal.Launch
public import proofs.«01_k».proof.Proof.Gen.GlaPreIdeal.Points
public import proofs.«01_k».proof.Proof.Gen.GlaPreIdeal.Frame
public import proofs.«01_k».proof.Proof.Gen.GlaPreRefIdeal
public import proofs.«01_k».proof.Proof.Gen.GlaPreRefIdeal.Run
public import proofs.«01_k».proof.Proof.Gen.Dconv
public import proofs.«01_k».proof.Proof.Gen.Dconv.Skeleton
public import proofs.«01_k».proof.Proof.Gen.Dconv.Launch
public import proofs.«01_k».proof.Proof.Gen.Dconv.Points
public import proofs.«01_k».proof.Proof.Gen.Dconv.Frame
public import proofs.«01_k».proof.Proof.Gen.DconvIdeal
public import proofs.«01_k».proof.Proof.Gen.DconvIdeal.Skeleton
public import proofs.«01_k».proof.Proof.Gen.DconvIdeal.Launch
public import proofs.«01_k».proof.Proof.Gen.DconvIdeal.Points
public import proofs.«01_k».proof.Proof.Gen.DconvIdeal.Frame
public import proofs.«01_k».proof.Proof.Gen.DconvRefIdeal
public import proofs.«01_k».proof.Proof.Gen.DconvRefIdeal.Run
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvRefIdeal
public import proofs.«01_k».proof.Proof.Gen.ConvRefIdeal.Run
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormRefIdeal
public import proofs.«01_k».proof.Proof.Gen.NormRefIdeal.Run
public import proofs.«01_k».proof.Proof.Gen.GlaPost
public import proofs.«01_k».proof.Proof.Gen.GlaPost.Skeleton
public import proofs.«01_k».proof.Proof.Gen.GlaPost.Launch
public import proofs.«01_k».proof.Proof.Gen.GlaPost.Points
public import proofs.«01_k».proof.Proof.Gen.GlaPost.Frame
public import proofs.«01_k».proof.Proof.Gen.GlaPostIdeal
public import proofs.«01_k».proof.Proof.Gen.GlaPostIdeal.Skeleton
public import proofs.«01_k».proof.Proof.Gen.GlaPostIdeal.Launch
public import proofs.«01_k».proof.Proof.Gen.GlaPostIdeal.Points
public import proofs.«01_k».proof.Proof.Gen.GlaPostIdeal.Frame
public import proofs.«01_k».proof.Proof.Gen.GlaPostRefIdeal
public import proofs.«01_k».proof.Proof.Gen.GlaPostRefIdeal.Run
public import proofs.«01_k».proof.Proof.Gen.GlaDpost
public import proofs.«01_k».proof.Proof.Gen.GlaDpost.Skeleton
public import proofs.«01_k».proof.Proof.Gen.GlaDpost.Launch
public import proofs.«01_k».proof.Proof.Gen.GlaDpost.Points
public import proofs.«01_k».proof.Proof.Gen.GlaDpost.Frame
public import proofs.«01_k».proof.Proof.Gen.GlaDpostIdeal
public import proofs.«01_k».proof.Proof.Gen.GlaDpostIdeal.Skeleton
public import proofs.«01_k».proof.Proof.Gen.GlaDpostIdeal.Launch
public import proofs.«01_k».proof.Proof.Gen.GlaDpostIdeal.Points
public import proofs.«01_k».proof.Proof.Gen.GlaDpostIdeal.Frame
public import proofs.«01_k».proof.Proof.Gen.GlaDpostRefIdeal
public import proofs.«01_k».proof.Proof.Gen.GlaDpostRefIdeal.Run
public import proofs.«01_k».proof.Proof.ScanClaim
public import proofs.«01_k».proof.Proof.Dact
public import proofs.«01_k».proof.Proof.Dw2
public import proofs.«01_k».proof.Proof.Dw1
public import proofs.«01_k».proof.Proof.Dy
public import proofs.«01_k».proof.Proof.Products
public import proofs.«01_k».proof.Proof.Dwout
public import proofs.«01_k».proof.Proof.Weights
public import proofs.«01_k».proof.Proof.AbDy
public import proofs.«01_k».proof.Proof.GlaDy
public import proofs.«01_k».proof.Proof.Down
public import proofs.«01_k».proof.Proof.Out
public import proofs.«01_k».proof.Proof.Gates
public import proofs.«01_k».proof.Proof.DgatesMain
public import proofs.«01_k».proof.Proof.GlaPre
public import proofs.«01_k».proof.Proof.GlaDpreMain
public import proofs.«01_k».proof.Proof.DconvRun
public import proofs.«01_k».proof.Proof.Conv
public import proofs.«01_k».proof.Proof.PreNorm
public import proofs.«01_k».proof.Proof.GlaPost
public import proofs.«01_k».proof.Proof.GlaDpostMain
public import Idealize.ShloMosaic.Adequacy
public import Idealize.ShloMosaic.Init

@[expose] public section

noncomputable section

namespace Cert.Proof

open Idealize.ShloMosaic Idealize.SL.Sem Cert.Kernel

/-- The frames of the kernels and of the references, and the equality of their results. -/
theorem claim : Cert.Claim :=
  ⟨Cert.Kernel.Gen.facts, Cert.KernelIdeal.Gen.facts, Cert.ReferenceIdeal.Gen.facts,
    Cert.Dact.Gen.facts, Cert.DactIdeal.Gen.facts, Cert.DactRefIdeal.Gen.facts,
    Cert.Dw2.Gen.facts, Cert.Dw2Ideal.Gen.facts, Cert.Dw2RefIdeal.Gen.facts,
    Cert.Dw1.Gen.facts, Cert.Dw1Ideal.Gen.facts, Cert.Dw1RefIdeal.Gen.facts,
    Cert.Dy.Gen.facts, Cert.DyIdeal.Gen.facts, Cert.DyRefIdeal.Gen.facts,
    Cert.Dout.Gen.facts, Cert.DoutIdeal.Gen.facts, Cert.DoutRefIdeal.Gen.facts,
    Cert.Dwout.Gen.facts, Cert.DwoutIdeal.Gen.facts, Cert.DwoutRefIdeal.Gen.facts,
    Cert.AbDwin.Gen.facts, Cert.AbDwinIdeal.Gen.facts, Cert.AbDwinRefIdeal.Gen.facts,
    Cert.GlaDwin.Gen.facts, Cert.GlaDwinIdeal.Gen.facts, Cert.GlaDwinRefIdeal.Gen.facts,
    Cert.AbDy.Gen.facts, Cert.AbDyIdeal.Gen.facts, Cert.AbDyRefIdeal.Gen.facts,
    Cert.GlaDy.Gen.facts, Cert.GlaDyIdeal.Gen.facts, Cert.GlaDyRefIdeal.Gen.facts,
    Cert.Up.Gen.facts, Cert.UpIdeal.Gen.facts, Cert.UpRefIdeal.Gen.facts,
    Cert.Down.Gen.facts, Cert.DownIdeal.Gen.facts, Cert.DownRefIdeal.Gen.facts,
    Cert.Last.Gen.facts, Cert.LastIdeal.Gen.facts, Cert.LastRefIdeal.Gen.facts,
    Cert.Out.Gen.facts, Cert.OutIdeal.Gen.facts, Cert.OutRefIdeal.Gen.facts,
    Cert.AbIn.Gen.facts, Cert.AbInIdeal.Gen.facts, Cert.AbInRefIdeal.Gen.facts,
    Cert.GlaIn.Gen.facts, Cert.GlaInIdeal.Gen.facts, Cert.GlaInRefIdeal.Gen.facts,
    Cert.GlaDpre.Gen.facts, Cert.GlaDpreIdeal.Gen.facts, Cert.GlaDpreRefIdeal.Gen.facts,
    Cert.GlaPre.Gen.facts, Cert.GlaPreIdeal.Gen.facts, Cert.GlaPreRefIdeal.Gen.facts,
    Cert.Dconv.Gen.facts, Cert.DconvIdeal.Gen.facts, Cert.DconvRefIdeal.Gen.facts,
    Cert.Conv.Gen.facts, Cert.ConvIdeal.Gen.facts, Cert.ConvRefIdeal.Gen.facts,
    Cert.Norm.Gen.facts, Cert.NormIdeal.Gen.facts, Cert.NormRefIdeal.Gen.facts,
    Cert.GlaPost.Gen.facts, Cert.GlaPostIdeal.Gen.facts, Cert.GlaPostRefIdeal.Gen.facts,
    Cert.GlaDpost.Gen.facts, Cert.GlaDpostIdeal.Gen.facts, Cert.GlaDpostRefIdeal.Gen.facts,
    Cert.Dgates.Gen.facts, Cert.DgatesIdeal.Gen.facts, Cert.DgatesRefIdeal.Gen.facts,
    Cert.Gates.Gen.facts, Cert.GatesIdeal.Gen.facts, Cert.GatesRefIdeal.Gen.facts,
    Cert.Pre_finite.facts, Cert.Pre_finite_gates.facts, Cert.Pre_finite_decay.facts,
    fun m ρ _ => Cert.Kernel.Gen.frame m ρ, fun m ρ _ => Cert.KernelIdeal.Gen.frame m ρ, fun m ρ _ => Cert.KernelIdeal.Gen.frame m ρ,
    reference_quiescent, fun m g _ => reference_quiescent m g ⟨⟩,
    fun m ρ _ => Cert.Dact.Gen.frame m ρ, fun m ρ _ => Cert.DactIdeal.Gen.frame m ρ, dact_ref_frame,
    fun m ρ _ => Cert.Dw2.Gen.frame m ρ, fun m ρ _ => Cert.Dw2Ideal.Gen.frame m ρ, dw2_ref_frame,
    fun m ρ _ => Cert.Dw1.Gen.frame m ρ, fun m ρ _ => Cert.Dw1Ideal.Gen.frame m ρ, dw1_ref_frame,
    fun m ρ _ => Cert.Dy.Gen.frame m ρ, fun m ρ _ => Cert.DyIdeal.Gen.frame m ρ, dy_ref_frame,
    fun m ρ _ => Cert.Dout.Gen.frame m ρ, fun m ρ _ => Cert.DoutIdeal.Gen.frame m ρ, dout_ref_frame,
    fun m ρ _ => Cert.Dwout.Gen.frame m ρ, fun m ρ _ => Cert.DwoutIdeal.Gen.frame m ρ, dwout_ref_frame,
    fun m ρ _ => Cert.AbDwin.Gen.frame m ρ, fun m ρ _ => Cert.AbDwinIdeal.Gen.frame m ρ, ab_dwin_ref_frame,
    fun m ρ _ => Cert.GlaDwin.Gen.frame m ρ, fun m ρ _ => Cert.GlaDwinIdeal.Gen.frame m ρ, gla_dwin_ref_frame,
    fun m ρ _ => Cert.AbDy.Gen.frame m ρ, fun m ρ _ => Cert.AbDyIdeal.Gen.frame m ρ, ab_dy_ref_frame,
    fun m ρ _ => Cert.GlaDy.Gen.frame m ρ, fun m ρ _ => Cert.GlaDyIdeal.Gen.frame m ρ, gla_dy_ref_frame,
    fun m ρ _ => Cert.Up.Gen.frame m ρ, fun m ρ _ => Cert.UpIdeal.Gen.frame m ρ, up_ref_frame,
    fun m ρ _ => Cert.Down.Gen.frame m ρ, fun m ρ _ => Cert.DownIdeal.Gen.frame m ρ, down_ref_frame,
    fun m ρ _ => Cert.Last.Gen.frame m ρ, fun m ρ _ => Cert.LastIdeal.Gen.frame m ρ, last_ref_frame,
    fun m ρ _ => Cert.Out.Gen.frame m ρ, fun m ρ _ => Cert.OutIdeal.Gen.frame m ρ, out_ref_frame,
    fun m ρ _ => Cert.AbIn.Gen.frame m ρ, fun m ρ _ => Cert.AbInIdeal.Gen.frame m ρ, ab_in_ref_frame,
    fun m ρ _ => Cert.GlaIn.Gen.frame m ρ, fun m ρ _ => Cert.GlaInIdeal.Gen.frame m ρ, gla_in_ref_frame,
    fun m ρ _ => Cert.GlaDpre.Gen.frame m ρ, fun m ρ _ => Cert.GlaDpreIdeal.Gen.frame m ρ, gla_dpre_ref_frame,
    fun m ρ _ => Cert.GlaPre.Gen.frame m ρ, fun m ρ _ => Cert.GlaPreIdeal.Gen.frame m ρ, gla_pre_ref_frame,
    fun m ρ _ => Cert.Dconv.Gen.frame m ρ, fun m ρ _ => Cert.DconvIdeal.Gen.frame m ρ, dconv_ref_frame,
    fun m ρ _ => Cert.Conv.Gen.frame m ρ, fun m ρ _ => Cert.ConvIdeal.Gen.frame m ρ, conv_ref_frame,
    fun m ρ _ => Cert.Norm.Gen.frame m ρ, fun m ρ _ => Cert.NormIdeal.Gen.frame m ρ, norm_ref_frame,
    fun m ρ _ => Cert.GlaPost.Gen.frame m ρ, fun m ρ _ => Cert.GlaPostIdeal.Gen.frame m ρ, gla_post_ref_frame,
    fun m ρ _ => Cert.GlaDpost.Gen.frame m ρ, fun m ρ _ => Cert.GlaDpostIdeal.Gen.frame m ρ, gla_dpost_ref_frame,
    fun m ρ _ => Cert.Dgates.Gen.frame m ρ, fun m ρ _ => Cert.DgatesIdeal.Gen.frame m ρ, fun m ρ _ => Cert.DgatesIdeal.Gen.frame m ρ, dgates_ref_frame, fun m g _ => dgates_ref_frame m g ⟨⟩,
    fun m ρ _ => Cert.Gates.Gen.frame m ρ, fun m ρ _ => Cert.GatesIdeal.Gen.frame m ρ, fun m ρ _ => Cert.GatesIdeal.Gen.frame m ρ, gates_ref_frame, fun m g _ => gates_ref_frame m g ⟨⟩,
    trivial, scan_algebraic,
    trivial, dact_algebraic,
    trivial, dw2_algebraic,
    trivial, dw1_algebraic,
    trivial, dy_algebraic,
    trivial, dout_algebraic,
    trivial, dwout_algebraic,
    trivial, ab_dwin_algebraic,
    trivial, gla_dwin_algebraic,
    trivial, ab_dy_algebraic,
    trivial, gla_dy_algebraic,
    trivial, up_algebraic,
    trivial, down_algebraic,
    trivial, last_algebraic,
    trivial, out_algebraic,
    trivial, ab_in_algebraic,
    trivial, gla_in_algebraic,
    trivial, gla_dpre_algebraic,
    trivial, gla_pre_algebraic,
    trivial, dconv_algebraic,
    trivial, conv_algebraic,
    trivial, norm_algebraic,
    trivial, gla_post_algebraic,
    trivial, gla_dpost_algebraic,
    trivial, dgates_algebraic,
    trivial, gates_algebraic⟩

end Cert.Proof

end
